-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidIdeal_finite_hid [hPre_finite_hid : Cert.Pre_finite_hid.Facts] (m : (ℓ : Loc Cert.HidIdeal.nD Cert.HidIdeal.τ Cert.HidIdeal.sig) → Buf (Elt Ideal) ℓ) : Prop :=
  ∀ c : Dev Cert.HidIdeal.nD,
    (Cert.Pre_finite_hid.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3))).1 = (fun _ => 1#1)
    ∧ (Cert.Pre_finite_hid.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3))).2.1 = (fun _ => 1#1)
    ∧ (Cert.Pre_finite_hid.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3))).2.2.1 = (fun _ => 1#1)
    ∧ (Cert.Pre_finite_hid.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3))).2.2.2 = (fun _ => 1#1)

def Pre_HidRefIdeal (m : (ℓ : Loc Cert.HidRefIdeal.nD Cert.HidRefIdeal.τ Cert.HidRefIdeal.sig) → Buf (Elt Ideal) ℓ) : Prop :=
  True

def Pre_HidRefIdeal_finite_hid [hPre_finite_hid : Cert.Pre_finite_hid.Facts] (m : (ℓ : Loc Cert.HidRefIdeal.nD Cert.HidRefIdeal.τ Cert.HidRefIdeal.sig) → Buf (Elt Ideal) ℓ) : Prop :=
  ∀ c : Dev Cert.HidRefIdeal.nD,
    (Cert.Pre_finite_hid.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))).1 = (fun _ => 1#1)
    ∧ (Cert.Pre_finite_hid.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))).2.1 = (fun _ => 1#1)
    ∧ (Cert.Pre_finite_hid.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))).2.2.1 = (fun _ => 1#1)
    ∧ (Cert.Pre_finite_hid.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))).2.2.2 = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_QkvIn (m : (ℓ : Loc Cert.QkvIn.nD Cert.QkvIn.τ Cert.QkvIn.sig) → Buf (Elt Bits) ℓ) : Prop :=
  True

def Pre_QkvInIdeal (m : (ℓ : Loc Cert.QkvInIdeal.nD Cert.QkvInIdeal.τ Cert.QkvInIdeal.sig) → Buf (Elt Ideal) ℓ) : Prop :=
  True

def Pre_QkvInRefIdeal (m : (ℓ : Loc Cert.QkvInRefIdeal.nD Cert.QkvInRefIdeal.τ Cert.QkvInRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDh (m : (ℓ : Loc Cert.QkvDh.nD Cert.QkvDh.τ Cert.QkvDh.sig) → Buf (Elt Bits) ℓ) : Prop :=
  True

def Pre_QkvDhIdeal (m : (ℓ : Loc Cert.QkvDhIdeal.nD Cert.QkvDhIdeal.τ Cert.QkvDhIdeal.sig) → Buf (Elt Ideal) ℓ) : Prop :=
  True

def Pre_QkvDhRefIdeal (m : (ℓ : Loc Cert.QkvDhRefIdeal.nD Cert.QkvDhRefIdeal.τ Cert.QkvDhRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwAttn (m : (ℓ : Loc Cert.DwAttn.nD Cert.DwAttn.τ Cert.DwAttn.sig) → Buf (Elt Bits) ℓ) : Prop :=
  True

def Pre_DwAttnIdeal (m : (ℓ : Loc Cert.DwAttnIdeal.nD Cert.DwAttnIdeal.τ Cert.DwAttnIdeal.sig) → Buf (Elt Ideal) ℓ) : Prop :=
  True

def Pre_DwAttnRefIdeal (m : (ℓ : Loc Cert.DwAttnRefIdeal.nD Cert.DwAttnRefIdeal.τ Cert.DwAttnRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamFfn1 (m : (ℓ : Loc Cert.AdamFfn1.nD Cert.AdamFfn1.τ Cert.AdamFfn1.sig) → Buf (Elt Bits) ℓ) : Prop :=
  True

def Pre_AdamFfn1Ideal (m : (ℓ : Loc Cert.AdamFfn1Ideal.nD Cert.AdamFfn1Ideal.τ Cert.AdamFfn1Ideal.sig) → Buf (Elt Ideal) ℓ) : Prop :=
  True

def Pre_AdamFfn1RefIdeal (m : (ℓ : Loc Cert.AdamFfn1RefIdeal.nD Cert.AdamFfn1RefIdeal.τ Cert.AdamFfn1RefIdeal.sig) → Buf (Elt Ideal) ℓ) : Prop :=
  True

def Pre_AdamFfn2 (m : (ℓ : Loc Cert.AdamFfn2.nD Cert.AdamFfn2.τ Cert.AdamFfn2.sig) → Buf (Elt Bits) ℓ) : Prop :=
  True

def Pre_AdamFfn2Ideal (m : (ℓ : Loc Cert.AdamFfn2Ideal.nD Cert.AdamFfn2Ideal.τ Cert.AdamFfn2Ideal.sig) → Buf (Elt Ideal) ℓ) : Prop :=
  True

def Pre_AdamFfn2RefIdeal (m : (ℓ : Loc Cert.AdamFfn2RefIdeal.nD Cert.AdamFfn2RefIdeal.τ Cert.AdamFfn2RefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSink (m : (ℓ : Loc Cert.AdamSink.nD Cert.AdamSink.τ Cert.AdamSink.sig) → Buf (Elt Bits) ℓ) : Prop :=
  True

def Pre_AdamSinkIdeal (m : (ℓ : Loc Cert.AdamSinkIdeal.nD Cert.AdamSinkIdeal.τ Cert.AdamSinkIdeal.sig) → Buf (Elt Ideal) ℓ) : Prop :=
  True

def Pre_AdamSinkRefIdeal (m : (ℓ : Loc Cert.AdamSinkRefIdeal.nD Cert.AdamSinkRefIdeal.τ Cert.AdamSinkRefIdeal.sig) → Buf (Elt Ideal) ℓ) : Prop :=
  True

def Pre_AdamSguW (m : (ℓ : Loc Cert.AdamSguW.nD Cert.AdamSguW.τ Cert.AdamSguW.sig) → Buf (Elt Bits) ℓ) : Prop :=
  True

def Pre_AdamSguWIdeal (m : (ℓ : Loc Cert.AdamSguWIdeal.nD Cert.AdamSguWIdeal.τ Cert.AdamSguWIdeal.sig) → Buf (Elt Ideal) ℓ) : Prop :=
  True

def Pre_AdamSguWRefIdeal (m : (ℓ : Loc Cert.AdamSguWRefIdeal.nD Cert.AdamSguWRefIdeal.τ Cert.AdamSguWRefIdeal.sig) → Buf (Elt Ideal) ℓ) : Prop :=
  True

def Pre_AdamSguB (m : (ℓ : Loc Cert.AdamSguB.nD Cert.AdamSguB.τ Cert.AdamSguB.sig) → Buf (Elt Bits) ℓ) : Prop :=
  True

def Pre_AdamSguBIdeal (m : (ℓ : Loc Cert.AdamSguBIdeal.nD Cert.AdamSguBIdeal.τ Cert.AdamSguBIdeal.sig) → Buf (Elt Ideal) ℓ) : Prop :=
  True

def Pre_AdamSguBRefIdeal (m : (ℓ : Loc Cert.AdamSguBRefIdeal.nD Cert.AdamSguBRefIdeal.τ Cert.AdamSguBRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2)
      ∧ r.2.mem ((c.tc : Thread Cert.Dw1.nD Cert.Dw1.τ).loc Cert.Dw1.main_arg3) = m ((c.tc : Thread Cert.Dw1.nD Cert.Dw1.τ).loc Cert.Dw1.main_arg3))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
      ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1)
      ∧ r.2.mem ((c.tc : Thread Cert.Dw1RefIdeal.nD Cert.Dw1RefIdeal.τ).loc Cert.Dw1RefIdeal.main_arg2) = m ((c.tc : Thread Cert.Dw1RefIdeal.nD Cert.Dw1RefIdeal.τ).loc Cert.Dw1RefIdeal.main_arg2)
      ∧ r.2.mem ((c.tc : Thread Cert.Dw1RefIdeal.nD Cert.Dw1RefIdeal.τ).loc Cert.Dw1RefIdeal.main_arg3) = m ((c.tc : Thread Cert.Dw1RefIdeal.nD Cert.Dw1RefIdeal.τ).loc Cert.Dw1RefIdeal.main_arg3))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1)
      ∧ r.2.mem ((c.tc : Thread Cert.Hid.nD Cert.Hid.τ).loc Cert.Hid.main_arg2) = m ((c.tc : Thread Cert.Hid.nD Cert.Hid.τ).loc Cert.Hid.main_arg2)
      ∧ r.2.mem ((c.tc : Thread Cert.Hid.nD Cert.Hid.τ).loc Cert.Hid.main_arg3) = m ((c.tc : Thread Cert.Hid.nD Cert.Hid.τ).loc Cert.Hid.main_arg3))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
      ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
      ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ r.2.sem = fun _ => 0)

def quiescent_HidIdeal_pre_finite_hid [hHidIdeal : Cert.HidIdeal.Facts] [hPre_finite_hid : Cert.Pre_finite_hid.Facts] : Prop :=
  ∀ (m : (ℓ : Loc Cert.HidIdeal.nD Cert.HidIdeal.τ Cert.HidIdeal.sig) → Buf (Elt Ideal) ℓ) (g : Dev Cert.HidIdeal.nD → PrngReg), Pre_HidIdeal_finite_hid m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
      ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
      ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3))
      ∧ r.2.sem = fun _ => 0)

def quiescent_HidRefIdeal_pre_finite_hid [hHidRefIdeal : Cert.HidRefIdeal.Facts] [hPre_finite_hid : Cert.Pre_finite_hid.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal_finite_hid m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1)
      ∧ r.2.mem ((c.tc : Thread Cert.MixDwRefIdeal.nD Cert.MixDwRefIdeal.τ).loc Cert.MixDwRefIdeal.main_arg2) = m ((c.tc : Thread Cert.MixDwRefIdeal.nD Cert.MixDwRefIdeal.τ).loc Cert.MixDwRefIdeal.main_arg2))
      ∧ r.2.sem = fun _ => 0)

def quiescent_QkvIn [hQkvIn : Cert.QkvIn.Facts] : Prop :=
  ∀ (m : (ℓ : Loc Cert.QkvIn.nD Cert.QkvIn.τ Cert.QkvIn.sig) → Buf (Elt Bits) ℓ) (g : Dev Cert.QkvIn.nD → PrngReg), Pre_QkvIn m →
    θ_run (Cert.QkvIn.defs (F := Bits)) (onTc (τ := Cert.QkvIn.τ) (Cert.QkvIn.main (F := Bits))) ⟨m, fun _ => 0, g⟩ (fun r => (∀ c : Dev Cert.QkvIn.nD,
      r.2.mem ((c.tc : Thread Cert.QkvIn.nD Cert.QkvIn.τ).loc Cert.QkvIn.main_arg0) = m ((c.tc : Thread Cert.QkvIn.nD Cert.QkvIn.τ).loc Cert.QkvIn.main_arg0)
      ∧ r.2.mem ((c.tc : Thread Cert.QkvIn.nD Cert.QkvIn.τ).loc Cert.QkvIn.main_arg1) = m ((c.tc : Thread Cert.QkvIn.nD Cert.QkvIn.τ).loc Cert.QkvIn.main_arg1)
      ∧ r.2.mem ((c.tc : Thread Cert.QkvIn.nD Cert.QkvIn.τ).loc Cert.QkvIn.main_arg2) = m ((c.tc : Thread Cert.QkvIn.nD Cert.QkvIn.τ).loc Cert.QkvIn.main_arg2))
      ∧ r.2.sem = fun _ => 0)

def quiescent_QkvInIdeal [hQkvInIdeal : Cert.QkvInIdeal.Facts] : Prop :=
  ∀ (m : (ℓ : Loc Cert.QkvInIdeal.nD Cert.QkvInIdeal.τ Cert.QkvInIdeal.sig) → Buf (Elt Ideal) ℓ) (g : Dev Cert.QkvInIdeal.nD → PrngReg), Pre_QkvInIdeal m →
    θ_run (Cert.QkvInIdeal.defs (F := Ideal)) (onTc (τ := Cert.QkvInIdeal.τ) (Cert.QkvInIdeal.main (F := Ideal))) ⟨m, fun _ => 0, g⟩ (fun r => (∀ c : Dev Cert.QkvInIdeal.nD,
      r.2.mem ((c.tc : Thread Cert.QkvInIdeal.nD Cert.QkvInIdeal.τ).loc Cert.QkvInIdeal.main_arg0) = m ((c.tc : Thread Cert.QkvInIdeal.nD Cert.QkvInIdeal.τ).loc Cert.QkvInIdeal.main_arg0)
      ∧ r.2.mem ((c.tc : Thread Cert.QkvInIdeal.nD Cert.QkvInIdeal.τ).loc Cert.QkvInIdeal.main_arg1) = m ((c.tc : Thread Cert.QkvInIdeal.nD Cert.QkvInIdeal.τ).loc Cert.QkvInIdeal.main_arg1)
      ∧ r.2.mem ((c.tc : Thread Cert.QkvInIdeal.nD Cert.QkvInIdeal.τ).loc Cert.QkvInIdeal.main_arg2) = m ((c.tc : Thread Cert.QkvInIdeal.nD Cert.QkvInIdeal.τ).loc Cert.QkvInIdeal.main_arg2))
      ∧ r.2.sem = fun _ => 0)

def quiescent_QkvInRefIdeal [hQkvInRefIdeal : Cert.QkvInRefIdeal.Facts] : Prop :=
  ∀ (m : (ℓ : Loc Cert.QkvInRefIdeal.nD Cert.QkvInRefIdeal.τ Cert.QkvInRefIdeal.sig) → Buf (Elt Ideal) ℓ) (g : Dev Cert.QkvInRefIdeal.nD → PrngReg), Pre_QkvInRefIdeal m →
    θ_run (Cert.QkvInRefIdeal.defs (F := Ideal)) (onTc (τ := Cert.QkvInRefIdeal.τ) (Cert.QkvInRefIdeal.main (F := Ideal))) ⟨m, fun _ => 0, g⟩ (fun r => (∀ c : Dev Cert.QkvInRefIdeal.nD,
      r.2.mem ((c.tc : Thread Cert.QkvInRefIdeal.nD Cert.QkvInRefIdeal.τ).loc Cert.QkvInRefIdeal.main_arg0) = m ((c.tc : Thread Cert.QkvInRefIdeal.nD Cert.QkvInRefIdeal.τ).loc Cert.QkvInRefIdeal.main_arg0)
      ∧ r.2.mem ((c.tc : Thread Cert.QkvInRefIdeal.nD Cert.QkvInRefIdeal.τ).loc Cert.QkvInRefIdeal.main_arg1) = m ((c.tc : Thread Cert.QkvInRefIdeal.nD Cert.QkvInRefIdeal.τ).loc Cert.QkvInRefIdeal.main_arg1)
      ∧ r.2.mem ((c.tc : Thread Cert.QkvInRefIdeal.nD Cert.QkvInRefIdeal.τ).loc Cert.QkvInRefIdeal.main_arg2) = m ((c.tc : Thread Cert.QkvInRefIdeal.nD Cert.QkvInRefIdeal.τ).loc Cert.QkvInRefIdeal.main_arg2))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1)
      ∧ r.2.mem ((c.tc : Thread Cert.QkvDw.nD Cert.QkvDw.τ).loc Cert.QkvDw.main_arg2) = m ((c.tc : Thread Cert.QkvDw.nD Cert.QkvDw.τ).loc Cert.QkvDw.main_arg2))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
      ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1)
      ∧ r.2.mem ((c.tc : Thread Cert.QkvDwRefIdeal.nD Cert.QkvDwRefIdeal.τ).loc Cert.QkvDwRefIdeal.main_arg2) = m ((c.tc : Thread Cert.QkvDwRefIdeal.nD Cert.QkvDwRefIdeal.τ).loc Cert.QkvDwRefIdeal.main_arg2))
      ∧ r.2.sem = fun _ => 0)

def quiescent_QkvDh [hQkvDh : Cert.QkvDh.Facts] : Prop :=
  ∀ (m : (ℓ : Loc Cert.QkvDh.nD Cert.QkvDh.τ Cert.QkvDh.sig) → Buf (Elt Bits) ℓ) (g : Dev Cert.QkvDh.nD → PrngReg), Pre_QkvDh m →
    θ_run (Cert.QkvDh.defs (F := Bits)) (onTc (τ := Cert.QkvDh.τ) (Cert.QkvDh.main (F := Bits))) ⟨m, fun _ => 0, g⟩ (fun r => (∀ c : Dev Cert.QkvDh.nD,
      r.2.mem ((c.tc : Thread Cert.QkvDh.nD Cert.QkvDh.τ).loc Cert.QkvDh.main_arg0) = m ((c.tc : Thread Cert.QkvDh.nD Cert.QkvDh.τ).loc Cert.QkvDh.main_arg0)
      ∧ r.2.mem ((c.tc : Thread Cert.QkvDh.nD Cert.QkvDh.τ).loc Cert.QkvDh.main_arg1) = m ((c.tc : Thread Cert.QkvDh.nD Cert.QkvDh.τ).loc Cert.QkvDh.main_arg1))
      ∧ r.2.sem = fun _ => 0)

def quiescent_QkvDhIdeal [hQkvDhIdeal : Cert.QkvDhIdeal.Facts] : Prop :=
  ∀ (m : (ℓ : Loc Cert.QkvDhIdeal.nD Cert.QkvDhIdeal.τ Cert.QkvDhIdeal.sig) → Buf (Elt Ideal) ℓ) (g : Dev Cert.QkvDhIdeal.nD → PrngReg), Pre_QkvDhIdeal m →
    θ_run (Cert.QkvDhIdeal.defs (F := Ideal)) (onTc (τ := Cert.QkvDhIdeal.τ) (Cert.QkvDhIdeal.main (F := Ideal))) ⟨m, fun _ => 0, g⟩ (fun r => (∀ c : Dev Cert.QkvDhIdeal.nD,
      r.2.mem ((c.tc : Thread Cert.QkvDhIdeal.nD Cert.QkvDhIdeal.τ).loc Cert.QkvDhIdeal.main_arg0) = m ((c.tc : Thread Cert.QkvDhIdeal.nD Cert.QkvDhIdeal.τ).loc Cert.QkvDhIdeal.main_arg0)
      ∧ r.2.mem ((c.tc : Thread Cert.QkvDhIdeal.nD Cert.QkvDhIdeal.τ).loc Cert.QkvDhIdeal.main_arg1) = m ((c.tc : Thread Cert.QkvDhIdeal.nD Cert.QkvDhIdeal.τ).loc Cert.QkvDhIdeal.main_arg1))
      ∧ r.2.sem = fun _ => 0)

def quiescent_QkvDhRefIdeal [hQkvDhRefIdeal : Cert.QkvDhRefIdeal.Facts] : Prop :=
  ∀ (m : (ℓ : Loc Cert.QkvDhRefIdeal.nD Cert.QkvDhRefIdeal.τ Cert.QkvDhRefIdeal.sig) → Buf (Elt Ideal) ℓ) (g : Dev Cert.QkvDhRefIdeal.nD → PrngReg), Pre_QkvDhRefIdeal m →
    θ_run (Cert.QkvDhRefIdeal.defs (F := Ideal)) (onTc (τ := Cert.QkvDhRefIdeal.τ) (Cert.QkvDhRefIdeal.main (F := Ideal))) ⟨m, fun _ => 0, g⟩ (fun r => (∀ c : Dev Cert.QkvDhRefIdeal.nD,
      r.2.mem ((c.tc : Thread Cert.QkvDhRefIdeal.nD Cert.QkvDhRefIdeal.τ).loc Cert.QkvDhRefIdeal.main_arg0) = m ((c.tc : Thread Cert.QkvDhRefIdeal.nD Cert.QkvDhRefIdeal.τ).loc Cert.QkvDhRefIdeal.main_arg0)
      ∧ r.2.mem ((c.tc : Thread Cert.QkvDhRefIdeal.nD Cert.QkvDhRefIdeal.τ).loc Cert.QkvDhRefIdeal.main_arg1) = m ((c.tc : Thread Cert.QkvDhRefIdeal.nD Cert.QkvDhRefIdeal.τ).loc Cert.QkvDhRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwAttn [hDwAttn : Cert.DwAttn.Facts] : Prop :=
  ∀ (m : (ℓ : Loc Cert.DwAttn.nD Cert.DwAttn.τ Cert.DwAttn.sig) → Buf (Elt Bits) ℓ) (g : Dev Cert.DwAttn.nD → PrngReg), Pre_DwAttn m →
    θ_run (Cert.DwAttn.defs (F := Bits)) (onTc (τ := Cert.DwAttn.τ) (Cert.DwAttn.main (F := Bits))) ⟨m, fun _ => 0, g⟩ (fun r => (∀ c : Dev Cert.DwAttn.nD,
      r.2.mem ((c.tc : Thread Cert.DwAttn.nD Cert.DwAttn.τ).loc Cert.DwAttn.main_arg0) = m ((c.tc : Thread Cert.DwAttn.nD Cert.DwAttn.τ).loc Cert.DwAttn.main_arg0)
      ∧ r.2.mem ((c.tc : Thread Cert.DwAttn.nD Cert.DwAttn.τ).loc Cert.DwAttn.main_arg1) = m ((c.tc : Thread Cert.DwAttn.nD Cert.DwAttn.τ).loc Cert.DwAttn.main_arg1)
      ∧ r.2.mem ((c.tc : Thread Cert.DwAttn.nD Cert.DwAttn.τ).loc Cert.DwAttn.main_arg2) = m ((c.tc : Thread Cert.DwAttn.nD Cert.DwAttn.τ).loc Cert.DwAttn.main_arg2))
      ∧ r.2.sem = fun _ => 0)

def quiescent_DwAttnIdeal [hDwAttnIdeal : Cert.DwAttnIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg), Pre_DwAttnIdeal m →
    θ_run (Cert.DwAttnIdeal.defs (F := Ideal)) (onTc (τ := Cert.DwAttnIdeal.τ) (Cert.DwAttnIdeal.main (F := Ideal))) ⟨m, fun _ => 0, g⟩ (fun r => (∀ c : Dev Cert.DwAttnIdeal.nD,
      r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
      ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1)
      ∧ r.2.mem ((c.tc : Thread Cert.DwAttnIdeal.nD Cert.DwAttnIdeal.τ).loc Cert.DwAttnIdeal.main_arg2) = m ((c.tc : Thread Cert.DwAttnIdeal.nD Cert.DwAttnIdeal.τ).loc Cert.DwAttnIdeal.main_arg2))
      ∧ r.2.sem = fun _ => 0)

def quiescent_DwAttnRefIdeal [hDwAttnRefIdeal : Cert.DwAttnRefIdeal.Facts] : Prop :=
  ∀ (m : (ℓ : Loc Cert.DwAttnRefIdeal.nD Cert.DwAttnRefIdeal.τ Cert.DwAttnRefIdeal.sig) → Buf (Elt Ideal) ℓ) (g : Dev Cert.DwAttnRefIdeal.nD → PrngReg), Pre_DwAttnRefIdeal m →
    θ_run (Cert.DwAttnRefIdeal.defs (F := Ideal)) (onTc (τ := Cert.DwAttnRefIdeal.τ) (Cert.DwAttnRefIdeal.main (F := Ideal))) ⟨m, fun _ => 0, g⟩ (fun r => (∀ c : Dev Cert.DwAttnRefIdeal.nD,
      r.2.mem ((c.tc : Thread Cert.DwAttnRefIdeal.nD Cert.DwAttnRefIdeal.τ).loc Cert.DwAttnRefIdeal.main_arg0) = m ((c.tc : Thread Cert.DwAttnRefIdeal.nD Cert.DwAttnRefIdeal.τ).loc Cert.DwAttnRefIdeal.main_arg0)
      ∧ r.2.mem ((c.tc : Thread Cert.DwAttnRefIdeal.nD Cert.DwAttnRefIdeal.τ).loc Cert.DwAttnRefIdeal.main_arg1) = m ((c.tc : Thread Cert.DwAttnRefIdeal.nD Cert.DwAttnRefIdeal.τ).loc Cert.DwAttnRefIdeal.main_arg1)
      ∧ r.2.mem ((c.tc : Thread Cert.DwAttnRefIdeal.nD Cert.DwAttnRefIdeal.τ).loc Cert.DwAttnRefIdeal.main_arg2) = m ((c.tc : Thread Cert.DwAttnRefIdeal.nD Cert.DwAttnRefIdeal.τ).loc Cert.DwAttnRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7)
      ∧ r.2.mem ((c.tc : Thread Cert.MergeBwd.nD Cert.MergeBwd.τ).loc Cert.MergeBwd.main_arg8) = m ((c.tc : Thread Cert.MergeBwd.nD Cert.MergeBwd.τ).loc Cert.MergeBwd.main_arg8))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7)
      ∧ r.2.mem ((c.tc : Thread Cert.MergeBwdRefIdeal.nD Cert.MergeBwdRefIdeal.τ).loc Cert.MergeBwdRefIdeal.main_arg8) = m ((c.tc : Thread Cert.MergeBwdRefIdeal.nD Cert.MergeBwdRefIdeal.τ).loc Cert.MergeBwdRefIdeal.main_arg8))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamFfn1 [hAdamFfn1 : Cert.AdamFfn1.Facts] : Prop :=
  ∀ (m : (ℓ : Loc Cert.AdamFfn1.nD Cert.AdamFfn1.τ Cert.AdamFfn1.sig) → Buf (Elt Bits) ℓ) (g : Dev Cert.AdamFfn1.nD → PrngReg), Pre_AdamFfn1 m →
    θ_run (Cert.AdamFfn1.defs (F := Bits)) (onTc (τ := Cert.AdamFfn1.τ) (Cert.AdamFfn1.main (F := Bits))) ⟨m, fun _ => 0, g⟩ (fun r => (∀ c : Dev Cert.AdamFfn1.nD,
      r.2.mem ((c.tc : Thread Cert.AdamFfn1.nD Cert.AdamFfn1.τ).loc Cert.AdamFfn1.main_arg0) = m ((c.tc : Thread Cert.AdamFfn1.nD Cert.AdamFfn1.τ).loc Cert.AdamFfn1.main_arg0)
      ∧ r.2.mem ((c.tc : Thread Cert.AdamFfn1.nD Cert.AdamFfn1.τ).loc Cert.AdamFfn1.main_arg1) = m ((c.tc : Thread Cert.AdamFfn1.nD Cert.AdamFfn1.τ).loc Cert.AdamFfn1.main_arg1)
      ∧ r.2.mem ((c.tc : Thread Cert.AdamFfn1.nD Cert.AdamFfn1.τ).loc Cert.AdamFfn1.main_arg2) = m ((c.tc : Thread Cert.AdamFfn1.nD Cert.AdamFfn1.τ).loc Cert.AdamFfn1.main_arg2)
      ∧ r.2.mem ((c.tc : Thread Cert.AdamFfn1.nD Cert.AdamFfn1.τ).loc Cert.AdamFfn1.main_arg3) = m ((c.tc : Thread Cert.AdamFfn1.nD Cert.AdamFfn1.τ).loc Cert.AdamFfn1.main_arg3))
      ∧ r.2.sem = fun _ => 0)

def quiescent_AdamFfn1Ideal [hAdamFfn1Ideal : Cert.AdamFfn1Ideal.Facts] : Prop :=
  ∀ (m : (ℓ : Loc Cert.AdamFfn1Ideal.nD Cert.AdamFfn1Ideal.τ Cert.AdamFfn1Ideal.sig) → Buf (Elt Ideal) ℓ) (g : Dev Cert.AdamFfn1Ideal.nD → PrngReg), Pre_AdamFfn1Ideal m →
    θ_run (Cert.AdamFfn1Ideal.defs (F := Ideal)) (onTc (τ := Cert.AdamFfn1Ideal.τ) (Cert.AdamFfn1Ideal.main (F := Ideal))) ⟨m, fun _ => 0, g⟩ (fun r => (∀ c : Dev Cert.AdamFfn1Ideal.nD,
      r.2.mem ((c.tc : Thread Cert.AdamFfn1Ideal.nD Cert.AdamFfn1Ideal.τ).loc Cert.AdamFfn1Ideal.main_arg0) = m ((c.tc : Thread Cert.AdamFfn1Ideal.nD Cert.AdamFfn1Ideal.τ).loc Cert.AdamFfn1Ideal.main_arg0)
      ∧ r.2.mem ((c.tc : Thread Cert.AdamFfn1Ideal.nD Cert.AdamFfn1Ideal.τ).loc Cert.AdamFfn1Ideal.main_arg1) = m ((c.tc : Thread Cert.AdamFfn1Ideal.nD Cert.AdamFfn1Ideal.τ).loc Cert.AdamFfn1Ideal.main_arg1)
      ∧ r.2.mem ((c.tc : Thread Cert.AdamFfn1Ideal.nD Cert.AdamFfn1Ideal.τ).loc Cert.AdamFfn1Ideal.main_arg2) = m ((c.tc : Thread Cert.AdamFfn1Ideal.nD Cert.AdamFfn1Ideal.τ).loc Cert.AdamFfn1Ideal.main_arg2)
      ∧ r.2.mem ((c.tc : Thread Cert.AdamFfn1Ideal.nD Cert.AdamFfn1Ideal.τ).loc Cert.AdamFfn1Ideal.main_arg3) = m ((c.tc : Thread Cert.AdamFfn1Ideal.nD Cert.AdamFfn1Ideal.τ).loc Cert.AdamFfn1Ideal.main_arg3))
      ∧ r.2.sem = fun _ => 0)

def quiescent_AdamFfn1RefIdeal [hAdamFfn1RefIdeal : Cert.AdamFfn1RefIdeal.Facts] : Prop :=
  ∀ (m : (ℓ : Loc Cert.AdamFfn1RefIdeal.nD Cert.AdamFfn1RefIdeal.τ Cert.AdamFfn1RefIdeal.sig) → Buf (Elt Ideal) ℓ) (g : Dev Cert.AdamFfn1RefIdeal.nD → PrngReg), Pre_AdamFfn1RefIdeal m →
    θ_run (Cert.AdamFfn1RefIdeal.defs (F := Ideal)) (onTc (τ := Cert.AdamFfn1RefIdeal.τ) (Cert.AdamFfn1RefIdeal.main (F := Ideal))) ⟨m, fun _ => 0, g⟩ (fun r => (∀ c : Dev Cert.AdamFfn1RefIdeal.nD,
      r.2.mem ((c.tc : Thread Cert.AdamFfn1RefIdeal.nD Cert.AdamFfn1RefIdeal.τ).loc Cert.AdamFfn1RefIdeal.main_arg0) = m ((c.tc : Thread Cert.AdamFfn1RefIdeal.nD Cert.AdamFfn1RefIdeal.τ).loc Cert.AdamFfn1RefIdeal.main_arg0)
      ∧ r.2.mem ((c.tc : Thread Cert.AdamFfn1RefIdeal.nD Cert.AdamFfn1RefIdeal.τ).loc Cert.AdamFfn1RefIdeal.main_arg1) = m ((c.tc : Thread Cert.AdamFfn1RefIdeal.nD Cert.AdamFfn1RefIdeal.τ).loc Cert.AdamFfn1RefIdeal.main_arg1)
      ∧ r.2.mem ((c.tc : Thread Cert.AdamFfn1RefIdeal.nD Cert.AdamFfn1RefIdeal.τ).loc Cert.AdamFfn1RefIdeal.main_arg2) = m ((c.tc : Thread Cert.AdamFfn1RefIdeal.nD Cert.AdamFfn1RefIdeal.τ).loc Cert.AdamFfn1RefIdeal.main_arg2)
      ∧ r.2.mem ((c.tc : Thread Cert.AdamFfn1RefIdeal.nD Cert.AdamFfn1RefIdeal.τ).loc Cert.AdamFfn1RefIdeal.main_arg3) = m ((c.tc : Thread Cert.AdamFfn1RefIdeal.nD Cert.AdamFfn1RefIdeal.τ).loc Cert.AdamFfn1RefIdeal.main_arg3))
      ∧ r.2.sem = fun _ => 0)

def quiescent_AdamFfn2 [hAdamFfn2 : Cert.AdamFfn2.Facts] : Prop :=
  ∀ (m : (ℓ : Loc Cert.AdamFfn2.nD Cert.AdamFfn2.τ Cert.AdamFfn2.sig) → Buf (Elt Bits) ℓ) (g : Dev Cert.AdamFfn2.nD → PrngReg), Pre_AdamFfn2 m →
    θ_run (Cert.AdamFfn2.defs (F := Bits)) (onTc (τ := Cert.AdamFfn2.τ) (Cert.AdamFfn2.main (F := Bits))) ⟨m, fun _ => 0, g⟩ (fun r => (∀ c : Dev Cert.AdamFfn2.nD,
      r.2.mem ((c.tc : Thread Cert.AdamFfn2.nD Cert.AdamFfn2.τ).loc Cert.AdamFfn2.main_arg0) = m ((c.tc : Thread Cert.AdamFfn2.nD Cert.AdamFfn2.τ).loc Cert.AdamFfn2.main_arg0)
      ∧ r.2.mem ((c.tc : Thread Cert.AdamFfn2.nD Cert.AdamFfn2.τ).loc Cert.AdamFfn2.main_arg1) = m ((c.tc : Thread Cert.AdamFfn2.nD Cert.AdamFfn2.τ).loc Cert.AdamFfn2.main_arg1)
      ∧ r.2.mem ((c.tc : Thread Cert.AdamFfn2.nD Cert.AdamFfn2.τ).loc Cert.AdamFfn2.main_arg2) = m ((c.tc : Thread Cert.AdamFfn2.nD Cert.AdamFfn2.τ).loc Cert.AdamFfn2.main_arg2)
      ∧ r.2.mem ((c.tc : Thread Cert.AdamFfn2.nD Cert.AdamFfn2.τ).loc Cert.AdamFfn2.main_arg3) = m ((c.tc : Thread Cert.AdamFfn2.nD Cert.AdamFfn2.τ).loc Cert.AdamFfn2.main_arg3))
      ∧ r.2.sem = fun _ => 0)

def quiescent_AdamFfn2Ideal [hAdamFfn2Ideal : Cert.AdamFfn2Ideal.Facts] : Prop :=
  ∀ (m : (ℓ : Loc Cert.AdamFfn2Ideal.nD Cert.AdamFfn2Ideal.τ Cert.AdamFfn2Ideal.sig) → Buf (Elt Ideal) ℓ) (g : Dev Cert.AdamFfn2Ideal.nD → PrngReg), Pre_AdamFfn2Ideal m →
    θ_run (Cert.AdamFfn2Ideal.defs (F := Ideal)) (onTc (τ := Cert.AdamFfn2Ideal.τ) (Cert.AdamFfn2Ideal.main (F := Ideal))) ⟨m, fun _ => 0, g⟩ (fun r => (∀ c : Dev Cert.AdamFfn2Ideal.nD,
      r.2.mem ((c.tc : Thread Cert.AdamFfn2Ideal.nD Cert.AdamFfn2Ideal.τ).loc Cert.AdamFfn2Ideal.main_arg0) = m ((c.tc : Thread Cert.AdamFfn2Ideal.nD Cert.AdamFfn2Ideal.τ).loc Cert.AdamFfn2Ideal.main_arg0)
      ∧ r.2.mem ((c.tc : Thread Cert.AdamFfn2Ideal.nD Cert.AdamFfn2Ideal.τ).loc Cert.AdamFfn2Ideal.main_arg1) = m ((c.tc : Thread Cert.AdamFfn2Ideal.nD Cert.AdamFfn2Ideal.τ).loc Cert.AdamFfn2Ideal.main_arg1)
      ∧ r.2.mem ((c.tc : Thread Cert.AdamFfn2Ideal.nD Cert.AdamFfn2Ideal.τ).loc Cert.AdamFfn2Ideal.main_arg2) = m ((c.tc : Thread Cert.AdamFfn2Ideal.nD Cert.AdamFfn2Ideal.τ).loc Cert.AdamFfn2Ideal.main_arg2)
      ∧ r.2.mem ((c.tc : Thread Cert.AdamFfn2Ideal.nD Cert.AdamFfn2Ideal.τ).loc Cert.AdamFfn2Ideal.main_arg3) = m ((c.tc : Thread Cert.AdamFfn2Ideal.nD Cert.AdamFfn2Ideal.τ).loc Cert.AdamFfn2Ideal.main_arg3))
      ∧ r.2.sem = fun _ => 0)

def quiescent_AdamFfn2RefIdeal [hAdamFfn2RefIdeal : Cert.AdamFfn2RefIdeal.Facts] : Prop :=
  ∀ (m : (ℓ : Loc Cert.AdamFfn2RefIdeal.nD Cert.AdamFfn2RefIdeal.τ Cert.AdamFfn2RefIdeal.sig) → Buf (Elt Ideal) ℓ) (g : Dev Cert.AdamFfn2RefIdeal.nD → PrngReg), Pre_AdamFfn2RefIdeal m →
    θ_run (Cert.AdamFfn2RefIdeal.defs (F := Ideal)) (onTc (τ := Cert.AdamFfn2RefIdeal.τ) (Cert.AdamFfn2RefIdeal.main (F := Ideal))) ⟨m, fun _ => 0, g⟩ (fun r => (∀ c : Dev Cert.AdamFfn2RefIdeal.nD,
      r.2.mem ((c.tc : Thread Cert.AdamFfn2RefIdeal.nD Cert.AdamFfn2RefIdeal.τ).loc Cert.AdamFfn2RefIdeal.main_arg0) = m ((c.tc : Thread Cert.AdamFfn2RefIdeal.nD Cert.AdamFfn2RefIdeal.τ).loc Cert.AdamFfn2RefIdeal.main_arg0)
      ∧ r.2.mem ((c.tc : Thread Cert.AdamFfn2RefIdeal.nD Cert.AdamFfn2RefIdeal.τ).loc Cert.AdamFfn2RefIdeal.main_arg1) = m ((c.tc : Thread Cert.AdamFfn2RefIdeal.nD Cert.AdamFfn2RefIdeal.τ).loc Cert.AdamFfn2RefIdeal.main_arg1)
      ∧ r.2.mem ((c.tc : Thread Cert.AdamFfn2RefIdeal.nD Cert.AdamFfn2RefIdeal.τ).loc Cert.AdamFfn2RefIdeal.main_arg2) = m ((c.tc : Thread Cert.AdamFfn2RefIdeal.nD Cert.AdamFfn2RefIdeal.τ).loc Cert.AdamFfn2RefIdeal.main_arg2)
      ∧ r.2.mem ((c.tc : Thread Cert.AdamFfn2RefIdeal.nD Cert.AdamFfn2RefIdeal.τ).loc Cert.AdamFfn2RefIdeal.main_arg3) = m ((c.tc : Thread Cert.AdamFfn2RefIdeal.nD Cert.AdamFfn2RefIdeal.τ).loc Cert.AdamFfn2RefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSink [hAdamSink : Cert.AdamSink.Facts] : Prop :=
  ∀ (m : (ℓ : Loc Cert.AdamSink.nD Cert.AdamSink.τ Cert.AdamSink.sig) → Buf (Elt Bits) ℓ) (g : Dev Cert.AdamSink.nD → PrngReg), Pre_AdamSink m →
    θ_run (Cert.AdamSink.defs (F := Bits)) (onTc (τ := Cert.AdamSink.τ) (Cert.AdamSink.main (F := Bits))) ⟨m, fun _ => 0, g⟩ (fun r => (∀ c : Dev Cert.AdamSink.nD,
      r.2.mem ((c.tc : Thread Cert.AdamSink.nD Cert.AdamSink.τ).loc Cert.AdamSink.main_arg0) = m ((c.tc : Thread Cert.AdamSink.nD Cert.AdamSink.τ).loc Cert.AdamSink.main_arg0)
      ∧ r.2.mem ((c.tc : Thread Cert.AdamSink.nD Cert.AdamSink.τ).loc Cert.AdamSink.main_arg1) = m ((c.tc : Thread Cert.AdamSink.nD Cert.AdamSink.τ).loc Cert.AdamSink.main_arg1)
      ∧ r.2.mem ((c.tc : Thread Cert.AdamSink.nD Cert.AdamSink.τ).loc Cert.AdamSink.main_arg2) = m ((c.tc : Thread Cert.AdamSink.nD Cert.AdamSink.τ).loc Cert.AdamSink.main_arg2)
      ∧ r.2.mem ((c.tc : Thread Cert.AdamSink.nD Cert.AdamSink.τ).loc Cert.AdamSink.main_arg3) = m ((c.tc : Thread Cert.AdamSink.nD Cert.AdamSink.τ).loc Cert.AdamSink.main_arg3))
      ∧ r.2.sem = fun _ => 0)

def quiescent_AdamSinkIdeal [hAdamSinkIdeal : Cert.AdamSinkIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg), Pre_AdamSinkIdeal m →
    θ_run (Cert.AdamSinkIdeal.defs (F := Ideal)) (onTc (τ := Cert.AdamSinkIdeal.τ) (Cert.AdamSinkIdeal.main (F := Ideal))) ⟨m, fun _ => 0, g⟩ (fun r => (∀ c : Dev Cert.AdamSinkIdeal.nD,
      r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
      ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
      ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
      ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ r.2.sem = fun _ => 0)

def quiescent_AdamSinkRefIdeal [hAdamSinkRefIdeal : Cert.AdamSinkRefIdeal.Facts] : Prop :=
  ∀ (m : (ℓ : Loc Cert.AdamSinkRefIdeal.nD Cert.AdamSinkRefIdeal.τ Cert.AdamSinkRefIdeal.sig) → Buf (Elt Ideal) ℓ) (g : Dev Cert.AdamSinkRefIdeal.nD → PrngReg), Pre_AdamSinkRefIdeal m →
    θ_run (Cert.AdamSinkRefIdeal.defs (F := Ideal)) (onTc (τ := Cert.AdamSinkRefIdeal.τ) (Cert.AdamSinkRefIdeal.main (F := Ideal))) ⟨m, fun _ => 0, g⟩ (fun r => (∀ c : Dev Cert.AdamSinkRefIdeal.nD,
      r.2.mem ((c.tc : Thread Cert.AdamSinkRefIdeal.nD Cert.AdamSinkRefIdeal.τ).loc Cert.AdamSinkRefIdeal.main_arg0) = m ((c.tc : Thread Cert.AdamSinkRefIdeal.nD Cert.AdamSinkRefIdeal.τ).loc Cert.AdamSinkRefIdeal.main_arg0)
      ∧ r.2.mem ((c.tc : Thread Cert.AdamSinkRefIdeal.nD Cert.AdamSinkRefIdeal.τ).loc Cert.AdamSinkRefIdeal.main_arg1) = m ((c.tc : Thread Cert.AdamSinkRefIdeal.nD Cert.AdamSinkRefIdeal.τ).loc Cert.AdamSinkRefIdeal.main_arg1)
      ∧ r.2.mem ((c.tc : Thread Cert.AdamSinkRefIdeal.nD Cert.AdamSinkRefIdeal.τ).loc Cert.AdamSinkRefIdeal.main_arg2) = m ((c.tc : Thread Cert.AdamSinkRefIdeal.nD Cert.AdamSinkRefIdeal.τ).loc Cert.AdamSinkRefIdeal.main_arg2)
      ∧ r.2.mem ((c.tc : Thread Cert.AdamSinkRefIdeal.nD Cert.AdamSinkRefIdeal.τ).loc Cert.AdamSinkRefIdeal.main_arg3) = m ((c.tc : Thread Cert.AdamSinkRefIdeal.nD Cert.AdamSinkRefIdeal.τ).loc Cert.AdamSinkRefIdeal.main_arg3))
      ∧ r.2.sem = fun _ => 0)

def quiescent_AdamSguW [hAdamSguW : Cert.AdamSguW.Facts] : Prop :=
  ∀ (m : (ℓ : Loc Cert.AdamSguW.nD Cert.AdamSguW.τ Cert.AdamSguW.sig) → Buf (Elt Bits) ℓ) (g : Dev Cert.AdamSguW.nD → PrngReg), Pre_AdamSguW m →
    θ_run (Cert.AdamSguW.defs (F := Bits)) (onTc (τ := Cert.AdamSguW.τ) (Cert.AdamSguW.main (F := Bits))) ⟨m, fun _ => 0, g⟩ (fun r => (∀ c : Dev Cert.AdamSguW.nD,
      r.2.mem ((c.tc : Thread Cert.AdamSguW.nD Cert.AdamSguW.τ).loc Cert.AdamSguW.main_arg0) = m ((c.tc : Thread Cert.AdamSguW.nD Cert.AdamSguW.τ).loc Cert.AdamSguW.main_arg0)
      ∧ r.2.mem ((c.tc : Thread Cert.AdamSguW.nD Cert.AdamSguW.τ).loc Cert.AdamSguW.main_arg1) = m ((c.tc : Thread Cert.AdamSguW.nD Cert.AdamSguW.τ).loc Cert.AdamSguW.main_arg1)
      ∧ r.2.mem ((c.tc : Thread Cert.AdamSguW.nD Cert.AdamSguW.τ).loc Cert.AdamSguW.main_arg2) = m ((c.tc : Thread Cert.AdamSguW.nD Cert.AdamSguW.τ).loc Cert.AdamSguW.main_arg2)
      ∧ r.2.mem ((c.tc : Thread Cert.AdamSguW.nD Cert.AdamSguW.τ).loc Cert.AdamSguW.main_arg3) = m ((c.tc : Thread Cert.AdamSguW.nD Cert.AdamSguW.τ).loc Cert.AdamSguW.main_arg3))
      ∧ r.2.sem = fun _ => 0)

def quiescent_AdamSguWIdeal [hAdamSguWIdeal : Cert.AdamSguWIdeal.Facts] : Prop :=
  ∀ (m : (ℓ : Loc Cert.AdamSguWIdeal.nD Cert.AdamSguWIdeal.τ Cert.AdamSguWIdeal.sig) → Buf (Elt Ideal) ℓ) (g : Dev Cert.AdamSguWIdeal.nD → PrngReg), Pre_AdamSguWIdeal m →
    θ_run (Cert.AdamSguWIdeal.defs (F := Ideal)) (onTc (τ := Cert.AdamSguWIdeal.τ) (Cert.AdamSguWIdeal.main (F := Ideal))) ⟨m, fun _ => 0, g⟩ (fun r => (∀ c : Dev Cert.AdamSguWIdeal.nD,
      r.2.mem ((c.tc : Thread Cert.AdamSguWIdeal.nD Cert.AdamSguWIdeal.τ).loc Cert.AdamSguWIdeal.main_arg0) = m ((c.tc : Thread Cert.AdamSguWIdeal.nD Cert.AdamSguWIdeal.τ).loc Cert.AdamSguWIdeal.main_arg0)
      ∧ r.2.mem ((c.tc : Thread Cert.AdamSguWIdeal.nD Cert.AdamSguWIdeal.τ).loc Cert.AdamSguWIdeal.main_arg1) = m ((c.tc : Thread Cert.AdamSguWIdeal.nD Cert.AdamSguWIdeal.τ).loc Cert.AdamSguWIdeal.main_arg1)
      ∧ r.2.mem ((c.tc : Thread Cert.AdamSguWIdeal.nD Cert.AdamSguWIdeal.τ).loc Cert.AdamSguWIdeal.main_arg2) = m ((c.tc : Thread Cert.AdamSguWIdeal.nD Cert.AdamSguWIdeal.τ).loc Cert.AdamSguWIdeal.main_arg2)
      ∧ r.2.mem ((c.tc : Thread Cert.AdamSguWIdeal.nD Cert.AdamSguWIdeal.τ).loc Cert.AdamSguWIdeal.main_arg3) = m ((c.tc : Thread Cert.AdamSguWIdeal.nD Cert.AdamSguWIdeal.τ).loc Cert.AdamSguWIdeal.main_arg3))
      ∧ r.2.sem = fun _ => 0)

def quiescent_AdamSguWRefIdeal [hAdamSguWRefIdeal : Cert.AdamSguWRefIdeal.Facts] : Prop :=
  ∀ (m : (ℓ : Loc Cert.AdamSguWRefIdeal.nD Cert.AdamSguWRefIdeal.τ Cert.AdamSguWRefIdeal.sig) → Buf (Elt Ideal) ℓ) (g : Dev Cert.AdamSguWRefIdeal.nD → PrngReg), Pre_AdamSguWRefIdeal m →
    θ_run (Cert.AdamSguWRefIdeal.defs (F := Ideal)) (onTc (τ := Cert.AdamSguWRefIdeal.τ) (Cert.AdamSguWRefIdeal.main (F := Ideal))) ⟨m, fun _ => 0, g⟩ (fun r => (∀ c : Dev Cert.AdamSguWRefIdeal.nD,
      r.2.mem ((c.tc : Thread Cert.AdamSguWRefIdeal.nD Cert.AdamSguWRefIdeal.τ).loc Cert.AdamSguWRefIdeal.main_arg0) = m ((c.tc : Thread Cert.AdamSguWRefIdeal.nD Cert.AdamSguWRefIdeal.τ).loc Cert.AdamSguWRefIdeal.main_arg0)
      ∧ r.2.mem ((c.tc : Thread Cert.AdamSguWRefIdeal.nD Cert.AdamSguWRefIdeal.τ).loc Cert.AdamSguWRefIdeal.main_arg1) = m ((c.tc : Thread Cert.AdamSguWRefIdeal.nD Cert.AdamSguWRefIdeal.τ).loc Cert.AdamSguWRefIdeal.main_arg1)
      ∧ r.2.mem ((c.tc : Thread Cert.AdamSguWRefIdeal.nD Cert.AdamSguWRefIdeal.τ).loc Cert.AdamSguWRefIdeal.main_arg2) = m ((c.tc : Thread Cert.AdamSguWRefIdeal.nD Cert.AdamSguWRefIdeal.τ).loc Cert.AdamSguWRefIdeal.main_arg2)
      ∧ r.2.mem ((c.tc : Thread Cert.AdamSguWRefIdeal.nD Cert.AdamSguWRefIdeal.τ).loc Cert.AdamSguWRefIdeal.main_arg3) = m ((c.tc : Thread Cert.AdamSguWRefIdeal.nD Cert.AdamSguWRefIdeal.τ).loc Cert.AdamSguWRefIdeal.main_arg3))
      ∧ r.2.sem = fun _ => 0)

def quiescent_AdamSguB [hAdamSguB : Cert.AdamSguB.Facts] : Prop :=
  ∀ (m : (ℓ : Loc Cert.AdamSguB.nD Cert.AdamSguB.τ Cert.AdamSguB.sig) → Buf (Elt Bits) ℓ) (g : Dev Cert.AdamSguB.nD → PrngReg), Pre_AdamSguB m →
    θ_run (Cert.AdamSguB.defs (F := Bits)) (onTc (τ := Cert.AdamSguB.τ) (Cert.AdamSguB.main (F := Bits))) ⟨m, fun _ => 0, g⟩ (fun r => (∀ c : Dev Cert.AdamSguB.nD,
      r.2.mem ((c.tc : Thread Cert.AdamSguB.nD Cert.AdamSguB.τ).loc Cert.AdamSguB.main_arg0) = m ((c.tc : Thread Cert.AdamSguB.nD Cert.AdamSguB.τ).loc Cert.AdamSguB.main_arg0)
      ∧ r.2.mem ((c.tc : Thread Cert.AdamSguB.nD Cert.AdamSguB.τ).loc Cert.AdamSguB.main_arg1) = m ((c.tc : Thread Cert.AdamSguB.nD Cert.AdamSguB.τ).loc Cert.AdamSguB.main_arg1)
      ∧ r.2.mem ((c.tc : Thread Cert.AdamSguB.nD Cert.AdamSguB.τ).loc Cert.AdamSguB.main_arg2) = m ((c.tc : Thread Cert.AdamSguB.nD Cert.AdamSguB.τ).loc Cert.AdamSguB.main_arg2)
      ∧ r.2.mem ((c.tc : Thread Cert.AdamSguB.nD Cert.AdamSguB.τ).loc Cert.AdamSguB.main_arg3) = m ((c.tc : Thread Cert.AdamSguB.nD Cert.AdamSguB.τ).loc Cert.AdamSguB.main_arg3))
      ∧ r.2.sem = fun _ => 0)

def quiescent_AdamSguBIdeal [hAdamSguBIdeal : Cert.AdamSguBIdeal.Facts] : Prop :=
  ∀ (m : (ℓ : Loc Cert.AdamSguBIdeal.nD Cert.AdamSguBIdeal.τ Cert.AdamSguBIdeal.sig) → Buf (Elt Ideal) ℓ) (g : Dev Cert.AdamSguBIdeal.nD → PrngReg), Pre_AdamSguBIdeal m →
    θ_run (Cert.AdamSguBIdeal.defs (F := Ideal)) (onTc (τ := Cert.AdamSguBIdeal.τ) (Cert.AdamSguBIdeal.main (F := Ideal))) ⟨m, fun _ => 0, g⟩ (fun r => (∀ c : Dev Cert.AdamSguBIdeal.nD,
      r.2.mem ((c.tc : Thread Cert.AdamSguBIdeal.nD Cert.AdamSguBIdeal.τ).loc Cert.AdamSguBIdeal.main_arg0) = m ((c.tc : Thread Cert.AdamSguBIdeal.nD Cert.AdamSguBIdeal.τ).loc Cert.AdamSguBIdeal.main_arg0)
      ∧ r.2.mem ((c.tc : Thread Cert.AdamSguBIdeal.nD Cert.AdamSguBIdeal.τ).loc Cert.AdamSguBIdeal.main_arg1) = m ((c.tc : Thread Cert.AdamSguBIdeal.nD Cert.AdamSguBIdeal.τ).loc Cert.AdamSguBIdeal.main_arg1)
      ∧ r.2.mem ((c.tc : Thread Cert.AdamSguBIdeal.nD Cert.AdamSguBIdeal.τ).loc Cert.AdamSguBIdeal.main_arg2) = m ((c.tc : Thread Cert.AdamSguBIdeal.nD Cert.AdamSguBIdeal.τ).loc Cert.AdamSguBIdeal.main_arg2)
      ∧ r.2.mem ((c.tc : Thread Cert.AdamSguBIdeal.nD Cert.AdamSguBIdeal.τ).loc Cert.AdamSguBIdeal.main_arg3) = m ((c.tc : Thread Cert.AdamSguBIdeal.nD Cert.AdamSguBIdeal.τ).loc Cert.AdamSguBIdeal.main_arg3))
      ∧ r.2.sem = fun _ => 0)

def quiescent_AdamSguBRefIdeal [hAdamSguBRefIdeal : Cert.AdamSguBRefIdeal.Facts] : Prop :=
  ∀ (m : (ℓ : Loc Cert.AdamSguBRefIdeal.nD Cert.AdamSguBRefIdeal.τ Cert.AdamSguBRefIdeal.sig) → Buf (Elt Ideal) ℓ) (g : Dev Cert.AdamSguBRefIdeal.nD → PrngReg), Pre_AdamSguBRefIdeal m →
    θ_run (Cert.AdamSguBRefIdeal.defs (F := Ideal)) (onTc (τ := Cert.AdamSguBRefIdeal.τ) (Cert.AdamSguBRefIdeal.main (F := Ideal))) ⟨m, fun _ => 0, g⟩ (fun r => (∀ c : Dev Cert.AdamSguBRefIdeal.nD,
      r.2.mem ((c.tc : Thread Cert.AdamSguBRefIdeal.nD Cert.AdamSguBRefIdeal.τ).loc Cert.AdamSguBRefIdeal.main_arg0) = m ((c.tc : Thread Cert.AdamSguBRefIdeal.nD Cert.AdamSguBRefIdeal.τ).loc Cert.AdamSguBRefIdeal.main_arg0)
      ∧ r.2.mem ((c.tc : Thread Cert.AdamSguBRefIdeal.nD Cert.AdamSguBRefIdeal.τ).loc Cert.AdamSguBRefIdeal.main_arg1) = m ((c.tc : Thread Cert.AdamSguBRefIdeal.nD Cert.AdamSguBRefIdeal.τ).loc Cert.AdamSguBRefIdeal.main_arg1)
      ∧ r.2.mem ((c.tc : Thread Cert.AdamSguBRefIdeal.nD Cert.AdamSguBRefIdeal.τ).loc Cert.AdamSguBRefIdeal.main_arg2) = m ((c.tc : Thread Cert.AdamSguBRefIdeal.nD Cert.AdamSguBRefIdeal.τ).loc Cert.AdamSguBRefIdeal.main_arg2)
      ∧ r.2.mem ((c.tc : Thread Cert.AdamSguBRefIdeal.nD Cert.AdamSguBRefIdeal.τ).loc Cert.AdamSguBRefIdeal.main_arg3) = m ((c.tc : Thread Cert.AdamSguBRefIdeal.nD Cert.AdamSguBRefIdeal.τ).loc Cert.AdamSguBRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)
  ∧ IdealRules.named_const.Statement Cert.KernelIdeal.κ "rsqrt2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)
      ∧ m' ((c.tc : Thread Cert.Dw1RefIdeal.nD Cert.Dw1RefIdeal.τ).loc Cert.Dw1RefIdeal.main_arg2) = m ((c.tc : Thread Cert.Dw1Ideal.nD Cert.Dw1Ideal.τ).loc Cert.Dw1Ideal.main_arg2)
      ∧ m' ((c.tc : Thread Cert.Dw1RefIdeal.nD Cert.Dw1RefIdeal.τ).loc Cert.Dw1RefIdeal.main_arg3) = m ((c.tc : Thread Cert.Dw1Ideal.nD Cert.Dw1Ideal.τ).loc Cert.Dw1Ideal.main_arg3)) →
    ∃ (v0 : (c : Dev Cert.Dw1Ideal.nD) → Buf (Elt Ideal) ((c.tc : Thread Cert.Dw1Ideal.nD Cert.Dw1Ideal.τ).loc Cert.Dw1Ideal.main_v15)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v15) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
          ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v21) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2)
          ∧ r.2.mem ((c.tc : Thread Cert.Dw1RefIdeal.nD Cert.Dw1RefIdeal.τ).loc Cert.Dw1RefIdeal.main_arg3) = m' ((c.tc : Thread Cert.Dw1RefIdeal.nD Cert.Dw1RefIdeal.τ).loc Cert.Dw1RefIdeal.main_arg3))

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v3_0)) (v1 : (c : Dev Cert.BwdInIdeal.nD) → Buf (Elt Ideal) ((c.tc : Thread Cert.BwdInIdeal.nD Cert.BwdInIdeal.τ).loc Cert.BwdInIdeal.main_v3_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v3_0) = v0 c
          ∧ r.2.mem ((c.tc : Thread Cert.BwdInIdeal.nD Cert.BwdInIdeal.τ).loc Cert.BwdInIdeal.main_v3_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v40) = v0 c
          ∧ r.2.mem ((c.tc : Thread Cert.BwdInRefIdeal.nD Cert.BwdInRefIdeal.τ).loc Cert.BwdInRefIdeal.main_v41) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v15) = v0 c
          ∧ r.2.mem ((c.tc : Thread Cert.UpRefIdeal.nD Cert.UpRefIdeal.τ).loc Cert.UpRefIdeal.main_v16) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v22) = v0 c
          ∧ r.2.mem ((c.tc : Thread Cert.DownRefIdeal.nD Cert.DownRefIdeal.τ).loc Cert.DownRefIdeal.main_v23) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Hid_HidIdeal : Prop :=
  True

def algebraic_HidIdeal_HidRefIdeal_pre_finite_hid [hHidIdeal : Cert.HidIdeal.Facts] [hHidRefIdeal : Cert.HidRefIdeal.Facts] [hPre_finite_hid : Cert.Pre_finite_hid.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidIdeal_finite_hid m →
    (∀ c : Dev Cert.HidIdeal.nD,
      m' ((c.tc : Thread Cert.HidRefIdeal.nD Cert.HidRefIdeal.τ).loc Cert.HidRefIdeal.main_arg0) = m ((c.tc : Thread Cert.HidIdeal.nD Cert.HidIdeal.τ).loc Cert.HidIdeal.main_arg0)
      ∧ m' ((c.tc : Thread Cert.HidRefIdeal.nD Cert.HidRefIdeal.τ).loc Cert.HidRefIdeal.main_arg1) = m ((c.tc : Thread Cert.HidIdeal.nD Cert.HidIdeal.τ).loc Cert.HidIdeal.main_arg1)
      ∧ m' ((c.tc : Thread Cert.HidRefIdeal.nD Cert.HidRefIdeal.τ).loc Cert.HidRefIdeal.main_arg2) = m ((c.tc : Thread Cert.HidIdeal.nD Cert.HidIdeal.τ).loc Cert.HidIdeal.main_arg2)
      ∧ m' ((c.tc : Thread Cert.HidRefIdeal.nD Cert.HidRefIdeal.τ).loc Cert.HidRefIdeal.main_arg3) = m ((c.tc : Thread Cert.HidIdeal.nD Cert.HidIdeal.τ).loc Cert.HidIdeal.main_arg3)) →
    ∃ (v0 : (c : Dev Cert.HidIdeal.nD) → Buf (Elt Ideal) ((c.tc : Thread Cert.HidIdeal.nD Cert.HidIdeal.τ).loc Cert.HidIdeal.main_v8_0)) (v1 : (c : Dev Cert.HidIdeal.nD) → Buf (Elt Ideal) ((c.tc : Thread Cert.HidIdeal.nD Cert.HidIdeal.τ).loc Cert.HidIdeal.main_v8_1)) (v2 : (c : Dev Cert.HidIdeal.nD) → Buf (Elt Ideal) ((c.tc : Thread Cert.HidIdeal.nD Cert.HidIdeal.τ).loc Cert.HidIdeal.main_v8_2)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v8_0) = v0 c
          ∧ r.2.mem ((c.tc : Thread Cert.HidIdeal.nD Cert.HidIdeal.τ).loc Cert.HidIdeal.main_v8_1) = v1 c
          ∧ r.2.mem ((c.tc : Thread Cert.HidIdeal.nD Cert.HidIdeal.τ).loc Cert.HidIdeal.main_v8_2) = v2 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
          ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
          ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v52) = v0 c
          ∧ r.2.mem ((c.tc : Thread Cert.HidRefIdeal.nD Cert.HidRefIdeal.τ).loc Cert.HidRefIdeal.main_v53) = v1 c
          ∧ r.2.mem ((c.tc : Thread Cert.HidRefIdeal.nD Cert.HidRefIdeal.τ).loc Cert.HidRefIdeal.main_v54) = v2 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1)
          ∧ r.2.mem ((c.tc : Thread Cert.HidRefIdeal.nD Cert.HidRefIdeal.τ).loc Cert.HidRefIdeal.main_arg2) = m' ((c.tc : Thread Cert.HidRefIdeal.nD Cert.HidRefIdeal.τ).loc Cert.HidRefIdeal.main_arg2)
          ∧ r.2.mem ((c.tc : Thread Cert.HidRefIdeal.nD Cert.HidRefIdeal.τ).loc Cert.HidRefIdeal.main_arg3) = m' ((c.tc : Thread Cert.HidRefIdeal.nD Cert.HidRefIdeal.τ).loc Cert.HidRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v4) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v16) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v4_0)) (v1 : (c : Dev Cert.MixBwdIdeal.nD) → Buf (Elt Ideal) ((c.tc : Thread Cert.MixBwdIdeal.nD Cert.MixBwdIdeal.τ).loc Cert.MixBwdIdeal.main_v4_1)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v4_0) = v0 c
          ∧ r.2.mem ((c.tc : Thread Cert.MixBwdIdeal.nD Cert.MixBwdIdeal.τ).loc Cert.MixBwdIdeal.main_v4_1) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v42) = v0 c
          ∧ r.2.mem ((c.tc : Thread Cert.MixBwdRefIdeal.nD Cert.MixBwdRefIdeal.τ).loc Cert.MixBwdRefIdeal.main_v43) = v1 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)
      ∧ m' ((c.tc : Thread Cert.MixDwRefIdeal.nD Cert.MixDwRefIdeal.τ).loc Cert.MixDwRefIdeal.main_arg2) = m ((c.tc : Thread Cert.MixDwIdeal.nD Cert.MixDwIdeal.τ).loc Cert.MixDwIdeal.main_arg2)) →
    ∃ (v0 : (c : Dev Cert.MixDwIdeal.nD) → Buf (Elt Ideal) ((c.tc : Thread Cert.MixDwIdeal.nD Cert.MixDwIdeal.τ).loc Cert.MixDwIdeal.main_v15)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v15) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v20) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1)
          ∧ r.2.mem ((c.tc : Thread Cert.MixDwRefIdeal.nD Cert.MixDwRefIdeal.τ).loc Cert.MixDwRefIdeal.main_arg2) = m' ((c.tc : Thread Cert.MixDwRefIdeal.nD Cert.MixDwRefIdeal.τ).loc Cert.MixDwRefIdeal.main_arg2))

def preserves_QkvIn_QkvInIdeal : Prop :=
  True

def algebraic_QkvInIdeal_QkvInRefIdeal [hQkvInIdeal : Cert.QkvInIdeal.Facts] [hQkvInRefIdeal : Cert.QkvInRefIdeal.Facts] : Prop :=
  ∀ (m : (ℓ : Loc Cert.QkvInIdeal.nD Cert.QkvInIdeal.τ Cert.QkvInIdeal.sig) → Buf (Elt Ideal) ℓ) (g : Dev Cert.QkvInIdeal.nD → PrngReg)
    (m' : (ℓ : Loc Cert.QkvInRefIdeal.nD Cert.QkvInRefIdeal.τ Cert.QkvInRefIdeal.sig) → Buf (Elt Ideal) ℓ) (g' : Dev Cert.QkvInRefIdeal.nD → PrngReg), Pre_QkvInIdeal m →
    (∀ c : Dev Cert.QkvInIdeal.nD,
      m' ((c.tc : Thread Cert.QkvInRefIdeal.nD Cert.QkvInRefIdeal.τ).loc Cert.QkvInRefIdeal.main_arg0) = m ((c.tc : Thread Cert.QkvInIdeal.nD Cert.QkvInIdeal.τ).loc Cert.QkvInIdeal.main_arg0)
      ∧ m' ((c.tc : Thread Cert.QkvInRefIdeal.nD Cert.QkvInRefIdeal.τ).loc Cert.QkvInRefIdeal.main_arg1) = m ((c.tc : Thread Cert.QkvInIdeal.nD Cert.QkvInIdeal.τ).loc Cert.QkvInIdeal.main_arg1)
      ∧ m' ((c.tc : Thread Cert.QkvInRefIdeal.nD Cert.QkvInRefIdeal.τ).loc Cert.QkvInRefIdeal.main_arg2) = m ((c.tc : Thread Cert.QkvInIdeal.nD Cert.QkvInIdeal.τ).loc Cert.QkvInIdeal.main_arg2)) →
    ∃ (v0 : (c : Dev Cert.QkvInIdeal.nD) → Buf (Elt Ideal) ((c.tc : Thread Cert.QkvInIdeal.nD Cert.QkvInIdeal.τ).loc Cert.QkvInIdeal.main_v3_0)) (v1 : (c : Dev Cert.QkvInIdeal.nD) → Buf (Elt Ideal) ((c.tc : Thread Cert.QkvInIdeal.nD Cert.QkvInIdeal.τ).loc Cert.QkvInIdeal.main_v3_1)),
      θ_run (Cert.QkvInIdeal.defs (F := Ideal)) (onTc (τ := Cert.QkvInIdeal.τ) (Cert.QkvInIdeal.main (F := Ideal))) ⟨m, fun _ => 0, g⟩ (fun r => ∀ c : Dev Cert.QkvInIdeal.nD,
          r.2.mem ((c.tc : Thread Cert.QkvInIdeal.nD Cert.QkvInIdeal.τ).loc Cert.QkvInIdeal.main_v3_0) = v0 c
          ∧ r.2.mem ((c.tc : Thread Cert.QkvInIdeal.nD Cert.QkvInIdeal.τ).loc Cert.QkvInIdeal.main_v3_1) = v1 c
          ∧ r.2.mem ((c.tc : Thread Cert.QkvInIdeal.nD Cert.QkvInIdeal.τ).loc Cert.QkvInIdeal.main_arg0) = m ((c.tc : Thread Cert.QkvInIdeal.nD Cert.QkvInIdeal.τ).loc Cert.QkvInIdeal.main_arg0)
          ∧ r.2.mem ((c.tc : Thread Cert.QkvInIdeal.nD Cert.QkvInIdeal.τ).loc Cert.QkvInIdeal.main_arg1) = m ((c.tc : Thread Cert.QkvInIdeal.nD Cert.QkvInIdeal.τ).loc Cert.QkvInIdeal.main_arg1)
          ∧ r.2.mem ((c.tc : Thread Cert.QkvInIdeal.nD Cert.QkvInIdeal.τ).loc Cert.QkvInIdeal.main_arg2) = m ((c.tc : Thread Cert.QkvInIdeal.nD Cert.QkvInIdeal.τ).loc Cert.QkvInIdeal.main_arg2))
      ∧ θ_run (Cert.QkvInRefIdeal.defs (F := Ideal)) (onTc (τ := Cert.QkvInRefIdeal.τ) (Cert.QkvInRefIdeal.main (F := Ideal))) ⟨m', fun _ => 0, g'⟩ (fun r => ∀ c : Dev Cert.QkvInRefIdeal.nD,
          r.2.mem ((c.tc : Thread Cert.QkvInRefIdeal.nD Cert.QkvInRefIdeal.τ).loc Cert.QkvInRefIdeal.main_v17) = v0 c
          ∧ r.2.mem ((c.tc : Thread Cert.QkvInRefIdeal.nD Cert.QkvInRefIdeal.τ).loc Cert.QkvInRefIdeal.main_v18) = v1 c
          ∧ r.2.mem ((c.tc : Thread Cert.QkvInRefIdeal.nD Cert.QkvInRefIdeal.τ).loc Cert.QkvInRefIdeal.main_arg0) = m' ((c.tc : Thread Cert.QkvInRefIdeal.nD Cert.QkvInRefIdeal.τ).loc Cert.QkvInRefIdeal.main_arg0)
          ∧ r.2.mem ((c.tc : Thread Cert.QkvInRefIdeal.nD Cert.QkvInRefIdeal.τ).loc Cert.QkvInRefIdeal.main_arg1) = m' ((c.tc : Thread Cert.QkvInRefIdeal.nD Cert.QkvInRefIdeal.τ).loc Cert.QkvInRefIdeal.main_arg1)
          ∧ r.2.mem ((c.tc : Thread Cert.QkvInRefIdeal.nD Cert.QkvInRefIdeal.τ).loc Cert.QkvInRefIdeal.main_arg2) = m' ((c.tc : Thread Cert.QkvInRefIdeal.nD Cert.QkvInRefIdeal.τ).loc Cert.QkvInRefIdeal.main_arg2))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)
      ∧ m' ((c.tc : Thread Cert.QkvDwRefIdeal.nD Cert.QkvDwRefIdeal.τ).loc Cert.QkvDwRefIdeal.main_arg2) = m ((c.tc : Thread Cert.QkvDwIdeal.nD Cert.QkvDwIdeal.τ).loc Cert.QkvDwIdeal.main_arg2)) →
    ∃ (v0 : (c : Dev Cert.QkvDwIdeal.nD) → Buf (Elt Ideal) ((c.tc : Thread Cert.QkvDwIdeal.nD Cert.QkvDwIdeal.τ).loc Cert.QkvDwIdeal.main_v15)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v15) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
          ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v20) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1)
          ∧ r.2.mem ((c.tc : Thread Cert.QkvDwRefIdeal.nD Cert.QkvDwRefIdeal.τ).loc Cert.QkvDwRefIdeal.main_arg2) = m' ((c.tc : Thread Cert.QkvDwRefIdeal.nD Cert.QkvDwRefIdeal.τ).loc Cert.QkvDwRefIdeal.main_arg2))

def preserves_QkvDh_QkvDhIdeal : Prop :=
  True

def algebraic_QkvDhIdeal_QkvDhRefIdeal [hQkvDhIdeal : Cert.QkvDhIdeal.Facts] [hQkvDhRefIdeal : Cert.QkvDhRefIdeal.Facts] : Prop :=
  ∀ (m : (ℓ : Loc Cert.QkvDhIdeal.nD Cert.QkvDhIdeal.τ Cert.QkvDhIdeal.sig) → Buf (Elt Ideal) ℓ) (g : Dev Cert.QkvDhIdeal.nD → PrngReg)
    (m' : (ℓ : Loc Cert.QkvDhRefIdeal.nD Cert.QkvDhRefIdeal.τ Cert.QkvDhRefIdeal.sig) → Buf (Elt Ideal) ℓ) (g' : Dev Cert.QkvDhRefIdeal.nD → PrngReg), Pre_QkvDhIdeal m →
    (∀ c : Dev Cert.QkvDhIdeal.nD,
      m' ((c.tc : Thread Cert.QkvDhRefIdeal.nD Cert.QkvDhRefIdeal.τ).loc Cert.QkvDhRefIdeal.main_arg0) = m ((c.tc : Thread Cert.QkvDhIdeal.nD Cert.QkvDhIdeal.τ).loc Cert.QkvDhIdeal.main_arg0)
      ∧ m' ((c.tc : Thread Cert.QkvDhRefIdeal.nD Cert.QkvDhRefIdeal.τ).loc Cert.QkvDhRefIdeal.main_arg1) = m ((c.tc : Thread Cert.QkvDhIdeal.nD Cert.QkvDhIdeal.τ).loc Cert.QkvDhIdeal.main_arg1)) →
    ∃ (v0 : (c : Dev Cert.QkvDhIdeal.nD) → Buf (Elt Ideal) ((c.tc : Thread Cert.QkvDhIdeal.nD Cert.QkvDhIdeal.τ).loc Cert.QkvDhIdeal.main_v3)),
      θ_run (Cert.QkvDhIdeal.defs (F := Ideal)) (onTc (τ := Cert.QkvDhIdeal.τ) (Cert.QkvDhIdeal.main (F := Ideal))) ⟨m, fun _ => 0, g⟩ (fun r => ∀ c : Dev Cert.QkvDhIdeal.nD,
          r.2.mem ((c.tc : Thread Cert.QkvDhIdeal.nD Cert.QkvDhIdeal.τ).loc Cert.QkvDhIdeal.main_v3) = v0 c
          ∧ r.2.mem ((c.tc : Thread Cert.QkvDhIdeal.nD Cert.QkvDhIdeal.τ).loc Cert.QkvDhIdeal.main_arg0) = m ((c.tc : Thread Cert.QkvDhIdeal.nD Cert.QkvDhIdeal.τ).loc Cert.QkvDhIdeal.main_arg0)
          ∧ r.2.mem ((c.tc : Thread Cert.QkvDhIdeal.nD Cert.QkvDhIdeal.τ).loc Cert.QkvDhIdeal.main_arg1) = m ((c.tc : Thread Cert.QkvDhIdeal.nD Cert.QkvDhIdeal.τ).loc Cert.QkvDhIdeal.main_arg1))
      ∧ θ_run (Cert.QkvDhRefIdeal.defs (F := Ideal)) (onTc (τ := Cert.QkvDhRefIdeal.τ) (Cert.QkvDhRefIdeal.main (F := Ideal))) ⟨m', fun _ => 0, g'⟩ (fun r => ∀ c : Dev Cert.QkvDhRefIdeal.nD,
          r.2.mem ((c.tc : Thread Cert.QkvDhRefIdeal.nD Cert.QkvDhRefIdeal.τ).loc Cert.QkvDhRefIdeal.main_v5) = v0 c
          ∧ r.2.mem ((c.tc : Thread Cert.QkvDhRefIdeal.nD Cert.QkvDhRefIdeal.τ).loc Cert.QkvDhRefIdeal.main_arg0) = m' ((c.tc : Thread Cert.QkvDhRefIdeal.nD Cert.QkvDhRefIdeal.τ).loc Cert.QkvDhRefIdeal.main_arg0)
          ∧ r.2.mem ((c.tc : Thread Cert.QkvDhRefIdeal.nD Cert.QkvDhRefIdeal.τ).loc Cert.QkvDhRefIdeal.main_arg1) = m' ((c.tc : Thread Cert.QkvDhRefIdeal.nD Cert.QkvDhRefIdeal.τ).loc Cert.QkvDhRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwAttn_DwAttnIdeal : Prop :=
  True

def algebraic_DwAttnIdeal_DwAttnRefIdeal [hDwAttnIdeal : Cert.DwAttnIdeal.Facts] [hDwAttnRefIdeal : Cert.DwAttnRefIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg)
    (m' : (ℓ : Loc Cert.DwAttnRefIdeal.nD Cert.DwAttnRefIdeal.τ Cert.DwAttnRefIdeal.sig) → Buf (Elt Ideal) ℓ) (g' : Dev Cert.DwAttnRefIdeal.nD → PrngReg), Pre_DwAttnIdeal m →
    (∀ c : Dev Cert.DwAttnIdeal.nD,
      m' ((c.tc : Thread Cert.DwAttnRefIdeal.nD Cert.DwAttnRefIdeal.τ).loc Cert.DwAttnRefIdeal.main_arg0) = m ((c.tc : Thread Cert.DwAttnIdeal.nD Cert.DwAttnIdeal.τ).loc Cert.DwAttnIdeal.main_arg0)
      ∧ m' ((c.tc : Thread Cert.DwAttnRefIdeal.nD Cert.DwAttnRefIdeal.τ).loc Cert.DwAttnRefIdeal.main_arg1) = m ((c.tc : Thread Cert.DwAttnIdeal.nD Cert.DwAttnIdeal.τ).loc Cert.DwAttnIdeal.main_arg1)
      ∧ m' ((c.tc : Thread Cert.DwAttnRefIdeal.nD Cert.DwAttnRefIdeal.τ).loc Cert.DwAttnRefIdeal.main_arg2) = m ((c.tc : Thread Cert.DwAttnIdeal.nD Cert.DwAttnIdeal.τ).loc Cert.DwAttnIdeal.main_arg2)) →
    ∃ (v0 : (c : Dev Cert.DwAttnIdeal.nD) → Buf (Elt Ideal) ((c.tc : Thread Cert.DwAttnIdeal.nD Cert.DwAttnIdeal.τ).loc Cert.DwAttnIdeal.main_v0)),
      θ_run (Cert.DwAttnIdeal.defs (F := Ideal)) (onTc (τ := Cert.DwAttnIdeal.τ) (Cert.DwAttnIdeal.main (F := Ideal))) ⟨m, fun _ => 0, g⟩ (fun r => ∀ c : Dev Cert.DwAttnIdeal.nD,
          r.2.mem ((c.tc : Thread Cert.DwAttnIdeal.nD Cert.DwAttnIdeal.τ).loc Cert.DwAttnIdeal.main_v0) = v0 c
          ∧ r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
          ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1)
          ∧ r.2.mem ((c.tc : Thread Cert.DwAttnIdeal.nD Cert.DwAttnIdeal.τ).loc Cert.DwAttnIdeal.main_arg2) = m ((c.tc : Thread Cert.DwAttnIdeal.nD Cert.DwAttnIdeal.τ).loc Cert.DwAttnIdeal.main_arg2))
      ∧ θ_run (Cert.DwAttnRefIdeal.defs (F := Ideal)) (onTc (τ := Cert.DwAttnRefIdeal.τ) (Cert.DwAttnRefIdeal.main (F := Ideal))) ⟨m', fun _ => 0, g'⟩ (fun r => ∀ c : Dev Cert.DwAttnRefIdeal.nD,
          r.2.mem ((c.tc : Thread Cert.DwAttnRefIdeal.nD Cert.DwAttnRefIdeal.τ).loc Cert.DwAttnRefIdeal.main_v8) = v0 c
          ∧ r.2.mem ((c.tc : Thread Cert.DwAttnRefIdeal.nD Cert.DwAttnRefIdeal.τ).loc Cert.DwAttnRefIdeal.main_arg0) = m' ((c.tc : Thread Cert.DwAttnRefIdeal.nD Cert.DwAttnRefIdeal.τ).loc Cert.DwAttnRefIdeal.main_arg0)
          ∧ r.2.mem ((c.tc : Thread Cert.DwAttnRefIdeal.nD Cert.DwAttnRefIdeal.τ).loc Cert.DwAttnRefIdeal.main_arg1) = m' ((c.tc : Thread Cert.DwAttnRefIdeal.nD Cert.DwAttnRefIdeal.τ).loc Cert.DwAttnRefIdeal.main_arg1)
          ∧ r.2.mem ((c.tc : Thread Cert.DwAttnRefIdeal.nD Cert.DwAttnRefIdeal.τ).loc Cert.DwAttnRefIdeal.main_arg2) = m' ((c.tc : Thread Cert.DwAttnRefIdeal.nD Cert.DwAttnRefIdeal.τ).loc Cert.DwAttnRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v3_0)) (v1 : (c : Dev Cert.MergeFwdIdeal.nD) → Buf (Elt Ideal) ((c.tc : Thread Cert.MergeFwdIdeal.nD Cert.MergeFwdIdeal.τ).loc Cert.MergeFwdIdeal.main_v3_1)) (v2 : (c : Dev Cert.MergeFwdIdeal.nD) → Buf (Elt Ideal) ((c.tc : Thread Cert.MergeFwdIdeal.nD Cert.MergeFwdIdeal.τ).loc Cert.MergeFwdIdeal.main_v3_2)) (v3 : (c : Dev Cert.MergeFwdIdeal.nD) → Buf (Elt Ideal) ((c.tc : Thread Cert.MergeFwdIdeal.nD Cert.MergeFwdIdeal.τ).loc Cert.MergeFwdIdeal.main_v3_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v3_0) = v0 c
          ∧ r.2.mem ((c.tc : Thread Cert.MergeFwdIdeal.nD Cert.MergeFwdIdeal.τ).loc Cert.MergeFwdIdeal.main_v3_1) = v1 c
          ∧ r.2.mem ((c.tc : Thread Cert.MergeFwdIdeal.nD Cert.MergeFwdIdeal.τ).loc Cert.MergeFwdIdeal.main_v3_2) = v2 c
          ∧ r.2.mem ((c.tc : Thread Cert.MergeFwdIdeal.nD Cert.MergeFwdIdeal.τ).loc Cert.MergeFwdIdeal.main_v3_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v39) = v0 c
          ∧ r.2.mem ((c.tc : Thread Cert.MergeFwdRefIdeal.nD Cert.MergeFwdRefIdeal.τ).loc Cert.MergeFwdRefIdeal.main_v40) = v1 c
          ∧ r.2.mem ((c.tc : Thread Cert.MergeFwdRefIdeal.nD Cert.MergeFwdRefIdeal.τ).loc Cert.MergeFwdRefIdeal.main_v41) = v2 c
          ∧ r.2.mem ((c.tc : Thread Cert.MergeFwdRefIdeal.nD Cert.MergeFwdRefIdeal.τ).loc Cert.MergeFwdRefIdeal.main_v42) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)
      ∧ m' ((c.tc : Thread Cert.MergeBwdRefIdeal.nD Cert.MergeBwdRefIdeal.τ).loc Cert.MergeBwdRefIdeal.main_arg8) = m ((c.tc : Thread Cert.MergeBwdIdeal.nD Cert.MergeBwdIdeal.τ).loc Cert.MergeBwdIdeal.main_arg8)) →
    ∃ (v0 : (c : Dev Cert.MergeBwdIdeal.nD) → Buf (Elt Ideal) ((c.tc : Thread Cert.MergeBwdIdeal.nD Cert.MergeBwdIdeal.τ).loc Cert.MergeBwdIdeal.main_v4)) (v1 : (c : Dev Cert.MergeBwdIdeal.nD) → Buf (Elt Ideal) ((c.tc : Thread Cert.MergeBwdIdeal.nD Cert.MergeBwdIdeal.τ).loc Cert.MergeBwdIdeal.main_v3_1)) (v2 : (c : Dev Cert.MergeBwdIdeal.nD) → Buf (Elt Ideal) ((c.tc : Thread Cert.MergeBwdIdeal.nD Cert.MergeBwdIdeal.τ).loc Cert.MergeBwdIdeal.main_v3_2)) (v3 : (c : Dev Cert.MergeBwdIdeal.nD) → Buf (Elt Ideal) ((c.tc : Thread Cert.MergeBwdIdeal.nD Cert.MergeBwdIdeal.τ).loc Cert.MergeBwdIdeal.main_v3_3)) (v4 : (c : Dev Cert.MergeBwdIdeal.nD) → Buf (Elt Ideal) ((c.tc : Thread Cert.MergeBwdIdeal.nD Cert.MergeBwdIdeal.τ).loc Cert.MergeBwdIdeal.main_v3_4)) (v5 : (c : Dev Cert.MergeBwdIdeal.nD) → Buf (Elt Ideal) ((c.tc : Thread Cert.MergeBwdIdeal.nD Cert.MergeBwdIdeal.τ).loc Cert.MergeBwdIdeal.main_v3_5)) (v6 : (c : Dev Cert.MergeBwdIdeal.nD) → Buf (Elt Ideal) ((c.tc : Thread Cert.MergeBwdIdeal.nD Cert.MergeBwdIdeal.τ).loc Cert.MergeBwdIdeal.main_v3_6)) (v7 : (c : Dev Cert.MergeBwdIdeal.nD) → Buf (Elt Ideal) ((c.tc : Thread Cert.MergeBwdIdeal.nD Cert.MergeBwdIdeal.τ).loc Cert.MergeBwdIdeal.main_v3_7)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v4) = v0 c
          ∧ r.2.mem ((c.tc : Thread Cert.MergeBwdIdeal.nD Cert.MergeBwdIdeal.τ).loc Cert.MergeBwdIdeal.main_v3_1) = v1 c
          ∧ r.2.mem ((c.tc : Thread Cert.MergeBwdIdeal.nD Cert.MergeBwdIdeal.τ).loc Cert.MergeBwdIdeal.main_v3_2) = v2 c
          ∧ r.2.mem ((c.tc : Thread Cert.MergeBwdIdeal.nD Cert.MergeBwdIdeal.τ).loc Cert.MergeBwdIdeal.main_v3_3) = v3 c
          ∧ r.2.mem ((c.tc : Thread Cert.MergeBwdIdeal.nD Cert.MergeBwdIdeal.τ).loc Cert.MergeBwdIdeal.main_v3_4) = v4 c
          ∧ r.2.mem ((c.tc : Thread Cert.MergeBwdIdeal.nD Cert.MergeBwdIdeal.τ).loc Cert.MergeBwdIdeal.main_v3_5) = v5 c
          ∧ r.2.mem ((c.tc : Thread Cert.MergeBwdIdeal.nD Cert.MergeBwdIdeal.τ).loc Cert.MergeBwdIdeal.main_v3_6) = v6 c
          ∧ r.2.mem ((c.tc : Thread Cert.MergeBwdIdeal.nD Cert.MergeBwdIdeal.τ).loc Cert.MergeBwdIdeal.main_v3_7) = v7 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
          ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v82) = v0 c
          ∧ r.2.mem ((c.tc : Thread Cert.MergeBwdRefIdeal.nD Cert.MergeBwdRefIdeal.τ).loc Cert.MergeBwdRefIdeal.main_v83) = v1 c
          ∧ r.2.mem ((c.tc : Thread Cert.MergeBwdRefIdeal.nD Cert.MergeBwdRefIdeal.τ).loc Cert.MergeBwdRefIdeal.main_v84) = v2 c
          ∧ r.2.mem ((c.tc : Thread Cert.MergeBwdRefIdeal.nD Cert.MergeBwdRefIdeal.τ).loc Cert.MergeBwdRefIdeal.main_v85) = v3 c
          ∧ r.2.mem ((c.tc : Thread Cert.MergeBwdRefIdeal.nD Cert.MergeBwdRefIdeal.τ).loc Cert.MergeBwdRefIdeal.main_v86) = v4 c
          ∧ r.2.mem ((c.tc : Thread Cert.MergeBwdRefIdeal.nD Cert.MergeBwdRefIdeal.τ).loc Cert.MergeBwdRefIdeal.main_v87) = v5 c
          ∧ r.2.mem ((c.tc : Thread Cert.MergeBwdRefIdeal.nD Cert.MergeBwdRefIdeal.τ).loc Cert.MergeBwdRefIdeal.main_v88) = v6 c
          ∧ r.2.mem ((c.tc : Thread Cert.MergeBwdRefIdeal.nD Cert.MergeBwdRefIdeal.τ).loc Cert.MergeBwdRefIdeal.main_v89) = v7 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7)
          ∧ r.2.mem ((c.tc : Thread Cert.MergeBwdRefIdeal.nD Cert.MergeBwdRefIdeal.τ).loc Cert.MergeBwdRefIdeal.main_arg8) = m' ((c.tc : Thread Cert.MergeBwdRefIdeal.nD Cert.MergeBwdRefIdeal.τ).loc Cert.MergeBwdRefIdeal.main_arg8))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v5)) (v1 : (c : Dev Cert.SmallSumIdeal.nD) → Buf (Elt Ideal) ((c.tc : Thread Cert.SmallSumIdeal.nD Cert.SmallSumIdeal.τ).loc Cert.SmallSumIdeal.main_v7)) (v2 : (c : Dev Cert.SmallSumIdeal.nD) → Buf (Elt Ideal) ((c.tc : Thread Cert.SmallSumIdeal.nD Cert.SmallSumIdeal.τ).loc Cert.SmallSumIdeal.main_v9)) (v3 : (c : Dev Cert.SmallSumIdeal.nD) → Buf (Elt Ideal) ((c.tc : Thread Cert.SmallSumIdeal.nD Cert.SmallSumIdeal.τ).loc Cert.SmallSumIdeal.main_v11)) (v4 : (c : Dev Cert.SmallSumIdeal.nD) → Buf (Elt Ideal) ((c.tc : Thread Cert.SmallSumIdeal.nD Cert.SmallSumIdeal.τ).loc Cert.SmallSumIdeal.main_v13)) (v5 : (c : Dev Cert.SmallSumIdeal.nD) → Buf (Elt Ideal) ((c.tc : Thread Cert.SmallSumIdeal.nD Cert.SmallSumIdeal.τ).loc Cert.SmallSumIdeal.main_v15)) (v6 : (c : Dev Cert.SmallSumIdeal.nD) → Buf (Elt Ideal) ((c.tc : Thread Cert.SmallSumIdeal.nD Cert.SmallSumIdeal.τ).loc Cert.SmallSumIdeal.main_v17)) (v7 : (c : Dev Cert.SmallSumIdeal.nD) → Buf (Elt Ideal) ((c.tc : Thread Cert.SmallSumIdeal.nD Cert.SmallSumIdeal.τ).loc Cert.SmallSumIdeal.main_v20)) (v8 : (c : Dev Cert.SmallSumIdeal.nD) → Buf (Elt Ideal) ((c.tc : Thread Cert.SmallSumIdeal.nD Cert.SmallSumIdeal.τ).loc Cert.SmallSumIdeal.main_v22)) (v9 : (c : Dev Cert.SmallSumIdeal.nD) → Buf (Elt Ideal) ((c.tc : Thread Cert.SmallSumIdeal.nD Cert.SmallSumIdeal.τ).loc Cert.SmallSumIdeal.main_v24)) (v10 : (c : Dev Cert.SmallSumIdeal.nD) → Buf (Elt Ideal) ((c.tc : Thread Cert.SmallSumIdeal.nD Cert.SmallSumIdeal.τ).loc Cert.SmallSumIdeal.main_v26)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v5) = v0 c
          ∧ r.2.mem ((c.tc : Thread Cert.SmallSumIdeal.nD Cert.SmallSumIdeal.τ).loc Cert.SmallSumIdeal.main_v7) = v1 c
          ∧ r.2.mem ((c.tc : Thread Cert.SmallSumIdeal.nD Cert.SmallSumIdeal.τ).loc Cert.SmallSumIdeal.main_v9) = v2 c
          ∧ r.2.mem ((c.tc : Thread Cert.SmallSumIdeal.nD Cert.SmallSumIdeal.τ).loc Cert.SmallSumIdeal.main_v11) = v3 c
          ∧ r.2.mem ((c.tc : Thread Cert.SmallSumIdeal.nD Cert.SmallSumIdeal.τ).loc Cert.SmallSumIdeal.main_v13) = v4 c
          ∧ r.2.mem ((c.tc : Thread Cert.SmallSumIdeal.nD Cert.SmallSumIdeal.τ).loc Cert.SmallSumIdeal.main_v15) = v5 c
          ∧ r.2.mem ((c.tc : Thread Cert.SmallSumIdeal.nD Cert.SmallSumIdeal.τ).loc Cert.SmallSumIdeal.main_v17) = v6 c
          ∧ r.2.mem ((c.tc : Thread Cert.SmallSumIdeal.nD Cert.SmallSumIdeal.τ).loc Cert.SmallSumIdeal.main_v20) = v7 c
          ∧ r.2.mem ((c.tc : Thread Cert.SmallSumIdeal.nD Cert.SmallSumIdeal.τ).loc Cert.SmallSumIdeal.main_v22) = v8 c
          ∧ r.2.mem ((c.tc : Thread Cert.SmallSumIdeal.nD Cert.SmallSumIdeal.τ).loc Cert.SmallSumIdeal.main_v24) = v9 c
          ∧ r.2.mem ((c.tc : Thread Cert.SmallSumIdeal.nD Cert.SmallSumIdeal.τ).loc Cert.SmallSumIdeal.main_v26) = v10 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v4) = v0 c
          ∧ r.2.mem ((c.tc : Thread Cert.SmallSumRefIdeal.nD Cert.SmallSumRefIdeal.τ).loc Cert.SmallSumRefIdeal.main_v6) = v1 c
          ∧ r.2.mem ((c.tc : Thread Cert.SmallSumRefIdeal.nD Cert.SmallSumRefIdeal.τ).loc Cert.SmallSumRefIdeal.main_v8) = v2 c
          ∧ r.2.mem ((c.tc : Thread Cert.SmallSumRefIdeal.nD Cert.SmallSumRefIdeal.τ).loc Cert.SmallSumRefIdeal.main_v10) = v3 c
          ∧ r.2.mem ((c.tc : Thread Cert.SmallSumRefIdeal.nD Cert.SmallSumRefIdeal.τ).loc Cert.SmallSumRefIdeal.main_v12) = v4 c
          ∧ r.2.mem ((c.tc : Thread Cert.SmallSumRefIdeal.nD Cert.SmallSumRefIdeal.τ).loc Cert.SmallSumRefIdeal.main_v14) = v5 c
          ∧ r.2.mem ((c.tc : Thread Cert.SmallSumRefIdeal.nD Cert.SmallSumRefIdeal.τ).loc Cert.SmallSumRefIdeal.main_v16) = v6 c
          ∧ r.2.mem ((c.tc : Thread Cert.SmallSumRefIdeal.nD Cert.SmallSumRefIdeal.τ).loc Cert.SmallSumRefIdeal.main_v19) = v7 c
          ∧ r.2.mem ((c.tc : Thread Cert.SmallSumRefIdeal.nD Cert.SmallSumRefIdeal.τ).loc Cert.SmallSumRefIdeal.main_v21) = v8 c
          ∧ r.2.mem ((c.tc : Thread Cert.SmallSumRefIdeal.nD Cert.SmallSumRefIdeal.τ).loc Cert.SmallSumRefIdeal.main_v23) = v9 c
          ∧ r.2.mem ((c.tc : Thread Cert.SmallSumRefIdeal.nD Cert.SmallSumRefIdeal.τ).loc Cert.SmallSumRefIdeal.main_v25) = v10 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamFfn1_AdamFfn1Ideal : Prop :=
  True

def algebraic_AdamFfn1Ideal_AdamFfn1RefIdeal [hAdamFfn1Ideal : Cert.AdamFfn1Ideal.Facts] [hAdamFfn1RefIdeal : Cert.AdamFfn1RefIdeal.Facts] : Prop :=
  ∀ (m : (ℓ : Loc Cert.AdamFfn1Ideal.nD Cert.AdamFfn1Ideal.τ Cert.AdamFfn1Ideal.sig) → Buf (Elt Ideal) ℓ) (g : Dev Cert.AdamFfn1Ideal.nD → PrngReg)
    (m' : (ℓ : Loc Cert.AdamFfn1RefIdeal.nD Cert.AdamFfn1RefIdeal.τ Cert.AdamFfn1RefIdeal.sig) → Buf (Elt Ideal) ℓ) (g' : Dev Cert.AdamFfn1RefIdeal.nD → PrngReg), Pre_AdamFfn1Ideal m →
    (∀ c : Dev Cert.AdamFfn1Ideal.nD,
      m' ((c.tc : Thread Cert.AdamFfn1RefIdeal.nD Cert.AdamFfn1RefIdeal.τ).loc Cert.AdamFfn1RefIdeal.main_arg0) = m ((c.tc : Thread Cert.AdamFfn1Ideal.nD Cert.AdamFfn1Ideal.τ).loc Cert.AdamFfn1Ideal.main_arg0)
      ∧ m' ((c.tc : Thread Cert.AdamFfn1RefIdeal.nD Cert.AdamFfn1RefIdeal.τ).loc Cert.AdamFfn1RefIdeal.main_arg1) = m ((c.tc : Thread Cert.AdamFfn1Ideal.nD Cert.AdamFfn1Ideal.τ).loc Cert.AdamFfn1Ideal.main_arg1)
      ∧ m' ((c.tc : Thread Cert.AdamFfn1RefIdeal.nD Cert.AdamFfn1RefIdeal.τ).loc Cert.AdamFfn1RefIdeal.main_arg2) = m ((c.tc : Thread Cert.AdamFfn1Ideal.nD Cert.AdamFfn1Ideal.τ).loc Cert.AdamFfn1Ideal.main_arg2)
      ∧ m' ((c.tc : Thread Cert.AdamFfn1RefIdeal.nD Cert.AdamFfn1RefIdeal.τ).loc Cert.AdamFfn1RefIdeal.main_arg3) = m ((c.tc : Thread Cert.AdamFfn1Ideal.nD Cert.AdamFfn1Ideal.τ).loc Cert.AdamFfn1Ideal.main_arg3)) →
    ∃ (v0 : (c : Dev Cert.AdamFfn1Ideal.nD) → Buf (Elt Ideal) ((c.tc : Thread Cert.AdamFfn1Ideal.nD Cert.AdamFfn1Ideal.τ).loc Cert.AdamFfn1Ideal.main_v0_0)) (v1 : (c : Dev Cert.AdamFfn1Ideal.nD) → Buf (Elt Ideal) ((c.tc : Thread Cert.AdamFfn1Ideal.nD Cert.AdamFfn1Ideal.τ).loc Cert.AdamFfn1Ideal.main_v0_1)) (v2 : (c : Dev Cert.AdamFfn1Ideal.nD) → Buf (Elt Ideal) ((c.tc : Thread Cert.AdamFfn1Ideal.nD Cert.AdamFfn1Ideal.τ).loc Cert.AdamFfn1Ideal.main_v0_2)),
      θ_run (Cert.AdamFfn1Ideal.defs (F := Ideal)) (onTc (τ := Cert.AdamFfn1Ideal.τ) (Cert.AdamFfn1Ideal.main (F := Ideal))) ⟨m, fun _ => 0, g⟩ (fun r => ∀ c : Dev Cert.AdamFfn1Ideal.nD,
          r.2.mem ((c.tc : Thread Cert.AdamFfn1Ideal.nD Cert.AdamFfn1Ideal.τ).loc Cert.AdamFfn1Ideal.main_v0_0) = v0 c
          ∧ r.2.mem ((c.tc : Thread Cert.AdamFfn1Ideal.nD Cert.AdamFfn1Ideal.τ).loc Cert.AdamFfn1Ideal.main_v0_1) = v1 c
          ∧ r.2.mem ((c.tc : Thread Cert.AdamFfn1Ideal.nD Cert.AdamFfn1Ideal.τ).loc Cert.AdamFfn1Ideal.main_v0_2) = v2 c
          ∧ r.2.mem ((c.tc : Thread Cert.AdamFfn1Ideal.nD Cert.AdamFfn1Ideal.τ).loc Cert.AdamFfn1Ideal.main_arg0) = m ((c.tc : Thread Cert.AdamFfn1Ideal.nD Cert.AdamFfn1Ideal.τ).loc Cert.AdamFfn1Ideal.main_arg0)
          ∧ r.2.mem ((c.tc : Thread Cert.AdamFfn1Ideal.nD Cert.AdamFfn1Ideal.τ).loc Cert.AdamFfn1Ideal.main_arg1) = m ((c.tc : Thread Cert.AdamFfn1Ideal.nD Cert.AdamFfn1Ideal.τ).loc Cert.AdamFfn1Ideal.main_arg1)
          ∧ r.2.mem ((c.tc : Thread Cert.AdamFfn1Ideal.nD Cert.AdamFfn1Ideal.τ).loc Cert.AdamFfn1Ideal.main_arg2) = m ((c.tc : Thread Cert.AdamFfn1Ideal.nD Cert.AdamFfn1Ideal.τ).loc Cert.AdamFfn1Ideal.main_arg2)
          ∧ r.2.mem ((c.tc : Thread Cert.AdamFfn1Ideal.nD Cert.AdamFfn1Ideal.τ).loc Cert.AdamFfn1Ideal.main_arg3) = m ((c.tc : Thread Cert.AdamFfn1Ideal.nD Cert.AdamFfn1Ideal.τ).loc Cert.AdamFfn1Ideal.main_arg3))
      ∧ θ_run (Cert.AdamFfn1RefIdeal.defs (F := Ideal)) (onTc (τ := Cert.AdamFfn1RefIdeal.τ) (Cert.AdamFfn1RefIdeal.main (F := Ideal))) ⟨m', fun _ => 0, g'⟩ (fun r => ∀ c : Dev Cert.AdamFfn1RefIdeal.nD,
          r.2.mem ((c.tc : Thread Cert.AdamFfn1RefIdeal.nD Cert.AdamFfn1RefIdeal.τ).loc Cert.AdamFfn1RefIdeal.main_v23) = v0 c
          ∧ r.2.mem ((c.tc : Thread Cert.AdamFfn1RefIdeal.nD Cert.AdamFfn1RefIdeal.τ).loc Cert.AdamFfn1RefIdeal.main_v4) = v1 c
          ∧ r.2.mem ((c.tc : Thread Cert.AdamFfn1RefIdeal.nD Cert.AdamFfn1RefIdeal.τ).loc Cert.AdamFfn1RefIdeal.main_v10) = v2 c
          ∧ r.2.mem ((c.tc : Thread Cert.AdamFfn1RefIdeal.nD Cert.AdamFfn1RefIdeal.τ).loc Cert.AdamFfn1RefIdeal.main_arg0) = m' ((c.tc : Thread Cert.AdamFfn1RefIdeal.nD Cert.AdamFfn1RefIdeal.τ).loc Cert.AdamFfn1RefIdeal.main_arg0)
          ∧ r.2.mem ((c.tc : Thread Cert.AdamFfn1RefIdeal.nD Cert.AdamFfn1RefIdeal.τ).loc Cert.AdamFfn1RefIdeal.main_arg1) = m' ((c.tc : Thread Cert.AdamFfn1RefIdeal.nD Cert.AdamFfn1RefIdeal.τ).loc Cert.AdamFfn1RefIdeal.main_arg1)
          ∧ r.2.mem ((c.tc : Thread Cert.AdamFfn1RefIdeal.nD Cert.AdamFfn1RefIdeal.τ).loc Cert.AdamFfn1RefIdeal.main_arg2) = m' ((c.tc : Thread Cert.AdamFfn1RefIdeal.nD Cert.AdamFfn1RefIdeal.τ).loc Cert.AdamFfn1RefIdeal.main_arg2)
          ∧ r.2.mem ((c.tc : Thread Cert.AdamFfn1RefIdeal.nD Cert.AdamFfn1RefIdeal.τ).loc Cert.AdamFfn1RefIdeal.main_arg3) = m' ((c.tc : Thread Cert.AdamFfn1RefIdeal.nD Cert.AdamFfn1RefIdeal.τ).loc Cert.AdamFfn1RefIdeal.main_arg3))

def preserves_AdamFfn2_AdamFfn2Ideal : Prop :=
  True

def algebraic_AdamFfn2Ideal_AdamFfn2RefIdeal [hAdamFfn2Ideal : Cert.AdamFfn2Ideal.Facts] [hAdamFfn2RefIdeal : Cert.AdamFfn2RefIdeal.Facts] : Prop :=
  ∀ (m : (ℓ : Loc Cert.AdamFfn2Ideal.nD Cert.AdamFfn2Ideal.τ Cert.AdamFfn2Ideal.sig) → Buf (Elt Ideal) ℓ) (g : Dev Cert.AdamFfn2Ideal.nD → PrngReg)
    (m' : (ℓ : Loc Cert.AdamFfn2RefIdeal.nD Cert.AdamFfn2RefIdeal.τ Cert.AdamFfn2RefIdeal.sig) → Buf (Elt Ideal) ℓ) (g' : Dev Cert.AdamFfn2RefIdeal.nD → PrngReg), Pre_AdamFfn2Ideal m →
    (∀ c : Dev Cert.AdamFfn2Ideal.nD,
      m' ((c.tc : Thread Cert.AdamFfn2RefIdeal.nD Cert.AdamFfn2RefIdeal.τ).loc Cert.AdamFfn2RefIdeal.main_arg0) = m ((c.tc : Thread Cert.AdamFfn2Ideal.nD Cert.AdamFfn2Ideal.τ).loc Cert.AdamFfn2Ideal.main_arg0)
      ∧ m' ((c.tc : Thread Cert.AdamFfn2RefIdeal.nD Cert.AdamFfn2RefIdeal.τ).loc Cert.AdamFfn2RefIdeal.main_arg1) = m ((c.tc : Thread Cert.AdamFfn2Ideal.nD Cert.AdamFfn2Ideal.τ).loc Cert.AdamFfn2Ideal.main_arg1)
      ∧ m' ((c.tc : Thread Cert.AdamFfn2RefIdeal.nD Cert.AdamFfn2RefIdeal.τ).loc Cert.AdamFfn2RefIdeal.main_arg2) = m ((c.tc : Thread Cert.AdamFfn2Ideal.nD Cert.AdamFfn2Ideal.τ).loc Cert.AdamFfn2Ideal.main_arg2)
      ∧ m' ((c.tc : Thread Cert.AdamFfn2RefIdeal.nD Cert.AdamFfn2RefIdeal.τ).loc Cert.AdamFfn2RefIdeal.main_arg3) = m ((c.tc : Thread Cert.AdamFfn2Ideal.nD Cert.AdamFfn2Ideal.τ).loc Cert.AdamFfn2Ideal.main_arg3)) →
    ∃ (v0 : (c : Dev Cert.AdamFfn2Ideal.nD) → Buf (Elt Ideal) ((c.tc : Thread Cert.AdamFfn2Ideal.nD Cert.AdamFfn2Ideal.τ).loc Cert.AdamFfn2Ideal.main_v0_0)) (v1 : (c : Dev Cert.AdamFfn2Ideal.nD) → Buf (Elt Ideal) ((c.tc : Thread Cert.AdamFfn2Ideal.nD Cert.AdamFfn2Ideal.τ).loc Cert.AdamFfn2Ideal.main_v0_1)) (v2 : (c : Dev Cert.AdamFfn2Ideal.nD) → Buf (Elt Ideal) ((c.tc : Thread Cert.AdamFfn2Ideal.nD Cert.AdamFfn2Ideal.τ).loc Cert.AdamFfn2Ideal.main_v0_2)),
      θ_run (Cert.AdamFfn2Ideal.defs (F := Ideal)) (onTc (τ := Cert.AdamFfn2Ideal.τ) (Cert.AdamFfn2Ideal.main (F := Ideal))) ⟨m, fun _ => 0, g⟩ (fun r => ∀ c : Dev Cert.AdamFfn2Ideal.nD,
          r.2.mem ((c.tc : Thread Cert.AdamFfn2Ideal.nD Cert.AdamFfn2Ideal.τ).loc Cert.AdamFfn2Ideal.main_v0_0) = v0 c
          ∧ r.2.mem ((c.tc : Thread Cert.AdamFfn2Ideal.nD Cert.AdamFfn2Ideal.τ).loc Cert.AdamFfn2Ideal.main_v0_1) = v1 c
          ∧ r.2.mem ((c.tc : Thread Cert.AdamFfn2Ideal.nD Cert.AdamFfn2Ideal.τ).loc Cert.AdamFfn2Ideal.main_v0_2) = v2 c
          ∧ r.2.mem ((c.tc : Thread Cert.AdamFfn2Ideal.nD Cert.AdamFfn2Ideal.τ).loc Cert.AdamFfn2Ideal.main_arg0) = m ((c.tc : Thread Cert.AdamFfn2Ideal.nD Cert.AdamFfn2Ideal.τ).loc Cert.AdamFfn2Ideal.main_arg0)
          ∧ r.2.mem ((c.tc : Thread Cert.AdamFfn2Ideal.nD Cert.AdamFfn2Ideal.τ).loc Cert.AdamFfn2Ideal.main_arg1) = m ((c.tc : Thread Cert.AdamFfn2Ideal.nD Cert.AdamFfn2Ideal.τ).loc Cert.AdamFfn2Ideal.main_arg1)
          ∧ r.2.mem ((c.tc : Thread Cert.AdamFfn2Ideal.nD Cert.AdamFfn2Ideal.τ).loc Cert.AdamFfn2Ideal.main_arg2) = m ((c.tc : Thread Cert.AdamFfn2Ideal.nD Cert.AdamFfn2Ideal.τ).loc Cert.AdamFfn2Ideal.main_arg2)
          ∧ r.2.mem ((c.tc : Thread Cert.AdamFfn2Ideal.nD Cert.AdamFfn2Ideal.τ).loc Cert.AdamFfn2Ideal.main_arg3) = m ((c.tc : Thread Cert.AdamFfn2Ideal.nD Cert.AdamFfn2Ideal.τ).loc Cert.AdamFfn2Ideal.main_arg3))
      ∧ θ_run (Cert.AdamFfn2RefIdeal.defs (F := Ideal)) (onTc (τ := Cert.AdamFfn2RefIdeal.τ) (Cert.AdamFfn2RefIdeal.main (F := Ideal))) ⟨m', fun _ => 0, g'⟩ (fun r => ∀ c : Dev Cert.AdamFfn2RefIdeal.nD,
          r.2.mem ((c.tc : Thread Cert.AdamFfn2RefIdeal.nD Cert.AdamFfn2RefIdeal.τ).loc Cert.AdamFfn2RefIdeal.main_v23) = v0 c
          ∧ r.2.mem ((c.tc : Thread Cert.AdamFfn2RefIdeal.nD Cert.AdamFfn2RefIdeal.τ).loc Cert.AdamFfn2RefIdeal.main_v4) = v1 c
          ∧ r.2.mem ((c.tc : Thread Cert.AdamFfn2RefIdeal.nD Cert.AdamFfn2RefIdeal.τ).loc Cert.AdamFfn2RefIdeal.main_v10) = v2 c
          ∧ r.2.mem ((c.tc : Thread Cert.AdamFfn2RefIdeal.nD Cert.AdamFfn2RefIdeal.τ).loc Cert.AdamFfn2RefIdeal.main_arg0) = m' ((c.tc : Thread Cert.AdamFfn2RefIdeal.nD Cert.AdamFfn2RefIdeal.τ).loc Cert.AdamFfn2RefIdeal.main_arg0)
          ∧ r.2.mem ((c.tc : Thread Cert.AdamFfn2RefIdeal.nD Cert.AdamFfn2RefIdeal.τ).loc Cert.AdamFfn2RefIdeal.main_arg1) = m' ((c.tc : Thread Cert.AdamFfn2RefIdeal.nD Cert.AdamFfn2RefIdeal.τ).loc Cert.AdamFfn2RefIdeal.main_arg1)
          ∧ r.2.mem ((c.tc : Thread Cert.AdamFfn2RefIdeal.nD Cert.AdamFfn2RefIdeal.τ).loc Cert.AdamFfn2RefIdeal.main_arg2) = m' ((c.tc : Thread Cert.AdamFfn2RefIdeal.nD Cert.AdamFfn2RefIdeal.τ).loc Cert.AdamFfn2RefIdeal.main_arg2)
          ∧ r.2.mem ((c.tc : Thread Cert.AdamFfn2RefIdeal.nD Cert.AdamFfn2RefIdeal.τ).loc Cert.AdamFfn2RefIdeal.main_arg3) = m' ((c.tc : Thread Cert.AdamFfn2RefIdeal.nD Cert.AdamFfn2RefIdeal.τ).loc Cert.AdamFfn2RefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSink_AdamSinkIdeal : Prop :=
  True

def algebraic_AdamSinkIdeal_AdamSinkRefIdeal [hAdamSinkIdeal : Cert.AdamSinkIdeal.Facts] [hAdamSinkRefIdeal : Cert.AdamSinkRefIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg)
    (m' : (ℓ : Loc Cert.AdamSinkRefIdeal.nD Cert.AdamSinkRefIdeal.τ Cert.AdamSinkRefIdeal.sig) → Buf (Elt Ideal) ℓ) (g' : Dev Cert.AdamSinkRefIdeal.nD → PrngReg), Pre_AdamSinkIdeal m →
    (∀ c : Dev Cert.AdamSinkIdeal.nD,
      m' ((c.tc : Thread Cert.AdamSinkRefIdeal.nD Cert.AdamSinkRefIdeal.τ).loc Cert.AdamSinkRefIdeal.main_arg0) = m ((c.tc : Thread Cert.AdamSinkIdeal.nD Cert.AdamSinkIdeal.τ).loc Cert.AdamSinkIdeal.main_arg0)
      ∧ m' ((c.tc : Thread Cert.AdamSinkRefIdeal.nD Cert.AdamSinkRefIdeal.τ).loc Cert.AdamSinkRefIdeal.main_arg1) = m ((c.tc : Thread Cert.AdamSinkIdeal.nD Cert.AdamSinkIdeal.τ).loc Cert.AdamSinkIdeal.main_arg1)
      ∧ m' ((c.tc : Thread Cert.AdamSinkRefIdeal.nD Cert.AdamSinkRefIdeal.τ).loc Cert.AdamSinkRefIdeal.main_arg2) = m ((c.tc : Thread Cert.AdamSinkIdeal.nD Cert.AdamSinkIdeal.τ).loc Cert.AdamSinkIdeal.main_arg2)
      ∧ m' ((c.tc : Thread Cert.AdamSinkRefIdeal.nD Cert.AdamSinkRefIdeal.τ).loc Cert.AdamSinkRefIdeal.main_arg3) = m ((c.tc : Thread Cert.AdamSinkIdeal.nD Cert.AdamSinkIdeal.τ).loc Cert.AdamSinkIdeal.main_arg3)) →
    ∃ (v0 : (c : Dev Cert.AdamSinkIdeal.nD) → Buf (Elt Ideal) ((c.tc : Thread Cert.AdamSinkIdeal.nD Cert.AdamSinkIdeal.τ).loc Cert.AdamSinkIdeal.main_v0_0)) (v1 : (c : Dev Cert.AdamSinkIdeal.nD) → Buf (Elt Ideal) ((c.tc : Thread Cert.AdamSinkIdeal.nD Cert.AdamSinkIdeal.τ).loc Cert.AdamSinkIdeal.main_v0_1)) (v2 : (c : Dev Cert.AdamSinkIdeal.nD) → Buf (Elt Ideal) ((c.tc : Thread Cert.AdamSinkIdeal.nD Cert.AdamSinkIdeal.τ).loc Cert.AdamSinkIdeal.main_v0_2)),
      θ_run (Cert.AdamSinkIdeal.defs (F := Ideal)) (onTc (τ := Cert.AdamSinkIdeal.τ) (Cert.AdamSinkIdeal.main (F := Ideal))) ⟨m, fun _ => 0, g⟩ (fun r => ∀ c : Dev Cert.AdamSinkIdeal.nD,
          r.2.mem ((c.tc : Thread Cert.AdamSinkIdeal.nD Cert.AdamSinkIdeal.τ).loc Cert.AdamSinkIdeal.main_v0_0) = v0 c
          ∧ r.2.mem ((c.tc : Thread Cert.AdamSinkIdeal.nD Cert.AdamSinkIdeal.τ).loc Cert.AdamSinkIdeal.main_v0_1) = v1 c
          ∧ r.2.mem ((c.tc : Thread Cert.AdamSinkIdeal.nD Cert.AdamSinkIdeal.τ).loc Cert.AdamSinkIdeal.main_v0_2) = v2 c
          ∧ r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
          ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
          ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
          ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ θ_run (Cert.AdamSinkRefIdeal.defs (F := Ideal)) (onTc (τ := Cert.AdamSinkRefIdeal.τ) (Cert.AdamSinkRefIdeal.main (F := Ideal))) ⟨m', fun _ => 0, g'⟩ (fun r => ∀ c : Dev Cert.AdamSinkRefIdeal.nD,
          r.2.mem ((c.tc : Thread Cert.AdamSinkRefIdeal.nD Cert.AdamSinkRefIdeal.τ).loc Cert.AdamSinkRefIdeal.main_v23) = v0 c
          ∧ r.2.mem ((c.tc : Thread Cert.AdamSinkRefIdeal.nD Cert.AdamSinkRefIdeal.τ).loc Cert.AdamSinkRefIdeal.main_v4) = v1 c
          ∧ r.2.mem ((c.tc : Thread Cert.AdamSinkRefIdeal.nD Cert.AdamSinkRefIdeal.τ).loc Cert.AdamSinkRefIdeal.main_v10) = v2 c
          ∧ r.2.mem ((c.tc : Thread Cert.AdamSinkRefIdeal.nD Cert.AdamSinkRefIdeal.τ).loc Cert.AdamSinkRefIdeal.main_arg0) = m' ((c.tc : Thread Cert.AdamSinkRefIdeal.nD Cert.AdamSinkRefIdeal.τ).loc Cert.AdamSinkRefIdeal.main_arg0)
          ∧ r.2.mem ((c.tc : Thread Cert.AdamSinkRefIdeal.nD Cert.AdamSinkRefIdeal.τ).loc Cert.AdamSinkRefIdeal.main_arg1) = m' ((c.tc : Thread Cert.AdamSinkRefIdeal.nD Cert.AdamSinkRefIdeal.τ).loc Cert.AdamSinkRefIdeal.main_arg1)
          ∧ r.2.mem ((c.tc : Thread Cert.AdamSinkRefIdeal.nD Cert.AdamSinkRefIdeal.τ).loc Cert.AdamSinkRefIdeal.main_arg2) = m' ((c.tc : Thread Cert.AdamSinkRefIdeal.nD Cert.AdamSinkRefIdeal.τ).loc Cert.AdamSinkRefIdeal.main_arg2)
          ∧ r.2.mem ((c.tc : Thread Cert.AdamSinkRefIdeal.nD Cert.AdamSinkRefIdeal.τ).loc Cert.AdamSinkRefIdeal.main_arg3) = m' ((c.tc : Thread Cert.AdamSinkRefIdeal.nD Cert.AdamSinkRefIdeal.τ).loc Cert.AdamSinkRefIdeal.main_arg3))

def preserves_AdamSguW_AdamSguWIdeal : Prop :=
  True

def algebraic_AdamSguWIdeal_AdamSguWRefIdeal [hAdamSguWIdeal : Cert.AdamSguWIdeal.Facts] [hAdamSguWRefIdeal : Cert.AdamSguWRefIdeal.Facts] : Prop :=
  ∀ (m : (ℓ : Loc Cert.AdamSguWIdeal.nD Cert.AdamSguWIdeal.τ Cert.AdamSguWIdeal.sig) → Buf (Elt Ideal) ℓ) (g : Dev Cert.AdamSguWIdeal.nD → PrngReg)
    (m' : (ℓ : Loc Cert.AdamSguWRefIdeal.nD Cert.AdamSguWRefIdeal.τ Cert.AdamSguWRefIdeal.sig) → Buf (Elt Ideal) ℓ) (g' : Dev Cert.AdamSguWRefIdeal.nD → PrngReg), Pre_AdamSguWIdeal m →
    (∀ c : Dev Cert.AdamSguWIdeal.nD,
      m' ((c.tc : Thread Cert.AdamSguWRefIdeal.nD Cert.AdamSguWRefIdeal.τ).loc Cert.AdamSguWRefIdeal.main_arg0) = m ((c.tc : Thread Cert.AdamSguWIdeal.nD Cert.AdamSguWIdeal.τ).loc Cert.AdamSguWIdeal.main_arg0)
      ∧ m' ((c.tc : Thread Cert.AdamSguWRefIdeal.nD Cert.AdamSguWRefIdeal.τ).loc Cert.AdamSguWRefIdeal.main_arg1) = m ((c.tc : Thread Cert.AdamSguWIdeal.nD Cert.AdamSguWIdeal.τ).loc Cert.AdamSguWIdeal.main_arg1)
      ∧ m' ((c.tc : Thread Cert.AdamSguWRefIdeal.nD Cert.AdamSguWRefIdeal.τ).loc Cert.AdamSguWRefIdeal.main_arg2) = m ((c.tc : Thread Cert.AdamSguWIdeal.nD Cert.AdamSguWIdeal.τ).loc Cert.AdamSguWIdeal.main_arg2)
      ∧ m' ((c.tc : Thread Cert.AdamSguWRefIdeal.nD Cert.AdamSguWRefIdeal.τ).loc Cert.AdamSguWRefIdeal.main_arg3) = m ((c.tc : Thread Cert.AdamSguWIdeal.nD Cert.AdamSguWIdeal.τ).loc Cert.AdamSguWIdeal.main_arg3)) →
    ∃ (v0 : (c : Dev Cert.AdamSguWIdeal.nD) → Buf (Elt Ideal) ((c.tc : Thread Cert.AdamSguWIdeal.nD Cert.AdamSguWIdeal.τ).loc Cert.AdamSguWIdeal.main_v0_0)) (v1 : (c : Dev Cert.AdamSguWIdeal.nD) → Buf (Elt Ideal) ((c.tc : Thread Cert.AdamSguWIdeal.nD Cert.AdamSguWIdeal.τ).loc Cert.AdamSguWIdeal.main_v0_1)) (v2 : (c : Dev Cert.AdamSguWIdeal.nD) → Buf (Elt Ideal) ((c.tc : Thread Cert.AdamSguWIdeal.nD Cert.AdamSguWIdeal.τ).loc Cert.AdamSguWIdeal.main_v0_2)),
      θ_run (Cert.AdamSguWIdeal.defs (F := Ideal)) (onTc (τ := Cert.AdamSguWIdeal.τ) (Cert.AdamSguWIdeal.main (F := Ideal))) ⟨m, fun _ => 0, g⟩ (fun r => ∀ c : Dev Cert.AdamSguWIdeal.nD,
          r.2.mem ((c.tc : Thread Cert.AdamSguWIdeal.nD Cert.AdamSguWIdeal.τ).loc Cert.AdamSguWIdeal.main_v0_0) = v0 c
          ∧ r.2.mem ((c.tc : Thread Cert.AdamSguWIdeal.nD Cert.AdamSguWIdeal.τ).loc Cert.AdamSguWIdeal.main_v0_1) = v1 c
          ∧ r.2.mem ((c.tc : Thread Cert.AdamSguWIdeal.nD Cert.AdamSguWIdeal.τ).loc Cert.AdamSguWIdeal.main_v0_2) = v2 c
          ∧ r.2.mem ((c.tc : Thread Cert.AdamSguWIdeal.nD Cert.AdamSguWIdeal.τ).loc Cert.AdamSguWIdeal.main_arg0) = m ((c.tc : Thread Cert.AdamSguWIdeal.nD Cert.AdamSguWIdeal.τ).loc Cert.AdamSguWIdeal.main_arg0)
          ∧ r.2.mem ((c.tc : Thread Cert.AdamSguWIdeal.nD Cert.AdamSguWIdeal.τ).loc Cert.AdamSguWIdeal.main_arg1) = m ((c.tc : Thread Cert.AdamSguWIdeal.nD Cert.AdamSguWIdeal.τ).loc Cert.AdamSguWIdeal.main_arg1)
          ∧ r.2.mem ((c.tc : Thread Cert.AdamSguWIdeal.nD Cert.AdamSguWIdeal.τ).loc Cert.AdamSguWIdeal.main_arg2) = m ((c.tc : Thread Cert.AdamSguWIdeal.nD Cert.AdamSguWIdeal.τ).loc Cert.AdamSguWIdeal.main_arg2)
          ∧ r.2.mem ((c.tc : Thread Cert.AdamSguWIdeal.nD Cert.AdamSguWIdeal.τ).loc Cert.AdamSguWIdeal.main_arg3) = m ((c.tc : Thread Cert.AdamSguWIdeal.nD Cert.AdamSguWIdeal.τ).loc Cert.AdamSguWIdeal.main_arg3))
      ∧ θ_run (Cert.AdamSguWRefIdeal.defs (F := Ideal)) (onTc (τ := Cert.AdamSguWRefIdeal.τ) (Cert.AdamSguWRefIdeal.main (F := Ideal))) ⟨m', fun _ => 0, g'⟩ (fun r => ∀ c : Dev Cert.AdamSguWRefIdeal.nD,
          r.2.mem ((c.tc : Thread Cert.AdamSguWRefIdeal.nD Cert.AdamSguWRefIdeal.τ).loc Cert.AdamSguWRefIdeal.main_v23) = v0 c
          ∧ r.2.mem ((c.tc : Thread Cert.AdamSguWRefIdeal.nD Cert.AdamSguWRefIdeal.τ).loc Cert.AdamSguWRefIdeal.main_v4) = v1 c
          ∧ r.2.mem ((c.tc : Thread Cert.AdamSguWRefIdeal.nD Cert.AdamSguWRefIdeal.τ).loc Cert.AdamSguWRefIdeal.main_v10) = v2 c
          ∧ r.2.mem ((c.tc : Thread Cert.AdamSguWRefIdeal.nD Cert.AdamSguWRefIdeal.τ).loc Cert.AdamSguWRefIdeal.main_arg0) = m' ((c.tc : Thread Cert.AdamSguWRefIdeal.nD Cert.AdamSguWRefIdeal.τ).loc Cert.AdamSguWRefIdeal.main_arg0)
          ∧ r.2.mem ((c.tc : Thread Cert.AdamSguWRefIdeal.nD Cert.AdamSguWRefIdeal.τ).loc Cert.AdamSguWRefIdeal.main_arg1) = m' ((c.tc : Thread Cert.AdamSguWRefIdeal.nD Cert.AdamSguWRefIdeal.τ).loc Cert.AdamSguWRefIdeal.main_arg1)
          ∧ r.2.mem ((c.tc : Thread Cert.AdamSguWRefIdeal.nD Cert.AdamSguWRefIdeal.τ).loc Cert.AdamSguWRefIdeal.main_arg2) = m' ((c.tc : Thread Cert.AdamSguWRefIdeal.nD Cert.AdamSguWRefIdeal.τ).loc Cert.AdamSguWRefIdeal.main_arg2)
          ∧ r.2.mem ((c.tc : Thread Cert.AdamSguWRefIdeal.nD Cert.AdamSguWRefIdeal.τ).loc Cert.AdamSguWRefIdeal.main_arg3) = m' ((c.tc : Thread Cert.AdamSguWRefIdeal.nD Cert.AdamSguWRefIdeal.τ).loc Cert.AdamSguWRefIdeal.main_arg3))

def preserves_AdamSguB_AdamSguBIdeal : Prop :=
  True

def algebraic_AdamSguBIdeal_AdamSguBRefIdeal [hAdamSguBIdeal : Cert.AdamSguBIdeal.Facts] [hAdamSguBRefIdeal : Cert.AdamSguBRefIdeal.Facts] : Prop :=
  ∀ (m : (ℓ : Loc Cert.AdamSguBIdeal.nD Cert.AdamSguBIdeal.τ Cert.AdamSguBIdeal.sig) → Buf (Elt Ideal) ℓ) (g : Dev Cert.AdamSguBIdeal.nD → PrngReg)
    (m' : (ℓ : Loc Cert.AdamSguBRefIdeal.nD Cert.AdamSguBRefIdeal.τ Cert.AdamSguBRefIdeal.sig) → Buf (Elt Ideal) ℓ) (g' : Dev Cert.AdamSguBRefIdeal.nD → PrngReg), Pre_AdamSguBIdeal m →
    (∀ c : Dev Cert.AdamSguBIdeal.nD,
      m' ((c.tc : Thread Cert.AdamSguBRefIdeal.nD Cert.AdamSguBRefIdeal.τ).loc Cert.AdamSguBRefIdeal.main_arg0) = m ((c.tc : Thread Cert.AdamSguBIdeal.nD Cert.AdamSguBIdeal.τ).loc Cert.AdamSguBIdeal.main_arg0)
      ∧ m' ((c.tc : Thread Cert.AdamSguBRefIdeal.nD Cert.AdamSguBRefIdeal.τ).loc Cert.AdamSguBRefIdeal.main_arg1) = m ((c.tc : Thread Cert.AdamSguBIdeal.nD Cert.AdamSguBIdeal.τ).loc Cert.AdamSguBIdeal.main_arg1)
      ∧ m' ((c.tc : Thread Cert.AdamSguBRefIdeal.nD Cert.AdamSguBRefIdeal.τ).loc Cert.AdamSguBRefIdeal.main_arg2) = m ((c.tc : Thread Cert.AdamSguBIdeal.nD Cert.AdamSguBIdeal.τ).loc Cert.AdamSguBIdeal.main_arg2)
      ∧ m' ((c.tc : Thread Cert.AdamSguBRefIdeal.nD Cert.AdamSguBRefIdeal.τ).loc Cert.AdamSguBRefIdeal.main_arg3) = m ((c.tc : Thread Cert.AdamSguBIdeal.nD Cert.AdamSguBIdeal.τ).loc Cert.AdamSguBIdeal.main_arg3)) →
    ∃ (v0 : (c : Dev Cert.AdamSguBIdeal.nD) → Buf (Elt Ideal) ((c.tc : Thread Cert.AdamSguBIdeal.nD Cert.AdamSguBIdeal.τ).loc Cert.AdamSguBIdeal.main_v0_0)) (v1 : (c : Dev Cert.AdamSguBIdeal.nD) → Buf (Elt Ideal) ((c.tc : Thread Cert.AdamSguBIdeal.nD Cert.AdamSguBIdeal.τ).loc Cert.AdamSguBIdeal.main_v0_1)) (v2 : (c : Dev Cert.AdamSguBIdeal.nD) → Buf (Elt Ideal) ((c.tc : Thread Cert.AdamSguBIdeal.nD Cert.AdamSguBIdeal.τ).loc Cert.AdamSguBIdeal.main_v0_2)),
      θ_run (Cert.AdamSguBIdeal.defs (F := Ideal)) (onTc (τ := Cert.AdamSguBIdeal.τ) (Cert.AdamSguBIdeal.main (F := Ideal))) ⟨m, fun _ => 0, g⟩ (fun r => ∀ c : Dev Cert.AdamSguBIdeal.nD,
          r.2.mem ((c.tc : Thread Cert.AdamSguBIdeal.nD Cert.AdamSguBIdeal.τ).loc Cert.AdamSguBIdeal.main_v0_0) = v0 c
          ∧ r.2.mem ((c.tc : Thread Cert.AdamSguBIdeal.nD Cert.AdamSguBIdeal.τ).loc Cert.AdamSguBIdeal.main_v0_1) = v1 c
          ∧ r.2.mem ((c.tc : Thread Cert.AdamSguBIdeal.nD Cert.AdamSguBIdeal.τ).loc Cert.AdamSguBIdeal.main_v0_2) = v2 c
          ∧ r.2.mem ((c.tc : Thread Cert.AdamSguBIdeal.nD Cert.AdamSguBIdeal.τ).loc Cert.AdamSguBIdeal.main_arg0) = m ((c.tc : Thread Cert.AdamSguBIdeal.nD Cert.AdamSguBIdeal.τ).loc Cert.AdamSguBIdeal.main_arg0)
          ∧ r.2.mem ((c.tc : Thread Cert.AdamSguBIdeal.nD Cert.AdamSguBIdeal.τ).loc Cert.AdamSguBIdeal.main_arg1) = m ((c.tc : Thread Cert.AdamSguBIdeal.nD Cert.AdamSguBIdeal.τ).loc Cert.AdamSguBIdeal.main_arg1)
          ∧ r.2.mem ((c.tc : Thread Cert.AdamSguBIdeal.nD Cert.AdamSguBIdeal.τ).loc Cert.AdamSguBIdeal.main_arg2) = m ((c.tc : Thread Cert.AdamSguBIdeal.nD Cert.AdamSguBIdeal.τ).loc Cert.AdamSguBIdeal.main_arg2)
          ∧ r.2.mem ((c.tc : Thread Cert.AdamSguBIdeal.nD Cert.AdamSguBIdeal.τ).loc Cert.AdamSguBIdeal.main_arg3) = m ((c.tc : Thread Cert.AdamSguBIdeal.nD Cert.AdamSguBIdeal.τ).loc Cert.AdamSguBIdeal.main_arg3))
      ∧ θ_run (Cert.AdamSguBRefIdeal.defs (F := Ideal)) (onTc (τ := Cert.AdamSguBRefIdeal.τ) (Cert.AdamSguBRefIdeal.main (F := Ideal))) ⟨m', fun _ => 0, g'⟩ (fun r => ∀ c : Dev Cert.AdamSguBRefIdeal.nD,
          r.2.mem ((c.tc : Thread Cert.AdamSguBRefIdeal.nD Cert.AdamSguBRefIdeal.τ).loc Cert.AdamSguBRefIdeal.main_v23) = v0 c
          ∧ r.2.mem ((c.tc : Thread Cert.AdamSguBRefIdeal.nD Cert.AdamSguBRefIdeal.τ).loc Cert.AdamSguBRefIdeal.main_v4) = v1 c
          ∧ r.2.mem ((c.tc : Thread Cert.AdamSguBRefIdeal.nD Cert.AdamSguBRefIdeal.τ).loc Cert.AdamSguBRefIdeal.main_v10) = v2 c
          ∧ r.2.mem ((c.tc : Thread Cert.AdamSguBRefIdeal.nD Cert.AdamSguBRefIdeal.τ).loc Cert.AdamSguBRefIdeal.main_arg0) = m' ((c.tc : Thread Cert.AdamSguBRefIdeal.nD Cert.AdamSguBRefIdeal.τ).loc Cert.AdamSguBRefIdeal.main_arg0)
          ∧ r.2.mem ((c.tc : Thread Cert.AdamSguBRefIdeal.nD Cert.AdamSguBRefIdeal.τ).loc Cert.AdamSguBRefIdeal.main_arg1) = m' ((c.tc : Thread Cert.AdamSguBRefIdeal.nD Cert.AdamSguBRefIdeal.τ).loc Cert.AdamSguBRefIdeal.main_arg1)
          ∧ r.2.mem ((c.tc : Thread Cert.AdamSguBRefIdeal.nD Cert.AdamSguBRefIdeal.τ).loc Cert.AdamSguBRefIdeal.main_arg2) = m' ((c.tc : Thread Cert.AdamSguBRefIdeal.nD Cert.AdamSguBRefIdeal.τ).loc Cert.AdamSguBRefIdeal.main_arg2)
          ∧ r.2.mem ((c.tc : Thread Cert.AdamSguBRefIdeal.nD Cert.AdamSguBRefIdeal.τ).loc Cert.AdamSguBRefIdeal.main_arg3) = m' ((c.tc : Thread Cert.AdamSguBRefIdeal.nD Cert.AdamSguBRefIdeal.τ).loc Cert.AdamSguBRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v23) = v0 c
          ∧ r.2.mem ((c.tc : Thread Cert.AdamSqRefIdeal.nD Cert.AdamSqRefIdeal.τ).loc Cert.AdamSqRefIdeal.main_v4) = v1 c
          ∧ r.2.mem ((c.tc : Thread Cert.AdamSqRefIdeal.nD Cert.AdamSqRefIdeal.τ).loc Cert.AdamSqRefIdeal.main_v10) = v2 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def Claim : Prop :=
  ∃ (hKernel : Cert.Kernel.Facts) (hKernelIdeal : Cert.KernelIdeal.Facts) (hReferenceIdeal : Cert.ReferenceIdeal.Facts) (hDw1 : Cert.Dw1.Facts) (hDw1Ideal : Cert.Dw1Ideal.Facts) (hDw1RefIdeal : Cert.Dw1RefIdeal.Facts) (hBwdIn : Cert.BwdIn.Facts) (hBwdInIdeal : Cert.BwdInIdeal.Facts) (hBwdInRefIdeal : Cert.BwdInRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hHid : Cert.Hid.Facts) (hHidIdeal : Cert.HidIdeal.Facts) (hHidRefIdeal : Cert.HidRefIdeal.Facts) (hMixIn : Cert.MixIn.Facts) (hMixInIdeal : Cert.MixInIdeal.Facts) (hMixInRefIdeal : Cert.MixInRefIdeal.Facts) (hMixBwd : Cert.MixBwd.Facts) (hMixBwdIdeal : Cert.MixBwdIdeal.Facts) (hMixBwdRefIdeal : Cert.MixBwdRefIdeal.Facts) (hMixDw : Cert.MixDw.Facts) (hMixDwIdeal : Cert.MixDwIdeal.Facts) (hMixDwRefIdeal : Cert.MixDwRefIdeal.Facts) (hQkvIn : Cert.QkvIn.Facts) (hQkvInIdeal : Cert.QkvInIdeal.Facts) (hQkvInRefIdeal : Cert.QkvInRefIdeal.Facts) (hQkvDw : Cert.QkvDw.Facts) (hQkvDwIdeal : Cert.QkvDwIdeal.Facts) (hQkvDwRefIdeal : Cert.QkvDwRefIdeal.Facts) (hQkvDh : Cert.QkvDh.Facts) (hQkvDhIdeal : Cert.QkvDhIdeal.Facts) (hQkvDhRefIdeal : Cert.QkvDhRefIdeal.Facts) (hDwOut : Cert.DwOut.Facts) (hDwOutIdeal : Cert.DwOutIdeal.Facts) (hDwOutRefIdeal : Cert.DwOutRefIdeal.Facts) (hDwAttn : Cert.DwAttn.Facts) (hDwAttnIdeal : Cert.DwAttnIdeal.Facts) (hDwAttnRefIdeal : Cert.DwAttnRefIdeal.Facts) (hMergeFwd : Cert.MergeFwd.Facts) (hMergeFwdIdeal : Cert.MergeFwdIdeal.Facts) (hMergeFwdRefIdeal : Cert.MergeFwdRefIdeal.Facts) (hMergeBwd : Cert.MergeBwd.Facts) (hMergeBwdIdeal : Cert.MergeBwdIdeal.Facts) (hMergeBwdRefIdeal : Cert.MergeBwdRefIdeal.Facts) (hSmallSum : Cert.SmallSum.Facts) (hSmallSumIdeal : Cert.SmallSumIdeal.Facts) (hSmallSumRefIdeal : Cert.SmallSumRefIdeal.Facts) (hAdamVec : Cert.AdamVec.Facts) (hAdamVecIdeal : Cert.AdamVecIdeal.Facts) (hAdamVecRefIdeal : Cert.AdamVecRefIdeal.Facts) (hAdamFfn1 : Cert.AdamFfn1.Facts) (hAdamFfn1Ideal : Cert.AdamFfn1Ideal.Facts) (hAdamFfn1RefIdeal : Cert.AdamFfn1RefIdeal.Facts) (hAdamFfn2 : Cert.AdamFfn2.Facts) (hAdamFfn2Ideal : Cert.AdamFfn2Ideal.Facts) (hAdamFfn2RefIdeal : Cert.AdamFfn2RefIdeal.Facts) (hAdamIn : Cert.AdamIn.Facts) (hAdamInIdeal : Cert.AdamInIdeal.Facts) (hAdamInRefIdeal : Cert.AdamInRefIdeal.Facts) (hAdamSink : Cert.AdamSink.Facts) (hAdamSinkIdeal : Cert.AdamSinkIdeal.Facts) (hAdamSinkRefIdeal : Cert.AdamSinkRefIdeal.Facts) (hAdamSguW : Cert.AdamSguW.Facts) (hAdamSguWIdeal : Cert.AdamSguWIdeal.Facts) (hAdamSguWRefIdeal : Cert.AdamSguWRefIdeal.Facts) (hAdamSguB : Cert.AdamSguB.Facts) (hAdamSguBIdeal : Cert.AdamSguBIdeal.Facts) (hAdamSguBRefIdeal : Cert.AdamSguBRefIdeal.Facts) (hAdamSq : Cert.AdamSq.Facts) (hAdamSqIdeal : Cert.AdamSqIdeal.Facts) (hAdamSqRefIdeal : Cert.AdamSqRefIdeal.Facts) (hPre_finite : Cert.Pre_finite.Facts) (hPre_finite_hid : Cert.Pre_finite_hid.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dw1 (hDw1 := hDw1)
    ∧ quiescent_Dw1Ideal (hDw1Ideal := hDw1Ideal)
    ∧ quiescent_Dw1RefIdeal (hDw1RefIdeal := hDw1RefIdeal)
    ∧ quiescent_BwdIn (hBwdIn := hBwdIn)
    ∧ quiescent_BwdInIdeal (hBwdInIdeal := hBwdInIdeal)
    ∧ quiescent_BwdInRefIdeal (hBwdInRefIdeal := hBwdInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Hid (hHid := hHid)
    ∧ quiescent_HidIdeal (hHidIdeal := hHidIdeal)
    ∧ quiescent_HidIdeal_pre_finite_hid (hHidIdeal := hHidIdeal) (hPre_finite_hid := hPre_finite_hid)
    ∧ quiescent_HidRefIdeal (hHidRefIdeal := hHidRefIdeal)
    ∧ quiescent_HidRefIdeal_pre_finite_hid (hHidRefIdeal := hHidRefIdeal) (hPre_finite_hid := hPre_finite_hid)
    ∧ quiescent_MixIn (hMixIn := hMixIn)
    ∧ quiescent_MixInIdeal (hMixInIdeal := hMixInIdeal)
    ∧ quiescent_MixInRefIdeal (hMixInRefIdeal := hMixInRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_QkvIn (hQkvIn := hQkvIn)
    ∧ quiescent_QkvInIdeal (hQkvInIdeal := hQkvInIdeal)
    ∧ quiescent_QkvInRefIdeal (hQkvInRefIdeal := hQkvInRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDh (hQkvDh := hQkvDh)
    ∧ quiescent_QkvDhIdeal (hQkvDhIdeal := hQkvDhIdeal)
    ∧ quiescent_QkvDhRefIdeal (hQkvDhRefIdeal := hQkvDhRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwAttn (hDwAttn := hDwAttn)
    ∧ quiescent_DwAttnIdeal (hDwAttnIdeal := hDwAttnIdeal)
    ∧ quiescent_DwAttnRefIdeal (hDwAttnRefIdeal := hDwAttnRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamFfn1 (hAdamFfn1 := hAdamFfn1)
    ∧ quiescent_AdamFfn1Ideal (hAdamFfn1Ideal := hAdamFfn1Ideal)
    ∧ quiescent_AdamFfn1RefIdeal (hAdamFfn1RefIdeal := hAdamFfn1RefIdeal)
    ∧ quiescent_AdamFfn2 (hAdamFfn2 := hAdamFfn2)
    ∧ quiescent_AdamFfn2Ideal (hAdamFfn2Ideal := hAdamFfn2Ideal)
    ∧ quiescent_AdamFfn2RefIdeal (hAdamFfn2RefIdeal := hAdamFfn2RefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSink (hAdamSink := hAdamSink)
    ∧ quiescent_AdamSinkIdeal (hAdamSinkIdeal := hAdamSinkIdeal)
    ∧ quiescent_AdamSinkRefIdeal (hAdamSinkRefIdeal := hAdamSinkRefIdeal)
    ∧ quiescent_AdamSguW (hAdamSguW := hAdamSguW)
    ∧ quiescent_AdamSguWIdeal (hAdamSguWIdeal := hAdamSguWIdeal)
    ∧ quiescent_AdamSguWRefIdeal (hAdamSguWRefIdeal := hAdamSguWRefIdeal)
    ∧ quiescent_AdamSguB (hAdamSguB := hAdamSguB)
    ∧ quiescent_AdamSguBIdeal (hAdamSguBIdeal := hAdamSguBIdeal)
    ∧ quiescent_AdamSguBRefIdeal (hAdamSguBRefIdeal := hAdamSguBRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dw1_Dw1Ideal
    ∧ algebraic_Dw1Ideal_Dw1RefIdeal (hDw1Ideal := hDw1Ideal) (hDw1RefIdeal := hDw1RefIdeal)
    ∧ preserves_BwdIn_BwdInIdeal
    ∧ algebraic_BwdInIdeal_BwdInRefIdeal (hBwdInIdeal := hBwdInIdeal) (hBwdInRefIdeal := hBwdInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Hid_HidIdeal
    ∧ algebraic_HidIdeal_HidRefIdeal_pre_finite_hid (hHidIdeal := hHidIdeal) (hHidRefIdeal := hHidRefIdeal) (hPre_finite_hid := hPre_finite_hid)
    ∧ preserves_MixIn_MixInIdeal
    ∧ algebraic_MixInIdeal_MixInRefIdeal (hMixInIdeal := hMixInIdeal) (hMixInRefIdeal := hMixInRefIdeal)
    ∧ preserves_MixBwd_MixBwdIdeal
    ∧ algebraic_MixBwdIdeal_MixBwdRefIdeal (hMixBwdIdeal := hMixBwdIdeal) (hMixBwdRefIdeal := hMixBwdRefIdeal)
    ∧ preserves_MixDw_MixDwIdeal
    ∧ algebraic_MixDwIdeal_MixDwRefIdeal (hMixDwIdeal := hMixDwIdeal) (hMixDwRefIdeal := hMixDwRefIdeal)
    ∧ preserves_QkvIn_QkvInIdeal
    ∧ algebraic_QkvInIdeal_QkvInRefIdeal (hQkvInIdeal := hQkvInIdeal) (hQkvInRefIdeal := hQkvInRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDh_QkvDhIdeal
    ∧ algebraic_QkvDhIdeal_QkvDhRefIdeal (hQkvDhIdeal := hQkvDhIdeal) (hQkvDhRefIdeal := hQkvDhRefIdeal)
    ∧ preserves_DwOut_DwOutIdeal
    ∧ algebraic_DwOutIdeal_DwOutRefIdeal (hDwOutIdeal := hDwOutIdeal) (hDwOutRefIdeal := hDwOutRefIdeal)
    ∧ preserves_DwAttn_DwAttnIdeal
    ∧ algebraic_DwAttnIdeal_DwAttnRefIdeal (hDwAttnIdeal := hDwAttnIdeal) (hDwAttnRefIdeal := hDwAttnRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_SmallSum_SmallSumIdeal
    ∧ algebraic_SmallSumIdeal_SmallSumRefIdeal (hSmallSumIdeal := hSmallSumIdeal) (hSmallSumRefIdeal := hSmallSumRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamFfn1_AdamFfn1Ideal
    ∧ algebraic_AdamFfn1Ideal_AdamFfn1RefIdeal (hAdamFfn1Ideal := hAdamFfn1Ideal) (hAdamFfn1RefIdeal := hAdamFfn1RefIdeal)
    ∧ preserves_AdamFfn2_AdamFfn2Ideal
    ∧ algebraic_AdamFfn2Ideal_AdamFfn2RefIdeal (hAdamFfn2Ideal := hAdamFfn2Ideal) (hAdamFfn2RefIdeal := hAdamFfn2RefIdeal)
    ∧ preserves_AdamIn_AdamInIdeal
    ∧ algebraic_AdamInIdeal_AdamInRefIdeal (hAdamInIdeal := hAdamInIdeal) (hAdamInRefIdeal := hAdamInRefIdeal)
    ∧ preserves_AdamSink_AdamSinkIdeal
    ∧ algebraic_AdamSinkIdeal_AdamSinkRefIdeal (hAdamSinkIdeal := hAdamSinkIdeal) (hAdamSinkRefIdeal := hAdamSinkRefIdeal)
    ∧ preserves_AdamSguW_AdamSguWIdeal
    ∧ algebraic_AdamSguWIdeal_AdamSguWRefIdeal (hAdamSguWIdeal := hAdamSguWIdeal) (hAdamSguWRefIdeal := hAdamSguWRefIdeal)
    ∧ preserves_AdamSguB_AdamSguBIdeal
    ∧ algebraic_AdamSguBIdeal_AdamSguBRefIdeal (hAdamSguBIdeal := hAdamSguBIdeal) (hAdamSguBRefIdeal := hAdamSguBRefIdeal)
    ∧ preserves_AdamSq_AdamSqIdeal
    ∧ algebraic_AdamSqIdeal_AdamSqRefIdeal (hAdamSqIdeal := hAdamSqIdeal) (hAdamSqRefIdeal := hAdamSqRefIdeal)
-- ==== Pre_finite.lean ====
abbrev S16384x4096 : Shape := ⟨2, ![16384, 4096]⟩
abbrev S16384x1024 : Shape := ⟨2, ![16384, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  bcast_S_S16384x1024 : S_.BroadcastsInDim S16384x1024 (![] : Fin 0 → Fin S16384x1024.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v3 : IVec S16384x4096 1) (main_v7 : IVec S16384x1024 1) (main_v10 : IVec S1x1024 1) (main_v13 : IVec S1x1024 1) (main_v16 : IVec S8x128x128 1) (main_v17 : FVec F S8x128 .f32) (main_cst_4 : FVec F S_ .f32) : IVec S16384x4096 1 × IVec S16384x1024 1 × IVec S1x1024 1 × IVec S1x1024 1 × IVec S8x128x128 1 × IVec S8x128 1 :=
  let main_v18 : FVec F S8x128 .f32 := broadcastInDim S8x128 ![] bcast_S_S8x128 main_cst_4
  let main_v19 : IVec S8x128 1 := cmpf .olt main_v17 main_v18
  (main_v3, main_v7, main_v10, main_v13, main_v16, main_v19)

def fn {F : FTy → Type} [FloatOps F] (main_arg0 : FVec F S16384x4096 .bf16) (main_arg1 : FVec F S16384x4096 .bf16) (main_arg2 : FVec F S16384x1024 .bf16) (main_arg3 : FVec F S1x1024 .f32) (main_arg4 : FVec F S1x1024 .f32) (main_arg5 : FVec F S8x128x128 .f32) (main_arg6 : FVec F S8x128 .f32) : IVec S16384x4096 1 × IVec S16384x1024 1 × IVec S1x1024 1 × IVec S1x1024 1 × IVec S8x128x128 1 × IVec S8x128 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S16384x1024 .f32 := (extf .f32 · bitsLt_bf16_f32) main_arg2
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S1x1024 .f32 := Host.absf main_arg3
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8x128x128 .f32 := Host.absf main_arg5
  let main_cst_3 : FVec F S_ .f32 := constant S_ .f32 0x7F800000#32
  let main_v15 : FVec F S8x128x128 .f32 := broadcastInDim S8x128x128 ![] bcast_S_S8x128x128 main_cst_3
  let main_v16 : IVec S8x128x128 1 := cmpf .olt main_v14 main_v15
  let main_v17 : FVec F S8x128 .f32 := Host.absf main_arg6
  let main_cst_4 : FVec F S_ .f32 := constant S_ .f32 0x7F800000#32
  fn_part1 (F := F) main_v3 main_v7 main_v10 main_v13 main_v16 main_v17 main_cst_4
-- ==== Pre_finite_hid.lean ====
abbrev S16384x1024 : Shape := ⟨2, ![16384, 1024]⟩
abbrev S16384x5632 : Shape := ⟨2, ![16384, 5632]⟩
abbrev S2816x1024 : Shape := ⟨2, ![2816, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S16384x5632 : S_.BroadcastsInDim S16384x5632 (![] : Fin 0 → Fin S16384x5632.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x5632 .bf16) (main_arg2 : FVec F S2816x1024 .f32) (main_arg3 : FVec F S1x1024 .f32) : IVec S16384x1024 1 × IVec S16384x5632 1 × IVec S2816x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x5632 .f32 := (extf .f32 · bitsLt_bf16_f32) main_arg1
  let main_v4 : FVec F S16384x5632 .f32 := Host.absf main_v3
  let main_cst_0 : FVec F S_ .f32 := constant S_ .f32 0x7F800000#32
  let main_v5 : FVec F S16384x5632 .f32 := broadcastInDim S16384x5632 ![] bcast_S_S16384x5632 main_cst_0
  let main_v6 : IVec S16384x5632 1 := cmpf .olt main_v4 main_v5
  let main_v7 : FVec F S2816x1024 .f32 := Host.absf main_arg2
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  (main_v2, main_v6, main_v9, main_v12)
-- ==== Kernel.lean ====
abbrev S16384x4096 : Shape := ⟨2, ![16384, 4096]⟩
abbrev S16384x1024 : Shape := ⟨2, ![16384, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128 : Shape := ⟨1, ![128]⟩
abbrev S128x1 : Shape := ⟨2, ![128, 1]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x1024, .bf16⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x128x128, .bf16⟩
  | .hbm, ⟨25, _⟩ => ⟨S8x128x128, .bf16⟩
  | .hbm, ⟨26, _⟩ => ⟨S8x128x1, .f32⟩
  | .hbm, ⟨27, _⟩ => ⟨S8x128x128, .f32⟩
  | .hbm, ⟨28, _⟩ => ⟨S16384x4096, .bf16⟩
  | .hbm, ⟨29, _⟩ => ⟨S8x128x128, .f32⟩
  | .hbm, ⟨30, _⟩ => ⟨S128x128, .f32⟩
  | .hbm, ⟨31, _⟩ => ⟨S1x1024, .f32⟩
  | .hbm, ⟨32, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S8x128x128, .bf16⟩
  | .local _ .vmem, ⟨10, _⟩ => ⟨S8x128x128, .f32⟩
  | .local _ .vmem, ⟨11, _⟩ => ⟨S512x2048, .bf16⟩
  | .local _ .vmem, ⟨12, _⟩ => ⟨S512x2048, .bf16⟩
  | .local _ .vmem, ⟨13, _⟩ => ⟨S8x128x128, .f32⟩
  | .local _ .vmem, ⟨14, _⟩ => ⟨S128x128, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v8_2 : Ref sig .tc := ⟨.hbm, 30, rfl⟩
abbrev main_v8_3 : Ref sig .tc := ⟨.hbm, 31, rfl⟩
abbrev main_v8_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "rsqrt2" => some (((Real.sqrt 2)⁻¹ : ℝ) : EReal)
  | "rsqrt2pi" => some (((Real.sqrt (2 * Real.pi))⁻¹ : ℝ) : EReal)
  | _ => none
-- ==== ReferenceIdeal.lean ====
abbrev S16384x4096 : Shape := ⟨2, ![16384, 4096]⟩
abbrev S16384x1024 : Shape := ⟨2, ![16384, 1024]⟩
abbrev S1x1024 : Shape := ⟨2, ![1, 1024]⟩
abbrev S8x128x128 : Shape := ⟨3, ![8, 128, 128]⟩
abbrev S8x128 : Shape := ⟨2, ![8, 128]⟩
abbrev S16384x2048 : Shape := ⟨2, ![16384, 2048]⟩
abbrev S1024 : Shape := ⟨1, ![1024]⟩
abbrev S_ : Shape := ⟨0, ![]⟩
abbrev S16384 : Shape := ⟨1, ![16384]⟩
abbrev S16384x1 : Shape := ⟨2, ![16384, 1]⟩
abbrev S128x128x8x128 : Shape := ⟨4, ![128, 128, 8, 128]⟩
abbrev S128x128 : Shape := ⟨2, ![128, 128]⟩
abbrev S1x128x128 : Shape := ⟨3, ![1, 128, 128]⟩
abbrev S8x128x128x128 : Shape := ⟨4, ![8, 128, 128, 128]⟩
abbrev S128x8 : Shape := ⟨2, ![128, 8]⟩
abbrev S1x128x8x1 : Shape := ⟨4, ![1, 128, 8, 1]⟩

abbrev nBuf : Space → Nat
  | .hbm => 206
  | .vmem => 0
  | .smem => 0
  | _ => 0

abbrev hbmTy0_0 (i : Nat) : BufTy := match i % 128 with
  | 0 => ⟨S16384x4096, .bf16⟩
  | 1 => ⟨S16384x4096, .bf16⟩
  | 2 => ⟨S16384x1024, .bf16⟩
  | 3 => ⟨S1x1024, .f32⟩
  | 4 => ⟨S1x1024, .f32⟩
  | 5 => ⟨S8x128x128, .f32⟩
  | 6 => ⟨S8x128, .f32⟩
  | 7 => ⟨S16384x2048, .bf16⟩
  | 8 => ⟨S16384x2048, .f32⟩
  | 9 => ⟨S16384x1024, .f32⟩
  | 10 => ⟨S16384x1024, .f32⟩
  | 11 => ⟨S1024, .f32⟩
  | 12 => ⟨S1024, .f32⟩
  | 13 => ⟨S_, .f32⟩
  | 14 => ⟨S16384x1024, .f32⟩
  | 15 => ⟨S16384x1024, .f32⟩
  | 16 => ⟨S_, .f32⟩
  | 17 => ⟨S_, .f32⟩
  | 18 => ⟨S16384x1024, .f32⟩
  | 19 => ⟨S16384x1024, .f32⟩
  | 20 => ⟨S_, .f32⟩
  | 21 => ⟨S_, .f32⟩
  | 22 => ⟨S_, .f32⟩
  | 23 => ⟨S_, .f32⟩
  | 24 => ⟨S16384x1024, .f32⟩
  | 25 => ⟨S_, .f32⟩
  | 26 => ⟨S_, .f32⟩
  | 27 => ⟨S_, .f32⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S_, .f32⟩
  | 34 => ⟨S16384x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S_, .f32⟩
  | 41 => ⟨S_, .f32⟩
  | 42 => ⟨S16384x1024, .f32⟩
  | 43 => ⟨S16384x1024, .f32⟩
  | 44 => ⟨S_, .f32⟩
  | 45 => ⟨S_, .f32⟩
  | 46 => ⟨S_, .f32⟩
  | 47 => ⟨S_, .f32⟩
  | 48 => ⟨S16384x1024, .f32⟩
  | 49 => ⟨S_, .f32⟩
  | 50 => ⟨S_, .f32⟩
  | 51 => ⟨S_, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S16384x1024, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S16384x1024, .f32⟩
  | 68 => ⟨S16384x1024, .f32⟩
  | 69 => ⟨S16384x1024, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S_, .f32⟩
  | 77 => ⟨S16384x1, .f32⟩
  | 78 => ⟨S16384x1, .f32⟩
  | 79 => ⟨S16384x1, .f32⟩
  | 80 => ⟨S16384x1, .f32⟩
  | 81 => ⟨S_, .f32⟩
  | 82 => ⟨S16384x1, .f32⟩
  | 83 => ⟨S16384x1, .f32⟩
  | 84 => ⟨S16384x1024, .f32⟩
  | 85 => ⟨S16384x1024, .f32⟩
  | 86 => ⟨S1x1024, .f32⟩
  | 87 => ⟨S16384x1024, .f32⟩
  | 88 => ⟨S16384x1024, .f32⟩
  | 89 => ⟨S1x1024, .f32⟩
  | 90 => ⟨S16384x1024, .f32⟩
  | 91 => ⟨S16384x1024, .f32⟩
  | 92 => ⟨S128x128x8x128, .f32⟩
  | 93 => ⟨S_, .i1⟩
  | 94 => ⟨S128x128, .i1⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S_, .i1⟩
  | 102 => ⟨S128x128, .i1⟩
  | 103 => ⟨S128x128, .i1⟩
  | 104 => ⟨S1x128x128, .i1⟩
  | 105 => ⟨S_, .f32⟩
  | 106 => ⟨S8x128x128, .f32⟩
  | 107 => ⟨S8x128x128, .i1⟩
  | 108 => ⟨S8x128x128, .f32⟩
  | 109 => ⟨S_, .f32⟩
  | 110 => ⟨S8x128x128, .f32⟩
  | 111 => ⟨S8x128x128x128, .f32⟩
  | 112 => ⟨S128x128x8x128, .f32⟩
  | 113 => ⟨S128x8, .f32⟩
  | 114 => ⟨S1x128x8x1, .f32⟩
  | 115 => ⟨S128x128x8x128, .f32⟩
  | 116 => ⟨S128x128x8x128, .f32⟩
  | 117 => ⟨S16384x1024, .f32⟩
  | 118 => ⟨S16384x1024, .f32⟩
  | 119 => ⟨S16384x1024, .f32⟩
  | 120 => ⟨S16384x1024, .f32⟩
  | 121 => ⟨S16384x1024, .f32⟩
  | 122 => ⟨S128x128x8x128, .f32⟩
  | 123 => ⟨S_, .f32⟩
  | 124 => ⟨S128x8, .f32⟩
  | 125 => ⟨S1x128x8x1, .f32⟩
  | 126 => ⟨S_, .f32⟩
  | 127 => ⟨S128x8, .f32⟩
  | _ => ⟨S16384x4096, .bf16⟩

abbrev hbmTy0_1 (i : Nat) : BufTy := match i % 128 with
  | 0 => ⟨S8x128, .f32⟩
  | 1 => ⟨S8x128x128x128, .f32⟩
  | 2 => ⟨S8x128x128, .f32⟩
  | 3 => ⟨S8x128x128x128, .f32⟩
  | 4 => ⟨S128x128x8x128, .f32⟩
  | 5 => ⟨S_, .f32⟩
  | 6 => ⟨S8x128x128, .f32⟩
  | 7 => ⟨S8x128x128, .f32⟩
  | 8 => ⟨S16384x1024, .f32⟩
  | 9 => ⟨S_, .f32⟩
  | 10 => ⟨S1024, .f32⟩
  | 11 => ⟨S1x1024, .f32⟩
  | 12 => ⟨S_, .f32⟩
  | 13 => ⟨S1024, .f32⟩
  | 14 => ⟨S16384x1024, .f32⟩
  | 15 => ⟨S_, .f32⟩
  | 16 => ⟨S1024, .f32⟩
  | 17 => ⟨S1x1024, .f32⟩
  | 18 => ⟨S16384x1024, .f32⟩
  | 19 => ⟨S16384x1024, .f32⟩
  | 20 => ⟨S_, .f32⟩
  | 21 => ⟨S1024, .f32⟩
  | 22 => ⟨S16384x1024, .f32⟩
  | 23 => ⟨S_, .f32⟩
  | 24 => ⟨S16384, .f32⟩
  | 25 => ⟨S16384x1, .f32⟩
  | 26 => ⟨S16384x1024, .f32⟩
  | 27 => ⟨S16384x1024, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S_, .f32⟩
  | 41 => ⟨S16384, .f32⟩
  | 42 => ⟨S16384x1, .f32⟩
  | 43 => ⟨S_, .f32⟩
  | 44 => ⟨S16384x1, .f32⟩
  | 45 => ⟨S16384x1, .f32⟩
  | 46 => ⟨S_, .f32⟩
  | 47 => ⟨S16384, .f32⟩
  | 48 => ⟨S16384x1024, .f32⟩
  | 49 => ⟨S16384x1024, .f32⟩
  | 50 => ⟨S16384x1024, .f32⟩
  | 51 => ⟨S16384x1024, .f32⟩
  | 52 => ⟨S16384x1024, .f32⟩
  | 53 => ⟨S16384x1024, .f32⟩
  | 54 => ⟨S16384x1024, .f32⟩
  | 55 => ⟨S_, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S16384x1024, .f32⟩
  | 68 => ⟨S16384x1024, .bf16⟩
  | 69 => ⟨S16384x1024, .bf16⟩
  | 70 => ⟨S16384x2048, .bf16⟩
  | 71 => ⟨S16384x4096, .bf16⟩
  | 72 => ⟨S128x8, .f32⟩
  | 73 => ⟨S_, .i32⟩
  | 74 => ⟨S_, .f32⟩
  | 75 => ⟨S128x128, .f32⟩
  | 76 => ⟨S1x1024, .f32⟩
  | 77 => ⟨S1x1024, .f32⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c : Ref sig .tc := ⟨.hbm, 93, rfl⟩
abbrev main_v68 : Ref sig .tc := ⟨.hbm, 94, rfl⟩
abbrev main_call0_v0 : Ref sig .tc := ⟨.hbm, 95, rfl⟩
abbrev main_call0_c : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_c_0 : Ref sig .tc := ⟨.hbm, 101, rfl⟩
abbrev main_call0_v5 : Ref sig .tc := ⟨.hbm, 102, rfl⟩
abbrev main_v69 : Ref sig .tc := ⟨.hbm, 103, rfl⟩
abbrev main_v70 : Ref sig .tc := ⟨.hbm, 104, rfl⟩
abbrev main_cst_17 : Ref sig .tc := ⟨.hbm, 105, rfl⟩
abbrev main_v71 : Ref sig .tc := ⟨.hbm, 106, rfl⟩
abbrev main_v72_1 : Ref sig .tc := ⟨.hbm, 107, rfl⟩
abbrev main_v72_0 : Ref sig .tc := ⟨.hbm, 108, rfl⟩
abbrev main_call1_cst : Ref sig .tc := ⟨.hbm, 109, rfl⟩
abbrev main_v72_2 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call2_cst : Ref sig .tc := ⟨.hbm, 133, rfl⟩
abbrev main_call2_v0 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_cst_22 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_cst_24 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_v111 : Ref sig .tc := ⟨.hbm, 159, rfl⟩
abbrev main_cst_26 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_27 : Ref sig .tc := ⟨.hbm, 168, rfl⟩
abbrev main_v119 : Ref sig .tc := ⟨.hbm, 169, rfl⟩
abbrev main_v120 : Ref sig .tc := ⟨.hbm, 170, rfl⟩
abbrev main_cst_28 : Ref sig .tc := ⟨.hbm, 171, rfl⟩
abbrev main_v121 : Ref sig .tc := ⟨.hbm, 172, rfl⟩
abbrev main_v122 : Ref sig .tc := ⟨.hbm, 173, rfl⟩
abbrev main_cst_29 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_30 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_31 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_c_32 : Ref sig .tc := ⟨.hbm, 201, rfl⟩
abbrev main_call3_v0 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩

abbrev nD : Nat := 1
abbrev τ : Topo := Topo.v7x

variable {F : FTy → Type} [FloatOps F]
-- ==== Dw1.lean ====
abbrev S16384x1024 : Shape := ⟨2, ![16384, 1024]⟩
abbrev S1x1024 : Shape := ⟨2, ![1, 1024]⟩
abbrev S16384x5632 : Shape := ⟨2, ![16384, 5632]⟩
abbrev S4x8192x1408 : Shape := ⟨3, ![4, 8192, 1408]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024x2816 : Shape := ⟨2, ![1024, 2816]⟩
abbrev S2x1024x1408 : Shape := ⟨3, ![2, 1024, 1408]⟩
abbrev S1x1024x1408 : Shape := ⟨3, ![1, 1024, 1408]⟩
abbrev S1024x1408 : Shape := ⟨2, ![1024, 1408]⟩

abbrev nBuf : Space → Nat
  | .hbm => 23
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x5632, .bf16⟩
  | .hbm, ⟨3, _⟩ => ⟨S4x8192x1408, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S4x8192x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .f32⟩
  | .local _ .vmem, ⟨5, _⟩ => ⟨S2x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg0.toNat, c7_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Dw1RefIdeal.lean ====
abbrev S16384x1024 : Shape := ⟨2, ![16384, 1024]⟩
abbrev S1x1024 : Shape := ⟨2, ![1, 1024]⟩
abbrev S16384x5632 : Shape := ⟨2, ![16384, 5632]⟩
abbrev S4x8192x1408 : Shape := ⟨3, ![4, 8192, 1408]⟩
abbrev S_ : Shape := ⟨0, ![]⟩
abbrev S1024x5632 : Shape := ⟨2, ![1024, 5632]⟩
abbrev S1024 : Shape := ⟨1, ![1024]⟩
abbrev S16384 : Shape := ⟨1, ![16384]⟩
abbrev S16384x1 : Shape := ⟨2, ![16384, 1]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x5632, .bf16⟩
  | .hbm, ⟨3, _⟩ => ⟨S4x8192x1408, .f32⟩
  | .hbm, ⟨4, _⟩ => ⟨S_, .f32⟩
  | .hbm, ⟨5, _⟩ => ⟨S1024x5632, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x5632, .f32⟩
  | .hbm, ⟨24, _⟩ => ⟨S16384x5632, .f32⟩
  | .hbm, ⟨25, _⟩ => ⟨S5632x1024, .f32⟩
  | .hbm, ⟨26, _⟩ => ⟨S1024x5632, .f32⟩
  | .hbm, ⟨27, _⟩ => ⟨S1024x4x1408, .f32⟩
  | .hbm, ⟨28, _⟩ => ⟨S4x1024x1408, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S4x8192x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_c_3 : Ref sig .tc := ⟨.hbm, 30, rfl⟩
abbrev main_c_4 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== BwdIn.lean ====
abbrev S16384x1024 : Shape := ⟨2, ![16384, 1024]⟩
abbrev S1x1024 : Shape := ⟨2, ![1, 1024]⟩
abbrev S1024x5632 : Shape := ⟨2, ![1024, 5632]⟩
abbrev S16384x5632 : Shape := ⟨2, ![16384, 5632]⟩
abbrev S1024x4x1408 : Shape := ⟨3, ![1024, 4, 1408]⟩
abbrev S4x1024x1408 : Shape := ⟨3, ![4, 1024, 1408]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S16384x5632, .bf16⟩
  | .hbm, ⟨4, _⟩ => ⟨S16384x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S16384x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdInRefIdeal.lean ====
abbrev S16384x1024 : Shape := ⟨2, ![16384, 1024]⟩
abbrev S1x1024 : Shape := ⟨2, ![1, 1024]⟩
abbrev S1024x5632 : Shape := ⟨2, ![1024, 5632]⟩
abbrev S16384x5632 : Shape := ⟨2, ![16384, 5632]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S16384x5632, .bf16⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x5632, .f32⟩
  | .hbm, ⟨27, _⟩ => ⟨S16384x5632, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Up.lean ====
abbrev S16384x1024 : Shape := ⟨2, ![16384, 1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S16384x5632 : Shape := ⟨2, ![16384, 5632]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩
abbrev S1x1024x1408 : Shape := ⟨3, ![1, 1024, 1408]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S16384x5632, .bf16⟩
  | .hbm, ⟨7, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v4 : Index := Scalar.indexCast arg1
  let c0_2 : Index := 0#32
  let c0_3 : Index := 0#32
  ![v4.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpRefIdeal.lean ====
abbrev S16384x1024 : Shape := ⟨2, ![16384, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x5632, .bf16⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Down.lean ====
abbrev S16384x5632 : Shape := ⟨2, ![16384, 5632]⟩
abbrev S2816x1024 : Shape := ⟨2, ![2816, 1024]⟩
abbrev S16384x1024 : Shape := ⟨2, ![16384, 1024]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S2816x1024, .bf16⟩
  | .hbm, ⟨5, _⟩ => ⟨S16384x1024, .f32⟩
  | .hbm, ⟨6, _⟩ => ⟨S16384x1024, .bf16⟩
  | .local _ .vmem, ⟨0, _⟩ => ⟨S512x5632, .bf16⟩
  | .local _ .vmem, ⟨1, _⟩ => ⟨S512x5632, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S16384x5632 : Shape := ⟨2, ![16384, 5632]⟩
abbrev S2816x1024 : Shape := ⟨2, ![2816, 1024]⟩
abbrev S16384x1024 : Shape := ⟨2, ![16384, 1024]⟩
abbrev S1x1024 : Shape := ⟨2, ![1, 1024]⟩
abbrev S16384x2816 : Shape := ⟨2, ![16384, 2816]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x1024, .f32⟩
  | .hbm, ⟨18, _⟩ => ⟨S1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Hid.lean ====
abbrev S16384x1024 : Shape := ⟨2, ![16384, 1024]⟩
abbrev S16384x5632 : Shape := ⟨2, ![16384, 5632]⟩
abbrev S2816x1024 : Shape := ⟨2, ![2816, 1024]⟩
abbrev S1x1024 : Shape := ⟨2, ![1, 1024]⟩
abbrev S16384x2816 : Shape := ⟨2, ![16384, 2816]⟩
abbrev S_ : Shape := ⟨0, ![]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024 : Shape := ⟨1, ![1024]⟩
abbrev S256x1024 : Shape := ⟨2, ![256, 1024]⟩
abbrev S512x256 : Shape := ⟨2, ![512, 256]⟩

abbrev nBuf : Space → Nat
  | .hbm => 23
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S2816x1024, .f32⟩
  | .hbm, ⟨3, _⟩ => ⟨S1x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x1024, .f32⟩
  | .hbm, ⟨18, _⟩ => ⟨S16384x1024, .bf16⟩
  | .hbm, ⟨19, _⟩ => ⟨S2816x1024, .bf16⟩
  | .hbm, ⟨20, _⟩ => ⟨S16384x5632, .bf16⟩
  | .hbm, ⟨21, _⟩ => ⟨S16384x1024, .bf16⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x5632, .bf16⟩
  | .local _ .vmem, ⟨6, _⟩ => ⟨S512x5632, .bf16⟩
  | .local _ .vmem, ⟨7, _⟩ => ⟨S2816x1024, .bf16⟩
  | .local _ .vmem, ⟨8, _⟩ => ⟨S512x5632, .bf16⟩
  | .local _ .vmem, ⟨9, _⟩ => ⟨S512x5632, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HidRefIdeal.lean ====
abbrev S16384x1024 : Shape := ⟨2, ![16384, 1024]⟩
abbrev S16384x5632 : Shape := ⟨2, ![16384, 5632]⟩
abbrev S2816x1024 : Shape := ⟨2, ![2816, 1024]⟩
abbrev S1x1024 : Shape := ⟨2, ![1, 1024]⟩
abbrev S16384x2816 : Shape := ⟨2, ![16384, 2816]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S2816x1024, .f32⟩
  | .hbm, ⟨3, _⟩ => ⟨S1x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S16384x2816, .f32⟩
  | .hbm, ⟨80, _⟩ => ⟨S16384x2816, .f32⟩
  | .hbm, ⟨81, _⟩ => ⟨S16384x5632, .f32⟩
  | .hbm, ⟨82, _⟩ => ⟨S16384x5632, .bf16⟩
  | .hbm, ⟨83, _⟩ => ⟨S16384x1024, .bf16⟩
  | .hbm, ⟨84, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== MixIn.lean ====
abbrev S16384x1024 : Shape := ⟨2, ![16384, 1024]⟩
abbrev S1x1024 : Shape := ⟨2, ![1, 1024]⟩
abbrev S1024x5376 : Shape := ⟨2, ![1024, 5376]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S16384x4096 : Shape := ⟨2, ![16384, 4096]⟩
abbrev S1024x1024 : Shape := ⟨2, ![1024, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5376, .f32⟩
  | .hbm, ⟨3, _⟩ => ⟨S1024x5376, .bf16⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v4 : Index := Scalar.indexCast arg1
  let c0_2 : Index := 0#32
  let c0_3 : Index := 0#32
  ![v4.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixInRefIdeal.lean ====
abbrev S16384x1024 : Shape := ⟨2, ![16384, 1024]⟩
abbrev S1x1024 : Shape := ⟨2, ![1, 1024]⟩
abbrev S1024x5376 : Shape := ⟨2, ![1024, 5376]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5376, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x4096, .f32⟩
  | .hbm, ⟨21, _⟩ => ⟨S16384x4096, .f32⟩
  | .hbm, ⟨22, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MixBwd.lean ====
abbrev S16384x1024 : Shape := ⟨2, ![16384, 1024]⟩
abbrev S1x1024 : Shape := ⟨2, ![1, 1024]⟩
abbrev S1024x5376 : Shape := ⟨2, ![1024, 5376]⟩
abbrev S16384x4096 : Shape := ⟨2, ![16384, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5376, .f32⟩
  | .hbm, ⟨3, _⟩ => ⟨S16384x4096, .bf16⟩
  | .hbm, ⟨4, _⟩ => ⟨S16384x1024, .f32⟩
  | .hbm, ⟨5, _⟩ => ⟨S16384x1024, .f32⟩
  | .hbm, ⟨6, _⟩ => ⟨S1024x5376, .bf16⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S16384x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixBwdRefIdeal.lean ====
abbrev S16384x1024 : Shape := ⟨2, ![16384, 1024]⟩
abbrev S1x1024 : Shape := ⟨2, ![1, 1024]⟩
abbrev S1024x5376 : Shape := ⟨2, ![1024, 5376]⟩
abbrev S16384x4096 : Shape := ⟨2, ![16384, 4096]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5376, .f32⟩
  | .hbm, ⟨3, _⟩ => ⟨S16384x4096, .bf16⟩
  | .hbm, ⟨4, _⟩ => ⟨S16384x1024, .f32⟩
  | .hbm, ⟨5, _⟩ => ⟨S16384x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x4096, .f32⟩
  | .hbm, ⟨28, _⟩ => ⟨S16384x4096, .f32⟩
  | .hbm, ⟨29, _⟩ => ⟨S16384x4096, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== MixDw.lean ====
abbrev S16384x1024 : Shape := ⟨2, ![16384, 1024]⟩
abbrev S1x1024 : Shape := ⟨2, ![1, 1024]⟩
abbrev S16384x4096 : Shape := ⟨2, ![16384, 4096]⟩
abbrev S1024 : Shape := ⟨1, ![1024]⟩
abbrev S_ : Shape := ⟨0, ![]⟩
abbrev S16384 : Shape := ⟨1, ![16384]⟩
abbrev S16384x1 : Shape := ⟨2, ![16384, 1]⟩
abbrev S4x1024x1024 : Shape := ⟨3, ![4, 1024, 1024]⟩
abbrev S1024x1024 : Shape := ⟨2, ![1024, 1024]⟩
abbrev S1024x2048 : Shape := ⟨2, ![1024, 2048]⟩
abbrev S2x1024x1024 : Shape := ⟨3, ![2, 1024, 1024]⟩
abbrev S1x1024x1024 : Shape := ⟨3, ![1, 1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x4096, .bf16⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2x1024x1024, .f32⟩
  | .local _ .vmem, ⟨5, _⟩ => ⟨S2x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MixDwRefIdeal.lean ====
abbrev S16384x1024 : Shape := ⟨2, ![16384, 1024]⟩
abbrev S1x1024 : Shape := ⟨2, ![1, 1024]⟩
abbrev S16384x4096 : Shape := ⟨2, ![16384, 4096]⟩
abbrev S_ : Shape := ⟨0, ![]⟩
abbrev S1024x4096 : Shape := ⟨2, ![1024, 4096]⟩
abbrev S1024 : Shape := ⟨1, ![1024]⟩
abbrev S16384 : Shape := ⟨1, ![16384]⟩
abbrev S16384x1 : Shape := ⟨2, ![16384, 1]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x4096, .bf16⟩
  | .hbm, ⟨3, _⟩ => ⟨S_, .f32⟩
  | .hbm, ⟨4, _⟩ => ⟨S1024x4096, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x4096, .f32⟩
  | .hbm, ⟨23, _⟩ => ⟨S16384x4096, .f32⟩
  | .hbm, ⟨24, _⟩ => ⟨S4096x1024, .f32⟩
  | .hbm, ⟨25, _⟩ => ⟨S1024x4096, .f32⟩
  | .hbm, ⟨26, _⟩ => ⟨S1024x4x1024, .f32⟩
  | .hbm, ⟨27, _⟩ => ⟨S4x1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== QkvIn.lean ====
abbrev S16384x1024 : Shape := ⟨2, ![16384, 1024]⟩
abbrev S1x1024 : Shape := ⟨2, ![1, 1024]⟩
abbrev S1024x5376 : Shape := ⟨2, ![1024, 5376]⟩
abbrev S1024x1280 : Shape := ⟨2, ![1024, 1280]⟩
abbrev S1280x1024 : Shape := ⟨2, ![1280, 1024]⟩
abbrev S1280x16384 : Shape := ⟨2, ![1280, 16384]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5376, .f32⟩
  | .hbm, ⟨3, _⟩ => ⟨S1024x5376, .bf16⟩
  | .hbm, ⟨4, _⟩ => ⟨S1024x1280, .bf16⟩
  | .hbm, ⟨5, _⟩ => ⟨S1280x1024, .bf16⟩
  | .hbm, ⟨6, _⟩ => ⟨S1280x16384, .bf16⟩
  | .hbm, ⟨7, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1280x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvInRefIdeal.lean ====
abbrev S16384x1024 : Shape := ⟨2, ![16384, 1024]⟩
abbrev S1x1024 : Shape := ⟨2, ![1, 1024]⟩
abbrev S1024x5376 : Shape := ⟨2, ![1024, 5376]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x1280 : Shape := ⟨2, ![1024, 1280]⟩
abbrev S16384x1280 : Shape := ⟨2, ![16384, 1280]⟩
abbrev S1280x16384 : Shape := ⟨2, ![1280, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5376, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x1280, .f32⟩
  | .hbm, ⟨21, _⟩ => ⟨S16384x1280, .f32⟩
  | .hbm, ⟨22, _⟩ => ⟨S16384x1280, .bf16⟩
  | .hbm, ⟨23, _⟩ => ⟨S1280x16384, .bf16⟩
  | .hbm, ⟨24, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== QkvDw.lean ====
abbrev S16384x1024 : Shape := ⟨2, ![16384, 1024]⟩
abbrev S1x1024 : Shape := ⟨2, ![1, 1024]⟩
abbrev S1280x16384 : Shape := ⟨2, ![1280, 16384]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1280x1024 : Shape := ⟨2, ![1280, 1024]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1280x16384, .bf16⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S1280x1024, .f32⟩
  | .local _ .vmem, ⟨0, _⟩ => ⟨S1280x1024, .bf16⟩
  | .local _ .vmem, ⟨1, _⟩ => ⟨S1280x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== QkvDwRefIdeal.lean ====
abbrev S16384x1024 : Shape := ⟨2, ![16384, 1024]⟩
abbrev S1x1024 : Shape := ⟨2, ![1, 1024]⟩
abbrev S1280x16384 : Shape := ⟨2, ![1280, 16384]⟩
abbrev S_ : Shape := ⟨0, ![]⟩
abbrev S1024x1280 : Shape := ⟨2, ![1024, 1280]⟩
abbrev S1024 : Shape := ⟨1, ![1024]⟩
abbrev S16384 : Shape := ⟨1, ![16384]⟩
abbrev S16384x1 : Shape := ⟨2, ![16384, 1]⟩
abbrev S16384x1280 : Shape := ⟨2, ![16384, 1280]⟩
abbrev S1280x1024 : Shape := ⟨2, ![1280, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1280x16384, .bf16⟩
  | .hbm, ⟨3, _⟩ => ⟨S_, .f32⟩
  | .hbm, ⟨4, _⟩ => ⟨S1024x1280, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1280, .f32⟩
  | .hbm, ⟨23, _⟩ => ⟨S1280x16384, .f32⟩
  | .hbm, ⟨24, _⟩ => ⟨S16384x1280, .f32⟩
  | .hbm, ⟨25, _⟩ => ⟨S1280x1024, .f32⟩
  | .hbm, ⟨26, _⟩ => ⟨S1024x1280, .f32⟩
  | .hbm, ⟨27, _⟩ => ⟨S1280x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== QkvDh.lean ====
abbrev S1024x5376 : Shape := ⟨2, ![1024, 5376]⟩
abbrev S1280x16384 : Shape := ⟨2, ![1280, 16384]⟩
abbrev S1024x1280 : Shape := ⟨2, ![1024, 1280]⟩
abbrev S1280x1024 : Shape := ⟨2, ![1280, 1024]⟩
abbrev S16384x1024 : Shape := ⟨2, ![16384, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x5376, .f32⟩
  | .hbm, ⟨1, _⟩ => ⟨S1280x16384, .bf16⟩
  | .hbm, ⟨2, _⟩ => ⟨S1024x5376, .bf16⟩
  | .hbm, ⟨3, _⟩ => ⟨S1024x1280, .bf16⟩
  | .hbm, ⟨4, _⟩ => ⟨S1280x1024, .bf16⟩
  | .hbm, ⟨5, _⟩ => ⟨S16384x1024, .f32⟩
  | .local _ .vmem, ⟨0, _⟩ => ⟨S1280x1024, .bf16⟩
  | .local _ .vmem, ⟨1, _⟩ => ⟨S1280x1024, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | _, _ => ⟨S1024x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvDhRefIdeal.lean ====
abbrev S1024x5376 : Shape := ⟨2, ![1024, 5376]⟩
abbrev S1280x16384 : Shape := ⟨2, ![1280, 16384]⟩
abbrev S_ : Shape := ⟨0, ![]⟩
abbrev S16384x1024 : Shape := ⟨2, ![16384, 1024]⟩
abbrev S1024x1280 : Shape := ⟨2, ![1024, 1280]⟩
abbrev S16384x1280 : Shape := ⟨2, ![16384, 1280]⟩

abbrev nBuf : Space → Nat
  | .hbm => 9
  | .vmem => 0
  | .smem => 0
  | _ => 0

abbrev bufTy : (tb : Table) → Fin (tcTables nBuf tb) → BufTy
  | .hbm, ⟨0, _⟩ => ⟨S1024x5376, .f32⟩
  | .hbm, ⟨1, _⟩ => ⟨S1280x16384, .bf16⟩
  | .hbm, ⟨2, _⟩ => ⟨S_, .f32⟩
  | .hbm, ⟨3, _⟩ => ⟨S16384x1024, .f32⟩
  | .hbm, ⟨4, _⟩ => ⟨S1024x1280, .f32⟩
  | .hbm, ⟨5, _⟩ => ⟨S16384x1280, .f32⟩
  | .hbm, ⟨6, _⟩ => ⟨S1280x16384, .f32⟩
  | .hbm, ⟨7, _⟩ => ⟨S16384x1280, .f32⟩
  | .hbm, ⟨8, _⟩ => ⟨S16384x1024, .f32⟩
  | _, _ => ⟨S1024x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S16384x1024 : Shape := ⟨2, ![16384, 1024]⟩
abbrev S4x8704x1024 : Shape := ⟨3, ![4, 8704, 1024]⟩
abbrev S1024x1024 : Shape := ⟨2, ![1024, 1024]⟩
abbrev S4x256x1024 : Shape := ⟨3, ![4, 256, 1024]⟩
abbrev S1024x256 : Shape := ⟨2, ![1024, 256]⟩
abbrev S256x1024 : Shape := ⟨2, ![256, 1024]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x8704x1024, .f32⟩
  | .hbm, ⟨3, _⟩ => ⟨S4x8704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c33_i32 : BitVec 32 := 33#32
  let c0_i32_0 : BitVec 32 := 0#32
  let c0_i32_1 : BitVec 32 := 0#32
  ![c0_i32.toNat, c33_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwOutRefIdeal.lean ====
abbrev S16384x1024 : Shape := ⟨2, ![16384, 1024]⟩
abbrev S4x8704x1024 : Shape := ⟨3, ![4, 8704, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x8704x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x8704x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== DwAttn.lean ====
abbrev S1024x16384 : Shape := ⟨2, ![1024, 16384]⟩
abbrev S16384x1024 : Shape := ⟨2, ![16384, 1024]⟩
abbrev S4x8704x1024 : Shape := ⟨3, ![4, 8704, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S4x8704x1024, .f32⟩
  | .hbm, ⟨3, _⟩ => ⟨S4x8704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c25_i32 : BitVec 32 := 25#32
  let c0_i32_0 : BitVec 32 := 0#32
  let c0_i32_1 : BitVec 32 := 0#32
  ![c0_i32.toNat, c25_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwAttnRefIdeal.lean ====
abbrev S1024x16384 : Shape := ⟨2, ![1024, 16384]⟩
abbrev S16384x1024 : Shape := ⟨2, ![16384, 1024]⟩
abbrev S4x8704x1024 : Shape := ⟨3, ![4, 8704, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S4x8704x1024, .f32⟩
  | .hbm, ⟨3, _⟩ => ⟨S_, .f32⟩
  | .hbm, ⟨4, _⟩ => ⟨S1024x1024, .f32⟩
  | .hbm, ⟨5, _⟩ => ⟨S1024x16384, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x8704x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== MergeFwd.lean ====
abbrev S1024x16384 : Shape := ⟨2, ![1024, 16384]⟩
abbrev S16384x1024 : Shape := ⟨2, ![16384, 1024]⟩
abbrev S16384x4096 : Shape := ⟨2, ![16384, 4096]⟩
abbrev S1024x1024 : Shape := ⟨2, ![1024, 1024]⟩
abbrev S1x1024 : Shape := ⟨2, ![1, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 22
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S16384x4096, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S16384x1024, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdRefIdeal.lean ====
abbrev S1024x16384 : Shape := ⟨2, ![1024, 16384]⟩
abbrev S16384x1024 : Shape := ⟨2, ![16384, 1024]⟩
abbrev S16384x4096 : Shape := ⟨2, ![16384, 4096]⟩
abbrev S1024x1024 : Shape := ⟨2, ![1024, 1024]⟩
abbrev S1x1024 : Shape := ⟨2, ![1, 1024]⟩
abbrev S16384x2048 : Shape := ⟨2, ![16384, 2048]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 58
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S16384x4096, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S16384x4096, .f32⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S1024x16384, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | .hbm, ⟨56, _⟩ => ⟨S16384x1024, .bf16⟩
  | .hbm, ⟨57, _⟩ => ⟨S16384x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== MergeBwd.lean ====
abbrev S16384x1024 : Shape := ⟨2, ![16384, 1024]⟩
abbrev S1x1024 : Shape := ⟨2, ![1, 1024]⟩
abbrev S16384x4096 : Shape := ⟨2, ![16384, 4096]⟩
abbrev S1024x1024 : Shape := ⟨2, ![1024, 1024]⟩
abbrev S1024x16384 : Shape := ⟨2, ![1024, 16384]⟩
abbrev S512x1024 : Shape := ⟨2, ![512, 1024]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩
abbrev S1024 : Shape := ⟨1, ![1024]⟩
abbrev S16384x2048 : Shape := ⟨2, ![16384, 2048]⟩

abbrev nBuf : Space → Nat
  | .hbm => 21
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024, .f32⟩
  | .hbm, ⟨3, _⟩ => ⟨S16384x1024, .bf16⟩
  | .hbm, ⟨4, _⟩ => ⟨S16384x1024, .bf16⟩
  | .hbm, ⟨5, _⟩ => ⟨S16384x4096, .bf16⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S16384x4096, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S1024x16384, .bf16⟩
  | .hbm, ⟨18, _⟩ => ⟨S16384x1024, .bf16⟩
  | .hbm, ⟨19, _⟩ => ⟨S1x1024, .f32⟩
  | .hbm, ⟨20, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x512, .bf16⟩
  | .local _ .vmem, ⟨27, _⟩ => ⟨S1024x512, .bf16⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev main_v4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeBwdRefIdeal.lean ====
abbrev S16384x1024 : Shape := ⟨2, ![16384, 1024]⟩
abbrev S1x1024 : Shape := ⟨2, ![1, 1024]⟩
abbrev S16384x4096 : Shape := ⟨2, ![16384, 4096]⟩
abbrev S1024x1024 : Shape := ⟨2, ![1024, 1024]⟩
abbrev S16384x2048 : Shape := ⟨2, ![16384, 2048]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x16384 : Shape := ⟨2, ![1024, 16384]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024, .f32⟩
  | .hbm, ⟨3, _⟩ => ⟨S16384x1024, .bf16⟩
  | .hbm, ⟨4, _⟩ => ⟨S16384x1024, .bf16⟩
  | .hbm, ⟨5, _⟩ => ⟨S16384x4096, .bf16⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S16384x4096, .f32⟩
  | .hbm, ⟨10, _⟩ => ⟨S16384x2048, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S1024x16384, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S1024x16384, .f32⟩
  | .hbm, ⟨107, _⟩ => ⟨S16384x2048, .f32⟩
  | .hbm, ⟨108, _⟩ => ⟨S16384x2048, .bf16⟩
  | .hbm, ⟨109, _⟩ => ⟨S16384x1024, .bf16⟩
  | .hbm, ⟨110, _⟩ => ⟨S16384x1024, .bf16⟩
  | .hbm, ⟨111, _⟩ => ⟨S16384x1024, .bf16⟩
  | .hbm, ⟨112, _⟩ => ⟨S16384x1024, .bf16⟩
  | .hbm, ⟨113, _⟩ => ⟨S1024x16384, .bf16⟩
  | .hbm, ⟨114, _⟩ => ⟨S16384x1024, .bf16⟩
  | .hbm, ⟨115, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]
-- ==== SmallSum.lean ====
abbrev S8x560x1024 : Shape := ⟨3, ![8, 560, 1024]⟩
abbrev S1x560x1024 : Shape := ⟨3, ![1, 560, 1024]⟩
abbrev S1x112x1024 : Shape := ⟨3, ![1, 112, 1024]⟩
abbrev S560x1024 : Shape := ⟨2, ![560, 1024]⟩
abbrev S552x1024 : Shape := ⟨2, ![552, 1024]⟩
abbrev S4x138x1024 : Shape := ⟨3, ![4, 138, 1024]⟩
abbrev S4x1x1024 : Shape := ⟨3, ![4, 1, 1024]⟩
abbrev S4x1024 : Shape := ⟨2, ![4, 1024]⟩
abbrev S4x1x16 : Shape := ⟨3, ![4, 1, 16]⟩
abbrev S4x16 : Shape := ⟨2, ![4, 16]⟩
abbrev S4x128x1024 : Shape := ⟨3, ![4, 128, 1024]⟩
abbrev S4x8x128x128 : Shape := ⟨4, ![4, 8, 128, 128]⟩
abbrev S4x8x128 : Shape := ⟨3, ![4, 8, 128]⟩

abbrev nBuf : Space → Nat
  | .hbm => 28
  | .vmem => 18
  | .smem => 0
  | _ => 0

abbrev bufTy : (tb : Table) → Fin (tcTables nBuf tb) → BufTy
  | .hbm, ⟨0, _⟩ => ⟨S8x560x1024, .f32⟩
  | .hbm, ⟨1, _⟩ => ⟨S1x560x1024, .f32⟩
  | .hbm, ⟨2, _⟩ => ⟨S560x1024, .f32⟩
  | .hbm, ⟨3, _⟩ => ⟨S552x1024, .f32⟩
  | .hbm, ⟨4, _⟩ => ⟨S4x138x1024, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S4x1024, .f32⟩
  | .hbm, ⟨11, _⟩ => ⟨S4x1x16, .f32⟩
  | .hbm, ⟨12, _⟩ => ⟨S4x16, .f32⟩
  | .hbm, ⟨13, _⟩ => ⟨S4x1x1024, .f32⟩
  | .hbm, ⟨14, _⟩ => ⟨S4x1024, .f32⟩
  | .hbm, ⟨15, _⟩ => ⟨S4x1x1024, .f32⟩
  | .hbm, ⟨16, _⟩ => ⟨S4x1024, .f32⟩
  | .hbm, ⟨17, _⟩ => ⟨S4x128x1024, .f32⟩
  | .hbm, ⟨18, _⟩ => ⟨S4x8x128x128, .f32⟩
  | .hbm, ⟨19, _⟩ => ⟨S4x1x1024, .f32⟩
  | .hbm, ⟨20, _⟩ => ⟨S4x1024, .f32⟩
  | .hbm, ⟨21, _⟩ => ⟨S4x8x128, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S4x1024, .f32⟩
  | .local _ .vmem, ⟨0, _⟩ => ⟨S1x112x1024, .f32⟩
  | .local _ .vmem, ⟨1, _⟩ => ⟨S1x112x1024, .f32⟩
  | .local _ .vmem, ⟨2, _⟩ => ⟨S1x112x1024, .f32⟩
  | .local _ .vmem, ⟨3, _⟩ => ⟨S1x112x1024, .f32⟩
  | .local _ .vmem, ⟨4, _⟩ => ⟨S1x112x1024, .f32⟩
  | .local _ .vmem, ⟨5, _⟩ => ⟨S1x112x1024, .f32⟩
  | .local _ .vmem, ⟨6, _⟩ => ⟨S1x112x1024, .f32⟩
  | .local _ .vmem, ⟨7, _⟩ => ⟨S1x112x1024, .f32⟩
  | .local _ .vmem, ⟨8, _⟩ => ⟨S1x112x1024, .f32⟩
  | .local _ .vmem, ⟨9, _⟩ => ⟨S1x112x1024, .f32⟩
  | .local _ .vmem, ⟨10, _⟩ => ⟨S1x112x1024, .f32⟩
  | .local _ .vmem, ⟨11, _⟩ => ⟨S1x112x1024, .f32⟩
  | .local _ .vmem, ⟨12, _⟩ => ⟨S1x112x1024, .f32⟩
  | .local _ .vmem, ⟨13, _⟩ => ⟨S1x112x1024, .f32⟩
  | .local _ .vmem, ⟨14, _⟩ => ⟨S1x112x1024, .f32⟩
  | .local _ .vmem, ⟨15, _⟩ => ⟨S1x112x1024, .f32⟩
  | .local _ .vmem, ⟨16, _⟩ => ⟨S1x112x1024, .f32⟩
  | .local _ .vmem, ⟨17, _⟩ => ⟨S1x112x1024, .f32⟩
  | _, _ => ⟨S8x560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let c0_i32_0 : BitVec 32 := 0#32
  let c0_i32_1 : BitVec 32 := 0#32
  ![c4_i32.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c5_i32 : BitVec 32 := 5#32
  let c0_i32_0 : BitVec 32 := 0#32
  let c0_i32_1 : BitVec 32 := 0#32
  ![c5_i32.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c6_i32 : BitVec 32 := 6#32
  let c0_i32_0 : BitVec 32 := 0#32
  let c0_i32_1 : BitVec 32 := 0#32
  ![c6_i32.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c7_i32 : BitVec 32 := 7#32
  let c0_i32_0 : BitVec 32 := 0#32
  let c0_i32_1 : BitVec 32 := 0#32
  ![c7_i32.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x112x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SmallSumRefIdeal.lean ====
abbrev S8x560x1024 : Shape := ⟨3, ![8, 560, 1024]⟩
abbrev S_ : Shape := ⟨0, ![]⟩
abbrev S560x1024 : Shape := ⟨2, ![560, 1024]⟩
abbrev S552x1024 : Shape := ⟨2, ![552, 1024]⟩
abbrev S4x138x1024 : Shape := ⟨3, ![4, 138, 1024]⟩
abbrev S4x1x1024 : Shape := ⟨3, ![4, 1, 1024]⟩
abbrev S4x1024 : Shape := ⟨2, ![4, 1024]⟩
abbrev S4x1x16 : Shape := ⟨3, ![4, 1, 16]⟩
abbrev S4x16 : Shape := ⟨2, ![4, 16]⟩
abbrev S4x128x1024 : Shape := ⟨3, ![4, 128, 1024]⟩
abbrev S4x8x128x128 : Shape := ⟨4, ![4, 8, 128, 128]⟩
abbrev S4x8x128 : Shape := ⟨3, ![4, 8, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x560x1024, .f32⟩
  | .hbm, ⟨1, _⟩ => ⟨S_, .f32⟩
  | .hbm, ⟨2, _⟩ => ⟨S560x1024, .f32⟩
  | .hbm, ⟨3, _⟩ => ⟨S552x1024, .f32⟩
  | .hbm, ⟨4, _⟩ => ⟨S4x138x1024, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S4x1024, .f32⟩
  | .hbm, ⟨11, _⟩ => ⟨S4x1x16, .f32⟩
  | .hbm, ⟨12, _⟩ => ⟨S4x16, .f32⟩
  | .hbm, ⟨13, _⟩ => ⟨S4x1x1024, .f32⟩
  | .hbm, ⟨14, _⟩ => ⟨S4x1024, .f32⟩
  | .hbm, ⟨15, _⟩ => ⟨S4x1x1024, .f32⟩
  | .hbm, ⟨16, _⟩ => ⟨S4x1024, .f32⟩
  | .hbm, ⟨17, _⟩ => ⟨S4x128x1024, .f32⟩
  | .hbm, ⟨18, _⟩ => ⟨S4x8x128x128, .f32⟩
  | .hbm, ⟨19, _⟩ => ⟨S4x1x1024, .f32⟩
  | .hbm, ⟨20, _⟩ => ⟨S4x1024, .f32⟩
  | .hbm, ⟨21, _⟩ => ⟨S4x8x128, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S4x1024, .f32⟩
  | _, _ => ⟨S8x560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩

abbrev nD : Nat := 1
abbrev τ : Topo := Topo.v7x

variable {F : FTy → Type} [FloatOps F]
-- ==== AdamVec.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVecIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVecRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn1.lean ====
abbrev S4096x1408 : Shape := ⟨2, ![4096, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn1Ideal.lean ====
abbrev S4096x1408 : Shape := ⟨2, ![4096, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn1RefIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn2.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn2Ideal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn2RefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4096x1344 : Shape := ⟨2, ![4096, 1344]⟩
abbrev S128x1344 : Shape := ⟨2, ![128, 1344]⟩

abbrev nBuf : Space → Nat
  | .hbm => 7
  | .vmem => 14
  | .smem => 0
  | _ => 0

abbrev bufTy : (tb : Table) → Fin (tcTables nBuf tb) → BufTy
  | .hbm, ⟨0, _⟩ => ⟨S4096x1344, .f32⟩
  | .hbm, ⟨1, _⟩ => ⟨S4096x1344, .f32⟩
  | .hbm, ⟨2, _⟩ => ⟨S4096x1344, .f32⟩
  | .hbm, ⟨3, _⟩ => ⟨S4096x1344, .f32⟩
  | .hbm, ⟨4, _⟩ => ⟨S4096x1344, .f32⟩
  | .hbm, ⟨5, _⟩ => ⟨S4096x1344, .f32⟩
  | .hbm, ⟨6, _⟩ => ⟨S4096x1344, .f32⟩
  | .local _ .vmem, ⟨0, _⟩ => ⟨S128x1344, .f32⟩
  | .local _ .vmem, ⟨1, _⟩ => ⟨S128x1344, .f32⟩
  | .local _ .vmem, ⟨2, _⟩ => ⟨S128x1344, .f32⟩
  | .local _ .vmem, ⟨3, _⟩ => ⟨S128x1344, .f32⟩
  | .local _ .vmem, ⟨4, _⟩ => ⟨S128x1344, .f32⟩
  | .local _ .vmem, ⟨5, _⟩ => ⟨S128x1344, .f32⟩
  | .local _ .vmem, ⟨6, _⟩ => ⟨S128x1344, .f32⟩
  | .local _ .vmem, ⟨7, _⟩ => ⟨S128x1344, .f32⟩
  | .local _ .vmem, ⟨8, _⟩ => ⟨S128x1344, .f32⟩
  | .local _ .vmem, ⟨9, _⟩ => ⟨S128x1344, .f32⟩
  | .local _ .vmem, ⟨10, _⟩ => ⟨S128x1344, .f32⟩
  | .local _ .vmem, ⟨11, _⟩ => ⟨S128x1344, .f32⟩
  | .local _ .vmem, ⟨12, _⟩ => ⟨S128x1344, .f32⟩
  | .local _ .vmem, ⟨13, _⟩ => ⟨S128x1344, .f32⟩
  | _, _ => ⟨S4096x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4096x1344 : Shape := ⟨2, ![4096, 1344]⟩
abbrev S128x1344 : Shape := ⟨2, ![128, 1344]⟩

abbrev nBuf : Space → Nat
  | .hbm => 7
  | .vmem => 14
  | .smem => 0
  | _ => 0

abbrev bufTy : (tb : Table) → Fin (tcTables nBuf tb) → BufTy
  | .hbm, ⟨0, _⟩ => ⟨S4096x1344, .f32⟩
  | .hbm, ⟨1, _⟩ => ⟨S4096x1344, .f32⟩
  | .hbm, ⟨2, _⟩ => ⟨S4096x1344, .f32⟩
  | .hbm, ⟨3, _⟩ => ⟨S4096x1344, .f32⟩
  | .hbm, ⟨4, _⟩ => ⟨S4096x1344, .f32⟩
  | .hbm, ⟨5, _⟩ => ⟨S4096x1344, .f32⟩
  | .hbm, ⟨6, _⟩ => ⟨S4096x1344, .f32⟩
  | .local _ .vmem, ⟨0, _⟩ => ⟨S128x1344, .f32⟩
  | .local _ .vmem, ⟨1, _⟩ => ⟨S128x1344, .f32⟩
  | .local _ .vmem, ⟨2, _⟩ => ⟨S128x1344, .f32⟩
  | .local _ .vmem, ⟨3, _⟩ => ⟨S128x1344, .f32⟩
  | .local _ .vmem, ⟨4, _⟩ => ⟨S128x1344, .f32⟩
  | .local _ .vmem, ⟨5, _⟩ => ⟨S128x1344, .f32⟩
  | .local _ .vmem, ⟨6, _⟩ => ⟨S128x1344, .f32⟩
  | .local _ .vmem, ⟨7, _⟩ => ⟨S128x1344, .f32⟩
  | .local _ .vmem, ⟨8, _⟩ => ⟨S128x1344, .f32⟩
  | .local _ .vmem, ⟨9, _⟩ => ⟨S128x1344, .f32⟩
  | .local _ .vmem, ⟨10, _⟩ => ⟨S128x1344, .f32⟩
  | .local _ .vmem, ⟨11, _⟩ => ⟨S128x1344, .f32⟩
  | .local _ .vmem, ⟨12, _⟩ => ⟨S128x1344, .f32⟩
  | .local _ .vmem, ⟨13, _⟩ => ⟨S128x1344, .f32⟩
  | _, _ => ⟨S4096x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4096x1344 : Shape := ⟨2, ![4096, 1344]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1344, .f32⟩
  | .hbm, ⟨1, _⟩ => ⟨S4096x1344, .f32⟩
  | .hbm, ⟨2, _⟩ => ⟨S4096x1344, .f32⟩
  | .hbm, ⟨3, _⟩ => ⟨S4096x1344, .f32⟩
  | .hbm, ⟨4, _⟩ => ⟨S_, .f32⟩
  | .hbm, ⟨5, _⟩ => ⟨S4096x1344, .f32⟩
  | .hbm, ⟨6, _⟩ => ⟨S4096x1344, .f32⟩
  | .hbm, ⟨7, _⟩ => ⟨S_, .f32⟩
  | .hbm, ⟨8, _⟩ => ⟨S4096x1344, .f32⟩
  | .hbm, ⟨9, _⟩ => ⟨S4096x1344, .f32⟩
  | .hbm, ⟨10, _⟩ => ⟨S4096x1344, .f32⟩
  | .hbm, ⟨11, _⟩ => ⟨S_, .f32⟩
  | .hbm, ⟨12, _⟩ => ⟨S4096x1344, .f32⟩
  | .hbm, ⟨13, _⟩ => ⟨S4096x1344, .f32⟩
  | .hbm, ⟨14, _⟩ => ⟨S4096x1344, .f32⟩
  | .hbm, ⟨15, _⟩ => ⟨S_, .f32⟩
  | .hbm, ⟨16, _⟩ => ⟨S4096x1344, .f32⟩
  | .hbm, ⟨17, _⟩ => ⟨S4096x1344, .f32⟩
  | .hbm, ⟨18, _⟩ => ⟨S4096x1344, .f32⟩
  | .hbm, ⟨19, _⟩ => ⟨S_, .f32⟩
  | .hbm, ⟨20, _⟩ => ⟨S4096x1344, .f32⟩
  | .hbm, ⟨21, _⟩ => ⟨S4096x1344, .f32⟩
  | .hbm, ⟨22, _⟩ => ⟨S_, .f32⟩
  | .hbm, ⟨23, _⟩ => ⟨S4096x1344, .f32⟩
  | .hbm, ⟨24, _⟩ => ⟨S4096x1344, .f32⟩
  | .hbm, ⟨25, _⟩ => ⟨S4096x1344, .f32⟩
  | .hbm, ⟨26, _⟩ => ⟨S_, .f32⟩
  | .hbm, ⟨27, _⟩ => ⟨S4096x1344, .f32⟩
  | .hbm, ⟨28, _⟩ => ⟨S4096x1344, .f32⟩
  | .hbm, ⟨29, _⟩ => ⟨S4096x1344, .f32⟩
  | .hbm, ⟨30, _⟩ => ⟨S_, .f32⟩
  | .hbm, ⟨31, _⟩ => ⟨S4096x1344, .f32⟩
  | .hbm, ⟨32, _⟩ => ⟨S4096x1344, .f32⟩
  | .hbm, ⟨33, _⟩ => ⟨S4096x1344, .f32⟩
  | .hbm, ⟨34, _⟩ => ⟨S_, .f32⟩
  | .hbm, ⟨35, _⟩ => ⟨S4096x1344, .f32⟩
  | .hbm, ⟨36, _⟩ => ⟨S4096x1344, .f32⟩
  | _, _ => ⟨S4096x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSink.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinkIdeal.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinkRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSguW.lean ====
abbrev S4096x128 : Shape := ⟨2, ![4096, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSguWIdeal.lean ====
abbrev S4096x128 : Shape := ⟨2, ![4096, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSguWRefIdeal.lean ====
abbrev S4096x128 : Shape := ⟨2, ![4096, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSguB.lean ====
abbrev S32x128 : Shape := ⟨2, ![32, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSguBIdeal.lean ====
abbrev S32x128 : Shape := ⟨2, ![32, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSguBRefIdeal.lean ====
abbrev S32x128 : Shape := ⟨2, ![32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S32x128, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S32x128, .f32⟩
  | .hbm, ⟨14, _⟩ => ⟨S32x128, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S_, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S_, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S32x128, .f32⟩
  | .hbm, ⟨36, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSq.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSqRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel at bits runs to the end and keeps its arguments. -/
theorem frame_kernel : Cert.quiescent_Kernel := fun m ρ _ => Cert.Kernel.Gen.frame m ρ

/-- The kernel over the reals runs to the end and keeps its arguments. -/
theorem frame_kernelIdeal : Cert.quiescent_KernelIdeal := fun m ρ _ => Cert.KernelIdeal.Gen.frame m ρ

/-- The reference's run, weakened to the arguments it keeps. -/
theorem frame_referenceIdeal : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run m ρ)

/-- The two named constants of the kernel are the reals they are named after. -/
theorem preserves_kernel : Cert.preserves_Kernel_KernelIdeal :=
  ⟨IdealRules.named_const.statement Cert.KernelIdeal.κ "rsqrt2" .f32 0x3F3504F3#32 (((Real.sqrt 2)⁻¹ : ℝ) : EReal) rfl,
    IdealRules.named_const.statement Cert.KernelIdeal.κ "rsqrt2pi" .f32 0x3ECC422A#32
      (((Real.sqrt (2 * Real.pi))⁻¹ : ℝ) : EReal) rfl⟩

end Cert.Proof

end
-- ==== Proof.Sgu.Reals.lean ====
/- The gating unit's gradient over the real numbers: what the kernel and the reference both compute, and the three
   identities between their spellings (the gelu's derivative, the layer norm's gradient, the constants). -/
module

public import Mathlib.Analysis.SpecialFunctions.Trigonometric.Arctan
public import Idealize.ShloMosaic.PureOps.Ideal
public import Idealize.ShloMosaic.PureOps.Ideal.Laws
public import Idealize.ShloMosaic.Lib.IdealHost

@[expose] public section

noncomputable section

namespace Cert.Sgu

open Idealize.ShloMosaic

/-! ## Constants -/

theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_one : Ideal.ofBits .f32 0x3F800000#32 = ((1 : ℝ) : EReal) := by
  simp
theorem ofBits_zero : Ideal.ofBits .f32 0x00000000#32 = ((0 : ℝ) : EReal) := by
  simp

/-- The layer norm's epsilon, as the float both programs spell. -/
def eps : ℝ := 10995116 / 2 ^ 40
theorem eps_pos : 0 < eps := by unfold eps; positivity
theorem ofBits_eps : Ideal.ofBits .f32 0x3727C5AC#32 = ((eps : ℝ) : EReal) := by
  unfold eps
  simp [Ideal.ofBits, Ideal.ieee, -EReal.coe_mul]; norm_num

/-! ## A finite sum of reals -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The gelu -/

/-- The error function on the reals. -/
def erfR (x : ℝ) : ℝ := 2 / Real.sqrt Real.pi * ∫ t in (0 : ℝ)..x, Real.exp (-(t ^ 2))
theorem erf_coe (x : ℝ) : Ideal.erf (x : EReal) = ((erfR x : ℝ) : EReal) := rfl

def gel (x : ℝ) : ℝ := x * (1 / 2 * (1 + erfR (x * (Real.sqrt 2)⁻¹)))
def gelD (x : ℝ) : ℝ :=
  1 / 2 * (1 + erfR (x * (Real.sqrt 2)⁻¹)) + x * Real.exp (-(1 / 2) * x * x) * (Real.sqrt (2 * Real.pi))⁻¹

theorem gel_host (x : ℝ) : 1 / 2 * x * (1 + erfR (x * (1 / Real.sqrt 2))) = gel x := by
  unfold gel; rw [one_div (Real.sqrt 2)]; ring

theorem gelD_host (x d : ℝ) :
    2 * (1 / Real.sqrt (4 * Real.arctan 1)) * Real.exp (-(x * (1 / Real.sqrt 2)) * (x * (1 / Real.sqrt 2))) * (1 / 2 * x * d)
        * (1 / Real.sqrt 2) + 1 / 2 * (d * (1 + erfR (x * (1 / Real.sqrt 2)))) = d * gelD x := by
  have h2 : Real.sqrt 2 * Real.sqrt 2 = 2 := Real.mul_self_sqrt (by norm_num)
  have hpi : 4 * Real.arctan 1 = Real.pi := by rw [Real.arctan_one]; ring
  have he : -(x * (1 / Real.sqrt 2)) * (x * (1 / Real.sqrt 2)) = -(1 / 2) * x * x := by
    have : (1 / Real.sqrt 2) * (1 / Real.sqrt 2) = 1 / 2 := by
      rw [div_mul_div_comm, h2]; norm_num
    calc _ = -(x * x) * ((1 / Real.sqrt 2) * (1 / Real.sqrt 2)) := by ring
      _ = _ := by rw [this]; ring
  rw [hpi, he]
  unfold gelD
  rw [Real.sqrt_mul (by norm_num : (0 : ℝ) ≤ 2), mul_inv, one_div (Real.sqrt 2), one_div (Real.sqrt Real.pi)]
  ring

/-! ## The layer norm of a row and its gradient -/

def mu (x : Fin 1024 → ℝ) : ℝ := (∑ k, gel (x k)) * (1 / 1024)
def xc (x : Fin 1024 → ℝ) (c : Fin 1024) : ℝ := gel (x c) - mu x
def var (x : Fin 1024 → ℝ) : ℝ := (∑ k, xc x k * xc x k) * (1 / 1024)
def rs (x : Fin 1024 → ℝ) : ℝ := (Real.sqrt (var x + eps))⁻¹
def vh (x : Fin 1024 → ℝ) (c : Fin 1024) : ℝ := xc x c * rs x
def vn (lg lb : Fin 1024 → ℝ) (x : Fin 1024 → ℝ) (c : Fin 1024) : ℝ := vh x c * lg c + lb c

theorem var_nonneg (x : Fin 1024 → ℝ) : 0 ≤ var x :=
  mul_nonneg (Finset.sum_nonneg fun k _ => mul_self_nonneg _) (by norm_num)
theorem var_eps_pos (x : Fin 1024 → ℝ) : 0 < var x + eps := add_pos_of_nonneg_of_pos (var_nonneg x) eps_pos

theorem rsqrt_var (x : Fin 1024 → ℝ) : Ideal.rsqrt ((var x + eps : ℝ) : EReal) = ((rs x : ℝ) : EReal) := by
  rw [Ideal.rsqrt_coe, if_neg (not_lt.mpr (var_eps_pos x).le), if_neg (var_eps_pos x).ne']; rfl

/-- The gradient of the norm's input from the gradient `d` of its output. -/
def dv (lg : Fin 1024 → ℝ) (x d : Fin 1024 → ℝ) (c : Fin 1024) : ℝ :=
  rs x * (d c * lg c - (∑ k, d k * lg k) * (1 / 1024) - vh x c * ((∑ k, d k * lg k * vh x k) * (1 / 1024))) * gelD (x c)

theorem sum_xc (x : Fin 1024 → ℝ) : ∑ k, xc x k = 0 := by
  unfold xc mu
  rw [Finset.sum_sub_distrib, Finset.sum_const, Finset.card_univ, Fintype.card_fin, nsmul_eq_mul]
  push_cast; ring

theorem rs_sq (x : Fin 1024 → ℝ) : rs x * (1 / (var x + eps)) = rs x * rs x * rs x := by
  have h := Real.mul_self_sqrt (var_eps_pos x).le
  unfold rs
  rw [mul_assoc, ← mul_inv, h, one_div]

/-- The reference's gradient of the norm's input, term by term as its derivative is printed. -/
def dvHost (lg : Fin 1024 → ℝ) (x d : Fin 1024 → ℝ) (c : Fin 1024) : ℝ :=
  let q : ℝ := (∑ k, xc x k * (d k * lg k)) * (-(1 / 2) * (rs x * (1 / (var x + eps)))) * (1 / 1024)
  let e : Fin 1024 → ℝ := fun c => d c * lg c * rs x + xc x c * q + q * xc x c
  e c + (∑ k, -(e k)) * (1 / 1024)

theorem dvHost_eq (lg : Fin 1024 → ℝ) (x d : Fin 1024 → ℝ) (c : Fin 1024) :
    dvHost lg x d c * gelD (x c) = dv lg x d c := by
  unfold dvHost dv
  dsimp only
  rw [rs_sq]
  have h1 : ∑ k, d k * lg k * vh x k = (∑ k, xc x k * (d k * lg k)) * rs x := by
    rw [Finset.sum_mul]; exact Finset.sum_congr rfl fun k _ => by unfold vh; ring
  rw [h1]
  generalize hA : ∑ k, xc x k * (d k * lg k) = A
  generalize hq : A * (-(1 / 2) * (rs x * rs x * rs x)) * (1 / 1024) = q
  have h2 : ∑ k, -(d k * lg k * rs x + xc x k * q + q * xc x k) = -((∑ k, d k * lg k) * rs x) := by
    rw [Finset.sum_neg_distrib, Finset.sum_add_distrib, Finset.sum_add_distrib, ← Finset.sum_mul, ← Finset.sum_mul,
      ← Finset.mul_sum, sum_xc]
    ring
  rw [h2, ← hq]
  unfold vh
  ring

end Cert.Sgu

end
-- ==== Proof.Sgu.Inp.lean ====
/- The five gradients of the gating unit as functions of real arrays. -/
module

public import proofs.«01_k».proof.Proof.Sgu.Reals

@[expose] public section

noncomputable section

namespace Cert.Sgu

/-- The arguments of the gradient as real arrays: the two halves of the pre-activation, the gradient of the unit's
    output, the norm's scale and shift, the mixing matrices and their bias. -/
structure Inp where
  U : Fin 16384 → Fin 1024 → ℝ
  V : Fin 16384 → Fin 1024 → ℝ
  DY : Fin 16384 → Fin 1024 → ℝ
  LG : Fin 1024 → ℝ
  LB : Fin 1024 → ℝ
  W : Fin 8 → Fin 128 → Fin 128 → ℝ
  B : Fin 8 → Fin 128 → ℝ

/-- Token `t` of chunk `n`. -/
def tok (n t : Fin 128) : Fin 16384 := ⟨n.val * 128 + t.val, by omega⟩
/-- Channel `c` of head `g`. -/
def col (g : Fin 8) (c : Fin 128) : Fin 1024 := ⟨g.val * 128 + c.val, by omega⟩
/-- The chunk of a token and its place there; the head of a channel. -/
def chk (r : Fin 16384) : Fin 128 := ⟨r.val / 128, by omega⟩
def pos (r : Fin 16384) : Fin 128 := ⟨r.val % 128, by omega⟩
def hd (c : Fin 1024) : Fin 8 := ⟨c.val / 128, by omega⟩
def lane (c : Fin 1024) : Fin 128 := ⟨c.val % 128, by omega⟩

theorem tok_chk_pos (r : Fin 16384) : tok (chk r) (pos r) = r := by
  apply Fin.ext; simp only [tok, chk, pos]; omega
theorem chk_tok (n t : Fin 128) : chk (tok n t) = n := by
  apply Fin.ext; simp only [tok, chk]; omega
theorem pos_tok (n t : Fin 128) : pos (tok n t) = t := by
  apply Fin.ext; simp only [tok, pos]; omega
theorem hd_col (g : Fin 8) (c : Fin 128) : hd (col g c) = g := by
  apply Fin.ext; simp only [col, hd]; omega
theorem lane_col (g : Fin 8) (c : Fin 128) : lane (col g c) = c := by
  apply Fin.ext; simp only [col, lane]; omega
theorem col_hd_lane (c : Fin 1024) : col (hd c) (lane c) = c := by
  apply Fin.ext; simp only [col, hd, lane]; omega

namespace Inp

variable (I : Inp)

def Wm (g : Fin 8) (t s : Fin 128) : ℝ := if s.val ≤ t.val then I.W g t s else 0
def dsf (r : Fin 16384) (c : Fin 1024) : ℝ := gel (I.U r c) * I.DY r c
def vnr (r : Fin 16384) (c : Fin 1024) : ℝ := vn I.LG I.LB (I.V r) c
def s (r : Fin 16384) (c : Fin 1024) : ℝ :=
  (∑ k, I.Wm (hd c) (pos r) k * I.vnr (tok (chk r) k) c) + I.B (hd c) (pos r)
def du (r : Fin 16384) (c : Fin 1024) : ℝ := I.DY r c * I.s r c * gelD (I.U r c)
def dvn (r : Fin 16384) (c : Fin 1024) : ℝ := ∑ k, I.Wm (hd c) k (pos r) * I.dsf (tok (chk r) k) c
def dvr (r : Fin 16384) (c : Fin 1024) : ℝ := dv I.LG (I.V r) (I.dvn r) c
def dlg (c : Fin 1024) : ℝ := ∑ r, I.dvn r c * vh (I.V r) c
def dlb (c : Fin 1024) : ℝ := ∑ r, I.dvn r c
def dw (g : Fin 8) (t s : Fin 128) : ℝ :=
  if s.val ≤ t.val then ∑ n, ∑ c, I.dsf (tok n t) (col g c) * I.vnr (tok n s) (col g c) else 0
def db (g : Fin 8) (t : Fin 128) : ℝ := ∑ n, ∑ c, I.dsf (tok n t) (col g c)

end Inp

end Cert.Sgu

end
-- ==== Proof.Sgu.Heads.lean ====
/- The whole-block stages of the kernel's body, read over the reals: the gelu, the layer norm and its output. -/
module

public import proofs.«01_k».proof.Proof.Sgu.Inp
public import proofs.«01_k».proof.Proof.Gen.KernelIdeal.Value
public import Idealize.ShloMosaic.Lib.Claim
public import Idealize.ShloMosaic.Lib.Pointwise
public import Idealize.ShloMosaic.Lib.Pipeline.ValueKit

@[expose] public section

set_option maxRecDepth 16384

noncomputable section

namespace Cert.Sgu

open Cert.KernelIdeal Cert.KernelIdeal.Gen Idealize.ShloMosaic Idealize.ShloMosaic.TcCoe Idealize.ShloMosaic.Tactic Idealize.SL.Sem
open Idealize.ShloMosaic.Pipeline (Dat)

theorem named_rsqrt2 : Named.named (F := Ideal) Cert.KernelIdeal.κ "rsqrt2" (φ := .f32) 0x3F3504F3#32 = (((Real.sqrt 2)⁻¹ : ℝ) : EReal) :=
  IdealRules.named_const.ideal_named_scalar _ _ _ _ rfl
theorem named_rsqrt2pi : Named.named (F := Ideal) Cert.KernelIdeal.κ "rsqrt2pi" (φ := .f32) 0x3ECC422A#32 = (((Real.sqrt (2 * Real.pi))⁻¹ : ℝ) : EReal) :=
  IdealRules.named_const.ideal_named_scalar _ _ _ _ rfl
theorem erf_f32 (x : ℝ) : (FloatOps.erf (F := Ideal) (φ := .f32) (x : EReal) : EReal) = ((erfR x : ℝ) : EReal) := rfl
theorem div_1024 (x : ℝ) : Ideal.div (x : EReal) (Ideal.ofBits .f32 0x44800000#32) = ((x * (1 / 1024) : ℝ) : EReal) := by
  rw [ofBits_1024, Ideal.div_coe (by norm_num), EReal.coe_mul]

variable {X0 X1 : Fin 512 → Fin 1024 → ℝ} {LG LB : Fin 1024 → ℝ}
  {x0 x1 : FVec Ideal S512x1024 .bf16} {x3 x4 : FVec Ideal S1x1024 .f32}

theorem pay6 (h : ∀ r c, x0 (ix2 r c) = ((X0 r c : ℝ) : EReal)) (r : Fin 512) (c : Fin 1024) :
    k0_pay6 (F := Ideal) x0 (ix2 r c) = ((X0 r c : ℝ) : EReal) := by
  pointwise [k0_pay6, h]
theorem pay7 (h : ∀ r c, x1 (ix2 r c) = ((X1 r c : ℝ) : EReal)) (r : Fin 512) (c : Fin 1024) :
    k0_pay7 (F := Ideal) x1 (ix2 r c) = ((X1 r c : ℝ) : EReal) := by
  pointwise [k0_pay7, h]
theorem pay8 (h : ∀ r c, x0 (ix2 r c) = ((X0 r c : ℝ) : EReal)) (r : Fin 512) (c : Fin 1024) :
    k0_pay8 (F := Ideal) x0 (ix2 r c) = ((gel (X0 r c) : ℝ) : EReal) := by
  pointwise [k0_pay8, h]
  simp only [pay6 h, named_rsqrt2, ofBits_half, ← EReal.coe_mul, erf_f32, ← EReal.coe_one, ← EReal.coe_add]; rfl
theorem pay9 (h : ∀ r c, x1 (ix2 r c) = ((X1 r c : ℝ) : EReal)) (r : Fin 512) (c : Fin 1024) :
    k0_pay9 (F := Ideal) x1 (ix2 r c) = ((xc (X1 r) c : ℝ) : EReal) := by
  pointwise [k0_pay9, k0_pay7, h]
  simp only [named_rsqrt2, ofBits_half, ← EReal.coe_mul, erf_f32, ← EReal.coe_one, ← EReal.coe_add, coe_sum, div_1024, ← EReal.coe_sub]
  rfl
theorem pay10 (h : ∀ r c, x1 (ix2 r c) = ((X1 r c : ℝ) : EReal)) (r : Fin 512) :
    k0_pay10 (F := Ideal) x1 (ix2 r 0) = ((rs (X1 r) : ℝ) : EReal) := by
  pointwise [k0_pay10, pay9 h]
  simp only [← EReal.coe_mul, coe_sum, div_1024]
  rw [ofBits_eps, ← EReal.coe_add]
  exact rsqrt_var _
theorem pay11 (h : ∀ r c, x1 (ix2 r c) = ((X1 r c : ℝ) : EReal)) (r : Fin 512) (c : Fin 1024) :
    k0_pay11 (F := Ideal) x1 (ix2 r c) = ((vh (X1 r) c : ℝ) : EReal) := by
  pointwise [k0_pay11]
  rw [pay9 h, pay10 h, ← EReal.coe_mul]; rfl
theorem pay12 {v38 : FVec Ideal S512x1024 .f32} (h : ∀ r c, v38 (ix2 r c) = ((vh (X1 r) c : ℝ) : EReal))
    (hg : ∀ c, x3 (ix2 0 c) = ((LG c : ℝ) : EReal)) (hb : ∀ c, x4 (ix2 0 c) = ((LB c : ℝ) : EReal)) (r : Fin 512) (c : Fin 1024) :
    k0_pay12 (F := Ideal) v38 x3 x4 (ix2 r c) = ((vn LG LB (X1 r) c : ℝ) : EReal) := by
  pointwise [k0_pay12, h, hg, hb]
  simp only [← EReal.coe_mul, ← EReal.coe_add]; rfl

/-- The first half's gradient times the gelu's derivative, as the body ends: the second half's output. -/
theorem pay1 {v6 v38 v1863 v1869 : FVec Ideal S512x1024 .f32} {v36 : FVec Ideal S512x1 .f32} {E : Fin 512 → Fin 1024 → ℝ}
    (h6 : ∀ r c, v6 (ix2 r c) = ((X1 r c : ℝ) : EReal)) (h36 : ∀ r, v36 (ix2 r 0) = ((rs (X1 r) : ℝ) : EReal))
    (h38 : ∀ r c, v38 (ix2 r c) = ((vh (X1 r) c : ℝ) : EReal))
    (h1863 : ∀ r c, v1863 (ix2 r c) = ((E r c * LG c : ℝ) : EReal))
    (h1869 : ∀ r c, v1869 (ix2 r c) = ((E r c * LG c - (∑ k, E r k * LG k) * (1 / 1024) : ℝ) : EReal)) (r : Fin 512) (c : Fin 1024) :
    k0_pay1 (F := Ideal) v6 v36 v38 v1863 v1869 (ix2 r c) = ((dv LG (X1 r) (E r) c : ℝ) : EReal) := by
  pointwise [k0_pay1, h6, h36, h38, h1863, h1869]
  simp only [named_rsqrt2, named_rsqrt2pi, ofBits_half, ofBits_neg_half, ← EReal.coe_mul, erf_f32, ← EReal.coe_one, ← EReal.coe_add, coe_sum, div_1024, ← EReal.coe_sub, Ideal.exp_coe]
  rfl

end Cert.Sgu

end
-- ==== Proof.Sgu.Tiles.lean ====
/- One 128 by 128 tile of the body: what it stores in each output, read over the reals. -/
module

public import proofs.«01_k».proof.Proof.Sgu.Heads
public import Idealize.ShloMosaic.Lib.Claim
public import Idealize.ShloMosaic.Lib.Pointwise
public import Idealize.ShloMosaic.Lib.Pipeline.ValueKit

@[expose] public section

set_option maxRecDepth 16384

noncomputable section

namespace Cert.Sgu

open Cert.KernelIdeal Cert.KernelIdeal.Gen Idealize.ShloMosaic Idealize.ShloMosaic.TcCoe Idealize.ShloMosaic.Tactic Idealize.SL.Sem
open Idealize.ShloMosaic.Pipeline (Dat)

/-- Row `r` of point `t`'s block. -/
def br (t : Fin 32) (r : Fin 512) : Fin 16384 := ⟨512 * t.val + r.val, by omega⟩
/-- The chunk `q` of point `t`. -/
def bc (t : Fin 32) (q : Fin 4) : Fin 128 := ⟨4 * t.val + q.val, by omega⟩

theorem br_tile (t : Fin 32) (q : Fin 4) (i : Fin 128) (h : 128 * q.val + i.val < 512) : br t ⟨128 * q.val + i.val, h⟩ = tok (bc t q) i := by
  apply Fin.ext; simp only [br, bc, tok]; omega
theorem col_tile (g : Fin 8) (k : Fin 128) (h : 128 * g.val + k.val < 1024) : (⟨128 * g.val + k.val, h⟩ : Fin 1024) = col g k := by
  apply Fin.ext; simp only [col]; omega

/-- The blocks a point reads are the real arrays' rows there. -/
structure Blk (I : Inp) (t : Fin 32) (x0 x1 x2 : FVec Ideal S512x1024 .bf16) (x3 x4 : FVec Ideal S1x1024 .f32)
    (x5 x6 : FVec Ideal S8x128x128 .bf16) (x7 : FVec Ideal S8x128x128 .f32) : Prop where
  hU (r : Fin 512) (c : Fin 1024) : x0 (ix2 r c) = ((I.U (br t r) c : ℝ) : EReal)
  hV (r : Fin 512) (c : Fin 1024) : x1 (ix2 r c) = ((I.V (br t r) c : ℝ) : EReal)
  hD (r : Fin 512) (c : Fin 1024) : x2 (ix2 r c) = ((I.DY (br t r) c : ℝ) : EReal)
  hG (c : Fin 1024) : x3 (ix2 0 c) = ((I.LG c : ℝ) : EReal)
  hB (c : Fin 1024) : x4 (ix2 0 c) = ((I.LB c : ℝ) : EReal)
  hW (g : Fin 8) (i j : Fin 128) : x5 (ix3 g i j) = ((I.Wm g i j : ℝ) : EReal)
  hT (g : Fin 8) (i j : Fin 128) : x6 (ix3 g i j) = ((I.Wm g j i : ℝ) : EReal)
  hb (g : Fin 8) (i l : Fin 128) : x7 (ix3 g i l) = ((I.B g i : ℝ) : EReal)

/-- The tile of the gradient before the mix: the output's gradient times the first half's gelu. -/
def dsfP (o0 o1 : ℕ) (hs : S512x1024.Slices ![o0, o1] S128x128) (GU : FVec Ideal S512x1024 .f32) (dy : FVec Ideal S128x128 .bf16) : FVec Ideal S128x128 .f32 :=
  mulf (extf .f32 dy bitsLt_bf16_f32) (extractStridedSlice S128x128 ![o0, o1] GU hs)
/-- The mixing matrix's gradient with this tile's added. -/
def dwP (o0 o1 : ℕ) (hs : S512x1024.Slices ![o0, o1] S128x128) (GU : FVec Ideal S512x1024 .f32) (VN : FVec Ideal S512x1024 .bf16) (dy : FVec Ideal S128x128 .bf16)
    (prev : FVec Ideal S1x128x128 .f32) : FVec Ideal S1x128x128 .f32 :=
  shapeCast S1x128x128 (addf (shapeCast S128x128 prev shapeCasts_S1x128x128_S128x128)
    (select k0_pay13 (matmul dot_S128x128_S128x128_S128x128_1_1_0_0_n_n none (truncf .bf16 (dsfP o0 o1 hs GU dy) bitsLt_bf16_f32)
      (extractStridedSlice S128x128 ![o0, o1] VN hs) (constant S128x128 .f32 0x00000000#32))
      (broadcast S128x128 (Scalar.ofBits (F := Ideal) .f32 0x00000000#32)))) shapeCasts_S128x128_S1x128x128
/-- The tile of the norm's output's gradient. -/
def dvnP (o0 o1 : ℕ) (hs : S512x1024.Slices ![o0, o1] S128x128) (GU : FVec Ideal S512x1024 .f32) (dy : FVec Ideal S128x128 .bf16) (wt : FVec Ideal S1x128x128 .bf16) : FVec Ideal S128x128 .f32 :=
  shapeCast S128x128 (matmul dot_S128x128_S128x128_S128x128_1_0_0_1_n_n none (shapeCast S128x128 wt shapeCasts_S1x128x128_S128x128)
    (truncf .bf16 (dsfP o0 o1 hs GU dy) bitsLt_bf16_f32) (constant S128x128 .f32 0x00000000#32)) shapeCasts_S128x128_S128x128

/-- The tile of the first half's gradient. -/
def duP (o0 o1 : ℕ) (hs : S512x1024.Slices ![o0, o1] S128x128) (US : FVec Ideal S512x1024 .f32) (VN : FVec Ideal S512x1024 .bf16) (dy : FVec Ideal S128x128 .bf16)
    (w : FVec Ideal S1x128x128 .bf16) (bias : FVec Ideal S1x128x128 .f32) : FVec Ideal S128x128 .bf16 :=
  truncf .bf16 (mulf (mulf (extf .f32 dy bitsLt_bf16_f32)
      (addf (matmul dot_S128x128_S128x128_S128x128_1_0_0_1_n_n none (shapeCast S128x128 w shapeCasts_S1x128x128_S128x128)
        (extractStridedSlice S128x128 ![o0, o1] VN hs) (constant S128x128 .f32 0x00000000#32)) (shapeCast S128x128 bias shapeCasts_S1x128x128_S128x128)))
    (addf (mulf (broadcast S128x128 (Scalar.ofBits (F := Ideal) .f32 0x3F000000#32)) (addf (broadcast S128x128 (Scalar.ofBits (F := Ideal) .f32 0x3F800000#32))
        (erf (mulf (extractStridedSlice S128x128 ![o0, o1] US hs) (broadcast S128x128 (Named.named κ "rsqrt2" 0x3F3504F3#32))))))
      (mulf (mulf (extractStridedSlice S128x128 ![o0, o1] US hs) (exp (mulf (mulf (broadcast S128x128 (Scalar.ofBits (F := Ideal) .f32 0xBF000000#32))
        (extractStridedSlice S128x128 ![o0, o1] US hs)) (extractStridedSlice S128x128 ![o0, o1] US hs))))
        (broadcast S128x128 (Named.named κ "rsqrt2pi" 0x3ECC422A#32))))) bitsLt_bf16_f32
/-- The bias's gradient with this tile's row sums added to lane `g`. -/
def dbP (o0 o1 : ℕ) (gw : BitVec 32) (hs : S512x1024.Slices ![o0, o1] S128x128) (GU : FVec Ideal S512x1024 .f32) (dy : FVec Ideal S128x128 .bf16)
    (acc : FVec Ideal S128x128 .f32) : FVec Ideal S128x128 .f32 :=
  addf acc (select (cmpi .eq (iota .tc S128x128 32 [1] iota_S128x128_d1_w32) (broadcast S128x128 gw))
    (broadcastTo S128x128 (shapeCast S128x1 (shapeCast S128x1 (multiReduction .add [1] S128 (dsfP o0 o1 hs GU dy) 0x00000000#32 reduces_S128x128_S128 (.inl rfl) rfl)
      shapeCasts_S128_S128x1) shapeCasts_S128x1_S128x1) broadcasts_S128x1_S128x128) (broadcast S128x128 (Scalar.ofBits (F := Ideal) .f32 0x00000000#32)))

variable {I : Inp} {t : Fin 32} {GU : FVec Ideal S512x1024 .f32} {VN : FVec Ideal S512x1024 .bf16}

theorem dsfP_apply (q : Fin 4) (g : Fin 8) (hs) (hG : ∀ r c, GU (ix2 r c) = ((gel (I.U (br t r) c) : ℝ) : EReal)) {dy : FVec Ideal S128x128 .bf16}
    (hD : ∀ i k, dy (ix2 i k) = ((I.DY (tok (bc t q) i) (col g k) : ℝ) : EReal)) (i k : Fin 128) :
    dsfP (128 * q.val) (128 * g.val) hs GU dy (ix2 i k) = ((I.dsf (tok (bc t q) i) (col g k) : ℝ) : EReal) := by
  pointwise [dsfP, hG, hD]
  rw [br_tile, col_tile, ← EReal.coe_mul, mul_comm]; rfl

theorem mask_kernel : ∀ i j : Fin 128, IntOp.cmpi CmpIPredicate.sge (BitVec.ofNat 32 i.val) (BitVec.ofNat 32 j.val)
    = BitVec.ofBool (j.val ≤ i.val) := by decide +kernel
theorem select_le (i j : Fin 128) (a : ℝ) : Scalar.select (BitVec.ofBool (j.val ≤ i.val)) (a : EReal) 0 = ((if j.val ≤ i.val then a else 0 : ℝ) : EReal) := by
  by_cases e : j.val ≤ i.val <;> simp [e, Scalar.select]

/-- One chunk's share of the mixing matrix's gradient. -/
def dwT (I : Inp) (n : Fin 128) (g : Fin 8) (i j : Fin 128) : ℝ :=
  if j.val ≤ i.val then ∑ k, I.dsf (tok n i) (col g k) * I.vnr (tok n j) (col g k) else 0

theorem dwP_apply (q : Fin 4) (g : Fin 8) (hs) (hG : ∀ r c, GU (ix2 r c) = ((gel (I.U (br t r) c) : ℝ) : EReal))
    (hV : ∀ r c, VN (ix2 r c) = ((I.vnr (br t r) c : ℝ) : EReal)) {dy : FVec Ideal S128x128 .bf16}
    (hD : ∀ i k, dy (ix2 i k) = ((I.DY (tok (bc t q) i) (col g k) : ℝ) : EReal)) (prev : FVec Ideal S1x128x128 .f32) (i j : Fin 128) :
    dwP (128 * q.val) (128 * g.val) hs GU VN dy prev (ix3 0 i j) = prev (ix3 0 i j) + ((dwT I (bc t q) g i j : ℝ) : EReal) := by
  pointwise [dwP, k0_pay13, dsfP_apply q g hs hG hD, hV]
  rw [mask_kernel]
  simp only [br_tile, col_tile, ← EReal.coe_mul, coe_sum]
  rw [select_le]; rfl

theorem dvnP_apply (q : Fin 4) (g : Fin 8) (hs) (hG : ∀ r c, GU (ix2 r c) = ((gel (I.U (br t r) c) : ℝ) : EReal)) {dy : FVec Ideal S128x128 .bf16}
    (hD : ∀ i k, dy (ix2 i k) = ((I.DY (tok (bc t q) i) (col g k) : ℝ) : EReal)) {wt : FVec Ideal S1x128x128 .bf16}
    (hT : ∀ i k, wt (ix3 0 i k) = ((I.Wm g k i : ℝ) : EReal)) (i k : Fin 128) :
    dvnP (128 * q.val) (128 * g.val) hs GU dy wt (ix2 i k) = ((I.dvn (tok (bc t q) i) (col g k) : ℝ) : EReal) := by
  pointwise [dvnP, dsfP_apply q g hs hG hD, hT]
  simp only [← EReal.coe_mul, coe_sum]
  unfold Inp.dvn
  rw [hd_col, pos_tok, chk_tok]

theorem duP_apply (q : Fin 4) (g : Fin 8) (hs) {US : FVec Ideal S512x1024 .f32} (hU : ∀ r c, US (ix2 r c) = ((I.U (br t r) c : ℝ) : EReal))
    (hV : ∀ r c, VN (ix2 r c) = ((I.vnr (br t r) c : ℝ) : EReal)) {dy : FVec Ideal S128x128 .bf16}
    (hD : ∀ i k, dy (ix2 i k) = ((I.DY (tok (bc t q) i) (col g k) : ℝ) : EReal)) {w : FVec Ideal S1x128x128 .bf16} {bias : FVec Ideal S1x128x128 .f32}
    (hW : ∀ i k, w (ix3 0 i k) = ((I.Wm g i k : ℝ) : EReal)) (hb : ∀ i k, bias (ix3 0 i k) = ((I.B g i : ℝ) : EReal)) (i k : Fin 128) :
    duP (128 * q.val) (128 * g.val) hs US VN dy w bias (ix2 i k) = ((I.du (tok (bc t q) i) (col g k) : ℝ) : EReal) := by
  pointwise [duP, hU, hV, hD, hW, hb]
  simp only [br_tile, col_tile, named_rsqrt2, named_rsqrt2pi, ofBits_half, ofBits_neg_half, ← EReal.coe_mul, erf_f32, ← EReal.coe_one, ← EReal.coe_add, coe_sum, Ideal.exp_coe]
  unfold Inp.du Inp.s gelD
  rw [hd_col, pos_tok, chk_tok]

theorem lane_word : ∀ (g : Fin 8) (l : Fin 128), IntOp.cmpi CmpIPredicate.eq (BitVec.ofNat 32 l.val) (BitVec.ofNat 32 g.val)
    = BitVec.ofBool (decide (l.val = g.val)) := by decide +kernel

theorem dbP_apply (q : Fin 4) (g : Fin 8) (hs) (hG : ∀ r c, GU (ix2 r c) = ((gel (I.U (br t r) c) : ℝ) : EReal)) {dy : FVec Ideal S128x128 .bf16}
    (hD : ∀ i k, dy (ix2 i k) = ((I.DY (tok (bc t q) i) (col g k) : ℝ) : EReal)) (acc : FVec Ideal S128x128 .f32) (i l : Fin 128) :
    dbP (128 * q.val) (128 * g.val) (BitVec.ofNat 32 g.val) hs GU dy acc (ix2 i l)
      = acc (ix2 i l) + ((if l.val = g.val then ∑ k, I.dsf (tok (bc t q) i) (col g k) else 0 : ℝ) : EReal) := by
  pointwise [dbP, dsfP_apply q g hs hG hD]
  rw [lane_word, coe_sum]
  congr 1
  by_cases e : l.val = g.val <;> simp [e, Scalar.select]

end Cert.Sgu

end
-- ==== Proof.Sgu.Dw.lean ====
/- The mixing matrix's gradient: the chain of 32 tile stores, each adding to what the chain holds. -/
module

public import proofs.«01_k».proof.Proof.Sgu.Tiles
public import Idealize.ShloMosaic.Lib.Claim
public import Idealize.ShloMosaic.Lib.Pointwise
public import Idealize.ShloMosaic.Lib.Pipeline.ValueKit

@[expose] public section

set_option maxRecDepth 16384

noncomputable section

namespace Cert.Sgu

open Cert.KernelIdeal Cert.KernelIdeal.Gen Idealize.ShloMosaic Idealize.ShloMosaic.TcCoe Idealize.ShloMosaic.Tactic Idealize.SL.Sem
open Idealize.ShloMosaic.Pipeline (Dat)

theorem emb3 (g : Fin 8) (inb) (i j : Fin 128) :
    (Rect.unit (s := S8x128x128) ![g.val, 0, 0] S1x128x128.size inb).emb (ix3 0 i j : S1x128x128.Idx) = (ix3 g i j : S8x128x128.Idx) := by
  funext a
  apply Fin.ext
  match a with
  | ⟨0, _⟩ => rfl
  | ⟨1, _⟩ => show 0 + 1 * i.val = i.val; omega
  | ⟨2, _⟩ => show 0 + 1 * j.val = j.val; omega

theorem not_mem3 (g h : Fin 8) (hne : h ≠ g) (inb) (i j : Fin 128) :
    (ix3 h i j : S8x128x128.Idx) ∉ (Rect.unit (s := S8x128x128) ![g.val, 0, 0] S1x128x128.size inb).set := by
  rw [Rect.mem_set_unit]
  intro hm
  have h0 := hm 0
  have e1 : g.val ≤ h.val := h0.1
  have e2 : h.val < g.val + 1 := h0.2
  exact hne (Fin.ext (by omega))

/-- A tile store read back: the tile where it fell, what was there elsewhere. -/
theorem canon_step3 (g : Fin 8) (inb) (pay : Vec Ideal S1x128x128 .f32) (L : List (View.Piece (Elt Ideal) S8x128x128 .f32)) (h : Fin 8) (i j : Fin 128) :
    View.canon (Val := Elt Ideal) (s := S8x128x128) (e := .f32) (⟨Rect.unit ![g.val, 0, 0] S1x128x128.size inb, pay⟩ :: L) (ix3 h i j)
      = if h = g then pay (ix3 0 i j) else View.canon (Val := Elt Ideal) (s := S8x128x128) (e := .f32) L (ix3 h i j) := by
  by_cases e : h = g
  · subst e
    rw [if_pos rfl, ← emb3 h inb]
    exact View.canon_cons_emb _ _ _ _
  · rw [if_neg e]
    exact View.canon_cons_of_not_mem _ _ (not_mem3 g h e inb i j)

/-- After `n` tile stores (chunk by chunk, head by head): the base and the shares of the chunks done at that head. -/
def Acc (I : Inp) (t : Fin 32) (base : Fin 8 → Fin 128 → Fin 128 → EReal) (n : ℕ) (h : Fin 8) (i j : Fin 128) : EReal :=
  base h i j + ((∑ q : Fin 4, if q.val < (n + 7 - h.val) / 8 then dwT I (bc t q) h i j else 0 : ℝ) : EReal)

theorem Acc_skip (I : Inp) (t : Fin 32) (base) (q : Fin 4) (g h : Fin 8) (hne : h ≠ g) (i j : Fin 128) :
    Acc I t base (8 * q.val + g.val + 1) h i j = Acc I t base (8 * q.val + g.val) h i j := by
  have : (8 * q.val + g.val + 1 + 7 - h.val) / 8 = (8 * q.val + g.val + 7 - h.val) / 8 := by
    have : h.val ≠ g.val := fun e => hne (Fin.ext e)
    omega
  unfold Acc; rw [this]

theorem Acc_step (I : Inp) (t : Fin 32) (base) (q : Fin 4) (g : Fin 8) (i j : Fin 128) :
    Acc I t base (8 * q.val + g.val + 1) g i j = Acc I t base (8 * q.val + g.val) g i j + ((dwT I (bc t q) g i j : ℝ) : EReal) := by
  have e1 : (8 * q.val + g.val + 1 + 7 - g.val) / 8 = q.val + 1 := by omega
  have e2 : (8 * q.val + g.val + 7 - g.val) / 8 = q.val := by omega
  unfold Acc; rw [e1, e2, add_assoc, ← EReal.coe_add]
  congr 2
  have : (∑ x : Fin 4, if x.val < q.val + 1 then dwT I (bc t x) g i j else 0)
      = ∑ x : Fin 4, ((if x.val < q.val then dwT I (bc t x) g i j else 0) + if x = q then dwT I (bc t q) g i j else 0) := by
    refine Finset.sum_congr rfl fun x _ => ?_
    by_cases hx : x = q
    · subst hx; simp
    · have : x.val ≠ q.val := fun e => hx (Fin.ext e)
      rw [if_neg hx, add_zero]
      by_cases hl : x.val < q.val
      · rw [if_pos hl, if_pos (by omega)]
      · rw [if_neg hl, if_neg (by omega)]
  rw [this, Finset.sum_add_distrib]
  simp

/-- The store list `L` holds the chain after `n` stores. -/
def Holds (I : Inp) (t : Fin 32) (base : Fin 8 → Fin 128 → Fin 128 → EReal) (n : ℕ) (L : List (View.Piece (Elt Ideal) S8x128x128 .f32)) : Prop :=
  ∀ (h : Fin 8) (i j : Fin 128), View.canon (Val := Elt Ideal) (s := S8x128x128) (e := .f32) L (ix3 h i j) = Acc I t base n h i j

theorem Holds.store {I : Inp} {t : Fin 32} {base} (q : Fin 4) (g : Fin 8) {L : List (View.Piece (Elt Ideal) S8x128x128 .f32)}
    (hL : Holds I t base (8 * q.val + g.val) L) (inb) (pay : Vec Ideal S1x128x128 .f32)
    (hp : ∀ i j, pay (ix3 0 i j) = Acc I t base (8 * q.val + g.val) g i j + ((dwT I (bc t q) g i j : ℝ) : EReal)) :
    Holds I t base (8 * q.val + g.val + 1) (⟨Rect.unit ![g.val, 0, 0] S1x128x128.size inb, pay⟩ :: L) := by
  intro h i j
  rw [canon_step3]
  by_cases e : h = g
  · subst e; rw [if_pos rfl, hp, Acc_step]
  · rw [if_neg e, Acc_skip I t base q g h e]; exact hL h i j

/-- The tile of the output's gradient a piece loads. -/
theorem dy_tile {I : Inp} {t : Fin 32} (q : Fin 4) (g : Fin 8) (v : Memref sig .tc .vmem S512x1024 .bf16) (hv : v.IsWhole) {x2 : FVec Ideal S512x1024 .bf16}
    (h : ∀ r c, x2 (ix2 r c) = ((I.DY (br t r) c : ℝ) : EReal)) (inb) (i k : Fin 128) :
    (View.readAt (Elt Ideal) v.view (Rect.unit (s := S512x1024) ![128 * q.val, 128 * g.val] S128x128.size inb).toLoadRect (hv.unread x2) : FVec Ideal S128x128 .bf16) (ix2 i k)
      = ((I.DY (tok (bc t q) i) (col g k) : ℝ) : EReal) := by
  rw [View.readAt_eq_ld, Memref.IsWhole.read_unread]
  pointwise [h]
  rw [br_tile, col_tile]

variable {I : Inp} {t : Fin 32} {base : Fin 8 → Fin 128 → Fin 128 → EReal} {GU : FVec Ideal S512x1024 .f32} {VN : FVec Ideal S512x1024 .bf16}
  (c : Dev nD) (a1 : Memref sig .tc .vmem S512x1024 .bf16) (w1 : a1.IsWhole) (a2 : Memref sig .tc .vmem S512x1024 .bf16) (w2 : a2.IsWhole)
  (a3 : Memref sig .tc .vmem S512x1024 .bf16) (w3 : a3.IsWhole) (a4 : Memref sig .tc .vmem S1x1024 .f32) (w4 : a4.IsWhole)
  (a5 : Memref sig .tc .vmem S1x1024 .f32) (w5 : a5.IsWhole) (a11 : Memref sig .tc .vmem S8x128x128 .f32) (w11 : a11.IsWhole)
  {x0 x1 x2 : FVec Ideal S512x1024 .bf16} {x3 x4 : FVec Ideal S1x1024 .f32} {x5 x6 : FVec Ideal S8x128x128 .bf16} {x7 : FVec Ideal S8x128x128 .f32}

theorem Holds.tile (q : Fin 4) (g : Fin 8) (hs) (inb inb') (hG : ∀ r c, GU (ix2 r c) = ((gel (I.U (br t r) c) : ℝ) : EReal))
    (hV : ∀ r c, VN (ix2 r c) = ((I.vnr (br t r) c : ℝ) : EReal)) (hD : ∀ r c, x2 (ix2 r c) = ((I.DY (br t r) c : ℝ) : EReal))
    (L : List (View.Piece (Elt Ideal) S8x128x128 .f32)) (hL : Holds I t base (8 * q.val + g.val) L) :
    Holds I t base (8 * q.val + g.val + 1) (⟨Rect.unit ![g.val, 0, 0] S1x128x128.size inb, dwP (128 * q.val) (128 * g.val) hs GU VN
      (View.readAt (Elt Ideal) a3.view (Rect.unit (s := S512x1024) ![128 * q.val, 128 * g.val] S128x128.size inb').toLoadRect (w3.unread x2))
      (a11.view.readCov L (Rect.unit (s := S8x128x128) ![g.val, 0, 0] S1x128x128.size inb).toLoadRect)⟩ :: L) := by
  refine Holds.store q g hL inb _ fun i j => ?_
  rw [dwP_apply q g hs hG hV (dy_tile q g a3 w3 hD inb')]
  congr 1
  rw [View.readCov_eq_canon', ← hL g i j]
  exact congrArg _ (emb3 g inb i j)

/-- The gelu of the first half and the norm's output, as the body computes them from its loads. -/
def GUw (a1 : Memref sig .tc .vmem S512x1024 .bf16) (w1 : a1.IsWhole) (x0 : FVec Ideal S512x1024 .bf16) : FVec Ideal S512x1024 .f32 :=
  k0_pay8 (View.readAt (Elt Ideal) a1.view (Rect.unit (s := S512x1024) ![0, 0] S512x1024.size inb_S512x1024_S512x1024_0_0).toLoadRect (w1.unread x0))
def VNw (a2 : Memref sig .tc .vmem S512x1024 .bf16) (w2 : a2.IsWhole) (a4 : Memref sig .tc .vmem S1x1024 .f32) (w4 : a4.IsWhole)
    (a5 : Memref sig .tc .vmem S1x1024 .f32) (w5 : a5.IsWhole) (x1 : FVec Ideal S512x1024 .bf16) (x3 x4 : FVec Ideal S1x1024 .f32) : FVec Ideal S512x1024 .bf16 :=
  k0_pay12 (k0_pay11 (View.readAt (Elt Ideal) a2.view (Rect.unit (s := S512x1024) ![0, 0] S512x1024.size inb_S512x1024_S512x1024_0_0).toLoadRect (w2.unread x1)))
    (View.readAt (Elt Ideal) a4.view (Rect.unit (s := S1x1024) ![0, 0] S1x1024.size inb_S1x1024_S1x1024_0_0).toLoadRect (w4.unread x3))
    (View.readAt (Elt Ideal) a5.view (Rect.unit (s := S1x1024) ![0, 0] S1x1024.size inb_S1x1024_S1x1024_0_0).toLoadRect (w5.unread x4))

section
variable (hB : Blk I t x0 x1 x2 x3 x4 x5 x6 x7)
include hB
theorem GUw_apply (r : Fin 512) (c : Fin 1024) : GUw a1 w1 x0 (ix2 r c) = ((gel (I.U (br t r) c) : ℝ) : EReal) := by
  unfold GUw
  refine pay8 (X0 := fun r => I.U (br t r)) (fun r c => ?_) r c
  rw [View.readAt_eq_ld, Memref.IsWhole.read_unread]
  pointwise [hB.hU]
theorem VNw_apply (r : Fin 512) (c : Fin 1024) : VNw a2 w2 a4 w4 a5 w5 x1 x3 x4 (ix2 r c) = ((I.vnr (br t r) c : ℝ) : EReal) := by
  unfold VNw
  refine pay12 (X1 := fun r => I.V (br t r)) (LG := I.LG) (LB := I.LB) (fun r c => ?_) (fun c => ?_) (fun c => ?_) r c
  · refine pay11 (X1 := fun r => I.V (br t r)) (fun r c => ?_) r c
    rw [View.readAt_eq_ld, Memref.IsWhole.read_unread]
    pointwise [hB.hV]
  · rw [View.readAt_eq_ld, Memref.IsWhole.read_unread]
    pointwise [hB.hG]
  · rw [View.readAt_eq_ld, Memref.IsWhole.read_unread]
    pointwise [hB.hB]
end

end Cert.Sgu

end
-- ==== Proof.Sgu.Chain.lean ====
/- The chain of stores at a point after the first (`B`) and at the first (`A`), store by store. -/
module

public import proofs.«01_k».proof.Proof.Sgu.Dw
public import Idealize.ShloMosaic.Lib.Claim
public import Idealize.ShloMosaic.Lib.Pointwise
public import Idealize.ShloMosaic.Lib.Pipeline.ValueKit

@[expose] public section

set_option maxRecDepth 16384

noncomputable section

namespace Cert.Sgu

open Cert.KernelIdeal Cert.KernelIdeal.Gen Idealize.ShloMosaic Idealize.ShloMosaic.TcCoe Idealize.ShloMosaic.Tactic Idealize.SL.Sem
open Idealize.ShloMosaic.Pipeline (Dat)

/-- The first chunk's stores over what the block held: the heads below `n` done. -/
def HoldsP (I : Inp) (t : Fin 32) (base : Fin 8 → Fin 128 → Fin 128 → EReal) (n : ℕ) (L : List (View.Piece (Elt Ideal) S8x128x128 .f32)) : Prop :=
  ∀ (h : Fin 8) (i j : Fin 128), h.val < n → View.canon (Val := Elt Ideal) (s := S8x128x128) (e := .f32) L (ix3 h i j) = base h i j + ((dwT I (bc t 0) h i j : ℝ) : EReal)

theorem HoldsP.nil {I : Inp} {t : Fin 32} {base} : HoldsP I t base 0 [] := fun h _ _ hh => absurd hh (Nat.not_lt_zero _)

theorem HoldsP.tile {I : Inp} {t : Fin 32} {GU : FVec Ideal S512x1024 .f32} {VN : FVec Ideal S512x1024 .bf16}
    (a3 : Memref sig .tc .vmem S512x1024 .bf16) (w3 : a3.IsWhole) (a11 : Memref sig .tc .vmem S8x128x128 .f32) (w11 : a11.IsWhole)
    {x2 : FVec Ideal S512x1024 .bf16} {xo9 : FVec Ideal S8x128x128 .f32} (g : Fin 8) (hs) (inb inb')
    (hG : ∀ r c, GU (ix2 r c) = ((gel (I.U (br t r) c) : ℝ) : EReal))
    (hV : ∀ r c, VN (ix2 r c) = ((I.vnr (br t r) c : ℝ) : EReal)) (hD : ∀ r c, x2 (ix2 r c) = ((I.DY (br t r) c : ℝ) : EReal))
    {L : List (View.Piece (Elt Ideal) S8x128x128 .f32)} (hL : HoldsP I t (fun h i j => xo9 (ix3 h i j)) g.val L) :
    HoldsP I t (fun h i j => xo9 (ix3 h i j)) (g.val + 1) (⟨Rect.unit ![g.val, 0, 0] S1x128x128.size inb, dwP (128 * (0 : Fin 4).val) (128 * g.val) hs GU VN
      (View.readAt (Elt Ideal) a3.view (Rect.unit (s := S512x1024) ![128 * (0 : Fin 4).val, 128 * g.val] S128x128.size inb').toLoadRect (w3.unread x2))
      (View.readAt (Elt Ideal) a11.view (Rect.unit (s := S8x128x128) ![g.val, 0, 0] S1x128x128.size inb).toLoadRect (w11.unread xo9))⟩ :: L) := by
  intro h i j hh
  rw [canon_step3]
  by_cases e : h = g
  · subst e
    rw [if_pos rfl, dwP_apply 0 h hs hG hV (dy_tile 0 h a3 w3 hD inb')]
    congr 1
    rw [View.readAt_eq_ld, Memref.IsWhole.read_unread]
    exact congrArg xo9 (emb3 h inb i j)
  · rw [if_neg e]
    exact hL h i j (by have : h.val ≠ g.val := fun e' => e (Fin.ext e'); omega)

theorem HoldsP.holds {I : Inp} {t : Fin 32} {base} {L : List (View.Piece (Elt Ideal) S8x128x128 .f32)} (hL : HoldsP I t base 8 L) : Holds I t base 8 L := by
  intro h i j
  rw [hL h i j h.isLt]
  unfold Acc
  have e1 : (8 + 7 - h.val) / 8 = 1 := by omega
  rw [e1]
  congr 2
  simp [Fin.sum_univ_four]

theorem Holds.zero {I : Inp} {t : Fin 32} : Holds I t (fun _ _ _ => 0) 0 (kernelRun0_A.sl.H9_1 (F := Ideal)) := by
  intro h i j
  have e : (Rect.unit (s := S8x128x128) ![0, 0, 0] S8x128x128.size inb_S8x128x128_S8x128x128_0_0_0).emb (ix3 h i j : S8x128x128.Idx) = (ix3 h i j : S8x128x128.Idx) := by
    funext a
    apply Fin.ext
    match a with
    | ⟨0, _⟩ => show 0 + 1 * h.val = h.val; omega
    | ⟨1, _⟩ => show 0 + 1 * i.val = i.val; omega
    | ⟨2, _⟩ => show 0 + 1 * j.val = j.val; omega
  have := View.canon_cons_emb (Val := Elt Ideal) (s := S8x128x128) (e := .f32) (Rect.unit (s := S8x128x128) ![0, 0, 0] S8x128x128.size inb_S8x128x128_S8x128x128_0_0_0)
    (k0_pay2 (F := Ideal)) [] (ix3 h i j : S8x128x128.Idx)
  rw [e] at this
  refine this.trans ?_
  unfold Acc
  have e1 (q : Fin 4) : ¬ q.val < (0 + 7 - h.val) / 8 := by omega
  simp only [if_neg (e1 _)]
  pointwise [k0_pay2]
  simp

/-- The whole block after the point: what it held and the point's four chunks. -/
theorem Holds.all {I : Inp} {t : Fin 32} {base} {L : List (View.Piece (Elt Ideal) S8x128x128 .f32)} (hL : Holds I t base 32 L) (h : Fin 8) (i j : Fin 128) :
    View.canon (Val := Elt Ideal) (s := S8x128x128) (e := .f32) L (ix3 h i j) = base h i j + ((∑ q : Fin 4, dwT I (bc t q) h i j : ℝ) : EReal) := by
  rw [hL h i j]
  unfold Acc
  have e1 (q : Fin 4) : q.val < (32 + 7 - h.val) / 8 := by omega
  simp only [if_pos (e1 _)]

variable {I : Inp} {t : Fin 32}
  (c : Dev nD) (a1 : Memref sig .tc .vmem S512x1024 .bf16) (w1 : a1.IsWhole) (a2 : Memref sig .tc .vmem S512x1024 .bf16) (w2 : a2.IsWhole)
  (a3 : Memref sig .tc .vmem S512x1024 .bf16) (w3 : a3.IsWhole) (a4 : Memref sig .tc .vmem S1x1024 .f32) (w4 : a4.IsWhole)
  (a5 : Memref sig .tc .vmem S1x1024 .f32) (w5 : a5.IsWhole) (a11 : Memref sig .tc .vmem S8x128x128 .f32) (w11 : a11.IsWhole)
  {x0 x1 x2 : FVec Ideal S512x1024 .bf16} {x3 x4 : FVec Ideal S1x1024 .f32} {x5 x6 : FVec Ideal S8x128x128 .bf16} {x7 : FVec Ideal S8x128x128 .f32}
  (hB : Blk I t x0 x1 x2 x3 x4 x5 x6 x7) (xo9 : FVec Ideal S8x128x128 .f32)
include hB

theorem B_8 : Holds I t (fun h i j => xo9 (ix3 h i j)) 8 (kernelRun0_B.sl.H9_8 c a1 w1 a2 w2 a3 w3 a4 w4 a5 w5 a11 w11 x0 x1 x2 x3 x4 xo9) :=
  HoldsP.holds (HoldsP.tile a3 w3 a11 w11 7 _ _ _ (GUw_apply a1 w1 hB) (VNw_apply a2 w2 a4 w4 a5 w5 hB) hB.hD
    (HoldsP.tile a3 w3 a11 w11 6 _ _ _ (GUw_apply a1 w1 hB) (VNw_apply a2 w2 a4 w4 a5 w5 hB) hB.hD
    (HoldsP.tile a3 w3 a11 w11 5 _ _ _ (GUw_apply a1 w1 hB) (VNw_apply a2 w2 a4 w4 a5 w5 hB) hB.hD
    (HoldsP.tile a3 w3 a11 w11 4 _ _ _ (GUw_apply a1 w1 hB) (VNw_apply a2 w2 a4 w4 a5 w5 hB) hB.hD
    (HoldsP.tile a3 w3 a11 w11 3 _ _ _ (GUw_apply a1 w1 hB) (VNw_apply a2 w2 a4 w4 a5 w5 hB) hB.hD
    (HoldsP.tile a3 w3 a11 w11 2 _ _ _ (GUw_apply a1 w1 hB) (VNw_apply a2 w2 a4 w4 a5 w5 hB) hB.hD
    (HoldsP.tile a3 w3 a11 w11 1 _ _ _ (GUw_apply a1 w1 hB) (VNw_apply a2 w2 a4 w4 a5 w5 hB) hB.hD
    (HoldsP.tile a3 w3 a11 w11 0 _ _ _ (GUw_apply a1 w1 hB) (VNw_apply a2 w2 a4 w4 a5 w5 hB) hB.hD
    HoldsP.nil))))))))
theorem B_9 : Holds I t (fun h i j => xo9 (ix3 h i j)) 9 (kernelRun0_B.sl.H9_9 c a1 w1 a2 w2 a3 w3 a4 w4 a5 w5 a11 w11 x0 x1 x2 x3 x4 xo9) :=
  Holds.tile a3 w3 a11 1 0 _ _ _ (GUw_apply a1 w1 hB) (VNw_apply a2 w2 a4 w4 a5 w5 hB) hB.hD _ (B_8 c a1 w1 a2 w2 a3 w3 a4 w4 a5 w5 a11 w11 hB xo9)
theorem B_10 : Holds I t (fun h i j => xo9 (ix3 h i j)) 10 (kernelRun0_B.sl.H9_10 c a1 w1 a2 w2 a3 w3 a4 w4 a5 w5 a11 w11 x0 x1 x2 x3 x4 xo9) :=
  Holds.tile a3 w3 a11 1 1 _ _ _ (GUw_apply a1 w1 hB) (VNw_apply a2 w2 a4 w4 a5 w5 hB) hB.hD _ (B_9 c a1 w1 a2 w2 a3 w3 a4 w4 a5 w5 a11 w11 hB xo9)
theorem B_11 : Holds I t (fun h i j => xo9 (ix3 h i j)) 11 (kernelRun0_B.sl.H9_11 c a1 w1 a2 w2 a3 w3 a4 w4 a5 w5 a11 w11 x0 x1 x2 x3 x4 xo9) :=
  Holds.tile a3 w3 a11 1 2 _ _ _ (GUw_apply a1 w1 hB) (VNw_apply a2 w2 a4 w4 a5 w5 hB) hB.hD _ (B_10 c a1 w1 a2 w2 a3 w3 a4 w4 a5 w5 a11 w11 hB xo9)
theorem B_12 : Holds I t (fun h i j => xo9 (ix3 h i j)) 12 (kernelRun0_B.sl.H9_12 c a1 w1 a2 w2 a3 w3 a4 w4 a5 w5 a11 w11 x0 x1 x2 x3 x4 xo9) :=
  Holds.tile a3 w3 a11 1 3 _ _ _ (GUw_apply a1 w1 hB) (VNw_apply a2 w2 a4 w4 a5 w5 hB) hB.hD _ (B_11 c a1 w1 a2 w2 a3 w3 a4 w4 a5 w5 a11 w11 hB xo9)
theorem B_13 : Holds I t (fun h i j => xo9 (ix3 h i j)) 13 (kernelRun0_B.sl.H9_13 c a1 w1 a2 w2 a3 w3 a4 w4 a5 w5 a11 w11 x0 x1 x2 x3 x4 xo9) :=
  Holds.tile a3 w3 a11 1 4 _ _ _ (GUw_apply a1 w1 hB) (VNw_apply a2 w2 a4 w4 a5 w5 hB) hB.hD _ (B_12 c a1 w1 a2 w2 a3 w3 a4 w4 a5 w5 a11 w11 hB xo9)
theorem B_14 : Holds I t (fun h i j => xo9 (ix3 h i j)) 14 (kernelRun0_B.sl.H9_14 c a1 w1 a2 w2 a3 w3 a4 w4 a5 w5 a11 w11 x0 x1 x2 x3 x4 xo9) :=
  Holds.tile a3 w3 a11 1 5 _ _ _ (GUw_apply a1 w1 hB) (VNw_apply a2 w2 a4 w4 a5 w5 hB) hB.hD _ (B_13 c a1 w1 a2 w2 a3 w3 a4 w4 a5 w5 a11 w11 hB xo9)
theorem B_15 : Holds I t (fun h i j => xo9 (ix3 h i j)) 15 (kernelRun0_B.sl.H9_15 c a1 w1 a2 w2 a3 w3 a4 w4 a5 w5 a11 w11 x0 x1 x2 x3 x4 xo9) :=
  Holds.tile a3 w3 a11 1 6 _ _ _ (GUw_apply a1 w1 hB) (VNw_apply a2 w2 a4 w4 a5 w5 hB) hB.hD _ (B_14 c a1 w1 a2 w2 a3 w3 a4 w4 a5 w5 a11 w11 hB xo9)
theorem B_16 : Holds I t (fun h i j => xo9 (ix3 h i j)) 16 (kernelRun0_B.sl.H9_16 c a1 w1 a2 w2 a3 w3 a4 w4 a5 w5 a11 w11 x0 x1 x2 x3 x4 xo9) :=
  Holds.tile a3 w3 a11 1 7 _ _ _ (GUw_apply a1 w1 hB) (VNw_apply a2 w2 a4 w4 a5 w5 hB) hB.hD _ (B_15 c a1 w1 a2 w2 a3 w3 a4 w4 a5 w5 a11 w11 hB xo9)
theorem B_17 : Holds I t (fun h i j => xo9 (ix3 h i j)) 17 (kernelRun0_B.sl.H9_17 c a1 w1 a2 w2 a3 w3 a4 w4 a5 w5 a11 w11 x0 x1 x2 x3 x4 xo9) :=
  Holds.tile a3 w3 a11 2 0 _ _ _ (GUw_apply a1 w1 hB) (VNw_apply a2 w2 a4 w4 a5 w5 hB) hB.hD _ (B_16 c a1 w1 a2 w2 a3 w3 a4 w4 a5 w5 a11 w11 hB xo9)
theorem B_18 : Holds I t (fun h i j => xo9 (ix3 h i j)) 18 (kernelRun0_B.sl.H9_18 c a1 w1 a2 w2 a3 w3 a4 w4 a5 w5 a11 w11 x0 x1 x2 x3 x4 xo9) :=
  Holds.tile a3 w3 a11 2 1 _ _ _ (GUw_apply a1 w1 hB) (VNw_apply a2 w2 a4 w4 a5 w5 hB) hB.hD _ (B_17 c a1 w1 a2 w2 a3 w3 a4 w4 a5 w5 a11 w11 hB xo9)
theorem B_19 : Holds I t (fun h i j => xo9 (ix3 h i j)) 19 (kernelRun0_B.sl.H9_19 c a1 w1 a2 w2 a3 w3 a4 w4 a5 w5 a11 w11 x0 x1 x2 x3 x4 xo9) :=
  Holds.tile a3 w3 a11 2 2 _ _ _ (GUw_apply a1 w1 hB) (VNw_apply a2 w2 a4 w4 a5 w5 hB) hB.hD _ (B_18 c a1 w1 a2 w2 a3 w3 a4 w4 a5 w5 a11 w11 hB xo9)
theorem B_20 : Holds I t (fun h i j => xo9 (ix3 h i j)) 20 (kernelRun0_B.sl.H9_20 c a1 w1 a2 w2 a3 w3 a4 w4 a5 w5 a11 w11 x0 x1 x2 x3 x4 xo9) :=
  Holds.tile a3 w3 a11 2 3 _ _ _ (GUw_apply a1 w1 hB) (VNw_apply a2 w2 a4 w4 a5 w5 hB) hB.hD _ (B_19 c a1 w1 a2 w2 a3 w3 a4 w4 a5 w5 a11 w11 hB xo9)
theorem B_21 : Holds I t (fun h i j => xo9 (ix3 h i j)) 21 (kernelRun0_B.sl.H9_21 c a1 w1 a2 w2 a3 w3 a4 w4 a5 w5 a11 w11 x0 x1 x2 x3 x4 xo9) :=
  Holds.tile a3 w3 a11 2 4 _ _ _ (GUw_apply a1 w1 hB) (VNw_apply a2 w2 a4 w4 a5 w5 hB) hB.hD _ (B_20 c a1 w1 a2 w2 a3 w3 a4 w4 a5 w5 a11 w11 hB xo9)
theorem B_22 : Holds I t (fun h i j => xo9 (ix3 h i j)) 22 (kernelRun0_B.sl.H9_22 c a1 w1 a2 w2 a3 w3 a4 w4 a5 w5 a11 w11 x0 x1 x2 x3 x4 xo9) :=
  Holds.tile a3 w3 a11 2 5 _ _ _ (GUw_apply a1 w1 hB) (VNw_apply a2 w2 a4 w4 a5 w5 hB) hB.hD _ (B_21 c a1 w1 a2 w2 a3 w3 a4 w4 a5 w5 a11 w11 hB xo9)
theorem B_23 : Holds I t (fun h i j => xo9 (ix3 h i j)) 23 (kernelRun0_B.sl.H9_23 c a1 w1 a2 w2 a3 w3 a4 w4 a5 w5 a11 w11 x0 x1 x2 x3 x4 xo9) :=
  Holds.tile a3 w3 a11 2 6 _ _ _ (GUw_apply a1 w1 hB) (VNw_apply a2 w2 a4 w4 a5 w5 hB) hB.hD _ (B_22 c a1 w1 a2 w2 a3 w3 a4 w4 a5 w5 a11 w11 hB xo9)
theorem B_24 : Holds I t (fun h i j => xo9 (ix3 h i j)) 24 (kernelRun0_B.sl.H9_24 c a1 w1 a2 w2 a3 w3 a4 w4 a5 w5 a11 w11 x0 x1 x2 x3 x4 xo9) :=
  Holds.tile a3 w3 a11 2 7 _ _ _ (GUw_apply a1 w1 hB) (VNw_apply a2 w2 a4 w4 a5 w5 hB) hB.hD _ (B_23 c a1 w1 a2 w2 a3 w3 a4 w4 a5 w5 a11 w11 hB xo9)
theorem B_25 : Holds I t (fun h i j => xo9 (ix3 h i j)) 25 (kernelRun0_B.sl.H9_25 c a1 w1 a2 w2 a3 w3 a4 w4 a5 w5 a11 w11 x0 x1 x2 x3 x4 xo9) :=
  Holds.tile a3 w3 a11 3 0 _ _ _ (GUw_apply a1 w1 hB) (VNw_apply a2 w2 a4 w4 a5 w5 hB) hB.hD _ (B_24 c a1 w1 a2 w2 a3 w3 a4 w4 a5 w5 a11 w11 hB xo9)
theorem B_26 : Holds I t (fun h i j => xo9 (ix3 h i j)) 26 (kernelRun0_B.sl.H9_26 c a1 w1 a2 w2 a3 w3 a4 w4 a5 w5 a11 w11 x0 x1 x2 x3 x4 xo9) :=
  Holds.tile a3 w3 a11 3 1 _ _ _ (GUw_apply a1 w1 hB) (VNw_apply a2 w2 a4 w4 a5 w5 hB) hB.hD _ (B_25 c a1 w1 a2 w2 a3 w3 a4 w4 a5 w5 a11 w11 hB xo9)
theorem B_27 : Holds I t (fun h i j => xo9 (ix3 h i j)) 27 (kernelRun0_B.sl.H9_27 c a1 w1 a2 w2 a3 w3 a4 w4 a5 w5 a11 w11 x0 x1 x2 x3 x4 xo9) :=
  Holds.tile a3 w3 a11 3 2 _ _ _ (GUw_apply a1 w1 hB) (VNw_apply a2 w2 a4 w4 a5 w5 hB) hB.hD _ (B_26 c a1 w1 a2 w2 a3 w3 a4 w4 a5 w5 a11 w11 hB xo9)
theorem B_28 : Holds I t (fun h i j => xo9 (ix3 h i j)) 28 (kernelRun0_B.sl.H9_28 c a1 w1 a2 w2 a3 w3 a4 w4 a5 w5 a11 w11 x0 x1 x2 x3 x4 xo9) :=
  Holds.tile a3 w3 a11 3 3 _ _ _ (GUw_apply a1 w1 hB) (VNw_apply a2 w2 a4 w4 a5 w5 hB) hB.hD _ (B_27 c a1 w1 a2 w2 a3 w3 a4 w4 a5 w5 a11 w11 hB xo9)
theorem B_29 : Holds I t (fun h i j => xo9 (ix3 h i j)) 29 (kernelRun0_B.sl.H9_29 c a1 w1 a2 w2 a3 w3 a4 w4 a5 w5 a11 w11 x0 x1 x2 x3 x4 xo9) :=
  Holds.tile a3 w3 a11 3 4 _ _ _ (GUw_apply a1 w1 hB) (VNw_apply a2 w2 a4 w4 a5 w5 hB) hB.hD _ (B_28 c a1 w1 a2 w2 a3 w3 a4 w4 a5 w5 a11 w11 hB xo9)
theorem B_30 : Holds I t (fun h i j => xo9 (ix3 h i j)) 30 (kernelRun0_B.sl.H9_30 c a1 w1 a2 w2 a3 w3 a4 w4 a5 w5 a11 w11 x0 x1 x2 x3 x4 xo9) :=
  Holds.tile a3 w3 a11 3 5 _ _ _ (GUw_apply a1 w1 hB) (VNw_apply a2 w2 a4 w4 a5 w5 hB) hB.hD _ (B_29 c a1 w1 a2 w2 a3 w3 a4 w4 a5 w5 a11 w11 hB xo9)
theorem B_31 : Holds I t (fun h i j => xo9 (ix3 h i j)) 31 (kernelRun0_B.sl.H9_31 c a1 w1 a2 w2 a3 w3 a4 w4 a5 w5 a11 w11 x0 x1 x2 x3 x4 xo9) :=
  Holds.tile a3 w3 a11 3 6 _ _ _ (GUw_apply a1 w1 hB) (VNw_apply a2 w2 a4 w4 a5 w5 hB) hB.hD _ (B_30 c a1 w1 a2 w2 a3 w3 a4 w4 a5 w5 a11 w11 hB xo9)
theorem B_32 : Holds I t (fun h i j => xo9 (ix3 h i j)) 32 (⟨Rect.unit (s := S8x128x128) ![7, 0, 0] S1x128x128.size inb_S8x128x128_S1x128x128_7_0_0, kernelRun0_B.sl.v1833 (F := Ideal) c a1 w1 a2 w2 a3 w3 a4 w4 a5 w5 a11 w11 x0 x1 x2 x3 x4 xo9⟩ :: kernelRun0_B.sl.H9_31 c a1 w1 a2 w2 a3 w3 a4 w4 a5 w5 a11 w11 x0 x1 x2 x3 x4 xo9) :=
  Holds.tile a3 w3 a11 3 7 _ _ _ (GUw_apply a1 w1 hB) (VNw_apply a2 w2 a4 w4 a5 w5 hB) hB.hD _ (B_31 c a1 w1 a2 w2 a3 w3 a4 w4 a5 w5 a11 w11 hB xo9)
theorem A_1 : Holds I t (fun _ _ _ => 0) 1 (kernelRun0_A.sl.H9_2 c a1 w1 a2 w2 a3 w3 a4 w4 a5 w5 a11 x0 x1 x2 x3 x4) :=
  Holds.tile a3 w3 a11 0 0 _ _ _ (GUw_apply a1 w1 hB) (VNw_apply a2 w2 a4 w4 a5 w5 hB) hB.hD _ Holds.zero
theorem A_2 : Holds I t (fun _ _ _ => 0) 2 (kernelRun0_A.sl.H9_3 c a1 w1 a2 w2 a3 w3 a4 w4 a5 w5 a11 x0 x1 x2 x3 x4) :=
  Holds.tile a3 w3 a11 0 1 _ _ _ (GUw_apply a1 w1 hB) (VNw_apply a2 w2 a4 w4 a5 w5 hB) hB.hD _ (A_1 c a1 w1 a2 w2 a3 w3 a4 w4 a5 w5 a11 hB)
theorem A_3 : Holds I t (fun _ _ _ => 0) 3 (kernelRun0_A.sl.H9_4 c a1 w1 a2 w2 a3 w3 a4 w4 a5 w5 a11 x0 x1 x2 x3 x4) :=
  Holds.tile a3 w3 a11 0 2 _ _ _ (GUw_apply a1 w1 hB) (VNw_apply a2 w2 a4 w4 a5 w5 hB) hB.hD _ (A_2 c a1 w1 a2 w2 a3 w3 a4 w4 a5 w5 a11 hB)
theorem A_4 : Holds I t (fun _ _ _ => 0) 4 (kernelRun0_A.sl.H9_5 c a1 w1 a2 w2 a3 w3 a4 w4 a5 w5 a11 x0 x1 x2 x3 x4) :=
  Holds.tile a3 w3 a11 0 3 _ _ _ (GUw_apply a1 w1 hB) (VNw_apply a2 w2 a4 w4 a5 w5 hB) hB.hD _ (A_3 c a1 w1 a2 w2 a3 w3 a4 w4 a5 w5 a11 hB)
theorem A_5 : Holds I t (fun _ _ _ => 0) 5 (kernelRun0_A.sl.H9_6 c a1 w1 a2 w2 a3 w3 a4 w4 a5 w5 a11 x0 x1 x2 x3 x4) :=
  Holds.tile a3 w3 a11 0 4 _ _ _ (GUw_apply a1 w1 hB) (VNw_apply a2 w2 a4 w4 a5 w5 hB) hB.hD _ (A_4 c a1 w1 a2 w2 a3 w3 a4 w4 a5 w5 a11 hB)
theorem A_6 : Holds I t (fun _ _ _ => 0) 6 (kernelRun0_A.sl.H9_7 c a1 w1 a2 w2 a3 w3 a4 w4 a5 w5 a11 x0 x1 x2 x3 x4) :=
  Holds.tile a3 w3 a11 0 5 _ _ _ (GUw_apply a1 w1 hB) (VNw_apply a2 w2 a4 w4 a5 w5 hB) hB.hD _ (A_5 c a1 w1 a2 w2 a3 w3 a4 w4 a5 w5 a11 hB)
theorem A_7 : Holds I t (fun _ _ _ => 0) 7 (kernelRun0_A.sl.H9_8 c a1 w1 a2 w2 a3 w3 a4 w4 a5 w5 a11 x0 x1 x2 x3 x4) :=
  Holds.tile a3 w3 a11 0 6 _ _ _ (GUw_apply a1 w1 hB) (VNw_apply a2 w2 a4 w4 a5 w5 hB) hB.hD _ (A_6 c a1 w1 a2 w2 a3 w3 a4 w4 a5 w5 a11 hB)
theorem A_8 : Holds I t (fun _ _ _ => 0) 8 (kernelRun0_A.sl.H9_9 c a1 w1 a2 w2 a3 w3 a4 w4 a5 w5 a11 x0 x1 x2 x3 x4) :=
  Holds.tile a3 w3 a11 0 7 _ _ _ (GUw_apply a1 w1 hB) (VNw_apply a2 w2 a4 w4 a5 w5 hB) hB.hD _ (A_7 c a1 w1 a2 w2 a3 w3 a4 w4 a5 w5 a11 hB)
theorem A_9 : Holds I t (fun _ _ _ => 0) 9 (kernelRun0_A.sl.H9_10 c a1 w1 a2 w2 a3 w3 a4 w4 a5 w5 a11 x0 x1 x2 x3 x4) :=
  Holds.tile a3 w3 a11 1 0 _ _ _ (GUw_apply a1 w1 hB) (VNw_apply a2 w2 a4 w4 a5 w5 hB) hB.hD _ (A_8 c a1 w1 a2 w2 a3 w3 a4 w4 a5 w5 a11 hB)
theorem A_10 : Holds I t (fun _ _ _ => 0) 10 (kernelRun0_A.sl.H9_11 c a1 w1 a2 w2 a3 w3 a4 w4 a5 w5 a11 x0 x1 x2 x3 x4) :=
  Holds.tile a3 w3 a11 1 1 _ _ _ (GUw_apply a1 w1 hB) (VNw_apply a2 w2 a4 w4 a5 w5 hB) hB.hD _ (A_9 c a1 w1 a2 w2 a3 w3 a4 w4 a5 w5 a11 hB)
theorem A_11 : Holds I t (fun _ _ _ => 0) 11 (kernelRun0_A.sl.H9_12 c a1 w1 a2 w2 a3 w3 a4 w4 a5 w5 a11 x0 x1 x2 x3 x4) :=
  Holds.tile a3 w3 a11 1 2 _ _ _ (GUw_apply a1 w1 hB) (VNw_apply a2 w2 a4 w4 a5 w5 hB) hB.hD _ (A_10 c a1 w1 a2 w2 a3 w3 a4 w4 a5 w5 a11 hB)
theorem A_12 : Holds I t (fun _ _ _ => 0) 12 (kernelRun0_A.sl.H9_13 c a1 w1 a2 w2 a3 w3 a4 w4 a5 w5 a11 x0 x1 x2 x3 x4) :=
  Holds.tile a3 w3 a11 1 3 _ _ _ (GUw_apply a1 w1 hB) (VNw_apply a2 w2 a4 w4 a5 w5 hB) hB.hD _ (A_11 c a1 w1 a2 w2 a3 w3 a4 w4 a5 w5 a11 hB)
theorem A_13 : Holds I t (fun _ _ _ => 0) 13 (kernelRun0_A.sl.H9_14 c a1 w1 a2 w2 a3 w3 a4 w4 a5 w5 a11 x0 x1 x2 x3 x4) :=
  Holds.tile a3 w3 a11 1 4 _ _ _ (GUw_apply a1 w1 hB) (VNw_apply a2 w2 a4 w4 a5 w5 hB) hB.hD _ (A_12 c a1 w1 a2 w2 a3 w3 a4 w4 a5 w5 a11 hB)
theorem A_14 : Holds I t (fun _ _ _ => 0) 14 (kernelRun0_A.sl.H9_15 c a1 w1 a2 w2 a3 w3 a4 w4 a5 w5 a11 x0 x1 x2 x3 x4) :=
  Holds.tile a3 w3 a11 1 5 _ _ _ (GUw_apply a1 w1 hB) (VNw_apply a2 w2 a4 w4 a5 w5 hB) hB.hD _ (A_13 c a1 w1 a2 w2 a3 w3 a4 w4 a5 w5 a11 hB)
theorem A_15 : Holds I t (fun _ _ _ => 0) 15 (kernelRun0_A.sl.H9_16 c a1 w1 a2 w2 a3 w3 a4 w4 a5 w5 a11 x0 x1 x2 x3 x4) :=
  Holds.tile a3 w3 a11 1 6 _ _ _ (GUw_apply a1 w1 hB) (VNw_apply a2 w2 a4 w4 a5 w5 hB) hB.hD _ (A_14 c a1 w1 a2 w2 a3 w3 a4 w4 a5 w5 a11 hB)
theorem A_16 : Holds I t (fun _ _ _ => 0) 16 (kernelRun0_A.sl.H9_17 c a1 w1 a2 w2 a3 w3 a4 w4 a5 w5 a11 x0 x1 x2 x3 x4) :=
  Holds.tile a3 w3 a11 1 7 _ _ _ (GUw_apply a1 w1 hB) (VNw_apply a2 w2 a4 w4 a5 w5 hB) hB.hD _ (A_15 c a1 w1 a2 w2 a3 w3 a4 w4 a5 w5 a11 hB)
theorem A_17 : Holds I t (fun _ _ _ => 0) 17 (kernelRun0_A.sl.H9_18 c a1 w1 a2 w2 a3 w3 a4 w4 a5 w5 a11 x0 x1 x2 x3 x4) :=
  Holds.tile a3 w3 a11 2 0 _ _ _ (GUw_apply a1 w1 hB) (VNw_apply a2 w2 a4 w4 a5 w5 hB) hB.hD _ (A_16 c a1 w1 a2 w2 a3 w3 a4 w4 a5 w5 a11 hB)
theorem A_18 : Holds I t (fun _ _ _ => 0) 18 (kernelRun0_A.sl.H9_19 c a1 w1 a2 w2 a3 w3 a4 w4 a5 w5 a11 x0 x1 x2 x3 x4) :=
  Holds.tile a3 w3 a11 2 1 _ _ _ (GUw_apply a1 w1 hB) (VNw_apply a2 w2 a4 w4 a5 w5 hB) hB.hD _ (A_17 c a1 w1 a2 w2 a3 w3 a4 w4 a5 w5 a11 hB)
theorem A_19 : Holds I t (fun _ _ _ => 0) 19 (kernelRun0_A.sl.H9_20 c a1 w1 a2 w2 a3 w3 a4 w4 a5 w5 a11 x0 x1 x2 x3 x4) :=
  Holds.tile a3 w3 a11 2 2 _ _ _ (GUw_apply a1 w1 hB) (VNw_apply a2 w2 a4 w4 a5 w5 hB) hB.hD _ (A_18 c a1 w1 a2 w2 a3 w3 a4 w4 a5 w5 a11 hB)
theorem A_20 : Holds I t (fun _ _ _ => 0) 20 (kernelRun0_A.sl.H9_21 c a1 w1 a2 w2 a3 w3 a4 w4 a5 w5 a11 x0 x1 x2 x3 x4) :=
  Holds.tile a3 w3 a11 2 3 _ _ _ (GUw_apply a1 w1 hB) (VNw_apply a2 w2 a4 w4 a5 w5 hB) hB.hD _ (A_19 c a1 w1 a2 w2 a3 w3 a4 w4 a5 w5 a11 hB)
theorem A_21 : Holds I t (fun _ _ _ => 0) 21 (kernelRun0_A.sl.H9_22 c a1 w1 a2 w2 a3 w3 a4 w4 a5 w5 a11 x0 x1 x2 x3 x4) :=
  Holds.tile a3 w3 a11 2 4 _ _ _ (GUw_apply a1 w1 hB) (VNw_apply a2 w2 a4 w4 a5 w5 hB) hB.hD _ (A_20 c a1 w1 a2 w2 a3 w3 a4 w4 a5 w5 a11 hB)
theorem A_22 : Holds I t (fun _ _ _ => 0) 22 (kernelRun0_A.sl.H9_23 c a1 w1 a2 w2 a3 w3 a4 w4 a5 w5 a11 x0 x1 x2 x3 x4) :=
  Holds.tile a3 w3 a11 2 5 _ _ _ (GUw_apply a1 w1 hB) (VNw_apply a2 w2 a4 w4 a5 w5 hB) hB.hD _ (A_21 c a1 w1 a2 w2 a3 w3 a4 w4 a5 w5 a11 hB)
theorem A_23 : Holds I t (fun _ _ _ => 0) 23 (kernelRun0_A.sl.H9_24 c a1 w1 a2 w2 a3 w3 a4 w4 a5 w5 a11 x0 x1 x2 x3 x4) :=
  Holds.tile a3 w3 a11 2 6 _ _ _ (GUw_apply a1 w1 hB) (VNw_apply a2 w2 a4 w4 a5 w5 hB) hB.hD _ (A_22 c a1 w1 a2 w2 a3 w3 a4 w4 a5 w5 a11 hB)
theorem A_24 : Holds I t (fun _ _ _ => 0) 24 (kernelRun0_A.sl.H9_25 c a1 w1 a2 w2 a3 w3 a4 w4 a5 w5 a11 x0 x1 x2 x3 x4) :=
  Holds.tile a3 w3 a11 2 7 _ _ _ (GUw_apply a1 w1 hB) (VNw_apply a2 w2 a4 w4 a5 w5 hB) hB.hD _ (A_23 c a1 w1 a2 w2 a3 w3 a4 w4 a5 w5 a11 hB)
theorem A_25 : Holds I t (fun _ _ _ => 0) 25 (kernelRun0_A.sl.H9_26 c a1 w1 a2 w2 a3 w3 a4 w4 a5 w5 a11 x0 x1 x2 x3 x4) :=
  Holds.tile a3 w3 a11 3 0 _ _ _ (GUw_apply a1 w1 hB) (VNw_apply a2 w2 a4 w4 a5 w5 hB) hB.hD _ (A_24 c a1 w1 a2 w2 a3 w3 a4 w4 a5 w5 a11 hB)
theorem A_26 : Holds I t (fun _ _ _ => 0) 26 (kernelRun0_A.sl.H9_27 c a1 w1 a2 w2 a3 w3 a4 w4 a5 w5 a11 x0 x1 x2 x3 x4) :=
  Holds.tile a3 w3 a11 3 1 _ _ _ (GUw_apply a1 w1 hB) (VNw_apply a2 w2 a4 w4 a5 w5 hB) hB.hD _ (A_25 c a1 w1 a2 w2 a3 w3 a4 w4 a5 w5 a11 hB)
theorem A_27 : Holds I t (fun _ _ _ => 0) 27 (kernelRun0_A.sl.H9_28 c a1 w1 a2 w2 a3 w3 a4 w4 a5 w5 a11 x0 x1 x2 x3 x4) :=
  Holds.tile a3 w3 a11 3 2 _ _ _ (GUw_apply a1 w1 hB) (VNw_apply a2 w2 a4 w4 a5 w5 hB) hB.hD _ (A_26 c a1 w1 a2 w2 a3 w3 a4 w4 a5 w5 a11 hB)
theorem A_28 : Holds I t (fun _ _ _ => 0) 28 (kernelRun0_A.sl.H9_29 c a1 w1 a2 w2 a3 w3 a4 w4 a5 w5 a11 x0 x1 x2 x3 x4) :=
  Holds.tile a3 w3 a11 3 3 _ _ _ (GUw_apply a1 w1 hB) (VNw_apply a2 w2 a4 w4 a5 w5 hB) hB.hD _ (A_27 c a1 w1 a2 w2 a3 w3 a4 w4 a5 w5 a11 hB)
theorem A_29 : Holds I t (fun _ _ _ => 0) 29 (kernelRun0_A.sl.H9_30 c a1 w1 a2 w2 a3 w3 a4 w4 a5 w5 a11 x0 x1 x2 x3 x4) :=
  Holds.tile a3 w3 a11 3 4 _ _ _ (GUw_apply a1 w1 hB) (VNw_apply a2 w2 a4 w4 a5 w5 hB) hB.hD _ (A_28 c a1 w1 a2 w2 a3 w3 a4 w4 a5 w5 a11 hB)
theorem A_30 : Holds I t (fun _ _ _ => 0) 30 (kernelRun0_A.sl.H9_31 c a1 w1 a2 w2 a3 w3 a4 w4 a5 w5 a11 x0 x1 x2 x3 x4) :=
  Holds.tile a3 w3 a11 3 5 _ _ _ (GUw_apply a1 w1 hB) (VNw_apply a2 w2 a4 w4 a5 w5 hB) hB.hD _ (A_29 c a1 w1 a2 w2 a3 w3 a4 w4 a5 w5 a11 hB)
theorem A_31 : Holds I t (fun _ _ _ => 0) 31 (kernelRun0_A.sl.H9_32 c a1 w1 a2 w2 a3 w3 a4 w4 a5 w5 a11 x0 x1 x2 x3 x4) :=
  Holds.tile a3 w3 a11 3 6 _ _ _ (GUw_apply a1 w1 hB) (VNw_apply a2 w2 a4 w4 a5 w5 hB) hB.hD _ (A_30 c a1 w1 a2 w2 a3 w3 a4 w4 a5 w5 a11 hB)
theorem A_32 : Holds I t (fun _ _ _ => 0) 32 (⟨Rect.unit (s := S8x128x128) ![7, 0, 0] S1x128x128.size inb_S8x128x128_S1x128x128_7_0_0, kernelRun0_A.sl.v1833 (F := Ideal) c a1 w1 a2 w2 a3 w3 a4 w4 a5 w5 a11 x0 x1 x2 x3 x4⟩ :: kernelRun0_A.sl.H9_32 c a1 w1 a2 w2 a3 w3 a4 w4 a5 w5 a11 x0 x1 x2 x3 x4) :=
  Holds.tile a3 w3 a11 3 7 _ _ _ (GUw_apply a1 w1 hB) (VNw_apply a2 w2 a4 w4 a5 w5 hB) hB.hD _ (A_31 c a1 w1 a2 w2 a3 w3 a4 w4 a5 w5 a11 hB)

end Cert.Sgu

end
-- ==== Proof.Sgu.Grid.lean ====
/- The two-dimensional tiles: the scratch block of the norm's gradient, the first output's block, the bias row sums. -/
module

public import proofs.«01_k».proof.Proof.Sgu.Chain
public import Idealize.ShloMosaic.Lib.Claim
public import Idealize.ShloMosaic.Lib.Pointwise
public import Idealize.ShloMosaic.Lib.Pipeline.ValueKit

@[expose] public section

set_option maxRecDepth 16384

noncomputable section

namespace Cert.Sgu

open Cert.KernelIdeal Cert.KernelIdeal.Gen Idealize.ShloMosaic Idealize.ShloMosaic.TcCoe Idealize.ShloMosaic.Tactic Idealize.SL.Sem
open Idealize.ShloMosaic.Pipeline (Dat)

theorem emb2S (q : Fin 4) (g : Fin 8) (inb) (i k : Fin 128) (h1 : 128 * q.val + i.val < 512) (h2 : 128 * g.val + k.val < 1024) :
    (Rect.unit (s := S512x1024) ![128 * q.val, 128 * g.val] S128x128.size inb).emb (ix2 i k : S128x128.Idx) = (ix2 ⟨128 * q.val + i.val, h1⟩ ⟨128 * g.val + k.val, h2⟩ : S512x1024.Idx) := by
  funext a
  apply Fin.ext
  match a with
  | ⟨0, _⟩ => show 128 * q.val + 1 * i.val = 128 * q.val + i.val; omega
  | ⟨1, _⟩ => show 128 * g.val + 1 * k.val = 128 * g.val + k.val; omega

theorem not_mem2S (q q' : Fin 4) (g g' : Fin 8) (hne : ¬(q' = q ∧ g' = g)) (inb) (i k : Fin 128) (h1 : 128 * q'.val + i.val < 512) (h2 : 128 * g'.val + k.val < 1024) :
    (ix2 ⟨128 * q'.val + i.val, h1⟩ ⟨128 * g'.val + k.val, h2⟩ : S512x1024.Idx) ∉ (Rect.unit (s := S512x1024) ![128 * q.val, 128 * g.val] S128x128.size inb).set := by
  rw [Rect.mem_set_unit]
  intro hm
  have a1 : 128 * q.val ≤ 128 * q'.val + i.val := (hm 0).1
  have a2 : 128 * q'.val + i.val < 128 * q.val + 128 := (hm 0).2
  have b1 : 128 * g.val ≤ 128 * g'.val + k.val := (hm 1).1
  have b2 : 128 * g'.val + k.val < 128 * g.val + 128 := (hm 1).2
  exact hne ⟨Fin.ext (by omega), Fin.ext (by omega)⟩

/-- After `n` tile stores the tiles stored hold `f`. -/
def TilS (f : Fin 512 → Fin 1024 → EReal) (n : ℕ) (L : List (View.Piece (Elt Ideal) S512x1024 .f32)) : Prop :=
  ∀ (q : Fin 4) (g : Fin 8) (i k : Fin 128), 8 * q.val + g.val < n → View.canon (Val := Elt Ideal) (s := S512x1024) (e := .f32) L
    (ix2 ⟨128 * q.val + i.val, by omega⟩ ⟨128 * g.val + k.val, by omega⟩ : S512x1024.Idx) = f ⟨128 * q.val + i.val, by omega⟩ ⟨128 * g.val + k.val, by omega⟩

theorem TilS.nil {f : Fin 512 → Fin 1024 → EReal} : TilS f 0 [] := fun _ _ _ _ h => absurd h (Nat.not_lt_zero _)

theorem TilS.tile {f : Fin 512 → Fin 1024 → EReal} (q : Fin 4) (g : Fin 8) (inb) {pay : Vec Ideal S128x128 .f32} {L : List (View.Piece (Elt Ideal) S512x1024 .f32)}
    (hp : ∀ i k : Fin 128, pay (ix2 i k) = f ⟨128 * q.val + i.val, by omega⟩ ⟨128 * g.val + k.val, by omega⟩) (hL : TilS f (8 * q.val + g.val) L) :
    TilS f (8 * q.val + g.val + 1) (⟨Rect.unit ![128 * q.val, 128 * g.val] S128x128.size inb, pay⟩ :: L) := by
  intro q' g' i k hn
  by_cases e : q' = q ∧ g' = g
  · obtain ⟨rfl, rfl⟩ := e
    have h := View.canon_cons_emb (Val := Elt Ideal) (s := S512x1024) (e := .f32) (Rect.unit (s := S512x1024) ![128 * q'.val, 128 * g'.val] S128x128.size inb) pay L (ix2 i k : S128x128.Idx)
    rw [emb2S q' g' inb i k (by omega) (by omega)] at h
    exact h.trans (hp i k)
  · have hn := not_mem2S q q' g g' e inb i k (by omega) (by omega)
    refine (View.canon_cons_of_not_mem (Val := Elt Ideal) (s := S512x1024) (e := .f32) ⟨Rect.unit ![128 * q.val, 128 * g.val] S128x128.size inb, pay⟩ L hn).trans (hL q' g' i k ?_)
    exact (by
      have : ¬(q'.val = q.val ∧ g'.val = g.val) := fun h => e ⟨Fin.ext h.1, Fin.ext h.2⟩
      omega)

theorem TilS.all {f : Fin 512 → Fin 1024 → EReal} {L : List (View.Piece (Elt Ideal) S512x1024 .f32)} (hL : TilS f 32 L) (r : Fin 512) (c : Fin 1024) (hc : c.val < 1024) :
    View.canon (Val := Elt Ideal) (s := S512x1024) (e := .f32) L (ix2 r c) = f r ⟨c.val, hc⟩ := by
  have h := hL ⟨r.val / 128, by omega⟩ ⟨c.val / 128, by omega⟩ ⟨r.val % 128, by omega⟩ ⟨c.val % 128, by omega⟩ (by dsimp only; omega)
  have e1 (h) : (⟨128 * (r.val / 128) + r.val % 128, h⟩ : Fin 512) = r := Fin.ext (by dsimp only; omega)
  have e2 (h) : (⟨128 * (c.val / 128) + c.val % 128, h⟩ : Fin 1024) = c := Fin.ext (by dsimp only; omega)
  have e3 (h) : (⟨128 * (c.val / 128) + c.val % 128, h⟩ : Fin 1024) = ⟨c.val, hc⟩ := Fin.ext (by dsimp only; omega)
  dsimp only at h
  simp only [e1, e2, e3] at h
  exact h

theorem emb2Z (q : Fin 4) (g : Fin 8) (inb) (i k : Fin 128) (h1 : 128 * q.val + i.val < 512) (h2 : 128 * g.val + k.val < 2048) :
    (Rect.unit (s := S512x2048) ![128 * q.val, 128 * g.val] S128x128.size inb).emb (ix2 i k : S128x128.Idx) = (ix2 ⟨128 * q.val + i.val, h1⟩ ⟨128 * g.val + k.val, h2⟩ : S512x2048.Idx) := by
  funext a
  apply Fin.ext
  match a with
  | ⟨0, _⟩ => show 128 * q.val + 1 * i.val = 128 * q.val + i.val; omega
  | ⟨1, _⟩ => show 128 * g.val + 1 * k.val = 128 * g.val + k.val; omega

theorem not_mem2Z (q q' : Fin 4) (g g' : Fin 8) (hne : ¬(q' = q ∧ g' = g)) (inb) (i k : Fin 128) (h1 : 128 * q'.val + i.val < 512) (h2 : 128 * g'.val + k.val < 2048) :
    (ix2 ⟨128 * q'.val + i.val, h1⟩ ⟨128 * g'.val + k.val, h2⟩ : S512x2048.Idx) ∉ (Rect.unit (s := S512x2048) ![128 * q.val, 128 * g.val] S128x128.size inb).set := by
  rw [Rect.mem_set_unit]
  intro hm
  have a1 : 128 * q.val ≤ 128 * q'.val + i.val := (hm 0).1
  have a2 : 128 * q'.val + i.val < 128 * q.val + 128 := (hm 0).2
  have b1 : 128 * g.val ≤ 128 * g'.val + k.val := (hm 1).1
  have b2 : 128 * g'.val + k.val < 128 * g.val + 128 := (hm 1).2
  exact hne ⟨Fin.ext (by omega), Fin.ext (by omega)⟩

/-- After `n` tile stores the tiles stored hold `f`. -/
def TilZ (f : Fin 512 → Fin 1024 → EReal) (n : ℕ) (L : List (View.Piece (Elt Ideal) S512x2048 .bf16)) : Prop :=
  ∀ (q : Fin 4) (g : Fin 8) (i k : Fin 128), 8 * q.val + g.val < n → View.canon (Val := Elt Ideal) (s := S512x2048) (e := .bf16) L
    (ix2 ⟨128 * q.val + i.val, by omega⟩ ⟨128 * g.val + k.val, by omega⟩ : S512x2048.Idx) = f ⟨128 * q.val + i.val, by omega⟩ ⟨128 * g.val + k.val, by omega⟩

theorem TilZ.nil {f : Fin 512 → Fin 1024 → EReal} : TilZ f 0 [] := fun _ _ _ _ h => absurd h (Nat.not_lt_zero _)

theorem TilZ.tile {f : Fin 512 → Fin 1024 → EReal} (q : Fin 4) (g : Fin 8) (inb) {pay : Vec Ideal S128x128 .bf16} {L : List (View.Piece (Elt Ideal) S512x2048 .bf16)}
    (hp : ∀ i k : Fin 128, pay (ix2 i k) = f ⟨128 * q.val + i.val, by omega⟩ ⟨128 * g.val + k.val, by omega⟩) (hL : TilZ f (8 * q.val + g.val) L) :
    TilZ f (8 * q.val + g.val + 1) (⟨Rect.unit ![128 * q.val, 128 * g.val] S128x128.size inb, pay⟩ :: L) := by
  intro q' g' i k hn
  by_cases e : q' = q ∧ g' = g
  · obtain ⟨rfl, rfl⟩ := e
    have h := View.canon_cons_emb (Val := Elt Ideal) (s := S512x2048) (e := .bf16) (Rect.unit (s := S512x2048) ![128 * q'.val, 128 * g'.val] S128x128.size inb) pay L (ix2 i k : S128x128.Idx)
    rw [emb2Z q' g' inb i k (by omega) (by omega)] at h
    exact h.trans (hp i k)
  · have hn := not_mem2Z q q' g g' e inb i k (by omega) (by omega)
    refine (View.canon_cons_of_not_mem (Val := Elt Ideal) (s := S512x2048) (e := .bf16) ⟨Rect.unit ![128 * q.val, 128 * g.val] S128x128.size inb, pay⟩ L hn).trans (hL q' g' i k ?_)
    exact (by
      have : ¬(q'.val = q.val ∧ g'.val = g.val) := fun h => e ⟨Fin.ext h.1, Fin.ext h.2⟩
      omega)

theorem TilZ.all {f : Fin 512 → Fin 1024 → EReal} {L : List (View.Piece (Elt Ideal) S512x2048 .bf16)} (hL : TilZ f 32 L) (r : Fin 512) (c : Fin 2048) (hc : c.val < 1024) :
    View.canon (Val := Elt Ideal) (s := S512x2048) (e := .bf16) L (ix2 r c) = f r ⟨c.val, hc⟩ := by
  have h := hL ⟨r.val / 128, by omega⟩ ⟨c.val / 128, by omega⟩ ⟨r.val % 128, by omega⟩ ⟨c.val % 128, by omega⟩ (by dsimp only; omega)
  have e1 (h) : (⟨128 * (r.val / 128) + r.val % 128, h⟩ : Fin 512) = r := Fin.ext (by dsimp only; omega)
  have e2 (h) : (⟨128 * (c.val / 128) + c.val % 128, h⟩ : Fin 2048) = c := Fin.ext (by dsimp only; omega)
  have e3 (h) : (⟨128 * (c.val / 128) + c.val % 128, h⟩ : Fin 1024) = ⟨c.val, hc⟩ := Fin.ext (by dsimp only; omega)
  dsimp only at h
  simp only [e1, e2, e3] at h
  exact h

theorem dvn_tile {I : Inp} {t : Fin 32} (q : Fin 4) (g : Fin 8) (i k : Fin 128) (h1 h2) :
    I.dvn (br t ⟨128 * q.val + i.val, h1⟩) ⟨128 * g.val + k.val, h2⟩ = I.dvn (tok (bc t q) i) (col g k) := by rw [br_tile, col_tile]
theorem du_tile {I : Inp} {t : Fin 32} (q : Fin 4) (g : Fin 8) (i k : Fin 128) (h1 h2) :
    I.du (br t ⟨128 * q.val + i.val, h1⟩) ⟨128 * g.val + k.val, h2⟩ = I.du (tok (bc t q) i) (col g k) := by rw [br_tile, col_tile]

/-- A head's matrix loaded. -/
theorem head_tile {e : EltTy} (g : Fin 8) (v : Memref sig .tc .vmem S8x128x128 e) (hv : v.IsWhole) (x : Vec Ideal S8x128x128 e) (inb) (i k : Fin 128) :
    (View.readAt (Elt Ideal) v.view (Rect.unit (s := S8x128x128) ![g.val, 0, 0] S1x128x128.size inb).toLoadRect (hv.unread x) : Vec Ideal S1x128x128 e) (ix3 0 i k)
      = x (ix3 g i k) := by
  rw [View.readAt_eq_ld, Memref.IsWhole.read_unread]
  exact congrArg x (emb3 g inb i k)

/-- The row sums of one tile of the gradient before the mix, for lane `g`. -/
def rowS (I : Inp) (t : Fin 32) (i l : Fin 128) (q : Fin 4) (g : Fin 8) : ℝ := if l.val = g.val then ∑ k, I.dsf (tok (bc t q) i) (col g k) else 0
/-- The first `n` tiles' row sums. -/
def rowSum (I : Inp) (t : Fin 32) (n : ℕ) (i l : Fin 128) : ℝ := ∑ x : Fin 32, if x.val < n then rowS I t i l ⟨x.val / 8, by omega⟩ ⟨x.val % 8, by omega⟩ else 0

theorem rowSum_step (I : Inp) (t : Fin 32) (q : Fin 4) (g : Fin 8) (i l : Fin 128) :
    rowSum I t (8 * q.val + g.val + 1) i l = rowSum I t (8 * q.val + g.val) i l + rowS I t i l q g := by
  unfold rowSum
  have : (∑ x : Fin 32, if x.val < 8 * q.val + g.val + 1 then rowS I t i l ⟨x.val / 8, by omega⟩ ⟨x.val % 8, by omega⟩ else 0)
      = ∑ x : Fin 32, ((if x.val < 8 * q.val + g.val then rowS I t i l ⟨x.val / 8, by omega⟩ ⟨x.val % 8, by omega⟩ else 0)
        + if x = ⟨8 * q.val + g.val, by omega⟩ then rowS I t i l q g else 0) := by
    refine Finset.sum_congr rfl fun x _ => ?_
    by_cases hx : x = ⟨8 * q.val + g.val, by omega⟩
    · subst hx
      have e1 : (⟨(8 * q.val + g.val) / 8, by omega⟩ : Fin 4) = q := Fin.ext (by dsimp only; omega)
      have e2 : (⟨(8 * q.val + g.val) % 8, by omega⟩ : Fin 8) = g := Fin.ext (by dsimp only; omega)
      simp only [e1, e2, lt_irrefl, if_false, if_true, zero_add, Nat.lt_succ_self]
    · have : x.val ≠ 8 * q.val + g.val := fun e => hx (Fin.ext e)
      rw [if_neg hx, add_zero]
      congr 1
      apply propext
      omega
  rw [this, Finset.sum_add_distrib]
  simp

theorem rowSum_all (I : Inp) (t : Fin 32) (i : Fin 128) (g : Fin 8) (l : Fin 128) (hl : l.val = g.val) :
    rowSum I t 32 i l = ∑ q : Fin 4, ∑ k, I.dsf (tok (bc t q) i) (col g k) := by
  unfold rowSum
  have e : (∑ x : Fin 32, if x.val < 32 then rowS I t i l ⟨x.val / 8, by omega⟩ ⟨x.val % 8, by omega⟩ else 0)
      = ∑ p : Fin 4 × Fin 8, rowS I t i l p.1 p.2 :=
    Finset.sum_bij' (fun x _ => (⟨x.val / 8, by omega⟩, ⟨x.val % 8, by omega⟩)) (fun p _ => ⟨8 * p.1.val + p.2.val, by omega⟩)
      (fun _ _ => Finset.mem_univ _) (fun _ _ => Finset.mem_univ _) (fun x _ => Fin.ext (by dsimp only; omega))
      (fun p _ => Prod.ext (Fin.ext (by dsimp only; omega)) (Fin.ext (by dsimp only; omega))) (fun x _ => by rw [if_pos x.isLt])
  rw [e, Fintype.sum_prod_type]
  refine Finset.sum_congr rfl fun q _ => ?_
  rw [Finset.sum_eq_single g]
  · unfold rowS; rw [if_pos hl]
  · intro g' _ hg; unfold rowS; rw [if_neg fun h => hg (Fin.ext (h.symm.trans hl))]
  · intro h; exact absurd (Finset.mem_univ _) h

def DbH (I : Inp) (t : Fin 32) (n : ℕ) (acc : FVec Ideal S128x128 .f32) : Prop := ∀ i l : Fin 128, acc (ix2 i l) = ((rowSum I t n i l : ℝ) : EReal)

theorem DbH.zero {I : Inp} {t : Fin 32} : DbH I t 0 (k0_pay14 (F := Ideal)) := by
  intro i l
  pointwise [k0_pay14]
  simp [rowSum]

theorem DbH.tile {I : Inp} {t : Fin 32} {GU : FVec Ideal S512x1024 .f32} (a3 : Memref sig .tc .vmem S512x1024 .bf16) (w3 : a3.IsWhole) {x2 : FVec Ideal S512x1024 .bf16}
    (q : Fin 4) (g : Fin 8) (hs) (inb) (hG : ∀ r c, GU (ix2 r c) = ((gel (I.U (br t r) c) : ℝ) : EReal))
    (hD : ∀ r c, x2 (ix2 r c) = ((I.DY (br t r) c : ℝ) : EReal)) {acc : FVec Ideal S128x128 .f32} (ha : DbH I t (8 * q.val + g.val) acc) :
    DbH I t (8 * q.val + g.val + 1) (dbP (128 * q.val) (128 * g.val) (BitVec.ofNat 32 g.val) hs GU
      (View.readAt (Elt Ideal) a3.view (Rect.unit (s := S512x1024) ![128 * q.val, 128 * g.val] S128x128.size inb).toLoadRect (w3.unread x2)) acc) := by
  intro i l
  rw [dbP_apply q g hs hG (dy_tile q g a3 w3 hD inb), ha i l, ← EReal.coe_add, rowSum_step]
  rfl

variable {I : Inp} {t : Fin 32}
  (c : Dev nD) (a1 : Memref sig .tc .vmem S512x1024 .bf16) (w1 : a1.IsWhole) (a2 : Memref sig .tc .vmem S512x1024 .bf16) (w2 : a2.IsWhole)
  (a3 : Memref sig .tc .vmem S512x1024 .bf16) (w3 : a3.IsWhole) (a4 : Memref sig .tc .vmem S1x1024 .f32) (w4 : a4.IsWhole)
  (a5 : Memref sig .tc .vmem S1x1024 .f32) (w5 : a5.IsWhole) (a6 : Memref sig .tc .vmem S8x128x128 .bf16) (w6 : a6.IsWhole)
  (a7 : Memref sig .tc .vmem S8x128x128 .bf16) (w7 : a7.IsWhole) (a8 : Memref sig .tc .vmem S8x128x128 .f32) (w8 : a8.IsWhole)
  (a15 : Memref sig .tc .vmem S512x1024 .f32)
  {x0 x1 x2 : FVec Ideal S512x1024 .bf16} {x3 x4 : FVec Ideal S1x1024 .f32} {x5 x6 : FVec Ideal S8x128x128 .bf16} {x7 : FVec Ideal S8x128x128 .f32}
  (hB : Blk I t x0 x1 x2 x3 x4 x5 x6 x7)

/-- The first half of the pre-activation, loaded. -/
def USw (a1 : Memref sig .tc .vmem S512x1024 .bf16) (w1 : a1.IsWhole) (x0 : FVec Ideal S512x1024 .bf16) : FVec Ideal S512x1024 .f32 :=
  k0_pay6 (View.readAt (Elt Ideal) a1.view (Rect.unit (s := S512x1024) ![0, 0] S512x1024.size inb_S512x1024_S512x1024_0_0).toLoadRect (w1.unread x0))

include hB
theorem USw_apply (r : Fin 512) (c : Fin 1024) : USw a1 w1 x0 (ix2 r c) = ((I.U (br t r) c : ℝ) : EReal) := by
  unfold USw
  refine pay6 (X0 := fun r => I.U (br t r)) (fun r c => ?_) r c
  rw [View.readAt_eq_ld, Memref.IsWhole.read_unread]
  pointwise [hB.hU]

theorem dvn_pay (q : Fin 4) (g : Fin 8) (hs) (inb inb') (i k : Fin 128) :
    dvnP (128 * q.val) (128 * g.val) hs (GUw a1 w1 x0)
      (View.readAt (Elt Ideal) a3.view (Rect.unit (s := S512x1024) ![128 * q.val, 128 * g.val] S128x128.size inb').toLoadRect (w3.unread x2))
      (View.readAt (Elt Ideal) a7.view (Rect.unit (s := S8x128x128) ![g.val, 0, 0] S1x128x128.size inb).toLoadRect (w7.unread x6)) (ix2 i k)
      = ((I.dvn (br t ⟨128 * q.val + i.val, by omega⟩) ⟨128 * g.val + k.val, by omega⟩ : ℝ) : EReal) := by
  rw [dvn_tile]
  exact dvnP_apply q g hs (GUw_apply a1 w1 hB) (dy_tile q g a3 w3 hB.hD inb') (fun i k => (head_tile g a7 w7 x6 inb i k).trans (hB.hT g i k)) i k

theorem du_pay (q : Fin 4) (g : Fin 8) (hs) (inb inb') (i k : Fin 128) :
    duP (128 * q.val) (128 * g.val) hs (USw a1 w1 x0) (VNw a2 w2 a4 w4 a5 w5 x1 x3 x4)
      (View.readAt (Elt Ideal) a3.view (Rect.unit (s := S512x1024) ![128 * q.val, 128 * g.val] S128x128.size inb').toLoadRect (w3.unread x2))
      (View.readAt (Elt Ideal) a6.view (Rect.unit (s := S8x128x128) ![g.val, 0, 0] S1x128x128.size inb).toLoadRect (w6.unread x5))
      (View.readAt (Elt Ideal) a8.view (Rect.unit (s := S8x128x128) ![g.val, 0, 0] S1x128x128.size inb).toLoadRect (w8.unread x7)) (ix2 i k)
      = ((I.du (br t ⟨128 * q.val + i.val, by omega⟩) ⟨128 * g.val + k.val, by omega⟩ : ℝ) : EReal) := by
  rw [du_tile]
  exact duP_apply q g hs (USw_apply a1 w1 hB) (VNw_apply a2 w2 a4 w4 a5 w5 hB) (dy_tile q g a3 w3 hB.hD inb')
    (fun i k => (head_tile g a6 w6 x5 inb i k).trans (hB.hW g i k)) (fun i k => (head_tile g a8 w8 x7 inb i k).trans (hB.hb g i k)) i k

theorem dvnL_A : TilS (fun r c => ((I.dvn (br t r) c : ℝ) : EReal)) 32 (kernelRun0_A.sl.HS0_32 (F := Ideal) c a1 w1 a3 w3 a7 w7 x0 x2 x6) :=
  (TilS.tile 3 7 _ (dvn_pay a1 w1 a3 w3 a7 w7 hB 3 7 _ _ _)
    (TilS.tile 3 6 _ (dvn_pay a1 w1 a3 w3 a7 w7 hB 3 6 _ _ _)
    (TilS.tile 3 5 _ (dvn_pay a1 w1 a3 w3 a7 w7 hB 3 5 _ _ _)
    (TilS.tile 3 4 _ (dvn_pay a1 w1 a3 w3 a7 w7 hB 3 4 _ _ _)
    (TilS.tile 3 3 _ (dvn_pay a1 w1 a3 w3 a7 w7 hB 3 3 _ _ _)
    (TilS.tile 3 2 _ (dvn_pay a1 w1 a3 w3 a7 w7 hB 3 2 _ _ _)
    (TilS.tile 3 1 _ (dvn_pay a1 w1 a3 w3 a7 w7 hB 3 1 _ _ _)
    (TilS.tile 3 0 _ (dvn_pay a1 w1 a3 w3 a7 w7 hB 3 0 _ _ _)
    (TilS.tile 2 7 _ (dvn_pay a1 w1 a3 w3 a7 w7 hB 2 7 _ _ _)
    (TilS.tile 2 6 _ (dvn_pay a1 w1 a3 w3 a7 w7 hB 2 6 _ _ _)
    (TilS.tile 2 5 _ (dvn_pay a1 w1 a3 w3 a7 w7 hB 2 5 _ _ _)
    (TilS.tile 2 4 _ (dvn_pay a1 w1 a3 w3 a7 w7 hB 2 4 _ _ _)
    (TilS.tile 2 3 _ (dvn_pay a1 w1 a3 w3 a7 w7 hB 2 3 _ _ _)
    (TilS.tile 2 2 _ (dvn_pay a1 w1 a3 w3 a7 w7 hB 2 2 _ _ _)
    (TilS.tile 2 1 _ (dvn_pay a1 w1 a3 w3 a7 w7 hB 2 1 _ _ _)
    (TilS.tile 2 0 _ (dvn_pay a1 w1 a3 w3 a7 w7 hB 2 0 _ _ _)
    (TilS.tile 1 7 _ (dvn_pay a1 w1 a3 w3 a7 w7 hB 1 7 _ _ _)
    (TilS.tile 1 6 _ (dvn_pay a1 w1 a3 w3 a7 w7 hB 1 6 _ _ _)
    (TilS.tile 1 5 _ (dvn_pay a1 w1 a3 w3 a7 w7 hB 1 5 _ _ _)
    (TilS.tile 1 4 _ (dvn_pay a1 w1 a3 w3 a7 w7 hB 1 4 _ _ _)
    (TilS.tile 1 3 _ (dvn_pay a1 w1 a3 w3 a7 w7 hB 1 3 _ _ _)
    (TilS.tile 1 2 _ (dvn_pay a1 w1 a3 w3 a7 w7 hB 1 2 _ _ _)
    (TilS.tile 1 1 _ (dvn_pay a1 w1 a3 w3 a7 w7 hB 1 1 _ _ _)
    (TilS.tile 1 0 _ (dvn_pay a1 w1 a3 w3 a7 w7 hB 1 0 _ _ _)
    (TilS.tile 0 7 _ (dvn_pay a1 w1 a3 w3 a7 w7 hB 0 7 _ _ _)
    (TilS.tile 0 6 _ (dvn_pay a1 w1 a3 w3 a7 w7 hB 0 6 _ _ _)
    (TilS.tile 0 5 _ (dvn_pay a1 w1 a3 w3 a7 w7 hB 0 5 _ _ _)
    (TilS.tile 0 4 _ (dvn_pay a1 w1 a3 w3 a7 w7 hB 0 4 _ _ _)
    (TilS.tile 0 3 _ (dvn_pay a1 w1 a3 w3 a7 w7 hB 0 3 _ _ _)
    (TilS.tile 0 2 _ (dvn_pay a1 w1 a3 w3 a7 w7 hB 0 2 _ _ _)
    (TilS.tile 0 1 _ (dvn_pay a1 w1 a3 w3 a7 w7 hB 0 1 _ _ _)
    (TilS.tile 0 0 _ (dvn_pay a1 w1 a3 w3 a7 w7 hB 0 0 _ _ _)
    TilS.nil))))))))))))))))))))))))))))))))

theorem dvn_A (r : Fin 512) (k : Fin 1024) : kernelRun0_A.sl.v1847 (F := Ideal) c a1 w1 a3 w3 a7 w7 a15 x0 x2 x6 (ix2 r k) = ((I.dvn (br t r) k : ℝ) : EReal) := by
  unfold kernelRun0_A.sl.v1847
  rw [View.readCov_eq_canon']
  have e : (Rect.unit (s := S512x1024) ![0, 0] S512x1024.size inb_S512x1024_S512x1024_0_0).toLoadRect.idx (ix2 r k : S512x1024.Idx) = (ix2 r k : S512x1024.Idx) := by
    funext a
    apply Fin.ext
    match a with
    | ⟨0, _⟩ => show 0 + 1 * r.val = r.val; omega
    | ⟨1, _⟩ => show 0 + 1 * k.val = k.val; omega
  exact (congrArg _ e).trans ((dvnL_A c a1 w1 a3 w3 a7 w7 hB).all r k k.isLt)

theorem db_A : DbH I t 32 (kernelRun0_A.sl.v1842 (F := Ideal) c a1 w1 a3 w3 x0 x2) :=
  (DbH.tile a3 w3 3 7 slices_S512x1024_o384_896_S128x128 inb_S512x1024_S128x128_384_896 (GUw_apply a1 w1 hB) hB.hD
    (DbH.tile a3 w3 3 6 slices_S512x1024_o384_768_S128x128 inb_S512x1024_S128x128_384_768 (GUw_apply a1 w1 hB) hB.hD
    (DbH.tile a3 w3 3 5 slices_S512x1024_o384_640_S128x128 inb_S512x1024_S128x128_384_640 (GUw_apply a1 w1 hB) hB.hD
    (DbH.tile a3 w3 3 4 slices_S512x1024_o384_512_S128x128 inb_S512x1024_S128x128_384_512 (GUw_apply a1 w1 hB) hB.hD
    (DbH.tile a3 w3 3 3 slices_S512x1024_o384_384_S128x128 inb_S512x1024_S128x128_384_384 (GUw_apply a1 w1 hB) hB.hD
    (DbH.tile a3 w3 3 2 slices_S512x1024_o384_256_S128x128 inb_S512x1024_S128x128_384_256 (GUw_apply a1 w1 hB) hB.hD
    (DbH.tile a3 w3 3 1 slices_S512x1024_o384_128_S128x128 inb_S512x1024_S128x128_384_128 (GUw_apply a1 w1 hB) hB.hD
    (DbH.tile a3 w3 3 0 slices_S512x1024_o384_0_S128x128 inb_S512x1024_S128x128_384_0 (GUw_apply a1 w1 hB) hB.hD
    (DbH.tile a3 w3 2 7 slices_S512x1024_o256_896_S128x128 inb_S512x1024_S128x128_256_896 (GUw_apply a1 w1 hB) hB.hD
    (DbH.tile a3 w3 2 6 slices_S512x1024_o256_768_S128x128 inb_S512x1024_S128x128_256_768 (GUw_apply a1 w1 hB) hB.hD
    (DbH.tile a3 w3 2 5 slices_S512x1024_o256_640_S128x128 inb_S512x1024_S128x128_256_640 (GUw_apply a1 w1 hB) hB.hD
    (DbH.tile a3 w3 2 4 slices_S512x1024_o256_512_S128x128 inb_S512x1024_S128x128_256_512 (GUw_apply a1 w1 hB) hB.hD
    (DbH.tile a3 w3 2 3 slices_S512x1024_o256_384_S128x128 inb_S512x1024_S128x128_256_384 (GUw_apply a1 w1 hB) hB.hD
    (DbH.tile a3 w3 2 2 slices_S512x1024_o256_256_S128x128 inb_S512x1024_S128x128_256_256 (GUw_apply a1 w1 hB) hB.hD
    (DbH.tile a3 w3 2 1 slices_S512x1024_o256_128_S128x128 inb_S512x1024_S128x128_256_128 (GUw_apply a1 w1 hB) hB.hD
    (DbH.tile a3 w3 2 0 slices_S512x1024_o256_0_S128x128 inb_S512x1024_S128x128_256_0 (GUw_apply a1 w1 hB) hB.hD
    (DbH.tile a3 w3 1 7 slices_S512x1024_o128_896_S128x128 inb_S512x1024_S128x128_128_896 (GUw_apply a1 w1 hB) hB.hD
    (DbH.tile a3 w3 1 6 slices_S512x1024_o128_768_S128x128 inb_S512x1024_S128x128_128_768 (GUw_apply a1 w1 hB) hB.hD
    (DbH.tile a3 w3 1 5 slices_S512x1024_o128_640_S128x128 inb_S512x1024_S128x128_128_640 (GUw_apply a1 w1 hB) hB.hD
    (DbH.tile a3 w3 1 4 slices_S512x1024_o128_512_S128x128 inb_S512x1024_S128x128_128_512 (GUw_apply a1 w1 hB) hB.hD
    (DbH.tile a3 w3 1 3 slices_S512x1024_o128_384_S128x128 inb_S512x1024_S128x128_128_384 (GUw_apply a1 w1 hB) hB.hD
    (DbH.tile a3 w3 1 2 slices_S512x1024_o128_256_S128x128 inb_S512x1024_S128x128_128_256 (GUw_apply a1 w1 hB) hB.hD
    (DbH.tile a3 w3 1 1 slices_S512x1024_o128_128_S128x128 inb_S512x1024_S128x128_128_128 (GUw_apply a1 w1 hB) hB.hD
    (DbH.tile a3 w3 1 0 slices_S512x1024_o128_0_S128x128 inb_S512x1024_S128x128_128_0 (GUw_apply a1 w1 hB) hB.hD
    (DbH.tile a3 w3 0 7 slices_S512x1024_o0_896_S128x128 inb_S512x1024_S128x128_0_896 (GUw_apply a1 w1 hB) hB.hD
    (DbH.tile a3 w3 0 6 slices_S512x1024_o0_768_S128x128 inb_S512x1024_S128x128_0_768 (GUw_apply a1 w1 hB) hB.hD
    (DbH.tile a3 w3 0 5 slices_S512x1024_o0_640_S128x128 inb_S512x1024_S128x128_0_640 (GUw_apply a1 w1 hB) hB.hD
    (DbH.tile a3 w3 0 4 slices_S512x1024_o0_512_S128x128 inb_S512x1024_S128x128_0_512 (GUw_apply a1 w1 hB) hB.hD
    (DbH.tile a3 w3 0 3 slices_S512x1024_o0_384_S128x128 inb_S512x1024_S128x128_0_384 (GUw_apply a1 w1 hB) hB.hD
    (DbH.tile a3 w3 0 2 slices_S512x1024_o0_256_S128x128 inb_S512x1024_S128x128_0_256 (GUw_apply a1 w1 hB) hB.hD
    (DbH.tile a3 w3 0 1 slices_S512x1024_o0_128_S128x128 inb_S512x1024_S128x128_0_128 (GUw_apply a1 w1 hB) hB.hD
    (DbH.tile a3 w3 0 0 slices_S512x1024_o0_0_S128x128 inb_S512x1024_S128x128_0_0 (GUw_apply a1 w1 hB) hB.hD
    DbH.zero))))))))))))))))))))))))))))))))

theorem dvnL_B : TilS (fun r c => ((I.dvn (br t r) c : ℝ) : EReal)) 32 (kernelRun0_B.sl.HS0_32 (F := Ideal) c a1 w1 a3 w3 a7 w7 x0 x2 x6) :=
  (TilS.tile 3 7 _ (dvn_pay a1 w1 a3 w3 a7 w7 hB 3 7 _ _ _)
    (TilS.tile 3 6 _ (dvn_pay a1 w1 a3 w3 a7 w7 hB 3 6 _ _ _)
    (TilS.tile 3 5 _ (dvn_pay a1 w1 a3 w3 a7 w7 hB 3 5 _ _ _)
    (TilS.tile 3 4 _ (dvn_pay a1 w1 a3 w3 a7 w7 hB 3 4 _ _ _)
    (TilS.tile 3 3 _ (dvn_pay a1 w1 a3 w3 a7 w7 hB 3 3 _ _ _)
    (TilS.tile 3 2 _ (dvn_pay a1 w1 a3 w3 a7 w7 hB 3 2 _ _ _)
    (TilS.tile 3 1 _ (dvn_pay a1 w1 a3 w3 a7 w7 hB 3 1 _ _ _)
    (TilS.tile 3 0 _ (dvn_pay a1 w1 a3 w3 a7 w7 hB 3 0 _ _ _)
    (TilS.tile 2 7 _ (dvn_pay a1 w1 a3 w3 a7 w7 hB 2 7 _ _ _)
    (TilS.tile 2 6 _ (dvn_pay a1 w1 a3 w3 a7 w7 hB 2 6 _ _ _)
    (TilS.tile 2 5 _ (dvn_pay a1 w1 a3 w3 a7 w7 hB 2 5 _ _ _)
    (TilS.tile 2 4 _ (dvn_pay a1 w1 a3 w3 a7 w7 hB 2 4 _ _ _)
    (TilS.tile 2 3 _ (dvn_pay a1 w1 a3 w3 a7 w7 hB 2 3 _ _ _)
    (TilS.tile 2 2 _ (dvn_pay a1 w1 a3 w3 a7 w7 hB 2 2 _ _ _)
    (TilS.tile 2 1 _ (dvn_pay a1 w1 a3 w3 a7 w7 hB 2 1 _ _ _)
    (TilS.tile 2 0 _ (dvn_pay a1 w1 a3 w3 a7 w7 hB 2 0 _ _ _)
    (TilS.tile 1 7 _ (dvn_pay a1 w1 a3 w3 a7 w7 hB 1 7 _ _ _)
    (TilS.tile 1 6 _ (dvn_pay a1 w1 a3 w3 a7 w7 hB 1 6 _ _ _)
    (TilS.tile 1 5 _ (dvn_pay a1 w1 a3 w3 a7 w7 hB 1 5 _ _ _)
    (TilS.tile 1 4 _ (dvn_pay a1 w1 a3 w3 a7 w7 hB 1 4 _ _ _)
    (TilS.tile 1 3 _ (dvn_pay a1 w1 a3 w3 a7 w7 hB 1 3 _ _ _)
    (TilS.tile 1 2 _ (dvn_pay a1 w1 a3 w3 a7 w7 hB 1 2 _ _ _)
    (TilS.tile 1 1 _ (dvn_pay a1 w1 a3 w3 a7 w7 hB 1 1 _ _ _)
    (TilS.tile 1 0 _ (dvn_pay a1 w1 a3 w3 a7 w7 hB 1 0 _ _ _)
    (TilS.tile 0 7 _ (dvn_pay a1 w1 a3 w3 a7 w7 hB 0 7 _ _ _)
    (TilS.tile 0 6 _ (dvn_pay a1 w1 a3 w3 a7 w7 hB 0 6 _ _ _)
    (TilS.tile 0 5 _ (dvn_pay a1 w1 a3 w3 a7 w7 hB 0 5 _ _ _)
    (TilS.tile 0 4 _ (dvn_pay a1 w1 a3 w3 a7 w7 hB 0 4 _ _ _)
    (TilS.tile 0 3 _ (dvn_pay a1 w1 a3 w3 a7 w7 hB 0 3 _ _ _)
    (TilS.tile 0 2 _ (dvn_pay a1 w1 a3 w3 a7 w7 hB 0 2 _ _ _)
    (TilS.tile 0 1 _ (dvn_pay a1 w1 a3 w3 a7 w7 hB 0 1 _ _ _)
    (TilS.tile 0 0 _ (dvn_pay a1 w1 a3 w3 a7 w7 hB 0 0 _ _ _)
    TilS.nil))))))))))))))))))))))))))))))))

theorem dvn_B (r : Fin 512) (k : Fin 1024) : kernelRun0_B.sl.v1847 (F := Ideal) c a1 w1 a3 w3 a7 w7 a15 x0 x2 x6 (ix2 r k) = ((I.dvn (br t r) k : ℝ) : EReal) := by
  unfold kernelRun0_B.sl.v1847
  rw [View.readCov_eq_canon']
  have e : (Rect.unit (s := S512x1024) ![0, 0] S512x1024.size inb_S512x1024_S512x1024_0_0).toLoadRect.idx (ix2 r k : S512x1024.Idx) = (ix2 r k : S512x1024.Idx) := by
    funext a
    apply Fin.ext
    match a with
    | ⟨0, _⟩ => show 0 + 1 * r.val = r.val; omega
    | ⟨1, _⟩ => show 0 + 1 * k.val = k.val; omega
  exact (congrArg _ e).trans ((dvnL_B c a1 w1 a3 w3 a7 w7 hB).all r k k.isLt)

theorem db_B : DbH I t 32 (kernelRun0_B.sl.v1842 (F := Ideal) c a1 w1 a3 w3 x0 x2) :=
  (DbH.tile a3 w3 3 7 slices_S512x1024_o384_896_S128x128 inb_S512x1024_S128x128_384_896 (GUw_apply a1 w1 hB) hB.hD
    (DbH.tile a3 w3 3 6 slices_S512x1024_o384_768_S128x128 inb_S512x1024_S128x128_384_768 (GUw_apply a1 w1 hB) hB.hD
    (DbH.tile a3 w3 3 5 slices_S512x1024_o384_640_S128x128 inb_S512x1024_S128x128_384_640 (GUw_apply a1 w1 hB) hB.hD
    (DbH.tile a3 w3 3 4 slices_S512x1024_o384_512_S128x128 inb_S512x1024_S128x128_384_512 (GUw_apply a1 w1 hB) hB.hD
    (DbH.tile a3 w3 3 3 slices_S512x1024_o384_384_S128x128 inb_S512x1024_S128x128_384_384 (GUw_apply a1 w1 hB) hB.hD
    (DbH.tile a3 w3 3 2 slices_S512x1024_o384_256_S128x128 inb_S512x1024_S128x128_384_256 (GUw_apply a1 w1 hB) hB.hD
    (DbH.tile a3 w3 3 1 slices_S512x1024_o384_128_S128x128 inb_S512x1024_S128x128_384_128 (GUw_apply a1 w1 hB) hB.hD
    (DbH.tile a3 w3 3 0 slices_S512x1024_o384_0_S128x128 inb_S512x1024_S128x128_384_0 (GUw_apply a1 w1 hB) hB.hD
    (DbH.tile a3 w3 2 7 slices_S512x1024_o256_896_S128x128 inb_S512x1024_S128x128_256_896 (GUw_apply a1 w1 hB) hB.hD
    (DbH.tile a3 w3 2 6 slices_S512x1024_o256_768_S128x128 inb_S512x1024_S128x128_256_768 (GUw_apply a1 w1 hB) hB.hD
    (DbH.tile a3 w3 2 5 slices_S512x1024_o256_640_S128x128 inb_S512x1024_S128x128_256_640 (GUw_apply a1 w1 hB) hB.hD
    (DbH.tile a3 w3 2 4 slices_S512x1024_o256_512_S128x128 inb_S512x1024_S128x128_256_512 (GUw_apply a1 w1 hB) hB.hD
    (DbH.tile a3 w3 2 3 slices_S512x1024_o256_384_S128x128 inb_S512x1024_S128x128_256_384 (GUw_apply a1 w1 hB) hB.hD
    (DbH.tile a3 w3 2 2 slices_S512x1024_o256_256_S128x128 inb_S512x1024_S128x128_256_256 (GUw_apply a1 w1 hB) hB.hD
    (DbH.tile a3 w3 2 1 slices_S512x1024_o256_128_S128x128 inb_S512x1024_S128x128_256_128 (GUw_apply a1 w1 hB) hB.hD
    (DbH.tile a3 w3 2 0 slices_S512x1024_o256_0_S128x128 inb_S512x1024_S128x128_256_0 (GUw_apply a1 w1 hB) hB.hD
    (DbH.tile a3 w3 1 7 slices_S512x1024_o128_896_S128x128 inb_S512x1024_S128x128_128_896 (GUw_apply a1 w1 hB) hB.hD
    (DbH.tile a3 w3 1 6 slices_S512x1024_o128_768_S128x128 inb_S512x1024_S128x128_128_768 (GUw_apply a1 w1 hB) hB.hD
    (DbH.tile a3 w3 1 5 slices_S512x1024_o128_640_S128x128 inb_S512x1024_S128x128_128_640 (GUw_apply a1 w1 hB) hB.hD
    (DbH.tile a3 w3 1 4 slices_S512x1024_o128_512_S128x128 inb_S512x1024_S128x128_128_512 (GUw_apply a1 w1 hB) hB.hD
    (DbH.tile a3 w3 1 3 slices_S512x1024_o128_384_S128x128 inb_S512x1024_S128x128_128_384 (GUw_apply a1 w1 hB) hB.hD
    (DbH.tile a3 w3 1 2 slices_S512x1024_o128_256_S128x128 inb_S512x1024_S128x128_128_256 (GUw_apply a1 w1 hB) hB.hD
    (DbH.tile a3 w3 1 1 slices_S512x1024_o128_128_S128x128 inb_S512x1024_S128x128_128_128 (GUw_apply a1 w1 hB) hB.hD
    (DbH.tile a3 w3 1 0 slices_S512x1024_o128_0_S128x128 inb_S512x1024_S128x128_128_0 (GUw_apply a1 w1 hB) hB.hD
    (DbH.tile a3 w3 0 7 slices_S512x1024_o0_896_S128x128 inb_S512x1024_S128x128_0_896 (GUw_apply a1 w1 hB) hB.hD
    (DbH.tile a3 w3 0 6 slices_S512x1024_o0_768_S128x128 inb_S512x1024_S128x128_0_768 (GUw_apply a1 w1 hB) hB.hD
    (DbH.tile a3 w3 0 5 slices_S512x1024_o0_640_S128x128 inb_S512x1024_S128x128_0_640 (GUw_apply a1 w1 hB) hB.hD
    (DbH.tile a3 w3 0 4 slices_S512x1024_o0_512_S128x128 inb_S512x1024_S128x128_0_512 (GUw_apply a1 w1 hB) hB.hD
    (DbH.tile a3 w3 0 3 slices_S512x1024_o0_384_S128x128 inb_S512x1024_S128x128_0_384 (GUw_apply a1 w1 hB) hB.hD
    (DbH.tile a3 w3 0 2 slices_S512x1024_o0_256_S128x128 inb_S512x1024_S128x128_0_256 (GUw_apply a1 w1 hB) hB.hD
    (DbH.tile a3 w3 0 1 slices_S512x1024_o0_128_S128x128 inb_S512x1024_S128x128_0_128 (GUw_apply a1 w1 hB) hB.hD
    (DbH.tile a3 w3 0 0 slices_S512x1024_o0_0_S128x128 inb_S512x1024_S128x128_0_0 (GUw_apply a1 w1 hB) hB.hD
    DbH.zero))))))))))))))))))))))))))))))))

end Cert.Sgu

end
-- ==== Proof.Sgu.Win.lean ====
/- What each output's block holds after a point of the grid. -/
module

public import proofs.«01_k».proof.Proof.Sgu.Grid
public import Idealize.ShloMosaic.Lib.Claim
public import Idealize.ShloMosaic.Lib.Pointwise
public import Idealize.ShloMosaic.Lib.Pipeline.ValueKit

@[expose] public section

set_option maxRecDepth 16384

noncomputable section

namespace Cert.Sgu

open Cert.KernelIdeal Cert.KernelIdeal.Gen Idealize.ShloMosaic Idealize.ShloMosaic.TcCoe Idealize.ShloMosaic.Tactic Idealize.SL.Sem
open Idealize.ShloMosaic.Pipeline (Dat)

theorem whole_row (pay : Vec Ideal S1x1024 .f32) (L : List (View.Piece (Elt Ideal) S1x1024 .f32)) (inb) (k : Fin 1024) :
    View.canon (Val := Elt Ideal) (s := S1x1024) (e := .f32) (⟨Rect.unit (s := S1x1024) ![0, 0] S1x1024.size inb, pay⟩ :: L) (ix2 0 k) = pay (ix2 0 k) := by
  have e : (Rect.unit (s := S1x1024) ![0, 0] S1x1024.size inb).emb (ix2 0 k : S1x1024.Idx) = (ix2 0 k : S1x1024.Idx) := by
    funext a
    apply Fin.ext
    match a with
    | ⟨0, _⟩ => rfl
    | ⟨1, _⟩ => show 0 + 1 * k.val = k.val; omega
  have h := View.canon_cons_emb (Val := Elt Ideal) (s := S1x1024) (e := .f32) (Rect.unit (s := S1x1024) ![0, 0] S1x1024.size inb) pay L (ix2 0 k : S1x1024.Idx)
  rwa [e] at h

theorem whole_sq (pay : Vec Ideal S128x128 .f32) (L : List (View.Piece (Elt Ideal) S128x128 .f32)) (inb) (i l : Fin 128) :
    View.canon (Val := Elt Ideal) (s := S128x128) (e := .f32) (⟨Rect.unit (s := S128x128) ![0, 0] S128x128.size inb, pay⟩ :: L) (ix2 i l) = pay (ix2 i l) := by
  have e : (Rect.unit (s := S128x128) ![0, 0] S128x128.size inb).emb (ix2 i l : S128x128.Idx) = (ix2 i l : S128x128.Idx) := by
    funext a
    apply Fin.ext
    match a with
    | ⟨0, _⟩ => show 0 + 1 * i.val = i.val; omega
    | ⟨1, _⟩ => show 0 + 1 * l.val = l.val; omega
  have h := View.canon_cons_emb (Val := Elt Ideal) (s := S128x128) (e := .f32) (Rect.unit (s := S128x128) ![0, 0] S128x128.size inb) pay L (ix2 i l : S128x128.Idx)
  rwa [e] at h

theorem cov_row (v : Memref sig .tc .vmem S1x1024 .f32) (pay : Vec Ideal S1x1024 .f32) (L : List (View.Piece (Elt Ideal) S1x1024 .f32)) (inb inb') (k : Fin 1024) :
    (v.view.readCov (⟨Rect.unit (s := S1x1024) ![0, 0] S1x1024.size inb, pay⟩ :: L) (Rect.unit (s := S1x1024) ![0, 0] S1x1024.size inb').toLoadRect : Vec Ideal S1x1024 .f32) (ix2 0 k)
      = pay (ix2 0 k) := by
  rw [View.readCov_eq_canon']
  have e : (Rect.unit (s := S1x1024) ![0, 0] S1x1024.size inb').toLoadRect.idx (ix2 0 k : S1x1024.Idx) = (ix2 0 k : S1x1024.Idx) := by
    funext a
    apply Fin.ext
    match a with
    | ⟨0, _⟩ => rfl
    | ⟨1, _⟩ => show 0 + 1 * k.val = k.val; omega
  exact (congrArg _ e).trans (whole_row pay L inb k)

theorem cov_sq (v : Memref sig .tc .vmem S128x128 .f32) (pay : Vec Ideal S128x128 .f32) (L : List (View.Piece (Elt Ideal) S128x128 .f32)) (inb inb') (i l : Fin 128) :
    (v.view.readCov (⟨Rect.unit (s := S128x128) ![0, 0] S128x128.size inb, pay⟩ :: L) (Rect.unit (s := S128x128) ![0, 0] S128x128.size inb').toLoadRect : Vec Ideal S128x128 .f32) (ix2 i l)
      = pay (ix2 i l) := by
  rw [View.readCov_eq_canon']
  have e : (Rect.unit (s := S128x128) ![0, 0] S128x128.size inb').toLoadRect.idx (ix2 i l : S128x128.Idx) = (ix2 i l : S128x128.Idx) := by
    funext a
    apply Fin.ext
    match a with
    | ⟨0, _⟩ => show 0 + 1 * i.val = i.val; omega
    | ⟨1, _⟩ => show 0 + 1 * l.val = l.val; omega
  exact (congrArg _ e).trans (whole_sq pay L inb i l)

theorem load_row (v : Memref sig .tc .vmem S1x1024 .f32) (hv : v.IsWhole) (x : Vec Ideal S1x1024 .f32) (inb) (k : Fin 1024) :
    (View.readAt (Elt Ideal) v.view (Rect.unit (s := S1x1024) ![0, 0] S1x1024.size inb).toLoadRect (hv.unread x) : Vec Ideal S1x1024 .f32) (ix2 0 k) = x (ix2 0 k) := by
  rw [View.readAt_eq_ld, Memref.IsWhole.read_unread]
  pointwise []
theorem load_sq (v : Memref sig .tc .vmem S128x128 .f32) (hv : v.IsWhole) (x : Vec Ideal S128x128 .f32) (inb) (i l : Fin 128) :
    (View.readAt (Elt Ideal) v.view (Rect.unit (s := S128x128) ![0, 0] S128x128.size inb).toLoadRect (hv.unread x) : Vec Ideal S128x128 .f32) (ix2 i l) = x (ix2 i l) := by
  rw [View.readAt_eq_ld, Memref.IsWhole.read_unread]
  pointwise []

/-- A row's running sum of a block's columns. -/
def rowP (prev : FVec Ideal S1x1024 .f32) (D : FVec Ideal S512x1024 .f32) : FVec Ideal S1x1024 .f32 :=
  addf (shapeCast S1x1024 prev shapeCasts_S1x1024_S1x1024)
    (shapeCast S1x1024 (multiReduction .add [0] S1024 D 0x00000000#32 reduces_S512x1024_S1024 (.inl rfl) rfl) shapeCasts_S1024_S1x1024)
def sqP (prev D : FVec Ideal S128x128 .f32) : FVec Ideal S128x128 .f32 := addf (shapeCast S128x128 prev shapeCasts_S128x128_S128x128) D

theorem rowP_apply {prev : FVec Ideal S1x1024 .f32} {D : FVec Ideal S512x1024 .f32} {d : Fin 512 → Fin 1024 → ℝ} {p : Fin 1024 → EReal}
    (hp : ∀ k, prev (ix2 0 k) = p k) (hD : ∀ r k, D (ix2 r k) = ((d r k : ℝ) : EReal)) (k : Fin 1024) :
    rowP prev D (ix2 0 k) = p k + ((∑ r, d r k : ℝ) : EReal) := by
  pointwise [rowP, hp, hD]
  rw [coe_sum]
theorem sqP_apply {prev D : FVec Ideal S128x128 .f32} {d : Fin 128 → Fin 128 → ℝ} {p : Fin 128 → Fin 128 → EReal}
    (hp : ∀ i l, prev (ix2 i l) = p i l) (hD : ∀ i l, D (ix2 i l) = ((d i l : ℝ) : EReal)) (i l : Fin 128) :
    sqP prev D (ix2 i l) = p i l + ((d i l : ℝ) : EReal) := by
  pointwise [sqP, hp, hD]

variable {I : Inp} {t : Fin 32}
  (c : Dev nD) (a1 : Memref sig .tc .vmem S512x1024 .bf16) (w1 : a1.IsWhole) (a2 : Memref sig .tc .vmem S512x1024 .bf16) (w2 : a2.IsWhole)
  (a3 : Memref sig .tc .vmem S512x1024 .bf16) (w3 : a3.IsWhole) (a4 : Memref sig .tc .vmem S1x1024 .f32) (w4 : a4.IsWhole)
  (a5 : Memref sig .tc .vmem S1x1024 .f32) (w5 : a5.IsWhole) (a6 : Memref sig .tc .vmem S8x128x128 .bf16) (w6 : a6.IsWhole)
  (a7 : Memref sig .tc .vmem S8x128x128 .bf16) (w7 : a7.IsWhole) (a8 : Memref sig .tc .vmem S8x128x128 .f32) (w8 : a8.IsWhole)
  (a15 : Memref sig .tc .vmem S512x1024 .f32)
  {x0 x1 x2 : FVec Ideal S512x1024 .bf16} {x3 x4 : FVec Ideal S1x1024 .f32} {x5 x6 : FVec Ideal S8x128x128 .bf16} {x7 : FVec Ideal S8x128x128 .f32}
  (hB : Blk I t x0 x1 x2 x3 x4 x5 x6 x7)

/-- The second half of the pre-activation, loaded. -/
def VSw (a2 : Memref sig .tc .vmem S512x1024 .bf16) (x1 : FVec Ideal S512x1024 .bf16) (w2 : a2.IsWhole) : FVec Ideal S512x1024 .bf16 :=
  View.readAt (Elt Ideal) a2.view (Rect.unit (s := S512x1024) ![0, 0] S512x1024.size inb_S512x1024_S512x1024_0_0).toLoadRect (w2.unread x1)
/-- The norm's scale, loaded and spread over the rows. -/
def LGw (a4 : Memref sig .tc .vmem S1x1024 .f32) (x3 : FVec Ideal S1x1024 .f32) (w4 : a4.IsWhole) : FVec Ideal S512x1024 .f32 :=
  broadcastTo S512x1024 (View.readAt (Elt Ideal) a4.view (Rect.unit (s := S1x1024) ![0, 0] S1x1024.size inb_S1x1024_S1x1024_0_0).toLoadRect (w4.unread x3) : Vec Ideal S1x1024 .f32)
    broadcasts_S1x1024_S512x1024

include hB
theorem VSw_apply (r : Fin 512) (k : Fin 1024) : VSw a2 x1 w2 (ix2 r k) = ((I.V (br t r) k : ℝ) : EReal) := by
  unfold VSw
  rw [View.readAt_eq_ld, Memref.IsWhole.read_unread]
  pointwise [hB.hV]
theorem LGw_apply (r : Fin 512) (k : Fin 1024) : LGw a4 x3 w4 (ix2 r k) = ((I.LG k : ℝ) : EReal) := by
  pointwise [LGw]
  exact (load_row a4 w4 x3 inb_S1x1024_S1x1024_0_0 k).trans (hB.hG k)

theorem vh_apply (r : Fin 512) (k : Fin 1024) : k0_pay11 (F := Ideal) (VSw a2 x1 w2) (ix2 r k) = ((vh (I.V (br t r)) k : ℝ) : EReal) :=
  pay11 (X1 := fun r => I.V (br t r)) (VSw_apply a2 w2 hB) r k

theorem dlgD_apply {D : FVec Ideal S512x1024 .f32} (hD : ∀ r k, D (ix2 r k) = ((I.dvn (br t r) k : ℝ) : EReal)) (r : Fin 512) (k : Fin 1024) :
    mulf D (k0_pay11 (F := Ideal) (VSw a2 x1 w2)) (ix2 r k) = ((I.dvn (br t r) k * vh (I.V (br t r)) k : ℝ) : EReal) := by
  pointwise [hD]
  rw [vh_apply a2 w2 hB, ← EReal.coe_mul]

/-- The second half's gradient. -/
theorem dv_pay {D : FVec Ideal S512x1024 .f32} (hD : ∀ r k, D (ix2 r k) = ((I.dvn (br t r) k : ℝ) : EReal)) (r : Fin 512) (k : Fin 1024) :
    k0_pay1 (F := Ideal) (k0_pay7 (VSw a2 x1 w2)) (k0_pay10 (VSw a2 x1 w2)) (k0_pay11 (VSw a2 x1 w2)) (k0_pay339 D (LGw a4 x3 w4)) (k0_pay340 D (LGw a4 x3 w4)) (ix2 r k)
      = ((I.dvr (br t r) k : ℝ) : EReal) := by
  have h1 (r k) : k0_pay339 (F := Ideal) D (LGw a4 x3 w4) (ix2 r k) = ((I.dvn (br t r) k * I.LG k : ℝ) : EReal) := by
    pointwise [k0_pay339, hD]
    rw [LGw_apply a4 w4 hB, ← EReal.coe_mul]
  refine pay1 (X1 := fun r => I.V (br t r)) (LG := I.LG) (E := fun r => I.dvn (br t r)) (fun r k => pay7 (X1 := fun r => I.V (br t r)) (VSw_apply a2 w2 hB) r k)
    (fun r => pay10 (X1 := fun r => I.V (br t r)) (VSw_apply a2 w2 hB) r) (vh_apply a2 w2 hB) h1 (fun r k => ?_) r k
  pointwise [k0_pay340, h1]
  rw [coe_sum, div_1024, ← EReal.coe_sub]

omit hB in
/-- The first output's block: the first half's gradient in its tiles, the second half's beside them. -/
theorem dz_canon {P : Vec Ideal S512x1024 .bf16} {L : List (View.Piece (Elt Ideal) S512x2048 .bf16)} (inb) (hP : ∀ r k, P (ix2 r k) = ((I.dvr (br t r) k : ℝ) : EReal))
    (hL : TilZ (fun r k => ((I.du (br t r) k : ℝ) : EReal)) 32 L) (r : Fin 512) (k : Fin 2048) :
    View.canon (Val := Elt Ideal) (s := S512x2048) (e := .bf16) (⟨Rect.unit (s := S512x2048) ![0, 1024] S512x1024.size inb, P⟩ :: L) (ix2 r k)
      = if h : k.val < 1024 then ((I.du (br t r) ⟨k.val, h⟩ : ℝ) : EReal) else ((I.dvr (br t r) ⟨k.val - 1024, by omega⟩ : ℝ) : EReal) := by
  by_cases h : k.val < 1024
  · rw [dif_pos h]
    have hn : (ix2 r k : S512x2048.Idx) ∉ (Rect.unit (s := S512x2048) ![0, 1024] S512x1024.size inb).set := by
      rw [Rect.mem_set_unit]
      intro hm
      have a : 1024 ≤ k.val := (hm 1).1
      omega
    exact (View.canon_cons_of_not_mem (Val := Elt Ideal) (s := S512x2048) (e := .bf16) ⟨Rect.unit ![0, 1024] S512x1024.size inb, P⟩ L hn).trans (hL.all r k h)
  · rw [dif_neg h]
    have e : (Rect.unit (s := S512x2048) ![0, 1024] S512x1024.size inb).emb (ix2 r (⟨k.val - 1024, by omega⟩ : Fin 1024) : S512x1024.Idx) = (ix2 r k : S512x2048.Idx) := by
      funext a
      apply Fin.ext
      match a with
      | ⟨0, _⟩ => show 0 + 1 * r.val = r.val; omega
      | ⟨1, _⟩ => show 1024 + 1 * (k.val - 1024) = k.val; omega
    have h := View.canon_cons_emb (Val := Elt Ideal) (s := S512x2048) (e := .bf16) (Rect.unit (s := S512x2048) ![0, 1024] S512x1024.size inb) P L (ix2 r (⟨k.val - 1024, by omega⟩ : Fin 1024) : S512x1024.Idx)
    rw [e] at h
    exact h.trans (hP r _)

omit hB
variable (m : (ℓ : Loc nD τ sig) → Buf (Elt Ideal) ℓ)

/-- Point `t`'s position among the blocks. -/
def pt (t : Fin cfg0.N) : Fin 32 := ⟨t.val, t.isLt⟩

def BlkAt (I : Inp) (m : (ℓ : Loc nD τ sig) → Buf (Elt Ideal) ℓ) (c : Dev nD) (t : Fin cfg0.N) : Prop :=
  Blk I (pt t) (iblk m c 0 t) (iblk m c 1 t) (iblk m c 2 t) (iblk m c 3 t) (iblk m c 4 t) (iblk m c 5 t) (iblk m c 6 t) (iblk m c 7 t)

/-- What the outputs held at the point before. -/
abbrev before (m : (ℓ : Loc nD τ sig) → Buf (Elt Ideal) ℓ) (c : Dev nD) (t : Fin cfg0.N) := outsAt0 m c (t.val - 1) (Nat.lt_of_le_of_lt (Nat.sub_le _ _) t.isLt)

theorem w8_A (t : Fin cfg0.N) (h0 : t.val % 32 = 0) (h : BlkAt I m c t) (r : Fin 512) (k : Fin 2048) :
    (outsAt0 m c t.val t.isLt).1 (ix2 r k)
      = if h : k.val < 1024 then ((I.du (br (pt t) r) ⟨k.val, h⟩ : ℝ) : EReal) else ((I.dvr (br (pt t) r) ⟨k.val - 1024, by omega⟩ : ℝ) : EReal) := by
  rw [outsAt0_A m c t h0]
  dsimp only
  unfold out0_A_8
  rw [View.read_writes_junk_eq_canon]
  unfold kernelRun0_A
  dsimp only
  exact dz_canon (t := pt t) inb_S512x2048_S512x1024_0_1024 (dv_pay (ms0_1 t) (hs0_1 t) (ms0_3 t) (hs0_3 t) h (dvn_A c (ms0_0 t) (hs0_0 t) (ms0_2 t) (hs0_2 t) (ms0_6 t) (hs0_6 t) scM0_0 h)) (TilZ.tile 3 7 inb_S512x2048_S128x128_384_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 7 slices_S512x1024_o384_896_S128x128 inb_S8x128x128_S1x128x128_7_0_0 inb_S512x1024_S128x128_384_896)
    (TilZ.tile 3 6 inb_S512x2048_S128x128_384_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 6 slices_S512x1024_o384_768_S128x128 inb_S8x128x128_S1x128x128_6_0_0 inb_S512x1024_S128x128_384_768)
    (TilZ.tile 3 5 inb_S512x2048_S128x128_384_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 5 slices_S512x1024_o384_640_S128x128 inb_S8x128x128_S1x128x128_5_0_0 inb_S512x1024_S128x128_384_640)
    (TilZ.tile 3 4 inb_S512x2048_S128x128_384_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 4 slices_S512x1024_o384_512_S128x128 inb_S8x128x128_S1x128x128_4_0_0 inb_S512x1024_S128x128_384_512)
    (TilZ.tile 3 3 inb_S512x2048_S128x128_384_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 3 slices_S512x1024_o384_384_S128x128 inb_S8x128x128_S1x128x128_3_0_0 inb_S512x1024_S128x128_384_384)
    (TilZ.tile 3 2 inb_S512x2048_S128x128_384_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 2 slices_S512x1024_o384_256_S128x128 inb_S8x128x128_S1x128x128_2_0_0 inb_S512x1024_S128x128_384_256)
    (TilZ.tile 3 1 inb_S512x2048_S128x128_384_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 1 slices_S512x1024_o384_128_S128x128 inb_S8x128x128_S1x128x128_1_0_0 inb_S512x1024_S128x128_384_128)
    (TilZ.tile 3 0 inb_S512x2048_S128x128_384_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 0 slices_S512x1024_o384_0_S128x128 inb_S8x128x128_S1x128x128_0_0_0 inb_S512x1024_S128x128_384_0)
    (TilZ.tile 2 7 inb_S512x2048_S128x128_256_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 7 slices_S512x1024_o256_896_S128x128 inb_S8x128x128_S1x128x128_7_0_0 inb_S512x1024_S128x128_256_896)
    (TilZ.tile 2 6 inb_S512x2048_S128x128_256_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 6 slices_S512x1024_o256_768_S128x128 inb_S8x128x128_S1x128x128_6_0_0 inb_S512x1024_S128x128_256_768)
    (TilZ.tile 2 5 inb_S512x2048_S128x128_256_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 5 slices_S512x1024_o256_640_S128x128 inb_S8x128x128_S1x128x128_5_0_0 inb_S512x1024_S128x128_256_640)
    (TilZ.tile 2 4 inb_S512x2048_S128x128_256_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 4 slices_S512x1024_o256_512_S128x128 inb_S8x128x128_S1x128x128_4_0_0 inb_S512x1024_S128x128_256_512)
    (TilZ.tile 2 3 inb_S512x2048_S128x128_256_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 3 slices_S512x1024_o256_384_S128x128 inb_S8x128x128_S1x128x128_3_0_0 inb_S512x1024_S128x128_256_384)
    (TilZ.tile 2 2 inb_S512x2048_S128x128_256_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 2 slices_S512x1024_o256_256_S128x128 inb_S8x128x128_S1x128x128_2_0_0 inb_S512x1024_S128x128_256_256)
    (TilZ.tile 2 1 inb_S512x2048_S128x128_256_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 1 slices_S512x1024_o256_128_S128x128 inb_S8x128x128_S1x128x128_1_0_0 inb_S512x1024_S128x128_256_128)
    (TilZ.tile 2 0 inb_S512x2048_S128x128_256_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 0 slices_S512x1024_o256_0_S128x128 inb_S8x128x128_S1x128x128_0_0_0 inb_S512x1024_S128x128_256_0)
    (TilZ.tile 1 7 inb_S512x2048_S128x128_128_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 7 slices_S512x1024_o128_896_S128x128 inb_S8x128x128_S1x128x128_7_0_0 inb_S512x1024_S128x128_128_896)
    (TilZ.tile 1 6 inb_S512x2048_S128x128_128_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 6 slices_S512x1024_o128_768_S128x128 inb_S8x128x128_S1x128x128_6_0_0 inb_S512x1024_S128x128_128_768)
    (TilZ.tile 1 5 inb_S512x2048_S128x128_128_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 5 slices_S512x1024_o128_640_S128x128 inb_S8x128x128_S1x128x128_5_0_0 inb_S512x1024_S128x128_128_640)
    (TilZ.tile 1 4 inb_S512x2048_S128x128_128_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 4 slices_S512x1024_o128_512_S128x128 inb_S8x128x128_S1x128x128_4_0_0 inb_S512x1024_S128x128_128_512)
    (TilZ.tile 1 3 inb_S512x2048_S128x128_128_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 3 slices_S512x1024_o128_384_S128x128 inb_S8x128x128_S1x128x128_3_0_0 inb_S512x1024_S128x128_128_384)
    (TilZ.tile 1 2 inb_S512x2048_S128x128_128_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 2 slices_S512x1024_o128_256_S128x128 inb_S8x128x128_S1x128x128_2_0_0 inb_S512x1024_S128x128_128_256)
    (TilZ.tile 1 1 inb_S512x2048_S128x128_128_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 1 slices_S512x1024_o128_128_S128x128 inb_S8x128x128_S1x128x128_1_0_0 inb_S512x1024_S128x128_128_128)
    (TilZ.tile 1 0 inb_S512x2048_S128x128_128_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 0 slices_S512x1024_o128_0_S128x128 inb_S8x128x128_S1x128x128_0_0_0 inb_S512x1024_S128x128_128_0)
    (TilZ.tile 0 7 inb_S512x2048_S128x128_0_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 7 slices_S512x1024_o0_896_S128x128 inb_S8x128x128_S1x128x128_7_0_0 inb_S512x1024_S128x128_0_896)
    (TilZ.tile 0 6 inb_S512x2048_S128x128_0_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 6 slices_S512x1024_o0_768_S128x128 inb_S8x128x128_S1x128x128_6_0_0 inb_S512x1024_S128x128_0_768)
    (TilZ.tile 0 5 inb_S512x2048_S128x128_0_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 5 slices_S512x1024_o0_640_S128x128 inb_S8x128x128_S1x128x128_5_0_0 inb_S512x1024_S128x128_0_640)
    (TilZ.tile 0 4 inb_S512x2048_S128x128_0_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 4 slices_S512x1024_o0_512_S128x128 inb_S8x128x128_S1x128x128_4_0_0 inb_S512x1024_S128x128_0_512)
    (TilZ.tile 0 3 inb_S512x2048_S128x128_0_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 3 slices_S512x1024_o0_384_S128x128 inb_S8x128x128_S1x128x128_3_0_0 inb_S512x1024_S128x128_0_384)
    (TilZ.tile 0 2 inb_S512x2048_S128x128_0_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 2 slices_S512x1024_o0_256_S128x128 inb_S8x128x128_S1x128x128_2_0_0 inb_S512x1024_S128x128_0_256)
    (TilZ.tile 0 1 inb_S512x2048_S128x128_0_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 1 slices_S512x1024_o0_128_S128x128 inb_S8x128x128_S1x128x128_1_0_0 inb_S512x1024_S128x128_0_128)
    (TilZ.tile 0 0 inb_S512x2048_S128x128_0_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 0 slices_S512x1024_o0_0_S128x128 inb_S8x128x128_S1x128x128_0_0_0 inb_S512x1024_S128x128_0_0)
    TilZ.nil)))))))))))))))))))))))))))))))) r k
theorem w9_A (t : Fin cfg0.N) (h0 : t.val % 32 = 0) (h : BlkAt I m c t) (g : Fin 8) (i j : Fin 128) :
    (outsAt0 m c t.val t.isLt).2.1 (ix3 g i j) = 0 + ((∑ q : Fin 4, dwT I (bc (pt t) q) g i j : ℝ) : EReal) := by
  rw [outsAt0_A m c t h0]
  dsimp only
  unfold out0_A_9
  rw [View.read_writes_junk_eq_canon]
  unfold kernelRun0_A
  dsimp only
  exact Holds.all (A_32 c (ms0_0 t) (hs0_0 t) (ms0_1 t) (hs0_1 t) (ms0_2 t) (hs0_2 t) (ms0_3 t) (hs0_3 t) (ms0_4 t) (hs0_4 t) (ms0_9 t) h) g i j
theorem zero_row11 (k : Fin 1024) : k0_pay4 (F := Ideal) (ix2 0 k) = 0 := by pointwise [k0_pay4]
theorem w11_A (t : Fin cfg0.N) (h0 : t.val % 32 = 0) (h : BlkAt I m c t) (k : Fin 1024) :
    (outsAt0 m c t.val t.isLt).2.2.2.1 (ix2 0 k) = 0 + ((∑ r : Fin 512, I.dvn (br (pt t) r) k * vh (I.V (br (pt t) r)) k : ℝ) : EReal) := by
  rw [outsAt0_A m c t h0]
  dsimp only
  unfold out0_A_11
  rw [View.read_writes_junk_eq_canon]
  unfold kernelRun0_A
  dsimp only
  exact (whole_row _ _ inb_S1x1024_S1x1024_0_0 k).trans (rowP_apply (p := fun _ => 0) (fun k => (cov_row (ms0_11 t) (k0_pay4 (F := Ideal)) [] inb_S1x1024_S1x1024_0_0 inb_S1x1024_S1x1024_0_0 k).trans (zero_row11 k)) (dlgD_apply (ms0_1 t) (hs0_1 t) h (dvn_A c (ms0_0 t) (hs0_0 t) (ms0_2 t) (hs0_2 t) (ms0_6 t) (hs0_6 t) scM0_0 h)) k)
theorem zero_row12 (k : Fin 1024) : k0_pay5 (F := Ideal) (ix2 0 k) = 0 := by pointwise [k0_pay5]
theorem w12_A (t : Fin cfg0.N) (h0 : t.val % 32 = 0) (h : BlkAt I m c t) (k : Fin 1024) :
    (outsAt0 m c t.val t.isLt).2.2.2.2 (ix2 0 k) = 0 + ((∑ r : Fin 512, I.dvn (br (pt t) r) k : ℝ) : EReal) := by
  rw [outsAt0_A m c t h0]
  dsimp only
  unfold out0_A_12
  rw [View.read_writes_junk_eq_canon]
  unfold kernelRun0_A
  dsimp only
  exact (whole_row _ _ inb_S1x1024_S1x1024_0_0 k).trans (rowP_apply (p := fun _ => 0) (fun k => (cov_row (ms0_12 t) (k0_pay5 (F := Ideal)) [] inb_S1x1024_S1x1024_0_0 inb_S1x1024_S1x1024_0_0 k).trans (zero_row12 k)) (dvn_A c (ms0_0 t) (hs0_0 t) (ms0_2 t) (hs0_2 t) (ms0_6 t) (hs0_6 t) scM0_0 h) k)
theorem zero_sq (i l : Fin 128) : k0_pay3 (F := Ideal) (ix2 i l) = 0 := by pointwise [k0_pay3]
theorem w10_A (t : Fin cfg0.N) (h0 : t.val % 32 = 0) (h : BlkAt I m c t) (i l : Fin 128) :
    (outsAt0 m c t.val t.isLt).2.2.1 (ix2 i l) = 0 + ((rowSum I (pt t) 32 i l : ℝ) : EReal) := by
  rw [outsAt0_A m c t h0]
  dsimp only
  unfold out0_A_10
  rw [View.read_writes_junk_eq_canon]
  unfold kernelRun0_A
  dsimp only
  exact (whole_sq _ _ inb_S128x128_S128x128_0_0 i l).trans (sqP_apply (p := fun _ _ => 0) (fun i l => (cov_sq (ms0_10 t) (k0_pay3 (F := Ideal)) [] inb_S128x128_S128x128_0_0 inb_S128x128_S128x128_0_0 i l).trans (zero_sq i l)) (db_A c (ms0_0 t) (hs0_0 t) (ms0_2 t) (hs0_2 t) h) i l)
theorem w8_B (t : Fin cfg0.N) (h0 : ¬t.val % 32 = 0) (h : BlkAt I m c t) (r : Fin 512) (k : Fin 2048) :
    (outsAt0 m c t.val t.isLt).1 (ix2 r k)
      = if h : k.val < 1024 then ((I.du (br (pt t) r) ⟨k.val, h⟩ : ℝ) : EReal) else ((I.dvr (br (pt t) r) ⟨k.val - 1024, by omega⟩ : ℝ) : EReal) := by
  rw [outsAt0_B m c t h0]
  dsimp only
  unfold out0_B_8
  rw [View.read_writes_junk_eq_canon]
  unfold kernelRun0_B
  dsimp only
  exact dz_canon (t := pt t) inb_S512x2048_S512x1024_0_1024 (dv_pay (ms0_1 t) (hs0_1 t) (ms0_3 t) (hs0_3 t) h (dvn_B c (ms0_0 t) (hs0_0 t) (ms0_2 t) (hs0_2 t) (ms0_6 t) (hs0_6 t) scM0_0 h)) (TilZ.tile 3 7 inb_S512x2048_S128x128_384_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 7 slices_S512x1024_o384_896_S128x128 inb_S8x128x128_S1x128x128_7_0_0 inb_S512x1024_S128x128_384_896)
    (TilZ.tile 3 6 inb_S512x2048_S128x128_384_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 6 slices_S512x1024_o384_768_S128x128 inb_S8x128x128_S1x128x128_6_0_0 inb_S512x1024_S128x128_384_768)
    (TilZ.tile 3 5 inb_S512x2048_S128x128_384_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 5 slices_S512x1024_o384_640_S128x128 inb_S8x128x128_S1x128x128_5_0_0 inb_S512x1024_S128x128_384_640)
    (TilZ.tile 3 4 inb_S512x2048_S128x128_384_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 4 slices_S512x1024_o384_512_S128x128 inb_S8x128x128_S1x128x128_4_0_0 inb_S512x1024_S128x128_384_512)
    (TilZ.tile 3 3 inb_S512x2048_S128x128_384_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 3 slices_S512x1024_o384_384_S128x128 inb_S8x128x128_S1x128x128_3_0_0 inb_S512x1024_S128x128_384_384)
    (TilZ.tile 3 2 inb_S512x2048_S128x128_384_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 2 slices_S512x1024_o384_256_S128x128 inb_S8x128x128_S1x128x128_2_0_0 inb_S512x1024_S128x128_384_256)
    (TilZ.tile 3 1 inb_S512x2048_S128x128_384_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 1 slices_S512x1024_o384_128_S128x128 inb_S8x128x128_S1x128x128_1_0_0 inb_S512x1024_S128x128_384_128)
    (TilZ.tile 3 0 inb_S512x2048_S128x128_384_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 3 0 slices_S512x1024_o384_0_S128x128 inb_S8x128x128_S1x128x128_0_0_0 inb_S512x1024_S128x128_384_0)
    (TilZ.tile 2 7 inb_S512x2048_S128x128_256_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 7 slices_S512x1024_o256_896_S128x128 inb_S8x128x128_S1x128x128_7_0_0 inb_S512x1024_S128x128_256_896)
    (TilZ.tile 2 6 inb_S512x2048_S128x128_256_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 6 slices_S512x1024_o256_768_S128x128 inb_S8x128x128_S1x128x128_6_0_0 inb_S512x1024_S128x128_256_768)
    (TilZ.tile 2 5 inb_S512x2048_S128x128_256_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 5 slices_S512x1024_o256_640_S128x128 inb_S8x128x128_S1x128x128_5_0_0 inb_S512x1024_S128x128_256_640)
    (TilZ.tile 2 4 inb_S512x2048_S128x128_256_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 4 slices_S512x1024_o256_512_S128x128 inb_S8x128x128_S1x128x128_4_0_0 inb_S512x1024_S128x128_256_512)
    (TilZ.tile 2 3 inb_S512x2048_S128x128_256_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 3 slices_S512x1024_o256_384_S128x128 inb_S8x128x128_S1x128x128_3_0_0 inb_S512x1024_S128x128_256_384)
    (TilZ.tile 2 2 inb_S512x2048_S128x128_256_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 2 slices_S512x1024_o256_256_S128x128 inb_S8x128x128_S1x128x128_2_0_0 inb_S512x1024_S128x128_256_256)
    (TilZ.tile 2 1 inb_S512x2048_S128x128_256_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 1 slices_S512x1024_o256_128_S128x128 inb_S8x128x128_S1x128x128_1_0_0 inb_S512x1024_S128x128_256_128)
    (TilZ.tile 2 0 inb_S512x2048_S128x128_256_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 2 0 slices_S512x1024_o256_0_S128x128 inb_S8x128x128_S1x128x128_0_0_0 inb_S512x1024_S128x128_256_0)
    (TilZ.tile 1 7 inb_S512x2048_S128x128_128_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 7 slices_S512x1024_o128_896_S128x128 inb_S8x128x128_S1x128x128_7_0_0 inb_S512x1024_S128x128_128_896)
    (TilZ.tile 1 6 inb_S512x2048_S128x128_128_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 6 slices_S512x1024_o128_768_S128x128 inb_S8x128x128_S1x128x128_6_0_0 inb_S512x1024_S128x128_128_768)
    (TilZ.tile 1 5 inb_S512x2048_S128x128_128_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 5 slices_S512x1024_o128_640_S128x128 inb_S8x128x128_S1x128x128_5_0_0 inb_S512x1024_S128x128_128_640)
    (TilZ.tile 1 4 inb_S512x2048_S128x128_128_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 4 slices_S512x1024_o128_512_S128x128 inb_S8x128x128_S1x128x128_4_0_0 inb_S512x1024_S128x128_128_512)
    (TilZ.tile 1 3 inb_S512x2048_S128x128_128_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 3 slices_S512x1024_o128_384_S128x128 inb_S8x128x128_S1x128x128_3_0_0 inb_S512x1024_S128x128_128_384)
    (TilZ.tile 1 2 inb_S512x2048_S128x128_128_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 2 slices_S512x1024_o128_256_S128x128 inb_S8x128x128_S1x128x128_2_0_0 inb_S512x1024_S128x128_128_256)
    (TilZ.tile 1 1 inb_S512x2048_S128x128_128_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 1 slices_S512x1024_o128_128_S128x128 inb_S8x128x128_S1x128x128_1_0_0 inb_S512x1024_S128x128_128_128)
    (TilZ.tile 1 0 inb_S512x2048_S128x128_128_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 1 0 slices_S512x1024_o128_0_S128x128 inb_S8x128x128_S1x128x128_0_0_0 inb_S512x1024_S128x128_128_0)
    (TilZ.tile 0 7 inb_S512x2048_S128x128_0_896 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 7 slices_S512x1024_o0_896_S128x128 inb_S8x128x128_S1x128x128_7_0_0 inb_S512x1024_S128x128_0_896)
    (TilZ.tile 0 6 inb_S512x2048_S128x128_0_768 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 6 slices_S512x1024_o0_768_S128x128 inb_S8x128x128_S1x128x128_6_0_0 inb_S512x1024_S128x128_0_768)
    (TilZ.tile 0 5 inb_S512x2048_S128x128_0_640 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 5 slices_S512x1024_o0_640_S128x128 inb_S8x128x128_S1x128x128_5_0_0 inb_S512x1024_S128x128_0_640)
    (TilZ.tile 0 4 inb_S512x2048_S128x128_0_512 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 4 slices_S512x1024_o0_512_S128x128 inb_S8x128x128_S1x128x128_4_0_0 inb_S512x1024_S128x128_0_512)
    (TilZ.tile 0 3 inb_S512x2048_S128x128_0_384 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 3 slices_S512x1024_o0_384_S128x128 inb_S8x128x128_S1x128x128_3_0_0 inb_S512x1024_S128x128_0_384)
    (TilZ.tile 0 2 inb_S512x2048_S128x128_0_256 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 2 slices_S512x1024_o0_256_S128x128 inb_S8x128x128_S1x128x128_2_0_0 inb_S512x1024_S128x128_0_256)
    (TilZ.tile 0 1 inb_S512x2048_S128x128_0_128 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 1 slices_S512x1024_o0_128_S128x128 inb_S8x128x128_S1x128x128_1_0_0 inb_S512x1024_S128x128_0_128)
    (TilZ.tile 0 0 inb_S512x2048_S128x128_0_0 (du_pay (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) h 0 0 slices_S512x1024_o0_0_S128x128 inb_S8x128x128_S1x128x128_0_0_0 inb_S512x1024_S128x128_0_0)
    TilZ.nil)))))))))))))))))))))))))))))))) r k
theorem w9_B (t : Fin cfg0.N) (h0 : ¬t.val % 32 = 0) (h : BlkAt I m c t) (g : Fin 8) (i j : Fin 128) :
    (outsAt0 m c t.val t.isLt).2.1 (ix3 g i j) = (before m c t).2.1 (ix3 g i j) + ((∑ q : Fin 4, dwT I (bc (pt t) q) g i j : ℝ) : EReal) := by
  rw [outsAt0_B m c t h0]
  dsimp only
  unfold out0_B_9
  rw [View.read_writes_junk_eq_canon]
  unfold kernelRun0_B
  dsimp only
  exact Holds.all (B_32 c (ms0_0 t) (hs0_0 t) (ms0_1 t) (hs0_1 t) (ms0_2 t) (hs0_2 t) (ms0_3 t) (hs0_3 t) (ms0_4 t) (hs0_4 t) (ms0_9 t) (hs0_9 t) h (before m c t).2.1) g i j
theorem w11_B (t : Fin cfg0.N) (h0 : ¬t.val % 32 = 0) (h : BlkAt I m c t) (k : Fin 1024) :
    (outsAt0 m c t.val t.isLt).2.2.2.1 (ix2 0 k) = (before m c t).2.2.2.1 (ix2 0 k) + ((∑ r : Fin 512, I.dvn (br (pt t) r) k * vh (I.V (br (pt t) r)) k : ℝ) : EReal) := by
  rw [outsAt0_B m c t h0]
  dsimp only
  unfold out0_B_11
  rw [View.read_writes_junk_eq_canon]
  unfold kernelRun0_B
  dsimp only
  exact (whole_row _ _ inb_S1x1024_S1x1024_0_0 k).trans (rowP_apply (p := fun k => (before m c t).2.2.2.1 (ix2 0 k)) (fun k => load_row (ms0_11 t) (hs0_11 t) (before m c t).2.2.2.1 inb_S1x1024_S1x1024_0_0 k) (dlgD_apply (ms0_1 t) (hs0_1 t) h (dvn_B c (ms0_0 t) (hs0_0 t) (ms0_2 t) (hs0_2 t) (ms0_6 t) (hs0_6 t) scM0_0 h)) k)
theorem w12_B (t : Fin cfg0.N) (h0 : ¬t.val % 32 = 0) (h : BlkAt I m c t) (k : Fin 1024) :
    (outsAt0 m c t.val t.isLt).2.2.2.2 (ix2 0 k) = (before m c t).2.2.2.2 (ix2 0 k) + ((∑ r : Fin 512, I.dvn (br (pt t) r) k : ℝ) : EReal) := by
  rw [outsAt0_B m c t h0]
  dsimp only
  unfold out0_B_12
  rw [View.read_writes_junk_eq_canon]
  unfold kernelRun0_B
  dsimp only
  exact (whole_row _ _ inb_S1x1024_S1x1024_0_0 k).trans (rowP_apply (p := fun k => (before m c t).2.2.2.2 (ix2 0 k)) (fun k => load_row (ms0_12 t) (hs0_12 t) (before m c t).2.2.2.2 inb_S1x1024_S1x1024_0_0 k) (dvn_B c (ms0_0 t) (hs0_0 t) (ms0_2 t) (hs0_2 t) (ms0_6 t) (hs0_6 t) scM0_0 h) k)
theorem w10_B (t : Fin cfg0.N) (h0 : ¬t.val % 32 = 0) (h : BlkAt I m c t) (i l : Fin 128) :
    (outsAt0 m c t.val t.isLt).2.2.1 (ix2 i l) = (before m c t).2.2.1 (ix2 i l) + ((rowSum I (pt t) 32 i l : ℝ) : EReal) := by
  rw [outsAt0_B m c t h0]
  dsimp only
  unfold out0_B_10
  rw [View.read_writes_junk_eq_canon]
  unfold kernelRun0_B
  dsimp only
  exact (whole_sq _ _ inb_S128x128_S128x128_0_0 i l).trans (sqP_apply (p := fun i l => (before m c t).2.2.1 (ix2 i l)) (fun i l => load_sq (ms0_10 t) (hs0_10 t) (before m c t).2.2.1 inb_S128x128_S128x128_0_0 i l) (db_B c (ms0_0 t) (hs0_0 t) (ms0_2 t) (hs0_2 t) h) i l)

end Cert.Sgu

end
-- ==== Proof.Sgu.Ref1.lean ====
/- The reference's forward stages, read over the reals. -/
module

public import proofs.«01_k».proof.Proof.Sgu.Inp
public import proofs.«01_k».proof.Proof.Gen.ReferenceIdeal.Read
public import Idealize.ShloMosaic.Lib.Pointwise

@[expose] public section

set_option maxRecDepth 16384

noncomputable section

namespace Cert.Sgu.Ref

open Cert.ReferenceIdeal Cert.ReferenceIdeal.Gen Cert.ReferenceIdeal.Read Idealize.ShloMosaic Idealize.ShloMosaic.TcCoe Idealize.ShloMosaic.Tactic
open Cert.Sgu

/-- The argument arrays are the real arrays of `I`. -/
structure Agree (I : Inp) (x0 : FVec Ideal S16384x4096 .bf16) (x2 : FVec Ideal S16384x1024 .bf16)
    (x3 x4 : FVec Ideal S1x1024 .f32) (x5 : FVec Ideal S8x128x128 .f32) (x6 : FVec Ideal S8x128 .f32) : Prop where
  hU (r : Fin 16384) (c : Fin 1024) : x0 (ix2 r ⟨c.val, by omega⟩) = ((I.U r c : ℝ) : EReal)
  hV (r : Fin 16384) (c : Fin 1024) : x0 (ix2 r ⟨1024 + c.val, by omega⟩) = ((I.V r c : ℝ) : EReal)
  hD (r : Fin 16384) (c : Fin 1024) : x2 (ix2 r c) = ((I.DY r c : ℝ) : EReal)
  hG (c : Fin 1024) : x3 (ix2 0 c) = ((I.LG c : ℝ) : EReal)
  hB (c : Fin 1024) : x4 (ix2 0 c) = ((I.LB c : ℝ) : EReal)
  hW (g : Fin 8) (t s : Fin 128) : x5 (ix3 g t s) = ((I.W g t s : ℝ) : EReal)
  hb (g : Fin 8) (t : Fin 128) : x6 (ix2 g t) = ((I.B g t : ℝ) : EReal)

variable {I : Inp} {x0 : FVec Ideal S16384x4096 .bf16} {x2 : FVec Ideal S16384x1024 .bf16}
  {x3 x4 : FVec Ideal S1x1024 .f32} {x5 : FVec Ideal S8x128x128 .f32} {x6 : FVec Ideal S8x128 .f32}

theorem div_coe_coe (x y : ℝ) (h : y ≠ 0) : Ideal.div (x : EReal) (y : EReal) = ((x * (1 / y) : ℝ) : EReal) := by
  rw [Ideal.div_coe h, EReal.coe_mul]
theorem sqrt2_ne : Real.sqrt 2 ≠ 0 := by positivity
theorem sqrtpi_ne : Real.sqrt (4 * Real.arctan 1) ≠ 0 := by
  rw [Real.arctan_one]; have := Real.pi_pos; positivity
theorem sqrt_coe_nn (x : ℝ) (h : 0 ≤ x) : Ideal.sqrt (x : EReal) = ((Real.sqrt x : ℝ) : EReal) := by
  rw [Ideal.sqrt_coe, if_neg (not_lt.mpr h)]

theorem v8 (j : S_.Idx) : val_main_v8 (F := Ideal) j = ((Real.sqrt 2 : ℝ) : EReal) := by
  pointwise [val_main_v8, val_main_cst_0]
  rw [ofBits_two, sqrt_coe_nn _ (by norm_num)]
theorem v26 (j : S_.Idx) : val_main_v26 (F := Ideal) j = ((Real.sqrt 2 : ℝ) : EReal) := by
  pointwise [val_main_v26, val_main_cst_6]
  rw [ofBits_two, sqrt_coe_nn _ (by norm_num)]
theorem v15 (j : S_.Idx) : val_main_v15 (F := Ideal) j = ((2 * (1 / Real.sqrt (4 * Real.arctan 1)): ℝ) : EReal) := by
  pointwise [val_main_v15, val_main_v14, val_main_v12, val_main_v11, val_main_cst_1, val_main_cst_2, val_main_cst_3]
  rw [ofBits_two, ofBits_four, ← EReal.coe_one, Ideal.atan_coe, ← EReal.coe_mul,
    sqrt_coe_nn _ (by rw [Real.arctan_one]; have := Real.pi_pos; positivity), div_coe_coe _ _ sqrtpi_ne]
theorem v33 (j : S_.Idx) : val_main_v33 (F := Ideal) j = ((2 * (1 / Real.sqrt (4 * Real.arctan 1)): ℝ) : EReal) := by
  pointwise [val_main_v33, val_main_v32, val_main_v30, val_main_v29, val_main_cst_7, val_main_cst_8, val_main_cst_9]
  rw [ofBits_two, ofBits_four, ← EReal.coe_one, Ideal.atan_coe, ← EReal.coe_mul,
    sqrt_coe_nn _ (by rw [Real.arctan_one]; have := Real.pi_pos; positivity), div_coe_coe _ _ sqrtpi_ne]

section
variable (h : Agree I x0 x2 x3 x4 x5 x6)
include h

theorem v2 (r : Fin 16384) (c : Fin 1024) : val_main_v2 (F := Ideal) x0 (ix2 r c) = ((I.U r c : ℝ) : EReal) := by
  pointwise [val_main_v2, val_main_v1, val_main_v0]
  exact h.hU r c
theorem v3 (r : Fin 16384) (c : Fin 1024) : val_main_v3 (F := Ideal) x0 (ix2 r c) = ((I.V r c : ℝ) : EReal) := by
  pointwise [val_main_v3, val_main_v1, val_main_v0]
  exact h.hV r c
theorem v7 (r : Fin 16384) (c : Fin 1024) : val_main_v7 (F := Ideal) x0 (ix2 r c) = ((1 / 2 * I.U r c : ℝ) : EReal) := by
  pointwise [val_main_v7, val_main_v6, val_main_cst]
  rw [ofBits_half, v2 h, ← EReal.coe_mul]
theorem v25 (r : Fin 16384) (c : Fin 1024) : val_main_v25 (F := Ideal) x0 (ix2 r c) = ((1 / 2 * I.V r c : ℝ) : EReal) := by
  pointwise [val_main_v25, val_main_v24, val_main_cst_5]
  rw [ofBits_half, v3 h, ← EReal.coe_mul]
theorem v10 (r : Fin 16384) (c : Fin 1024) : val_main_v10 (F := Ideal) x0 (ix2 r c) = ((I.U r c * (1 / Real.sqrt 2) : ℝ) : EReal) := by
  pointwise [val_main_v10, val_main_v9]
  rw [v8, v2 h, div_coe_coe _ _ sqrt2_ne]
theorem v28 (r : Fin 16384) (c : Fin 1024) : val_main_v28 (F := Ideal) x0 (ix2 r c) = ((I.V r c * (1 / Real.sqrt 2) : ℝ) : EReal) := by
  pointwise [val_main_v28, val_main_v27]
  rw [v26, v3 h, div_coe_coe _ _ sqrt2_ne]
theorem v20 (r : Fin 16384) (c : Fin 1024) : val_main_v20 (F := Ideal) x0 (ix2 r c)
    = ((2 * (1 / Real.sqrt (4 * Real.arctan 1)) * Real.exp (-(I.U r c * (1 / Real.sqrt 2)) * (I.U r c * (1 / Real.sqrt 2))) : ℝ) : EReal) := by
  pointwise [val_main_v20, val_main_v19, val_main_v18, val_main_v17, val_main_v16]
  rw [v15, v10 h, ← EReal.coe_neg, ← EReal.coe_mul, Ideal.exp_coe, ← EReal.coe_mul]
theorem v38 (r : Fin 16384) (c : Fin 1024) : val_main_v38 (F := Ideal) x0 (ix2 r c)
    = ((2 * (1 / Real.sqrt (4 * Real.arctan 1)) * Real.exp (-(I.V r c * (1 / Real.sqrt 2)) * (I.V r c * (1 / Real.sqrt 2))) : ℝ) : EReal) := by
  pointwise [val_main_v38, val_main_v37, val_main_v36, val_main_v35, val_main_v34]
  rw [v33, v28 h, ← EReal.coe_neg, ← EReal.coe_mul, Ideal.exp_coe, ← EReal.coe_mul]
theorem v22 (r : Fin 16384) (c : Fin 1024) : val_main_v22 (F := Ideal) x0 (ix2 r c) = ((1 + erfR (I.U r c * (1 / Real.sqrt 2)) : ℝ) : EReal) := by
  pointwise [val_main_v22, val_main_v21, val_main_v13, val_main_cst_4]
  rw [v10 h, erf_coe, ← EReal.coe_one, ← EReal.coe_add]
theorem v40 (r : Fin 16384) (c : Fin 1024) : val_main_v40 (F := Ideal) x0 (ix2 r c) = ((1 + erfR (I.V r c * (1 / Real.sqrt 2)) : ℝ) : EReal) := by
  pointwise [val_main_v40, val_main_v39, val_main_v31, val_main_cst_10]
  rw [v28 h, erf_coe, ← EReal.coe_one, ← EReal.coe_add]
theorem v23 (r : Fin 16384) (c : Fin 1024) : val_main_v23 (F := Ideal) x0 (ix2 r c) = ((gel (I.U r c) : ℝ) : EReal) := by
  pointwise [val_main_v23]
  rw [v7 h, v22 h, ← EReal.coe_mul, gel_host]
theorem v41 (r : Fin 16384) (c : Fin 1024) : val_main_v41 (F := Ideal) x0 (ix2 r c) = ((gel (I.V r c) : ℝ) : EReal) := by
  pointwise [val_main_v41]
  rw [v25 h, v40 h, ← EReal.coe_mul, gel_host]
theorem v45 (r : Fin 16384) : val_main_v45 (F := Ideal) x0 (ix2 r 0) = ((mu (I.V r) : ℝ) : EReal) := by
  pointwise [val_main_v45, val_main_v44, val_main_v43, val_main_v42, val_main_cst_11, val_main_cst_12]
  simp only [v41 h]
  rw [coe_sum, ofBits_1024, div_coe_coe _ _ (by norm_num)]; rfl
theorem v47 (r : Fin 16384) (c : Fin 1024) : val_main_v47 (F := Ideal) x0 (ix2 r c) = ((xc (I.V r) c : ℝ) : EReal) := by
  pointwise [val_main_v47, val_main_v46]
  rw [v41 h, v45 h, ← EReal.coe_sub]; rfl
theorem v54 (r : Fin 16384) : val_main_v54 (F := Ideal) x0 (ix2 r 0) = ((var (I.V r) + eps : ℝ) : EReal) := by
  pointwise [val_main_v54, val_main_v53, val_main_v52, val_main_v51, val_main_v50, val_main_v49, val_main_v48, val_main_cst_13, val_main_cst_14, val_main_cst_15]
  simp only [v47 h, ← EReal.coe_mul]
  rw [coe_sum, ofBits_1024, div_coe_coe _ _ (by norm_num), ofBits_eps, ← EReal.coe_add]; rfl
theorem v55 (r : Fin 16384) : val_main_v55 (F := Ideal) x0 (ix2 r 0) = ((rs (I.V r) : ℝ) : EReal) := by
  pointwise [val_main_v55]
  rw [v54 h, rsqrt_var]
theorem v58 (r : Fin 16384) : val_main_v58 (F := Ideal) x0 (ix2 r 0) = ((-(1 / 2) * (rs (I.V r) * (1 / (var (I.V r) + eps))) : ℝ) : EReal) := by
  pointwise [val_main_v58, val_main_v57, val_main_v56, val_main_cst_16]
  rw [v54 h, v55 h, div_coe_coe _ _ (var_eps_pos _).ne', ofBits_neg_half, ← EReal.coe_mul]
theorem v60 (r : Fin 16384) (c : Fin 1024) : val_main_v60 (F := Ideal) x0 (ix2 r c) = ((vh (I.V r) c : ℝ) : EReal) := by
  pointwise [val_main_v60, val_main_v59]
  rw [v47 h, v55 h, ← EReal.coe_mul]; rfl
theorem v61 (c : Fin 1024) : val_main_v61 (F := Ideal) x3 (ix2 0 c) = ((I.LG c : ℝ) : EReal) := by
  pointwise [val_main_v61, val_main_v4]
  exact h.hG c
theorem v66 (r : Fin 16384) (c : Fin 1024) : val_main_v66 (F := Ideal) x0 x3 x4 (ix2 r c) = ((I.vnr r c : ℝ) : EReal) := by
  pointwise [val_main_v66, val_main_v65, val_main_v64, val_main_v63, val_main_v62, val_main_v5]
  rw [v60 h, v61 h, h.hB, ← EReal.coe_mul, ← EReal.coe_add]; rfl
theorem v67 (n s : Fin 128) (g : Fin 8) (c : Fin 128) : val_main_v67 (F := Ideal) x0 x3 x4 (ix4 n s g c) = ((I.vnr (tok n s) (col g c) : ℝ) : EReal) := by
  pointwise [val_main_v67]
  exact v66 h (tok n s) (col g c)
omit h in
theorem mask_word : ∀ t s : Fin 128, Scalar.select (IntOp.cmpi CmpIPredicate.sge (IntOp.addi (BitVec.ofNat 32 t.val) 0#32) (BitVec.ofNat 32 s.val)) 1#1 0#1
    = BitVec.ofBool (s.val ≤ t.val) := by decide +kernel
omit h in
theorem select_le (t s : Fin 128) (a : ℝ) : Scalar.select (BitVec.ofBool (s.val ≤ t.val)) (a : EReal) 0 = ((if s.val ≤ t.val then a else 0 : ℝ) : EReal) := by
  by_cases e : s.val ≤ t.val <;> simp [e, Scalar.select]
omit h in
theorem v69 (t s : Fin 128) : val_main_v69 (F := Ideal) (ix2 t s) = BitVec.ofBool (s.val ≤ t.val) := by
  pointwise [val_main_v69, val_main_call0_v4, val_main_v68, val_main_call0_v5,val_main_call0_v3, val_main_call0_v2,val_main_call0_v1,val_main_call0_v0, val_main_call0_c_0, val_main_call0_c, val_main_c]
  exact mask_word t s
theorem v72_0 (g : Fin 8) (t s : Fin 128) : val_main_v72_0 (F := Ideal) x5 (ix3 g t s) = ((I.Wm g t s : ℝ) : EReal) := by
  pointwise [val_main_v72_0, val_main_v72_1, val_main_v70, val_main_v71, val_main_cst_17]
  rw [v69, h.hW]
  exact select_le t s _
theorem v78 (n t : Fin 128) (g : Fin 8) (c : Fin 128) : val_main_v78 (F := Ideal) x0 x3 x4 x5 x6 (ix4 n t g c) = ((I.s (tok n t) (col g c) : ℝ) : EReal) := by
  pointwise [val_main_v78, val_main_v77, val_main_v76, val_main_v75, val_main_v74, val_main_v73]
  simp only [v67 h, v72_0 h, ← EReal.coe_mul]
  rw [coe_sum, h.hb, ← EReal.coe_add]
  unfold Inp.s
  rw [hd_col, pos_tok, chk_tok]
  simp only [mul_comm]
theorem v79 (r : Fin 16384) (c : Fin 1024) : val_main_v79 (F := Ideal) x0 x3 x4 x5 x6 (ix2 r c) = ((I.s r c : ℝ) : EReal) := by
  pointwise [val_main_v79]
  have e := v78 h (chk r) (pos r) (hd c) (lane c)
  rw [tok_chk_pos, col_hd_lane] at e
  exact e
theorem v81 (r : Fin 16384) (c : Fin 1024) : val_main_v81 (F := Ideal) x2 (ix2 r c) = ((I.DY r c : ℝ) : EReal) := by
  pointwise [val_main_v81]
  exact h.hD r c
theorem v82 (r : Fin 16384) (c : Fin 1024) : val_main_v82 (F := Ideal) x0 x2 (ix2 r c) = ((I.dsf r c : ℝ) : EReal) := by
  pointwise [val_main_v82]
  rw [v23 h, v81 h, ← EReal.coe_mul]; rfl
theorem v84 (n s : Fin 128) (g : Fin 8) (c : Fin 128) : val_main_v84 (F := Ideal) x0 x2 (ix4 n s g c) = ((I.dsf (tok n s) (col g c) : ℝ) : EReal) := by
  pointwise [val_main_v84]
  exact v82 h (tok n s) (col g c)
theorem v141 (r : Fin 16384) (c : Fin 1024) : val_main_v141 (F := Ideal) x0 x2 x3 x4 x5 x6 (ix2 r c) = ((I.du r c : ℝ) : EReal) := by
  pointwise [val_main_v141, val_main_v140, val_main_v139, val_main_v138, val_main_v137, val_main_v136, val_main_v135, val_main_v134, val_main_v83, val_main_cst_31]
  rw [v8, v20 h, v7 h, v22 h, v81 h, v79 h, ofBits_half]
  simp only [← EReal.coe_mul]
  rw [div_coe_coe _ _ sqrt2_ne, ← EReal.coe_add, gelD_host]; rfl
theorem v94 (r : Fin 16384) (c : Fin 1024) : val_main_v94 (F := Ideal) x0 x2 x5 (ix2 r c) = ((I.dvn r c : ℝ) : EReal) := by
  pointwise [val_main_v94, val_main_v92, val_main_v91, val_main_v89]
  have e (k : Fin 128) := v84 h (chk r) k (hd c) (lane c)
  have e' (k : Fin 128) := v72_0 h (hd c) k (pos r)
  rw [col_hd_lane] at e
  refine (Finset.sum_congr rfl fun k _ => congrArg₂ (· * ·) (e k) (e' k)).trans ?_
  simp only [← EReal.coe_mul]
  rw [coe_sum]
  unfold Inp.dvn
  simp only [mul_comm]
theorem v102 (r : Fin 16384) (c : Fin 1024) : val_main_v102 (F := Ideal) x0 x2 x3 x5 (ix2 r c) = ((I.dvn r c * I.LG c : ℝ) : EReal) := by
  pointwise [val_main_v102, val_main_v101]
  rw [v94 h, v61 h, ← EReal.coe_mul]
theorem v111 (r : Fin 16384) : val_main_v111 (F := Ideal) x0 x2 x3 x5 (ix2 r 0)
    = (((∑ k, xc (I.V r) k * (I.dvn r k * I.LG k)) * (-(1 / 2) * (rs (I.V r) * (1 / (var (I.V r) + eps)))) * (1 / 1024) : ℝ) : EReal) := by
  pointwise [val_main_v111, val_main_v110, val_main_v109, val_main_v106, val_main_v105, val_main_v104, val_main_cst_24, val_main_cst_25]
  simp only [v47 h, v102 h, ← EReal.coe_mul]
  rw [coe_sum, v58 h, ofBits_1024, ← EReal.coe_mul, div_coe_coe _ _ (by norm_num)]
theorem v113 (r : Fin 16384) (c : Fin 1024) : val_main_v113 (F := Ideal) x0 x2 x3 x5 (ix2 r c)
    = (((∑ k, xc (I.V r) k * (I.dvn r k * I.LG k)) * (-(1 / 2) * (rs (I.V r) * (1 / (var (I.V r) + eps)))) * (1 / 1024) : ℝ) : EReal) := by
  pointwise [val_main_v113, val_main_v112, val_main_cst_26]
  simp only [Finset.univ_unique, Finset.sum_singleton]
  exact v111 h r
theorem v117 (r : Fin 16384) (c : Fin 1024) : val_main_v117 (F := Ideal) x0 x2 x3 x5 (ix2 r c)
    = ((I.dvn r c * I.LG c * rs (I.V r) + xc (I.V r) c * ((∑ k, xc (I.V r) k * (I.dvn r k * I.LG k)) * (-(1 / 2) * (rs (I.V r) * (1 / (var (I.V r) + eps)))) * (1 / 1024))
        + ((∑ k, xc (I.V r) k * (I.dvn r k * I.LG k)) * (-(1 / 2) * (rs (I.V r) * (1 / (var (I.V r) + eps)))) * (1 / 1024)) * xc (I.V r) c : ℝ) : EReal) := by
  pointwise [val_main_v117, val_main_v116, val_main_v115, val_main_v114, val_main_v108, val_main_v107]
  rw [v102 h, v113 h, v47 h, v55 h]
  simp only [← EReal.coe_mul, ← EReal.coe_add]
theorem v125 (r : Fin 16384) (c : Fin 1024) : val_main_v125 (F := Ideal) x0 x2 x3 x5 (ix2 r c) = ((dvHost I.LG (I.V r) (I.dvn r) c : ℝ) : EReal) := by
  pointwise [val_main_v125, val_main_v124, val_main_v123, val_main_v122, val_main_v121, val_main_v120, val_main_v119, val_main_v118, val_main_cst_27, val_main_cst_28, val_main_cst_29]
  simp only [v117 h, ← EReal.coe_neg, Finset.univ_unique, Finset.sum_singleton]
  rw [coe_sum, ofBits_1024, div_coe_coe _ _ (by norm_num), ← EReal.coe_add]; rfl
theorem v133 (r : Fin 16384) (c : Fin 1024) : val_main_v133 (F := Ideal) x0 x2 x3 x5 (ix2 r c) = ((I.dvr r c : ℝ) : EReal) := by
  pointwise [val_main_v133, val_main_v132, val_main_v131, val_main_v130, val_main_v129, val_main_v128, val_main_v127, val_main_v126, val_main_cst_30]
  rw [v26, v38 h, v25 h, v40 h, v125 h, ofBits_half]
  simp only [← EReal.coe_mul]
  rw [div_coe_coe _ _ sqrt2_ne, ← EReal.coe_add, gelD_host, dvHost_eq]; rfl
end

end Cert.Sgu.Ref

end
-- ==== Proof.Sgu.Ref2.lean ====
/- The reference's five results, read over the reals. -/
module

public import proofs.«01_k».proof.Proof.Sgu.Ref1
public import proofs.«01_k».proof.Proof.Gen.ReferenceIdeal.Read
public import Idealize.ShloMosaic.Lib.Pointwise

@[expose] public section

set_option maxRecDepth 16384

noncomputable section

namespace Cert.Sgu.Ref

open Cert.ReferenceIdeal Cert.ReferenceIdeal.Gen Cert.ReferenceIdeal.Read Idealize.ShloMosaic Idealize.ShloMosaic.TcCoe Idealize.ShloMosaic.Tactic
open Cert.Sgu

variable {I : Inp} {x0 x1 : FVec Ideal S16384x4096 .bf16} {x2 : FVec Ideal S16384x1024 .bf16}
  {x3 x4 : FVec Ideal S1x1024 .f32} {x5 : FVec Ideal S8x128x128 .f32} {x6 : FVec Ideal S8x128 .f32}
  (h : Agree I x0 x2 x3 x4 x5 x6)

/-- A sum over the outer two axes of four. -/
theorem sum_d03 {n0 n1 n2 n3 : Nat} (h' : (⟨4, ![n0, n1, n2, n3]⟩ : Shape).ReducesTo [0, 3] ⟨2, ![n1, n2]⟩)
    (x : (⟨4, ![n0, n1, n2, n3]⟩ : Shape).Idx → EReal) (init : EReal) (b : Fin n1) (c : Fin n2) :
    Ideal.hostReduceAdd h' x init (ix2 b c) = init + ∑ a, ∑ e, x (ix4 a b c e) := by
  have hd (a : Fin n0) (b' : Fin n1) (c' : Fin n2) (e : Fin n3) : h'.drop (ix4 a b' c' e) = ix2 b' c' := by
    funext k
    apply Fin.ext
    match k with
    | ⟨0, _⟩ => exact h'.drop_apply_val_of_eq _ _ 1 (show (0 : ℕ) < 2 by decide) rfl
    | ⟨1, _⟩ => exact h'.drop_apply_val_of_eq _ _ 2 (show (1 : ℕ) < 2 by decide) rfl
  unfold Ideal.hostReduceAdd
  rw [Finset.sum_filter, sum_idx4]
  congr 1
  refine Finset.sum_congr rfl fun a _ => ?_
  rw [Finset.sum_eq_single b, Finset.sum_eq_single c]
  · exact Finset.sum_congr rfl fun e _ => by rw [hd, if_pos rfl]
  · intro c' _ hc; exact Finset.sum_eq_zero fun e _ => by rw [hd, if_neg fun h => hc ((ix2_inj ..).1 h).2]
  · intro hc; exact absurd (Finset.mem_univ _) hc
  · intro b' _ hb; exact Finset.sum_eq_zero fun c' _ => Finset.sum_eq_zero fun e _ => by rw [hd, if_neg fun h => hb ((ix2_inj ..).1 h).1]
  · intro hc; exact absurd (Finset.mem_univ _) hc

theorem sitofp_zero : (FloatOps.sitofp FTy.f32 0#32 : Ideal FTy.f32) = (0 : EReal) := by
  show (((0#32 : BitVec 32).toInt : ℝ) : EReal) = 0
  simp

include h

/-- The gradient of the pre-activation: its first 1024 columns, its next, and the columns kept. -/
theorem dz_eq (r : Fin 16384) (c : Fin 4096) : val_main_v145 (F := Ideal) x0 x1 x2 x3 x4 x5 x6 (ix2 r c)
    = if h1 : c.val < 1024 then ((I.du r ⟨c.val, h1⟩ : ℝ) : EReal)
      else if h2 : c.val < 2048 then ((I.dvr r ⟨c.val - 1024, by omega⟩ : ℝ) : EReal) else x1 (ix2 r c) := by
  pointwise [val_main_v145, val_main_v142, val_main_v143, val_main_v144]
  by_cases h1 : c.val < 1024
  · rw [dif_pos h1, dif_pos h1, v141 h]
  · rw [dif_neg h1, dif_neg h1]
    by_cases h2 : c.val < 2048
    · rw [dif_pos h2, dif_pos (by omega), v133 h]
    · rw [dif_neg h2, dif_neg (by omega)]
      exact congrArg (fun k => x1 (ix2 r k)) (Fin.ext (by show 2048 + (c.val - 1024 - 1024) = c.val; omega))
theorem dw_eq (g : Fin 8) (t s : Fin 128) : val_main_v93 (F := Ideal) x0 x2 x3 x4 (ix3 g t s) = ((I.dw g t s : ℝ) : EReal) := by
  pointwise [val_main_v93, val_main_v90, val_main_v89, val_main_v72_1, val_main_v70, val_main_call2_v0, val_main_call2_cst]
  simp only [v67 h, v84 h, ← EReal.coe_mul, coe_sum]
  rw [v69]
  exact select_le t s _
theorem v88 (g : Fin 8) (t : Fin 128) : val_main_v88 (F := Ideal) x0 x2 (ix2 g t) = ((I.db g t : ℝ) : EReal) := by
  pointwise [val_main_v88, val_main_v87, val_main_v86]
  rw [sum_d03]
  simp only [Finset.univ_unique, Finset.sum_singleton]
  pointwise [val_main_v85, val_main_cst_19]
  rw [sum_d03]
  pointwise [val_main_cst_18]
  simp only [v84 h, coe_sum]; rfl
theorem db_eq (t l : Fin 128) : val_main_v147 (F := Ideal) x0 x2 (ix2 t l) = if hl : l.val < 8 then ((I.db ⟨l.val, hl⟩ t : ℝ) : EReal) else 0 := by
  pointwise [val_main_v147, val_main_v146, val_main_call3_v0, val_main_c_32]
  by_cases hl : l.val < 8
  · rw [dif_pos hl, dif_pos hl, v88 h]
  · rw [dif_neg hl, dif_neg hl]
    exact sitofp_zero
theorem dlg_eq (c : Fin 1024) : val_main_v148 (F := Ideal) x0 x2 x5 (ix2 0 c) = ((I.dlg c : ℝ) : EReal) := by
  pointwise [val_main_v148, val_main_v103, val_main_v100, val_main_v99, val_main_v98, val_main_cst_22, val_main_cst_23]
  simp only [Finset.univ_unique, Finset.sum_singleton, v60 h, v94 h, ← EReal.coe_mul, coe_sum]
  unfold Inp.dlg
  simp only [mul_comm]
theorem dlb_eq (c : Fin 1024) : val_main_v149 (F := Ideal) x0 x2 x5 (ix2 0 c) = ((I.dlb c : ℝ) : EReal) := by
  pointwise [val_main_v149, val_main_v97, val_main_v96, val_main_v95, val_main_cst_20, val_main_cst_21]
  simp only [Finset.univ_unique, Finset.sum_singleton, v94 h, coe_sum]; rfl

end Cert.Sgu.Ref

end
-- ==== Proof.Sgu.Arr.lean ====
/- The blocks a point reads, and the final arrays as sums over the points. -/
module

public import proofs.«01_k».proof.Proof.Sgu.Win
public import proofs.«01_k».proof.Proof.Sgu.Ref2
public import Idealize.ShloMosaic.Lib.Claim
public import Idealize.ShloMosaic.Lib.Pointwise
public import Idealize.ShloMosaic.Lib.Pipeline.ValueKit

@[expose] public section

set_option maxRecDepth 16384

noncomputable section

namespace Cert.Sgu

open Cert.KernelIdeal Cert.KernelIdeal.Gen Idealize.ShloMosaic Idealize.ShloMosaic.TcCoe Idealize.ShloMosaic.Tactic Idealize.SL.Sem
open Idealize.ShloMosaic.Pipeline (Dat)

variable {I : Inp} (m : (ℓ : Loc nD τ sig) → Buf (Elt Ideal) ℓ) (c : Dev nD)

/-- The device's arguments are the real arrays. -/
abbrev Has (I : Inp) (m : (ℓ : Loc nD τ sig) → Buf (Elt Ideal) ℓ) (c : Dev nD) : Prop :=
  Ref.Agree I (m (c.tc.loc main_arg0)) (m (c.tc.loc main_arg2)) (m (c.tc.loc main_arg3))
    (m (c.tc.loc main_arg4)) (m (c.tc.loc main_arg5)) (m (c.tc.loc main_arg6))

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_6.index t = ![0, 0, 0] ∧ win0_7.index t = ![0, 0, 0] :=
  (by decide +kernel : ∀ t : Fin grid0.N, _)

variable {m c}

theorem tril_word : ∀ i j : Fin 128, IntOp.cmpi CmpIPredicate.sge (IntOp.addi (BitVec.ofNat 32 i.val) 0#32) (BitVec.ofNat 32 j.val)
    = BitVec.ofBool (j.val ≤ i.val) := by decide +kernel

/-- The mixing matrices the host masks; their transposes; the bias spread over the lanes. -/
def wmH (w : FVec Ideal S8x128x128 .f32) : FVec Ideal S8x128x128 .bf16 :=
  truncf .bf16 (select (broadcastInDim S8x128x128 ![0, 1, 2] bcast_S1x128x128_S8x128x128_0_1_2 (broadcastInDim S1x128x128 ![1, 2] bcast_S128x128_S1x128x128_1_2
    (select (cmpi CmpIPredicate.sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1))))) w
    (broadcastInDim S8x128x128 ![] bcast_S_S8x128x128 (constant (F := Ideal) S_ FTy.f32 0#32))) bitsLt_bf16_f32
def biasH (b : FVec Ideal S8x128 .f32) : FVec Ideal S8x128x128 .f32 :=
  broadcastInDim S8x128x128 ![0, 1, 2] bcast_S8x128x1_S8x128x128_0_1_2 (broadcastInDim S8x128x1 ![0, 1] bcast_S8x128_S8x128x1_0_1 b)

theorem V4 : V m c main_v4 = wmH (m (c.tc.loc main_arg5)) := by
  unfold V
  simp only [List.flatten_cons, List.flatten_nil, List.append_nil, List.cons_append, List.nil_append]
  after_results_simp
  rfl
theorem V5 : V m c main_v5 = transpose S8x128x128 [0, 2, 1] (wmH (m (c.tc.loc main_arg5))) transposes_S8x128x128_S8x128x128_0_2_1 := by
  unfold V
  after_results
  rfl
theorem V7 : V m c main_v7 = biasH (m (c.tc.loc main_arg6)) := by
  unfold V
  simp only [List.flatten_cons, List.flatten_nil, List.append_nil, List.cons_append, List.nil_append]
  after_results_simp
  rfl
theorem V80 : V m c main_v8_0 = m (c.tc.loc main_arg1) := by
  unfold V
  simp only [List.flatten_cons, List.flatten_nil, List.append_nil, List.cons_append, List.nil_append]
  after_results_simp
  rfl

theorem wm_apply (h : Has I m c) (g : Fin 8) (i j : Fin 128) : wmH (m (c.tc.loc main_arg5)) (ix3 g i j) = ((I.Wm g i j : ℝ) : EReal) := by
  pointwise [wmH, h.hW]
  rw [tril_word]
  unfold Inp.Wm
  by_cases e : j.val ≤ i.val <;> simp [e, Scalar.select]
theorem bias_apply (h : Has I m c) (g : Fin 8) (i l : Fin 128) : biasH (m (c.tc.loc main_arg6)) (ix3 g i l) = ((I.B g i : ℝ) : EReal) := by
  pointwise [biasH, h.hb]

theorem blkAt (h : Has I m c) (t : Fin cfg0.N) : BlkAt I m c t where
  hU r k := by
    refine Eq.trans ?_ (h.hU (br (pt t) r) k)
    blk_point [iblk, V, idx t, br, pt]
  hV r k := by
    refine Eq.trans ?_ (h.hV (br (pt t) r) k)
    blk_point [iblk, V, idx t, br, pt]
  hD r k := by
    refine Eq.trans ?_ (h.hD (br (pt t) r) k)
    blk_point [iblk, V, idx t, br, pt]
  hG k := by
    refine Eq.trans ?_ (h.hG k)
    blk_point [iblk, V, idx t]
  hB k := by
    refine Eq.trans ?_ (h.hB k)
    blk_point [iblk, V, idx t]
  hW g i j := by
    refine Eq.trans ?_ (wm_apply h g i j)
    rw [← V4]
    blk_point [iblk, idx t]
  hT g i j := by
    refine Eq.trans (b := transpose S8x128x128 [0, 2, 1] (wmH (m (c.tc.loc main_arg5))) transposes_S8x128x128_S8x128x128_0_2_1 (ix3 g i j)) ?_ ?_
    · rw [← V5]
      blk_point [iblk, idx t]
    · pointwise [wm_apply h]
  hb g i l := by
    refine Eq.trans ?_ (bias_apply h g i l)
    rw [← V7]
    blk_point [iblk, idx t]

/-- A running sum read at its last point. -/
theorem run_sum {F : (n : ℕ) → n < cfg0.N → EReal} {T : Fin 32 → ℝ} (hA : ∀ t : Fin cfg0.N, t.val % 32 = 0 → F t.val t.isLt = 0 + ((T (pt t) : ℝ) : EReal))
    (hB : ∀ t : Fin cfg0.N, ¬t.val % 32 = 0 → F t.val t.isLt = F (t.val - 1) (Nat.lt_of_le_of_lt (Nat.sub_le _ _) t.isLt) + ((T (pt t) : ℝ) : EReal))
    (t : Fin cfg0.N) (ht : t.val % 32 = 31) : F t.val t.isLt = ((∑ t, T t : ℝ) : EReal) := by
  have hN : cfg0.N = 32 := rfl
  have key : ∀ n (h : n < cfg0.N), F n h = ((∑ k ∈ Finset.range (n + 1), if hk : k < 32 then T ⟨k, hk⟩ else 0 : ℝ) : EReal) := by
    intro n
    induction n with
    | zero => intro h; rw [hA ⟨0, h⟩ rfl]; simp [pt]
    | succ n ih =>
      intro h
      have hs := hB ⟨n + 1, h⟩ (by dsimp only; omega)
      simp only [Nat.add_sub_cancel] at hs
      rw [hs, ih, Finset.sum_range_succ _ (n + 1), dif_pos (by omega), EReal.coe_add]
      rfl
  have h31 : t.val = 31 := by have := t.isLt; omega
  rw [key, h31, Finset.sum_range]
  congr 1

theorem sum_rows (f : Fin 16384 → ℝ) : ∑ t : Fin 32, ∑ r : Fin 512, f (br t r) = ∑ r, f r := by
  rw [← Fintype.sum_prod_type']
  exact Finset.sum_bij' (fun p _ => br p.1 p.2) (fun r _ => (⟨r.val / 512, by omega⟩, ⟨r.val % 512, by omega⟩)) (fun _ _ => Finset.mem_univ _) (fun _ _ => Finset.mem_univ _)
    (fun p _ => Prod.ext (Fin.ext (by simp only [br]; omega)) (Fin.ext (by simp only [br]; omega))) (fun r _ => Fin.ext (by simp only [br]; omega)) (fun _ _ => rfl)
theorem sum_chunks (f : Fin 128 → ℝ) : ∑ t : Fin 32, ∑ q : Fin 4, f (bc t q) = ∑ n, f n := by
  rw [← Fintype.sum_prod_type']
  exact Finset.sum_bij' (fun p _ => bc p.1 p.2) (fun r _ => (⟨r.val / 4, by omega⟩, ⟨r.val % 4, by omega⟩)) (fun _ _ => Finset.mem_univ _) (fun _ _ => Finset.mem_univ _)
    (fun p _ => Prod.ext (Fin.ext (by simp only [bc]; omega)) (Fin.ext (by simp only [bc]; omega))) (fun r _ => Fin.ext (by simp only [bc]; omega)) (fun _ _ => rfl)

theorem last9 (h : Has I m c) (t : Fin cfg0.N) (ht : t.val % 32 = 31) (g : Fin 8) (i j : Fin 128) : (outsAt0 m c t.val t.isLt).2.1 (ix3 g i j) = ((I.dw g i j : ℝ) : EReal) := by
  refine (run_sum (F := fun n hn => (outsAt0 m c n hn).2.1 (ix3 g i j)) (T := fun t => ∑ q : Fin 4, dwT I (bc t q) g i j)
    (fun t h0 => w9_A c m t h0 (blkAt h t) g i j) (fun t h0 => w9_B c m t h0 (blkAt h t) g i j) t ht).trans ?_
  rw [sum_chunks (fun n => dwT I n g i j)]
  congr 1
  unfold dwT Inp.dw
  by_cases e : j.val ≤ i.val
  · simp only [if_pos e]
  · simp only [if_neg e, Finset.sum_const_zero]
theorem last11 (h : Has I m c) (t : Fin cfg0.N) (ht : t.val % 32 = 31) (k : Fin 1024) : (outsAt0 m c t.val t.isLt).2.2.2.1 (ix2 0 k) = ((I.dlg k : ℝ) : EReal) := by
  refine (run_sum (F := fun n hn => (outsAt0 m c n hn).2.2.2.1 (ix2 0 k)) (T := fun t => ∑ r : Fin 512, I.dvn (br t r) k * vh (I.V (br t r)) k)
    (fun t h0 => w11_A c m t h0 (blkAt h t) k) (fun t h0 => w11_B c m t h0 (blkAt h t) k) t ht).trans ?_
  rw [sum_rows (fun r => I.dvn r k * vh (I.V r) k)]
  rfl
theorem last12 (h : Has I m c) (t : Fin cfg0.N) (ht : t.val % 32 = 31) (k : Fin 1024) : (outsAt0 m c t.val t.isLt).2.2.2.2 (ix2 0 k) = ((I.dlb k : ℝ) : EReal) := by
  refine (run_sum (F := fun n hn => (outsAt0 m c n hn).2.2.2.2 (ix2 0 k)) (T := fun t => ∑ r : Fin 512, I.dvn (br t r) k)
    (fun t h0 => w12_A c m t h0 (blkAt h t) k) (fun t h0 => w12_B c m t h0 (blkAt h t) k) t ht).trans ?_
  rw [sum_rows (fun r => I.dvn r k)]
  rfl
theorem last10 (h : Has I m c) (t : Fin cfg0.N) (ht : t.val % 32 = 31) (i l : Fin 128) : (outsAt0 m c t.val t.isLt).2.2.1 (ix2 i l) = if hl : l.val < 8 then ((I.db ⟨l.val, hl⟩ i : ℝ) : EReal) else 0 := by
  refine (run_sum (F := fun n hn => (outsAt0 m c n hn).2.2.1 (ix2 i l)) (T := fun t => rowSum I t 32 i l)
    (fun t h0 => w10_A c m t h0 (blkAt h t) i l) (fun t h0 => w10_B c m t h0 (blkAt h t) i l) t ht).trans ?_
  by_cases hl : l.val < 8
  · rw [dif_pos hl]
    simp only [rowSum_all I _ i ⟨l.val, hl⟩ l rfl]
    rw [sum_chunks (fun n => ∑ k, I.dsf (tok n i) (col ⟨l.val, hl⟩ k))]
    rfl
  · rw [dif_neg hl]
    have : ∀ t, rowSum I t 32 i l = 0 := fun t => Finset.sum_eq_zero fun x _ => by
      rw [if_pos x.isLt]; unfold rowS; rw [if_neg (by dsimp only; omega)]
    simp [this]

theorem idxO : ∀ t : Fin cfg0.N, win0_8.index t = ![t.val, 0] ∧ win0_9.index t = ![0, 0, 0] ∧ win0_10.index t = ![0, 0]
    ∧ win0_11.index t = ![0, 0] ∧ win0_12.index t = ![0, 0] :=
  (by decide +kernel : ∀ t : Fin grid0.N, _)

theorem final9 (h : Has I m c) : (dats m 0 c).arrAt 9 (cfgs 0).N = fun j : S8x128x128.Idx => ((I.dw (j 0) (j 1) (j 2) : ℝ) : EReal) := by
  refine (dats m 0 c).arrAt_eq_of_covers 9 _ (by decide +kernel) fun t hf y => ?_
  have ht := (flush0_9 t).mp hf
  have hy : (win0_9.blk t).view.emb y = (y : S8x128x128.Idx) := by
    funext a
    apply Fin.ext
    fin_cases a <;> blk_simp [idxO t] <;> simp
  have key : ∀ y : S8x128x128.Idx, (outsAt0 m c t.val t.isLt).2.1 y = (fun j : S8x128x128.Idx => ((I.dw (j 0) (j 1) (j 2) : ℝ) : EReal)) y := by
    intro y
    idx_vars y
    exact last9 h t ht y0 y1 y2
  refine Eq.trans ?_ ((key y).trans (congrArg (fun j : S8x128x128.Idx => ((I.dw (j 0) (j 1) (j 2) : ℝ) : EReal)) hy.symm))
  blk_simp
  rw [after0_9]
theorem final10 (h : Has I m c) : (dats m 0 c).arrAt 10 (cfgs 0).N = fun j : S128x128.Idx => if hl : (j 1).val < 8 then ((I.db ⟨(j 1).val, hl⟩ (j 0) : ℝ) : EReal) else 0 := by
  refine (dats m 0 c).arrAt_eq_of_covers 10 _ (by decide +kernel) fun t hf y => ?_
  have ht := (flush0_10 t).mp hf
  have hy : (win0_10.blk t).view.emb y = (y : S128x128.Idx) := by
    funext a
    apply Fin.ext
    fin_cases a <;> blk_simp [idxO t] <;> simp
  have key : ∀ y : S128x128.Idx, (outsAt0 m c t.val t.isLt).2.2.1 y = (fun j : S128x128.Idx => if hl : (j 1).val < 8 then ((I.db ⟨(j 1).val, hl⟩ (j 0) : ℝ) : EReal) else 0) y := by
    intro y
    idx_vars y
    exact last10 h t ht y0 y1
  refine Eq.trans ?_ ((key y).trans (congrArg (fun j : S128x128.Idx => if hl : (j 1).val < 8 then ((I.db ⟨(j 1).val, hl⟩ (j 0) : ℝ) : EReal) else 0) hy.symm))
  blk_simp
  rw [after0_10]
theorem final11 (h : Has I m c) : (dats m 0 c).arrAt 11 (cfgs 0).N = fun j : S1x1024.Idx => ((I.dlg (j 1) : ℝ) : EReal) := by
  refine (dats m 0 c).arrAt_eq_of_covers 11 _ (by decide +kernel) fun t hf y => ?_
  have ht := (flush0_11 t).mp hf
  have hy : (win0_11.blk t).view.emb y = (y : S1x1024.Idx) := by
    funext a
    apply Fin.ext
    fin_cases a <;> blk_simp [idxO t] <;> simp
  have key : ∀ y : S1x1024.Idx, (outsAt0 m c t.val t.isLt).2.2.2.1 y = (fun j : S1x1024.Idx => ((I.dlg (j 1) : ℝ) : EReal)) y := by
    intro y
    idx_vars y
    obtain rfl : y0 = 0 := Subsingleton.elim _ _
    exact last11 h t ht y1
  refine Eq.trans ?_ ((key y).trans (congrArg (fun j : S1x1024.Idx => ((I.dlg (j 1) : ℝ) : EReal)) hy.symm))
  blk_simp
  rw [after0_11]
theorem final12 (h : Has I m c) : (dats m 0 c).arrAt 12 (cfgs 0).N = fun j : S1x1024.Idx => ((I.dlb (j 1) : ℝ) : EReal) := by
  refine (dats m 0 c).arrAt_eq_of_covers 12 _ (by decide +kernel) fun t hf y => ?_
  have ht := (flush0_12 t).mp hf
  have hy : (win0_12.blk t).view.emb y = (y : S1x1024.Idx) := by
    funext a
    apply Fin.ext
    fin_cases a <;> blk_simp [idxO t] <;> simp
  have key : ∀ y : S1x1024.Idx, (outsAt0 m c t.val t.isLt).2.2.2.2 y = (fun j : S1x1024.Idx => ((I.dlb (j 1) : ℝ) : EReal)) y := by
    intro y
    idx_vars y
    obtain rfl : y0 = 0 := Subsingleton.elim _ _
    exact last12 h t ht y1
  refine Eq.trans ?_ ((key y).trans (congrArg (fun j : S1x1024.Idx => ((I.dlb (j 1) : ℝ) : EReal)) hy.symm))
  blk_simp
  rw [after0_12]
/-- What the body leaves in the columns of its block. -/
def dzG (I : Inp) (r : Fin 16384) (k : Fin 4096) : EReal :=
  if h1 : k.val < 1024 then ((I.du r ⟨k.val, h1⟩ : ℝ) : EReal) else if h2 : k.val < 2048 then ((I.dvr r ⟨k.val - 1024, by omega⟩ : ℝ) : EReal) else 0

theorem final8 (h : Has I m c) : (dats m 0 c).arrAt 8 (cfgs 0).N = fun j : S16384x4096.Idx => if (j 1).val < 2048 then dzG I (j 0) (j 1) else V m c main_v8_0 j := by
  refine (dats m 0 c).arrAt_eq_of_coversWhere 8 (fun j : S16384x4096.Idx => dzG I (j 0) (j 1)) (fun β => β 1 < 1) (by decide +kernel) (fun t hf y => ?_)
    (fun j => by blk_simp [Pipeline.Window.cell_apply]; omega)
  have key : ∀ y : S512x2048.Idx, (outsAt0 m c t.val t.isLt).1 y = (fun j : S16384x4096.Idx => dzG I (j 0) (j 1)) (ix2 (br (pt t) (y 0)) ⟨(y 1).val, Nat.lt_trans (y 1).isLt (by decide : 2048 < 4096)⟩) := by
    intro y
    idx_vars y
    have hw : (outsAt0 m c t.val t.isLt).1 (ix2 y0 y1) = if h : y1.val < 1024 then ((I.du (br (pt t) y0) ⟨y1.val, h⟩ : ℝ) : EReal) else ((I.dvr (br (pt t) y0) ⟨y1.val - 1024, by omega⟩ : ℝ) : EReal) := by
      by_cases h0 : t.val % 32 = 0
      · exact w8_A c m t h0 (blkAt h t) y0 y1
      · exact w8_B c m t h0 (blkAt h t) y0 y1
    rw [hw]
    show _ = dzG I (br (pt t) y0) ⟨y1.val, _⟩
    unfold dzG
    by_cases h1 : y1.val < 1024
    · rw [dif_pos h1, dif_pos h1]
    · rw [dif_neg h1, dif_neg h1, dif_pos y1.isLt]
  have hy : (win0_8.blk t).view.emb y = (ix2 (br (pt t) ((y : S512x2048.Idx) 0)) ⟨((y : S512x2048.Idx) 1).val, Nat.lt_trans ((y : S512x2048.Idx) 1).isLt (by decide : 2048 < 4096)⟩ : S16384x4096.Idx) := by
    funext a
    apply Fin.ext
    fin_cases a <;> blk_simp [idxO t, br, pt] <;> simp <;> omega
  refine Eq.trans ?_ ((key y).trans (congrArg (fun j : S16384x4096.Idx => dzG I (j 0) (j 1)) hy.symm))
  blk_simp
  rw [after0_8]

end Cert.Sgu

end
-- ==== Proof.Sgu.Finite.lean ====
/- Arguments that are finite everywhere are real arrays. -/
module

public import proofs.«01_k».proof.Proof.Sgu.Ref1
public import proofs.«01_k».proof.Pre_finite
public import Idealize.ShloMosaic.Lib.Pointwise

@[expose] public section

noncomputable section

namespace Cert.Sgu

open Idealize.ShloMosaic Idealize.ShloMosaic.Tactic

/-- An extended real below infinity in absolute value is a real. -/
theorem fin_coe {x : EReal} (h : max x (-x) < ⊤) : x = ((x.toReal : ℝ) : EReal) := by
  refine (EReal.coe_toReal ?_ ?_).symm
  · rintro rfl; simp at h
  · rintro rfl; simp at h

theorem ofBool_one {b : Bool} (h : BitVec.ofBool b = 1#1) : b = true := by cases b <;> simp_all

theorem inf32 : Ideal.ofBits .f32 0x7F800000#32 = (⊤ : EReal) := by
  have h : Ideal.ieee 8 23 0x7F800000#32 = (⊤ : EReal) := by
    unfold Ideal.ieee
    simp
  exact h

/-- A mask entry of one says that the entry it compares is a real. -/
theorem of_mask {x : EReal} (h : BitVec.ofBool (decide (FloatOps.absf (F := Ideal) (φ := .f32) x < Ideal.ofBits FTy.f32 2139095040#32)) = 1#1) :
    x = ((x.toReal : ℝ) : EReal) := by
  have h1 := of_decide_eq_true (ofBool_one h)
  rw [inf32] at h1
  exact fin_coe h1

variable [Cert.Pre_finite.Facts] (x0 x1 : FVec Ideal Cert.Pre_finite.S16384x4096 .bf16) (x2 : FVec Ideal Cert.Pre_finite.S16384x1024 .bf16)
  (x3 x4 : FVec Ideal Cert.Pre_finite.S1x1024 .f32) (x5 : FVec Ideal Cert.Pre_finite.S8x128x128 .f32) (x6 : FVec Ideal Cert.Pre_finite.S8x128 .f32)

theorem fin0 (h : (Cert.Pre_finite.fn (F := Ideal) x0 x1 x2 x3 x4 x5 x6).1 = fun _ => 1#1) (r : Fin 16384) (k : Fin 4096) :
    x0 (ix2 r k) = (((x0 (ix2 r k)).toReal : ℝ) : EReal) := by
  have h1 := congrFun h (ix2 r k)
  unfold Cert.Pre_finite.fn Cert.Pre_finite.fn_part1 at h1
  revert h1
  pointwise
  exact of_mask

theorem fin2 (h : (Cert.Pre_finite.fn (F := Ideal) x0 x1 x2 x3 x4 x5 x6).2.1 = fun _ => 1#1) (r : Fin 16384) (k : Fin 1024) :
    x2 (ix2 r k) = (((x2 (ix2 r k)).toReal : ℝ) : EReal) := by
  have h1 := congrFun h (ix2 r k)
  unfold Cert.Pre_finite.fn Cert.Pre_finite.fn_part1 at h1
  revert h1
  pointwise
  exact of_mask

theorem fin3 (h : (Cert.Pre_finite.fn (F := Ideal) x0 x1 x2 x3 x4 x5 x6).2.2.1 = fun _ => 1#1) (k : Fin 1024) :
    x3 (ix2 0 k) = (((x3 (ix2 0 k)).toReal : ℝ) : EReal) := by
  have h1 := congrFun h (ix2 0 k)
  unfold Cert.Pre_finite.fn Cert.Pre_finite.fn_part1 at h1
  revert h1
  pointwise
  exact of_mask

theorem fin4 (h : (Cert.Pre_finite.fn (F := Ideal) x0 x1 x2 x3 x4 x5 x6).2.2.2.1 = fun _ => 1#1) (k : Fin 1024) :
    x4 (ix2 0 k) = (((x4 (ix2 0 k)).toReal : ℝ) : EReal) := by
  have h1 := congrFun h (ix2 0 k)
  unfold Cert.Pre_finite.fn Cert.Pre_finite.fn_part1 at h1
  revert h1
  pointwise
  exact of_mask

theorem fin5 (h : (Cert.Pre_finite.fn (F := Ideal) x0 x1 x2 x3 x4 x5 x6).2.2.2.2.1 = fun _ => 1#1) (g : Fin 8) (t s : Fin 128) :
    x5 (ix3 g t s) = (((x5 (ix3 g t s)).toReal : ℝ) : EReal) := by
  have h1 := congrFun h (ix3 g t s)
  unfold Cert.Pre_finite.fn Cert.Pre_finite.fn_part1 at h1
  revert h1
  pointwise
  exact of_mask

theorem fin6 (h : (Cert.Pre_finite.fn (F := Ideal) x0 x1 x2 x3 x4 x5 x6).2.2.2.2.2 = fun _ => 1#1) (g : Fin 8) (t : Fin 128) :
    x6 (ix2 g t) = (((x6 (ix2 g t)).toReal : ℝ) : EReal) := by
  have h1 := congrFun h (ix2 g t)
  unfold Cert.Pre_finite.fn Cert.Pre_finite.fn_part1 at h1
  revert h1
  pointwise
  exact of_mask

/-- The real arrays of finite arguments. -/
def inpOf (x0 : FVec Ideal Cert.Pre_finite.S16384x4096 .bf16) (x2 : FVec Ideal Cert.Pre_finite.S16384x1024 .bf16)
    (x3 x4 : FVec Ideal Cert.Pre_finite.S1x1024 .f32) (x5 : FVec Ideal Cert.Pre_finite.S8x128x128 .f32) (x6 : FVec Ideal Cert.Pre_finite.S8x128 .f32) : Inp where
  U r k := (x0 (ix2 r ⟨k.val, by omega⟩)).toReal
  V r k := (x0 (ix2 r ⟨1024 + k.val, by omega⟩)).toReal
  DY r k := (x2 (ix2 r k)).toReal
  LG k := (x3 (ix2 0 k)).toReal
  LB k := (x4 (ix2 0 k)).toReal
  W g t s := (x5 (ix3 g t s)).toReal
  B g t := (x6 (ix2 g t)).toReal

theorem agree_of (h0 : (Cert.Pre_finite.fn (F := Ideal) x0 x1 x2 x3 x4 x5 x6).1 = fun _ => 1#1)
    (h2 : (Cert.Pre_finite.fn (F := Ideal) x0 x1 x2 x3 x4 x5 x6).2.1 = fun _ => 1#1)
    (h3 : (Cert.Pre_finite.fn (F := Ideal) x0 x1 x2 x3 x4 x5 x6).2.2.1 = fun _ => 1#1)
    (h4 : (Cert.Pre_finite.fn (F := Ideal) x0 x1 x2 x3 x4 x5 x6).2.2.2.1 = fun _ => 1#1)
    (h5 : (Cert.Pre_finite.fn (F := Ideal) x0 x1 x2 x3 x4 x5 x6).2.2.2.2.1 = fun _ => 1#1)
    (h6 : (Cert.Pre_finite.fn (F := Ideal) x0 x1 x2 x3 x4 x5 x6).2.2.2.2.2 = fun _ => 1#1) :
    Ref.Agree (inpOf x0 x2 x3 x4 x5 x6) x0 x2 x3 x4 x5 x6 where
  hU r k := fin0 x0 x1 x2 x3 x4 x5 x6 h0 r _
  hV r k := fin0 x0 x1 x2 x3 x4 x5 x6 h0 r _
  hD := fin2 x0 x1 x2 x3 x4 x5 x6 h2
  hG := fin3 x0 x1 x2 x3 x4 x5 x6 h3
  hB := fin4 x0 x1 x2 x3 x4 x5 x6 h4
  hW := fin5 x0 x1 x2 x3 x4 x5 x6 h5
  hb := fin6 x0 x1 x2 x3 x4 x5 x6 h6

end Cert.Sgu

end
-- ==== Proof.Sgu.Claim.lean ====
/- The gating unit's gradient and its reference leave the same arrays. -/
module

public import proofs.«01_k».proof.Defs
public import proofs.«01_k».proof.Proof.Sgu.Arr
public import proofs.«01_k».proof.Proof.Sgu.Finite
public import proofs.«01_k».proof.Proof.Gen.Kernel

@[expose] public section

noncomputable section

namespace Cert.Sgu

open Idealize.ShloMosaic Idealize.ShloMosaic.TcCoe Idealize.ShloMosaic.Tactic Idealize.SL.Sem

variable [Cert.Pre_finite.Facts]

theorem has_of {m : (ℓ : Loc Cert.KernelIdeal.nD Cert.KernelIdeal.τ Cert.KernelIdeal.sig) → Buf (Elt Ideal) ℓ} (h : Cert.Pre_KernelIdeal_finite m)
    (c : Dev Cert.KernelIdeal.nD) : ∃ I : Inp, Has I m c :=
  ⟨_, agree_of _ _ _ _ _ _ _ (h c).1 (h c).2.1 (h c).2.2.1 (h c).2.2.2.1 (h c).2.2.2.2.1 (h c).2.2.2.2.2⟩

/-- The column gradient: what the body writes is the reference's concatenation, the other half the argument both copy. -/
theorem dz_same {I : Inp} {m : (ℓ : Loc Cert.KernelIdeal.nD Cert.KernelIdeal.τ Cert.KernelIdeal.sig) → Buf (Elt Ideal) ℓ} {c : Dev Cert.KernelIdeal.nD} (h : Has I m c) :
    Cert.ReferenceIdeal.Read.val_main_v145 (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5)) (m (c.tc.loc Cert.KernelIdeal.main_arg6))
      = (Cert.KernelIdeal.Gen.dats m 0 c).arrAt 8 Cert.KernelIdeal.cfg0.N := by
  refine Eq.trans ?_ (final8 h).symm
  rw [V80]
  funext j
  idx_vars j
  refine (Ref.dz_eq h j0 j1).trans ?_
  show _ = if j1.val < 2048 then dzG I j0 j1 else _
  unfold dzG
  by_cases h1 : j1.val < 1024
  · rw [dif_pos h1, if_pos (by omega), dif_pos h1]
  · by_cases h2 : j1.val < 2048
    · rw [dif_neg h1, dif_pos h2, if_pos h2, dif_neg h1, dif_pos h2]
    · rw [dif_neg h1, dif_neg h2, if_neg h2]

/-- The run of the reference: each result by its stage, and the arguments kept. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r => ∀ c : Dev Cert.ReferenceIdeal.nD,
r.2.mem (c.tc.loc Cert.ReferenceIdeal.main_v145) = Cert.ReferenceIdeal.Read.val_main_v145 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6))
      ∧ r.2.mem (c.tc.loc Cert.ReferenceIdeal.main_v93) = Cert.ReferenceIdeal.Read.val_main_v93 (m' (c.tc.loc Cert.ReferenceIdeal.main_arg0)) (m' (c.tc.loc Cert.ReferenceIdeal.main_arg2)) (m' (c.tc.loc Cert.ReferenceIdeal.main_arg3)) (m' (c.tc.loc Cert.ReferenceIdeal.main_arg4))
      ∧ r.2.mem (c.tc.loc Cert.ReferenceIdeal.main_v147) = Cert.ReferenceIdeal.Read.val_main_v147 (m' (c.tc.loc Cert.ReferenceIdeal.main_arg0)) (m' (c.tc.loc Cert.ReferenceIdeal.main_arg2))
      ∧ r.2.mem (c.tc.loc Cert.ReferenceIdeal.main_v148) = Cert.ReferenceIdeal.Read.val_main_v148 (m' (c.tc.loc Cert.ReferenceIdeal.main_arg0)) (m' (c.tc.loc Cert.ReferenceIdeal.main_arg2)) (m' (c.tc.loc Cert.ReferenceIdeal.main_arg5))
      ∧ r.2.mem (c.tc.loc Cert.ReferenceIdeal.main_v149) = Cert.ReferenceIdeal.Read.val_main_v149 (m' (c.tc.loc Cert.ReferenceIdeal.main_arg0)) (m' (c.tc.loc Cert.ReferenceIdeal.main_arg2)) (m' (c.tc.loc Cert.ReferenceIdeal.main_arg5))
      ∧ r.2.mem (c.tc.loc Cert.ReferenceIdeal.main_arg0) = m' (c.tc.loc Cert.ReferenceIdeal.main_arg0)
      ∧ r.2.mem (c.tc.loc Cert.ReferenceIdeal.main_arg1) = m' (c.tc.loc Cert.ReferenceIdeal.main_arg1)
      ∧ r.2.mem (c.tc.loc Cert.ReferenceIdeal.main_arg2) = m' (c.tc.loc Cert.ReferenceIdeal.main_arg2)
      ∧ r.2.mem (c.tc.loc Cert.ReferenceIdeal.main_arg3) = m' (c.tc.loc Cert.ReferenceIdeal.main_arg3)
      ∧ r.2.mem (c.tc.loc Cert.ReferenceIdeal.main_arg4) = m' (c.tc.loc Cert.ReferenceIdeal.main_arg4)
      ∧ r.2.mem (c.tc.loc Cert.ReferenceIdeal.main_arg5) = m' (c.tc.loc Cert.ReferenceIdeal.main_arg5)
      ∧ r.2.mem (c.tc.loc Cert.ReferenceIdeal.main_arg6) = m' (c.tc.loc Cert.ReferenceIdeal.main_arg6) :=
  (θ_run Cert.ReferenceIdeal.defs _ _).mono (fun _ h c => ⟨(h c).1.trans (Cert.ReferenceIdeal.Read.val_main_v145_eq _), (h c).2.1.trans (Cert.ReferenceIdeal.Read.val_main_v93_eq _), (h c).2.2.1.trans (Cert.ReferenceIdeal.Read.val_main_v147_eq _), (h c).2.2.2.1.trans (Cert.ReferenceIdeal.Read.val_main_v148_eq _), (h c).2.2.2.2.1.trans (Cert.ReferenceIdeal.Read.val_main_v149_eq _), (h c).2.2.2.2.2⟩) (Cert.ReferenceIdeal.Value.run m' g')

theorem algebraic : Cert.algebraic_KernelIdeal_ReferenceIdeal_pre_finite := by
  intro m g m' g' hpre ha
  refine ⟨_, _, _, _, _, Cert.KernelIdeal.Value.run_blocks m g, ?_⟩
  refine (θ_run Cert.ReferenceIdeal.defs _ _).mono (fun r h c => ?_) (ref_run m' g')
  obtain ⟨e0, e1, e2, e3, e4, e5, e6⟩ := ha c
  obtain ⟨I, hI⟩ := has_of hpre c
  obtain ⟨k0, k1, k2, k3, k4, ka⟩ := h c
  refine ⟨k0.trans ?_, k1.trans ?_,
    k2.trans ?_, k3.trans ?_, k4.trans ?_, ka⟩
  · rw [e0, e1, e2, e3, e4, e5, e6]
    exact dz_same hI
  · rw [e0, e2, e3, e4]
    refine Eq.trans ?_ (final9 hI).symm
    funext j
    idx_vars j
    exact Ref.dw_eq hI j0 j1 j2
  · rw [e0, e2]
    refine Eq.trans ?_ (final10 hI).symm
    funext j
    idx_vars j
    exact Ref.db_eq hI j0 j1
  · rw [e0, e2, e5]
    refine Eq.trans ?_ (final11 hI).symm
    funext j
    idx_vars j
    obtain rfl : j0 = 0 := Subsingleton.elim _ _
    exact Ref.dlg_eq hI j1
  · rw [e0, e2, e5]
    refine Eq.trans ?_ (final12 hI).symm
    funext j
    idx_vars j
    obtain rfl : j0 = 0 := Subsingleton.elim _ _
    exact Ref.dlb_eq hI j1

end Cert.Sgu

end
-- ==== Proof.V.RefFrames.lean ====
/- The references' runs, weakened to the arguments they keep. -/
module

public import proofs.«01_k».proof.Defs
public import proofs.«01_k».proof.Proof.Gen.Dw1RefIdeal.Run
public import proofs.«01_k».proof.Proof.Gen.BwdInRefIdeal.Run
public import proofs.«01_k».proof.Proof.Gen.UpRefIdeal.Run
public import proofs.«01_k».proof.Proof.Gen.DownRefIdeal.Run
public import proofs.«01_k».proof.Proof.Gen.HidRefIdeal.Run
public import proofs.«01_k».proof.Proof.Gen.MixInRefIdeal.Run
public import proofs.«01_k».proof.Proof.Gen.MixBwdRefIdeal.Run
public import proofs.«01_k».proof.Proof.Gen.MixDwRefIdeal.Run
public import proofs.«01_k».proof.Proof.Gen.QkvInRefIdeal.Run
public import proofs.«01_k».proof.Proof.Gen.QkvDwRefIdeal.Run
public import proofs.«01_k».proof.Proof.Gen.QkvDhRefIdeal.Run
public import proofs.«01_k».proof.Proof.Gen.DwOutRefIdeal.Run
public import proofs.«01_k».proof.Proof.Gen.DwAttnRefIdeal.Run
public import proofs.«01_k».proof.Proof.Gen.MergeFwdRefIdeal.Run
public import proofs.«01_k».proof.Proof.Gen.SmallSumRefIdeal.Run
public import proofs.«01_k».proof.Proof.Gen.MergeBwdRefIdeal.Run
public import proofs.«01_k».proof.Proof.Gen.AdamVecRefIdeal.Run
public import proofs.«01_k».proof.Proof.Gen.AdamFfn1RefIdeal.Run
public import proofs.«01_k».proof.Proof.Gen.AdamFfn2RefIdeal.Run
public import proofs.«01_k».proof.Proof.Gen.AdamInRefIdeal.Run
public import proofs.«01_k».proof.Proof.Gen.AdamSinkRefIdeal.Run
public import proofs.«01_k».proof.Proof.Gen.AdamSguWRefIdeal.Run
public import proofs.«01_k».proof.Proof.Gen.AdamSguBRefIdeal.Run
public import proofs.«01_k».proof.Proof.Gen.AdamSqRefIdeal.Run

@[expose] public section

noncomputable section

namespace Cert.RefFrames

open Idealize.ShloMosaic Idealize.SL.Sem

theorem dw1 : Cert.quiescent_Dw1RefIdeal := fun m ρ _ =>
  (θ_run Cert.Dw1RefIdeal.defs _ _).mono (fun r h => ⟨fun c => (h c).2,
      Idealize.ShloMosaic.sem_eq_zero_of_no_sems (by decide) r.2⟩)
    (Cert.Dw1RefIdeal.Value.run m ρ)

theorem bwdIn : Cert.quiescent_BwdInRefIdeal := fun m ρ _ =>
  (θ_run Cert.BwdInRefIdeal.defs _ _).mono (fun r h => ⟨fun c => (h c).2.2,
      Idealize.ShloMosaic.sem_eq_zero_of_no_sems (by decide) r.2⟩)
    (Cert.BwdInRefIdeal.Value.run m ρ)

theorem up : Cert.quiescent_UpRefIdeal := fun m ρ _ =>
  (θ_run Cert.UpRefIdeal.defs _ _).mono (fun r h => ⟨fun c => (h c).2.2,
      Idealize.ShloMosaic.sem_eq_zero_of_no_sems (by decide) r.2⟩)
    (Cert.UpRefIdeal.Value.run m ρ)

theorem down : Cert.quiescent_DownRefIdeal := fun m ρ _ =>
  (θ_run Cert.DownRefIdeal.defs _ _).mono (fun r h => ⟨fun c => (h c).2.2,
      Idealize.ShloMosaic.sem_eq_zero_of_no_sems (by decide) r.2⟩)
    (Cert.DownRefIdeal.Value.run m ρ)

theorem hid : Cert.quiescent_HidRefIdeal := fun m ρ _ =>
  (θ_run Cert.HidRefIdeal.defs _ _).mono (fun r h => ⟨fun c => (h c).2.2.2,
      Idealize.ShloMosaic.sem_eq_zero_of_no_sems (by decide) r.2⟩)
    (Cert.HidRefIdeal.Value.run m ρ)

theorem mixIn : Cert.quiescent_MixInRefIdeal := fun m ρ _ =>
  (θ_run Cert.MixInRefIdeal.defs _ _).mono (fun r h => ⟨fun c => (h c).2,
      Idealize.ShloMosaic.sem_eq_zero_of_no_sems (by decide) r.2⟩)
    (Cert.MixInRefIdeal.Value.run m ρ)

theorem mixBwd : Cert.quiescent_MixBwdRefIdeal := fun m ρ _ =>
  (θ_run Cert.MixBwdRefIdeal.defs _ _).mono (fun r h => ⟨fun c => (h c).2.2,
      Idealize.ShloMosaic.sem_eq_zero_of_no_sems (by decide) r.2⟩)
    (Cert.MixBwdRefIdeal.Value.run m ρ)

theorem mixDw : Cert.quiescent_MixDwRefIdeal := fun m ρ _ =>
  (θ_run Cert.MixDwRefIdeal.defs _ _).mono (fun r h => ⟨fun c => (h c).2,
      Idealize.ShloMosaic.sem_eq_zero_of_no_sems (by decide) r.2⟩)
    (Cert.MixDwRefIdeal.Value.run m ρ)

theorem qkvIn : Cert.quiescent_QkvInRefIdeal := fun m ρ _ =>
  (θ_run Cert.QkvInRefIdeal.defs _ _).mono (fun r h => ⟨fun c => (h c).2.2,
      Idealize.ShloMosaic.sem_eq_zero_of_no_sems (by decide) r.2⟩)
    (Cert.QkvInRefIdeal.Value.run m ρ)

theorem qkvDw : Cert.quiescent_QkvDwRefIdeal := fun m ρ _ =>
  (θ_run Cert.QkvDwRefIdeal.defs _ _).mono (fun r h => ⟨fun c => (h c).2,
      Idealize.ShloMosaic.sem_eq_zero_of_no_sems (by decide) r.2⟩)
    (Cert.QkvDwRefIdeal.Value.run m ρ)

theorem qkvDh : Cert.quiescent_QkvDhRefIdeal := fun m ρ _ =>
  (θ_run Cert.QkvDhRefIdeal.defs _ _).mono (fun r h => ⟨fun c => (h c).2,
      Idealize.ShloMosaic.sem_eq_zero_of_no_sems (by decide) r.2⟩)
    (Cert.QkvDhRefIdeal.Value.run m ρ)

theorem dwOut : Cert.quiescent_DwOutRefIdeal := fun m ρ _ =>
  (θ_run Cert.DwOutRefIdeal.defs _ _).mono (fun r h => ⟨fun c => (h c).2,
      Idealize.ShloMosaic.sem_eq_zero_of_no_sems (by decide) r.2⟩)
    (Cert.DwOutRefIdeal.Value.run m ρ)

theorem dwAttn : Cert.quiescent_DwAttnRefIdeal := fun m ρ _ =>
  (θ_run Cert.DwAttnRefIdeal.defs _ _).mono (fun r h => ⟨fun c => (h c).2,
      Idealize.ShloMosaic.sem_eq_zero_of_no_sems (by decide) r.2⟩)
    (Cert.DwAttnRefIdeal.Value.run m ρ)

theorem mergeFwd : Cert.quiescent_MergeFwdRefIdeal := fun m ρ _ =>
  (θ_run Cert.MergeFwdRefIdeal.defs _ _).mono (fun r h => ⟨fun c => (h c).2.2.2.2,
      Idealize.ShloMosaic.sem_eq_zero_of_no_sems (by decide) r.2⟩)
    (Cert.MergeFwdRefIdeal.Value.run m ρ)

theorem smallSum : Cert.quiescent_SmallSumRefIdeal := fun m ρ _ =>
  (θ_run Cert.SmallSumRefIdeal.defs _ _).mono (fun r h => ⟨fun c => (h c).2.2.2.2.2.2.2.2.2.2.2,
      Idealize.ShloMosaic.sem_eq_zero_of_no_sems (by decide) r.2⟩)
    (Cert.SmallSumRefIdeal.Value.run m ρ)

theorem mergeBwd : Cert.quiescent_MergeBwdRefIdeal := fun m ρ _ =>
  (θ_run Cert.MergeBwdRefIdeal.defs _ _).mono (fun r h => ⟨fun c => (h c).2.2.2.2.2.2.2.2,
      Idealize.ShloMosaic.sem_eq_zero_of_no_sems (by decide) r.2⟩)
    (Cert.MergeBwdRefIdeal.Value.run m ρ)

theorem adamVec : Cert.quiescent_AdamVecRefIdeal := fun m ρ _ =>
  (θ_run Cert.AdamVecRefIdeal.defs _ _).mono (fun r h => ⟨fun c => (h c).2.2.2,
      Idealize.ShloMosaic.sem_eq_zero_of_no_sems (by decide) r.2⟩)
    (Cert.AdamVecRefIdeal.Value.run m ρ)

theorem adamFfn1 : Cert.quiescent_AdamFfn1RefIdeal := fun m ρ _ =>
  (θ_run Cert.AdamFfn1RefIdeal.defs _ _).mono (fun r h => ⟨fun c => (h c).2.2.2,
      Idealize.ShloMosaic.sem_eq_zero_of_no_sems (by decide) r.2⟩)
    (Cert.AdamFfn1RefIdeal.Value.run m ρ)

theorem adamFfn2 : Cert.quiescent_AdamFfn2RefIdeal := fun m ρ _ =>
  (θ_run Cert.AdamFfn2RefIdeal.defs _ _).mono (fun r h => ⟨fun c => (h c).2.2.2,
      Idealize.ShloMosaic.sem_eq_zero_of_no_sems (by decide) r.2⟩)
    (Cert.AdamFfn2RefIdeal.Value.run m ρ)

theorem adamIn : Cert.quiescent_AdamInRefIdeal := fun m ρ _ =>
  (θ_run Cert.AdamInRefIdeal.defs _ _).mono (fun r h => ⟨fun c => (h c).2.2.2,
      Idealize.ShloMosaic.sem_eq_zero_of_no_sems (by decide) r.2⟩)
    (Cert.AdamInRefIdeal.Value.run m ρ)

theorem adamSink : Cert.quiescent_AdamSinkRefIdeal := fun m ρ _ =>
  (θ_run Cert.AdamSinkRefIdeal.defs _ _).mono (fun r h => ⟨fun c => (h c).2.2.2,
      Idealize.ShloMosaic.sem_eq_zero_of_no_sems (by decide) r.2⟩)
    (Cert.AdamSinkRefIdeal.Value.run m ρ)

theorem adamSguW : Cert.quiescent_AdamSguWRefIdeal := fun m ρ _ =>
  (θ_run Cert.AdamSguWRefIdeal.defs _ _).mono (fun r h => ⟨fun c => (h c).2.2.2,
      Idealize.ShloMosaic.sem_eq_zero_of_no_sems (by decide) r.2⟩)
    (Cert.AdamSguWRefIdeal.Value.run m ρ)

theorem adamSguB : Cert.quiescent_AdamSguBRefIdeal := fun m ρ _ =>
  (θ_run Cert.AdamSguBRefIdeal.defs _ _).mono (fun r h => ⟨fun c => (h c).2.2.2,
      Idealize.ShloMosaic.sem_eq_zero_of_no_sems (by decide) r.2⟩)
    (Cert.AdamSguBRefIdeal.Value.run m ρ)

theorem adamSq : Cert.quiescent_AdamSqRefIdeal := fun m ρ _ =>
  (θ_run Cert.AdamSqRefIdeal.defs _ _).mono (fun r h => ⟨fun c => (h c).2.2.2,
      Idealize.ShloMosaic.sem_eq_zero_of_no_sems (by decide) r.2⟩)
    (Cert.AdamSqRefIdeal.Value.run m ρ)

end Cert.RefFrames

end
-- ==== Proof.V.Slab.lean ====
/- Stores of one slab of a rank-3 block, read back; and a whole sum as the sum over equal runs. -/
module

public import Idealize.ShloMosaic.Lib.Claim
public import Idealize.ShloMosaic.Lib.Pointwise
public import Idealize.ShloMosaic.Lib.Pipeline.ValueKit

@[expose] public section

noncomputable section

namespace Cert.Slab

open Idealize.ShloMosaic Idealize.ShloMosaic.TcCoe Idealize.ShloMosaic.Tactic Idealize.SL.Sem

variable {n R C : ℕ}

theorem emb_slab (g : Fin n) (inb) (i : Fin R) (j : Fin C) :
    (Rect.unit (s := (⟨3, ![n, R, C]⟩ : Shape)) ![g.val, 0, 0] ![1, R, C] inb).emb (ix3 (0 : Fin 1) i j) = ix3 g i j := by
  funext a
  apply Fin.ext
  match a with
  | ⟨0, _⟩ => rfl
  | ⟨1, _⟩ => show 0 + 1 * i.val = i.val; omega
  | ⟨2, _⟩ => show 0 + 1 * j.val = j.val; omega

theorem not_mem_slab (g h : Fin n) (hne : h ≠ g) (inb) (i : Fin R) (j : Fin C) :
    (ix3 h i j : (⟨3, ![n, R, C]⟩ : Shape).Idx) ∉ (Rect.unit (s := (⟨3, ![n, R, C]⟩ : Shape)) ![g.val, 0, 0] ![1, R, C] inb).set := by
  rw [Rect.mem_set_unit]
  intro hm
  have h0 := hm 0
  have e1 : g.val ≤ h.val := h0.1
  have e2 : h.val < g.val + 1 := h0.2
  exact hne (Fin.ext (by omega))

/-- A slab's store read back: the slab where it fell, what was there elsewhere. -/
theorem canon_slab (g : Fin n) (inb) (pay : (⟨3, ![1, R, C]⟩ : Shape).Idx → EReal) (L : List (View.Piece (Elt Ideal) (⟨3, ![n, R, C]⟩ : Shape) .f32)) (h : Fin n) (i : Fin R) (j : Fin C) :
    View.canon (Val := Elt Ideal) (s := (⟨3, ![n, R, C]⟩ : Shape)) (e := .f32) (⟨Rect.unit ![g.val, 0, 0] ![1, R, C] inb, pay⟩ :: L) (ix3 h i j)
      = if h = g then pay (ix3 0 i j) else View.canon (Val := Elt Ideal) (s := (⟨3, ![n, R, C]⟩ : Shape)) (e := .f32) L (ix3 h i j) := by
  by_cases e : h = g
  · subst e
    rw [if_pos rfl, ← emb_slab h inb]
    exact View.canon_cons_emb _ _ _ _
  · rw [if_neg e]
    exact View.canon_cons_of_not_mem _ _ (not_mem_slab g h e inb i j)

theorem ld_slab (g : Fin n) (inb) (y : (⟨3, ![n, R, C]⟩ : Shape).Idx → EReal) (i : Fin R) (j : Fin C) :
    View.ld (Val := Elt Ideal) (S := (⟨3, ![n, R, C]⟩ : Shape)) (e' := .f32) y (Rect.unit ![g.val, 0, 0] ![1, R, C] inb) (ix3 (0 : Fin 1) i j) = y (ix3 g i j) :=
  congrArg y (emb_slab g inb i j)

/-- A slab read at a computed offset. -/
theorem ld_off {e : EltTy} (g : Fin n) (off : Fin 3 → ℕ) (h : off = ![g.val, 0, 0]) (inb) (y : (⟨3, ![n, R, C]⟩ : Shape).Idx → Elt Ideal e) (i : Fin R) (j : Fin C) :
    View.ld (Val := Elt Ideal) (S := (⟨3, ![n, R, C]⟩ : Shape)) (e' := e) y (Rect.unit off ![1, R, C] inb) (ix3 (0 : Fin 1) i j) = y (ix3 g i j) := by
  subst h
  exact congrArg y (emb_slab g inb i j)

theorem readCov_slab {sig : RefSig} {κ : Kind} {sp : Space} (v : View sig κ sp (⟨3, ![n, R, C]⟩ : Shape) .f32) (g : Fin n) (inb)
    (L : List (View.Piece (Elt Ideal) (⟨3, ![n, R, C]⟩ : Shape) .f32)) (i : Fin R) (j : Fin C) :
    v.readCov L (Rect.unit (s := (⟨3, ![n, R, C]⟩ : Shape)) ![g.val, 0, 0] ![1, R, C] inb).toLoadRect (ix3 (0 : Fin 1) i j)
      = View.canon (Val := Elt Ideal) (s := (⟨3, ![n, R, C]⟩ : Shape)) (e := .f32) L (ix3 g i j) := by
  rw [View.readCov_eq_canon']
  exact congrArg _ (emb_slab g inb i j)

/-- A sum over `J` runs of `K` terms is the sum over all of them. -/
theorem sum_runs {J K : ℕ} (f : Fin (J * K) → EReal) :
    ∑ s : Fin J, ∑ k : Fin K, f ⟨K * s.val + k.val, by
      have := s.isLt; have := k.isLt
      calc K * s.val + k.val < K * s.val + K := by omega
        _ = K * (s.val + 1) := by ring
        _ ≤ K * J := Nat.mul_le_mul_left _ (by omega)
        _ = J * K := Nat.mul_comm _ _⟩ = ∑ t, f t := by
  rw [← Equiv.sum_comp finProdFinEquiv, Fintype.sum_prod_type]
  exact Finset.sum_congr rfl fun s _ => Finset.sum_congr rfl fun k _ => congrArg f (Fin.ext (by simp [Nat.add_comm]))

/-- An accumulator reset at every `J`-th point and added into at the others holds, at a run's last point, the run's sum. -/
theorem run_sum {N J : ℕ} (hJ : 0 < J) {F : (k : ℕ) → k < N → EReal} {T : Fin N → EReal}
    (hA : ∀ t : Fin N, t.val % J = 0 → F t.val t.isLt = 0 + T t)
    (hB : ∀ t : Fin N, ¬t.val % J = 0 → F t.val t.isLt = F (t.val - 1) (Nat.lt_of_le_of_lt (Nat.sub_le _ _) t.isLt) + T t)
    (t : Fin N) (ht : t.val % J = J - 1) :
    F t.val t.isLt = ∑ s : Fin J, T ⟨J * (t.val / J) + s.val, by have := t.isLt; have := s.isLt; have := Nat.div_add_mod t.val J; omega⟩ := by
  have key : ∀ k (hk : k < J) (h : J * (t.val / J) + k < N),
      F (J * (t.val / J) + k) h = ∑ s : Fin (k + 1), T ⟨J * (t.val / J) + s.val, by have := s.isLt; omega⟩ := by
    intro k
    induction k with
    | zero =>
      intro hk h
      rw [hA ⟨J * (t.val / J) + 0, h⟩ (by simp)]
      simp
    | succ k ih =>
      intro hk h
      rw [hB ⟨J * (t.val / J) + (k + 1), h⟩ (by simp only [Nat.mul_add_mod]; rw [Nat.mod_eq_of_lt hk]; omega)]
      rw [Fin.sum_univ_castSucc]
      exact congrArg₂ (· + ·) (ih (by omega) (by omega)) rfl
  have e : J * (t.val / J) + (J - 1) = t.val := by have := Nat.div_add_mod t.val J; omega
  have h := key (J - 1) (by omega) (by rw [e]; exact t.isLt)
  have e' : F t.val t.isLt = F (J * (t.val / J) + (J - 1)) (by rw [e]; exact t.isLt) := by congr 1; exact e.symm
  rw [e', h]
  obtain ⟨J', rfl⟩ : ∃ J', J = J' + 1 := ⟨J - 1, by omega⟩
  rfl

end Cert.Slab

end
-- ==== Proof.V.Dw1.lean ====
/- The gradient of the first weight of a feed-forward layer: the sum over the row blocks is the whole product. -/
module

public import proofs.«01_k».proof.Defs
public import proofs.«01_k».proof.Proof.Gen.Dw1Ideal.Value
public import proofs.«01_k».proof.Proof.Gen.Dw1Ideal
public import proofs.«01_k».proof.Proof.Gen.Dw1RefIdeal
public import proofs.«01_k».proof.Proof.Gen.Dw1RefIdeal.Run
public import proofs.«01_k».proof.Proof.Gen.Dw1RefIdeal.Read
public import proofs.«01_k».proof.Proof.V.Slab
public import Idealize.ShloMosaic.Lib.WordCmp
public import Idealize.ShloMosaic.Lib.Claim
public import Idealize.ShloMosaic.Lib.Pointwise
public import Idealize.ShloMosaic.Lib.Pipeline.ValueKit

@[expose] public section

set_option maxRecDepth 16384

noncomputable section

namespace Cert.VDw1

open Cert.Dw1Ideal Cert.Dw1Ideal.Gen Cert.Dw1RefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The normalised rows, which the host computes on both sides. -/
abbrev H : FVec Ideal Cert.Dw1RefIdeal.S16384x1024 .f32 := val_main_v14 (m (c.tc.loc main_arg0)) (m (c.tc.loc main_arg1))

theorem V14 : (V m c main_v14 : S16384x1024.Idx → EReal) = H m c := by
  unfold V; after_results_simp
  rfl

theorem idx : ∀ t : Fin cfg0.N, win0_0.index t = ![t.val % 16, 0] ∧ win0_1.index t = ![t.val % 16, t.val / 16] ∧ win0_2.index t = ![t.val / 16, 7, 0] :=
  (by decide +kernel : ∀ t : Fin grid0.N, _)

theorem lt32 (t : Fin cfg0.N) : t.val < 32 := (by decide +kernel : cfg0.N = 32) ▸ t.isLt

theorem x0_at (t : Fin cfg0.N) (k r : Fin 1024) : (iblk m c 0 t : FVec Ideal S1024x1024 .bf16) (ix2 k r) = H m c (ix2 ⟨1024 * (t.val % 16) + k.val, by omega⟩ r) := by
  refine Eq.trans ?_ (congrFun (V14 m c) _)
  blk_point [iblk, idx t]

theorem x1_at (t : Fin cfg0.N) (k : Fin 1024) (j : Fin 2816) : (iblk m c 1 t : FVec Ideal S1024x2816 .bf16) (ix2 k j)
    = m (c.tc.loc main_arg2) (ix2 ⟨1024 * (t.val % 16) + k.val, by omega⟩ ⟨2816 * (t.val / 16) + j.val, by have := lt32 t; omega⟩) := by
  refine Eq.trans ?_ (congrFun (V_main_arg2 m c) _)
  blk_point [iblk, idx t]

theorem pay2_at (v : FVec Ideal S1x1024x1408 .f32) (x0 : FVec Ideal S1024x1024 .bf16) (w : FVec Ideal S1024x1408 .bf16) (r : Fin 1024) (j : Fin 1408) :
    (k0_pay2 (F := Ideal) v x0 w (ix3 0 r j) : EReal) = (v (ix3 0 r j) : EReal) + ∑ k : Fin 1024, (x0 (ix2 k r) : EReal) * (w (ix2 k j) : EReal) := by
  pointwise [k0_pay2]

theorem pay3_at (v : FVec Ideal S1x1024x1408 .f32) (x0 : FVec Ideal S1024x1024 .bf16) (w : FVec Ideal S1024x1408 .bf16) (r : Fin 1024) (j : Fin 1408) :
    (k0_pay3 (F := Ideal) v x0 w (ix3 0 r j) : EReal) = (v (ix3 0 r j) : EReal) + ∑ k : Fin 1024, (x0 (ix2 k r) : EReal) * (w (ix2 k j) : EReal) := by
  pointwise [k0_pay3]

theorem zero_at (L) (q : Fin 2) (r : Fin 1024) (j : Fin 1408) :
    (View.canon (Val := Elt Ideal) (s := S2x1024x1408) (e := .f32) (⟨Rect.unit ![0, 0, 0] ![2, 1024, 1408] inb_S2x1024x1408_S2x1024x1408_0_0_0, k0_pay1 (F := Ideal)⟩ :: L) (ix3 q r j) : EReal) = 0 := by
  refine (congrFun (View.canon_cons_unit_lit (S := S2x1024x1408) inb_S2x1024x1408_S2x1024x1408_0_0_0 _ L (by decide)) _).trans ?_
  pointwise [k0_pay1]

theorem outA (i : grid0.Coords) (arg2 harg2 arg3 harg3 arg5 harg5) (hc0 : cond0_0 i) (x0 : FVec Ideal S1024x1024 .bf16) (x1 : FVec Ideal S1024x2816 .bf16) (q : Fin 2) (r : Fin 1024) (j : Fin 1408) :
    (out0_A_2 (F := Ideal) c i arg2 harg2 arg3 harg3 arg5 harg5 hc0 x0 x1 (ix3 q r j) : EReal) = 0 + ∑ k : Fin 1024, (x0 (ix2 k r) : EReal) * (x1 (ix2 k ⟨1408 * q.val + j.val, by omega⟩) : EReal) := by
  unfold out0_A_2
  frame_out
  refine (Slab.canon_slab (1 : Fin 2) inb_S2x1024x1408_S1x1024x1408_1_0_0 _ _ q r j).trans ?_
  by_cases h1 : q = 1
  · subst h1
    rw [if_pos rfl]
    refine (pay3_at _ _ _ r j).trans (congrArg₂ (· + ·) ?_ ?_)
    · refine (Slab.readCov_slab _ (1 : Fin 2) inb_S2x1024x1408_S1x1024x1408_1_0_0 _ r j).trans ?_
      refine (Slab.canon_slab (0 : Fin 2) inb_S2x1024x1408_S1x1024x1408_0_0_0 _ _ 1 r j).trans ?_
      rw [if_neg (by decide)]
      exact zero_at _ 1 r j
    · refine Finset.sum_congr rfl fun k _ => ?_
      pointwise
  · rw [if_neg h1]
    obtain rfl : q = 0 := by omega
    refine (Slab.canon_slab (0 : Fin 2) inb_S2x1024x1408_S1x1024x1408_0_0_0 _ _ 0 r j).trans ?_
    rw [if_pos rfl]
    refine (pay2_at _ _ _ r j).trans (congrArg₂ (· + ·) ?_ ?_)
    · refine (Slab.readCov_slab _ (0 : Fin 2) inb_S2x1024x1408_S1x1024x1408_0_0_0 _ r j).trans ?_
      exact zero_at _ 0 r j
    · refine Finset.sum_congr rfl fun k _ => ?_
      pointwise

theorem outB (i : grid0.Coords) (arg2 harg2 arg3 harg3 arg5 harg5) (hc0 : ¬cond0_0 i) (x0 : FVec Ideal S1024x1024 .bf16) (x1 : FVec Ideal S1024x2816 .bf16) (y : FVec Ideal S2x1024x1408 .f32) (q : Fin 2) (r : Fin 1024) (j : Fin 1408) :
    (out0_B_2 (F := Ideal) c i arg2 harg2 arg3 harg3 arg5 harg5 hc0 x0 x1 y (ix3 q r j) : EReal) = (y (ix3 q r j) : EReal) + ∑ k : Fin 1024, (x0 (ix2 k r) : EReal) * (x1 (ix2 k ⟨1408 * q.val + j.val, by omega⟩) : EReal) := by
  unfold out0_B_2
  frame_out
  refine (Slab.canon_slab (1 : Fin 2) inb_S2x1024x1408_S1x1024x1408_1_0_0 _ _ q r j).trans ?_
  by_cases h1 : q = 1
  · subst h1
    rw [if_pos rfl]
    refine (pay3_at _ _ _ r j).trans (congrArg₂ (· + ·) ?_ ?_)
    · exact Slab.ld_slab (1 : Fin 2) inb_S2x1024x1408_S1x1024x1408_1_0_0 y r j
    · refine Finset.sum_congr rfl fun k _ => ?_
      pointwise
  · rw [if_neg h1]
    obtain rfl : q = 0 := by omega
    refine (Slab.canon_slab (0 : Fin 2) inb_S2x1024x1408_S1x1024x1408_0_0_0 _ _ 0 r j).trans ?_
    rw [if_pos rfl]
    refine (pay2_at _ _ _ r j).trans (congrArg₂ (· + ·) ?_ ?_)
    · exact Slab.ld_slab (0 : Fin 2) inb_S2x1024x1408_S1x1024x1408_0_0_0 y r j
    · refine Finset.sum_congr rfl fun k _ => ?_
      pointwise

/-- What point `t` adds. -/
def T (q : Fin 2) (r : Fin 1024) (j : Fin 1408) (t : Fin cfg0.N) : EReal :=
  ∑ k : Fin 1024, (H m c (ix2 ⟨1024 * (t.val % 16) + k.val, by omega⟩ r) : EReal)
    * (m (c.tc.loc main_arg2) (ix2 ⟨1024 * (t.val % 16) + k.val, by omega⟩ ⟨2816 * (t.val / 16) + (1408 * q.val + j.val), by have := lt32 t; omega⟩) : EReal)

theorem T_eq (q : Fin 2) (r : Fin 1024) (j : Fin 1408) (t : Fin cfg0.N) :
    ∑ k : Fin 1024, (show EReal from (iblk m c 0 t : FVec Ideal S1024x1024 .bf16) (ix2 k r)) * (show EReal from (iblk m c 1 t : FVec Ideal S1024x2816 .bf16) (ix2 k ⟨1408 * q.val + j.val, by omega⟩)) = T m c q r j t :=
  Finset.sum_congr rfl fun k _ => congrArg₂ (· * ·) (x0_at m c t k r) (x1_at m c t k _)

theorem last (q : Fin 2) (r : Fin 1024) (j : Fin 1408) (t : Fin cfg0.N) (ht : t.val % 16 = 15) :
    ((outsAt0 m c t.val t.isLt) (ix3 q r j) : EReal) = ∑ k : Fin 16384, (H m c (ix2 k r) : EReal) * (m (c.tc.loc main_arg2) (ix2 k ⟨1408 * (2 * (t.val / 16) + q.val) + j.val, by have := lt32 t; omega⟩) : EReal) := by
  refine (Slab.run_sum (J := 16) (by decide) (F := fun n h => (outsAt0 m c n h (ix3 q r j) : EReal)) (T := T m c q r j) (fun t h => ?_) (fun t h => ?_) t ht).trans ?_
  · refine (congrFun (outsAt0_A m c t h) _).trans ?_
    exact (outA _ _ _ _ _ _ _ _ _ _ _ q r j).trans (congrArg (0 + ·) (T_eq m c q r j t))
  · refine (congrFun (outsAt0_B m c t h) _).trans ?_
    exact (outB _ _ _ _ _ _ _ _ _ _ _ _ q r j).trans (congrArg (_ + ·) (T_eq m c q r j t))
  · refine Eq.trans ?_ (Slab.sum_runs (J := 16) (K := 1024) (fun k => (H m c (ix2 k r) : EReal) * (m (c.tc.loc main_arg2) (ix2 k ⟨1408 * (2 * (t.val / 16) + q.val) + j.val, by have := lt32 t; omega⟩) : EReal)))
    refine Finset.sum_congr rfl fun s _ => Finset.sum_congr rfl fun k _ => ?_
    have e1 : (16 * (t.val / 16) + s.val) % 16 = s.val := by omega
    have e2 : (16 * (t.val / 16) + s.val) / 16 = t.val / 16 := by omega
    congr 4 <;> (dsimp only; omega)

theorem ref_at (x0 : FVec Ideal S16384x1024 .f32) (x1 : FVec Ideal S1x1024 .f32) (x2 : FVec Ideal S16384x5632 .bf16) (x3 : FVec Ideal S4x8192x1408 .f32) (a : Fin 4) (b : Fin 8192) (j : Fin 1408) :
    (val_main_v21 (F := Ideal) x0 x1 x2 x3 (ix3 a b j) : EReal) = if h : 7168 ≤ b.val then
      ∑ k : Fin 16384, (val_main_v14 (F := Ideal) x0 x1 (ix2 k ⟨b.val - 7168, by omega⟩) : EReal) * (x2 (ix2 k ⟨1408 * a.val + j.val, by omega⟩) : EReal)
      else (x3 (ix3 a b j) : EReal) := by
  have e : val_main_v21 (F := Ideal) x0 x1 x2 x3 = updateSlice x3 (val_main_v20 (F := Ideal) x0 x1 x2) ![0, 7168, 0] (by decide) := by
    unfold val_main_v21
    exact WordCmp.dynamicUpdateSlice_eq_update _ _ _ _ _ _ (by intro a; fin_cases a <;> rfl)
  rw [e]
  pointwise
  by_cases h : 7168 ≤ b.val
  · rw [dif_pos h, dif_pos h, val_main_v20_apply, val_main_v19_apply, val_main_v18_apply, val_main_v17_apply]
    refine Finset.sum_congr rfl fun k _ => (mul_comm _ _).trans ?_
    rw [val_main_v16_apply]
    refine congrArg₂ (· * ·) (congrArg (val_main_v14 (F := Ideal) x0 x1) ?_) (congrArg x2 ?_) <;>
      (funext a; apply Fin.ext; match a with
        | ⟨0, _⟩ => dsimp; try omega
        | ⟨1, _⟩ => dsimp; try omega)
  · rw [dif_neg h, dif_neg h]

/-- What the window's blocks hold when they are written back. -/
def G (j : S4x8192x1408.Idx) : EReal :=
  if h : 7168 ≤ (j 1).val then ∑ k : Fin 16384, (H m c (ix2 k ⟨(j 1).val - 7168, by have : (j 1).val < 8192 := (j 1).isLt; omega⟩) : EReal) * (show EReal from m (c.tc.loc main_arg2) (ix2 k ⟨1408 * (j 0).val + (j 2).val, by have h0 : (j 0).val < 4 := (j 0).isLt; have h2 : (j 2).val < 1408 := (j 2).isLt; omega⟩)) else 0

theorem final' : (dats m 0 c).arrAt 2 (cfgs 0).N = fun j : S4x8192x1408.Idx => if 7168 ≤ (j 1).val then G m c j else V m c main_v15 j := by
  refine (dats m 0 c).arrAt_eq_of_coversWhere 2 (G m c) (fun β => β 1 = 7) (by decide +kernel) (fun t hf y => ?_)
    (fun j => by have h1 : (j 1).val < 8192 := (j 1).isLt; blk_simp [Pipeline.Window.cell_apply]; omega)
  have ht := (flush0_2 t).mp hf
  have hl := lt32 t
  have hy : (win0_2.blk t).view.emb y = (ix3 ⟨2 * (t.val / 16) + ((y : S2x1024x1408.Idx) 0).val, by have : ((y : S2x1024x1408.Idx) 0).val < 2 := ((y : S2x1024x1408.Idx) 0).isLt; omega⟩
      ⟨7168 + ((y : S2x1024x1408.Idx) 1).val, by have : ((y : S2x1024x1408.Idx) 1).val < 1024 := ((y : S2x1024x1408.Idx) 1).isLt; omega⟩ ((y : S2x1024x1408.Idx) 2) : S4x8192x1408.Idx) := by
    funext a; apply Fin.ext; fin_cases a <;> blk_simp [idx t] <;> simp <;> omega
  have key : ∀ y : S2x1024x1408.Idx, (outsAt0 m c t.val t.isLt) y = G m c (ix3 ⟨2 * (t.val / 16) + (y 0).val, by have : (y 0).val < 2 := (y 0).isLt; omega⟩
      ⟨7168 + (y 1).val, by have : (y 1).val < 1024 := (y 1).isLt; omega⟩ (y 2)) := by
    intro y
    idx_vars y
    refine (last m c y0 y1 y2 t ht).trans ?_
    unfold G
    rw [dif_pos (by show 7168 ≤ 7168 + y1.val; omega)]
    refine Finset.sum_congr rfl fun k _ => congrArg₂ (· * ·) (congrArg (H m c) ?_) rfl
    refine congrArg (ix2 k) (Fin.ext ?_)
    show y1.val = 7168 + y1.val - 7168
    omega
  refine Eq.trans ?_ ((key y).trans (congrArg (G m c) hy.symm))
  blk_simp
  rw [after0_2]

theorem final : (dats m 0 c).arrAt 2 (cfgs 0).N = val_main_v21 (m (c.tc.loc main_arg0)) (m (c.tc.loc main_arg1)) (m (c.tc.loc main_arg2)) (m (c.tc.loc main_arg3)) := by
  rw [final']
  funext j
  idx_vars j
  refine Eq.trans ?_ (ref_at _ _ _ _ j0 j1 j2).symm
  by_cases h : 7168 ≤ j1.val
  · rw [dif_pos h]
    show (if 7168 ≤ j1.val then _ else _) = _
    rw [if_pos h]
    exact dif_pos h
  · rw [dif_neg h]
    show (if 7168 ≤ j1.val then _ else _) = _
    rw [if_neg h]
    have hV : V m c main_v15 = m (c.tc.loc main_arg3) := by unfold V; after_results_simp; rfl
    rw [hV]

theorem algebraic : Cert.algebraic_Dw1Ideal_Dw1RefIdeal := by
  intro m g m' g' _ ha
  refine ⟨_, Cert.Dw1Ideal.Value.run_blocks m g, ?_⟩
  refine (θ_run Cert.Dw1RefIdeal.defs _ _).mono (fun r h c => ?_) (Cert.Dw1RefIdeal.Value.run m' g')
  obtain ⟨e0, e1, e2, e3⟩ := ha c
  obtain ⟨k0, ka⟩ := h c
  refine ⟨k0.trans ((val_main_v21_eq _ _ _ _).trans ?_), ka⟩
  · rw [e0, e1, e2, e3]
    exact (final m c).symm

end Cert.VDw1

end
-- ==== Proof.V.Rms.lean ====
/- The derivative of the root-mean-square normalisation as the kernels write it and as the host writes it, over the extended reals. -/
module

public import Idealize.ShloMosaic.Lib.Claim
public import Idealize.ShloMosaic.Lib.Pointwise
public import proofs.«01_k».proof.Proof.Sgu.Reals

@[expose] public section

noncomputable section

namespace Cert.Rms

open Idealize.ShloMosaic

/-- The mean square of a row and the small constant. -/
def ms (x : Fin 1024 → EReal) : EReal := Ideal.div (∑ k : Fin 1024, x k * x k) (Ideal.ofBits .f32 0x44800000#32) + Ideal.ofBits .f32 0x358637BD#32

/-- The reciprocal root of the mean square. -/
def rs (x : Fin 1024 → EReal) : EReal := Ideal.rsqrt (ms x)

/-- The row's derivative as the kernels write it, from the derivative `D` of the scaled row. -/
def K (x D : Fin 1024 → EReal) (j : Fin 1024) : EReal :=
  rs x * (D j - x j * rs x * Ideal.div (∑ k : Fin 1024, D k * (x k * rs x)) (Ideal.ofBits .f32 0x44800000#32))

/-- The row's derivative through the mean square, as the host writes it. -/
def T (x D : Fin 1024 → EReal) : EReal :=
  Ideal.div ((∑ k : Fin 1024, x k * D k) * (Ideal.ofBits .f32 0xBF000000#32 * Ideal.div (rs x) (ms x))) (Ideal.ofBits .f32 0x44800000#32)

theorem eps_coe : Ideal.ofBits .f32 0x358637BD#32 = (((8796093 : ℝ) * 2 ^ (-43 : ℤ) : ℝ) : EReal) := by
  simp [Ideal.ofBits, Ideal.ieee, -EReal.coe_mul]

theorem sq_nonneg (a : EReal) : 0 ≤ a * a := by
  rcases le_total 0 a with h | h
  · exact mul_nonneg h h
  · rw [← neg_mul_neg]
    have h' : 0 ≤ -a := by simpa using EReal.neg_le_neg_iff.mpr h
    exact mul_nonneg h' h'

theorem div_1024 (a : EReal) : Ideal.div a (Ideal.ofBits .f32 0x44800000#32) = a * (((1024 : ℝ)⁻¹ : ℝ) : EReal) := by
  rw [Cert.Sgu.ofBits_1024]
  unfold Ideal.div
  rw [if_neg (by exact_mod_cast (by norm_num : (1024 : ℝ) ≠ 0)), ← EReal.coe_inv]

/-- A positive real factor goes into a sum. -/
theorem mul_sum_pos {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

theorem ms_cases (x : Fin 1024 → EReal) : ms x = ⊤ ∨ ∃ v : ℝ, 0 < v ∧ ms x = (v : EReal) := by
  have h0 : (0 : EReal) ≤ ∑ k : Fin 1024, x k * x k := Finset.sum_nonneg fun k _ => sq_nonneg _
  unfold ms
  rw [div_1024, eps_coe]
  generalize (∑ k : Fin 1024, x k * x k) = s at *
  induction s using EReal.rec with
  | bot => exact absurd h0 (by simp)
  | top =>
    left
    rw [EReal.top_mul_of_pos (by exact_mod_cast (by norm_num : (0 : ℝ) < 1024⁻¹))]
    exact EReal.top_add_coe _
  | coe s =>
    right
    have hs : 0 ≤ s := by exact_mod_cast h0
    exact ⟨s * 1024⁻¹ + 8796093 * 2 ^ (-43 : ℤ), by positivity, by rw [EReal.coe_add, EReal.coe_mul s]⟩

theorem rs_top {x : Fin 1024 → EReal} (h : ms x = ⊤) : rs x = 0 := by
  unfold rs; rw [h]; rfl

theorem rs_coe {x : Fin 1024 → EReal} {v : ℝ} (hv : 0 < v) (h : ms x = (v : EReal)) : rs x = (((Real.sqrt v)⁻¹ : ℝ) : EReal) := by
  unfold rs
  rw [h, Ideal.rsqrt_coe, if_neg (not_lt.mpr hv.le), if_neg hv.ne']

theorem add_self (a : EReal) : a + a = ((2 : ℝ) : EReal) * a := by
  induction a using EReal.rec with
  | bot => rw [EReal.coe_mul_bot_of_pos (by norm_num)]; rfl
  | top => rw [EReal.coe_mul_top_of_pos (by norm_num)]; rfl
  | coe a => rw [← EReal.coe_add, ← EReal.coe_mul, two_mul]

/-- The two ways of writing the row's derivative are one. -/
theorem eq (x D : Fin 1024 → EReal) (j : Fin 1024) : K x D j = D j * rs x + x j * T x D + T x D * x j := by
  unfold K T
  rcases ms_cases x with h | ⟨v, hv, h⟩
  · rw [rs_top h, div_1024, div_1024, h]
    have : Ideal.div 0 ⊤ = 0 := by unfold Ideal.div; simp
    rw [this]
    simp
  · rw [rs_coe hv h, div_1024, div_1024, h]
    have hp : (0 : ℝ) < (Real.sqrt v)⁻¹ := by positivity
    have e3 : (Real.sqrt v)⁻¹ * v⁻¹ = (Real.sqrt v)⁻¹ * (Real.sqrt v)⁻¹ * (Real.sqrt v)⁻¹ := by
      rw [mul_assoc]; congr 1; rw [← mul_inv, Real.mul_self_sqrt hv.le]
    have ed : Ideal.div (((Real.sqrt v)⁻¹ : ℝ) : EReal) (v : EReal) = (((Real.sqrt v)⁻¹ * (Real.sqrt v)⁻¹ * (Real.sqrt v)⁻¹ : ℝ) : EReal) := by
      unfold Ideal.div
      rw [if_neg (by exact_mod_cast hv.ne'), ← EReal.coe_inv, ← EReal.coe_mul, e3]
    rw [ed, Cert.Sgu.ofBits_neg_half]
    generalize (Real.sqrt v)⁻¹ = r at hp
    have es : ∑ k : Fin 1024, D k * (x k * (r : EReal)) = (r : EReal) * ∑ k : Fin 1024, x k * D k := by
      rw [mul_sum_pos _ r hp.le]
      exact Finset.sum_congr rfl fun k _ => by ac_rfl
    rw [es]
    generalize (∑ k : Fin 1024, x k * D k) = S
    generalize D j = d
    generalize x j = a
    rw [sub_eq_add_neg, EReal.left_distrib_of_nonneg_of_ne_top (by exact_mod_cast hp.le) (EReal.coe_ne_top r), add_assoc]
    refine congrArg₂ (· + ·) (mul_comm _ _) ?_
    rw [mul_comm (S * _ * _) a, add_self]
    have e1 : (r : EReal) * -(a * (r : EReal) * ((r : EReal) * S * (((1024 : ℝ)⁻¹ : ℝ) : EReal))) = ((-(r * r * r * 1024⁻¹) : ℝ) : EReal) * (a * S) := by
      rw [EReal.coe_neg, EReal.neg_mul, mul_comm (r : EReal) (-_), EReal.neg_mul, EReal.coe_mul, EReal.coe_mul, EReal.coe_mul]
      congr 1
      ac_rfl
    have e2 : ((2 : ℝ) : EReal) * (a * (S * (((-(1 / 2) : ℝ) : EReal) * ((r * r * r : ℝ) : EReal)) * (((1024 : ℝ)⁻¹ : ℝ) : EReal))) = ((2 * (-(1 / 2) * (r * r * r)) * 1024⁻¹ : ℝ) : EReal) * (a * S) := by
      rw [EReal.coe_mul (2 * (-(1 / 2) * (r * r * r))), EReal.coe_mul 2, EReal.coe_mul (-(1 / 2)) (r * r * r)]
      ac_rfl
    rw [e1]
    refine Eq.trans ?_ e2.symm
    congr 2
    ring

theorem real_mul {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

theorem real_sub {x y : EReal} (hx : ∃ r : ℝ, x = r) (hy : ∃ r : ℝ, y = r) : ∃ r : ℝ, x - y = r := by
  obtain ⟨a, rfl⟩ := hx; obtain ⟨b, rfl⟩ := hy
  exact ⟨a - b, (EReal.coe_sub a b).symm⟩

theorem real_sum {n : ℕ} (f : Fin n → EReal) (h : ∀ i, ∃ r : ℝ, f i = r) : ∃ r : ℝ, ∑ i : Fin n, f i = r := by
  choose g hg using h
  exact ⟨∑ i, g i, (Finset.sum_congr rfl fun i _ => hg i).trans (Cert.Sgu.coe_sum _ _)⟩

theorem real_rs (x : Fin 1024 → EReal) : ∃ r : ℝ, rs x = r := by
  rcases ms_cases x with h | ⟨v, hv, h⟩
  · exact ⟨0, rs_top h⟩
  · exact ⟨_, rs_coe hv h⟩

theorem real_K (x D : Fin 1024 → EReal) (hx : ∀ k, ∃ r : ℝ, x k = r) (hD : ∀ k, ∃ r : ℝ, D k = r) (j : Fin 1024) : ∃ r : ℝ, K x D j = r := by
  unfold K
  rw [div_1024]
  exact real_mul (real_rs x) (real_sub (hD j) (real_mul (real_mul (hx j) (real_rs x)) (real_mul (real_sum _ fun k => real_mul (hD k) (real_mul (hx k) (real_rs x))) ⟨_, rfl⟩)))

end Cert.Rms

end
-- ==== Proof.V.BwdIn.lean ====
/- The feed-forward's input derivative: the up projection transposed, through the normalisation, block by block of the tokens. -/
module

public import proofs.«01_k».proof.Defs
public import proofs.«01_k».proof.Proof.Gen.BwdInIdeal.Value
public import proofs.«01_k».proof.Proof.Gen.BwdInIdeal
public import proofs.«01_k».proof.Proof.Gen.BwdInRefIdeal
public import proofs.«01_k».proof.Proof.Gen.BwdInRefIdeal.Run
public import proofs.«01_k».proof.Proof.Gen.BwdInRefIdeal.Read
public import proofs.«01_k».proof.Proof.V.Slab
public import proofs.«01_k».proof.Proof.V.Rms
public import Idealize.ShloMosaic.Lib.Claim
public import Idealize.ShloMosaic.Lib.Pointwise
public import Idealize.ShloMosaic.Lib.Pipeline.ValueKit

@[expose] public section

set_option maxRecDepth 16384

noncomputable section

namespace Cert.VBwdIn

open Cert.BwdInIdeal Cert.BwdInIdeal.Gen Cert.BwdInRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V2 (q : Fin 4) (a : Fin 1024) (b : Fin 1408) : ((V m c main_v2 : S4x1024x1408.Idx → EReal) (ix3 q a b) : EReal) = m (c.tc.loc main_arg2) (ix2 a ⟨1408 * q.val + b.val, by omega⟩) := by
  have e : (V m c main_v2 : S4x1024x1408.Idx → EReal) = transpose S4x1024x1408 [1, 0, 2] (shapeCast S1024x4x1408 (m (c.tc.loc main_arg2) : FVec Ideal S1024x5632 .f32) shapeCasts_S1024x5632_S1024x4x1408) transposes_S1024x4x1408_S4x1024x1408_1_0_2 := by
    unfold V; after_results_simp; rfl
  rw [e]
  pointwise
  refine congrArg (m (c.tc.loc main_arg2)) (congrArg (ix2 a) (Fin.ext ?_))
  show q.val * 1408 + b.val = 1408 * q.val + b.val
  omega

theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem lt32 (t : Fin cfg0.N) : t.val < 32 := (by decide +kernel : cfg0.N = 32) ▸ t.isLt

theorem x0_at (t : Fin cfg0.N) (r : Fin 512) (k : Fin 5632) : (iblk m c 0 t : FVec Ideal S512x5632 .bf16) (ix2 r k) = m (c.tc.loc main_arg3) (ix2 ⟨512 * t.val + r.val, by have := lt32 t; omega⟩ k) := by
  refine Eq.trans ?_ (congrFun (V_main_arg3 m c) _)
  blk_point [iblk, idx t]

theorem x1_at (t : Fin cfg0.N) (q : Fin 4) (a : Fin 1024) (b : Fin 1408) : (iblk m c 1 t : FVec Ideal S4x1024x1408 .bf16) (ix3 q a b) = m (c.tc.loc main_arg2) (ix2 a ⟨1408 * q.val + b.val, by omega⟩) := by
  refine Eq.trans ?_ (V2 m c q a b)
  blk_point [iblk, idx t]

theorem x2_at (t : Fin cfg0.N) (r : Fin 512) (k : Fin 1024) : (iblk m c 2 t : FVec Ideal S512x1024 .f32) (ix2 r k) = m (c.tc.loc main_arg0) (ix2 ⟨512 * t.val + r.val, by have := lt32 t; omega⟩ k) := by
  refine Eq.trans ?_ (congrFun (V_main_arg0 m c) _)
  blk_point [iblk, idx t]

theorem x3_at (t : Fin cfg0.N) (j : Fin 1024) : (iblk m c 3 t : FVec Ideal S1x1024 .f32) (ix2 0 j) = m (c.tc.loc main_arg1) (ix2 0 j) := by
  refine Eq.trans ?_ (congrFun (V_main_arg1 m c) _)
  blk_point [iblk, idx t]

theorem x4_at (t : Fin cfg0.N) (r : Fin 512) (k : Fin 1024) : (iblk m c 4 t : FVec Ideal S512x1024 .f32) (ix2 r k) = m (c.tc.loc main_arg4) (ix2 ⟨512 * t.val + r.val, by have := lt32 t; omega⟩ k) := by
  refine Eq.trans ?_ (congrFun (V_main_arg4 m c) _)
  blk_point [iblk, idx t]

/-- One row of the derivative times the transposed weights, from the weights' four runs of columns. -/
def D4 (a : Fin 5632 → EReal) (w : Fin 4 → Fin 1024 → Fin 1408 → EReal) (j : Fin 1024) : EReal :=
  ∑ q : Fin 4, ∑ k : Fin 1408, a ⟨1408 * q.val + k.val, by omega⟩ * w q j k

/-- One row of the derivative times the transposed weights. -/
def D (a : Fin 5632 → EReal) (w : Fin 1024 → Fin 5632 → EReal) (j : Fin 1024) : EReal := ∑ k : Fin 5632, a k * w j k

theorem D4_eq (a : Fin 5632 → EReal) (w : Fin 1024 → Fin 5632 → EReal) : D4 a (fun q j k => w j ⟨1408 * q.val + k.val, by omega⟩) = D a w := by
  funext j
  exact Slab.sum_runs (J := 4) (K := 1408) (fun k => a k * w j k)

theorem d_at (a0 : FVec Ideal S512x1408 .bf16) (w0 : FVec Ideal S1x1024x1408 .bf16) (a1 : FVec Ideal S512x1408 .bf16) (w1 : FVec Ideal S1x1024x1408 .bf16) (a2 : FVec Ideal S512x1408 .bf16) (w2 : FVec Ideal S1x1024x1408 .bf16) (a3 : FVec Ideal S512x1408 .bf16) (w3 : FVec Ideal S1x1024x1408 .bf16)
    (a : Fin 5632 → EReal) (w : Fin 4 → Fin 1024 → Fin 1408 → EReal) (r : Fin 512) (j : Fin 1024)
    (h0 : ∀ k : Fin 1408, (a0 (ix2 r k) : EReal) = a ⟨k.val, by omega⟩) (g0 : ∀ k : Fin 1408, (w0 (ix3 0 j k) : EReal) = w 0 j k)
    (h1 : ∀ k : Fin 1408, (a1 (ix2 r k) : EReal) = a ⟨1408 + k.val, by omega⟩) (g1 : ∀ k : Fin 1408, (w1 (ix3 0 j k) : EReal) = w 1 j k)
    (h2 : ∀ k : Fin 1408, (a2 (ix2 r k) : EReal) = a ⟨2816 + k.val, by omega⟩) (g2 : ∀ k : Fin 1408, (w2 (ix3 0 j k) : EReal) = w 2 j k)
    (h3 : ∀ k : Fin 1408, (a3 (ix2 r k) : EReal) = a ⟨4224 + k.val, by omega⟩) (g3 : ∀ k : Fin 1408, (w3 (ix3 0 j k) : EReal) = w 3 j k) :
    (k0_pay6 (F := Ideal) a0 w0 a1 w1 a2 w2 a3 w3 (ix2 r j) : EReal) = D4 a w j := by
  unfold D4
  rw [Fin.sum_univ_four]
  pointwise [k0_pay6]
  simp only [h0, g0, h1, g1, h2, g2, h3, g3]

theorem pay3_at (d x : FVec Ideal S512x1024 .f32) (g : FVec Ideal S1x1024 .f32) (y : FVec Ideal S512x1024 .f32) (r : Fin 512) (j : Fin 1024) :
    (k0_pay3 (F := Ideal) d x g (k0_pay7 x) y (ix2 r j) : EReal) = (y (ix2 r j) : EReal) + Rms.K (fun k => x (ix2 r k)) (fun k => (d (ix2 r k) : EReal) * (g (ix2 0 k) : EReal)) j := by
  unfold Rms.K Rms.rs Rms.ms
  pointwise [k0_pay3, k0_pay2, k0_pay1, k0_pay7]

theorem pay4_at (d x : FVec Ideal S512x1024 .f32) (v : FVec Ideal S1x1024 .f32) (j : Fin 1024) :
    (k0_pay4 (F := Ideal) d x (k0_pay7 x) v (ix2 0 j) : EReal) = (v (ix2 0 j) : EReal) + ∑ r : Fin 512, (d (ix2 r j) : EReal) * ((x (ix2 r j) : EReal) * Rms.rs (fun k => x (ix2 r k))) := by
  unfold Rms.rs Rms.ms
  pointwise [k0_pay4, k0_pay2, k0_pay1, k0_pay7]

theorem outA5 (i : grid0.Coords) (arg1 harg1 arg2 harg2 arg3 harg3 arg4 harg4 arg5 harg5 arg6 harg6 arg7 harg7) (hc0 : cond0_0 i) (x0 : FVec Ideal S512x5632 .bf16) (x1 : FVec Ideal S4x1024x1408 .bf16) (x2 : FVec Ideal S512x1024 .f32) (x3 : FVec Ideal S1x1024 .f32) (x4 : FVec Ideal S512x1024 .f32) (r : Fin 512) (j : Fin 1024) :
    (out0_A_5 (F := Ideal) c i arg1 harg1 arg2 harg2 arg3 harg3 arg4 harg4 arg5 harg5 arg6 harg6 arg7 harg7 hc0 x0 x1 x2 x3 x4 (ix2 r j) : EReal)
      = (x4 (ix2 r j) : EReal) + Rms.K (fun k => x2 (ix2 r k)) (fun k => D4 (fun k => x0 (ix2 r k)) (fun q j k => x1 (ix3 q j k)) k * (x3 (ix2 0 k) : EReal)) j := by
  unfold out0_A_5
  frame_out
  refine (pay3_at _ _ _ _ r j).trans ?_
  congr 1
  refine congrArg (fun d => Rms.K _ d j) (funext fun k => ?_)
  exact congrArg (· * (x3 (ix2 0 k) : EReal)) (d_at _ _ _ _ _ _ _ _ (fun k => x0 (ix2 r k)) (fun q j k => x1 (ix3 q j k)) r k (fun k => by pointwise) (fun k => by pointwise) (fun k => by pointwise) (fun k => by pointwise) (fun k => by pointwise) (fun k => by pointwise) (fun k => by pointwise) (fun k => by pointwise))

theorem outA6 (i : grid0.Coords) (arg1 harg1 arg2 harg2 arg3 harg3 arg4 harg4 arg5 harg5 arg6 harg6 arg7 harg7) (hc0 : cond0_0 i) (x0 : FVec Ideal S512x5632 .bf16) (x1 : FVec Ideal S4x1024x1408 .bf16) (x2 : FVec Ideal S512x1024 .f32) (x3 : FVec Ideal S1x1024 .f32) (x4 : FVec Ideal S512x1024 .f32) (j : Fin 1024) :
    (out0_A_6 (F := Ideal) c i arg1 harg1 arg2 harg2 arg3 harg3 arg4 harg4 arg5 harg5 arg6 harg6 arg7 harg7 hc0 x0 x1 x2 x3 x4 (ix2 0 j) : EReal)
      = 0 + ∑ r : Fin 512, D4 (fun k => x0 (ix2 r k)) (fun q j k => x1 (ix3 q j k)) j * ((x2 (ix2 r j) : EReal) * Rms.rs (fun k => x2 (ix2 r k))) := by
  unfold out0_A_6
  frame_out
  refine (pay4_at _ _ _ j).trans (congrArg₂ (· + ·) (by pointwise [k0_pay5]) (Finset.sum_congr rfl fun r _ => congrArg (· * ((x2 (ix2 r j) : EReal) * Rms.rs (fun k => x2 (ix2 r k)))) ?_))
  exact (d_at _ _ _ _ _ _ _ _ (fun k => x0 (ix2 r k)) (fun q j k => x1 (ix3 q j k)) r j (fun k => by pointwise) (fun k => by pointwise) (fun k => by pointwise) (fun k => by pointwise) (fun k => by pointwise) (fun k => by pointwise) (fun k => by pointwise) (fun k => by pointwise))

theorem outB5 (i : grid0.Coords) (arg1 harg1 arg2 harg2 arg3 harg3 arg4 harg4 arg5 harg5 arg6 harg6 arg7 harg7) (hc0 : ¬cond0_0 i) (x0 : FVec Ideal S512x5632 .bf16) (x1 : FVec Ideal S4x1024x1408 .bf16) (x2 : FVec Ideal S512x1024 .f32) (x3 : FVec Ideal S1x1024 .f32) (x4 : FVec Ideal S512x1024 .f32) (xo : FVec Ideal S1x1024 .f32) (r : Fin 512) (j : Fin 1024) :
    (out0_B_5 (F := Ideal) c i arg1 harg1 arg2 harg2 arg3 harg3 arg4 harg4 arg5 harg5 arg6 harg6 arg7 harg7 hc0 x0 x1 x2 x3 x4 xo (ix2 r j) : EReal)
      = (x4 (ix2 r j) : EReal) + Rms.K (fun k => x2 (ix2 r k)) (fun k => D4 (fun k => x0 (ix2 r k)) (fun q j k => x1 (ix3 q j k)) k * (x3 (ix2 0 k) : EReal)) j := by
  unfold out0_B_5
  frame_out
  refine (pay3_at _ _ _ _ r j).trans ?_
  congr 1
  refine congrArg (fun d => Rms.K _ d j) (funext fun k => ?_)
  exact congrArg (· * (x3 (ix2 0 k) : EReal)) (d_at _ _ _ _ _ _ _ _ (fun k => x0 (ix2 r k)) (fun q j k => x1 (ix3 q j k)) r k (fun k => by pointwise) (fun k => by pointwise) (fun k => by pointwise) (fun k => by pointwise) (fun k => by pointwise) (fun k => by pointwise) (fun k => by pointwise) (fun k => by pointwise))

theorem outB6 (i : grid0.Coords) (arg1 harg1 arg2 harg2 arg3 harg3 arg4 harg4 arg5 harg5 arg6 harg6 arg7 harg7) (hc0 : ¬cond0_0 i) (x0 : FVec Ideal S512x5632 .bf16) (x1 : FVec Ideal S4x1024x1408 .bf16) (x2 : FVec Ideal S512x1024 .f32) (x3 : FVec Ideal S1x1024 .f32) (x4 : FVec Ideal S512x1024 .f32) (xo : FVec Ideal S1x1024 .f32) (j : Fin 1024) :
    (out0_B_6 (F := Ideal) c i arg1 harg1 arg2 harg2 arg3 harg3 arg4 harg4 arg5 harg5 arg6 harg6 arg7 harg7 hc0 x0 x1 x2 x3 x4 xo (ix2 0 j) : EReal)
      = (xo (ix2 0 j) : EReal) + ∑ r : Fin 512, D4 (fun k => x0 (ix2 r k)) (fun q j k => x1 (ix3 q j k)) j * ((x2 (ix2 r j) : EReal) * Rms.rs (fun k => x2 (ix2 r k))) := by
  unfold out0_B_6
  frame_out
  refine (pay4_at _ _ _ j).trans (congrArg₂ (· + ·) rfl (Finset.sum_congr rfl fun r _ => congrArg (· * ((x2 (ix2 r j) : EReal) * Rms.rs (fun k => x2 (ix2 r k)))) ?_))
  exact (d_at _ _ _ _ _ _ _ _ (fun k => x0 (ix2 r k)) (fun q j k => x1 (ix3 q j k)) r j (fun k => by pointwise) (fun k => by pointwise) (fun k => by pointwise) (fun k => by pointwise) (fun k => by pointwise) (fun k => by pointwise) (fun k => by pointwise) (fun k => by pointwise))

theorem ref19_at (x2 : FVec Ideal S1024x5632 .f32) (x3 : FVec Ideal S16384x5632 .bf16) (r : Fin 16384) (j : Fin 1024) :
    (val_main_v19 (F := Ideal) x2 x3 (ix2 r j) : EReal) = D (fun k => x3 (ix2 r k)) (fun j k => x2 (ix2 j k)) j := by
  unfold D
  pointwise [val_main_v19, val_main_v18]

theorem ref40_at (x0 : FVec Ideal S16384x1024 .f32) (x1 : FVec Ideal S1x1024 .f32) (x2 : FVec Ideal S1024x5632 .f32) (x3 : FVec Ideal S16384x5632 .bf16) (x4 : FVec Ideal S16384x1024 .f32) (r : Fin 16384) (j : Fin 1024) :
    (val_main_v40 (F := Ideal) x0 x1 x2 x3 x4 (ix2 r j) : EReal) = (x4 (ix2 r j) : EReal) + Rms.K (fun k => x0 (ix2 r k)) (fun k => D (fun k => x3 (ix2 r k)) (fun j k => x2 (ix2 j k)) k * (x1 (ix2 0 k) : EReal)) j := by
  rw [Rms.eq, ← add_assoc, ← add_assoc]
  unfold Rms.T Rms.rs Rms.ms
  simp only [← ref19_at x2 x3]
  generalize hd : val_main_v19 (F := Ideal) x2 x3 = d
  pointwise [val_main_v40, val_main_v39, val_main_v38, val_main_v37, val_main_v36, val_main_v35, val_main_v34, val_main_v33, val_main_v32, val_main_v31, val_main_v30, val_main_v29, val_main_v28, val_main_v27, val_main_v26, val_main_v24, val_main_v23, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, hd]
  simp only [Finset.univ_unique, Finset.sum_singleton]

theorem ref41_at (x0 : FVec Ideal S16384x1024 .f32) (x2 : FVec Ideal S1024x5632 .f32) (x3 : FVec Ideal S16384x5632 .bf16) (j : Fin 1024) :
    (val_main_v41 (F := Ideal) x0 x2 x3 (ix2 0 j) : EReal) = ∑ r : Fin 16384, D (fun k => x3 (ix2 r k)) (fun j k => x2 (ix2 j k)) j * ((x0 (ix2 r j) : EReal) * Rms.rs (fun k => x0 (ix2 r k))) := by
  unfold Rms.rs Rms.ms
  simp only [← ref19_at x2 x3]
  generalize hd : val_main_v19 (F := Ideal) x2 x3 = d
  pointwise [val_main_v41, val_main_v25, val_main_v22, val_main_v21, val_main_v20, val_main_v13, val_main_v12, val_main_v8, val_main_v7, val_main_v6, val_main_v5, val_main_v4, val_main_v3, val_main_v2, val_main_v1, val_main_cst, val_main_cst_0, val_main_cst_1, val_main_cst_3, val_main_cst_4, hd]
  simp only [Finset.univ_unique, Finset.sum_singleton]
  exact Finset.sum_congr rfl fun r _ => mul_comm _ _

/-- What a point adds to the gradient of the scale, and the derivative rows it reads. -/
theorem D4_at (t : Fin cfg0.N) (r : Fin 512) :
    D4 (fun k => (iblk m c 0 t : FVec Ideal S512x5632 .bf16) (ix2 r k)) (fun q j k => (iblk m c 1 t : FVec Ideal S4x1024x1408 .bf16) (ix3 q j k))
      = D (fun k => m (c.tc.loc main_arg3) (ix2 ⟨512 * t.val + r.val, by have := lt32 t; omega⟩ k)) (fun j k => m (c.tc.loc main_arg2) (ix2 j k)) := by
  refine Eq.trans ?_ (D4_eq _ _)
  congr 1
  · funext k; exact x0_at m c t r k
  · funext q j k; exact x1_at m c t q j k

theorem row_at (t : Fin cfg0.N) (r : Fin 512) : (fun k : Fin 1024 => (iblk m c 2 t : FVec Ideal S512x1024 .f32) (ix2 r k)) = fun k => m (c.tc.loc main_arg0) (ix2 ⟨512 * t.val + r.val, by have := lt32 t; omega⟩ k) :=
  funext fun k => x2_at m c t r k

/-- The derivative of the block's rows. -/
theorem dx_at (t : Fin cfg0.N) (r : Fin 512) (j : Fin 1024) :
    ((outsAt0 m c t.val t.isLt).1 (ix2 r j) : EReal) = (show EReal from m (c.tc.loc main_arg4) (ix2 ⟨512 * t.val + r.val, by have := lt32 t; omega⟩ j))
      + Rms.K (fun k => m (c.tc.loc main_arg0) (ix2 ⟨512 * t.val + r.val, by have := lt32 t; omega⟩ k)) (fun k => D (fun k => m (c.tc.loc main_arg3) (ix2 ⟨512 * t.val + r.val, by have := lt32 t; omega⟩ k)) (fun j k => m (c.tc.loc main_arg2) (ix2 j k)) k * (show EReal from m (c.tc.loc main_arg1) (ix2 0 k))) j := by
  have e : (show EReal from (iblk m c 4 t : FVec Ideal S512x1024 .f32) (ix2 r j)) + Rms.K (fun k => (iblk m c 2 t : FVec Ideal S512x1024 .f32) (ix2 r k)) (fun k => D4 (fun k => (iblk m c 0 t : FVec Ideal S512x5632 .bf16) (ix2 r k)) (fun q j k => (iblk m c 1 t : FVec Ideal S4x1024x1408 .bf16) (ix3 q j k)) k * (show EReal from (iblk m c 3 t : FVec Ideal S1x1024 .f32) (ix2 0 k))) j
      = (show EReal from m (c.tc.loc main_arg4) (ix2 ⟨512 * t.val + r.val, by have := lt32 t; omega⟩ j))
      + Rms.K (fun k => m (c.tc.loc main_arg0) (ix2 ⟨512 * t.val + r.val, by have := lt32 t; omega⟩ k)) (fun k => D (fun k => m (c.tc.loc main_arg3) (ix2 ⟨512 * t.val + r.val, by have := lt32 t; omega⟩ k)) (fun j k => m (c.tc.loc main_arg2) (ix2 j k)) k * (show EReal from m (c.tc.loc main_arg1) (ix2 0 k))) j := by
    rw [row_at, D4_at]
    refine congrArg₂ (· + ·) (x4_at m c t r j) (congrArg (fun d => Rms.K _ d j) (funext fun k => congrArg (_ * ·) (x3_at m c t k)))
  by_cases h : t.val % 32 = 0
  · rw [outsAt0_A m c t h]; dsimp only
    exact (outA5 _ _ _ _ _ _ _ _ _ _ _ _ _ _ _ _ _ _ _ _ _ _ r j).trans e
  · rw [outsAt0_B m c t h]; dsimp only
    exact (outB5 _ _ _ _ _ _ _ _ _ _ _ _ _ _ _ _ _ _ _ _ _ _ _ r j).trans e

/-- What point `t` adds to the gradient of the scale. -/
def S (j : Fin 1024) (t : Fin cfg0.N) : EReal :=
  ∑ r : Fin 512, D (fun k => m (c.tc.loc main_arg3) (ix2 ⟨512 * t.val + r.val, by have := lt32 t; omega⟩ k)) (fun j k => m (c.tc.loc main_arg2) (ix2 j k)) j
    * ((show EReal from m (c.tc.loc main_arg0) (ix2 ⟨512 * t.val + r.val, by have := lt32 t; omega⟩ j)) * Rms.rs (fun k => m (c.tc.loc main_arg0) (ix2 ⟨512 * t.val + r.val, by have := lt32 t; omega⟩ k)))

theorem S_eq (j : Fin 1024) (t : Fin cfg0.N) :
    ∑ r : Fin 512, D4 (fun k => (iblk m c 0 t : FVec Ideal S512x5632 .bf16) (ix2 r k)) (fun q j k => (iblk m c 1 t : FVec Ideal S4x1024x1408 .bf16) (ix3 q j k)) j * ((show EReal from (iblk m c 2 t : FVec Ideal S512x1024 .f32) (ix2 r j)) * Rms.rs (fun k => (iblk m c 2 t : FVec Ideal S512x1024 .f32) (ix2 r k))) = S m c j t := by
  refine Finset.sum_congr rfl fun r _ => ?_
  rw [row_at, D4_at]
  refine congrArg (fun x : EReal => _ * (x * _)) ?_
  exact x2_at m c t r j

theorem dg_at (j : Fin 1024) (t : Fin cfg0.N) (ht : t.val % 32 = 31) :
    ((outsAt0 m c t.val t.isLt).2 (ix2 0 j) : EReal) = ∑ r : Fin 16384, D (fun k => m (c.tc.loc main_arg3) (ix2 r k)) (fun j k => m (c.tc.loc main_arg2) (ix2 j k)) j
      * ((show EReal from m (c.tc.loc main_arg0) (ix2 r j)) * Rms.rs (fun k => m (c.tc.loc main_arg0) (ix2 r k))) := by
  refine (Slab.run_sum (J := 32) (by decide) (F := fun n h => ((outsAt0 m c n h).2 (ix2 0 j) : EReal)) (T := S m c j) (fun t h => ?_) (fun t h => ?_) t ht).trans ?_
  · rw [outsAt0_A m c t h]; dsimp only
    exact (outA6 _ _ _ _ _ _ _ _ _ _ _ _ _ _ _ _ _ _ _ _ _ _ j).trans (congrArg (0 + ·) (S_eq m c j t))
  · rw [outsAt0_B m c t h]; dsimp only
    exact (outB6 _ _ _ _ _ _ _ _ _ _ _ _ _ _ _ _ _ _ _ _ _ _ _ j).trans (congrArg (_ + ·) (S_eq m c j t))
  · refine Eq.trans ?_ (Slab.sum_runs (J := 32) (K := 512) (fun r => D (fun k => m (c.tc.loc main_arg3) (ix2 r k)) (fun j k => m (c.tc.loc main_arg2) (ix2 j k)) j
      * ((show EReal from m (c.tc.loc main_arg0) (ix2 r j)) * Rms.rs (fun k => m (c.tc.loc main_arg0) (ix2 r k)))))
    have h0 : t.val / 32 = 0 := by have := lt32 t; omega
    refine Finset.sum_congr rfl fun s _ => Finset.sum_congr rfl fun k _ => ?_
    simp only [h0, Nat.mul_zero, Nat.zero_add]

theorem final0 : (dats m 0 c).arrAt 5 (cfgs 0).N = val_main_v40 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  have hl := lt32 t
  have hy : (win0_5.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, (outsAt0 m c t.val t.isLt).1 y = val_main_v40 (F := Ideal) (m (c.tc.loc main_arg0)) (m (c.tc.loc main_arg1)) (m (c.tc.loc main_arg2)) (m (c.tc.loc main_arg3)) (m (c.tc.loc main_arg4)) (ix2 ⟨512 * t.val + (y 0).val, by have : (y 0).val < 512 := (y 0).isLt; omega⟩ (y 1)) := by
    intro y
    idx_vars y
    exact (dx_at m c t y0 y1).trans (ref40_at _ _ _ _ _ ⟨512 * t.val + y0.val, by omega⟩ y1).symm
  refine Eq.trans ?_ ((key y).trans (congrArg _ hy.symm))
  blk_simp
  rw [after0_5]

theorem final1 : (dats m 0 c).arrAt 6 (cfgs 0).N = val_main_v41 (F := Ideal) (m (c.tc.loc main_arg0)) (m (c.tc.loc main_arg2)) (m (c.tc.loc main_arg3)) := by
  refine (dats m 0 c).arrAt_eq_of_covers 6 _ (by decide +kernel) fun t hf y => ?_
  have ht := (flush0_6 t).mp hf
  have hl := lt32 t
  have hy : (win0_6.blk t).view.emb y = (ix2 0 ((y : S1x1024.Idx) 1) : S1x1024.Idx) := by
    have h0 : ((y : S1x1024.Idx) 0).val < 1 := ((y : S1x1024.Idx) 0).isLt
    funext a; apply Fin.ext; fin_cases a <;> blk_simp [idx t] <;> simp <;> omega
  have key : ∀ y : S1x1024.Idx, (outsAt0 m c t.val t.isLt).2 y = val_main_v41 (F := Ideal) (m (c.tc.loc main_arg0)) (m (c.tc.loc main_arg2)) (m (c.tc.loc main_arg3)) (ix2 0 (y 1)) := by
    intro y
    idx_vars y
    obtain rfl : y0 = 0 := by omega
    exact (dg_at m c y1 t ht).trans (ref41_at _ _ _ y1).symm
  refine Eq.trans ?_ ((key y).trans (congrArg _ hy.symm))
  blk_simp
  rw [after0_6]

theorem algebraic : Cert.algebraic_BwdInIdeal_BwdInRefIdeal := by
  intro m g m' g' _ ha
  refine ⟨_, _, Cert.BwdInIdeal.Value.run_blocks m g, ?_⟩
  refine (θ_run Cert.BwdInRefIdeal.defs _ _).mono (fun r h c => ?_) (Cert.BwdInRefIdeal.Value.run m' g')
  obtain ⟨e0, e1, e2, e3, e4⟩ := ha c
  obtain ⟨k0, k1, ka⟩ := h c
  refine ⟨k0.trans ((val_main_v40_eq _ _).trans ?_), k1.trans ((val_main_v41_eq _ _ _).trans ?_), ka⟩
  · rw [e0, e1, e2, e3, e4]
    exact (final0 m c).symm
  · rw [e0, e2, e3]
    exact (final1 m c).symm

end Cert.VBwdIn

end
-- ==== Proof.V.UpIdealRun.lean ====
/- The up projection's call runs over the ideal values. A row of four points shares one block of the input: its first point
   norms the block's rows, keeps them in the kernel's own buffer and in the second result's block, and every point
   multiplies the kept rows into one of the four matrices. -/
module

public import proofs.«01_k».proof.Proof.Gen.UpIdeal.Frame
public import Idealize.ShloMosaic.Lib.Claim
public import Idealize.ShloMosaic.Lib.Pipeline.ValueKit

@[expose] public section

set_option maxRecDepth 16384

noncomputable section

namespace Cert.UpIdeal.Run

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The block's rows over their root mean squares, by the gains, as the second result's block holds them. -/
def normed (x : Vec F S1024x1024 .f32) (g : Vec F S1x1024 .f32) : FVec F S1024x1024 .bf16 :=
  truncf .bf16 (mulf (mulf x (broadcastTo S1024x1024 (rsqrt (addf (divf (shapeCast S1024x1 (multiReduction .add [1] S1024
    (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32))))
    broadcasts_S1024x1_S1024x1024)) (broadcastTo S1024x1024 g broadcasts_S1x1024_S1024x1024)) bitsLt_bf16_f32

/-- The same rows as the kernel keeps them. -/
def kept (x : Vec F S1024x1024 .f32) (g : Vec F S1x1024 .f32) : FVec F S1024x1024 .bf16 :=
  shapeCast S1024x1024 (normed x g) shapeCasts_S1024x1024_S1024x1024

/-- The kept rows by a matrix, -/
def mul (h : FVec F S1024x1024 .bf16) (w : Vec F S1x1024x1408 .bf16) : FVec F S1024x1408 .bf16 :=
  truncf .bf16 (matmul dot_S1024x1024_S1024x1408_S1024x1408_1_0_0_1_n_n none h
    (shapeCast S1024x1408 w shapeCasts_S1x1024x1408_S1024x1408) (constant S1024x1408 .f32 0x00000000#32)) bitsLt_bf16_f32

/-- by the one the point reads. -/
def prod (i : grid0.Coords) (h : FVec F S1024x1024 .bf16) (w : Vec F S4x1024x1408 .bf16) : FVec F S1024x1408 .bf16 :=
  mul h (View.ld w (Rect.unit (s := S4x1024x1408) (k0_off1 i) S1x1024x1408.size (k0_off1_inb i)))

/-! ## The body at a row's first point and at the others -/

/-- The condition is met at the points ≡ 0 (mod 4). -/
theorem first_iff : ∀ t : Fin cfg0.N, k0_cond1 (grid0.coords t) = 1#1 ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 0)

abbrev B0 (t : Fin cfg0.N) : Memref sig .tc .vmem S1024x1024 .f32 := win0_0.stage (cfg0.slots t 0)
abbrev B1 (t : Fin cfg0.N) : Memref sig .tc .vmem S1x1024 .f32 := win0_1.stage (cfg0.slots t 1)
abbrev B2 (t : Fin cfg0.N) : Memref sig .tc .vmem S4x1024x1408 .bf16 := win0_2.stage (cfg0.slots t 2)
abbrev B3 (t : Fin cfg0.N) : Memref sig .tc .vmem S1024x1408 .bf16 := win0_3.stage (cfg0.slots t 3)
abbrev B4 (t : Fin cfg0.N) : Memref sig .tc .vmem S1024x1024 .bf16 := win0_4.stage (cfg0.slots t 4)
/-- The kernel's own buffer. -/
abbrev own : Memref sig .tc .vmem S1024x1024 .bf16 := Memref.whole cc0_scratch0

section Body

variable (c : Dev nD) (i : grid0.Coords) (b0 : Memref sig .tc .vmem S1024x1024 .f32) (h0 : b0.IsWhole) (b1 : Memref sig .tc .vmem S1x1024 .f32) (h1 : b1.IsWhole) (b2 : Memref sig .tc .vmem S4x1024x1408 .bf16) (h2 : b2.IsWhole) (b3 : Memref sig .tc .vmem S1024x1408 .bf16) (h3 : b3.IsWhole) (b4 : Memref sig .tc .vmem S1024x1024 .bf16) (h4 : b4.IsWhole) (b5 : Memref sig .tc .vmem S1024x1024 .bf16) (h5 : b5.IsWhole)

set_option maxHeartbeats 1600000 in
/-- A row's first point. -/
theorem run_first (hc : k0_cond1 i = 1#1)
    (x0 : Vec F S1024x1024 .f32) (x1 : Vec F S1x1024 .f32) (x2 : Vec F S4x1024x1408 .bf16) (E : Set ℕ) (K : PUnit → sProp 𝕄) :
    iprop(owns c.tc b0 fullShare x0 ∗ owns c.tc b1 fullShare x1 ∗ owns c.tc b2 fullShare x2
        ∗ (∃ d, owns c.tc b3 fullShare d) ∗ (∃ d, owns c.tc b4 fullShare d) ∗ (∃ d, owns c.tc b5 fullShare d)
        ∗ (iprop(owns c.tc b0 fullShare x0 ∗ owns c.tc b1 fullShare x1 ∗ owns c.tc b2 fullShare x2
            ∗ owns c.tc b3 fullShare (prod i (kept x0 x1) x2) ∗ owns c.tc b4 fullShare (normed x0 x1)
            ∗ owns c.tc b5 fullShare (kept x0 x1)) -∗ K ⟨⟩))
      ⊢ wp frame (wpE (defs₀ (F := F)) Variants.none c none) E (cc0_ffn_up i b0 h0 b1 h1 b2 h2 b3 h3 b4 h4 b5 h5) K := by
  unfold cc0_ffn_up
  unfold owns
  iintro ⟨⟨%f0, %e0, H0⟩, ⟨%f1, %e1, H1⟩, ⟨%f2, %e2, H2⟩, ⟨%d3, %f3, -, H3⟩, ⟨%d4, %f4, -, H4⟩, ⟨%d5, %f5, -, H5⟩, Hk⟩
  obtain rfl := h0.eq_unread e0; obtain rfl := h1.eq_unread e1; obtain rfl := h2.eq_unread e2
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    refine (View.read_writes_eq_canon _ _ _ (View.cover_of_tiledL _ S1024x1408.size (by sl_kernel_rfl))).trans ?_
    unfold run_first.sl.v8 run_first.sl.v7 run_first.sl.v6 run_first.sl.v3 run_first.sl.cst run_first.sl.H5_1 run_first.sl.v27 run_first.sl.v24 run_first.sl.v23 run_first.sl.v22 run_first.sl.v20 run_first.sl.v19 run_first.sl.v18 run_first.sl.v17 run_first.sl.v16 run_first.sl.cst_10 run_first.sl.v15 run_first.sl.v14 run_first.sl.cst_9 run_first.sl.v13 run_first.sl.v12 run_first.sl.v11
    simp (disch := decide) only [View.canon_cons_unit_lit', View.readCov_cons_unit_lit', View.readCov_unit_lit', View.ld_unit_lit', View.readAt_eq_ld, Memref.IsWhole.read_unread, h0, h1, h2, h5]
    rfl
  isplitl [H4]
  · iexists _; isplitr
    swap; · iexact H4
    ipureintro
    refine (View.read_writes_eq_canon _ _ _ (View.cover_of_tiledL _ S1024x1024.size (by sl_kernel_rfl))).trans ?_
    unfold run_first.sl.v24 run_first.sl.v23 run_first.sl.v22 run_first.sl.v20 run_first.sl.v19 run_first.sl.v18 run_first.sl.v17 run_first.sl.v16 run_first.sl.cst_10 run_first.sl.v15 run_first.sl.v14 run_first.sl.cst_9 run_first.sl.v13 run_first.sl.v12 run_first.sl.v11
    simp (disch := decide) only [View.canon_cons_unit_lit', View.readCov_cons_unit_lit', View.readCov_unit_lit', View.ld_unit_lit', View.readAt_eq_ld, Memref.IsWhole.read_unread, h0, h1, h2, h5]
    rfl
  iexists _; isplitr
  swap; · iexact H5
  ipureintro
  refine (View.read_writes_eq_canon _ _ _ (View.cover_of_tiledL _ S1024x1024.size (by sl_kernel_rfl))).trans ?_
  unfold run_first.sl.H5_1 run_first.sl.v27 run_first.sl.v24 run_first.sl.v23 run_first.sl.v22 run_first.sl.v20 run_first.sl.v19 run_first.sl.v18 run_first.sl.v17 run_first.sl.v16 run_first.sl.cst_10 run_first.sl.v15 run_first.sl.v14 run_first.sl.cst_9 run_first.sl.v13 run_first.sl.v12 run_first.sl.v11
  simp (disch := decide) only [View.canon_cons_unit_lit', View.readCov_cons_unit_lit', View.readCov_unit_lit', View.ld_unit_lit', View.readAt_eq_ld, Memref.IsWhole.read_unread, h0, h1, h2, h5]
  rfl

set_option maxHeartbeats 1600000 in
/-- A later point of the row: the kept rows are read, the second result's block is not touched. -/
theorem run_later (hc : ¬k0_cond1 i = 1#1)
    (x2 : Vec F S4x1024x1408 .bf16) (x5 : Vec F S1024x1024 .bf16) (E : Set ℕ) (K : PUnit → sProp 𝕄) :
    iprop(owns c.tc b2 fullShare x2 ∗ (∃ d, owns c.tc b3 fullShare d) ∗ owns c.tc b5 fullShare x5
        ∗ (iprop(owns c.tc b2 fullShare x2 ∗ owns c.tc b3 fullShare (prod i x5 x2)
            ∗ owns c.tc b5 fullShare x5) -∗ K ⟨⟩))
      ⊢ wp frame (wpE (defs₀ (F := F)) Variants.none c none) E (cc0_ffn_up i b0 h0 b1 h1 b2 h2 b3 h3 b4 h4 b5 h5) K := by
  unfold cc0_ffn_up
  unfold owns
  iintro ⟨⟨%f2, %e2, H2⟩, ⟨%d3, %f3, -, H3⟩, ⟨%f5, %e5, H5⟩, Hk⟩
  obtain rfl := h2.eq_unread e2; obtain rfl := h5.eq_unread e5
  sl_exec (disch := first | sl_exact hc)
  sl_step
  iapply Hk
  isplitl [H2]
  · iexists _; isplitr; · ipureintro; exact h2.read_unread _
    iexact H2
  isplitl [H3]
  · iexists _; isplitr
    swap; · iexact H3
    ipureintro
    refine (View.read_writes_eq_canon _ _ _ (View.cover_of_tiledL _ S1024x1408.size (by sl_kernel_rfl))).trans ?_
    unfold run_later.sl.v8 run_later.sl.v7 run_later.sl.v6 run_later.sl.cst
    simp (disch := decide) only [View.canon_cons_unit_lit', View.readCov_cons_unit_lit', View.readCov_unit_lit', View.ld_unit_lit', View.readAt_eq_ld, Memref.IsWhole.read_unread, h0, h1, h2, h5]
    rfl
  iexists _; isplitr; · ipureintro; exact h5.read_unread _
  iexact H5

end Body

/-! ## Point by point -/

variable (m : (ℓ : Loc nD τ sig) → Buf (Elt F) ℓ) (ρ : Dev nD → PrngReg)

/-- The first point of a point's row. -/
def head (t : Fin cfg0.N) : Fin cfg0.N := ⟨t.val / 4 * 4, by have := t.isLt; omega⟩

theorem head_first {t : Fin cfg0.N} (h : t.val % 4 = 0) : head t = t := Fin.ext (by dsimp only [head]; omega)

theorem head_pred {n : ℕ} (hn : n + 1 < cfg0.N) (h : ¬(n + 1) % 4 = 0) : head ⟨n, Nat.lt_of_succ_lt hn⟩ = head ⟨n + 1, hn⟩ :=
  Fin.ext (by dsimp only [head]; omega)

/-- The row's rows, in the second result's block and in the kernel's buffer. -/
def rowH (c : Dev nD) (t : Fin cfg0.N) : FVec F S1024x1024 .bf16 := normed (iblk m c 0 (head t)) (iblk m c 1 (head t))
def rowK (c : Dev nD) (t : Fin cfg0.N) : FVec F S1024x1024 .bf16 := kept (iblk m c 0 (head t)) (iblk m c 1 (head t))

/-- Between the points: anything in the kernel's buffer at the start, afterwards the kept rows. -/
def Inv (c : Dev nD) : (n : ℕ) → n ≤ cfg0.N → sProp 𝕄
  | 0, _ => Pipeline.ΦA spec0 c
  | n + 1, hn => iprop(owns c.tc own fullShare (rowK m c ⟨n, hn⟩) ∗ (∃ r, prngReg c r))

theorem start_eq (c : Dev nD) :
    (Pipeline.ΦA spec0 c : sProp 𝕄) = iprop((∃ d, owns c.tc own fullShare d) ∗ (∃ r, prngReg c r)) := by
  unfold Pipeline.ΦA; rw [scopedRest0_eq]; simp only [own, owns_whole]; rfl

/-- What is forgotten of the kernel's buffer: its contents. -/
theorem Inv_out (c : Dev nD) : ∀ (n : ℕ) (hn : n ≤ cfg0.N),
    Inv m c n hn ⊢ iprop((∃ d, owns c.tc own fullShare d) ∗ (∃ r, prngReg c r))
  | 0, _ => by unfold Inv; rw [start_eq]
  | n + 1, hn => by
    unfold Inv
    iintro ⟨H, Hg⟩
    isplitl [H]; · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (grid0.coords t) (rowK m c t) (iblk m c 2 t)
    | ⟨4, _⟩ => rowH m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem found0 (c : Dev nD) (t : Fin cfg0.N) (d) : (dats m 0 c).before 0 t d = iblk m c 0 t :=
  before0_0_of m (dats m 0 c) (A_eq m c 0) (fun _ => by dsimp only [dats]) t d
theorem found1 (c : Dev nD) (t : Fin cfg0.N) (d) : (dats m 0 c).before 1 t d = iblk m c 1 t :=
  before0_1_of m (dats m 0 c) (A_eq m c 1) (fun _ => by dsimp only [dats]) t d
theorem found2 (c : Dev nD) (t : Fin cfg0.N) (d) : (dats m 0 c).before 2 t d = iblk m c 2 t :=
  before0_2_of m (dats m 0 c) (A_eq m c 2) (fun _ => by dsimp only [dats]) t d
theorem left3 (c : Dev nD) (t : Fin cfg0.N) : (dats m 0 c).after 3 t = prod (grid0.coords t) (rowK m c t) (iblk m c 2 t) := by
  dsimp only [dats]
theorem left4 (c : Dev nD) (t : Fin cfg0.N) : (dats m 0 c).after 4 t = rowH m c t := by dsimp only [dats]

/-- The second result's block is stored at a row's first point, -/
theorem stored {t : Fin cfg0.N} (h : t.val % 4 = 0) : cfg0.idle 4 (cfg0.grid.coords t) = false := by
  show (!(k0_cond1 (grid0.coords t) == 1#1)) = false
  rw [(first_iff t).mpr h]; rfl
/-- not at the others, -/
theorem passed {t : Fin cfg0.N} (h : ¬t.val % 4 = 0) : cfg0.idle 4 (cfg0.grid.coords t) = true := by
  show (!(k0_cond1 (grid0.coords t) == 1#1)) = true
  rw [beq_false_of_ne fun e => h ((first_iff t).mp e)]; rfl
/-- and written back at the last. -/
theorem unflushed {t : Fin cfg0.N} (h : ¬t.val % 4 = 3) : (cfg0.win 4).flush t = false :=
  Bool.eq_false_iff.mpr fun e => h ((flush0_4 t).mp e)

/-- A later point finds the row's rows in the second result's block. -/
theorem found4 (c : Dev nD) (d) : ∀ (n : ℕ) (hn : n < cfg0.N), ¬n % 4 = 0 → (dats m 0 c).before 4 ⟨n, hn⟩ d = rowH m c ⟨n, hn⟩
  | 0, _, h => absurd rfl h
  | n + 1, hn, h => by
    have hn' : n < cfg0.N := Nat.lt_of_succ_lt hn
    refine ((dats m 0 c).before_of_pos 4 ⟨n + 1, hn⟩ (Nat.succ_ne_zero n) ((cfg0.win 4).fetch_out rfl _) d).trans ?_
    refine (if_neg (Bool.eq_false_iff.mp (unflushed (t := ⟨n, hn'⟩) (by dsimp only; omega)))).trans ?_
    have e : rowH m c ⟨n, hn'⟩ = rowH m c ⟨n + 1, hn⟩ := by unfold rowH; rw [head_pred hn h]
    by_cases h0 : n % 4 = 0
    · unfold Dat.left
      rw [show cfg0.idle 4 (cfg0.grid.coords ⟨n + 1 - 1, hn'⟩) = false from stored (t := ⟨n, hn'⟩) h0]
      unfold Dat.kept
      rw [Pipeline.fill_of_clip_none 4 _ (fun _ => rfl) d ((dats m 0 c).after 4 _), Window.fill_cut, left4]
      exact e
    · unfold Dat.left
      rw [show cfg0.idle 4 (cfg0.grid.coords ⟨n + 1 - 1, hn'⟩) = true from passed (t := ⟨n, hn'⟩) h0]
      exact (found4 c d n hn' h0).trans e

/-- The row's rows are what a point must leave in the second result's block. -/
theorem leave4 (c : Dev nD) (t : Fin cfg0.N) :
    (owns c.tc (B4 t) fullShare (rowH m c t) : sProp 𝕄) ⊢ (dats m 0 c).leavesExact 4 t := by
  by_cases h0 : t.val % 4 = 0
  · unfold Dat.leavesExact; rw [stored h0, left4]
  · cases hf : (cfg0.win 4).flush t with
    | true => unfold Dat.leavesExact; rw [passed h0, hf, left4]
    | false =>
      rw [(dats m 0 c).leavesExact_idle 4 t (passed h0) hf]
      iintro H
      iexists (rowH m c t)
      rw [found4 m c _ t.val t.isLt h0]
      iexact H

set_option maxHeartbeats 3200000 in
/-- The body at any point. -/
theorem body_at (c : Dev nD) (t : Fin cfg0.N) :
    iprop((dats m 0 c).Φ t.castSucc ∗ (dats m 0 c).owesAt () t.castSucc
      ∗ (∃ d, owns c.tc (B0 t) fullShare ((dats m 0 c).before 0 t d))
      ∗ (∃ d, owns c.tc (B1 t) fullShare ((dats m 0 c).before 1 t d))
      ∗ (∃ d, owns c.tc (B2 t) fullShare ((dats m 0 c).before 2 t d))
      ∗ (∃ d, owns c.tc (B3 t) fullShare ((dats m 0 c).before 3 t d))
      ∗ (∃ d, owns c.tc (B4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
      ∗ owns c.tc (B0 t) fullShare ((dats m 0 c).after 0 t)
      ∗ owns c.tc (B1 t) fullShare ((dats m 0 c).after 1 t)
      ∗ owns c.tc (B2 t) fullShare ((dats m 0 c).after 2 t)
      ∗ owns c.tc (B3 t) fullShare ((dats m 0 c).after 3 t)
      ∗ (dats m 0 c).leavesExact 4 t)) := by
  unfold bodyAt0
  simp only [found0, found1, found2]
  rw [show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, left3,
    show (dats m 0 c).Φ t.succ = iprop(owns c.tc own fullShare (rowK m c t) ∗ (∃ r, prngReg c r)) from rfl,
    show (dats m 0 c).Φ t.castSucc = Inv m c t.val (Nat.le_of_lt t.isLt) from rfl]
  by_cases h0 : t.val % 4 = 0
  · iintro ⟨HI, Ho, ⟨%d0, H0⟩, ⟨%d1, H1⟩, ⟨%d2, H2⟩, ⟨%d3, H3⟩, ⟨%d4, H4⟩⟩
    ihave HJ := (Inv_out m c t.val (Nat.le_of_lt t.isLt)) $$ HI
    icases HJ with ⟨H5, Hg⟩
    iapply (run_first c (grid0.coords t) _ _ _ _ _ _ _ _ _ _ _ _ ((first_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexact H5
    iintro ⟨H0, H1, H2, H3, H4, H5⟩
    have eK : kept (iblk m c 0 t) (iblk m c 1 t) = rowK m c t := by unfold rowK; rw [head_first h0]
    have eH : normed (iblk m c 0 t) (iblk m c 1 t) = rowH m c t := by unfold rowH; rw [head_first h0]
    rw [eK, eH]
    isplitl [H5 Hg]
    · isplitl [H5]; · iexact H5
      iexact Hg
    isplitl [Ho]; · iexact Ho
    isplitl [H0]; · iexact H0
    isplitl [H1]; · iexact H1
    isplitl [H2]; · iexact H2
    isplitl [H3]; · iexact H3
    iapply (leave4 m c t); iexact H4
  · obtain ⟨n, hn⟩ := t
    cases n with
    | zero => exact absurd rfl h0
    | succ n =>
    have eK : rowK m c ⟨n, Nat.lt_of_succ_lt hn⟩ = rowK m c ⟨n + 1, hn⟩ := by unfold rowK; rw [head_pred hn h0]
    rw [show Inv m c (n + 1) (Nat.le_of_lt hn) = iprop(owns c.tc own fullShare (rowK m c ⟨n, Nat.lt_of_succ_lt hn⟩) ∗ (∃ r, prngReg c r)) from rfl, eK]
    iintro ⟨⟨H5, Hg⟩, Ho, ⟨%d0, H0⟩, ⟨%d1, H1⟩, ⟨%d2, H2⟩, ⟨%d3, H3⟩, ⟨%d4, H4⟩⟩
    rw [found4 m c d4 (n + 1) hn h0]
    iapply (run_later c (grid0.coords ⟨n + 1, hn⟩) _ _ _ _ _ _ _ _ _ _ _ _ (fun e => h0 ((first_iff ⟨n + 1, hn⟩).mp e)) (iblk m c 2 ⟨n + 1, hn⟩) _ Set.univ _)
    isplitl [H2]; · iexact H2
    isplitl [H3]; · iexists _; iexact H3
    isplitl [H5]; · iexact H5
    iintro ⟨H2, H3, H5⟩
    isplitl [H5 Hg]
    · isplitl [H5]; · iexact H5
      iexact Hg
    isplitl [Ho]; · iexact Ho
    isplitl [H0]; · iexact H0
    isplitl [H1]; · iexact H1
    isplitl [H2]; · iexact H2
    isplitl [H3]; · iexact H3
    iapply (leave4 m c ⟨n + 1, hn⟩); iexact H4

/-- The table's entry is the body at the point's buffers. -/
theorem entry (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, entry]
  exact triple_restated (body_at m c t) rfl .rfl fun _ => .rfl

/-! ## The run -/

set_option backward.isDefEq.respectTransparency.types false in
/-- Every execution ends, the arrays as `dats` has them and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => Idealize.SL.BI.Entails.refl _)
    (hout := fun c => start_eq (F := F) c ▸ Inv_out m c cfg0.N (Nat.le_refl _))

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.UpIdeal.Run

end
-- ==== Proof.V.Up.lean ====
/- The up projection's first result is the product of the normed rows with the weights, its second the normed rows. -/
module

public import proofs.«01_k».proof.Defs
public import proofs.«01_k».proof.Proof.V.UpIdealRun
public import proofs.«01_k».proof.Proof.Gen.UpIdeal
public import proofs.«01_k».proof.Proof.Gen.UpRefIdeal
public import proofs.«01_k».proof.Proof.Gen.UpRefIdeal.Run
public import proofs.«01_k».proof.Proof.Gen.UpRefIdeal.Read
public import proofs.«01_k».proof.Proof.V.Slab
public import Idealize.ShloMosaic.Lib.Claim
public import Idealize.ShloMosaic.Lib.Pointwise
public import Idealize.ShloMosaic.Lib.Pipeline.ValueKit

@[expose] public section

set_option maxRecDepth 16384

noncomputable section

namespace Cert.VUp

open Cert.UpIdeal Cert.UpIdeal.Gen Cert.UpRefIdeal.Read Cert.UpIdeal.Run Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V2 (q : Fin 4) (k : Fin 1024) (j : Fin 1408) : ((V m c main_v2 : S4x1024x1408.Idx → EReal) (ix3 q k j) : EReal) = m (c.tc.loc main_arg2) (ix2 k ⟨1408 * q.val + j.val, by omega⟩) := by
  have e : (V m c main_v2 : S4x1024x1408.Idx → EReal) = transpose S4x1024x1408 [1, 0, 2] (shapeCast S1024x4x1408 (m (c.tc.loc main_arg2) : FVec Ideal S1024x5632 .f32) shapeCasts_S1024x5632_S1024x4x1408) transposes_S1024x4x1408_S4x1024x1408_1_0_2 := by
    unfold V; after_results_simp; rfl
  rw [e]
  pointwise
  exact congrArg (m (c.tc.loc main_arg2)) (congrArg (ix2 k) (Fin.ext (by show q.val * 1408 + j.val = 1408 * q.val + j.val; omega)))

theorem idx : ∀ t : Fin cfg0.N, win0_0.index t = ![t.val / 4, 0] ∧ win0_1.index t = ![0, 0] ∧ win0_2.index t = ![0, 0, 0] ∧ win0_3.index t = ![t.val / 4, t.val % 4] ∧ win0_4.index t = ![t.val / 4, 0] ∧ k0_off1 (grid0.coords t) = ![t.val % 4, 0, 0] :=
  (by decide +kernel : ∀ t : Fin grid0.N, _)

theorem lt64 (t : Fin cfg0.N) : t.val < 64 := (by decide +kernel : cfg0.N = 64) ▸ t.isLt

theorem x0_at (t : Fin cfg0.N) (r : Fin 1024) (k : Fin 1024) : (iblk m c 0 t : FVec Ideal S1024x1024 .f32) (ix2 r k) = m (c.tc.loc main_arg0) (ix2 ⟨1024 * (t.val / 4) + r.val, by have := lt64 t; omega⟩ k) := by
  refine Eq.trans ?_ (congrFun (V_main_arg0 m c) _)
  blk_point [iblk, idx t]

theorem x1_at (t : Fin cfg0.N) (j : Fin 1024) : (iblk m c 1 t : FVec Ideal S1x1024 .f32) (ix2 0 j) = m (c.tc.loc main_arg1) (ix2 0 j) := by
  refine Eq.trans ?_ (congrFun (V_main_arg1 m c) _)
  blk_point [iblk, idx t]

theorem x2_at (t : Fin cfg0.N) (q : Fin 4) (k : Fin 1024) (j : Fin 1408) : (iblk m c 2 t : FVec Ideal S4x1024x1408 .bf16) (ix3 q k j) = m (c.tc.loc main_arg2) (ix2 k ⟨1408 * q.val + j.val, by omega⟩) := by
  refine Eq.trans ?_ (V2 m c q k j)
  blk_point [iblk, idx t]

/-- One normed row. -/
def Y (x g : Fin 1024 → EReal) (j : Fin 1024) : EReal :=
  x j * Ideal.rsqrt (Ideal.div (∑ k : Fin 1024, x k * x k) (Ideal.ofBits .f32 0x44800000#32) + Ideal.ofBits .f32 0x358637BD#32) * g j

theorem normed_at (x : FVec Ideal S1024x1024 .f32) (g : FVec Ideal S1x1024 .f32) (r j : Fin 1024) :
    (normed (F := Ideal) x g (ix2 r j) : EReal) = Y (fun k => x (ix2 r k)) (fun k => g (ix2 0 k)) j := by
  unfold Y
  pointwise [normed]

theorem kept_at (x : FVec Ideal S1024x1024 .f32) (g : FVec Ideal S1x1024 .f32) (r j : Fin 1024) :
    (kept (F := Ideal) x g (ix2 r j) : EReal) = Y (fun k => x (ix2 r k)) (fun k => g (ix2 0 k)) j := by
  refine Eq.trans ?_ (normed_at x g r j)
  pointwise [kept]

theorem mul_at (h : FVec Ideal S1024x1024 .bf16) (w : FVec Ideal S1x1024x1408 .bf16) (r : Fin 1024) (j : Fin 1408) :
    (mul (F := Ideal) h w (ix2 r j) : EReal) = ∑ k : Fin 1024, (h (ix2 r k) : EReal) * (w (ix3 0 k j) : EReal) := by
  pointwise [mul]

theorem prod_at (i : grid0.Coords) (q : Fin 4) (hq : k0_off1 i = ![q.val, 0, 0]) (h : FVec Ideal S1024x1024 .bf16) (w : FVec Ideal S4x1024x1408 .bf16) (r : Fin 1024) (j : Fin 1408) :
    (prod (F := Ideal) i h w (ix2 r j) : EReal) = ∑ k : Fin 1024, (h (ix2 r k) : EReal) * (w (ix3 q k j) : EReal) := by
  unfold prod
  refine (mul_at _ _ r j).trans (Finset.sum_congr rfl fun k _ => congrArg₂ (· * ·) rfl ?_)
  exact Slab.ld_off (e := .bf16) q _ hq _ w k j

/-- A point's row starts at the same block. -/
theorem row_at (t : Fin cfg0.N) (r k : Fin 1024) : (iblk m c 0 (head t) : FVec Ideal S1024x1024 .f32) (ix2 r k) = m (c.tc.loc main_arg0) (ix2 ⟨1024 * (t.val / 4) + r.val, by have := lt64 t; omega⟩ k) :=
  (x0_at m c (head t) r k).trans (congrArg (m (c.tc.loc main_arg0)) (congrArg (ix2 · k) (Fin.ext (by
    show 1024 * (t.val / 4 * 4 / 4) + r.val = 1024 * (t.val / 4) + r.val
    omega))))

theorem rowH_at (t : Fin cfg0.N) (r j : Fin 1024) : (rowH m c t (ix2 r j) : EReal) = Y (fun k => m (c.tc.loc main_arg0) (ix2 ⟨1024 * (t.val / 4) + r.val, by have := lt64 t; omega⟩ k)) (fun k => m (c.tc.loc main_arg1) (ix2 0 k)) j :=
  (normed_at _ _ r j).trans (congrFun (congrArg₂ Y (funext fun k => row_at m c t r k) (funext fun k => x1_at m c (head t) k)) j)

theorem rowK_at (t : Fin cfg0.N) (r j : Fin 1024) : (rowK m c t (ix2 r j) : EReal) = Y (fun k => m (c.tc.loc main_arg0) (ix2 ⟨1024 * (t.val / 4) + r.val, by have := lt64 t; omega⟩ k)) (fun k => m (c.tc.loc main_arg1) (ix2 0 k)) j := by
  refine (kept_at _ _ r j).trans ((normed_at _ _ r j).symm.trans (rowH_at m c t r j))

theorem refH_at (x0 : FVec Ideal S16384x1024 .f32) (x1 : FVec Ideal S1x1024 .f32) (r : Fin 16384) (j : Fin 1024) :
    (val_main_v13 (F := Ideal) x0 x1 (ix2 r j) : EReal) = Y (fun k => x0 (ix2 r k)) (fun k => x1 (ix2 0 k)) j := by
  unfold Y
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref1_at (x0 : FVec Ideal S16384x1024 .f32) (x1 : FVec Ideal S1x1024 .f32) (r : Fin 16384) (j : Fin 1024) :
    (val_main_v16 (F := Ideal) x0 x1 (ix2 r j) : EReal) = Y (fun k => x0 (ix2 r k)) (fun k => x1 (ix2 0 k)) j := by
  refine Eq.trans ?_ (refH_at x0 x1 r j)
  pointwise [val_main_v16]

theorem ref0_at (x0 : FVec Ideal S16384x1024 .f32) (x1 : FVec Ideal S1x1024 .f32) (x2 : FVec Ideal S1024x5632 .f32) (r : Fin 16384) (j : Fin 5632) :
    (val_main_v15 (F := Ideal) x0 x1 x2 (ix2 r j) : EReal) = ∑ k : Fin 1024, Y (fun k => x0 (ix2 r k)) (fun k => x1 (ix2 0 k)) k * (x2 (ix2 k j) : EReal) := by
  have e : (val_main_v15 (F := Ideal) x0 x1 x2 (ix2 r j) : EReal) = ∑ k : Fin 1024, (val_main_v13 (F := Ideal) x0 x1 (ix2 r k) : EReal) * (x2 (ix2 k j) : EReal) := by
    pointwise [val_main_v15, val_main_v14]
  rw [e]
  exact Finset.sum_congr rfl fun k _ => congrArg (fun z : EReal => z * (x2 (ix2 k j) : EReal)) (refH_at x0 x1 r k)

theorem final0 : (dats m 0 c).arrAt 3 (cfgs 0).N = val_main_v15 (F := Ideal) (m (c.tc.loc main_arg0)) (m (c.tc.loc main_arg1)) (m (c.tc.loc main_arg2)) := by
  refine (dats m 0 c).arrAt_eq_of_covers 3 _ (by decide +kernel) fun t hf y => ?_
  have hl := lt64 t
  have hy : (win0_3.blk t).view.emb y = (ix2 ⟨1024 * (t.val / 4) + ((y : S1024x1408.Idx) 0).val, by have : ((y : S1024x1408.Idx) 0).val < 1024 := ((y : S1024x1408.Idx) 0).isLt; omega⟩
      ⟨1408 * (t.val % 4) + ((y : S1024x1408.Idx) 1).val, by have : ((y : S1024x1408.Idx) 1).val < 1408 := ((y : S1024x1408.Idx) 1).isLt; omega⟩ : S16384x5632.Idx) := by
    funext a; apply Fin.ext; fin_cases a <;> blk_simp [idx t] <;> simp <;> omega
  have key : ∀ y : S1024x1408.Idx, prod (grid0.coords t) (rowK m c t) (iblk m c 2 t) y = val_main_v15 (F := Ideal) (m (c.tc.loc main_arg0)) (m (c.tc.loc main_arg1)) (m (c.tc.loc main_arg2)) (ix2 ⟨1024 * (t.val / 4) + (y 0).val, by have : (y 0).val < 1024 := (y 0).isLt; omega⟩
      ⟨1408 * (t.val % 4) + (y 1).val, by have : (y 1).val < 1408 := (y 1).isLt; omega⟩) := by
    intro y
    idx_vars y
    refine (prod_at _ ⟨t.val % 4, by omega⟩ (idx t).2.2.2.2.2 _ _ y0 y1).trans ?_
    refine Eq.symm ((ref0_at _ _ _ ⟨1024 * (t.val / 4) + y0.val, by omega⟩ ⟨1408 * (t.val % 4) + y1.val, by omega⟩).trans ?_)
    exact Finset.sum_congr rfl fun k _ => congrArg₂ (fun a b : EReal => a * b) (rowK_at m c t y0 k).symm (x2_at m c t ⟨t.val % 4, by omega⟩ k y1).symm
  refine Eq.trans ?_ ((key y).trans (congrArg _ hy.symm))
  blk_simp
  rw [left3]

theorem final1 : (dats m 0 c).arrAt 4 (cfgs 0).N = val_main_v16 (F := Ideal) (m (c.tc.loc main_arg0)) (m (c.tc.loc main_arg1)) := by
  refine (dats m 0 c).arrAt_eq_of_covers 4 _ (by decide +kernel) fun t hf y => ?_
  have hl := lt64 t
  have hy : (win0_4.blk t).view.emb y = (ix2 ⟨1024 * (t.val / 4) + ((y : S1024x1024.Idx) 0).val, by have : ((y : S1024x1024.Idx) 0).val < 1024 := ((y : S1024x1024.Idx) 0).isLt; omega⟩ ((y : S1024x1024.Idx) 1) : S16384x1024.Idx) := by
    funext a; apply Fin.ext; fin_cases a <;> blk_simp [idx t] <;> simp <;> omega
  have key : ∀ y : S1024x1024.Idx, rowH m c t y = val_main_v16 (F := Ideal) (m (c.tc.loc main_arg0)) (m (c.tc.loc main_arg1)) (ix2 ⟨1024 * (t.val / 4) + (y 0).val, by have : (y 0).val < 1024 := (y 0).isLt; omega⟩ (y 1)) := by
    intro y
    idx_vars y
    exact (rowH_at m c t y0 y1).trans (ref1_at _ _ ⟨1024 * (t.val / 4) + y0.val, by omega⟩ y1).symm
  refine Eq.trans ?_ ((key y).trans (congrArg _ hy.symm))
  blk_simp
  rw [left4]

/-- The kernel's run, its results named by the pipeline's final arrays. -/
theorem run_blocks (g : Dev nD → PrngReg) : θ_run (defs (F := Ideal)) (onTc (τ := τ) (main (F := Ideal))) ⟨m, fun _ => 0, g⟩ fun r => ∀ c : Dev nD,
    r.2.mem (c.tc.loc main_v3_0) = (dats m 0 c).arrAt 3 (cfgs 0).N
      ∧ r.2.mem (c.tc.loc main_v3_1) = (dats m 0 c).arrAt 4 (cfgs 0).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h.1 c).1 3, (h.1 c).1 4, (((h.1 c).1 0).trans (((dats m 0 c).arrAt_in 0 rfl _).trans ((A_eq m c 0).trans (V_main_arg0 m c)))),
    (((h.1 c).1 1).trans (((dats m 0 c).arrAt_in 1 rfl _).trans ((A_eq m c 1).trans (V_main_arg1 m c)))),
    (((h.1 c).2 main_arg2 (Pipeline.mem_restRefs_of main_arg2 (by decide) (by decide))).trans (V_main_arg2 m c))⟩) (run m g)

theorem algebraic : Cert.algebraic_UpIdeal_UpRefIdeal := by
  intro m g m' g' _ ha
  refine ⟨_, _, run_blocks m g, ?_⟩
  refine (θ_run Cert.UpRefIdeal.defs _ _).mono (fun r h c => ?_) (Cert.UpRefIdeal.Value.run m' g')
  obtain ⟨e0, e1, e2⟩ := ha c
  obtain ⟨k0, k1, ka⟩ := h c
  refine ⟨k0.trans ((val_main_v15_eq _ _ _).trans ?_), k1.trans ((val_main_v16_eq _ _).trans ?_), ka⟩
  · rw [e0, e1, e2]
    exact (final0 m c).symm
  · rw [e0, e1]
    exact (final1 m c).symm

end Cert.VUp

end
-- ==== Proof.V.Silu.lean ====
/- The logistic of `x` from the hyperbolic tangent of half `x`, over the extended reals. -/
module

public import Idealize.ShloMosaic.Lib.Claim
public import Idealize.ShloMosaic.Lib.Pointwise
public import proofs.«01_k».proof.Proof.Sgu.Reals

@[expose] public section

noncomputable section

namespace Cert.Silu

open Idealize.ShloMosaic

/-- The logistic function as the host writes it. -/
def sig (x : EReal) : EReal := Ideal.div 1 (1 + Ideal.exp (-x))

theorem sig_real (r : ℝ) : 1 / 2 * (1 + Real.tanh (1 / 2 * r)) = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h1]
  generalize Real.exp (1 / 2 * r) = a at *
  generalize Real.exp (-(1 / 2 * r)) = b at *
  have ha : a = 1 / b := by field_simp; linarith
  subst ha
  field_simp
  ring

theorem sig_coe (r : ℝ) : sig (r : EReal) = ((1 / (1 + Real.exp (-r)) : ℝ) : EReal) := by
  have hp : (1 + Real.exp (-r) : ℝ) ≠ 0 := by have := Real.exp_pos (-r); positivity
  unfold sig
  have e : (1 + Ideal.exp (-(r : EReal)) : EReal) = ((1 + Real.exp (-r) : ℝ) : EReal) := rfl
  rw [e]
  unfold Ideal.div
  rw [if_neg (by exact_mod_cast hp), ← EReal.coe_inv, one_mul, one_div]

theorem sig_bot : sig ⊥ = 0 := by
  unfold sig
  rw [EReal.neg_bot]
  show Ideal.div 1 (1 + ⊤) = 0
  rw [show (1 + ⊤ : EReal) = ⊤ from EReal.coe_add_top 1]
  unfold Ideal.div
  simp

theorem sig_top : sig ⊤ = 1 := by
  unfold sig
  rw [EReal.neg_top]
  show Ideal.div 1 (1 + 0) = 1
  unfold Ideal.div
  rw [add_zero, if_neg one_ne_zero, one_mul]
  show ((1 : ℝ) : EReal)⁻¹ = ((1 : ℝ) : EReal)
  rw [← EReal.coe_inv, inv_one]

theorem sig_tanh (x : EReal) : Ideal.ofBits .f32 0x3F000000#32 * (Ideal.ofBits .f32 0x3F800000#32 + Ideal.tanh (Ideal.ofBits .f32 0x3F000000#32 * x)) = sig x := by
  rw [Cert.Sgu.ofBits_half, Cert.Sgu.ofBits_one]
  induction x using EReal.rec with
  | bot =>
    rw [EReal.coe_mul_bot_of_pos (by norm_num), sig_bot]
    show ((1 / 2 : ℝ) : EReal) * (((1 : ℝ) : EReal) + ((-1 : ℝ) : EReal)) = ((0 : ℝ) : EReal)
    rw [← EReal.coe_add, ← EReal.coe_mul]
    norm_num
  | top =>
    rw [EReal.coe_mul_top_of_pos (by norm_num), sig_top]
    show ((1 / 2 : ℝ) : EReal) * (((1 : ℝ) : EReal) + ((1 : ℝ) : EReal)) = ((1 : ℝ) : EReal)
    rw [← EReal.coe_add, ← EReal.coe_mul]
    norm_num
  | coe r =>
    rw [sig_coe, ← sig_real]
    show ((1 / 2 : ℝ) : EReal) * (((1 : ℝ) : EReal) + ((Real.tanh (1 / 2 * r) : ℝ) : EReal)) = _
    norm_cast

theorem sig_tanh' (x : EReal) : Ideal.ofBits .f32 0x3F000000#32 * (1 + Ideal.tanh (Ideal.ofBits .f32 0x3F000000#32 * x)) = sig x := by
  rw [← sig_tanh, Cert.Sgu.ofBits_one]
  rfl

/-- A sum over 2816 is the sum over its two halves. -/
theorem sum_halves (f : Fin 2816 → EReal) :
    (∑ k : Fin 1408, f ⟨k.val, by omega⟩) + ∑ k : Fin 1408, f ⟨1408 + k.val, by omega⟩ = ∑ k : Fin 2816, f k :=
  (Fin.sum_univ_add (a := 1408) (b := 1408) f).symm

end Cert.Silu

end
-- ==== Proof.V.Down.lean ====
/- The feed-forward's down projection, its normalisation and the residual: each row block is the rows of the whole. -/
module

public import proofs.«01_k».proof.Defs
public import proofs.«01_k».proof.Proof.Gen.DownIdeal.Value
public import proofs.«01_k».proof.Proof.Gen.DownIdeal
public import proofs.«01_k».proof.Proof.Gen.DownRefIdeal
public import proofs.«01_k».proof.Proof.Gen.DownRefIdeal.Run
public import proofs.«01_k».proof.Proof.Gen.DownRefIdeal.Read
public import proofs.«01_k».proof.Proof.V.Slab
public import proofs.«01_k».proof.Proof.V.Silu
public import Idealize.ShloMosaic.Lib.Claim
public import Idealize.ShloMosaic.Lib.Pointwise
public import Idealize.ShloMosaic.Lib.Pipeline.ValueKit

@[expose] public section

set_option maxRecDepth 16384

noncomputable section

namespace Cert.VDown

open Cert.DownIdeal Cert.DownIdeal.Gen Cert.DownRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V0 : (V m c main_v0 : S2816x1024.Idx → EReal) = m (c.tc.loc main_arg1) := by
  unfold V; after_results_simp; rfl

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem lt32 (t : Fin cfg0.N) : t.val < 32 := (by decide +kernel : cfg0.N = 32) ▸ t.isLt

theorem x0_at (t : Fin cfg0.N) (r : Fin 512) (k : Fin 5632) : (iblk m c 0 t : FVec Ideal S512x5632 .bf16) (ix2 r k) = m (c.tc.loc main_arg0) (ix2 ⟨512 * t.val + r.val, by have := lt32 t; omega⟩ k) := by
  refine Eq.trans ?_ (congrFun (V_main_arg0 m c) _)
  blk_point [iblk, idx t]

theorem x1_at (t : Fin cfg0.N) (k : Fin 2816) (j : Fin 1024) : (iblk m c 1 t : FVec Ideal S2816x1024 .bf16) (ix2 k j) = m (c.tc.loc main_arg1) (ix2 k j) := by
  refine Eq.trans ?_ (congrFun (V0 m c) _)
  blk_point [iblk, idx t]

theorem x2_at (t : Fin cfg0.N) (r : Fin 512) (j : Fin 1024) : (iblk m c 2 t : FVec Ideal S512x1024 .f32) (ix2 r j) = m (c.tc.loc main_arg2) (ix2 ⟨512 * t.val + r.val, by have := lt32 t; omega⟩ j) := by
  refine Eq.trans ?_ (congrFun (V_main_arg2 m c) _)
  blk_point [iblk, idx t]

theorem x3_at (t : Fin cfg0.N) (j : Fin 1024) : (iblk m c 3 t : FVec Ideal S1x1024 .f32) (ix2 0 j) = m (c.tc.loc main_arg3) (ix2 0 j) := by
  refine Eq.trans ?_ (congrFun (V_main_arg3 m c) _)
  blk_point [iblk, idx t]

/-- One row of the gated product with the down projection's weights. -/
def O (g u : Fin 2816 → EReal) (w : Fin 2816 → Fin 1024 → EReal) (j : Fin 1024) : EReal :=
  ∑ k : Fin 2816, g k * Silu.sig (g k) * u k * w k j

/-- One row after the normalisation and the residual. -/
def Y (o x g : Fin 1024 → EReal) (j : Fin 1024) : EReal :=
  x j + Ideal.ofBits .f32 0x3F000000#32 * (o j * Ideal.rsqrt (Ideal.div (∑ k : Fin 1024, o k * o k) (Ideal.ofBits .f32 0x44800000#32) + Ideal.ofBits .f32 0x358637BD#32) * g j)

theorem pay2_at (x0 : FVec Ideal S512x5632 .bf16) (x1 : FVec Ideal S2816x1024 .bf16) (r : Fin 512) (j : Fin 1024) :
    (k0_pay2 (F := Ideal) (View.ld x0 r0_0) (View.ld x0 r0_1) (View.ld x1 r0_2) (View.ld x0 r0_3) (View.ld x0 r0_4) (View.ld x1 r0_5) (ix2 r j) : EReal)
      = O (fun k => x0 (ix2 r ⟨k.val, by omega⟩)) (fun k => x0 (ix2 r ⟨2816 + k.val, by omega⟩)) (fun k j => x1 (ix2 k j)) j := by
  unfold O
  rw [← Silu.sum_halves]
  pointwise [k0_pay2]
  simp only [Silu.sig_tanh']
  refine congrArg₂ (· + ·) rfl (Finset.sum_congr rfl fun k _ => ?_)
  refine congrArg₂ (· * ·) (congrArg₂ (· * ·) rfl (congrArg x0 (congrArg (ix2 r) (Fin.ext ?_)))) rfl
  show 4224 + k.val = 2816 + (1408 + k.val)
  omega

theorem pay1_at (o p : FVec Ideal S512x1024 .f32) (hp : ∀ i, (p i : EReal) = (o i : EReal) * (o i : EReal)) (x : FVec Ideal S512x1024 .f32) (g : FVec Ideal S1x1024 .f32) (r : Fin 512) (j : Fin 1024) :
    (k0_pay1 (F := Ideal) o p x g (ix2 r j) : EReal) = Y (fun k => o (ix2 r k)) (fun k => x (ix2 r k)) (fun k => g (ix2 0 k)) j := by
  unfold Y
  pointwise [k0_pay1]
  simp only [hp]

theorem ref5_at (x0 : FVec Ideal S16384x5632 .bf16) (x1 : FVec Ideal S2816x1024 .f32) (r : Fin 16384) (j : Fin 1024) :
    (val_main_v5 (F := Ideal) x0 x1 (ix2 r j) : EReal)
      = O (fun k => x0 (ix2 r ⟨k.val, by omega⟩)) (fun k => x0 (ix2 r ⟨2816 + k.val, by omega⟩)) (fun k j => x1 (ix2 k j)) j := by
  unfold O Silu.sig
  pointwise [val_main_v5, val_main_v4, val_main_v3, val_main_v2, val_main_v1, val_main_v0, val_main_call0_v0, val_main_call0_v1, val_main_call0_v2, val_main_call0_v3, val_main_call0_v4, val_main_call0_v5, val_main_call0_cst, val_main_call0_cst_0]

theorem ref22_at (x0 : FVec Ideal S16384x5632 .bf16) (x1 : FVec Ideal S2816x1024 .f32) (x2 : FVec Ideal S16384x1024 .f32) (x3 : FVec Ideal S1x1024 .f32) (r : Fin 16384) (j : Fin 1024) :
    (val_main_v22 (F := Ideal) x0 x1 x2 x3 (ix2 r j) : EReal)
      = Y (fun k => val_main_v5 (F := Ideal) x0 x1 (ix2 r k)) (fun k => x2 (ix2 r k)) (fun k => x3 (ix2 0 k)) j := by
  unfold Y
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2]

theorem out4_at (x0 : FVec Ideal S512x5632 .bf16) (x1 : FVec Ideal S2816x1024 .bf16) (x2 : FVec Ideal S512x1024 .f32) (x3 : FVec Ideal S1x1024 .f32) (r : Fin 512) (j : Fin 1024) :
    (out0_4 (F := Ideal) x0 x1 x2 x3 (ix2 r j) : EReal) = Y (O (fun k => x0 (ix2 r ⟨k.val, by omega⟩)) (fun k => x0 (ix2 r ⟨2816 + k.val, by omega⟩)) (fun k j => x1 (ix2 k j))) (fun k => x2 (ix2 r k)) (fun k => x3 (ix2 0 k)) j := by
  unfold out0_4
  refine (congrFun (View.canon_cons_unit_lit (S := S512x1024) inb_S512x1024_S512x1024_0_0 _ [] (by decide)) _).trans ?_
  refine (pay1_at _ _ (fun i => by pointwise [k0_pay4]) _ _ r j).trans ?_
  unfold Y
  simp only [pay2_at]
  pointwise

theorem out5_at (x0 : FVec Ideal S512x5632 .bf16) (x1 : FVec Ideal S2816x1024 .bf16) (x2 : FVec Ideal S512x1024 .f32) (x3 : FVec Ideal S1x1024 .f32) (r : Fin 512) (j : Fin 1024) :
    (out0_5 (F := Ideal) x0 x1 x2 x3 (ix2 r j) : EReal) = O (fun k => x0 (ix2 r ⟨k.val, by omega⟩)) (fun k => x0 (ix2 r ⟨2816 + k.val, by omega⟩)) (fun k j => x1 (ix2 k j)) j := by
  unfold out0_5
  refine (congrFun (View.canon_cons_unit_lit (S := S512x1024) inb_S512x1024_S512x1024_0_0 _ [] (by decide)) _).trans ?_
  exact pay2_at _ _ r j

theorem final0 : (dats m 0 c).arrAt 4 (cfgs 0).N = val_main_v22 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hl := lt32 t
  have hy : (win0_4.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, out0_4 (iblk m c 0 t) (iblk m c 1 t) (iblk m c 2 t) (iblk m c 3 t) y = val_main_v22 (F := Ideal) (m (c.tc.loc main_arg0)) (m (c.tc.loc main_arg1)) (m (c.tc.loc main_arg2)) (m (c.tc.loc main_arg3)) (ix2 ⟨512 * t.val + (y 0).val, by have : (y 0).val < 512 := (y 0).isLt; omega⟩ (y 1)) := by
    intro y
    idx_vars y
    refine (out4_at _ _ _ _ y0 y1).trans ((ref22_at _ _ _ _ _ y1).trans ?_).symm
    simp only [ref5_at]
    congr 1
    · funext k; congr 1
      · funext k; exact (x0_at m c t y0 _).symm
      · funext k; exact (x0_at m c t y0 _).symm
      · funext k j; exact (x1_at m c t k j).symm
    · funext k; exact (x2_at m c t y0 k).symm
    · funext k; exact (x3_at m c t k).symm
  refine Eq.trans ?_ ((key y).trans (congrArg _ hy.symm))
  blk_simp
  rw [after0_4]

theorem final1 : (dats m 0 c).arrAt 5 (cfgs 0).N = val_main_v23 (F := Ideal) (m (c.tc.loc main_arg0)) (m (c.tc.loc main_arg1)) := by
  refine (dats m 0 c).arrAt_eq_of_covers 5 _ (by decide +kernel) fun t hf y => ?_
  have hl := lt32 t
  have hy : (win0_5.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, out0_5 (iblk m c 0 t) (iblk m c 1 t) (iblk m c 2 t) (iblk m c 3 t) y = val_main_v23 (F := Ideal) (m (c.tc.loc main_arg0)) (m (c.tc.loc main_arg1)) (ix2 ⟨512 * t.val + (y 0).val, by have : (y 0).val < 512 := (y 0).isLt; omega⟩ (y 1)) := by
    intro y
    idx_vars y
    refine (out5_at _ _ _ _ y0 y1).trans ((ref5_at _ _ _ y1).trans ?_).symm
    congr 1
    · funext k; exact (x0_at m c t y0 _).symm
    · funext k; exact (x0_at m c t y0 _).symm
    · funext k j; exact (x1_at m c t k j).symm
  refine Eq.trans ?_ ((key y).trans (congrArg _ hy.symm))
  blk_simp
  rw [after0_5]

theorem algebraic : Cert.algebraic_DownIdeal_DownRefIdeal := by
  intro m g m' g' _ ha
  refine ⟨_, _, Cert.DownIdeal.Value.run_blocks m g, ?_⟩
  refine (θ_run Cert.DownRefIdeal.defs _ _).mono (fun r h c => ?_) (Cert.DownRefIdeal.Value.run m' g')
  obtain ⟨e0, e1, e2, e3⟩ := ha c
  obtain ⟨k0, k1, ka⟩ := h c
  refine ⟨k0.trans ((val_main_v22_eq _ _ _ _).trans ?_), k1.trans ((val_main_v23_eq _ _).trans ?_), ka⟩
  · rw [e0, e1, e2, e3]
    exact (final0 m c).symm
  · rw [e0, e1]
    exact (final1 m c).symm

end Cert.VDown

end
-- ==== Proof.V.Cols.lean ====
/- Stores of a run of columns of a matrix, read back. -/
module

public import Idealize.ShloMosaic.Lib.Claim
public import Idealize.ShloMosaic.Lib.Pointwise
public import Idealize.ShloMosaic.Lib.Pipeline.ValueKit

@[expose] public section

noncomputable section

namespace Cert.Cols

open Idealize.ShloMosaic Idealize.ShloMosaic.TcCoe Idealize.ShloMosaic.Tactic Idealize.SL.Sem

variable {R C W : ℕ} {e : EltTy}

theorem emb_col (o : ℕ) (inb) (i : Fin R) (q : Fin W) (h : o + q.val < C) :
    (Rect.unit (s := (⟨2, ![R, C]⟩ : Shape)) ![0, o] ![R, W] inb).emb (ix2 i q) = ix2 i ⟨o + q.val, h⟩ := by
  funext a
  apply Fin.ext
  match a with
  | ⟨0, _⟩ => show 0 + 1 * i.val = i.val; omega
  | ⟨1, _⟩ => show o + 1 * q.val = o + q.val; omega

theorem not_mem_col (o : ℕ) (inb) (i : Fin R) (j : Fin C) (hn : ¬(o ≤ j.val ∧ j.val < o + W)) :
    (ix2 i j : (⟨2, ![R, C]⟩ : Shape).Idx) ∉ (Rect.unit (s := (⟨2, ![R, C]⟩ : Shape)) ![0, o] ![R, W] inb).set := by
  rw [Rect.mem_set_unit]
  intro hm
  have h1 := hm 1
  exact hn ⟨h1.1, h1.2⟩

/-- A run of columns stored over others: where it fell the run, elsewhere what was there. -/
theorem canon_col (o : ℕ) (inb) (pay : (⟨2, ![R, W]⟩ : Shape).Idx → Elt Ideal e) (L : List (View.Piece (Elt Ideal) (⟨2, ![R, C]⟩ : Shape) e)) (i : Fin R) (j : Fin C) (G : Fin C → Elt Ideal e)
    (hin : ∀ (q : Fin W) (h : o + q.val < C), pay (ix2 i q) = G ⟨o + q.val, h⟩)
    (hout : ¬(o ≤ j.val ∧ j.val < o + W) → View.canon (Val := Elt Ideal) (s := (⟨2, ![R, C]⟩ : Shape)) (e := e) L (ix2 i j) = G j) :
    View.canon (Val := Elt Ideal) (s := (⟨2, ![R, C]⟩ : Shape)) (e := e) (⟨Rect.unit ![0, o] ![R, W] inb, pay⟩ :: L) (ix2 i j) = G j := by
  by_cases h : o ≤ j.val ∧ j.val < o + W
  · have e0 : o + (j.val - o) = j.val := by omega
    have hw : j.val - o < W := by omega
    have hc : o + (j.val - o) < C := e0.symm ▸ j.isLt
    have hj : j = ⟨o + (⟨j.val - o, hw⟩ : Fin W).val, hc⟩ := Fin.ext e0.symm
    have main : ∀ (q : Fin W) (hq : o + q.val < C), View.canon (Val := Elt Ideal) (s := (⟨2, ![R, C]⟩ : Shape)) (e := e) (⟨Rect.unit ![0, o] ![R, W] inb, pay⟩ :: L) (ix2 i ⟨o + q.val, hq⟩) = G ⟨o + q.val, hq⟩ := by
      intro q hq
      rw [← hin q hq, ← emb_col (W := W) o inb i q hq]
      exact View.canon_cons_emb _ _ _ _
    exact (congrArg (fun x : Fin C => View.canon (Val := Elt Ideal) (s := (⟨2, ![R, C]⟩ : Shape)) (e := e) (⟨Rect.unit ![0, o] ![R, W] inb, pay⟩ :: L) (ix2 i x)) hj).trans ((main ⟨j.val - o, hw⟩ hc).trans (congrArg G hj.symm))
  · have hm := not_mem_col (R := R) (C := C) (W := W) o inb i j h
    rw [← hout h]
    exact View.canon_cons_of_not_mem (Val := Elt Ideal) (s := (⟨2, ![R, C]⟩ : Shape)) (e := e) ⟨Rect.unit ![0, o] ![R, W] inb, pay⟩ L hm

end Cert.Cols
-- ==== Proof.V.Hid.lean ====
/- The feed-forward's hidden derivative: through the post-norm, the down projection transposed and the gate, block by block of the tokens. -/
module

public import proofs.«01_k».proof.Defs
public import proofs.«01_k».proof.Proof.Gen.HidIdeal.Value
public import proofs.«01_k».proof.Proof.Gen.HidIdeal
public import proofs.«01_k».proof.Proof.Gen.HidRefIdeal
public import proofs.«01_k».proof.Proof.Gen.HidRefIdeal.Run
public import proofs.«01_k».proof.Proof.Gen.HidRefIdeal.Read
public import proofs.«01_k».proof.Proof.V.Slab
public import proofs.«01_k».proof.Proof.V.Silu
public import proofs.«01_k».proof.Proof.V.Rms
public import proofs.«01_k».proof.Proof.V.Cols
public import proofs.«01_k».proof.Pre_finite_hid
public import proofs.«01_k».proof.Proof.Sgu.Finite
public import Idealize.ShloMosaic.Lib.Claim
public import Idealize.ShloMosaic.Lib.Pointwise
public import Idealize.ShloMosaic.Lib.Pipeline.ValueKit

@[expose] public section

set_option maxRecDepth 16384

noncomputable section

namespace Cert.VHid

open Cert.HidIdeal Cert.HidIdeal.Gen Cert.HidRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V7 : (V m c main_v7 : S2816x1024.Idx → EReal) = m (c.tc.loc main_arg2) := by
  unfold V; simp only [List.flatten_cons, List.flatten_nil, List.append_nil, List.cons_append, List.nil_append]; after_results_simp; rfl

theorem V6 : (V m c main_v6 : S16384x1024.Idx → EReal) = val_main_v5 (F := Ideal) (m (c.tc.loc main_arg1)) (m (c.tc.loc main_arg2)) := by
  unfold V; simp only [List.flatten_cons, List.flatten_nil, List.append_nil, List.cons_append, List.nil_append]; after_results_simp; rfl

theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

theorem lt32 (t : Fin cfg0.N) : t.val < 32 := (by decide +kernel : cfg0.N = 32) ▸ t.isLt

theorem x0_at (t : Fin cfg0.N) (r : Fin 512) (k : Fin 1024) : (iblk m c 0 t : FVec Ideal S512x1024 .f32) (ix2 r k) = m (c.tc.loc main_arg0) (ix2 ⟨512 * t.val + r.val, by have := lt32 t; omega⟩ k) := by
  refine Eq.trans ?_ (congrFun (V_main_arg0 m c) _)
  blk_point [iblk, idx t]

/-- The gated product's rows times the down projection, which the host computes on both sides. -/
abbrev O : FVec Ideal Cert.HidRefIdeal.S16384x1024 .f32 := val_main_v5 (F := Ideal) (m (c.tc.loc main_arg1)) (m (c.tc.loc main_arg2))

theorem x1_at (t : Fin cfg0.N) (r : Fin 512) (k : Fin 1024) : (iblk m c 1 t : FVec Ideal S512x1024 .bf16) (ix2 r k) = O m c (ix2 ⟨512 * t.val + r.val, by have := lt32 t; omega⟩ k) := by
  refine Eq.trans ?_ (congrFun (V6 m c) _)
  blk_point [iblk, idx t]

theorem x2_at (t : Fin cfg0.N) (j : Fin 1024) : (iblk m c 2 t : FVec Ideal S1x1024 .f32) (ix2 0 j) = m (c.tc.loc main_arg3) (ix2 0 j) := by
  refine Eq.trans ?_ (congrFun (V_main_arg3 m c) _)
  blk_point [iblk, idx t]

theorem x3_at (t : Fin cfg0.N) (r : Fin 512) (k : Fin 5632) : (iblk m c 3 t : FVec Ideal S512x5632 .bf16) (ix2 r k) = m (c.tc.loc main_arg1) (ix2 ⟨512 * t.val + r.val, by have := lt32 t; omega⟩ k) := by
  refine Eq.trans ?_ (congrFun (V_main_arg1 m c) _)
  blk_point [iblk, idx t]

theorem x4_at (t : Fin cfg0.N) (a : Fin 2816) (b : Fin 1024) : (iblk m c 4 t : FVec Ideal S2816x1024 .bf16) (ix2 a b) = m (c.tc.loc main_arg2) (ix2 a b) := by
  refine Eq.trans ?_ (congrFun (V7 m c) _)
  blk_point [iblk, idx t]

/-- One row of the hidden derivative from the derivative `dd` of the down projection's row: its gated half and its other half. -/
def G (dd : Fin 1024 → EReal) (a : Fin 5632 → EReal) (w : Fin 2816 → Fin 1024 → EReal) (j : Fin 5632) : EReal :=
  if h : j.val < 2816 then
    (∑ k : Fin 1024, dd k * w ⟨j.val, h⟩ k) * a ⟨2816 + j.val, by omega⟩ * (Silu.sig (a j) + a j * Silu.sig (a j) * (1 - Silu.sig (a j)))
  else (∑ k : Fin 1024, dd k * w ⟨j.val - 2816, by omega⟩ k) * (a ⟨j.val - 2816, by omega⟩ * Silu.sig (a ⟨j.val - 2816, by omega⟩))

theorem do_at (o : FVec Ideal S512x1024 .bf16) (g : FVec Ideal S1x1024 .f32) (y : FVec Ideal S512x1024 .f32) (r : Fin 512) (j : Fin 1024) :
    (k0_pay7 (F := Ideal) o g y (ix2 r j) : EReal) = Rms.K (fun k => o (ix2 r k)) (fun k => Ideal.ofBits .f32 0x3F000000#32 * (y (ix2 r k) : EReal) * (g (ix2 0 k) : EReal)) j := by
  unfold Rms.K Rms.rs Rms.ms
  pointwise [k0_pay7, k0_pay3, k0_pay4, k0_pay5, k0_pay6]

theorem dg_at' (o : FVec Ideal S512x1024 .bf16) (y : FVec Ideal S512x1024 .f32) (v : FVec Ideal S1x1024 .f32) (j : Fin 1024) :
    (k0_pay8 (F := Ideal) o y v (ix2 0 j) : EReal) = (v (ix2 0 j) : EReal) + ∑ r : Fin 512, Ideal.ofBits .f32 0x3F000000#32 * (y (ix2 r j) : EReal) * ((o (ix2 r j) : EReal) * Rms.rs (fun k => o (ix2 r k))) := by
  unfold Rms.rs Rms.ms
  pointwise [k0_pay8, k0_pay3, k0_pay4, k0_pay5, k0_pay6]

theorem G_lo (dd : Fin 1024 → EReal) (a : Fin 5632 → EReal) (w : Fin 2816 → Fin 1024 → EReal) (j : Fin 5632) (p : Fin 2816) (b : Fin 5632) (hp : p.val = j.val) (hb : b.val = 2816 + j.val) :
    G dd a w j = (∑ k : Fin 1024, dd k * w p k) * a b * (Silu.sig (a j) + a j * Silu.sig (a j) * (1 - Silu.sig (a j))) := by
  have h : j.val < 2816 := hp ▸ p.isLt
  refine (dif_pos h).trans ?_
  have e1 : (⟨j.val, h⟩ : Fin 2816) = p := Fin.ext hp.symm
  have e2 : (⟨2816 + j.val, by omega⟩ : Fin 5632) = b := Fin.ext hb.symm
  rw [e1, e2]

theorem G_hi (dd : Fin 1024 → EReal) (a : Fin 5632 → EReal) (w : Fin 2816 → Fin 1024 → EReal) (j : Fin 5632) (p : Fin 2816) (b : Fin 5632) (hp : 2816 + p.val = j.val) (hb : 2816 + b.val = j.val) :
    G dd a w j = (∑ k : Fin 1024, dd k * w p k) * (a b * Silu.sig (a b)) := by
  have h : ¬j.val < 2816 := by omega
  refine (dif_neg h).trans ?_
  have e1 : (⟨j.val - 2816, by omega⟩ : Fin 2816) = p := Fin.ext (by show j.val - 2816 = p.val; omega)
  have e2 : (⟨j.val - 2816, by omega⟩ : Fin 5632) = b := Fin.ext (by show j.val - 2816 = b.val; omega)
  rw [e1, e2]

theorem outA5 (i : grid0.Coords) (arg1 harg1 arg2 harg2 arg3 harg3 arg4 harg4 arg5 harg5 arg6 harg6 arg7 harg7 arg8 harg8) (hc0 : cond0_0 i) (x0 : FVec Ideal S512x1024 .f32) (x1 : FVec Ideal S512x1024 .bf16) (x2 : FVec Ideal S1x1024 .f32) (x3 : FVec Ideal S512x5632 .bf16) (x4 : FVec Ideal S2816x1024 .bf16) (r : Fin 512) (j : Fin 5632) :
    (out0_A_5 (F := Ideal) c i arg1 harg1 arg2 harg2 arg3 harg3 arg4 harg4 arg5 harg5 arg6 harg6 arg7 harg7 arg8 harg8 hc0 x0 x1 x2 x3 x4 (ix2 r j) : EReal)
      = G (fun k => k0_pay7 (F := Ideal) x1 x2 x0 (ix2 r k)) (fun k => x3 (ix2 r k)) (fun a b => x4 (ix2 a b)) j := by
  unfold out0_A_5
  frame_out
  generalize k0_pay7 (F := Ideal) x1 x2 x0 = D
  refine Cols.canon_col 5376 _ _ _ r j _ (fun q h => Eq.trans ?_ (G_hi _ _ _ _ ⟨2560 + q.val, by omega⟩ ⟨2560 + q.val, by omega⟩ (by show 2816 + (2560 + q.val) = 5376 + q.val; omega) (by show 2816 + (2560 + q.val) = 5376 + q.val; omega)).symm) (fun h5376 => ?_)
  rotate_left
  refine Cols.canon_col 2560 _ _ _ r j _ (fun q h => Eq.trans ?_ (G_lo _ _ _ _ ⟨2560 + q.val, by omega⟩ ⟨5376 + q.val, by omega⟩ rfl (by show 5376 + q.val = 2816 + (2560 + q.val); omega)).symm) (fun h2560 => ?_)
  rotate_left
  refine Cols.canon_col 5120 _ _ _ r j _ (fun q h => Eq.trans ?_ (G_hi _ _ _ _ ⟨2304 + q.val, by omega⟩ ⟨2304 + q.val, by omega⟩ (by show 2816 + (2304 + q.val) = 5120 + q.val; omega) (by show 2816 + (2304 + q.val) = 5120 + q.val; omega)).symm) (fun h5120 => ?_)
  rotate_left
  refine Cols.canon_col 2304 _ _ _ r j _ (fun q h => Eq.trans ?_ (G_lo _ _ _ _ ⟨2304 + q.val, by omega⟩ ⟨5120 + q.val, by omega⟩ rfl (by show 5120 + q.val = 2816 + (2304 + q.val); omega)).symm) (fun h2304 => ?_)
  rotate_left
  refine Cols.canon_col 4864 _ _ _ r j _ (fun q h => Eq.trans ?_ (G_hi _ _ _ _ ⟨2048 + q.val, by omega⟩ ⟨2048 + q.val, by omega⟩ (by show 2816 + (2048 + q.val) = 4864 + q.val; omega) (by show 2816 + (2048 + q.val) = 4864 + q.val; omega)).symm) (fun h4864 => ?_)
  rotate_left
  refine Cols.canon_col 2048 _ _ _ r j _ (fun q h => Eq.trans ?_ (G_lo _ _ _ _ ⟨2048 + q.val, by omega⟩ ⟨4864 + q.val, by omega⟩ rfl (by show 4864 + q.val = 2816 + (2048 + q.val); omega)).symm) (fun h2048 => ?_)
  rotate_left
  refine Cols.canon_col 4608 _ _ _ r j _ (fun q h => Eq.trans ?_ (G_hi _ _ _ _ ⟨1792 + q.val, by omega⟩ ⟨1792 + q.val, by omega⟩ (by show 2816 + (1792 + q.val) = 4608 + q.val; omega) (by show 2816 + (1792 + q.val) = 4608 + q.val; omega)).symm) (fun h4608 => ?_)
  rotate_left
  refine Cols.canon_col 1792 _ _ _ r j _ (fun q h => Eq.trans ?_ (G_lo _ _ _ _ ⟨1792 + q.val, by omega⟩ ⟨4608 + q.val, by omega⟩ rfl (by show 4608 + q.val = 2816 + (1792 + q.val); omega)).symm) (fun h1792 => ?_)
  rotate_left
  refine Cols.canon_col 4352 _ _ _ r j _ (fun q h => Eq.trans ?_ (G_hi _ _ _ _ ⟨1536 + q.val, by omega⟩ ⟨1536 + q.val, by omega⟩ (by show 2816 + (1536 + q.val) = 4352 + q.val; omega) (by show 2816 + (1536 + q.val) = 4352 + q.val; omega)).symm) (fun h4352 => ?_)
  rotate_left
  refine Cols.canon_col 1536 _ _ _ r j _ (fun q h => Eq.trans ?_ (G_lo _ _ _ _ ⟨1536 + q.val, by omega⟩ ⟨4352 + q.val, by omega⟩ rfl (by show 4352 + q.val = 2816 + (1536 + q.val); omega)).symm) (fun h1536 => ?_)
  rotate_left
  refine Cols.canon_col 4096 _ _ _ r j _ (fun q h => Eq.trans ?_ (G_hi _ _ _ _ ⟨1280 + q.val, by omega⟩ ⟨1280 + q.val, by omega⟩ (by show 2816 + (1280 + q.val) = 4096 + q.val; omega) (by show 2816 + (1280 + q.val) = 4096 + q.val; omega)).symm) (fun h4096 => ?_)
  rotate_left
  refine Cols.canon_col 1280 _ _ _ r j _ (fun q h => Eq.trans ?_ (G_lo _ _ _ _ ⟨1280 + q.val, by omega⟩ ⟨4096 + q.val, by omega⟩ rfl (by show 4096 + q.val = 2816 + (1280 + q.val); omega)).symm) (fun h1280 => ?_)
  rotate_left
  refine Cols.canon_col 3840 _ _ _ r j _ (fun q h => Eq.trans ?_ (G_hi _ _ _ _ ⟨1024 + q.val, by omega⟩ ⟨1024 + q.val, by omega⟩ (by show 2816 + (1024 + q.val) = 3840 + q.val; omega) (by show 2816 + (1024 + q.val) = 3840 + q.val; omega)).symm) (fun h3840 => ?_)
  rotate_left
  refine Cols.canon_col 1024 _ _ _ r j _ (fun q h => Eq.trans ?_ (G_lo _ _ _ _ ⟨1024 + q.val, by omega⟩ ⟨3840 + q.val, by omega⟩ rfl (by show 3840 + q.val = 2816 + (1024 + q.val); omega)).symm) (fun h1024 => ?_)
  rotate_left
  refine Cols.canon_col 3584 _ _ _ r j _ (fun q h => Eq.trans ?_ (G_hi _ _ _ _ ⟨768 + q.val, by omega⟩ ⟨768 + q.val, by omega⟩ (by show 2816 + (768 + q.val) = 3584 + q.val; omega) (by show 2816 + (768 + q.val) = 3584 + q.val; omega)).symm) (fun h3584 => ?_)
  rotate_left
  refine Cols.canon_col 768 _ _ _ r j _ (fun q h => Eq.trans ?_ (G_lo _ _ _ _ ⟨768 + q.val, by omega⟩ ⟨3584 + q.val, by omega⟩ rfl (by show 3584 + q.val = 2816 + (768 + q.val); omega)).symm) (fun h768 => ?_)
  rotate_left
  refine Cols.canon_col 3328 _ _ _ r j _ (fun q h => Eq.trans ?_ (G_hi _ _ _ _ ⟨512 + q.val, by omega⟩ ⟨512 + q.val, by omega⟩ (by show 2816 + (512 + q.val) = 3328 + q.val; omega) (by show 2816 + (512 + q.val) = 3328 + q.val; omega)).symm) (fun h3328 => ?_)
  rotate_left
  refine Cols.canon_col 512 _ _ _ r j _ (fun q h => Eq.trans ?_ (G_lo _ _ _ _ ⟨512 + q.val, by omega⟩ ⟨3328 + q.val, by omega⟩ rfl (by show 3328 + q.val = 2816 + (512 + q.val); omega)).symm) (fun h512 => ?_)
  rotate_left
  refine Cols.canon_col 3072 _ _ _ r j _ (fun q h => Eq.trans ?_ (G_hi _ _ _ _ ⟨256 + q.val, by omega⟩ ⟨256 + q.val, by omega⟩ (by show 2816 + (256 + q.val) = 3072 + q.val; omega) (by show 2816 + (256 + q.val) = 3072 + q.val; omega)).symm) (fun h3072 => ?_)
  rotate_left
  refine Cols.canon_col 256 _ _ _ r j _ (fun q h => Eq.trans ?_ (G_lo _ _ _ _ ⟨256 + q.val, by omega⟩ ⟨3072 + q.val, by omega⟩ rfl (by show 3072 + q.val = 2816 + (256 + q.val); omega)).symm) (fun h256 => ?_)
  rotate_left
  refine Cols.canon_col 2816 _ _ _ r j _ (fun q h => Eq.trans ?_ (G_hi _ _ _ _ ⟨0 + q.val, by omega⟩ ⟨0 + q.val, by omega⟩ (by show 2816 + (0 + q.val) = 2816 + q.val; omega) (by show 2816 + (0 + q.val) = 2816 + q.val; omega)).symm) (fun h2816 => ?_)
  rotate_left
  refine Cols.canon_col 0 _ _ _ r j _ (fun q h => Eq.trans ?_ (G_lo _ _ _ _ ⟨0 + q.val, by omega⟩ ⟨2816 + q.val, by omega⟩ rfl (by show 2816 + q.val = 2816 + (0 + q.val); omega)).symm) (fun h0 => ?_)
  rotate_left
  omega
  all_goals (pointwise [k0_pay1, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]; simp only [Silu.sig_tanh'])

theorem outB5 (i : grid0.Coords) (arg1 harg1 arg2 harg2 arg3 harg3 arg4 harg4 arg5 harg5 arg6 harg6 arg7 harg7 arg8 harg8) (hc0 : ¬cond0_0 i) (x0 : FVec Ideal S512x1024 .f32) (x1 : FVec Ideal S512x1024 .bf16) (x2 : FVec Ideal S1x1024 .f32) (x3 : FVec Ideal S512x5632 .bf16) (x4 : FVec Ideal S2816x1024 .bf16) (xo : FVec Ideal S1x1024 .f32) (r : Fin 512) (j : Fin 5632) :
    (out0_B_5 (F := Ideal) c i arg1 harg1 arg2 harg2 arg3 harg3 arg4 harg4 arg5 harg5 arg6 harg6 arg7 harg7 arg8 harg8 hc0 x0 x1 x2 x3 x4 xo (ix2 r j) : EReal)
      = G (fun k => k0_pay7 (F := Ideal) x1 x2 x0 (ix2 r k)) (fun k => x3 (ix2 r k)) (fun a b => x4 (ix2 a b)) j := by
  unfold out0_B_5
  frame_out
  generalize k0_pay7 (F := Ideal) x1 x2 x0 = D
  refine Cols.canon_col 5376 _ _ _ r j _ (fun q h => Eq.trans ?_ (G_hi _ _ _ _ ⟨2560 + q.val, by omega⟩ ⟨2560 + q.val, by omega⟩ (by show 2816 + (2560 + q.val) = 5376 + q.val; omega) (by show 2816 + (2560 + q.val) = 5376 + q.val; omega)).symm) (fun h5376 => ?_)
  rotate_left
  refine Cols.canon_col 2560 _ _ _ r j _ (fun q h => Eq.trans ?_ (G_lo _ _ _ _ ⟨2560 + q.val, by omega⟩ ⟨5376 + q.val, by omega⟩ rfl (by show 5376 + q.val = 2816 + (2560 + q.val); omega)).symm) (fun h2560 => ?_)
  rotate_left
  refine Cols.canon_col 5120 _ _ _ r j _ (fun q h => Eq.trans ?_ (G_hi _ _ _ _ ⟨2304 + q.val, by omega⟩ ⟨2304 + q.val, by omega⟩ (by show 2816 + (2304 + q.val) = 5120 + q.val; omega) (by show 2816 + (2304 + q.val) = 5120 + q.val; omega)).symm) (fun h5120 => ?_)
  rotate_left
  refine Cols.canon_col 2304 _ _ _ r j _ (fun q h => Eq.trans ?_ (G_lo _ _ _ _ ⟨2304 + q.val, by omega⟩ ⟨5120 + q.val, by omega⟩ rfl (by show 5120 + q.val = 2816 + (2304 + q.val); omega)).symm) (fun h2304 => ?_)
  rotate_left
  refine Cols.canon_col 4864 _ _ _ r j _ (fun q h => Eq.trans ?_ (G_hi _ _ _ _ ⟨2048 + q.val, by omega⟩ ⟨2048 + q.val, by omega⟩ (by show 2816 + (2048 + q.val) = 4864 + q.val; omega) (by show 2816 + (2048 + q.val) = 4864 + q.val; omega)).symm) (fun h4864 => ?_)
  rotate_left
  refine Cols.canon_col 2048 _ _ _ r j _ (fun q h => Eq.trans ?_ (G_lo _ _ _ _ ⟨2048 + q.val, by omega⟩ ⟨4864 + q.val, by omega⟩ rfl (by show 4864 + q.val = 2816 + (2048 + q.val); omega)).symm) (fun h2048 => ?_)
  rotate_left
  refine Cols.canon_col 4608 _ _ _ r j _ (fun q h => Eq.trans ?_ (G_hi _ _ _ _ ⟨1792 + q.val, by omega⟩ ⟨1792 + q.val, by omega⟩ (by show 2816 + (1792 + q.val) = 4608 + q.val; omega) (by show 2816 + (1792 + q.val) = 4608 + q.val; omega)).symm) (fun h4608 => ?_)
  rotate_left
  refine Cols.canon_col 1792 _ _ _ r j _ (fun q h => Eq.trans ?_ (G_lo _ _ _ _ ⟨1792 + q.val, by omega⟩ ⟨4608 + q.val, by omega⟩ rfl (by show 4608 + q.val = 2816 + (1792 + q.val); omega)).symm) (fun h1792 => ?_)
  rotate_left
  refine Cols.canon_col 4352 _ _ _ r j _ (fun q h => Eq.trans ?_ (G_hi _ _ _ _ ⟨1536 + q.val, by omega⟩ ⟨1536 + q.val, by omega⟩ (by show 2816 + (1536 + q.val) = 4352 + q.val; omega) (by show 2816 + (1536 + q.val) = 4352 + q.val; omega)).symm) (fun h4352 => ?_)
  rotate_left
  refine Cols.canon_col 1536 _ _ _ r j _ (fun q h => Eq.trans ?_ (G_lo _ _ _ _ ⟨1536 + q.val, by omega⟩ ⟨4352 + q.val, by omega⟩ rfl (by show 4352 + q.val = 2816 + (1536 + q.val); omega)).symm) (fun h1536 => ?_)
  rotate_left
  refine Cols.canon_col 4096 _ _ _ r j _ (fun q h => Eq.trans ?_ (G_hi _ _ _ _ ⟨1280 + q.val, by omega⟩ ⟨1280 + q.val, by omega⟩ (by show 2816 + (1280 + q.val) = 4096 + q.val; omega) (by show 2816 + (1280 + q.val) = 4096 + q.val; omega)).symm) (fun h4096 => ?_)
  rotate_left
  refine Cols.canon_col 1280 _ _ _ r j _ (fun q h => Eq.trans ?_ (G_lo _ _ _ _ ⟨1280 + q.val, by omega⟩ ⟨4096 + q.val, by omega⟩ rfl (by show 4096 + q.val = 2816 + (1280 + q.val); omega)).symm) (fun h1280 => ?_)
  rotate_left
  refine Cols.canon_col 3840 _ _ _ r j _ (fun q h => Eq.trans ?_ (G_hi _ _ _ _ ⟨1024 + q.val, by omega⟩ ⟨1024 + q.val, by omega⟩ (by show 2816 + (1024 + q.val) = 3840 + q.val; omega) (by show 2816 + (1024 + q.val) = 3840 + q.val; omega)).symm) (fun h3840 => ?_)
  rotate_left
  refine Cols.canon_col 1024 _ _ _ r j _ (fun q h => Eq.trans ?_ (G_lo _ _ _ _ ⟨1024 + q.val, by omega⟩ ⟨3840 + q.val, by omega⟩ rfl (by show 3840 + q.val = 2816 + (1024 + q.val); omega)).symm) (fun h1024 => ?_)
  rotate_left
  refine Cols.canon_col 3584 _ _ _ r j _ (fun q h => Eq.trans ?_ (G_hi _ _ _ _ ⟨768 + q.val, by omega⟩ ⟨768 + q.val, by omega⟩ (by show 2816 + (768 + q.val) = 3584 + q.val; omega) (by show 2816 + (768 + q.val) = 3584 + q.val; omega)).symm) (fun h3584 => ?_)
  rotate_left
  refine Cols.canon_col 768 _ _ _ r j _ (fun q h => Eq.trans ?_ (G_lo _ _ _ _ ⟨768 + q.val, by omega⟩ ⟨3584 + q.val, by omega⟩ rfl (by show 3584 + q.val = 2816 + (768 + q.val); omega)).symm) (fun h768 => ?_)
  rotate_left
  refine Cols.canon_col 3328 _ _ _ r j _ (fun q h => Eq.trans ?_ (G_hi _ _ _ _ ⟨512 + q.val, by omega⟩ ⟨512 + q.val, by omega⟩ (by show 2816 + (512 + q.val) = 3328 + q.val; omega) (by show 2816 + (512 + q.val) = 3328 + q.val; omega)).symm) (fun h3328 => ?_)
  rotate_left
  refine Cols.canon_col 512 _ _ _ r j _ (fun q h => Eq.trans ?_ (G_lo _ _ _ _ ⟨512 + q.val, by omega⟩ ⟨3328 + q.val, by omega⟩ rfl (by show 3328 + q.val = 2816 + (512 + q.val); omega)).symm) (fun h512 => ?_)
  rotate_left
  refine Cols.canon_col 3072 _ _ _ r j _ (fun q h => Eq.trans ?_ (G_hi _ _ _ _ ⟨256 + q.val, by omega⟩ ⟨256 + q.val, by omega⟩ (by show 2816 + (256 + q.val) = 3072 + q.val; omega) (by show 2816 + (256 + q.val) = 3072 + q.val; omega)).symm) (fun h3072 => ?_)
  rotate_left
  refine Cols.canon_col 256 _ _ _ r j _ (fun q h => Eq.trans ?_ (G_lo _ _ _ _ ⟨256 + q.val, by omega⟩ ⟨3072 + q.val, by omega⟩ rfl (by show 3072 + q.val = 2816 + (256 + q.val); omega)).symm) (fun h256 => ?_)
  rotate_left
  refine Cols.canon_col 2816 _ _ _ r j _ (fun q h => Eq.trans ?_ (G_hi _ _ _ _ ⟨0 + q.val, by omega⟩ ⟨0 + q.val, by omega⟩ (by show 2816 + (0 + q.val) = 2816 + q.val; omega) (by show 2816 + (0 + q.val) = 2816 + q.val; omega)).symm) (fun h2816 => ?_)
  rotate_left
  refine Cols.canon_col 0 _ _ _ r j _ (fun q h => Eq.trans ?_ (G_lo _ _ _ _ ⟨0 + q.val, by omega⟩ ⟨2816 + q.val, by omega⟩ rfl (by show 2816 + q.val = 2816 + (0 + q.val); omega)).symm) (fun h0 => ?_)
  rotate_left
  omega
  all_goals (pointwise [k0_pay1, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]; simp only [Silu.sig_tanh'])

theorem outA6 (i : grid0.Coords) (arg1 harg1 arg2 harg2 arg3 harg3 arg4 harg4 arg5 harg5 arg6 harg6 arg7 harg7 arg8 harg8) (hc0 : cond0_0 i) (x0 : FVec Ideal S512x1024 .f32) (x1 : FVec Ideal S512x1024 .bf16) (x2 : FVec Ideal S1x1024 .f32) (x3 : FVec Ideal S512x5632 .bf16) (x4 : FVec Ideal S2816x1024 .bf16) (r : Fin 512) (j : Fin 1024) :
    (out0_A_6 (F := Ideal) c i arg1 harg1 arg2 harg2 arg3 harg3 arg4 harg4 arg5 harg5 arg6 harg6 arg7 harg7 arg8 harg8 hc0 x0 x1 x2 x3 x4 (ix2 r j) : EReal) = Rms.K (fun k => x1 (ix2 r k)) (fun k => Ideal.ofBits .f32 0x3F000000#32 * (x0 (ix2 r k) : EReal) * (x2 (ix2 0 k) : EReal)) j := by
  unfold out0_A_6
  frame_out
  refine Eq.trans ?_ (do_at _ _ _ r j)
  pointwise [k0_pay9]

theorem outA7 (i : grid0.Coords) (arg1 harg1 arg2 harg2 arg3 harg3 arg4 harg4 arg5 harg5 arg6 harg6 arg7 harg7 arg8 harg8) (hc0 : cond0_0 i) (x0 : FVec Ideal S512x1024 .f32) (x1 : FVec Ideal S512x1024 .bf16) (x2 : FVec Ideal S1x1024 .f32) (x3 : FVec Ideal S512x5632 .bf16) (x4 : FVec Ideal S2816x1024 .bf16) (j : Fin 1024) :
    (out0_A_7 (F := Ideal) c i arg1 harg1 arg2 harg2 arg3 harg3 arg4 harg4 arg5 harg5 arg6 harg6 arg7 harg7 arg8 harg8 hc0 x0 x1 x2 x3 x4 (ix2 0 j) : EReal)
      = 0 + ∑ r : Fin 512, Ideal.ofBits .f32 0x3F000000#32 * (x0 (ix2 r j) : EReal) * ((x1 (ix2 r j) : EReal) * Rms.rs (fun k => x1 (ix2 r k))) := by
  unfold out0_A_7
  frame_out
  refine (dg_at' _ _ _ j).trans (congrArg₂ (· + ·) (by pointwise [k0_pay2]) rfl)

theorem outB6 (i : grid0.Coords) (arg1 harg1 arg2 harg2 arg3 harg3 arg4 harg4 arg5 harg5 arg6 harg6 arg7 harg7 arg8 harg8) (hc0 : ¬cond0_0 i) (x0 : FVec Ideal S512x1024 .f32) (x1 : FVec Ideal S512x1024 .bf16) (x2 : FVec Ideal S1x1024 .f32) (x3 : FVec Ideal S512x5632 .bf16) (x4 : FVec Ideal S2816x1024 .bf16) (xo : FVec Ideal S1x1024 .f32) (r : Fin 512) (j : Fin 1024) :
    (out0_B_6 (F := Ideal) c i arg1 harg1 arg2 harg2 arg3 harg3 arg4 harg4 arg5 harg5 arg6 harg6 arg7 harg7 arg8 harg8 hc0 x0 x1 x2 x3 x4 xo (ix2 r j) : EReal) = Rms.K (fun k => x1 (ix2 r k)) (fun k => Ideal.ofBits .f32 0x3F000000#32 * (x0 (ix2 r k) : EReal) * (x2 (ix2 0 k) : EReal)) j := by
  unfold out0_B_6
  frame_out
  refine Eq.trans ?_ (do_at _ _ _ r j)
  pointwise [k0_pay9]

theorem outB7 (i : grid0.Coords) (arg1 harg1 arg2 harg2 arg3 harg3 arg4 harg4 arg5 harg5 arg6 harg6 arg7 harg7 arg8 harg8) (hc0 : ¬cond0_0 i) (x0 : FVec Ideal S512x1024 .f32) (x1 : FVec Ideal S512x1024 .bf16) (x2 : FVec Ideal S1x1024 .f32) (x3 : FVec Ideal S512x5632 .bf16) (x4 : FVec Ideal S2816x1024 .bf16) (xo : FVec Ideal S1x1024 .f32) (j : Fin 1024) :
    (out0_B_7 (F := Ideal) c i arg1 harg1 arg2 harg2 arg3 harg3 arg4 harg4 arg5 harg5 arg6 harg6 arg7 harg7 arg8 harg8 hc0 x0 x1 x2 x3 x4 xo (ix2 0 j) : EReal)
      = (xo (ix2 0 j) : EReal) + ∑ r : Fin 512, Ideal.ofBits .f32 0x3F000000#32 * (x0 (ix2 r j) : EReal) * ((x1 (ix2 r j) : EReal) * Rms.rs (fun k => x1 (ix2 r k))) := by
  unfold out0_B_7
  frame_out
  refine (dg_at' _ _ _ j).trans (congrArg₂ (· + ·) rfl rfl)

/-- The same row as the host writes it. -/
def H (dd : Fin 1024 → EReal) (a : Fin 5632 → EReal) (w : Fin 2816 → Fin 1024 → EReal) (j : Fin 5632) : EReal :=
  if h : j.val < 2816 then
    (∑ k : Fin 1024, dd k * w ⟨j.val, h⟩ k) * a ⟨2816 + j.val, by omega⟩ * Silu.sig (a j) + a j * ((∑ k : Fin 1024, dd k * w ⟨j.val, h⟩ k) * a ⟨2816 + j.val, by omega⟩) * (Silu.sig (a j) * (1 - Silu.sig (a j)))
  else a ⟨j.val - 2816, by omega⟩ * Silu.sig (a ⟨j.val - 2816, by omega⟩) * (∑ k : Fin 1024, dd k * w ⟨j.val - 2816, by omega⟩ k)

theorem G_eq (dd : Fin 1024 → EReal) (a : Fin 5632 → EReal) (w : Fin 2816 → Fin 1024 → EReal) (j : Fin 5632)
    (hd : ∀ k, ∃ r : ℝ, dd k = r) (ha : ∀ k, ∃ r : ℝ, a k = r) (hw : ∀ p k, ∃ r : ℝ, w p k = r) : G dd a w j = H dd a w j := by
  by_cases h : j.val < 2816
  · refine (dif_pos h).trans (Eq.trans ?_ (dif_pos h).symm)
    obtain ⟨s, hs⟩ : ∃ s : ℝ, (∑ k : Fin 1024, dd k * w ⟨j.val, h⟩ k) = s := Rms.real_sum _ fun k => Rms.real_mul (hd k) (hw _ k)
    obtain ⟨u, hu⟩ := ha ⟨2816 + j.val, by omega⟩
    obtain ⟨g, hg⟩ := ha j
    rw [hs, hu, hg, Silu.sig_coe]
    generalize 1 / (1 + Real.exp (-g)) = q
    norm_cast
    ring
  · refine (dif_neg h).trans (Eq.trans ?_ (dif_neg h).symm)
    exact mul_comm _ _

theorem refO_at (x0 : FVec Ideal S16384x1024 .f32) (x1 : FVec Ideal S16384x5632 .bf16) (x2 : FVec Ideal S2816x1024 .f32) (x3 : FVec Ideal S1x1024 .f32) (r : Fin 16384) (j : Fin 1024) :
    (val_main_v5 (F := Ideal) x1 x2 (ix2 r j) : EReal) = ∑ p : Fin 2816, x1 (ix2 r ⟨p.val, by omega⟩) * Silu.sig (x1 (ix2 r ⟨p.val, by omega⟩)) * x1 (ix2 r ⟨2816 + p.val, by omega⟩) * x2 (ix2 p j) := by
  unfold Silu.sig
  pointwise [val_main_v5, val_main_v4, val_main_v2, val_main_v1, val_main_v0, val_main_v3_2, val_main_v3_1, val_main_v3_0, val_main_call0_v0, val_main_call0_v1, val_main_call0_cst, val_main_call0_v2, val_main_call0_v3, val_main_call0_cst_0, val_main_call0_v4]

theorem ref46_at (x0 : FVec Ideal S16384x1024 .f32) (x1 : FVec Ideal S16384x5632 .bf16) (x2 : FVec Ideal S2816x1024 .f32) (x3 : FVec Ideal S1x1024 .f32) (r : Fin 16384) (j : Fin 1024) :
    (val_main_v46 (F := Ideal) x0 x1 x2 x3 (ix2 r j) : EReal) = Rms.K (fun k => val_main_v5 (F := Ideal) x1 x2 (ix2 r k)) (fun k => Ideal.ofBits .f32 0x3F000000#32 * (x0 (ix2 r k) : EReal) * (x3 (ix2 0 k) : EReal)) j := by
  rw [Rms.eq]
  unfold Rms.T Rms.rs Rms.ms
  generalize hd : val_main_v5 (F := Ideal) x1 x2 = d
  pointwise [val_main_v46, val_main_v45, val_main_v44, val_main_v43, val_main_v42, val_main_v41, val_main_v40, val_main_v39, val_main_v38, val_main_v37, val_main_v36, val_main_v35, val_main_v34, val_main_v33, val_main_v31, val_main_v30, val_main_v29, val_main_v28, val_main_v27, val_main_v26, val_main_v25, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2, val_main_cst_3, val_main_cst_4, val_main_cst_5, val_main_cst_6, val_main_cst_7, val_main_cst_8, val_main_cst_9, hd]
  simp only [Finset.univ_unique, Finset.sum_singleton]

theorem ref54_at (x0 : FVec Ideal S16384x1024 .f32) (x1 : FVec Ideal S16384x5632 .bf16) (x2 : FVec Ideal S2816x1024 .f32) (x3 : FVec Ideal S1x1024 .f32) (j : Fin 1024) :
    (val_main_v54 (F := Ideal) x0 x1 x2 (ix2 0 j) : EReal) = ∑ r : Fin 16384, Ideal.ofBits .f32 0x3F000000#32 * (x0 (ix2 r j) : EReal) * ((val_main_v5 (F := Ideal) x1 x2 (ix2 r j) : EReal) * Rms.rs (fun k => val_main_v5 (F := Ideal) x1 x2 (ix2 r k))) := by
  unfold Rms.rs Rms.ms
  generalize hd : val_main_v5 (F := Ideal) x1 x2 = d
  pointwise [val_main_v54, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2, val_main_cst_3, val_main_cst_4, val_main_cst_5, val_main_cst_6, val_main_cst_7, val_main_cst_8, val_main_cst_9, hd]
  simp only [Finset.univ_unique, Finset.sum_singleton]
  exact Finset.sum_congr rfl fun r _ => mul_comm _ _

theorem ref52_at (x0 : FVec Ideal S16384x1024 .f32) (x1 : FVec Ideal S16384x5632 .bf16) (x2 : FVec Ideal S2816x1024 .f32) (x3 : FVec Ideal S1x1024 .f32) (r : Fin 16384) (j : Fin 5632) :
    (val_main_v52 (F := Ideal) x0 x1 x2 x3 (ix2 r j) : EReal) = H (fun k => val_main_v46 (F := Ideal) x0 x1 x2 x3 (ix2 r k)) (fun k => x1 (ix2 r k)) (fun a b => x2 (ix2 a b)) j := by
  unfold H Silu.sig
  generalize hd : val_main_v46 (F := Ideal) x0 x1 x2 x3 = d
  pointwise [val_main_v52, val_main_v51, val_main_v50, val_main_v49, val_main_v48, val_main_v47, val_main_call1_v0, val_main_call1_v1, val_main_call1_v2, val_main_v2, val_main_v1, val_main_v0, val_main_v3_2, val_main_v3_1, val_main_v3_0, val_main_call0_v0, val_main_call0_v1, val_main_call0_cst, val_main_call0_v2, val_main_call0_v3, val_main_call0_cst_0, val_main_call0_v4, val_main_call0_cst_1, val_main_call0_v6, val_main_call0_v7, hd]

theorem row_at (t : Fin cfg0.N) (r : Fin 512) : (fun k : Fin 1024 => (iblk m c 1 t : FVec Ideal S512x1024 .bf16) (ix2 r k)) = fun k => O m c (ix2 ⟨512 * t.val + r.val, by have := lt32 t; omega⟩ k) :=
  funext fun k => x1_at m c t r k

/-- The derivative of the down projection's rows. -/
theorem K_at (t : Fin cfg0.N) (r : Fin 512) (j : Fin 1024) :
    Rms.K (fun k => (iblk m c 1 t : FVec Ideal S512x1024 .bf16) (ix2 r k)) (fun k => Ideal.ofBits .f32 0x3F000000#32 * (show EReal from (iblk m c 0 t : FVec Ideal S512x1024 .f32) (ix2 r k)) * (show EReal from (iblk m c 2 t : FVec Ideal S1x1024 .f32) (ix2 0 k))) j
      = Rms.K (fun k => O m c (ix2 ⟨512 * t.val + r.val, by have := lt32 t; omega⟩ k)) (fun k => Ideal.ofBits .f32 0x3F000000#32 * (show EReal from m (c.tc.loc main_arg0) (ix2 ⟨512 * t.val + r.val, by have := lt32 t; omega⟩ k)) * (show EReal from m (c.tc.loc main_arg3) (ix2 0 k))) j := by
  rw [row_at]
  refine congrArg (fun d => Rms.K _ d j) (funext fun k => ?_)
  exact congrArg₂ (· * ·) (congrArg₂ (· * ·) rfl (x0_at m c t r k)) (x2_at m c t k)

theorem do_out (t : Fin cfg0.N) (r : Fin 512) (j : Fin 1024) :
    ((outsAt0 m c t.val t.isLt).2.1 (ix2 r j) : EReal) = Rms.K (fun k => O m c (ix2 ⟨512 * t.val + r.val, by have := lt32 t; omega⟩ k)) (fun k => Ideal.ofBits .f32 0x3F000000#32 * (show EReal from m (c.tc.loc main_arg0) (ix2 ⟨512 * t.val + r.val, by have := lt32 t; omega⟩ k)) * (show EReal from m (c.tc.loc main_arg3) (ix2 0 k))) j := by
  by_cases h : t.val % 32 = 0
  · rw [outsAt0_A m c t h]; dsimp only
    exact (outA6 _ _ _ _ _ _ _ _ _ _ _ _ _ _ _ _ _ _ _ _ _ _ _ _ r j).trans (K_at m c t r j)
  · rw [outsAt0_B m c t h]; dsimp only
    exact (outB6 _ _ _ _ _ _ _ _ _ _ _ _ _ _ _ _ _ _ _ _ _ _ _ _ _ r j).trans (K_at m c t r j)

theorem G_at (t : Fin cfg0.N) (r : Fin 512) (j : Fin 5632) :
    G (fun k => k0_pay7 (F := Ideal) (iblk m c 1 t) (iblk m c 2 t) (iblk m c 0 t) (ix2 r k)) (fun k => (iblk m c 3 t : FVec Ideal S512x5632 .bf16) (ix2 r k)) (fun a b => (iblk m c 4 t : FVec Ideal S2816x1024 .bf16) (ix2 a b)) j
      = G (Rms.K (fun k => O m c (ix2 ⟨512 * t.val + r.val, by have := lt32 t; omega⟩ k)) (fun k => Ideal.ofBits .f32 0x3F000000#32 * (show EReal from m (c.tc.loc main_arg0) (ix2 ⟨512 * t.val + r.val, by have := lt32 t; omega⟩ k)) * (show EReal from m (c.tc.loc main_arg3) (ix2 0 k)))) (fun k => m (c.tc.loc main_arg1) (ix2 ⟨512 * t.val + r.val, by have := lt32 t; omega⟩ k)) (fun a b => m (c.tc.loc main_arg2) (ix2 a b)) j := by
  congr 1
  · funext k; exact (do_at _ _ _ r k).trans (K_at m c t r k)
  · funext k; exact x3_at m c t r k
  · funext a b; exact x4_at m c t a b

theorem da_out (t : Fin cfg0.N) (r : Fin 512) (j : Fin 5632) :
    ((outsAt0 m c t.val t.isLt).1 (ix2 r j) : EReal) = G (Rms.K (fun k => O m c (ix2 ⟨512 * t.val + r.val, by have := lt32 t; omega⟩ k)) (fun k => Ideal.ofBits .f32 0x3F000000#32 * (show EReal from m (c.tc.loc main_arg0) (ix2 ⟨512 * t.val + r.val, by have := lt32 t; omega⟩ k)) * (show EReal from m (c.tc.loc main_arg3) (ix2 0 k)))) (fun k => m (c.tc.loc main_arg1) (ix2 ⟨512 * t.val + r.val, by have := lt32 t; omega⟩ k)) (fun a b => m (c.tc.loc main_arg2) (ix2 a b)) j := by
  by_cases h : t.val % 32 = 0
  · rw [outsAt0_A m c t h]; dsimp only
    exact (outA5 _ _ _ _ _ _ _ _ _ _ _ _ _ _ _ _ _ _ _ _ _ _ _ _ r j).trans (G_at m c t r j)
  · rw [outsAt0_B m c t h]; dsimp only
    exact (outB5 _ _ _ _ _ _ _ _ _ _ _ _ _ _ _ _ _ _ _ _ _ _ _ _ _ r j).trans (G_at m c t r j)

/-- What point `t` adds to the gradient of the scale. -/
def S (j : Fin 1024) (t : Fin cfg0.N) : EReal :=
  ∑ r : Fin 512, Ideal.ofBits .f32 0x3F000000#32 * (show EReal from m (c.tc.loc main_arg0) (ix2 ⟨512 * t.val + r.val, by have := lt32 t; omega⟩ j)) * ((O m c (ix2 ⟨512 * t.val + r.val, by have := lt32 t; omega⟩ j) : EReal) * Rms.rs (fun k => O m c (ix2 ⟨512 * t.val + r.val, by have := lt32 t; omega⟩ k)))

theorem S_eq (j : Fin 1024) (t : Fin cfg0.N) :
    ∑ r : Fin 512, Ideal.ofBits .f32 0x3F000000#32 * (show EReal from (iblk m c 0 t : FVec Ideal S512x1024 .f32) (ix2 r j)) * ((show EReal from (iblk m c 1 t : FVec Ideal S512x1024 .bf16) (ix2 r j)) * Rms.rs (fun k => (iblk m c 1 t : FVec Ideal S512x1024 .bf16) (ix2 r k))) = S m c j t := by
  refine Finset.sum_congr rfl fun r _ => ?_
  rw [row_at]
  exact congrArg₂ (· * ·) (congrArg₂ (· * ·) rfl (x0_at m c t r j)) (congrArg₂ (· * ·) (x1_at m c t r j) rfl)

theorem dg_at (j : Fin 1024) (t : Fin cfg0.N) (ht : t.val % 32 = 31) :
    ((outsAt0 m c t.val t.isLt).2.2 (ix2 0 j) : EReal) = ∑ r : Fin 16384, Ideal.ofBits .f32 0x3F000000#32 * (show EReal from m (c.tc.loc main_arg0) (ix2 r j)) * ((O m c (ix2 r j) : EReal) * Rms.rs (fun k => O m c (ix2 r k))) := by
  refine (Slab.run_sum (J := 32) (by decide) (F := fun n h => ((outsAt0 m c n h).2.2 (ix2 0 j) : EReal)) (T := S m c j) (fun t h => ?_) (fun t h => ?_) t ht).trans ?_
  · rw [outsAt0_A m c t h]; dsimp only
    exact (outA7 _ _ _ _ _ _ _ _ _ _ _ _ _ _ _ _ _ _ _ _ _ _ _ _ j).trans (congrArg (0 + ·) (S_eq m c j t))
  · rw [outsAt0_B m c t h]; dsimp only
    exact (outB7 _ _ _ _ _ _ _ _ _ _ _ _ _ _ _ _ _ _ _ _ _ _ _ _ _ j).trans (congrArg (_ + ·) (S_eq m c j t))
  · refine Eq.trans ?_ (Slab.sum_runs (J := 32) (K := 512) (fun r => Ideal.ofBits .f32 0x3F000000#32 * (show EReal from m (c.tc.loc main_arg0) (ix2 r j)) * ((O m c (ix2 r j) : EReal) * Rms.rs (fun k => O m c (ix2 r k)))))
    have h0 : t.val / 32 = 0 := by have := lt32 t; omega
    refine Finset.sum_congr rfl fun s _ => Finset.sum_congr rfl fun k _ => ?_
    simp only [h0, Nat.mul_zero, Nat.zero_add]

section Finite

variable [Cert.Pre_finite_hid.Facts]

theorem fin0 (x0 : FVec Ideal Cert.Pre_finite_hid.S16384x1024 .f32) (x1 : FVec Ideal Cert.Pre_finite_hid.S16384x5632 .bf16) (x2 : FVec Ideal Cert.Pre_finite_hid.S2816x1024 .f32) (x3 : FVec Ideal Cert.Pre_finite_hid.S1x1024 .f32) (h : (Cert.Pre_finite_hid.fn (F := Ideal) x0 x1 x2 x3).1 = fun _ => 1#1) (r : Fin 16384) (k : Fin 1024) : ∃ q : ℝ, (x0 (ix2 r k) : EReal) = q := by
  have h1 := congrFun h (ix2 r k)
  unfold Cert.Pre_finite_hid.fn at h1
  revert h1
  pointwise
  exact fun h => ⟨_, Cert.Sgu.of_mask h⟩

theorem fin1 (x0 : FVec Ideal Cert.Pre_finite_hid.S16384x1024 .f32) (x1 : FVec Ideal Cert.Pre_finite_hid.S16384x5632 .bf16) (x2 : FVec Ideal Cert.Pre_finite_hid.S2816x1024 .f32) (x3 : FVec Ideal Cert.Pre_finite_hid.S1x1024 .f32) (h : (Cert.Pre_finite_hid.fn (F := Ideal) x0 x1 x2 x3).2.1 = fun _ => 1#1) (r : Fin 16384) (k : Fin 5632) : ∃ q : ℝ, (x1 (ix2 r k) : EReal) = q := by
  have h1 := congrFun h (ix2 r k)
  unfold Cert.Pre_finite_hid.fn at h1
  revert h1
  pointwise
  exact fun h => ⟨_, Cert.Sgu.of_mask h⟩

theorem fin2 (x0 : FVec Ideal Cert.Pre_finite_hid.S16384x1024 .f32) (x1 : FVec Ideal Cert.Pre_finite_hid.S16384x5632 .bf16) (x2 : FVec Ideal Cert.Pre_finite_hid.S2816x1024 .f32) (x3 : FVec Ideal Cert.Pre_finite_hid.S1x1024 .f32) (h : (Cert.Pre_finite_hid.fn (F := Ideal) x0 x1 x2 x3).2.2.1 = fun _ => 1#1) (r : Fin 2816) (k : Fin 1024) : ∃ q : ℝ, (x2 (ix2 r k) : EReal) = q := by
  have h1 := congrFun h (ix2 r k)
  unfold Cert.Pre_finite_hid.fn at h1
  revert h1
  pointwise
  exact fun h => ⟨_, Cert.Sgu.of_mask h⟩

theorem fin3 (x0 : FVec Ideal Cert.Pre_finite_hid.S16384x1024 .f32) (x1 : FVec Ideal Cert.Pre_finite_hid.S16384x5632 .bf16) (x2 : FVec Ideal Cert.Pre_finite_hid.S2816x1024 .f32) (x3 : FVec Ideal Cert.Pre_finite_hid.S1x1024 .f32) (h : (Cert.Pre_finite_hid.fn (F := Ideal) x0 x1 x2 x3).2.2.2 = fun _ => 1#1) (k : Fin 1024) : ∃ q : ℝ, (x3 (ix2 0 k) : EReal) = q := by
  have h1 := congrFun h (ix2 0 k)
  unfold Cert.Pre_finite_hid.fn at h1
  revert h1
  pointwise
  exact fun h => ⟨_, Cert.Sgu.of_mask h⟩

theorem O_real (h : Cert.Pre_HidIdeal_finite_hid m) (r : Fin 16384) (j : Fin 1024) : ∃ q : ℝ, (O m c (ix2 r j) : EReal) = q := by
  have h1 := fun k => fin1 _ _ _ _ (h c).2.1 r k
  have e := refO_at (m (c.tc.loc main_arg0)) (m (c.tc.loc main_arg1)) (m (c.tc.loc main_arg2)) (m (c.tc.loc main_arg3)) r j
  refine (congrArg (fun y : EReal => ∃ q : ℝ, y = q) e).mpr ?_
  refine Rms.real_sum _ fun p => Rms.real_mul (Rms.real_mul (Rms.real_mul (h1 _) ?_) (h1 _)) (fin2 _ _ _ _ (h c).2.2.1 p j)
  obtain ⟨g, hg⟩ := h1 ⟨p.val, by omega⟩
  exact ⟨_, (congrArg Silu.sig hg).trans (Silu.sig_coe g)⟩

theorem K_real (h : Cert.Pre_HidIdeal_finite_hid m) (r : Fin 16384) (j : Fin 1024) : ∃ q : ℝ, Rms.K (fun k => O m c (ix2 r k)) (fun k => Ideal.ofBits .f32 0x3F000000#32 * (show EReal from m (c.tc.loc main_arg0) (ix2 r k)) * (show EReal from m (c.tc.loc main_arg3) (ix2 0 k))) j = q :=
  Rms.real_K _ _ (fun k => O_real m c h r k) (fun k => Rms.real_mul (Rms.real_mul ⟨_, Cert.Sgu.ofBits_half⟩ (fin0 _ _ _ _ (h c).1 r k)) (fin3 _ _ _ _ (h c).2.2.2 k)) j

end Finite

theorem final1 : (dats m 0 c).arrAt 6 (cfgs 0).N = val_main_v53 (F := Ideal) (m (c.tc.loc main_arg0)) (m (c.tc.loc main_arg1)) (m (c.tc.loc main_arg2)) (m (c.tc.loc main_arg3)) := by
  refine (dats m 0 c).arrAt_eq_of_covers 6 _ (by decide +kernel) fun t hf y => ?_
  have hl := lt32 t
  have hy : (win0_6.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, (outsAt0 m c t.val t.isLt).2.1 y = val_main_v53 (F := Ideal) (m (c.tc.loc main_arg0)) (m (c.tc.loc main_arg1)) (m (c.tc.loc main_arg2)) (m (c.tc.loc main_arg3)) (ix2 ⟨512 * t.val + (y 0).val, by have : (y 0).val < 512 := (y 0).isLt; omega⟩ (y 1)) := by
    intro y
    idx_vars y
    exact (do_out m c t y0 y1).trans (ref46_at _ _ _ _ ⟨512 * t.val + y0.val, by omega⟩ y1).symm
  refine Eq.trans ?_ ((key y).trans (congrArg _ hy.symm))
  blk_simp
  rw [after0_6]

theorem final2 : (dats m 0 c).arrAt 7 (cfgs 0).N = val_main_v54 (F := Ideal) (m (c.tc.loc main_arg0)) (m (c.tc.loc main_arg1)) (m (c.tc.loc main_arg2)) := by
  refine (dats m 0 c).arrAt_eq_of_covers 7 _ (by decide +kernel) fun t hf y => ?_
  have hl := lt32 t
  have ht := (flush0_7 t).mp hf
  have hy : (win0_7.blk t).view.emb y = (ix2 0 ((y : S1x1024.Idx) 1) : S1x1024.Idx) := by
    have h0 : ((y : S1x1024.Idx) 0).val < 1 := ((y : S1x1024.Idx) 0).isLt
    funext a; apply Fin.ext; fin_cases a <;> blk_simp [idx t] <;> simp <;> omega
  have key : ∀ y : S1x1024.Idx, (outsAt0 m c t.val t.isLt).2.2 y = val_main_v54 (F := Ideal) (m (c.tc.loc main_arg0)) (m (c.tc.loc main_arg1)) (m (c.tc.loc main_arg2)) (ix2 0 (y 1)) := by
    intro y
    idx_vars y
    obtain rfl : y0 = 0 := by omega
    exact (dg_at m c y1 t ht).trans (ref54_at _ _ _ (m (c.tc.loc main_arg3)) y1).symm
  refine Eq.trans ?_ ((key y).trans (congrArg _ hy.symm))
  blk_simp
  rw [after0_7]

theorem final0 [Cert.Pre_finite_hid.Facts] (h : Cert.Pre_HidIdeal_finite_hid m) : (dats m 0 c).arrAt 5 (cfgs 0).N = val_main_v52 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  have hl := lt32 t
  have hy : (win0_5.blk t).view.emb y = (ix2 ⟨512 * t.val + ((y : S512x5632.Idx) 0).val, by have : ((y : S512x5632.Idx) 0).val < 512 := ((y : S512x5632.Idx) 0).isLt; omega⟩ ((y : S512x5632.Idx) 1) : S16384x5632.Idx) := by
    funext a; apply Fin.ext; fin_cases a <;> blk_simp [idx t] <;> simp <;> omega
  have key : ∀ y : S512x5632.Idx, (outsAt0 m c t.val t.isLt).1 y = val_main_v52 (F := Ideal) (m (c.tc.loc main_arg0)) (m (c.tc.loc main_arg1)) (m (c.tc.loc main_arg2)) (m (c.tc.loc main_arg3)) (ix2 ⟨512 * t.val + (y 0).val, by have : (y 0).val < 512 := (y 0).isLt; omega⟩ (y 1)) := by
    intro y
    idx_vars y
    refine (da_out m c t y0 y1).trans ((G_eq _ _ _ y1 (fun k => K_real m c h _ k) (fun k => fin1 _ _ _ _ (h c).2.1 _ k) (fun p k => fin2 _ _ _ _ (h c).2.2.1 p k)).trans (Eq.trans ?_ (ref52_at _ _ _ _ ⟨512 * t.val + y0.val, by omega⟩ y1).symm))
    exact congrArg (fun d => H d _ _ y1) (funext fun k => (ref46_at _ _ _ _ ⟨512 * t.val + y0.val, by omega⟩ k).symm)
  refine Eq.trans ?_ ((key y).trans (congrArg _ hy.symm))
  blk_simp
  rw [after0_5]

theorem algebraic [Cert.Pre_finite_hid.Facts] : Cert.algebraic_HidIdeal_HidRefIdeal_pre_finite_hid := by
  intro m g m' g' hpre ha
  refine ⟨_, _, _, Cert.HidIdeal.Value.run_blocks m g, ?_⟩
  refine (θ_run Cert.HidRefIdeal.defs _ _).mono (fun r h c => ?_) (Cert.HidRefIdeal.Value.run m' g')
  obtain ⟨e0, e1, e2, e3⟩ := ha c
  obtain ⟨k0, k1, k2, ka⟩ := h c
  refine ⟨k0.trans ((val_main_v52_eq _ _).trans ?_), k1.trans ((val_main_v53_eq _ _).trans ?_), k2.trans ((val_main_v54_eq _ _ _).trans ?_), ka⟩
  · rw [e0, e1, e2, e3]
    exact (final0 m c hpre).symm
  · rw [e0, e1, e2, e3]
    exact (final1 m c).symm
  · rw [e0, e1, e2]
    exact (final2 m c).symm

end Cert.VHid

end
-- ==== Proof.V.MixIn.lean ====
/- The mixture block's normalisation and input product: the normalised rows are kept over the column blocks of one row block. -/
module

public import proofs.«01_k».proof.Defs
public import proofs.«01_k».proof.Proof.Gen.MixInIdeal.Frame
public import proofs.«01_k».proof.Proof.Gen.MixInIdeal
public import proofs.«01_k».proof.Proof.Gen.MixInRefIdeal
public import proofs.«01_k».proof.Proof.Gen.MixInRefIdeal.Run
public import proofs.«01_k».proof.Proof.Gen.MixInRefIdeal.Read
public import proofs.«01_k».proof.Proof.V.Slab
public import Idealize.ShloMosaic.Lib.Claim
public import Idealize.ShloMosaic.Lib.Pointwise
public import Idealize.ShloMosaic.Lib.Pipeline.ValueKit

@[expose] public section

set_option maxRecDepth 16384

noncomputable section

namespace Cert.VMixIn

open Cert.MixInIdeal Cert.MixInIdeal.Gen Cert.MixInRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V3 (q : Fin 4) (k j : Fin 1024) : ((V m c main_v3 : S4x1024x1024.Idx → EReal) (ix3 q k j) : EReal) = m (c.tc.loc main_arg2) (ix2 k ⟨1280 + (1024 * q.val + j.val), by omega⟩) := by
  have e : (V m c main_v3 : S4x1024x1024.Idx → EReal) = transpose S4x1024x1024 [1, 0, 2] (shapeCast S1024x4x1024 (extractStridedSlice S1024x4096 ![0, 1280] (m (c.tc.loc main_arg2) : FVec Ideal S1024x5376 .f32) slices_S1024x5376_S1024x4096_0_1280) shapeCasts_S1024x4096_S1024x4x1024) transposes_S1024x4x1024_S4x1024x1024_1_0_2 := by
    unfold V; after_results_simp; rfl
  rw [e]
  pointwise
  exact congrArg (m (c.tc.loc main_arg2)) (congrArg (ix2 k) (Fin.ext (by show 1280 + (q.val * 1024 + j.val) = 1280 + (1024 * q.val + j.val); omega)))

theorem idx : ∀ t : Fin cfg0.N, win0_0.index t = ![t.val / 4, 0] ∧ win0_1.index t = ![0, 0] ∧ win0_2.index t = ![0, 0, 0] ∧ win0_3.index t = ![t.val / 4, t.val % 4] ∧ k0_off1 (grid0.coords t) = ![t.val % 4, 0, 0] :=
  (by decide +kernel : ∀ t : Fin grid0.N, _)

theorem lt64 (t : Fin cfg0.N) : t.val < 64 := (by decide +kernel : cfg0.N = 64) ▸ t.isLt

theorem x0_at (t : Fin cfg0.N) (r : Fin 1024) (k : Fin 1024) : (iblk m c 0 t : FVec Ideal S1024x1024 .f32) (ix2 r k) = m (c.tc.loc main_arg0) (ix2 ⟨1024 * (t.val / 4) + r.val, by have := lt64 t; omega⟩ k) := by
  refine Eq.trans ?_ (congrFun (V_main_arg0 m c) _)
  blk_point [iblk, idx t]

theorem x1_at (t : Fin cfg0.N) (j : Fin 1024) : (iblk m c 1 t : FVec Ideal S1x1024 .f32) (ix2 0 j) = m (c.tc.loc main_arg1) (ix2 0 j) := by
  refine Eq.trans ?_ (congrFun (V_main_arg1 m c) _)
  blk_point [iblk, idx t]

theorem x2_at (t : Fin cfg0.N) (q : Fin 4) (k j : Fin 1024) : (iblk m c 2 t : FVec Ideal S4x1024x1024 .bf16) (ix3 q k j) = m (c.tc.loc main_arg2) (ix2 k ⟨1280 + (1024 * q.val + j.val), by omega⟩) := by
  refine Eq.trans ?_ (V3 m c q k j)
  blk_point [iblk, idx t]

/-- One normalised row. -/
def Y (x g : Fin 1024 → EReal) (j : Fin 1024) : EReal :=
  x j * Ideal.rsqrt (Ideal.div (∑ k : Fin 1024, x k * x k) (Ideal.ofBits .f32 0x44800000#32) + Ideal.ofBits .f32 0x358637BD#32) * g j

theorem pay1_at (x : FVec Ideal S1024x1024 .f32) (g : FVec Ideal S1x1024 .f32) (r : Fin 1024) (j : Fin 1024) :
    (k0_pay1 (F := Ideal) x g (ix2 r j) : EReal) = Y (fun k => x (ix2 r k)) (fun k => g (ix2 0 k)) j := by
  unfold Y
  pointwise [k0_pay1]

theorem pay2_at (h : FVec Ideal S1024x1024 .bf16) (w : FVec Ideal S1x1024x1024 .bf16) (r j : Fin 1024) :
    (k0_pay2 (F := Ideal) h w (ix2 r j) : EReal) = ∑ k : Fin 1024, (h (ix2 r k) : EReal) * (w (ix3 0 k j) : EReal) := by
  pointwise [k0_pay2]

theorem soutA (i : grid0.Coords) arg2 harg2 arg3 harg3 arg4 harg4 arg5 harg5 arg6 harg6 (hc0 : cond0_0 i) (x0 : FVec Ideal S1024x1024 .f32) (x1 : FVec Ideal S1x1024 .f32) (x2 : FVec Ideal S4x1024x1024 .bf16) (r j : Fin 1024) :
    (sout0_A_0 (F := Ideal) c i arg2 harg2 arg3 harg3 arg4 harg4 arg5 harg5 arg6 harg6 hc0 x0 x1 x2 (ix2 r j) : EReal) = Y (fun k => x0 (ix2 r k)) (fun k => x1 (ix2 0 k)) j := by
  unfold sout0_A_0
  frame_out
  exact pay1_at _ _ r j

theorem outA (i : grid0.Coords) arg2 harg2 arg3 harg3 arg4 harg4 arg5 harg5 arg6 harg6 (hc0 : cond0_0 i) (x0 : FVec Ideal S1024x1024 .f32) (x1 : FVec Ideal S1x1024 .f32) (x2 : FVec Ideal S4x1024x1024 .bf16) (r j : Fin 1024) (q : Fin 4) (hq : k0_off1 i = ![q.val, 0, 0]) :
    (out0_A_3 (F := Ideal) c i arg2 harg2 arg3 harg3 arg4 harg4 arg5 harg5 arg6 harg6 hc0 x0 x1 x2 (ix2 r j) : EReal) = ∑ k : Fin 1024, Y (fun k => x0 (ix2 r k)) (fun k => x1 (ix2 0 k)) k * (x2 (ix3 q k j) : EReal) := by
  unfold out0_A_3
  frame_out
  refine (pay2_at _ _ r j).trans (Finset.sum_congr rfl fun k _ => congrArg₂ (· * ·) (pay1_at _ _ r k) ?_)
  exact Slab.ld_off (e := .bf16) q _ hq _ x2 k j

theorem outB (i : grid0.Coords) arg2 harg2 arg3 harg3 arg4 harg4 arg5 harg5 arg6 harg6 (hc0 : ¬cond0_0 i) (x0 : FVec Ideal S1024x1024 .f32) (x1 : FVec Ideal S1x1024 .f32) (x2 : FVec Ideal S4x1024x1024 .bf16) (xs : FVec Ideal S1024x1024 .bf16) (r j : Fin 1024) (q : Fin 4) (hq : k0_off1 i = ![q.val, 0, 0]) :
    (out0_B_3 (F := Ideal) c i arg2 harg2 arg3 harg3 arg4 harg4 arg5 harg5 arg6 harg6 hc0 x0 x1 x2 xs (ix2 r j) : EReal) = ∑ k : Fin 1024, (xs (ix2 r k) : EReal) * (x2 (ix3 q k j) : EReal) := by
  unfold out0_B_3
  frame_out
  refine (pay2_at _ _ r j).trans (Finset.sum_congr rfl fun k _ => congrArg₂ (· * ·) rfl ?_)
  exact Slab.ld_off (e := .bf16) q _ hq _ x2 k j

/-- A value set at the points that are multiples of four and kept at the others is the one last set. -/
theorem kept_of {α : Type} (S : (n : ℕ) → n < cfg0.N → α) (f : ℕ → α) (hA : ∀ t : Fin cfg0.N, t.val % 4 = 0 → S t.val t.isLt = f (t.val / 4))
    (hB : ∀ t : Fin cfg0.N, ¬t.val % 4 = 0 → S t.val t.isLt = S (t.val - 1) (Nat.lt_of_le_of_lt (Nat.sub_le _ _) t.isLt)) (n : ℕ) (hn : n < cfg0.N) : S n hn = f (n / 4) := by
  induction n with
  | zero => exact hA ⟨0, hn⟩ rfl
  | succ n ih =>
    by_cases h : (n + 1) % 4 = 0
    · exact hA ⟨n + 1, hn⟩ h
    · refine (hB ⟨n + 1, hn⟩ h).trans ((ih (Nat.lt_of_succ_lt hn)).trans (congrArg f ?_))
      omega

/-- Row `r` of row block `q` of the first argument. -/
def row (q : ℕ) (r : Fin 1024) (k : Fin 1024) : EReal :=
  if h : 1024 * q + r.val < 16384 then m (c.tc.loc main_arg0) (ix2 ⟨1024 * q + r.val, h⟩ k) else 0

theorem row_at (t : Fin cfg0.N) (r : Fin 1024) : row m c (t.val / 4) r = fun k => m (c.tc.loc main_arg0) (ix2 ⟨1024 * (t.val / 4) + r.val, by have := lt64 t; omega⟩ k) := by
  funext k
  exact dif_pos (by have := lt64 t; omega)

theorem keptA (t : Fin cfg0.N) (h : t.val % 4 = 0) (r j : Fin 1024) :
    ((outsAt0 m c t.val t.isLt).2 (ix2 r j) : EReal) = Y (row m c (t.val / 4) r) (fun k => m (c.tc.loc main_arg1) (ix2 0 k)) j := by
  rw [outsAt0_A m c t h, row_at]
  dsimp only
  refine (soutA _ _ _ _ _ _ _ _ _ _ _ _ _ _ _ _ r j).trans ?_
  congr 1
  · funext k; exact x0_at m c t r k
  · funext k; exact x1_at m c t k

theorem keptB (t : Fin cfg0.N) (h : ¬t.val % 4 = 0) (r j : Fin 1024) :
    ((outsAt0 m c t.val t.isLt).2 (ix2 r j) : EReal) = (outsAt0 m c (t.val - 1) (Nat.lt_of_le_of_lt (Nat.sub_le _ _) t.isLt)).2 (ix2 r j) := by
  rw [outsAt0_B m c t h]
  rfl

/-- The kept rows are the normalised rows of the point's row block. -/
theorem kept (n : ℕ) (hn : n < cfg0.N) (r j : Fin 1024) :
    ((outsAt0 m c n hn).2 (ix2 r j) : EReal) = Y (row m c (n / 4) r) (fun k => m (c.tc.loc main_arg1) (ix2 0 k)) j :=
  kept_of (fun n hn => ((outsAt0 m c n hn).2 (ix2 r j) : EReal)) (fun q => Y (row m c q r) (fun k => m (c.tc.loc main_arg1) (ix2 0 k)) j)
    (fun t h => keptA m c t h r j) (fun t h => keptB m c t h r j) n hn

theorem out_at (t : Fin cfg0.N) (r j : Fin 1024) :
    ((outsAt0 m c t.val t.isLt).1 (ix2 r j) : EReal) = ∑ k : Fin 1024, Y (fun k => m (c.tc.loc main_arg0) (ix2 ⟨1024 * (t.val / 4) + r.val, by have := lt64 t; omega⟩ k)) (fun k => m (c.tc.loc main_arg1) (ix2 0 k)) k
      * (show EReal from m (c.tc.loc main_arg2) (ix2 k ⟨1280 + (1024 * (t.val % 4) + j.val), by omega⟩)) := by
  have hoff := (idx t).2.2.2.2
  by_cases h : t.val % 4 = 0
  · rw [outsAt0_A m c t h]
    dsimp only
    refine (outA _ _ _ _ _ _ _ _ _ _ _ _ _ _ _ _ r j ⟨t.val % 4, by omega⟩ hoff).trans ?_
    refine Finset.sum_congr rfl fun k _ => congrArg₂ (· * ·) ?_ (x2_at m c t _ k j)
    congr 1
    · funext k; exact x0_at m c t r k
    · funext k; exact x1_at m c t k
  · rw [outsAt0_B m c t h]
    dsimp only
    refine (outB _ _ _ _ _ _ _ _ _ _ _ _ _ _ _ _ _ r j ⟨t.val % 4, by omega⟩ hoff).trans ?_
    refine Finset.sum_congr rfl fun k _ => congrArg₂ (· * ·) ?_ (x2_at m c t _ k j)
    refine (kept m c (t.val - 1) _ r k).trans ?_
    have e : (t.val - 1) / 4 = t.val / 4 := by omega
    rw [e, row_at]

theorem ref13_at (x0 : FVec Ideal S16384x1024 .f32) (x1 : FVec Ideal S1x1024 .f32) (r : Fin 16384) (j : Fin 1024) :
    (val_main_v13 (F := Ideal) x0 x1 (ix2 r j) : EReal) = Y (fun k => x0 (ix2 r k)) (fun k => x1 (ix2 0 k)) j := by
  unfold Y
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref16_at (x0 : FVec Ideal S16384x1024 .f32) (x1 : FVec Ideal S1x1024 .f32) (x2 : FVec Ideal S1024x5376 .f32) (r : Fin 16384) (j : Fin 4096) :
    (val_main_v16 (F := Ideal) x0 x1 x2 (ix2 r j) : EReal) = ∑ k : Fin 1024, Y (fun k => x0 (ix2 r k)) (fun k => x1 (ix2 0 k)) k * (x2 (ix2 k ⟨1280 + j.val, by omega⟩) : EReal) := by
  have e : (val_main_v16 (F := Ideal) x0 x1 x2 (ix2 r j) : EReal) = ∑ k : Fin 1024, (val_main_v13 (F := Ideal) x0 x1 (ix2 r k) : EReal) * (x2 (ix2 k ⟨1280 + j.val, by omega⟩) : EReal) := by
    pointwise [val_main_v16, val_main_v15, val_main_v14]
  rw [e]
  refine Finset.sum_congr rfl fun k _ => ?_
  rw [ref13_at]

theorem final : (dats m 0 c).arrAt 3 (cfgs 0).N = val_main_v16 (F := Ideal) (m (c.tc.loc main_arg0)) (m (c.tc.loc main_arg1)) (m (c.tc.loc main_arg2)) := by
  refine (dats m 0 c).arrAt_eq_of_covers 3 _ (by decide +kernel) fun t hf y => ?_
  have hl := lt64 t
  have hy : (win0_3.blk t).view.emb y = (ix2 ⟨1024 * (t.val / 4) + ((y : S1024x1024.Idx) 0).val, by have : ((y : S1024x1024.Idx) 0).val < 1024 := ((y : S1024x1024.Idx) 0).isLt; omega⟩
      ⟨1024 * (t.val % 4) + ((y : S1024x1024.Idx) 1).val, by have : ((y : S1024x1024.Idx) 1).val < 1024 := ((y : S1024x1024.Idx) 1).isLt; omega⟩ : S16384x4096.Idx) := by
    funext a; apply Fin.ext; fin_cases a <;> blk_simp [idx t] <;> simp <;> omega
  have key : ∀ y : S1024x1024.Idx, (outsAt0 m c t.val t.isLt).1 y = val_main_v16 (F := Ideal) (m (c.tc.loc main_arg0)) (m (c.tc.loc main_arg1)) (m (c.tc.loc main_arg2)) (ix2 ⟨1024 * (t.val / 4) + (y 0).val, by have : (y 0).val < 1024 := (y 0).isLt; omega⟩
      ⟨1024 * (t.val % 4) + (y 1).val, by have : (y 1).val < 1024 := (y 1).isLt; omega⟩) := by
    intro y
    idx_vars y
    rw [out_at m c t y0 y1]
    refine Eq.symm ((ref16_at _ _ _ ⟨1024 * (t.val / 4) + y0.val, by omega⟩ ⟨1024 * (t.val % 4) + y1.val, by omega⟩).trans ?_)
    rfl
  refine Eq.trans ?_ ((key y).trans (congrArg _ hy.symm))
  blk_simp
  rw [after0_3]

/-- The kernel's run, its result named by the pipeline's final array. -/
theorem run_blocks (g : Dev nD → PrngReg) : θ_run (defs (F := Ideal)) (onTc (τ := τ) (main (F := Ideal))) ⟨m, fun _ => 0, g⟩ fun r => ∀ c : Dev nD,
    r.2.mem (c.tc.loc main_v4) = (dats m 0 c).arrAt 3 (cfgs 0).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1 3, (((h c).1 0).trans (((dats m 0 c).arrAt_in 0 rfl _).trans ((A_eq m c 0).trans (V_main_arg0 m c)))),
    (((h c).1 1).trans (((dats m 0 c).arrAt_in 1 rfl _).trans ((A_eq m c 1).trans (V_main_arg1 m c)))),
    (((h c).2 main_arg2 (Pipeline.mem_restRefs_of main_arg2 (by decide) (by decide))).trans (V_main_arg2 m c))⟩) (run_main m g)

theorem algebraic : Cert.algebraic_MixInIdeal_MixInRefIdeal := by
  intro m g m' g' _ ha
  refine ⟨_, run_blocks m g, ?_⟩
  refine (θ_run Cert.MixInRefIdeal.defs _ _).mono (fun r h c => ?_) (Cert.MixInRefIdeal.Value.run m' g')
  obtain ⟨e0, e1, e2⟩ := ha c
  obtain ⟨k0, ka⟩ := h c
  refine ⟨k0.trans ((val_main_v16_eq _ _ _).trans ?_), ka⟩
  · rw [e0, e1, e2]
    exact (final m c).symm

end Cert.VMixIn

end
-- ==== Proof.V.MixBwd.lean ====
/- The attention block's input derivative: the input products transposed over the derivative before, through the normalisation, block by block of the tokens. -/
module

public import proofs.«01_k».proof.Defs
public import proofs.«01_k».proof.Proof.Gen.MixBwdIdeal.Value
public import proofs.«01_k».proof.Proof.Gen.MixBwdIdeal
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.V.Slab
public import proofs.«01_k».proof.Proof.V.Rms
public import Idealize.ShloMosaic.Lib.Claim
public import Idealize.ShloMosaic.Lib.Pointwise
public import Idealize.ShloMosaic.Lib.Pipeline.ValueKit

@[expose] public section

set_option maxRecDepth 16384

noncomputable section

namespace Cert.VMixBwd

open Cert.MixBwdIdeal Cert.MixBwdIdeal.Gen Cert.MixBwdRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V3 (q : Fin 4) (a b : Fin 1024) : ((V m c main_v3 : S4x1024x1024.Idx → EReal) (ix3 q a b) : EReal) = m (c.tc.loc main_arg2) (ix2 a ⟨1280 + (1024 * q.val + b.val), by omega⟩) := by
  have e : (V m c main_v3 : S4x1024x1024.Idx → EReal) = transpose S4x1024x1024 [1, 0, 2] (shapeCast S1024x4x1024 (extractStridedSlice S1024x4096 ![0, 1280] (m (c.tc.loc main_arg2) : FVec Ideal S1024x5376 .f32) slices_S1024x5376_S1024x4096_0_1280) shapeCasts_S1024x4096_S1024x4x1024) transposes_S1024x4x1024_S4x1024x1024_1_0_2 := by
    unfold V; after_results_simp; rfl
  rw [e]
  pointwise
  refine congrArg (m (c.tc.loc main_arg2)) (congrArg (ix2 a) (Fin.ext ?_))
  show 1280 + (q.val * 1024 + b.val) = 1280 + (1024 * q.val + b.val)
  omega

theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

theorem lt32 (t : Fin cfg0.N) : t.val < 32 := (by decide +kernel : cfg0.N = 32) ▸ t.isLt

theorem x0_at (t : Fin cfg0.N) (r : Fin 512) (k : Fin 4096) : (iblk m c 0 t : FVec Ideal S512x4096 .bf16) (ix2 r k) = m (c.tc.loc main_arg3) (ix2 ⟨512 * t.val + r.val, by have := lt32 t; omega⟩ k) := by
  refine Eq.trans ?_ (congrFun (V_main_arg3 m c) _)
  blk_point [iblk, idx t]

theorem x1_at (t : Fin cfg0.N) (q : Fin 4) (a : Fin 1024) (b : Fin 1024) : (iblk m c 1 t : FVec Ideal S4x1024x1024 .bf16) (ix3 q a b) = m (c.tc.loc main_arg2) (ix2 a ⟨1280 + (1024 * q.val + b.val), by omega⟩) := by
  refine Eq.trans ?_ (V3 m c q a b)
  blk_point [iblk, idx t]

theorem x2_at (t : Fin cfg0.N) (r : Fin 512) (k : Fin 1024) : (iblk m c 2 t : FVec Ideal S512x1024 .f32) (ix2 r k) = m (c.tc.loc main_arg0) (ix2 ⟨512 * t.val + r.val, by have := lt32 t; omega⟩ k) := by
  refine Eq.trans ?_ (congrFun (V_main_arg0 m c) _)
  blk_point [iblk, idx t]

theorem x3_at (t : Fin cfg0.N) (j : Fin 1024) : (iblk m c 3 t : FVec Ideal S1x1024 .f32) (ix2 0 j) = m (c.tc.loc main_arg1) (ix2 0 j) := by
  refine Eq.trans ?_ (congrFun (V_main_arg1 m c) _)
  blk_point [iblk, idx t]

theorem x4_at (t : Fin cfg0.N) (r : Fin 512) (k : Fin 1024) : (iblk m c 4 t : FVec Ideal S512x1024 .f32) (ix2 r k) = m (c.tc.loc main_arg5) (ix2 ⟨512 * t.val + r.val, by have := lt32 t; omega⟩ k) := by
  refine Eq.trans ?_ (congrFun (V_main_arg5 m c) _)
  blk_point [iblk, idx t]

theorem x5_at (t : Fin cfg0.N) (r : Fin 512) (k : Fin 1024) : (iblk m c 5 t : FVec Ideal S512x1024 .f32) (ix2 r k) = m (c.tc.loc main_arg4) (ix2 ⟨512 * t.val + r.val, by have := lt32 t; omega⟩ k) := by
  refine Eq.trans ?_ (congrFun (V_main_arg4 m c) _)
  blk_point [iblk, idx t]

/-- One row of the derivative times the transposed weights over the rows before, from the weights' four runs of columns. -/
def D4 (h : Fin 1024 → EReal) (a : Fin 4096 → EReal) (w : Fin 4 → Fin 1024 → Fin 1024 → EReal) (j : Fin 1024) : EReal :=
  h j + ∑ q : Fin 4, ∑ k : Fin 1024, a ⟨1024 * q.val + k.val, by omega⟩ * w q j k

/-- One row of the derivative times the transposed weights over the rows before. -/
def D (h : Fin 1024 → EReal) (a : Fin 4096 → EReal) (w : Fin 1024 → Fin 4096 → EReal) (j : Fin 1024) : EReal := h j + ∑ k : Fin 4096, a k * w j k

theorem D4_eq (h : Fin 1024 → EReal) (a : Fin 4096 → EReal) (w : Fin 1024 → Fin 4096 → EReal) : D4 h a (fun q j k => w j ⟨1024 * q.val + k.val, by omega⟩) = D h a w := by
  funext j
  exact congrArg (h j + ·) (Slab.sum_runs (J := 4) (K := 1024) (fun k => a k * w j k))

theorem d_at (hh : FVec Ideal S512x1024 .f32) (a0 : FVec Ideal S512x1024 .bf16) (w0 : FVec Ideal S1x1024x1024 .bf16) (a1 : FVec Ideal S512x1024 .bf16) (w1 : FVec Ideal S1x1024x1024 .bf16) (a2 : FVec Ideal S512x1024 .bf16) (w2 : FVec Ideal S1x1024x1024 .bf16) (a3 : FVec Ideal S512x1024 .bf16) (w3 : FVec Ideal S1x1024x1024 .bf16)
    (a : Fin 4096 → EReal) (w : Fin 4 → Fin 1024 → Fin 1024 → EReal) (r : Fin 512) (j : Fin 1024)
    (h0 : ∀ k : Fin 1024, (a0 (ix2 r k) : EReal) = a ⟨k.val, by omega⟩) (g0 : ∀ k : Fin 1024, (w0 (ix3 0 j k) : EReal) = w 0 j k)
    (h1 : ∀ k : Fin 1024, (a1 (ix2 r k) : EReal) = a ⟨1024 + k.val, by omega⟩) (g1 : ∀ k : Fin 1024, (w1 (ix3 0 j k) : EReal) = w 1 j k)
    (h2 : ∀ k : Fin 1024, (a2 (ix2 r k) : EReal) = a ⟨2048 + k.val, by omega⟩) (g2 : ∀ k : Fin 1024, (w2 (ix3 0 j k) : EReal) = w 2 j k)
    (h3 : ∀ k : Fin 1024, (a3 (ix2 r k) : EReal) = a ⟨3072 + k.val, by omega⟩) (g3 : ∀ k : Fin 1024, (w3 (ix3 0 j k) : EReal) = w 3 j k) :
    (k0_pay6 (F := Ideal) hh a0 w0 a1 w1 a2 w2 a3 w3 (ix2 r j) : EReal) = D4 (fun k => hh (ix2 r k)) a w j := by
  unfold D4
  rw [Fin.sum_univ_four, ← add_assoc, ← add_assoc, ← add_assoc]
  pointwise [k0_pay6]
  simp only [h0, g0, h1, g1, h2, g2, h3, g3]

theorem pay3_at (d x : FVec Ideal S512x1024 .f32) (g : FVec Ideal S1x1024 .f32) (y : FVec Ideal S512x1024 .f32) (r : Fin 512) (j : Fin 1024) :
    (k0_pay3 (F := Ideal) d x g y (ix2 r j) : EReal) = (y (ix2 r j) : EReal) + Rms.K (fun k => x (ix2 r k)) (fun k => (d (ix2 r k) : EReal) * (g (ix2 0 k) : EReal)) j := by
  unfold Rms.K Rms.rs Rms.ms
  pointwise [k0_pay3, k0_pay2, k0_pay1]

theorem pay4_at (d x : FVec Ideal S512x1024 .f32) (v : FVec Ideal S1x1024 .f32) (j : Fin 1024) :
    (k0_pay4 (F := Ideal) d x v (ix2 0 j) : EReal) = (v (ix2 0 j) : EReal) + ∑ r : Fin 512, (d (ix2 r j) : EReal) * ((x (ix2 r j) : EReal) * Rms.rs (fun k => x (ix2 r k))) := by
  unfold Rms.rs Rms.ms
  pointwise [k0_pay4, k0_pay2, k0_pay1]

theorem outA6 (i : grid0.Coords) (arg1 harg1 arg2 harg2 arg3 harg3 arg4 harg4 arg5 harg5 arg6 harg6 arg7 harg7 arg8 harg8) (hc0 : cond0_0 i) (x0 : FVec Ideal S512x4096 .bf16) (x1 : FVec Ideal S4x1024x1024 .bf16) (x2 : FVec Ideal S512x1024 .f32) (x3 : FVec Ideal S1x1024 .f32) (x4 : FVec Ideal S512x1024 .f32) (x5 : FVec Ideal S512x1024 .f32) (r : Fin 512) (j : Fin 1024) :
    (out0_A_6 (F := Ideal) c i arg1 harg1 arg2 harg2 arg3 harg3 arg4 harg4 arg5 harg5 arg6 harg6 arg7 harg7 arg8 harg8 hc0 x0 x1 x2 x3 x4 x5 (ix2 r j) : EReal)
      = (x4 (ix2 r j) : EReal) + Rms.K (fun k => x2 (ix2 r k)) (fun k => D4 (fun k => x5 (ix2 r k)) (fun k => x0 (ix2 r k)) (fun q j k => x1 (ix3 q j k)) k * (x3 (ix2 0 k) : EReal)) j := by
  unfold out0_A_6
  frame_out
  refine (pay3_at _ _ _ _ r j).trans ?_
  congr 1
  refine congrArg (fun d => Rms.K _ d j) (funext fun k => ?_)
  exact congrArg (· * (x3 (ix2 0 k) : EReal)) (d_at _ _ _ _ _ _ _ _ _ (fun k => x0 (ix2 r k)) (fun q j k => x1 (ix3 q j k)) r k (fun k => by pointwise) (fun k => by pointwise) (fun k => by pointwise) (fun k => by pointwise) (fun k => by pointwise) (fun k => by pointwise) (fun k => by pointwise) (fun k => by pointwise))

theorem outA7 (i : grid0.Coords) (arg1 harg1 arg2 harg2 arg3 harg3 arg4 harg4 arg5 harg5 arg6 harg6 arg7 harg7 arg8 harg8) (hc0 : cond0_0 i) (x0 : FVec Ideal S512x4096 .bf16) (x1 : FVec Ideal S4x1024x1024 .bf16) (x2 : FVec Ideal S512x1024 .f32) (x3 : FVec Ideal S1x1024 .f32) (x4 : FVec Ideal S512x1024 .f32) (x5 : FVec Ideal S512x1024 .f32) (j : Fin 1024) :
    (out0_A_7 (F := Ideal) c i arg1 harg1 arg2 harg2 arg3 harg3 arg4 harg4 arg5 harg5 arg6 harg6 arg7 harg7 arg8 harg8 hc0 x0 x1 x2 x3 x4 x5 (ix2 0 j) : EReal)
      = 0 + ∑ r : Fin 512, D4 (fun k => x5 (ix2 r k)) (fun k => x0 (ix2 r k)) (fun q j k => x1 (ix3 q j k)) j * ((x2 (ix2 r j) : EReal) * Rms.rs (fun k => x2 (ix2 r k))) := by
  unfold out0_A_7
  frame_out
  refine (pay4_at _ _ _ j).trans (congrArg₂ (· + ·) (by pointwise [k0_pay5]) (Finset.sum_congr rfl fun r _ => congrArg (· * ((x2 (ix2 r j) : EReal) * Rms.rs (fun k => x2 (ix2 r k)))) ?_))
  exact (d_at _ _ _ _ _ _ _ _ _ (fun k => x0 (ix2 r k)) (fun q j k => x1 (ix3 q j k)) r j (fun k => by pointwise) (fun k => by pointwise) (fun k => by pointwise) (fun k => by pointwise) (fun k => by pointwise) (fun k => by pointwise) (fun k => by pointwise) (fun k => by pointwise))

theorem outB6 (i : grid0.Coords) (arg1 harg1 arg2 harg2 arg3 harg3 arg4 harg4 arg5 harg5 arg6 harg6 arg7 harg7 arg8 harg8) (hc0 : ¬cond0_0 i) (x0 : FVec Ideal S512x4096 .bf16) (x1 : FVec Ideal S4x1024x1024 .bf16) (x2 : FVec Ideal S512x1024 .f32) (x3 : FVec Ideal S1x1024 .f32) (x4 : FVec Ideal S512x1024 .f32) (x5 : FVec Ideal S512x1024 .f32) (xo : FVec Ideal S1x1024 .f32) (r : Fin 512) (j : Fin 1024) :
    (out0_B_6 (F := Ideal) c i arg1 harg1 arg2 harg2 arg3 harg3 arg4 harg4 arg5 harg5 arg6 harg6 arg7 harg7 arg8 harg8 hc0 x0 x1 x2 x3 x4 x5 xo (ix2 r j) : EReal)
      = (x4 (ix2 r j) : EReal) + Rms.K (fun k => x2 (ix2 r k)) (fun k => D4 (fun k => x5 (ix2 r k)) (fun k => x0 (ix2 r k)) (fun q j k => x1 (ix3 q j k)) k * (x3 (ix2 0 k) : EReal)) j := by
  unfold out0_B_6
  frame_out
  refine (pay3_at _ _ _ _ r j).trans ?_
  congr 1
  refine congrArg (fun d => Rms.K _ d j) (funext fun k => ?_)
  exact congrArg (· * (x3 (ix2 0 k) : EReal)) (d_at _ _ _ _ _ _ _ _ _ (fun k => x0 (ix2 r k)) (fun q j k => x1 (ix3 q j k)) r k (fun k => by pointwise) (fun k => by pointwise) (fun k => by pointwise) (fun k => by pointwise) (fun k => by pointwise) (fun k => by pointwise) (fun k => by pointwise) (fun k => by pointwise))

theorem outB7 (i : grid0.Coords) (arg1 harg1 arg2 harg2 arg3 harg3 arg4 harg4 arg5 harg5 arg6 harg6 arg7 harg7 arg8 harg8) (hc0 : ¬cond0_0 i) (x0 : FVec Ideal S512x4096 .bf16) (x1 : FVec Ideal S4x1024x1024 .bf16) (x2 : FVec Ideal S512x1024 .f32) (x3 : FVec Ideal S1x1024 .f32) (x4 : FVec Ideal S512x1024 .f32) (x5 : FVec Ideal S512x1024 .f32) (xo : FVec Ideal S1x1024 .f32) (j : Fin 1024) :
    (out0_B_7 (F := Ideal) c i arg1 harg1 arg2 harg2 arg3 harg3 arg4 harg4 arg5 harg5 arg6 harg6 arg7 harg7 arg8 harg8 hc0 x0 x1 x2 x3 x4 x5 xo (ix2 0 j) : EReal)
      = (xo (ix2 0 j) : EReal) + ∑ r : Fin 512, D4 (fun k => x5 (ix2 r k)) (fun k => x0 (ix2 r k)) (fun q j k => x1 (ix3 q j k)) j * ((x2 (ix2 r j) : EReal) * Rms.rs (fun k => x2 (ix2 r k))) := by
  unfold out0_B_7
  frame_out
  refine (pay4_at _ _ _ j).trans (congrArg₂ (· + ·) rfl (Finset.sum_congr rfl fun r _ => congrArg (· * ((x2 (ix2 r j) : EReal) * Rms.rs (fun k => x2 (ix2 r k)))) ?_))
  exact (d_at _ _ _ _ _ _ _ _ _ (fun k => x0 (ix2 r k)) (fun q j k => x1 (ix3 q j k)) r j (fun k => by pointwise) (fun k => by pointwise) (fun k => by pointwise) (fun k => by pointwise) (fun k => by pointwise) (fun k => by pointwise) (fun k => by pointwise) (fun k => by pointwise))

theorem ref21_at (x2 : FVec Ideal S1024x5376 .f32) (x3 : FVec Ideal S16384x4096 .bf16) (x4 : FVec Ideal S16384x1024 .f32) (r : Fin 16384) (j : Fin 1024) :
    (val_main_v21 (F := Ideal) x2 x3 x4 (ix2 r j) : EReal) = D (fun k => x4 (ix2 r k)) (fun k => x3 (ix2 r k)) (fun j k => x2 (ix2 j ⟨1280 + k.val, by omega⟩)) j := by
  unfold D
  pointwise [val_main_v21, val_main_v20, val_main_v19, val_main_v17]

theorem ref42_at (x0 : FVec Ideal S16384x1024 .f32) (x1 : FVec Ideal S1x1024 .f32) (x2 : FVec Ideal S1024x5376 .f32) (x3 : FVec Ideal S16384x4096 .bf16) (x4 x5 : FVec Ideal S16384x1024 .f32) (r : Fin 16384) (j : Fin 1024) :
    (val_main_v42 (F := Ideal) x0 x1 x2 x3 x4 x5 (ix2 r j) : EReal) = (x5 (ix2 r j) : EReal) + Rms.K (fun k => x0 (ix2 r k)) (fun k => D (fun k => x4 (ix2 r k)) (fun k => x3 (ix2 r k)) (fun j k => x2 (ix2 j ⟨1280 + k.val, by omega⟩)) k * (x1 (ix2 0 k) : EReal)) j := by
  rw [Rms.eq, ← add_assoc, ← add_assoc]
  unfold Rms.T Rms.rs Rms.ms
  simp only [← ref21_at x2 x3 x4]
  generalize hd : val_main_v21 (F := Ideal) x2 x3 x4 = d
  pointwise [val_main_v42, val_main_v41, val_main_v40, val_main_v39, val_main_v38, val_main_v37, val_main_v36, val_main_v35, val_main_v34, val_main_v33, val_main_v32, val_main_v31, val_main_v30, val_main_v29, val_main_v28, val_main_v26, val_main_v25, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, hd]
  simp only [Finset.univ_unique, Finset.sum_singleton]

theorem ref43_at (x0 : FVec Ideal S16384x1024 .f32) (x2 : FVec Ideal S1024x5376 .f32) (x3 : FVec Ideal S16384x4096 .bf16) (x4 : FVec Ideal S16384x1024 .f32) (j : Fin 1024) :
    (val_main_v43 (F := Ideal) x0 x2 x3 x4 (ix2 0 j) : EReal) = ∑ r : Fin 16384, D (fun k => x4 (ix2 r k)) (fun k => x3 (ix2 r k)) (fun j k => x2 (ix2 j ⟨1280 + k.val, by omega⟩)) j * ((x0 (ix2 r j) : EReal) * Rms.rs (fun k => x0 (ix2 r k))) := by
  unfold Rms.rs Rms.ms
  simp only [← ref21_at x2 x3 x4]
  generalize hd : val_main_v21 (F := Ideal) x2 x3 x4 = d
  pointwise [val_main_v43, val_main_v27, val_main_v24, val_main_v23, val_main_v22, val_main_v13, val_main_v12, val_main_v8, val_main_v7, val_main_v6, val_main_v5, val_main_v4, val_main_v3, val_main_v2, val_main_v1, val_main_cst, val_main_cst_0, val_main_cst_1, val_main_cst_3, val_main_cst_4, hd]
  simp only [Finset.univ_unique, Finset.sum_singleton]
  exact Finset.sum_congr rfl fun r _ => mul_comm _ _

/-- What a point adds to the gradient of the scale, and the derivative rows it reads. -/
theorem D4_at (t : Fin cfg0.N) (r : Fin 512) :
    D4 (fun k => (iblk m c 5 t : FVec Ideal S512x1024 .f32) (ix2 r k)) (fun k => (iblk m c 0 t : FVec Ideal S512x4096 .bf16) (ix2 r k)) (fun q j k => (iblk m c 1 t : FVec Ideal S4x1024x1024 .bf16) (ix3 q j k))
      = D (fun k => m (c.tc.loc main_arg4) (ix2 ⟨512 * t.val + r.val, by have := lt32 t; omega⟩ k)) (fun k => m (c.tc.loc main_arg3) (ix2 ⟨512 * t.val + r.val, by have := lt32 t; omega⟩ k)) (fun j k => m (c.tc.loc main_arg2) (ix2 j ⟨1280 + k.val, by omega⟩)) := by
  refine Eq.trans ?_ (D4_eq _ _ _)
  congr 1
  · funext k; exact x5_at m c t r k
  · funext k; exact x0_at m c t r k
  · funext q j k; exact x1_at m c t q j k

theorem row_at (t : Fin cfg0.N) (r : Fin 512) : (fun k : Fin 1024 => (iblk m c 2 t : FVec Ideal S512x1024 .f32) (ix2 r k)) = fun k => m (c.tc.loc main_arg0) (ix2 ⟨512 * t.val + r.val, by have := lt32 t; omega⟩ k) :=
  funext fun k => x2_at m c t r k

/-- The derivative of the block's rows. -/
theorem dx_at (t : Fin cfg0.N) (r : Fin 512) (j : Fin 1024) :
    ((outsAt0 m c t.val t.isLt).1 (ix2 r j) : EReal) = (show EReal from m (c.tc.loc main_arg5) (ix2 ⟨512 * t.val + r.val, by have := lt32 t; omega⟩ j))
      + Rms.K (fun k => m (c.tc.loc main_arg0) (ix2 ⟨512 * t.val + r.val, by have := lt32 t; omega⟩ k)) (fun k => D (fun k => m (c.tc.loc main_arg4) (ix2 ⟨512 * t.val + r.val, by have := lt32 t; omega⟩ k)) (fun k => m (c.tc.loc main_arg3) (ix2 ⟨512 * t.val + r.val, by have := lt32 t; omega⟩ k)) (fun j k => m (c.tc.loc main_arg2) (ix2 j ⟨1280 + k.val, by omega⟩)) k * (show EReal from m (c.tc.loc main_arg1) (ix2 0 k))) j := by
  have e : (show EReal from (iblk m c 4 t : FVec Ideal S512x1024 .f32) (ix2 r j)) + Rms.K (fun k => (iblk m c 2 t : FVec Ideal S512x1024 .f32) (ix2 r k)) (fun k => D4 (fun k => (iblk m c 5 t : FVec Ideal S512x1024 .f32) (ix2 r k)) (fun k => (iblk m c 0 t : FVec Ideal S512x4096 .bf16) (ix2 r k)) (fun q j k => (iblk m c 1 t : FVec Ideal S4x1024x1024 .bf16) (ix3 q j k)) k * (show EReal from (iblk m c 3 t : FVec Ideal S1x1024 .f32) (ix2 0 k))) j
      = (show EReal from m (c.tc.loc main_arg5) (ix2 ⟨512 * t.val + r.val, by have := lt32 t; omega⟩ j))
      + Rms.K (fun k => m (c.tc.loc main_arg0) (ix2 ⟨512 * t.val + r.val, by have := lt32 t; omega⟩ k)) (fun k => D (fun k => m (c.tc.loc main_arg4) (ix2 ⟨512 * t.val + r.val, by have := lt32 t; omega⟩ k)) (fun k => m (c.tc.loc main_arg3) (ix2 ⟨512 * t.val + r.val, by have := lt32 t; omega⟩ k)) (fun j k => m (c.tc.loc main_arg2) (ix2 j ⟨1280 + k.val, by omega⟩)) k * (show EReal from m (c.tc.loc main_arg1) (ix2 0 k))) j := by
    rw [row_at, D4_at]
    refine congrArg₂ (· + ·) (x4_at m c t r j) (congrArg (fun d => Rms.K _ d j) (funext fun k => congrArg (_ * ·) (x3_at m c t k)))
  by_cases h : t.val % 32 = 0
  · rw [outsAt0_A m c t h]; dsimp only
    exact (outA6 _ _ _ _ _ _ _ _ _ _ _ _ _ _ _ _ _ _ _ _ _ _ _ _ _ r j).trans e
  · rw [outsAt0_B m c t h]; dsimp only
    exact (outB6 _ _ _ _ _ _ _ _ _ _ _ _ _ _ _ _ _ _ _ _ _ _ _ _ _ _ r j).trans e

/-- What point `t` adds to the gradient of the scale. -/
def S (j : Fin 1024) (t : Fin cfg0.N) : EReal :=
  ∑ r : Fin 512, D (fun k => m (c.tc.loc main_arg4) (ix2 ⟨512 * t.val + r.val, by have := lt32 t; omega⟩ k)) (fun k => m (c.tc.loc main_arg3) (ix2 ⟨512 * t.val + r.val, by have := lt32 t; omega⟩ k)) (fun j k => m (c.tc.loc main_arg2) (ix2 j ⟨1280 + k.val, by omega⟩)) j
    * ((show EReal from m (c.tc.loc main_arg0) (ix2 ⟨512 * t.val + r.val, by have := lt32 t; omega⟩ j)) * Rms.rs (fun k => m (c.tc.loc main_arg0) (ix2 ⟨512 * t.val + r.val, by have := lt32 t; omega⟩ k)))

theorem S_eq (j : Fin 1024) (t : Fin cfg0.N) :
    ∑ r : Fin 512, D4 (fun k => (iblk m c 5 t : FVec Ideal S512x1024 .f32) (ix2 r k)) (fun k => (iblk m c 0 t : FVec Ideal S512x4096 .bf16) (ix2 r k)) (fun q j k => (iblk m c 1 t : FVec Ideal S4x1024x1024 .bf16) (ix3 q j k)) j * ((show EReal from (iblk m c 2 t : FVec Ideal S512x1024 .f32) (ix2 r j)) * Rms.rs (fun k => (iblk m c 2 t : FVec Ideal S512x1024 .f32) (ix2 r k))) = S m c j t := by
  refine Finset.sum_congr rfl fun r _ => ?_
  rw [row_at, D4_at]
  exact congrArg₂ (· * ·) rfl (congrArg₂ (· * ·) (x2_at m c t r j) rfl)

theorem dg_at (j : Fin 1024) (t : Fin cfg0.N) (ht : t.val % 32 = 31) :
    ((outsAt0 m c t.val t.isLt).2 (ix2 0 j) : EReal) = ∑ r : Fin 16384, D (fun k => m (c.tc.loc main_arg4) (ix2 r k)) (fun k => m (c.tc.loc main_arg3) (ix2 r k)) (fun j k => m (c.tc.loc main_arg2) (ix2 j ⟨1280 + k.val, by omega⟩)) j
      * ((show EReal from m (c.tc.loc main_arg0) (ix2 r j)) * Rms.rs (fun k => m (c.tc.loc main_arg0) (ix2 r k))) := by
  refine (Slab.run_sum (J := 32) (by decide) (F := fun n h => ((outsAt0 m c n h).2 (ix2 0 j) : EReal)) (T := S m c j) (fun t h => ?_) (fun t h => ?_) t ht).trans ?_
  · rw [outsAt0_A m c t h]; dsimp only
    exact (outA7 _ _ _ _ _ _ _ _ _ _ _ _ _ _ _ _ _ _ _ _ _ _ _ _ _ j).trans (congrArg (0 + ·) (S_eq m c j t))
  · rw [outsAt0_B m c t h]; dsimp only
    exact (outB7 _ _ _ _ _ _ _ _ _ _ _ _ _ _ _ _ _ _ _ _ _ _ _ _ _ _ j).trans (congrArg (_ + ·) (S_eq m c j t))
  · refine Eq.trans ?_ (Slab.sum_runs (J := 32) (K := 512) (fun r => D (fun k => m (c.tc.loc main_arg4) (ix2 r k)) (fun k => m (c.tc.loc main_arg3) (ix2 r k)) (fun j k => m (c.tc.loc main_arg2) (ix2 j ⟨1280 + k.val, by omega⟩)) j
      * ((show EReal from m (c.tc.loc main_arg0) (ix2 r j)) * Rms.rs (fun k => m (c.tc.loc main_arg0) (ix2 r k)))))
    have h0 : t.val / 32 = 0 := by have := lt32 t; omega
    refine Finset.sum_congr rfl fun s _ => Finset.sum_congr rfl fun k _ => ?_
    simp only [h0, Nat.mul_zero, Nat.zero_add]

theorem final0 : (dats m 0 c).arrAt 6 (cfgs 0).N = val_main_v42 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t hf y => ?_
  have hl := lt32 t
  have hy : (win0_6.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, (outsAt0 m c t.val t.isLt).1 y = val_main_v42 (F := Ideal) (m (c.tc.loc main_arg0)) (m (c.tc.loc main_arg1)) (m (c.tc.loc main_arg2)) (m (c.tc.loc main_arg3)) (m (c.tc.loc main_arg4)) (m (c.tc.loc main_arg5)) (ix2 ⟨512 * t.val + (y 0).val, by have : (y 0).val < 512 := (y 0).isLt; omega⟩ (y 1)) := by
    intro y
    idx_vars y
    exact (dx_at m c t y0 y1).trans (ref42_at _ _ _ _ _ _ ⟨512 * t.val + y0.val, by omega⟩ y1).symm
  refine Eq.trans ?_ ((key y).trans (congrArg _ hy.symm))
  blk_simp
  rw [after0_6]

theorem final1 : (dats m 0 c).arrAt 7 (cfgs 0).N = val_main_v43 (F := Ideal) (m (c.tc.loc main_arg0)) (m (c.tc.loc main_arg2)) (m (c.tc.loc main_arg3)) (m (c.tc.loc main_arg4)) := by
  refine (dats m 0 c).arrAt_eq_of_covers 7 _ (by decide +kernel) fun t hf y => ?_
  have ht := (flush0_7 t).mp hf
  have hl := lt32 t
  have hy : (win0_7.blk t).view.emb y = (ix2 0 ((y : S1x1024.Idx) 1) : S1x1024.Idx) := by
    have h0 : ((y : S1x1024.Idx) 0).val < 1 := ((y : S1x1024.Idx) 0).isLt
    funext a; apply Fin.ext; fin_cases a <;> blk_simp [idx t] <;> simp <;> omega
  have key : ∀ y : S1x1024.Idx, (outsAt0 m c t.val t.isLt).2 y = val_main_v43 (F := Ideal) (m (c.tc.loc main_arg0)) (m (c.tc.loc main_arg2)) (m (c.tc.loc main_arg3)) (m (c.tc.loc main_arg4)) (ix2 0 (y 1)) := by
    intro y
    idx_vars y
    obtain rfl : y0 = 0 := by omega
    exact (dg_at m c y1 t ht).trans (ref43_at _ _ _ _ y1).symm
  refine Eq.trans ?_ ((key y).trans (congrArg _ hy.symm))
  blk_simp
  rw [after0_7]

theorem algebraic : Cert.algebraic_MixBwdIdeal_MixBwdRefIdeal := by
  intro m g m' g' _ ha
  refine ⟨_, _, Cert.MixBwdIdeal.Value.run_blocks m g, ?_⟩
  refine (θ_run Cert.MixBwdRefIdeal.defs _ _).mono (fun r h c => ?_) (Cert.MixBwdRefIdeal.Value.run m' g')
  obtain ⟨e0, e1, e2, e3, e4, e5⟩ := ha c
  obtain ⟨k0, k1, ka⟩ := h c
  refine ⟨k0.trans ((val_main_v42_eq _ _).trans ?_), k1.trans ((val_main_v43_eq _ _ _ _).trans ?_), ka⟩
  · rw [e0, e1, e2, e3, e4, e5]
    exact (final0 m c).symm
  · rw [e0, e2, e3, e4]
    exact (final1 m c).symm

end Cert.VMixBwd

end
-- ==== Proof.V.MixDw.lean ====
/- The gradient of the mixing columns of the in-projection: the sum over the row blocks is the whole product. -/
module

public import proofs.«01_k».proof.Defs
public import proofs.«01_k».proof.Proof.Gen.MixDwIdeal.Value
public import proofs.«01_k».proof.Proof.Gen.MixDwIdeal
public import proofs.«01_k».proof.Proof.Gen.MixDwRefIdeal
public import proofs.«01_k».proof.Proof.Gen.MixDwRefIdeal.Run
public import proofs.«01_k».proof.Proof.Gen.MixDwRefIdeal.Read
public import proofs.«01_k».proof.Proof.V.Slab
public import Idealize.ShloMosaic.Lib.Claim
public import Idealize.ShloMosaic.Lib.Pointwise
public import Idealize.ShloMosaic.Lib.Pipeline.ValueKit

@[expose] public section

set_option maxRecDepth 16384

noncomputable section

namespace Cert.VMixDw

open Cert.MixDwIdeal Cert.MixDwIdeal.Gen Cert.MixDwRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The normalised rows, which the host computes on both sides. -/
abbrev H : FVec Ideal Cert.MixDwRefIdeal.S16384x1024 .f32 := val_main_v14 (m (c.tc.loc main_arg0)) (m (c.tc.loc main_arg1))

theorem V14 : (V m c main_v14 : S16384x1024.Idx → EReal) = H m c := by
  unfold V; after_results_simp
  rfl

theorem idx : ∀ t : Fin cfg0.N, win0_0.index t = ![t.val % 16, 0] ∧ win0_1.index t = ![t.val % 16, t.val / 16] ∧ win0_2.index t = ![t.val / 16, 0, 0] :=
  (by decide +kernel : ∀ t : Fin grid0.N, _)

theorem lt32 (t : Fin cfg0.N) : t.val < 32 := (by decide +kernel : cfg0.N = 32) ▸ t.isLt

theorem x0_at (t : Fin cfg0.N) (k r : Fin 1024) : (iblk m c 0 t : FVec Ideal S1024x1024 .bf16) (ix2 k r) = H m c (ix2 ⟨1024 * (t.val % 16) + k.val, by omega⟩ r) := by
  refine Eq.trans ?_ (congrFun (V14 m c) _)
  blk_point [iblk, idx t]

theorem x1_at (t : Fin cfg0.N) (k : Fin 1024) (j : Fin 2048) : (iblk m c 1 t : FVec Ideal S1024x2048 .bf16) (ix2 k j)
    = m (c.tc.loc main_arg2) (ix2 ⟨1024 * (t.val % 16) + k.val, by omega⟩ ⟨2048 * (t.val / 16) + j.val, by have := lt32 t; omega⟩) := by
  refine Eq.trans ?_ (congrFun (V_main_arg2 m c) _)
  blk_point [iblk, idx t]

theorem pay2_at (v : FVec Ideal S1x1024x1024 .f32) (x0 : FVec Ideal S1024x1024 .bf16) (w : FVec Ideal S1024x1024 .bf16) (r : Fin 1024) (j : Fin 1024) :
    (k0_pay2 (F := Ideal) v x0 w (ix3 0 r j) : EReal) = (v (ix3 0 r j) : EReal) + ∑ k : Fin 1024, (x0 (ix2 k r) : EReal) * (w (ix2 k j) : EReal) := by
  pointwise [k0_pay2]

theorem pay3_at (v : FVec Ideal S1x1024x1024 .f32) (x0 : FVec Ideal S1024x1024 .bf16) (w : FVec Ideal S1024x1024 .bf16) (r : Fin 1024) (j : Fin 1024) :
    (k0_pay3 (F := Ideal) v x0 w (ix3 0 r j) : EReal) = (v (ix3 0 r j) : EReal) + ∑ k : Fin 1024, (x0 (ix2 k r) : EReal) * (w (ix2 k j) : EReal) := by
  pointwise [k0_pay3]

theorem zero_at (L) (q : Fin 2) (r : Fin 1024) (j : Fin 1024) :
    (View.canon (Val := Elt Ideal) (s := S2x1024x1024) (e := .f32) (⟨Rect.unit ![0, 0, 0] ![2, 1024, 1024] inb_S2x1024x1024_S2x1024x1024_0_0_0, k0_pay1 (F := Ideal)⟩ :: L) (ix3 q r j) : EReal) = 0 := by
  refine (congrFun (View.canon_cons_unit_lit (S := S2x1024x1024) inb_S2x1024x1024_S2x1024x1024_0_0_0 _ L (by decide)) _).trans ?_
  pointwise [k0_pay1]

theorem outA (i : grid0.Coords) (arg2 harg2 arg3 harg3 arg4 harg4) (hc0 : cond0_0 i) (x0 : FVec Ideal S1024x1024 .bf16) (x1 : FVec Ideal S1024x2048 .bf16) (q : Fin 2) (r : Fin 1024) (j : Fin 1024) :
    (out0_A_2 (F := Ideal) c i arg2 harg2 arg3 harg3 arg4 harg4 hc0 x0 x1 (ix3 q r j) : EReal) = 0 + ∑ k : Fin 1024, (x0 (ix2 k r) : EReal) * (x1 (ix2 k ⟨1024 * q.val + j.val, by omega⟩) : EReal) := by
  unfold out0_A_2
  frame_out
  refine (Slab.canon_slab (1 : Fin 2) inb_S2x1024x1024_S1x1024x1024_1_0_0 _ _ q r j).trans ?_
  by_cases h1 : q = 1
  · subst h1
    rw [if_pos rfl]
    refine (pay3_at _ _ _ r j).trans (congrArg₂ (· + ·) ?_ ?_)
    · refine (Slab.readCov_slab _ (1 : Fin 2) inb_S2x1024x1024_S1x1024x1024_1_0_0 _ r j).trans ?_
      refine (Slab.canon_slab (0 : Fin 2) inb_S2x1024x1024_S1x1024x1024_0_0_0 _ _ 1 r j).trans ?_
      rw [if_neg (by decide)]
      exact zero_at _ 1 r j
    · refine Finset.sum_congr rfl fun k _ => ?_
      pointwise
  · rw [if_neg h1]
    obtain rfl : q = 0 := by omega
    refine (Slab.canon_slab (0 : Fin 2) inb_S2x1024x1024_S1x1024x1024_0_0_0 _ _ 0 r j).trans ?_
    rw [if_pos rfl]
    refine (pay2_at _ _ _ r j).trans (congrArg₂ (· + ·) ?_ ?_)
    · refine (Slab.readCov_slab _ (0 : Fin 2) inb_S2x1024x1024_S1x1024x1024_0_0_0 _ r j).trans ?_
      exact zero_at _ 0 r j
    · refine Finset.sum_congr rfl fun k _ => ?_
      pointwise

theorem outB (i : grid0.Coords) (arg2 harg2 arg3 harg3 arg4 harg4) (hc0 : ¬cond0_0 i) (x0 : FVec Ideal S1024x1024 .bf16) (x1 : FVec Ideal S1024x2048 .bf16) (y : FVec Ideal S2x1024x1024 .f32) (q : Fin 2) (r : Fin 1024) (j : Fin 1024) :
    (out0_B_2 (F := Ideal) c i arg2 harg2 arg3 harg3 arg4 harg4 hc0 x0 x1 y (ix3 q r j) : EReal) = (y (ix3 q r j) : EReal) + ∑ k : Fin 1024, (x0 (ix2 k r) : EReal) * (x1 (ix2 k ⟨1024 * q.val + j.val, by omega⟩) : EReal) := by
  unfold out0_B_2
  frame_out
  refine (Slab.canon_slab (1 : Fin 2) inb_S2x1024x1024_S1x1024x1024_1_0_0 _ _ q r j).trans ?_
  by_cases h1 : q = 1
  · subst h1
    rw [if_pos rfl]
    refine (pay3_at _ _ _ r j).trans (congrArg₂ (· + ·) ?_ ?_)
    · exact Slab.ld_slab (1 : Fin 2) inb_S2x1024x1024_S1x1024x1024_1_0_0 y r j
    · refine Finset.sum_congr rfl fun k _ => ?_
      pointwise
  · rw [if_neg h1]
    obtain rfl : q = 0 := by omega
    refine (Slab.canon_slab (0 : Fin 2) inb_S2x1024x1024_S1x1024x1024_0_0_0 _ _ 0 r j).trans ?_
    rw [if_pos rfl]
    refine (pay2_at _ _ _ r j).trans (congrArg₂ (· + ·) ?_ ?_)
    · exact Slab.ld_slab (0 : Fin 2) inb_S2x1024x1024_S1x1024x1024_0_0_0 y r j
    · refine Finset.sum_congr rfl fun k _ => ?_
      pointwise

/-- What point `t` adds. -/
def T (q : Fin 2) (r : Fin 1024) (j : Fin 1024) (t : Fin cfg0.N) : EReal :=
  ∑ k : Fin 1024, (H m c (ix2 ⟨1024 * (t.val % 16) + k.val, by omega⟩ r) : EReal)
    * (m (c.tc.loc main_arg2) (ix2 ⟨1024 * (t.val % 16) + k.val, by omega⟩ ⟨2048 * (t.val / 16) + (1024 * q.val + j.val), by have := lt32 t; omega⟩) : EReal)

theorem T_eq (q : Fin 2) (r : Fin 1024) (j : Fin 1024) (t : Fin cfg0.N) :
    ∑ k : Fin 1024, (show EReal from (iblk m c 0 t : FVec Ideal S1024x1024 .bf16) (ix2 k r)) * (show EReal from (iblk m c 1 t : FVec Ideal S1024x2048 .bf16) (ix2 k ⟨1024 * q.val + j.val, by omega⟩)) = T m c q r j t :=
  Finset.sum_congr rfl fun k _ => congrArg₂ (· * ·) (x0_at m c t k r) (x1_at m c t k _)

theorem last (q : Fin 2) (r : Fin 1024) (j : Fin 1024) (t : Fin cfg0.N) (ht : t.val % 16 = 15) :
    ((outsAt0 m c t.val t.isLt) (ix3 q r j) : EReal) = ∑ k : Fin 16384, (H m c (ix2 k r) : EReal) * (m (c.tc.loc main_arg2) (ix2 k ⟨1024 * (2 * (t.val / 16) + q.val) + j.val, by have := lt32 t; omega⟩) : EReal) := by
  refine (Slab.run_sum (J := 16) (by decide) (F := fun n h => (outsAt0 m c n h (ix3 q r j) : EReal)) (T := T m c q r j) (fun t h => ?_) (fun t h => ?_) t ht).trans ?_
  · refine (congrFun (outsAt0_A m c t h) _).trans ?_
    exact (outA _ _ _ _ _ _ _ _ _ _ _ q r j).trans (congrArg (0 + ·) (T_eq m c q r j t))
  · refine (congrFun (outsAt0_B m c t h) _).trans ?_
    exact (outB _ _ _ _ _ _ _ _ _ _ _ _ q r j).trans (congrArg (_ + ·) (T_eq m c q r j t))
  · refine Eq.trans ?_ (Slab.sum_runs (J := 16) (K := 1024) (fun k => (H m c (ix2 k r) : EReal) * (m (c.tc.loc main_arg2) (ix2 k ⟨1024 * (2 * (t.val / 16) + q.val) + j.val, by have := lt32 t; omega⟩) : EReal)))
    refine Finset.sum_congr rfl fun s _ => Finset.sum_congr rfl fun k _ => ?_
    have e1 : (16 * (t.val / 16) + s.val) % 16 = s.val := by omega
    have e2 : (16 * (t.val / 16) + s.val) / 16 = t.val / 16 := by omega
    congr 4 <;> (dsimp only; omega)

theorem ref_at (x0 : FVec Ideal S16384x1024 .f32) (x1 : FVec Ideal S1x1024 .f32) (x2 : FVec Ideal S16384x4096 .bf16) (a : Fin 4) (b : Fin 1024) (j : Fin 1024) :
    (val_main_v20 (F := Ideal) x0 x1 x2 (ix3 a b j) : EReal) =
      ∑ k : Fin 16384, (val_main_v14 (F := Ideal) x0 x1 (ix2 k b) : EReal) * (x2 (ix2 k ⟨1024 * a.val + j.val, by omega⟩) : EReal) := by
  rw [val_main_v20_apply, val_main_v19_apply, val_main_v18_apply, val_main_v17_apply]
  refine Finset.sum_congr rfl fun k _ => (mul_comm _ _).trans ?_
  rw [val_main_v16_apply]
  refine congrArg₂ (· * ·) (congrArg (val_main_v14 (F := Ideal) x0 x1) ?_) (congrArg x2 ?_) <;>
    (funext a; apply Fin.ext; match a with
      | ⟨0, _⟩ => dsimp; try omega
      | ⟨1, _⟩ => dsimp; try omega)

theorem final : (dats m 0 c).arrAt 2 (cfgs 0).N = val_main_v20 (m (c.tc.loc main_arg0)) (m (c.tc.loc main_arg1)) (m (c.tc.loc main_arg2)) := by
  refine (dats m 0 c).arrAt_eq_of_covers 2 _ (by decide +kernel) fun t hf y => ?_
  have ht := (flush0_2 t).mp hf
  have hl := lt32 t
  have hy : (win0_2.blk t).view.emb y = (ix3 ⟨2 * (t.val / 16) + ((y : S2x1024x1024.Idx) 0).val, by have : ((y : S2x1024x1024.Idx) 0).val < 2 := ((y : S2x1024x1024.Idx) 0).isLt; omega⟩
      ((y : S2x1024x1024.Idx) 1) ((y : S2x1024x1024.Idx) 2) : S4x1024x1024.Idx) := by
    funext a; apply Fin.ext; fin_cases a <;> blk_simp [idx t] <;> simp <;> omega
  have key : ∀ y : S2x1024x1024.Idx, (outsAt0 m c t.val t.isLt) y = val_main_v20 (m (c.tc.loc main_arg0)) (m (c.tc.loc main_arg1)) (m (c.tc.loc main_arg2)) (ix3 ⟨2 * (t.val / 16) + (y 0).val, by have : (y 0).val < 2 := (y 0).isLt; omega⟩
      (y 1) (y 2)) := by
    intro y
    idx_vars y
    exact (last m c y0 y1 y2 t ht).trans (ref_at _ _ _ ⟨2 * (t.val / 16) + y0.val, by omega⟩ y1 y2).symm
  refine Eq.trans ?_ ((key y).trans (congrArg _ hy.symm))
  blk_simp
  rw [after0_2]

theorem algebraic : Cert.algebraic_MixDwIdeal_MixDwRefIdeal := by
  intro m g m' g' _ ha
  refine ⟨_, Cert.MixDwIdeal.Value.run_blocks m g, ?_⟩
  refine (θ_run Cert.MixDwRefIdeal.defs _ _).mono (fun r h c => ?_) (Cert.MixDwRefIdeal.Value.run m' g')
  obtain ⟨e0, e1, e2⟩ := ha c
  obtain ⟨k0, ka⟩ := h c
  refine ⟨k0.trans ((val_main_v20_eq _ _ _).trans ?_), ka⟩
  · rw [e0, e1, e2]
    exact (final m c).symm

end Cert.VMixDw

end
-- ==== Proof.V.QkvIn.lean ====
/- The attention block's normalisation and input products: each block of tokens is that block of the whole. -/
module

public import proofs.«01_k».proof.Defs
public import proofs.«01_k».proof.Proof.Gen.QkvInIdeal.Value
public import proofs.«01_k».proof.Proof.Gen.QkvInIdeal
public import proofs.«01_k».proof.Proof.Gen.QkvInRefIdeal
public import proofs.«01_k».proof.Proof.Gen.QkvInRefIdeal.Run
public import proofs.«01_k».proof.Proof.Gen.QkvInRefIdeal.Read
public import proofs.«01_k».proof.Proof.V.Slab
public import Idealize.ShloMosaic.Lib.Claim
public import Idealize.ShloMosaic.Lib.Pointwise
public import Idealize.ShloMosaic.Lib.Pipeline.ValueKit

@[expose] public section

set_option maxRecDepth 16384

noncomputable section

namespace Cert.VQkvIn

open Cert.QkvInIdeal Cert.QkvInIdeal.Gen Cert.QkvInRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V2 (a : Fin 1280) (b : Fin 1024) : ((V m c main_v2 : S1280x1024.Idx → EReal) (ix2 a b) : EReal) = m (c.tc.loc main_arg2) (ix2 b ⟨a.val, by omega⟩) := by
  have e : (V m c main_v2 : S1280x1024.Idx → EReal) = transpose S1280x1024 [1, 0] (extractStridedSlice S1024x1280 ![0, 0] (m (c.tc.loc main_arg2) : FVec Ideal S1024x5376 .f32) slices_S1024x5376_S1024x1280_0_0) transposes_S1024x1280_S1280x1024_1_0 := by
    unfold V; after_results_simp; rfl
  rw [e]
  pointwise

theorem idx : ∀ t : Fin cfg0.N, win0_0.index t = ![t.val, 0] ∧ win0_1.index t = ![0, 0] ∧ win0_2.index t = ![0, 0] ∧ win0_3.index t = ![0, t.val] ∧ win0_4.index t = ![t.val, 0] :=
  (by decide +kernel : ∀ t : Fin grid0.N, _)

theorem lt16 (t : Fin cfg0.N) : t.val < 16 := (by decide +kernel : cfg0.N = 16) ▸ t.isLt

theorem x0_at (t : Fin cfg0.N) (r : Fin 1024) (k : Fin 1024) : (iblk m c 0 t : FVec Ideal S1024x1024 .f32) (ix2 r k) = m (c.tc.loc main_arg0) (ix2 ⟨1024 * t.val + r.val, by have := lt16 t; omega⟩ k) := by
  refine Eq.trans ?_ (congrFun (V_main_arg0 m c) _)
  blk_point [iblk, idx t]

theorem x1_at (t : Fin cfg0.N) (j : Fin 1024) : (iblk m c 1 t : FVec Ideal S1x1024 .f32) (ix2 0 j) = m (c.tc.loc main_arg1) (ix2 0 j) := by
  refine Eq.trans ?_ (congrFun (V_main_arg1 m c) _)
  blk_point [iblk, idx t]

theorem x2_at (t : Fin cfg0.N) (a : Fin 1280) (b : Fin 1024) : (iblk m c 2 t : FVec Ideal S1280x1024 .bf16) (ix2 a b) = m (c.tc.loc main_arg2) (ix2 b ⟨a.val, by omega⟩) := by
  refine Eq.trans ?_ (V2 m c a b)
  blk_point [iblk, idx t]

/-- One normalised row. -/
def Y (x g : Fin 1024 → EReal) (j : Fin 1024) : EReal :=
  x j * Ideal.rsqrt (Ideal.div (∑ k : Fin 1024, x k * x k) (Ideal.ofBits .f32 0x44800000#32) + Ideal.ofBits .f32 0x358637BD#32) * g j

theorem pay1_at (x : FVec Ideal S1024x1024 .f32) (g : FVec Ideal S1x1024 .f32) (r : Fin 1024) (j : Fin 1024) :
    (k0_pay1 (F := Ideal) x g (ix2 r j) : EReal) = Y (fun k => x (ix2 r k)) (fun k => g (ix2 0 k)) j := by
  unfold Y
  pointwise [k0_pay1]

theorem pay2_at (x : FVec Ideal S1024x1024 .f32) (g : FVec Ideal S1x1024 .f32) (w : FVec Ideal S1280x1024 .bf16) (a : Fin 1280) (r : Fin 1024) :
    (k0_pay2 (F := Ideal) x g w (ix2 a r) : EReal) = ∑ k : Fin 1024, (w (ix2 a k) : EReal) * Y (fun k => x (ix2 r k)) (fun k => g (ix2 0 k)) k := by
  unfold Y
  pointwise [k0_pay2, k0_pay1]

theorem ref13_at (x0 : FVec Ideal S16384x1024 .f32) (x1 : FVec Ideal S1x1024 .f32) (r : Fin 16384) (j : Fin 1024) :
    (val_main_v13 (F := Ideal) x0 x1 (ix2 r j) : EReal) = Y (fun k => x0 (ix2 r k)) (fun k => x1 (ix2 0 k)) j := by
  unfold Y
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref17_at (x0 : FVec Ideal S16384x1024 .f32) (x1 : FVec Ideal S1x1024 .f32) (x2 : FVec Ideal S1024x5376 .f32) (a : Fin 1280) (r : Fin 16384) :
    (val_main_v17 (F := Ideal) x0 x1 x2 (ix2 a r) : EReal) = ∑ k : Fin 1024, (x2 (ix2 k ⟨a.val, by omega⟩) : EReal) * Y (fun k => x0 (ix2 r k)) (fun k => x1 (ix2 0 k)) k := by
  have e : (val_main_v17 (F := Ideal) x0 x1 x2 (ix2 a r) : EReal) = ∑ k : Fin 1024, (val_main_v13 (F := Ideal) x0 x1 (ix2 r k) : EReal) * (x2 (ix2 k ⟨a.val, by omega⟩) : EReal) := by
    pointwise [val_main_v17, val_main_v16, val_main_v15, val_main_v14]
  rw [e]
  refine Finset.sum_congr rfl fun k _ => ?_
  rw [ref13_at, mul_comm]

theorem final0 : (dats m 0 c).arrAt 3 (cfgs 0).N = val_main_v17 (F := Ideal) (m (c.tc.loc main_arg0)) (m (c.tc.loc main_arg1)) (m (c.tc.loc main_arg2)) := by
  refine (dats m 0 c).arrAt_eq_of_covers 3 _ (by decide +kernel) fun t hf y => ?_
  have hl := lt16 t
  have hy : (win0_3.blk t).view.emb y = (ix2 ((y : S1280x1024.Idx) 0) ⟨1024 * t.val + ((y : S1280x1024.Idx) 1).val, by have : ((y : S1280x1024.Idx) 1).val < 1024 := ((y : S1280x1024.Idx) 1).isLt; omega⟩ : S1280x16384.Idx) := by
    funext a; apply Fin.ext; fin_cases a <;> blk_simp [idx t] <;> simp <;> omega
  have key : ∀ y : S1280x1024.Idx, out0_3 (iblk m c 0 t) (iblk m c 1 t) (iblk m c 2 t) y = val_main_v17 (F := Ideal) (m (c.tc.loc main_arg0)) (m (c.tc.loc main_arg1)) (m (c.tc.loc main_arg2)) (ix2 (y 0) ⟨1024 * t.val + (y 1).val, by have : (y 1).val < 1024 := (y 1).isLt; omega⟩) := by
    intro y
    idx_vars y
    unfold out0_3
    refine (congrFun (View.canon_cons_unit_lit (S := S1280x1024) inb_S1280x1024_S1280x1024_0_0 _ [] (by decide)) _).trans ?_
    refine (pay2_at _ _ _ y0 y1).trans ((ref17_at _ _ _ y0 _).trans ?_).symm
    refine Finset.sum_congr rfl fun k _ => congrArg₂ (· * ·) ?_ ?_
    · refine (x2_at m c t y0 k).symm.trans ?_
      pointwise
    · congr 1
      · funext k; refine (x0_at m c t y1 k).symm.trans ?_
        pointwise
      · funext k; refine (x1_at m c t k).symm.trans ?_
        pointwise
  refine Eq.trans ?_ ((key y).trans (congrArg _ hy.symm))
  blk_simp
  rw [after0_3]

theorem final1 : (dats m 0 c).arrAt 4 (cfgs 0).N = val_main_v18 (F := Ideal) (m (c.tc.loc main_arg0)) (m (c.tc.loc main_arg1)) := by
  refine (dats m 0 c).arrAt_eq_of_covers 4 _ (by decide +kernel) fun t hf y => ?_
  have hl := lt16 t
  have hy : (win0_4.blk t).view.emb y = (ix2 ⟨1024 * t.val + ((y : S1024x1024.Idx) 0).val, by have : ((y : S1024x1024.Idx) 0).val < 1024 := ((y : S1024x1024.Idx) 0).isLt; omega⟩ ((y : S1024x1024.Idx) 1) : S16384x1024.Idx) := by
    funext a; apply Fin.ext; fin_cases a <;> blk_simp [idx t] <;> simp <;> omega
  have key : ∀ y : S1024x1024.Idx, out0_4 (iblk m c 0 t) (iblk m c 1 t) (iblk m c 2 t) y = val_main_v18 (F := Ideal) (m (c.tc.loc main_arg0)) (m (c.tc.loc main_arg1)) (ix2 ⟨1024 * t.val + (y 0).val, by have : (y 0).val < 1024 := (y 0).isLt; omega⟩ (y 1)) := by
    intro y
    idx_vars y
    unfold out0_4
    refine (congrFun (View.canon_cons_unit_lit (S := S1024x1024) inb_S1024x1024_S1024x1024_0_0 _ [] (by decide)) _).trans ?_
    refine (pay1_at _ _ y0 y1).trans ((ref13_at _ _ _ y1).trans ?_).symm
    congr 1
    · funext k; refine (x0_at m c t y0 k).symm.trans ?_
      pointwise
    · funext k; refine (x1_at m c t k).symm.trans ?_
      pointwise
  refine Eq.trans ?_ ((key y).trans (congrArg _ hy.symm))
  blk_simp
  rw [after0_4]

theorem algebraic : Cert.algebraic_QkvInIdeal_QkvInRefIdeal := by
  intro m g m' g' _ ha
  refine ⟨_, _, Cert.QkvInIdeal.Value.run_blocks m g, ?_⟩
  refine (θ_run Cert.QkvInRefIdeal.defs _ _).mono (fun r h c => ?_) (Cert.QkvInRefIdeal.Value.run m' g')
  obtain ⟨e0, e1, e2⟩ := ha c
  obtain ⟨k0, k1, ka⟩ := h c
  refine ⟨k0.trans ((val_main_v17_eq _ _ _).trans ?_), k1.trans ((val_main_v18_eq _ _).trans ?_), ka⟩
  · rw [e0, e1, e2]
    exact (final0 m c).symm
  · rw [e0, e1]
    exact (final1 m c).symm

end Cert.VQkvIn

end
-- ==== Proof.V.QkvDw.lean ====
/- The gradient of the query, key and value columns of the in-projection: the sum over the row blocks is the whole product. -/
module

public import proofs.«01_k».proof.Defs
public import proofs.«01_k».proof.Proof.Gen.QkvDwIdeal.Value
public import proofs.«01_k».proof.Proof.Gen.QkvDwIdeal
public import proofs.«01_k».proof.Proof.Gen.QkvDwRefIdeal
public import proofs.«01_k».proof.Proof.Gen.QkvDwRefIdeal.Run
public import proofs.«01_k».proof.Proof.Gen.QkvDwRefIdeal.Read
public import proofs.«01_k».proof.Proof.V.Slab
public import Idealize.ShloMosaic.Lib.Claim
public import Idealize.ShloMosaic.Lib.Pointwise
public import Idealize.ShloMosaic.Lib.Pipeline.ValueKit

@[expose] public section

set_option maxRecDepth 16384

noncomputable section

namespace Cert.VQkvDw

open Cert.QkvDwIdeal Cert.QkvDwIdeal.Gen Cert.QkvDwRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The normalised rows, which the host computes on both sides. -/
abbrev H : FVec Ideal Cert.QkvDwRefIdeal.S16384x1024 .f32 := val_main_v14 (m (c.tc.loc main_arg0)) (m (c.tc.loc main_arg1))

theorem V14 : (V m c main_v14 : S16384x1024.Idx → EReal) = H m c := by
  unfold V; after_results_simp
  rfl

theorem idx : ∀ t : Fin cfg0.N, win0_0.index t = ![0, t.val] ∧ win0_1.index t = ![t.val, 0] ∧ win0_2.index t = ![0, 0] :=
  (by decide +kernel : ∀ t : Fin grid0.N, _)

theorem lt16 (t : Fin cfg0.N) : t.val < 16 := (by decide +kernel : cfg0.N = 16) ▸ t.isLt

theorem x0_at (t : Fin cfg0.N) (r : Fin 1280) (k : Fin 1024) : (iblk m c 0 t : FVec Ideal S1280x1024 .bf16) (ix2 r k)
    = m (c.tc.loc main_arg2) (ix2 r ⟨1024 * t.val + k.val, by have := lt16 t; omega⟩) := by
  refine Eq.trans ?_ (congrFun (V_main_arg2 m c) _)
  blk_point [iblk, idx t]

theorem x1_at (t : Fin cfg0.N) (k j : Fin 1024) : (iblk m c 1 t : FVec Ideal S1024x1024 .bf16) (ix2 k j) = H m c (ix2 ⟨1024 * t.val + k.val, by have := lt16 t; omega⟩ j) := by
  refine Eq.trans ?_ (congrFun (V14 m c) _)
  blk_point [iblk, idx t]

theorem pay2_at (v : FVec Ideal S1280x1024 .f32) (x0 : FVec Ideal S1280x1024 .bf16) (w : FVec Ideal S1024x1024 .bf16) (r : Fin 1280) (j : Fin 1024) :
    (k0_pay2 (F := Ideal) v x0 w (ix2 r j) : EReal) = (v (ix2 r j) : EReal) + ∑ k : Fin 1024, (x0 (ix2 r k) : EReal) * (w (ix2 k j) : EReal) := by
  pointwise [k0_pay2]

theorem zero_at (r : Fin 1280) (j : Fin 1024) : (k0_pay1 (F := Ideal) (ix2 r j) : EReal) = 0 := by
  pointwise [k0_pay1]

theorem outA (i : grid0.Coords) (arg1 harg1 arg2 harg2 arg3 harg3) (hc0 : cond0_0 i) (x0 : FVec Ideal S1280x1024 .bf16) (x1 : FVec Ideal S1024x1024 .bf16) (r : Fin 1280) (j : Fin 1024) :
    (out0_A_2 (F := Ideal) c i arg1 harg1 arg2 harg2 arg3 harg3 hc0 x0 x1 (ix2 r j) : EReal) = 0 + ∑ k : Fin 1024, (x0 (ix2 r k) : EReal) * (x1 (ix2 k j) : EReal) := by
  unfold out0_A_2
  frame_out
  rw [pay2_at, zero_at]

theorem outB (i : grid0.Coords) (arg1 harg1 arg2 harg2 arg3 harg3) (hc0 : ¬cond0_0 i) (x0 : FVec Ideal S1280x1024 .bf16) (x1 : FVec Ideal S1024x1024 .bf16) (y : FVec Ideal S1280x1024 .f32) (r : Fin 1280) (j : Fin 1024) :
    (out0_B_2 (F := Ideal) c i arg1 harg1 arg2 harg2 arg3 harg3 hc0 x0 x1 y (ix2 r j) : EReal) = (y (ix2 r j) : EReal) + ∑ k : Fin 1024, (x0 (ix2 r k) : EReal) * (x1 (ix2 k j) : EReal) := by
  unfold out0_B_2
  frame_out
  rw [pay2_at]

/-- What point `t` adds. -/
def T (r : Fin 1280) (j : Fin 1024) (t : Fin cfg0.N) : EReal :=
  ∑ k : Fin 1024, (show EReal from m (c.tc.loc main_arg2) (ix2 r ⟨1024 * t.val + k.val, by have := lt16 t; omega⟩)) * (H m c (ix2 ⟨1024 * t.val + k.val, by have := lt16 t; omega⟩ j) : EReal)

theorem T_eq (r : Fin 1280) (j : Fin 1024) (t : Fin cfg0.N) :
    ∑ k : Fin 1024, (show EReal from (iblk m c 0 t : FVec Ideal S1280x1024 .bf16) (ix2 r k)) * (show EReal from (iblk m c 1 t : FVec Ideal S1024x1024 .bf16) (ix2 k j)) = T m c r j t :=
  Finset.sum_congr rfl fun k _ => congrArg₂ (· * ·) (x0_at m c t r k) (x1_at m c t k j)

theorem last (r : Fin 1280) (j : Fin 1024) (t : Fin cfg0.N) (ht : t.val % 16 = 15) :
    ((outsAt0 m c t.val t.isLt) (ix2 r j) : EReal) = ∑ k : Fin 16384, (show EReal from m (c.tc.loc main_arg2) (ix2 r k)) * (H m c (ix2 k j) : EReal) := by
  refine (Slab.run_sum (J := 16) (by decide) (F := fun n h => (outsAt0 m c n h (ix2 r j) : EReal)) (T := T m c r j) (fun t h => ?_) (fun t h => ?_) t ht).trans ?_
  · refine (congrFun (outsAt0_A m c t h) _).trans ?_
    exact (outA _ _ _ _ _ _ _ _ _ _ _ r j).trans (congrArg (0 + ·) (T_eq m c r j t))
  · refine (congrFun (outsAt0_B m c t h) _).trans ?_
    exact (outB _ _ _ _ _ _ _ _ _ _ _ _ r j).trans (congrArg (_ + ·) (T_eq m c r j t))
  · refine Eq.trans ?_ (Slab.sum_runs (J := 16) (K := 1024) (fun k => (show EReal from m (c.tc.loc main_arg2) (ix2 r k)) * (H m c (ix2 k j) : EReal)))
    refine Finset.sum_congr rfl fun s _ => Finset.sum_congr rfl fun k _ => ?_
    have hl := lt16 t
    have e1 : 16 * (t.val / 16) + s.val = s.val := by omega
    refine congrArg₂ (· * ·) (congrArg (m (c.tc.loc main_arg2)) (congrArg (ix2 r) (Fin.ext ?_))) (congrArg (H m c) (congrArg (ix2 · j) (Fin.ext ?_))) <;> (dsimp only; rw [e1])

theorem ref_at (x0 : FVec Ideal S16384x1024 .f32) (x1 : FVec Ideal S1x1024 .f32) (x2 : FVec Ideal S1280x16384 .bf16) (a : Fin 1280) (b : Fin 1024) :
    (val_main_v20 (F := Ideal) x0 x1 x2 (ix2 a b) : EReal) =
      ∑ k : Fin 16384, (x2 (ix2 a k) : EReal) * (val_main_v14 (F := Ideal) x0 x1 (ix2 k b) : EReal) := by
  rw [val_main_v20_apply, val_main_v19_apply, val_main_v18_apply]
  refine Finset.sum_congr rfl fun k _ => ?_
  rw [val_main_v17_apply, val_main_v16_apply]
  refine congrArg₂ (· * ·) (congrArg x2 ?_) (congrArg (val_main_v14 (F := Ideal) x0 x1) ?_) <;>
    (funext a; apply Fin.ext; match a with
      | ⟨0, _⟩ => dsimp; try omega
      | ⟨1, _⟩ => dsimp; try omega)

theorem final : (dats m 0 c).arrAt 2 (cfgs 0).N = val_main_v20 (m (c.tc.loc main_arg0)) (m (c.tc.loc main_arg1)) (m (c.tc.loc main_arg2)) := by
  refine (dats m 0 c).arrAt_eq_of_covers 2 _ (by decide +kernel) fun t hf y => ?_
  have ht := (flush0_2 t).mp hf
  have hy : (win0_2.blk t).view.emb y = (y : S1280x1024.Idx) := by
    funext a; apply Fin.ext; fin_cases a <;> blk_simp [idx t] <;> simp
  have key : ∀ y : S1280x1024.Idx, (outsAt0 m c t.val t.isLt) y = val_main_v20 (m (c.tc.loc main_arg0)) (m (c.tc.loc main_arg1)) (m (c.tc.loc main_arg2)) y := by
    intro y
    idx_vars y
    exact (last m c y0 y1 t ht).trans (ref_at _ _ _ y0 y1).symm
  refine Eq.trans ?_ ((key y).trans (congrArg _ hy.symm))
  blk_simp
  rw [after0_2]

theorem algebraic : Cert.algebraic_QkvDwIdeal_QkvDwRefIdeal := by
  intro m g m' g' _ ha
  refine ⟨_, Cert.QkvDwIdeal.Value.run_blocks m g, ?_⟩
  refine (θ_run Cert.QkvDwRefIdeal.defs _ _).mono (fun r h c => ?_) (Cert.QkvDwRefIdeal.Value.run m' g')
  obtain ⟨e0, e1, e2⟩ := ha c
  obtain ⟨k0, ka⟩ := h c
  refine ⟨k0.trans ((val_main_v20_eq _ _ _).trans ?_), ka⟩
  · rw [e0, e1, e2]
    exact (final m c).symm

end Cert.VQkvDw

end
-- ==== Proof.V.QkvDh.lean ====
/- The gradient of the normalised input through the query, key and value columns. -/
module

public import proofs.«01_k».proof.Defs
public import proofs.«01_k».proof.Proof.Gen.QkvDhIdeal.Value
public import proofs.«01_k».proof.Proof.Gen.QkvDhIdeal
public import proofs.«01_k».proof.Proof.Gen.QkvDhRefIdeal
public import proofs.«01_k».proof.Proof.Gen.QkvDhRefIdeal.Run
public import proofs.«01_k».proof.Proof.Gen.QkvDhRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.VQkvDh

open Cert.QkvDhIdeal Cert.QkvDhIdeal.Gen Cert.QkvDhRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The entry contents of the transposed weight. -/
theorem V2 (k : Fin 1280) (j : Fin 1024) : (V m c main_v2 : S1280x1024.Idx → EReal) (ix2 k j) = m (c.tc.loc main_arg0) (ix2 j ⟨k.val, by omega⟩) := by
  have h : (V m c main_v2 : S1280x1024.Idx → EReal) = transpose S1280x1024 [1, 0] (extractStridedSlice S1024x1280 ![0, 0] (truncf (F := Ideal) .bf16 (m (c.tc.loc main_arg0)) bitsLt_bf16_f32) slices_S1024x5376_S1024x1280_0_0) transposes_S1024x1280_S1280x1024_1_0 := by
    unfold V; simp only [List.flatten_cons, List.flatten_nil, List.append_nil, List.cons_append, List.nil_append]; after_results_simp
  rw [h]
  pointwise

theorem idx : ∀ t : Fin cfg0.N, win0_0.index t = ![0, t.val] ∧ win0_1.index t = ![0, 0] ∧ win0_2.index t = ![t.val, 0] :=
  (by decide +kernel : ∀ t : Fin grid0.N, _)

theorem ref_at (x0 : FVec Ideal S1024x5376 .f32) (x1 : FVec Ideal S1280x16384 .bf16) (r : Fin 16384) (j : Fin 1024) :
    (val_main_v5 (F := Ideal) x0 x1 (ix2 r j) : EReal) = ∑ k : Fin 1280, (x1 (ix2 k r) : EReal) * (x0 (ix2 j ⟨k.val, by omega⟩) : EReal) := by
  rw [val_main_v5_apply]
  refine Finset.sum_congr rfl fun k _ => ?_
  rw [val_main_v4_apply, val_main_v3_apply, val_main_v1_apply]
  refine congrArg₂ (· * ·) (congrArg x1 ?_) (congrArg x0 ?_) <;> (funext a; apply Fin.ext; fin_cases a <;> rfl)

theorem pay_at (x0 x1 : FVec Ideal S1280x1024 .bf16) (r j : Fin 1024) : (out0_2 (F := Ideal) x0 x1 (ix2 r j) : EReal) = ∑ k : Fin 1280, (x0 (ix2 k r) : EReal) * (x1 (ix2 k j) : EReal) := by
  unfold out0_2
  frame_out
  pointwise [k0_pay1]

theorem lt16 (t : Fin cfg0.N) : t.val < 16 := (by decide +kernel : cfg0.N = 16) ▸ t.isLt

theorem x0_at (t : Fin cfg0.N) (k : Fin 1280) (r : Fin 1024) : (iblk m c 0 t : FVec Ideal S1280x1024 .bf16) (ix2 k r) = m (c.tc.loc main_arg1) (ix2 k ⟨1024 * t.val + r.val, by have := lt16 t; omega⟩) := by
  blk_point [iblk, V, idx t]

theorem x1_at (t : Fin cfg0.N) (k : Fin 1280) (j : Fin 1024) : (iblk m c 1 t : FVec Ideal S1280x1024 .bf16) (ix2 k j) = m (c.tc.loc main_arg0) (ix2 j ⟨k.val, by omega⟩) := by
  refine Eq.trans ?_ (V2 m c k j)
  blk_point [iblk, idx t]

theorem final : (dats m 0 c).arrAt 2 (cfgs 0).N = val_main_v5 (m (c.tc.loc main_arg0)) (m (c.tc.loc main_arg1)) := by
  refine (dats m 0 c).arrAt_eq_of_covers 2 _ (by decide +kernel) fun t hf y => ?_
  blk_simp
  rw [after0_2]
  idx_vars y
  have ht := lt16 t
  have hy : (((View.whole main_v3).slice (win0_2.rect t)).emb (ix2 y0 y1)) = (ix2 ⟨1024 * t.val + y0.val, by omega⟩ y1 : S16384x1024.Idx) := by
    funext a; apply Fin.ext; fin_cases a <;> blk_simp [idx t] <;> simp [Nat.mul_comm]
  refine (pay_at _ _ y0 y1).trans (Eq.trans ?_ ((ref_at _ _ ⟨1024 * t.val + y0.val, by omega⟩ y1).symm.trans (congrArg _ hy.symm)))
  exact Finset.sum_congr rfl fun k _ => congrArg₂ (· * ·) (x0_at m c t k y0) (x1_at m c t k y1)

theorem algebraic : Cert.algebraic_QkvDhIdeal_QkvDhRefIdeal := by
  intro m g m' g' _ ha
  refine ⟨_, Cert.QkvDhIdeal.Value.run_blocks m g, ?_⟩
  refine (θ_run Cert.QkvDhRefIdeal.defs _ _).mono (fun r h c => ?_) (Cert.QkvDhRefIdeal.Value.run m' g')
  obtain ⟨e0, e1⟩ := ha c
  obtain ⟨k0, ka⟩ := h c
  refine ⟨k0.trans ((val_main_v5_eq _ _).trans ?_), ka⟩
  · rw [e0, e1]
    exact (final m c).symm

end Cert.VQkvDh

end
-- ==== Proof.V.DwOut.lean ====
/- The gradient of the output projection: the sum over the row blocks is the whole product. -/
module

public import proofs.«01_k».proof.Defs
public import proofs.«01_k».proof.Proof.Gen.DwOutIdeal.Value
public import proofs.«01_k».proof.Proof.Gen.DwOutIdeal
public import proofs.«01_k».proof.Proof.Gen.DwOutRefIdeal
public import proofs.«01_k».proof.Proof.Gen.DwOutRefIdeal.Run
public import proofs.«01_k».proof.Proof.Gen.DwOutRefIdeal.Read
public import proofs.«01_k».proof.Proof.V.Slab
public import Idealize.ShloMosaic.Lib.WordCmp
public import Idealize.ShloMosaic.Lib.Claim
public import Idealize.ShloMosaic.Lib.Pointwise
public import Idealize.ShloMosaic.Lib.Pipeline.ValueKit

@[expose] public section

set_option maxRecDepth 16384

noncomputable section

namespace Cert.VDwOut

open Cert.DwOutIdeal Cert.DwOutIdeal.Gen Cert.DwOutRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V0 : V m c main_v0 = m (c.tc.loc main_arg2) := by
  unfold V; after_results_simp; rfl

theorem idx : ∀ t : Fin cfg0.N, win0_0.index t = ![t.val, 0] ∧ win0_1.index t = ![t.val, 0] ∧ win0_2.index t = ![0, 33, 0] :=
  (by decide +kernel : ∀ t : Fin grid0.N, _)

theorem lt16 (t : Fin cfg0.N) : t.val < 16 := (by decide +kernel : cfg0.N = 16) ▸ t.isLt

theorem x0_at (t : Fin cfg0.N) (k r : Fin 1024) : (iblk m c 0 t : FVec Ideal S1024x1024 .bf16) (ix2 k r) = m (c.tc.loc main_arg0) (ix2 ⟨1024 * t.val + k.val, by have := lt16 t; omega⟩ r) := by
  refine Eq.trans ?_ (congrFun (V_main_arg0 m c) _)
  blk_point [iblk, idx t]

theorem x1_at (t : Fin cfg0.N) (k j : Fin 1024) : (iblk m c 1 t : FVec Ideal S1024x1024 .bf16) (ix2 k j) = m (c.tc.loc main_arg1) (ix2 ⟨1024 * t.val + k.val, by have := lt16 t; omega⟩ j) := by
  refine Eq.trans ?_ (congrFun (V_main_arg1 m c) _)
  blk_point [iblk, idx t]

theorem pay4_at (x0 : FVec Ideal S1024x256 .bf16) (w : FVec Ideal S1024x1024 .bf16) (v : FVec Ideal S1x256x1024 .f32) (r : Fin 256) (j : Fin 1024) :
    (k0_pay4 (F := Ideal) x0 w v (ix3 0 r j) : EReal) = (v (ix3 0 r j) : EReal) + ∑ k : Fin 1024, (x0 (ix2 k r) : EReal) * (w (ix2 k j) : EReal) := by
  pointwise [k0_pay4]

theorem pay5_at (x0 : FVec Ideal S1024x256 .bf16) (w : FVec Ideal S1024x1024 .bf16) (v : FVec Ideal S1x256x1024 .f32) (r : Fin 256) (j : Fin 1024) :
    (k0_pay5 (F := Ideal) x0 w v (ix3 0 r j) : EReal) = (v (ix3 0 r j) : EReal) + ∑ k : Fin 1024, (x0 (ix2 k r) : EReal) * (w (ix2 k j) : EReal) := by
  pointwise [k0_pay5]

theorem pay1_at (x0 : FVec Ideal S1024x256 .bf16) (w : FVec Ideal S1024x1024 .bf16) (v : FVec Ideal S1x256x1024 .f32) (r : Fin 256) (j : Fin 1024) :
    (k0_pay1 (F := Ideal) (k0_pay6 (F := Ideal) x0 w) v (ix3 0 r j) : EReal) = (v (ix3 0 r j) : EReal) + ∑ k : Fin 1024, (x0 (ix2 k r) : EReal) * (w (ix2 k j) : EReal) := by
  pointwise [k0_pay1, k0_pay6]

theorem pay2_at (x0 : FVec Ideal S1024x256 .bf16) (w : FVec Ideal S1024x1024 .bf16) (v : FVec Ideal S1x256x1024 .f32) (r : Fin 256) (j : Fin 1024) :
    (k0_pay2 (F := Ideal) x0 w v (ix3 0 r j) : EReal) = (v (ix3 0 r j) : EReal) + ∑ k : Fin 1024, (x0 (ix2 k r) : EReal) * (w (ix2 k j) : EReal) := by
  pointwise [k0_pay2]

theorem zero_at (L) (q : Fin 4) (r : Fin 256) (j : Fin 1024) :
    (View.canon (Val := Elt Ideal) (s := S4x256x1024) (e := .f32) (⟨Rect.unit ![0, 0, 0] ![4, 256, 1024] inb_S4x256x1024_S4x256x1024_0_0_0, k0_pay3 (F := Ideal)⟩ :: L) (ix3 q r j) : EReal) = 0 := by
  refine (congrFun (View.canon_cons_unit_lit (S := S4x256x1024) inb_S4x256x1024_S4x256x1024_0_0_0 _ L (by decide)) _).trans ?_
  pointwise [k0_pay3]

theorem outA (i : grid0.Coords) (arg1 harg1 arg2 harg2 arg4 harg4) (hc0 : cond0_0 i) (x0 : FVec Ideal S1024x1024 .bf16) (x1 : FVec Ideal S1024x1024 .bf16) (q : Fin 4) (r : Fin 256) (j : Fin 1024) :
    (out0_A_2 (F := Ideal) c i arg1 harg1 arg2 harg2 arg4 harg4 hc0 x0 x1 (ix3 q r j) : EReal) = 0 + ∑ k : Fin 1024, (x0 (ix2 k ⟨256 * q.val + r.val, by omega⟩) : EReal) * (x1 (ix2 k j) : EReal) := by
  unfold out0_A_2
  frame_out
  refine (Slab.canon_slab (3 : Fin 4) inb_S4x256x1024_S1x256x1024_3_0_0 _ _ q r j).trans ?_
  by_cases h3 : q = 3
  · subst h3
    rw [if_pos rfl]
    refine (pay2_at _ _ _ r j).trans (congrArg₂ (· + ·) ?_ ?_)
    · refine (Slab.readCov_slab _ (3 : Fin 4) inb_S4x256x1024_S1x256x1024_3_0_0 _ r j).trans ?_
      refine (Slab.canon_slab (2 : Fin 4) inb_S4x256x1024_S1x256x1024_2_0_0 _ _ 3 r j).trans ?_
      rw [if_neg (by decide)]
      refine (Slab.canon_slab (1 : Fin 4) inb_S4x256x1024_S1x256x1024_1_0_0 _ _ 3 r j).trans ?_
      rw [if_neg (by decide)]
      refine (Slab.canon_slab (0 : Fin 4) inb_S4x256x1024_S1x256x1024_0_0_0 _ _ 3 r j).trans ?_
      rw [if_neg (by decide)]
      exact zero_at _ 3 r j
    · refine Finset.sum_congr rfl fun k _ => ?_
      pointwise
  rw [if_neg h3]
  refine (Slab.canon_slab (2 : Fin 4) inb_S4x256x1024_S1x256x1024_2_0_0 _ _ q r j).trans ?_
  by_cases h2 : q = 2
  · subst h2
    rw [if_pos rfl]
    refine (pay1_at _ _ _ r j).trans (congrArg₂ (· + ·) ?_ ?_)
    · refine (Slab.readCov_slab _ (2 : Fin 4) inb_S4x256x1024_S1x256x1024_2_0_0 _ r j).trans ?_
      refine (Slab.canon_slab (1 : Fin 4) inb_S4x256x1024_S1x256x1024_1_0_0 _ _ 2 r j).trans ?_
      rw [if_neg (by decide)]
      refine (Slab.canon_slab (0 : Fin 4) inb_S4x256x1024_S1x256x1024_0_0_0 _ _ 2 r j).trans ?_
      rw [if_neg (by decide)]
      exact zero_at _ 2 r j
    · refine Finset.sum_congr rfl fun k _ => ?_
      pointwise
  rw [if_neg h2]
  refine (Slab.canon_slab (1 : Fin 4) inb_S4x256x1024_S1x256x1024_1_0_0 _ _ q r j).trans ?_
  by_cases h1 : q = 1
  · subst h1
    rw [if_pos rfl]
    refine (pay5_at _ _ _ r j).trans (congrArg₂ (· + ·) ?_ ?_)
    · refine (Slab.readCov_slab _ (1 : Fin 4) inb_S4x256x1024_S1x256x1024_1_0_0 _ r j).trans ?_
      refine (Slab.canon_slab (0 : Fin 4) inb_S4x256x1024_S1x256x1024_0_0_0 _ _ 1 r j).trans ?_
      rw [if_neg (by decide)]
      exact zero_at _ 1 r j
    · refine Finset.sum_congr rfl fun k _ => ?_
      pointwise
  rw [if_neg h1]
  refine (Slab.canon_slab (0 : Fin 4) inb_S4x256x1024_S1x256x1024_0_0_0 _ _ q r j).trans ?_
  obtain rfl : q = 0 := by omega
  rw [if_pos rfl]
  refine (pay4_at _ _ _ r j).trans (congrArg₂ (· + ·) ?_ ?_)
  · refine (Slab.readCov_slab _ (0 : Fin 4) inb_S4x256x1024_S1x256x1024_0_0_0 _ r j).trans ?_
    exact zero_at _ 0 r j
  · refine Finset.sum_congr rfl fun k _ => ?_
    pointwise

theorem outB (i : grid0.Coords) (arg1 harg1 arg2 harg2 arg4 harg4) (hc0 : ¬cond0_0 i) (x0 : FVec Ideal S1024x1024 .bf16) (x1 : FVec Ideal S1024x1024 .bf16) (y : FVec Ideal S4x256x1024 .f32) (q : Fin 4) (r : Fin 256) (j : Fin 1024) :
    (out0_B_2 (F := Ideal) c i arg1 harg1 arg2 harg2 arg4 harg4 hc0 x0 x1 y (ix3 q r j) : EReal) = (y (ix3 q r j) : EReal) + ∑ k : Fin 1024, (x0 (ix2 k ⟨256 * q.val + r.val, by omega⟩) : EReal) * (x1 (ix2 k j) : EReal) := by
  unfold out0_B_2
  frame_out
  refine (Slab.canon_slab (3 : Fin 4) inb_S4x256x1024_S1x256x1024_3_0_0 _ _ q r j).trans ?_
  by_cases h3 : q = 3
  · subst h3
    rw [if_pos rfl]
    refine (pay2_at _ _ _ r j).trans (congrArg₂ (· + ·) ?_ ?_)
    · exact Slab.ld_slab (3 : Fin 4) inb_S4x256x1024_S1x256x1024_3_0_0 y r j
    · refine Finset.sum_congr rfl fun k _ => ?_
      pointwise
  rw [if_neg h3]
  refine (Slab.canon_slab (2 : Fin 4) inb_S4x256x1024_S1x256x1024_2_0_0 _ _ q r j).trans ?_
  by_cases h2 : q = 2
  · subst h2
    rw [if_pos rfl]
    refine (pay1_at _ _ _ r j).trans (congrArg₂ (· + ·) ?_ ?_)
    · exact Slab.ld_slab (2 : Fin 4) inb_S4x256x1024_S1x256x1024_2_0_0 y r j
    · refine Finset.sum_congr rfl fun k _ => ?_
      pointwise
  rw [if_neg h2]
  refine (Slab.canon_slab (1 : Fin 4) inb_S4x256x1024_S1x256x1024_1_0_0 _ _ q r j).trans ?_
  by_cases h1 : q = 1
  · subst h1
    rw [if_pos rfl]
    refine (pay5_at _ _ _ r j).trans (congrArg₂ (· + ·) ?_ ?_)
    · exact Slab.ld_slab (1 : Fin 4) inb_S4x256x1024_S1x256x1024_1_0_0 y r j
    · refine Finset.sum_congr rfl fun k _ => ?_
      pointwise
  rw [if_neg h1]
  refine (Slab.canon_slab (0 : Fin 4) inb_S4x256x1024_S1x256x1024_0_0_0 _ _ q r j).trans ?_
  obtain rfl : q = 0 := by omega
  rw [if_pos rfl]
  refine (pay4_at _ _ _ r j).trans (congrArg₂ (· + ·) ?_ ?_)
  · exact Slab.ld_slab (0 : Fin 4) inb_S4x256x1024_S1x256x1024_0_0_0 y r j
  · refine Finset.sum_congr rfl fun k _ => ?_
    pointwise

/-- What point `t` adds. -/
def T (q : Fin 4) (r : Fin 256) (j : Fin 1024) (t : Fin cfg0.N) : EReal :=
  ∑ k : Fin 1024, (show EReal from m (c.tc.loc main_arg0) (ix2 ⟨1024 * t.val + k.val, by have := lt16 t; omega⟩ ⟨256 * q.val + r.val, by omega⟩))
    * (show EReal from m (c.tc.loc main_arg1) (ix2 ⟨1024 * t.val + k.val, by have := lt16 t; omega⟩ j))

theorem T_eq (q : Fin 4) (r : Fin 256) (j : Fin 1024) (t : Fin cfg0.N) :
    ∑ k : Fin 1024, (show EReal from (iblk m c 0 t : FVec Ideal S1024x1024 .bf16) (ix2 k ⟨256 * q.val + r.val, by omega⟩)) * (show EReal from (iblk m c 1 t : FVec Ideal S1024x1024 .bf16) (ix2 k j)) = T m c q r j t :=
  Finset.sum_congr rfl fun k _ => congrArg₂ (· * ·) (x0_at m c t k _) (x1_at m c t k j)

theorem last (q : Fin 4) (r : Fin 256) (j : Fin 1024) (t : Fin cfg0.N) (ht : t.val % 16 = 15) :
    ((outsAt0 m c t.val t.isLt) (ix3 q r j) : EReal) = ∑ k : Fin 16384, (show EReal from m (c.tc.loc main_arg0) (ix2 k ⟨256 * q.val + r.val, by omega⟩)) * (show EReal from m (c.tc.loc main_arg1) (ix2 k j)) := by
  refine (Slab.run_sum (J := 16) (by decide) (F := fun n h => (outsAt0 m c n h (ix3 q r j) : EReal)) (T := T m c q r j) (fun t h => ?_) (fun t h => ?_) t ht).trans ?_
  · refine (congrFun (outsAt0_A m c t h) _).trans ?_
    exact (outA _ _ _ _ _ _ _ _ _ _ _ q r j).trans (congrArg (0 + ·) (T_eq m c q r j t))
  · refine (congrFun (outsAt0_B m c t h) _).trans ?_
    exact (outB _ _ _ _ _ _ _ _ _ _ _ _ q r j).trans (congrArg (_ + ·) (T_eq m c q r j t))
  · refine Eq.trans ?_ (Slab.sum_runs (J := 16) (K := 1024) (fun k => (show EReal from m (c.tc.loc main_arg0) (ix2 k ⟨256 * q.val + r.val, by omega⟩)) * (show EReal from m (c.tc.loc main_arg1) (ix2 k j))))
    refine Finset.sum_congr rfl fun s _ => Finset.sum_congr rfl fun k _ => ?_
    have hl := lt16 t
    have e1 : 16 * (t.val / 16) + s.val = s.val := by omega
    refine congrArg₂ (· * ·) (congrArg (m (c.tc.loc main_arg0)) (congrArg (fun k => (ix2 k _)) (Fin.ext ?_))) (congrArg (m (c.tc.loc main_arg1)) (congrArg (ix2 · j) (Fin.ext ?_))) <;> (dsimp only; rw [e1])

theorem ref_at (x0 : FVec Ideal S16384x1024 .bf16) (x1 : FVec Ideal S16384x1024 .bf16) (x2 : FVec Ideal S4x8704x1024 .f32) (a : Fin 4) (b : Fin 8704) (j : Fin 1024) :
    (val_main_v7 (F := Ideal) x0 x1 x2 (ix3 a b j) : EReal) = if h : 8448 ≤ b.val then
      ∑ k : Fin 16384, (x0 (ix2 k ⟨256 * a.val + (b.val - 8448), by omega⟩) : EReal) * (x1 (ix2 k j) : EReal)
      else (x2 (ix3 a b j) : EReal) := by
  have e : val_main_v7 (F := Ideal) x0 x1 x2 = updateSlice x2 (val_main_v6 (F := Ideal) x0 x1) ![0, 8448, 0] (by decide) := by
    unfold val_main_v7
    exact WordCmp.dynamicUpdateSlice_eq_update _ _ _ _ _ _ (by intro a; fin_cases a <;> rfl)
  rw [e]
  pointwise
  by_cases h : 8448 ≤ b.val
  · rw [dif_pos h, dif_pos h, val_main_v6_apply, val_main_v5_apply, val_main_v4_apply]
    refine Finset.sum_congr rfl fun k _ => (mul_comm _ _).trans ?_
    rw [val_main_v3_apply, val_main_v1_apply]
    refine congrArg₂ (· * ·) (congrArg x0 ?_) (congrArg x1 ?_) <;>
      (funext a; apply Fin.ext; match a with
        | ⟨0, _⟩ => dsimp; try omega
        | ⟨1, _⟩ => dsimp; try omega)
  · rw [dif_neg h, dif_neg h]

/-- What the window's blocks hold when they are written back. -/
def G (j : S4x8704x1024.Idx) : EReal :=
  if h : 8448 ≤ (j 1).val then ∑ k : Fin 16384, (show EReal from m (c.tc.loc main_arg0) (ix2 k ⟨256 * (j 0).val + ((j 1).val - 8448), by have h0 : (j 0).val < 4 := (j 0).isLt; have h1 : (j 1).val < 8704 := (j 1).isLt; omega⟩)) * (show EReal from m (c.tc.loc main_arg1) (ix2 k ⟨(j 2).val, by have h2 : (j 2).val < 1024 := (j 2).isLt; omega⟩)) else 0

theorem final' : (dats m 0 c).arrAt 2 (cfgs 0).N = fun j : S4x8704x1024.Idx => if 8448 ≤ (j 1).val then G m c j else V m c main_v0 j := by
  refine (dats m 0 c).arrAt_eq_of_coversWhere 2 (G m c) (fun β => β 1 = 33) (by decide +kernel) (fun t hf y => ?_)
    (fun j => by have h1 : (j 1).val < 8704 := (j 1).isLt; blk_simp [Pipeline.Window.cell_apply]; omega)
  have ht := (flush0_2 t).mp hf
  have hl := lt16 t
  have hy : (win0_2.blk t).view.emb y = (ix3 ⟨((y : S4x256x1024.Idx) 0).val, by have : ((y : S4x256x1024.Idx) 0).val < 4 := ((y : S4x256x1024.Idx) 0).isLt; omega⟩
      ⟨8448 + ((y : S4x256x1024.Idx) 1).val, by have : ((y : S4x256x1024.Idx) 1).val < 256 := ((y : S4x256x1024.Idx) 1).isLt; omega⟩ ((y : S4x256x1024.Idx) 2) : S4x8704x1024.Idx) := by
    funext a; apply Fin.ext; fin_cases a <;> blk_simp [idx t] <;> simp <;> omega
  have key : ∀ y : S4x256x1024.Idx, (outsAt0 m c t.val t.isLt) y = G m c (ix3 ⟨(y 0).val, by have : (y 0).val < 4 := (y 0).isLt; omega⟩
      ⟨8448 + (y 1).val, by have : (y 1).val < 256 := (y 1).isLt; omega⟩ (y 2)) := by
    intro y
    idx_vars y
    refine (last m c y0 y1 y2 t ht).trans ?_
    unfold G
    rw [dif_pos (by show 8448 ≤ 8448 + y1.val; omega)]
    refine Finset.sum_congr rfl fun k _ => congrArg₂ (· * ·) (congrArg (m (c.tc.loc main_arg0)) ?_) rfl
    refine congrArg (fun r => (ix2 k r)) (Fin.ext ?_)
    show 256 * y0.val + y1.val = 256 * y0.val + (8448 + y1.val - 8448)
    omega
  refine Eq.trans ?_ ((key y).trans (congrArg (G m c) hy.symm))
  blk_simp
  rw [after0_2]

theorem final : (dats m 0 c).arrAt 2 (cfgs 0).N = val_main_v7 (m (c.tc.loc main_arg0)) (m (c.tc.loc main_arg1)) (m (c.tc.loc main_arg2)) := by
  rw [final']
  funext j
  idx_vars j
  refine Eq.trans ?_ (ref_at _ _ _ j0 j1 j2).symm
  by_cases h : 8448 ≤ j1.val
  · rw [dif_pos h]
    show (if 8448 ≤ j1.val then _ else _) = _
    rw [if_pos h]
    exact dif_pos h
  · rw [dif_neg h]
    show (if 8448 ≤ j1.val then _ else _) = _
    rw [if_neg h, V0]

theorem algebraic : Cert.algebraic_DwOutIdeal_DwOutRefIdeal := by
  intro m g m' g' _ ha
  refine ⟨_, Cert.DwOutIdeal.Value.run_blocks m g, ?_⟩
  refine (θ_run Cert.DwOutRefIdeal.defs _ _).mono (fun r h c => ?_) (Cert.DwOutRefIdeal.Value.run m' g')
  obtain ⟨e0, e1, e2⟩ := ha c
  obtain ⟨k0, ka⟩ := h c
  refine ⟨k0.trans ((val_main_v7_eq _ _ _).trans ?_), ka⟩
  · rw [e0, e1, e2]
    exact (final m c).symm

end Cert.VDwOut

end
-- ==== Proof.V.DwAttn.lean ====
/- The gradient of the attention projection: the sum over the row blocks is the whole product. -/
module

public import proofs.«01_k».proof.Defs
public import proofs.«01_k».proof.Proof.Gen.DwAttnIdeal.Value
public import proofs.«01_k».proof.Proof.Gen.DwAttnIdeal
public import proofs.«01_k».proof.Proof.Gen.DwAttnRefIdeal
public import proofs.«01_k».proof.Proof.Gen.DwAttnRefIdeal.Run
public import proofs.«01_k».proof.Proof.Gen.DwAttnRefIdeal.Read
public import proofs.«01_k».proof.Proof.V.Slab
public import Idealize.ShloMosaic.Lib.WordCmp
public import Idealize.ShloMosaic.Lib.Claim
public import Idealize.ShloMosaic.Lib.Pointwise
public import Idealize.ShloMosaic.Lib.Pipeline.ValueKit

@[expose] public section

set_option maxRecDepth 16384

noncomputable section

namespace Cert.VDwAttn

open Cert.DwAttnIdeal Cert.DwAttnIdeal.Gen Cert.DwAttnRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V0 : V m c main_v0 = m (c.tc.loc main_arg2) := by
  unfold V; after_results_simp; rfl

theorem idx : ∀ t : Fin cfg0.N, win0_0.index t = ![0, t.val] ∧ win0_1.index t = ![t.val, 0] ∧ win0_2.index t = ![0, 25, 0] :=
  (by decide +kernel : ∀ t : Fin grid0.N, _)

theorem lt16 (t : Fin cfg0.N) : t.val < 16 := (by decide +kernel : cfg0.N = 16) ▸ t.isLt

theorem x0_at (t : Fin cfg0.N) (k r : Fin 1024) : (iblk m c 0 t : FVec Ideal S1024x1024 .bf16) (ix2 r k) = m (c.tc.loc main_arg0) (ix2 r ⟨1024 * t.val + k.val, by have := lt16 t; omega⟩) := by
  refine Eq.trans ?_ (congrFun (V_main_arg0 m c) _)
  blk_point [iblk, idx t]

theorem x1_at (t : Fin cfg0.N) (k j : Fin 1024) : (iblk m c 1 t : FVec Ideal S1024x1024 .bf16) (ix2 k j) = m (c.tc.loc main_arg1) (ix2 ⟨1024 * t.val + k.val, by have := lt16 t; omega⟩ j) := by
  refine Eq.trans ?_ (congrFun (V_main_arg1 m c) _)
  blk_point [iblk, idx t]

theorem pay4_at (x0 : FVec Ideal S256x1024 .bf16) (w : FVec Ideal S1024x1024 .bf16) (v : FVec Ideal S1x256x1024 .f32) (r : Fin 256) (j : Fin 1024) :
    (k0_pay4 (F := Ideal) x0 w v (ix3 0 r j) : EReal) = (v (ix3 0 r j) : EReal) + ∑ k : Fin 1024, (x0 (ix2 r k) : EReal) * (w (ix2 k j) : EReal) := by
  pointwise [k0_pay4]

theorem pay5_at (x0 : FVec Ideal S256x1024 .bf16) (w : FVec Ideal S1024x1024 .bf16) (v : FVec Ideal S1x256x1024 .f32) (r : Fin 256) (j : Fin 1024) :
    (k0_pay5 (F := Ideal) x0 w v (ix3 0 r j) : EReal) = (v (ix3 0 r j) : EReal) + ∑ k : Fin 1024, (x0 (ix2 r k) : EReal) * (w (ix2 k j) : EReal) := by
  pointwise [k0_pay5]

theorem pay1_at (x0 : FVec Ideal S256x1024 .bf16) (w : FVec Ideal S1024x1024 .bf16) (v : FVec Ideal S1x256x1024 .f32) (r : Fin 256) (j : Fin 1024) :
    (k0_pay1 (F := Ideal) (k0_pay6 (F := Ideal) x0 w) v (ix3 0 r j) : EReal) = (v (ix3 0 r j) : EReal) + ∑ k : Fin 1024, (x0 (ix2 r k) : EReal) * (w (ix2 k j) : EReal) := by
  pointwise [k0_pay1, k0_pay6]

theorem pay2_at (x0 : FVec Ideal S256x1024 .bf16) (w : FVec Ideal S1024x1024 .bf16) (v : FVec Ideal S1x256x1024 .f32) (r : Fin 256) (j : Fin 1024) :
    (k0_pay2 (F := Ideal) x0 w v (ix3 0 r j) : EReal) = (v (ix3 0 r j) : EReal) + ∑ k : Fin 1024, (x0 (ix2 r k) : EReal) * (w (ix2 k j) : EReal) := by
  pointwise [k0_pay2]

theorem zero_at (L) (q : Fin 4) (r : Fin 256) (j : Fin 1024) :
    (View.canon (Val := Elt Ideal) (s := S4x256x1024) (e := .f32) (⟨Rect.unit ![0, 0, 0] ![4, 256, 1024] inb_S4x256x1024_S4x256x1024_0_0_0, k0_pay3 (F := Ideal)⟩ :: L) (ix3 q r j) : EReal) = 0 := by
  refine (congrFun (View.canon_cons_unit_lit (S := S4x256x1024) inb_S4x256x1024_S4x256x1024_0_0_0 _ L (by decide)) _).trans ?_
  pointwise [k0_pay3]

theorem outA (i : grid0.Coords) (arg1 harg1 arg2 harg2 arg4 harg4) (hc0 : cond0_0 i) (x0 : FVec Ideal S1024x1024 .bf16) (x1 : FVec Ideal S1024x1024 .bf16) (q : Fin 4) (r : Fin 256) (j : Fin 1024) :
    (out0_A_2 (F := Ideal) c i arg1 harg1 arg2 harg2 arg4 harg4 hc0 x0 x1 (ix3 q r j) : EReal) = 0 + ∑ k : Fin 1024, (x0 (ix2 ⟨256 * q.val + r.val, by omega⟩ k) : EReal) * (x1 (ix2 k j) : EReal) := by
  unfold out0_A_2
  frame_out
  refine (Slab.canon_slab (3 : Fin 4) inb_S4x256x1024_S1x256x1024_3_0_0 _ _ q r j).trans ?_
  by_cases h3 : q = 3
  · subst h3
    rw [if_pos rfl]
    refine (pay2_at _ _ _ r j).trans (congrArg₂ (· + ·) ?_ ?_)
    · refine (Slab.readCov_slab _ (3 : Fin 4) inb_S4x256x1024_S1x256x1024_3_0_0 _ r j).trans ?_
      refine (Slab.canon_slab (2 : Fin 4) inb_S4x256x1024_S1x256x1024_2_0_0 _ _ 3 r j).trans ?_
      rw [if_neg (by decide)]
      refine (Slab.canon_slab (1 : Fin 4) inb_S4x256x1024_S1x256x1024_1_0_0 _ _ 3 r j).trans ?_
      rw [if_neg (by decide)]
      refine (Slab.canon_slab (0 : Fin 4) inb_S4x256x1024_S1x256x1024_0_0_0 _ _ 3 r j).trans ?_
      rw [if_neg (by decide)]
      exact zero_at _ 3 r j
    · refine Finset.sum_congr rfl fun k _ => ?_
      pointwise
  rw [if_neg h3]
  refine (Slab.canon_slab (2 : Fin 4) inb_S4x256x1024_S1x256x1024_2_0_0 _ _ q r j).trans ?_
  by_cases h2 : q = 2
  · subst h2
    rw [if_pos rfl]
    refine (pay1_at _ _ _ r j).trans (congrArg₂ (· + ·) ?_ ?_)
    · refine (Slab.readCov_slab _ (2 : Fin 4) inb_S4x256x1024_S1x256x1024_2_0_0 _ r j).trans ?_
      refine (Slab.canon_slab (1 : Fin 4) inb_S4x256x1024_S1x256x1024_1_0_0 _ _ 2 r j).trans ?_
      rw [if_neg (by decide)]
      refine (Slab.canon_slab (0 : Fin 4) inb_S4x256x1024_S1x256x1024_0_0_0 _ _ 2 r j).trans ?_
      rw [if_neg (by decide)]
      exact zero_at _ 2 r j
    · refine Finset.sum_congr rfl fun k _ => ?_
      pointwise
  rw [if_neg h2]
  refine (Slab.canon_slab (1 : Fin 4) inb_S4x256x1024_S1x256x1024_1_0_0 _ _ q r j).trans ?_
  by_cases h1 : q = 1
  · subst h1
    rw [if_pos rfl]
    refine (pay5_at _ _ _ r j).trans (congrArg₂ (· + ·) ?_ ?_)
    · refine (Slab.readCov_slab _ (1 : Fin 4) inb_S4x256x1024_S1x256x1024_1_0_0 _ r j).trans ?_
      refine (Slab.canon_slab (0 : Fin 4) inb_S4x256x1024_S1x256x1024_0_0_0 _ _ 1 r j).trans ?_
      rw [if_neg (by decide)]
      exact zero_at _ 1 r j
    · refine Finset.sum_congr rfl fun k _ => ?_
      pointwise
  rw [if_neg h1]
  refine (Slab.canon_slab (0 : Fin 4) inb_S4x256x1024_S1x256x1024_0_0_0 _ _ q r j).trans ?_
  obtain rfl : q = 0 := by omega
  rw [if_pos rfl]
  refine (pay4_at _ _ _ r j).trans (congrArg₂ (· + ·) ?_ ?_)
  · refine (Slab.readCov_slab _ (0 : Fin 4) inb_S4x256x1024_S1x256x1024_0_0_0 _ r j).trans ?_
    exact zero_at _ 0 r j
  · refine Finset.sum_congr rfl fun k _ => ?_
    pointwise

theorem outB (i : grid0.Coords) (arg1 harg1 arg2 harg2 arg4 harg4) (hc0 : ¬cond0_0 i) (x0 : FVec Ideal S1024x1024 .bf16) (x1 : FVec Ideal S1024x1024 .bf16) (y : FVec Ideal S4x256x1024 .f32) (q : Fin 4) (r : Fin 256) (j : Fin 1024) :
    (out0_B_2 (F := Ideal) c i arg1 harg1 arg2 harg2 arg4 harg4 hc0 x0 x1 y (ix3 q r j) : EReal) = (y (ix3 q r j) : EReal) + ∑ k : Fin 1024, (x0 (ix2 ⟨256 * q.val + r.val, by omega⟩ k) : EReal) * (x1 (ix2 k j) : EReal) := by
  unfold out0_B_2
  frame_out
  refine (Slab.canon_slab (3 : Fin 4) inb_S4x256x1024_S1x256x1024_3_0_0 _ _ q r j).trans ?_
  by_cases h3 : q = 3
  · subst h3
    rw [if_pos rfl]
    refine (pay2_at _ _ _ r j).trans (congrArg₂ (· + ·) ?_ ?_)
    · exact Slab.ld_slab (3 : Fin 4) inb_S4x256x1024_S1x256x1024_3_0_0 y r j
    · refine Finset.sum_congr rfl fun k _ => ?_
      pointwise
  rw [if_neg h3]
  refine (Slab.canon_slab (2 : Fin 4) inb_S4x256x1024_S1x256x1024_2_0_0 _ _ q r j).trans ?_
  by_cases h2 : q = 2
  · subst h2
    rw [if_pos rfl]
    refine (pay1_at _ _ _ r j).trans (congrArg₂ (· + ·) ?_ ?_)
    · exact Slab.ld_slab (2 : Fin 4) inb_S4x256x1024_S1x256x1024_2_0_0 y r j
    · refine Finset.sum_congr rfl fun k _ => ?_
      pointwise
  rw [if_neg h2]
  refine (Slab.canon_slab (1 : Fin 4) inb_S4x256x1024_S1x256x1024_1_0_0 _ _ q r j).trans ?_
  by_cases h1 : q = 1
  · subst h1
    rw [if_pos rfl]
    refine (pay5_at _ _ _ r j).trans (congrArg₂ (· + ·) ?_ ?_)
    · exact Slab.ld_slab (1 : Fin 4) inb_S4x256x1024_S1x256x1024_1_0_0 y r j
    · refine Finset.sum_congr rfl fun k _ => ?_
      pointwise
  rw [if_neg h1]
  refine (Slab.canon_slab (0 : Fin 4) inb_S4x256x1024_S1x256x1024_0_0_0 _ _ q r j).trans ?_
  obtain rfl : q = 0 := by omega
  rw [if_pos rfl]
  refine (pay4_at _ _ _ r j).trans (congrArg₂ (· + ·) ?_ ?_)
  · exact Slab.ld_slab (0 : Fin 4) inb_S4x256x1024_S1x256x1024_0_0_0 y r j
  · refine Finset.sum_congr rfl fun k _ => ?_
    pointwise

/-- What point `t` adds. -/
def T (q : Fin 4) (r : Fin 256) (j : Fin 1024) (t : Fin cfg0.N) : EReal :=
  ∑ k : Fin 1024, (show EReal from m (c.tc.loc main_arg0) (ix2 ⟨256 * q.val + r.val, by omega⟩ ⟨1024 * t.val + k.val, by have := lt16 t; omega⟩))
    * (show EReal from m (c.tc.loc main_arg1) (ix2 ⟨1024 * t.val + k.val, by have := lt16 t; omega⟩ j))

theorem T_eq (q : Fin 4) (r : Fin 256) (j : Fin 1024) (t : Fin cfg0.N) :
    ∑ k : Fin 1024, (show EReal from (iblk m c 0 t : FVec Ideal S1024x1024 .bf16) (ix2 ⟨256 * q.val + r.val, by omega⟩ k)) * (show EReal from (iblk m c 1 t : FVec Ideal S1024x1024 .bf16) (ix2 k j)) = T m c q r j t :=
  Finset.sum_congr rfl fun k _ => congrArg₂ (· * ·) (x0_at m c t k _) (x1_at m c t k j)

theorem last (q : Fin 4) (r : Fin 256) (j : Fin 1024) (t : Fin cfg0.N) (ht : t.val % 16 = 15) :
    ((outsAt0 m c t.val t.isLt) (ix3 q r j) : EReal) = ∑ k : Fin 16384, (show EReal from m (c.tc.loc main_arg0) (ix2 ⟨256 * q.val + r.val, by omega⟩ k)) * (show EReal from m (c.tc.loc main_arg1) (ix2 k j)) := by
  refine (Slab.run_sum (J := 16) (by decide) (F := fun n h => (outsAt0 m c n h (ix3 q r j) : EReal)) (T := T m c q r j) (fun t h => ?_) (fun t h => ?_) t ht).trans ?_
  · refine (congrFun (outsAt0_A m c t h) _).trans ?_
    exact (outA _ _ _ _ _ _ _ _ _ _ _ q r j).trans (congrArg (0 + ·) (T_eq m c q r j t))
  · refine (congrFun (outsAt0_B m c t h) _).trans ?_
    exact (outB _ _ _ _ _ _ _ _ _ _ _ _ q r j).trans (congrArg (_ + ·) (T_eq m c q r j t))
  · refine Eq.trans ?_ (Slab.sum_runs (J := 16) (K := 1024) (fun k => (show EReal from m (c.tc.loc main_arg0) (ix2 ⟨256 * q.val + r.val, by omega⟩ k)) * (show EReal from m (c.tc.loc main_arg1) (ix2 k j))))
    refine Finset.sum_congr rfl fun s _ => Finset.sum_congr rfl fun k _ => ?_
    have hl := lt16 t
    have e1 : 16 * (t.val / 16) + s.val = s.val := by omega
    refine congrArg₂ (· * ·) (congrArg (m (c.tc.loc main_arg0)) (congrArg (fun k => (ix2 _ k)) (Fin.ext ?_))) (congrArg (m (c.tc.loc main_arg1)) (congrArg (ix2 · j) (Fin.ext ?_))) <;> (dsimp only; rw [e1])

theorem ref_at (x0 : FVec Ideal S1024x16384 .bf16) (x1 : FVec Ideal S16384x1024 .bf16) (x2 : FVec Ideal S4x8704x1024 .f32) (a : Fin 4) (b : Fin 8704) (j : Fin 1024) :
    (val_main_v8 (F := Ideal) x0 x1 x2 (ix3 a b j) : EReal) = if h : 6400 ≤ b.val ∧ b.val < 6656 then
      ∑ k : Fin 16384, (x0 (ix2 ⟨256 * a.val + (b.val - 6400), by omega⟩ k) : EReal) * (x1 (ix2 k j) : EReal)
      else (x2 (ix3 a b j) : EReal) := by
  have e : val_main_v8 (F := Ideal) x0 x1 x2 = updateSlice x2 (val_main_v7 (F := Ideal) x0 x1) ![0, 6400, 0] (by decide) := by
    unfold val_main_v8
    exact WordCmp.dynamicUpdateSlice_eq_update _ _ _ _ _ _ (by intro a; fin_cases a <;> rfl)
  rw [e]
  pointwise
  by_cases h : 6400 ≤ b.val ∧ b.val < 6656
  · rw [dif_pos h, dif_pos h, val_main_v7_apply, val_main_v6_apply, val_main_v5_apply]
    refine Finset.sum_congr rfl fun k _ => (mul_comm _ _).trans ?_
    rw [val_main_v4_apply, val_main_v2_apply, val_main_v1_apply]
    refine congrArg₂ (· * ·) (congrArg x0 ?_) (congrArg x1 ?_) <;>
      (funext a; apply Fin.ext; match a with
        | ⟨0, _⟩ => dsimp; try omega
        | ⟨1, _⟩ => dsimp; try omega)
  · rw [dif_neg h, dif_neg h]

/-- What the window's blocks hold when they are written back. -/
def G (j : S4x8704x1024.Idx) : EReal :=
  if h : 6400 ≤ (j 1).val ∧ (j 1).val < 6656 then ∑ k : Fin 16384, (show EReal from m (c.tc.loc main_arg0) (ix2 ⟨256 * (j 0).val + ((j 1).val - 6400), by have h0 : (j 0).val < 4 := (j 0).isLt; have h1 : (j 1).val < 8704 := (j 1).isLt; omega⟩ k)) * (show EReal from m (c.tc.loc main_arg1) (ix2 k ⟨(j 2).val, by have h2 : (j 2).val < 1024 := (j 2).isLt; omega⟩)) else 0

theorem final' : (dats m 0 c).arrAt 2 (cfgs 0).N = fun j : S4x8704x1024.Idx => if 6400 ≤ (j 1).val ∧ (j 1).val < 6656 then G m c j else V m c main_v0 j := by
  refine (dats m 0 c).arrAt_eq_of_coversWhere 2 (G m c) (fun β => β 1 = 25) (by decide +kernel) (fun t hf y => ?_)
    (fun j => by have h1 : (j 1).val < 8704 := (j 1).isLt; blk_simp [Pipeline.Window.cell_apply]; omega)
  have ht := (flush0_2 t).mp hf
  have hl := lt16 t
  have hy : (win0_2.blk t).view.emb y = (ix3 ⟨((y : S4x256x1024.Idx) 0).val, by have : ((y : S4x256x1024.Idx) 0).val < 4 := ((y : S4x256x1024.Idx) 0).isLt; omega⟩
      ⟨6400 + ((y : S4x256x1024.Idx) 1).val, by have : ((y : S4x256x1024.Idx) 1).val < 256 := ((y : S4x256x1024.Idx) 1).isLt; omega⟩ ((y : S4x256x1024.Idx) 2) : S4x8704x1024.Idx) := by
    funext a; apply Fin.ext; fin_cases a <;> blk_simp [idx t] <;> simp <;> omega
  have key : ∀ y : S4x256x1024.Idx, (outsAt0 m c t.val t.isLt) y = G m c (ix3 ⟨(y 0).val, by have : (y 0).val < 4 := (y 0).isLt; omega⟩
      ⟨6400 + (y 1).val, by have : (y 1).val < 256 := (y 1).isLt; omega⟩ (y 2)) := by
    intro y
    idx_vars y
    refine (last m c y0 y1 y2 t ht).trans ?_
    unfold G
    rw [dif_pos (by show 6400 ≤ 6400 + y1.val ∧ 6400 + y1.val < 6656; omega)]
    refine Finset.sum_congr rfl fun k _ => congrArg₂ (· * ·) (congrArg (m (c.tc.loc main_arg0)) ?_) rfl
    refine congrArg (fun r => (ix2 r k)) (Fin.ext ?_)
    show 256 * y0.val + y1.val = 256 * y0.val + (6400 + y1.val - 6400)
    omega
  refine Eq.trans ?_ ((key y).trans (congrArg (G m c) hy.symm))
  blk_simp
  rw [after0_2]

theorem final : (dats m 0 c).arrAt 2 (cfgs 0).N = val_main_v8 (m (c.tc.loc main_arg0)) (m (c.tc.loc main_arg1)) (m (c.tc.loc main_arg2)) := by
  rw [final']
  funext j
  idx_vars j
  refine Eq.trans ?_ (ref_at _ _ _ j0 j1 j2).symm
  by_cases h : 6400 ≤ j1.val ∧ j1.val < 6656
  · rw [dif_pos h]
    show (if 6400 ≤ j1.val ∧ j1.val < 6656 then _ else _) = _
    rw [if_pos h]
    exact dif_pos h
  · rw [dif_neg h]
    show (if 6400 ≤ j1.val ∧ j1.val < 6656 then _ else _) = _
    rw [if_neg h, V0]

theorem algebraic : Cert.algebraic_DwAttnIdeal_DwAttnRefIdeal := by
  intro m g m' g' _ ha
  refine ⟨_, Cert.DwAttnIdeal.Value.run_blocks m g, ?_⟩
  refine (θ_run Cert.DwAttnRefIdeal.defs _ _).mono (fun r h c => ?_) (Cert.DwAttnRefIdeal.Value.run m' g')
  obtain ⟨e0, e1, e2⟩ := ha c
  obtain ⟨k0, ka⟩ := h c
  refine ⟨k0.trans ((val_main_v8_eq _ _ _).trans ?_), ka⟩
  · rw [e0, e1, e2]
    exact (final m c).symm

end Cert.VDwAttn

end
-- ==== Proof.V.MergeFwd.lean ====
/- The merge of the mixer's branches, the output projection, its normalisation and the residual: each row block is the rows of the whole. -/
module

public import proofs.«01_k».proof.Defs
public import proofs.«01_k».proof.Proof.Gen.MergeFwdIdeal.Value
public import proofs.«01_k».proof.Proof.Gen.MergeFwdIdeal
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.V.Slab
public import proofs.«01_k».proof.Proof.V.Silu
public import Idealize.ShloMosaic.Lib.Claim
public import Idealize.ShloMosaic.Lib.Pointwise
public import Idealize.ShloMosaic.Lib.Pipeline.ValueKit

@[expose] public section

set_option maxRecDepth 16384

noncomputable section

namespace Cert.VMergeFwd

open Cert.MergeFwdIdeal Cert.MergeFwdIdeal.Gen Cert.MergeFwdRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem V0 : (V m c main_v0 : S1024x1024.Idx → EReal) = m (c.tc.loc main_arg3) := by
  unfold V; after_results_simp; rfl

theorem V1 : (V m c main_v1 : S1024x1024.Idx → EReal) = m (c.tc.loc main_arg4) := by
  unfold V; after_results_simp; rfl

theorem V2 : (V m c main_v2 : S1024x1024.Idx → EReal) = m (c.tc.loc main_arg5) := by
  unfold V; after_results_simp; rfl

theorem idx : ∀ t : Fin cfg0.N, win0_0.index t = ![0, t.val] ∧ win0_1.index t = ![t.val, 0] ∧ win0_2.index t = ![t.val, 2] ∧ win0_3.index t = ![t.val, 3] ∧ win0_4.index t = ![0, 0] ∧ win0_5.index t = ![0, 0] ∧ win0_6.index t = ![0, 0] ∧ win0_7.index t = ![t.val, 0] ∧ win0_8.index t = ![0, 0] ∧ win0_9.index t = ![t.val, 0] ∧ win0_10.index t = ![t.val, 0] ∧ win0_11.index t = ![t.val, 0] ∧ win0_12.index t = ![t.val, 0] :=
  (by decide +kernel : ∀ t : Fin grid0.N, _)

theorem lt32 (t : Fin cfg0.N) : t.val < 32 := (by decide +kernel : cfg0.N = 32) ▸ t.isLt

theorem x0_at (t : Fin cfg0.N) (r : Fin 512) (k : Fin 1024) : ((iblk m c 0 t : FVec Ideal S1024x512 .bf16) (ix2 k r) : EReal) = m (c.tc.loc main_arg0) (ix2 k ⟨512 * t.val + r.val, by have := lt32 t; omega⟩) := by
  refine Eq.trans ?_ (congrFun (V_main_arg0 m c) _)
  blk_point [iblk, idx t]

theorem x1_at (t : Fin cfg0.N) (r : Fin 512) (k : Fin 1024) : ((iblk m c 1 t : FVec Ideal S512x1024 .bf16) (ix2 r k) : EReal) = m (c.tc.loc main_arg1) (ix2 ⟨512 * t.val + r.val, by have := lt32 t; omega⟩ k) := by
  refine Eq.trans ?_ (congrFun (V_main_arg1 m c) _)
  blk_point [iblk, idx t]

theorem x2_at (t : Fin cfg0.N) (r : Fin 512) (k : Fin 1024) : ((iblk m c 2 t : FVec Ideal S512x1024 .bf16) (ix2 r k) : EReal) = m (c.tc.loc main_arg2) (ix2 ⟨512 * t.val + r.val, by have := lt32 t; omega⟩ ⟨2048 + k.val, by omega⟩) := by
  refine Eq.trans ?_ (congrFun (V_main_arg2 m c) _)
  blk_point [iblk, idx t]

theorem x3_at (t : Fin cfg0.N) (r : Fin 512) (k : Fin 1024) : ((iblk m c 3 t : FVec Ideal S512x1024 .bf16) (ix2 r k) : EReal) = m (c.tc.loc main_arg2) (ix2 ⟨512 * t.val + r.val, by have := lt32 t; omega⟩ ⟨3072 + k.val, by omega⟩) := by
  refine Eq.trans ?_ (congrFun (V_main_arg2 m c) _)
  blk_point [iblk, idx t]

theorem x4_at (t : Fin cfg0.N) (k j : Fin 1024) : ((iblk m c 4 t : FVec Ideal S1024x1024 .bf16) (ix2 k j) : EReal) = m (c.tc.loc main_arg3) (ix2 k j) := by
  refine Eq.trans ?_ (congrFun (V0 m c) _)
  blk_point [iblk, idx t]

theorem x5_at (t : Fin cfg0.N) (k j : Fin 1024) : ((iblk m c 5 t : FVec Ideal S1024x1024 .bf16) (ix2 k j) : EReal) = m (c.tc.loc main_arg4) (ix2 k j) := by
  refine Eq.trans ?_ (congrFun (V1 m c) _)
  blk_point [iblk, idx t]

theorem x6_at (t : Fin cfg0.N) (k j : Fin 1024) : ((iblk m c 6 t : FVec Ideal S1024x1024 .bf16) (ix2 k j) : EReal) = m (c.tc.loc main_arg5) (ix2 k j) := by
  refine Eq.trans ?_ (congrFun (V2 m c) _)
  blk_point [iblk, idx t]

theorem x7_at (t : Fin cfg0.N) (r : Fin 512) (k : Fin 1024) : ((iblk m c 7 t : FVec Ideal S512x1024 .f32) (ix2 r k) : EReal) = m (c.tc.loc main_arg6) (ix2 ⟨512 * t.val + r.val, by have := lt32 t; omega⟩ k) := by
  refine Eq.trans ?_ (congrFun (V_main_arg6 m c) _)
  blk_point [iblk, idx t]

theorem x8_at (t : Fin cfg0.N) (k : Fin 1024) : ((iblk m c 8 t : FVec Ideal S1x1024 .f32) (ix2 0 k) : EReal) = m (c.tc.loc main_arg7) (ix2 0 k) := by
  refine Eq.trans ?_ (congrFun (V_main_arg7 m c) _)
  blk_point [iblk, idx t]

/-- One row of a branch. -/
def B (y : Fin 1024 → EReal) (w : Fin 1024 → Fin 1024 → EReal) (j : Fin 1024) : EReal := ∑ k : Fin 1024, y k * w k j

/-- One row of the merged branches with the output weights. -/
def O (ga gb pa ps : Fin 1024 → EReal) (w : Fin 1024 → Fin 1024 → EReal) (j : Fin 1024) : EReal :=
  ∑ k : Fin 1024, (Silu.sig (ga k) * pa k + Silu.sig (gb k) * ps k) * w k j

/-- One row after the normalisation and the residual. -/
def Y (o x g : Fin 1024 → EReal) (j : Fin 1024) : EReal :=
  x j + o j * Ideal.rsqrt (Ideal.div (∑ k : Fin 1024, o k * o k) (Ideal.ofBits .f32 0x44800000#32) + Ideal.ofBits .f32 0x358637BD#32) * g j

theorem pay9_at (x0 : FVec Ideal S1024x512 .bf16) (x1 x2 x3 : FVec Ideal S512x1024 .bf16) (x4 x5 x6 : FVec Ideal S1024x1024 .bf16) (x7 : FVec Ideal S512x1024 .f32) (x8 : FVec Ideal S1x1024 .f32) (r : Fin 512) (k : Fin 1024) :
    (k0_pay9 (F := Ideal) x0 x1 x2 x3 x4 x5 x6 x7 x8 (ix2 r k) : EReal) = Silu.sig (x2 (ix2 r k)) * (B (fun k => x0 (ix2 k r)) (fun k j => x4 (ix2 k j))) k + Silu.sig (x3 (ix2 r k)) * (B (fun k => x1 (ix2 r k)) (fun k j => x5 (ix2 k j))) k := by
  unfold B
  pointwise [k0_pay9, k0_pay8, k0_pay4, k0_pay5]
  simp only [Silu.sig_tanh']

theorem pay1_at (h : FVec Ideal S512x1024 .f32) (w : FVec Ideal S1024x1024 .bf16) (r : Fin 512) (j : Fin 1024) :
    (k0_pay1 (F := Ideal) h (View.ld w r0_1) (ix2 r j) : EReal) = ∑ k : Fin 1024, (h (ix2 r k) : EReal) * w (ix2 k j) := by
  pointwise [k0_pay1]

theorem pay3_at (h : FVec Ideal S512x1024 .f32) (w : FVec Ideal S1024x1024 .bf16) (x : FVec Ideal S512x1024 .f32) (g : FVec Ideal S1x1024 .f32) (r : Fin 512) (j : Fin 1024) :
    (k0_pay3 (F := Ideal) h (View.ld w r0_1) (View.ld x r0_2) (View.ld g r0_3) (ix2 r j) : EReal)
      = Y (fun j => k0_pay1 (F := Ideal) h (View.ld w r0_1) (ix2 r j)) (fun k => x (ix2 r k)) (fun k => g (ix2 0 k)) j := by
  unfold Y
  pointwise [k0_pay3]

section Blocks

variable (x0 : FVec Ideal S1024x512 .bf16) (x1 x2 x3 : FVec Ideal S512x1024 .bf16) (x4 x5 x6 : FVec Ideal S1024x1024 .bf16) (x7 : FVec Ideal S512x1024 .f32) (x8 : FVec Ideal S1x1024 .f32) (r : Fin 512) (j : Fin 1024)
include x0 x1 x2 x3 x4 x5 x6 x7 x8

theorem o_at : (k0_pay1 (F := Ideal) (k0_pay9 (F := Ideal) x0 x1 x2 x3 x4 x5 x6 x7 x8) (View.ld x6 r0_1) (ix2 r j) : EReal) = (O (fun k => x2 (ix2 r k)) (fun k => x3 (ix2 r k)) (B (fun k => x0 (ix2 k r)) (fun k j => x4 (ix2 k j))) (B (fun k => x1 (ix2 r k)) (fun k j => x5 (ix2 k j))) (fun k j => x6 (ix2 k j))) j := by
  refine (pay1_at _ _ r j).trans ?_
  unfold O
  simp only [pay9_at]

theorem out9_at : (out0_9 (F := Ideal) x0 x1 x2 x3 x4 x5 x6 x7 x8 (ix2 r j) : EReal) = (Y (O (fun k => x2 (ix2 r k)) (fun k => x3 (ix2 r k)) (B (fun k => x0 (ix2 k r)) (fun k j => x4 (ix2 k j))) (B (fun k => x1 (ix2 r k)) (fun k j => x5 (ix2 k j))) (fun k j => x6 (ix2 k j))) (fun k => x7 (ix2 r k)) (fun k => x8 (ix2 0 k))) j := by
  unfold out0_9
  refine (congrFun (View.canon_cons_unit_lit (S := S512x1024) inb_S512x1024_S512x1024_0_0 _ [] (by decide)) _).trans ?_
  refine (pay3_at _ _ _ _ r j).trans ?_
  simp only [o_at]

theorem out10_at : (out0_10 (F := Ideal) x0 x1 x2 x3 x4 x5 x6 x7 x8 (ix2 r j) : EReal) = (B (fun k => x0 (ix2 k r)) (fun k j => x4 (ix2 k j))) j := by
  unfold out0_10
  refine (congrFun (View.canon_cons_unit_lit (S := S512x1024) inb_S512x1024_S512x1024_0_0 _ [] (by decide)) _).trans ?_
  unfold B
  pointwise [k0_pay6, k0_pay4]

theorem out11_at : (out0_11 (F := Ideal) x0 x1 x2 x3 x4 x5 x6 x7 x8 (ix2 r j) : EReal) = (B (fun k => x1 (ix2 r k)) (fun k j => x5 (ix2 k j))) j := by
  unfold out0_11
  refine (congrFun (View.canon_cons_unit_lit (S := S512x1024) inb_S512x1024_S512x1024_0_0 _ [] (by decide)) _).trans ?_
  unfold B
  pointwise [k0_pay7, k0_pay5]

theorem out12_at : (out0_12 (F := Ideal) x0 x1 x2 x3 x4 x5 x6 x7 x8 (ix2 r j) : EReal) = (O (fun k => x2 (ix2 r k)) (fun k => x3 (ix2 r k)) (B (fun k => x0 (ix2 k r)) (fun k j => x4 (ix2 k j))) (B (fun k => x1 (ix2 r k)) (fun k j => x5 (ix2 k j))) (fun k j => x6 (ix2 k j))) j := by
  unfold out0_12
  refine (congrFun (View.canon_cons_unit_lit (S := S512x1024) inb_S512x1024_S512x1024_0_0 _ [] (by decide)) _).trans ?_
  refine Eq.trans ?_ (o_at _ _ _ _ _ _ _ x7 x8 r j)
  pointwise [k0_pay2]

end Blocks

section Stages

variable (x0 : FVec Ideal S1024x16384 .bf16) (x1 : FVec Ideal S16384x1024 .bf16) (x2 : FVec Ideal S16384x4096 .bf16) (x3 x4 x5 : FVec Ideal S1024x1024 .f32) (x6 : FVec Ideal S16384x1024 .f32) (x7 : FVec Ideal S1x1024 .f32) (r : Fin 16384) (j : Fin 1024)
include x0 x1 x2 x3 x4 x5 x6 x7

theorem ref40_at : (val_main_v40 (F := Ideal) x0 x3 (ix2 r j) : EReal) = (B (fun k => x0 (ix2 k r)) (fun k j => x3 (ix2 k j))) j := by
  unfold B
  pointwise [val_main_v40, val_main_v6, val_main_v5, val_main_v4]

theorem ref41_at : (val_main_v41 (F := Ideal) x1 x4 (ix2 r j) : EReal) = (B (fun k => x1 (ix2 r k)) (fun k j => x4 (ix2 k j))) j := by
  unfold B
  pointwise [val_main_v41, val_main_v8, val_main_v7]

theorem ref24_at : (val_main_v24 (F := Ideal) x0 x1 x2 x3 x4 x5 (ix2 r j) : EReal) = (O (fun k => x2 (ix2 r ⟨2048 + k.val, by omega⟩)) (fun k => x2 (ix2 r ⟨3072 + k.val, by omega⟩)) (B (fun k => x0 (ix2 k r)) (fun k j => x3 (ix2 k j))) (B (fun k => x1 (ix2 r k)) (fun k j => x4 (ix2 k j))) (fun k j => x5 (ix2 k j))) j := by
  unfold O B Silu.sig
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  refine Finset.sum_congr rfl fun k _ => ?_
  have e : (⟨2048 + (1024 + k.val), by omega⟩ : Fin 4096) = ⟨3072 + k.val, by omega⟩ := Fin.ext (by show 2048 + (1024 + k.val) = 3072 + k.val; omega)
  rw [e]

theorem ref42_at : (val_main_v42 (F := Ideal) x0 x1 x2 x3 x4 x5 (ix2 r j) : EReal) = (O (fun k => x2 (ix2 r ⟨2048 + k.val, by omega⟩)) (fun k => x2 (ix2 r ⟨3072 + k.val, by omega⟩)) (B (fun k => x0 (ix2 k r)) (fun k j => x3 (ix2 k j))) (B (fun k => x1 (ix2 r k)) (fun k j => x4 (ix2 k j))) (fun k j => x5 (ix2 k j))) j := by
  refine Eq.trans ?_ (ref24_at _ _ _ _ _ _ x6 x7 r j)
  pointwise [val_main_v42]

theorem ref39_at : (val_main_v39 (F := Ideal) x0 x1 x2 x3 x4 x5 x6 x7 (ix2 r j) : EReal) = (Y (O (fun k => x2 (ix2 r ⟨2048 + k.val, by omega⟩)) (fun k => x2 (ix2 r ⟨3072 + k.val, by omega⟩)) (B (fun k => x0 (ix2 k r)) (fun k j => x3 (ix2 k j))) (B (fun k => x1 (ix2 r k)) (fun k j => x4 (ix2 k j))) (fun k j => x5 (ix2 k j))) (fun k => x6 (ix2 r k)) (fun k => x7 (ix2 0 k))) j := by
  have e : (fun j => (val_main_v24 (F := Ideal) x0 x1 x2 x3 x4 x5 (ix2 r j) : EReal)) = (O (fun k => x2 (ix2 r ⟨2048 + k.val, by omega⟩)) (fun k => x2 (ix2 r ⟨3072 + k.val, by omega⟩)) (B (fun k => x0 (ix2 k r)) (fun k j => x3 (ix2 k j))) (B (fun k => x1 (ix2 r k)) (fun k j => x4 (ix2 k j))) (fun k j => x5 (ix2 k j))) := funext fun j => ref24_at x0 x1 x2 x3 x4 x5 x6 x7 r j
  rw [← e]
  unfold Y
  pointwise [val_main_v39, val_main_v38, val_main_v37, val_main_v36, val_main_v35, val_main_v34, val_main_v33, val_main_v32, val_main_v31, val_main_v30, val_main_v29, val_main_v28, val_main_v27, val_main_v26, val_main_v25, val_main_cst_3, val_main_cst_4, val_main_cst_5]

end Stages

theorem eqO (t : Fin cfg0.N) (r : Fin 512) : (O (fun k => (iblk m c 2 t : FVec Ideal S512x1024 .bf16) (ix2 r k)) (fun k => (iblk m c 3 t : FVec Ideal S512x1024 .bf16) (ix2 r k)) (B (fun k => (iblk m c 0 t : FVec Ideal S1024x512 .bf16) (ix2 k r)) (fun k j => (iblk m c 4 t : FVec Ideal S1024x1024 .bf16) (ix2 k j))) (B (fun k => (iblk m c 1 t : FVec Ideal S512x1024 .bf16) (ix2 r k)) (fun k j => (iblk m c 5 t : FVec Ideal S1024x1024 .bf16) (ix2 k j))) (fun k j => (iblk m c 6 t : FVec Ideal S1024x1024 .bf16) (ix2 k j))) = (O (fun k => (m (c.tc.loc main_arg2)) (ix2 ⟨512 * t.val + r.val, by have := lt32 t; omega⟩ ⟨2048 + k.val, by omega⟩)) (fun k => (m (c.tc.loc main_arg2)) (ix2 ⟨512 * t.val + r.val, by have := lt32 t; omega⟩ ⟨3072 + k.val, by omega⟩)) (B (fun k => (m (c.tc.loc main_arg0)) (ix2 k ⟨512 * t.val + r.val, by have := lt32 t; omega⟩)) (fun k j => (m (c.tc.loc main_arg3)) (ix2 k j))) (B (fun k => (m (c.tc.loc main_arg1)) (ix2 ⟨512 * t.val + r.val, by have := lt32 t; omega⟩ k)) (fun k j => (m (c.tc.loc main_arg4)) (ix2 k j))) (fun k j => (m (c.tc.loc main_arg5)) (ix2 k j))) := by
  congr 1
  · funext k; exact x2_at m c t r k
  · funext k; exact x3_at m c t r k
  · exact congrArg₂ B (funext fun k => x0_at m c t r k) (funext fun k => funext fun j => x4_at m c t k j)
  · exact congrArg₂ B (funext fun k => x1_at m c t r k) (funext fun k => funext fun j => x5_at m c t k j)
  · funext k j; exact x6_at m c t k j

theorem eqY (t : Fin cfg0.N) (r : Fin 512) : (Y (O (fun k => (iblk m c 2 t : FVec Ideal S512x1024 .bf16) (ix2 r k)) (fun k => (iblk m c 3 t : FVec Ideal S512x1024 .bf16) (ix2 r k)) (B (fun k => (iblk m c 0 t : FVec Ideal S1024x512 .bf16) (ix2 k r)) (fun k j => (iblk m c 4 t : FVec Ideal S1024x1024 .bf16) (ix2 k j))) (B (fun k => (iblk m c 1 t : FVec Ideal S512x1024 .bf16) (ix2 r k)) (fun k j => (iblk m c 5 t : FVec Ideal S1024x1024 .bf16) (ix2 k j))) (fun k j => (iblk m c 6 t : FVec Ideal S1024x1024 .bf16) (ix2 k j))) (fun k => (iblk m c 7 t : FVec Ideal S512x1024 .f32) (ix2 r k)) (fun k => (iblk m c 8 t : FVec Ideal S1x1024 .f32) (ix2 0 k))) = (Y (O (fun k => (m (c.tc.loc main_arg2)) (ix2 ⟨512 * t.val + r.val, by have := lt32 t; omega⟩ ⟨2048 + k.val, by omega⟩)) (fun k => (m (c.tc.loc main_arg2)) (ix2 ⟨512 * t.val + r.val, by have := lt32 t; omega⟩ ⟨3072 + k.val, by omega⟩)) (B (fun k => (m (c.tc.loc main_arg0)) (ix2 k ⟨512 * t.val + r.val, by have := lt32 t; omega⟩)) (fun k j => (m (c.tc.loc main_arg3)) (ix2 k j))) (B (fun k => (m (c.tc.loc main_arg1)) (ix2 ⟨512 * t.val + r.val, by have := lt32 t; omega⟩ k)) (fun k j => (m (c.tc.loc main_arg4)) (ix2 k j))) (fun k j => (m (c.tc.loc main_arg5)) (ix2 k j))) (fun k => (m (c.tc.loc main_arg6)) (ix2 ⟨512 * t.val + r.val, by have := lt32 t; omega⟩ k)) (fun k => (m (c.tc.loc main_arg7)) (ix2 0 k))) := by
  exact congr (congr (congrArg Y (eqO m c t r)) (funext fun k => x7_at m c t r k)) (funext fun k => x8_at m c t k)

theorem final0 : (dats m 0 c).arrAt 9 (cfgs 0).N = val_main_v39 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 9 _ (by decide +kernel) fun t hf y => ?_
  have hl := lt32 t
  have hy : (win0_9.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, out0_9 (iblk m c 0 t) (iblk m c 1 t) (iblk m c 2 t) (iblk m c 3 t) (iblk m c 4 t) (iblk m c 5 t) (iblk m c 6 t) (iblk m c 7 t) (iblk m c 8 t) y = val_main_v39 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix2 ⟨512 * t.val + (y 0).val, by have : (y 0).val < 512 := (y 0).isLt; omega⟩ (y 1)) := by
    intro y
    idx_vars y
    refine (out9_at _ _ _ _ _ _ _ _ _ y0 y1).trans (Eq.trans ?_ (ref39_at (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) _ y1).symm)
    exact congrFun (eqY m c t y0) y1
  refine Eq.trans ?_ ((key y).trans (congrArg _ hy.symm))
  blk_simp
  rw [after0_9]

theorem final1 : (dats m 0 c).arrAt 10 (cfgs 0).N = val_main_v40 (F := Ideal) (m (c.tc.loc main_arg0)) (m (c.tc.loc main_arg3)) := by
  refine (dats m 0 c).arrAt_eq_of_covers 10 _ (by decide +kernel) fun t hf y => ?_
  have hl := lt32 t
  have hy : (win0_10.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, out0_10 (iblk m c 0 t) (iblk m c 1 t) (iblk m c 2 t) (iblk m c 3 t) (iblk m c 4 t) (iblk m c 5 t) (iblk m c 6 t) (iblk m c 7 t) (iblk m c 8 t) y = val_main_v40 (F := Ideal) (m (c.tc.loc main_arg0)) (m (c.tc.loc main_arg3)) (ix2 ⟨512 * t.val + (y 0).val, by have : (y 0).val < 512 := (y 0).isLt; omega⟩ (y 1)) := by
    intro y
    idx_vars y
    refine (out10_at _ _ _ _ _ _ _ _ _ y0 y1).trans (Eq.trans ?_ (ref40_at (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) _ y1).symm)
    exact congrFun (congrArg₂ B (funext fun k => x0_at m c t y0 k) (funext fun k => funext fun j => x4_at m c t k j)) y1
  refine Eq.trans ?_ ((key y).trans (congrArg _ hy.symm))
  blk_simp
  rw [after0_10]

theorem final2 : (dats m 0 c).arrAt 11 (cfgs 0).N = val_main_v41 (F := Ideal) (m (c.tc.loc main_arg1)) (m (c.tc.loc main_arg4)) := by
  refine (dats m 0 c).arrAt_eq_of_covers 11 _ (by decide +kernel) fun t hf y => ?_
  have hl := lt32 t
  have hy : (win0_11.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, out0_11 (iblk m c 0 t) (iblk m c 1 t) (iblk m c 2 t) (iblk m c 3 t) (iblk m c 4 t) (iblk m c 5 t) (iblk m c 6 t) (iblk m c 7 t) (iblk m c 8 t) y = val_main_v41 (F := Ideal) (m (c.tc.loc main_arg1)) (m (c.tc.loc main_arg4)) (ix2 ⟨512 * t.val + (y 0).val, by have : (y 0).val < 512 := (y 0).isLt; omega⟩ (y 1)) := by
    intro y
    idx_vars y
    refine (out11_at _ _ _ _ _ _ _ _ _ y0 y1).trans (Eq.trans ?_ (ref41_at (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) _ y1).symm)
    exact congrFun (congrArg₂ B (funext fun k => x1_at m c t y0 k) (funext fun k => funext fun j => x5_at m c t k j)) y1
  refine Eq.trans ?_ ((key y).trans (congrArg _ hy.symm))
  blk_simp
  rw [after0_11]

theorem final3 : (dats m 0 c).arrAt 12 (cfgs 0).N = val_main_v42 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 12 _ (by decide +kernel) fun t hf y => ?_
  have hl := lt32 t
  have hy : (win0_12.blk t).view.emb y = (ix2 ⟨512 * t.val + ((y : S512x1024.Idx) 0).val, by have : ((y : S512x1024.Idx) 0).val < 512 := ((y : S512x1024.Idx) 0).isLt; omega⟩ ((y : S512x1024.Idx) 1) : S16384x1024.Idx) := by
    funext a; apply Fin.ext; fin_cases a <;> blk_simp [idx t] <;> simp <;> omega
  have key : ∀ y : S512x1024.Idx, out0_12 (iblk m c 0 t) (iblk m c 1 t) (iblk m c 2 t) (iblk m c 3 t) (iblk m c 4 t) (iblk m c 5 t) (iblk m c 6 t) (iblk m c 7 t) (iblk m c 8 t) y = val_main_v42 (F := Ideal) (m (c.tc.loc main_arg0)) (m (c.tc.loc main_arg1)) (m (c.tc.loc main_arg2)) (m (c.tc.loc main_arg3)) (m (c.tc.loc main_arg4)) (m (c.tc.loc main_arg5)) (ix2 ⟨512 * t.val + (y 0).val, by have : (y 0).val < 512 := (y 0).isLt; omega⟩ (y 1)) := by
    intro y
    idx_vars y
    refine (out12_at _ _ _ _ _ _ _ _ _ y0 y1).trans (Eq.trans ?_ (ref42_at (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) _ y1).symm)
    exact congrFun (eqO m c t y0) y1
  refine Eq.trans ?_ ((key y).trans (congrArg _ hy.symm))
  blk_simp
  rw [after0_12]

theorem algebraic : Cert.algebraic_MergeFwdIdeal_MergeFwdRefIdeal := by
  intro m g m' g' _ ha
  refine ⟨_, _, _, _, Cert.MergeFwdIdeal.Value.run_blocks m g, ?_⟩
  refine (θ_run Cert.MergeFwdRefIdeal.defs _ _).mono (fun r h c => ?_) (Cert.MergeFwdRefIdeal.Value.run m' g')
  obtain ⟨e0, e1, e2, e3, e4, e5, e6, e7⟩ := ha c
  obtain ⟨k0, k1, k2, k3, ka⟩ := h c
  refine ⟨k0.trans ((val_main_v39_eq _ _).trans ?_), k1.trans ((val_main_v40_eq _ _).trans ?_), k2.trans ((val_main_v41_eq _ _).trans ?_), k3.trans ((val_main_v42_eq _ _ _ _ _ _).trans ?_), ka⟩
  · rw [e0, e1, e2, e3, e4, e5, e6, e7]
    exact (final0 m c).symm
  · rw [e0, e3]
    exact (final1 m c).symm
  · rw [e1, e4]
    exact (final2 m c).symm
  · rw [e0, e1, e2, e3, e4, e5]
    exact (final3 m c).symm

end Cert.VMergeFwd

end
-- ==== Proof.V.SmallSum.lean ====
/- The sum of the devices' gradients of the small weights, block of rows by block of rows, and the weights' gradients cut out of it. -/
module

public import proofs.«01_k».proof.Defs
public import proofs.«01_k».proof.Proof.Gen.SmallSumIdeal
public import proofs.«01_k».proof.Proof.Gen.SmallSumIdeal.Frame
public import proofs.«01_k».proof.Proof.Gen.SmallSumRefIdeal
public import proofs.«01_k».proof.Proof.Gen.SmallSumRefIdeal.Run
public import proofs.«01_k».proof.Proof.Gen.SmallSumRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.VSmallSum

open Cert.SmallSumIdeal Cert.SmallSumIdeal.Gen Cert.SmallSumRefIdeal.Read Idealize.ShloMosaic Idealize.ShloMosaic.TcCoe Idealize.ShloMosaic.Tactic Idealize.SL.Sem

theorem ref0_at (x : FVec Ideal S8x560x1024 .f32) (r : Fin 560) (j : Fin 1024) : (val_main_v0 (F := Ideal) x (ix2 r j) : EReal) = ∑ k : Fin 8, (x (ix3 k r j) : EReal) := by
  pointwise [val_main_v0, val_main_cst]

theorem out_at (x0 x1 x2 x3 x4 x5 x6 x7 : FVec Ideal S1x112x1024 .f32) (r : Fin 112) (j : Fin 1024) : (out0_8 (F := Ideal) x0 x1 x2 x3 x4 x5 x6 x7 (ix3 0 r j) : EReal)
    = x0 (ix3 0 r j) + x1 (ix3 0 r j) + x2 (ix3 0 r j) + x3 (ix3 0 r j) + x4 (ix3 0 r j) + x5 (ix3 0 r j) + x6 (ix3 0 r j) + x7 (ix3 0 r j) := by
  unfold out0_8
  refine (congrFun (View.canon_cons_unit_lit (S := S1x112x1024) inb_S1x112x1024_S1x112x1024_0_0_0 _ [] (by decide)) _).trans ?_
  pointwise [k0_pay1]

variable (m : (ℓ : Loc nD τ sig) → Buf (Elt Ideal) ℓ) (c : Dev nD) (t : Fin cfg0.N)

theorem idx : ∀ t : Fin cfg0.N, win0_0.index t = ![0, t.val, 0] ∧ win0_1.index t = ![1, t.val, 0] ∧ win0_2.index t = ![2, t.val, 0] ∧ win0_3.index t = ![3, t.val, 0] ∧ win0_4.index t = ![4, t.val, 0] ∧ win0_5.index t = ![5, t.val, 0] ∧ win0_6.index t = ![6, t.val, 0] ∧ win0_7.index t = ![7, t.val, 0] ∧ win0_8.index t = ![0, t.val, 0] :=
  (by decide +kernel : ∀ t : Fin grid0.N, _)

theorem ltN (t : Fin cfg0.N) : t.val < 5 := (by decide +kernel : cfg0.N = 5) ▸ t.isLt

/-- The row of the packs a row of a block is. -/
abbrev R (t : Fin cfg0.N) (r : Fin 112) : Fin 560 := ⟨112 * t.val + r.val, by have := ltN t; omega⟩

theorem x0_at (r : Fin 112) (j : Fin 1024) : ((iblk m c 0 t : FVec Ideal S1x112x1024 .f32) (ix3 0 r j) : EReal) = m (c.tc.loc main_arg0) (ix3 0 (R t r) j) := by
  refine Eq.trans ?_ (congrFun (V_main_arg0 m c) _)
  blk_point [iblk, idx t]

theorem x1_at (r : Fin 112) (j : Fin 1024) : ((iblk m c 1 t : FVec Ideal S1x112x1024 .f32) (ix3 0 r j) : EReal) = m (c.tc.loc main_arg0) (ix3 1 (R t r) j) := by
  refine Eq.trans ?_ (congrFun (V_main_arg0 m c) _)
  blk_point [iblk, idx t]

theorem x2_at (r : Fin 112) (j : Fin 1024) : ((iblk m c 2 t : FVec Ideal S1x112x1024 .f32) (ix3 0 r j) : EReal) = m (c.tc.loc main_arg0) (ix3 2 (R t r) j) := by
  refine Eq.trans ?_ (congrFun (V_main_arg0 m c) _)
  blk_point [iblk, idx t]

theorem x3_at (r : Fin 112) (j : Fin 1024) : ((iblk m c 3 t : FVec Ideal S1x112x1024 .f32) (ix3 0 r j) : EReal) = m (c.tc.loc main_arg0) (ix3 3 (R t r) j) := by
  refine Eq.trans ?_ (congrFun (V_main_arg0 m c) _)
  blk_point [iblk, idx t]

theorem x4_at (r : Fin 112) (j : Fin 1024) : ((iblk m c 4 t : FVec Ideal S1x112x1024 .f32) (ix3 0 r j) : EReal) = m (c.tc.loc main_arg0) (ix3 4 (R t r) j) := by
  refine Eq.trans ?_ (congrFun (V_main_arg0 m c) _)
  blk_point [iblk, idx t]

theorem x5_at (r : Fin 112) (j : Fin 1024) : ((iblk m c 5 t : FVec Ideal S1x112x1024 .f32) (ix3 0 r j) : EReal) = m (c.tc.loc main_arg0) (ix3 5 (R t r) j) := by
  refine Eq.trans ?_ (congrFun (V_main_arg0 m c) _)
  blk_point [iblk, idx t]

theorem x6_at (r : Fin 112) (j : Fin 1024) : ((iblk m c 6 t : FVec Ideal S1x112x1024 .f32) (ix3 0 r j) : EReal) = m (c.tc.loc main_arg0) (ix3 6 (R t r) j) := by
  refine Eq.trans ?_ (congrFun (V_main_arg0 m c) _)
  blk_point [iblk, idx t]

theorem x7_at (r : Fin 112) (j : Fin 1024) : ((iblk m c 7 t : FVec Ideal S1x112x1024 .f32) (ix3 0 r j) : EReal) = m (c.tc.loc main_arg0) (ix3 7 (R t r) j) := by
  refine Eq.trans ?_ (congrFun (V_main_arg0 m c) _)
  blk_point [iblk, idx t]

/-- The sum over the devices, as the reference makes it. -/
abbrev q := val_main_v0 (F := Ideal) (m (c.tc.loc main_arg0))

set_option maxHeartbeats 2000000 in
theorem final : (dats m 0 c).arrAt 8 (cfgs 0).N = fun y : S1x560x1024.Idx => q m c (ix2 (y 1) (y 2)) := by
  refine (dats m 0 c).arrAt_eq_of_covers 8 _ (by decide +kernel) fun t hf y => ?_
  have hy : (win0_8.blk t).view.emb y = (ix3 0 (R t ((y : S1x112x1024.Idx) 1)) ((y : S1x112x1024.Idx) 2) : S1x560x1024.Idx) := by
    have h0 : ((y : S1x112x1024.Idx) 0).val < 1 := ((y : S1x112x1024.Idx) 0).isLt
    funext a; apply Fin.ext; fin_cases a <;> blk_simp [idx t] <;> simp <;> omega
  have key : ∀ y : S1x112x1024.Idx, out0_8 (iblk m c 0 t) (iblk m c 1 t) (iblk m c 2 t) (iblk m c 3 t) (iblk m c 4 t) (iblk m c 5 t) (iblk m c 6 t) (iblk m c 7 t) y = q m c (ix2 (R t (y 1)) (y 2)) := by
    intro y
    idx_vars y
    obtain rfl : y0 = 0 := by omega
    refine (out_at _ _ _ _ _ _ _ _ y1 y2).trans (Eq.trans ?_ (ref0_at _ _ y2).symm)
    refine Eq.trans ?_ (Fin.sum_univ_eight _).symm
    exact congrArg₂ (· + ·) (congrArg₂ (· + ·) (congrArg₂ (· + ·) (congrArg₂ (· + ·) (congrArg₂ (· + ·) (congrArg₂ (· + ·) (congrArg₂ (· + ·) (x0_at m c t y1 y2) (x1_at m c t y1 y2)) (x2_at m c t y1 y2)) (x3_at m c t y1 y2)) (x4_at m c t y1 y2)) (x5_at m c t y1 y2)) (x6_at m c t y1 y2)) (x7_at m c t y1 y2)
  refine Eq.trans ?_ ((key y).trans (congrArg (fun y : S1x560x1024.Idx => q m c (ix2 (y 1) (y 2))) hy.symm))
  blk_simp
  rw [after0_8]

theorem flat (a : FVec Ideal S1x560x1024 .f32) (b : FVec Ideal S560x1024 .f32) (h : a = fun y : S1x560x1024.Idx => b (ix2 (y 1) (y 2))) : shapeCast S560x1024 a shapeCasts_S1x560x1024_S560x1024 = b := by
  subst h
  funext y
  idx_vars y
  pointwise

section Tail

variable (W : Valuation τ sig (Elt Ideal)) (x : FVec Ideal S8x560x1024 .f32) (h : (fun i => shapeCast S560x1024 (W (Proc.devRef .tc main_v0) : FVec Ideal S1x560x1024 .f32) shapeCasts_S1x560x1024_S560x1024 i) = val_main_v0 (F := Ideal) x)
include h

theorem tail4 : StableHlo.after (hostOps1 (F := Ideal)) W (Proc.devRef .tc main_v5) = val_main_v4 (F := Ideal) x := by
  unfold hostOps1
  after_results_simp
  unfold val_main_v4 val_main_v3 val_main_v2 val_main_v1
  rw [← h]
  rfl

theorem tail6 : StableHlo.after (hostOps1 (F := Ideal)) W (Proc.devRef .tc main_v7) = val_main_v6 (F := Ideal) x := by
  unfold hostOps1
  after_results_simp
  unfold val_main_v6 val_main_v5 val_main_v2 val_main_v1
  rw [← h]
  rfl

theorem tail8 : StableHlo.after (hostOps1 (F := Ideal)) W (Proc.devRef .tc main_v9) = val_main_v8 (F := Ideal) x := by
  unfold hostOps1
  after_results_simp
  unfold val_main_v8 val_main_v7 val_main_v2 val_main_v1
  rw [← h]
  rfl

theorem tail10 : StableHlo.after (hostOps1 (F := Ideal)) W (Proc.devRef .tc main_v11) = val_main_v10 (F := Ideal) x := by
  unfold hostOps1
  after_results_simp
  unfold val_main_v10 val_main_v9 val_main_v2 val_main_v1
  rw [← h]
  rfl

theorem tail12 : StableHlo.after (hostOps1 (F := Ideal)) W (Proc.devRef .tc main_v13) = val_main_v12 (F := Ideal) x := by
  unfold hostOps1
  after_results_simp
  unfold val_main_v12 val_main_v11 val_main_v2 val_main_v1
  rw [← h]
  rfl

theorem tail14 : StableHlo.after (hostOps1 (F := Ideal)) W (Proc.devRef .tc main_v15) = val_main_v14 (F := Ideal) x := by
  unfold hostOps1
  after_results_simp
  unfold val_main_v14 val_main_v13 val_main_v2 val_main_v1
  rw [← h]
  rfl

theorem tail16 : StableHlo.after (hostOps1 (F := Ideal)) W (Proc.devRef .tc main_v17) = val_main_v16 (F := Ideal) x := by
  unfold hostOps1
  after_results_simp
  unfold val_main_v16 val_main_v15 val_main_v2 val_main_v1
  rw [← h]
  rfl

theorem tail19 : StableHlo.after (hostOps1 (F := Ideal)) W (Proc.devRef .tc main_v20) = val_main_v19 (F := Ideal) x := by
  unfold hostOps1
  after_results_simp
  unfold val_main_v19 val_main_v18 val_main_v17 val_main_v2 val_main_v1
  rw [← h]
  rfl

theorem tail21 : StableHlo.after (hostOps1 (F := Ideal)) W (Proc.devRef .tc main_v22) = val_main_v21 (F := Ideal) x := by
  unfold hostOps1
  after_results_simp
  unfold val_main_v21 val_main_v20 val_main_v2 val_main_v1
  rw [← h]
  rfl

theorem tail23 : StableHlo.after (hostOps1 (F := Ideal)) W (Proc.devRef .tc main_v24) = val_main_v23 (F := Ideal) x := by
  unfold hostOps1
  after_results_simp
  unfold val_main_v23 val_main_v22 val_main_v2 val_main_v1
  rw [← h]
  rfl

theorem tail25 : StableHlo.after (hostOps1 (F := Ideal)) W (Proc.devRef .tc main_v26) = val_main_v25 (F := Ideal) x := by
  unfold hostOps1
  after_results_simp
  unfold val_main_v25 val_main_v24 val_main_v2 val_main_v1
  rw [← h]
  rfl

end Tail

/-- The array the grid writes, in the memory the lines after it start from, is the sum over the devices. -/
theorem got : (fun i => shapeCast S560x1024 (Pipeline.withArrays (cfgs 0).spec c (V0 m c) (fun w => (dats m 0 c).arrAt w (cfgs 0).N) (Proc.devRef .tc main_v0) : FVec Ideal S1x560x1024 .f32) shapeCasts_S1x560x1024_S560x1024 i) = val_main_v0 (F := Ideal) (m (c.tc.loc main_arg0)) :=
  flat _ _ ((Pipeline.withArrays_arr_shared (cfgs 0).spec c (V0 m c) (fun w => (dats m 0 c).arrAt w (cfgs 0).N) (fun w w' hne he => ((dats m 0 c).arrAt_in w (sharedIn0 w w' hne he) _).trans (A_eq m c w)) 8).trans (final m c))

/-- The run of the kernel: the eleven gradients cut out of the sum. -/
theorem run (g : Dev nD → PrngReg) : θ_run (defs (F := Ideal)) (onTc (τ := τ) (main (F := Ideal))) ⟨m, fun _ => 0, g⟩ fun r => ∀ c : Dev nD,
    r.2.mem (c.tc.loc main_v5) = val_main_v4 (F := Ideal) (m (c.tc.loc main_arg0))
    ∧ r.2.mem (c.tc.loc main_v7) = val_main_v6 (F := Ideal) (m (c.tc.loc main_arg0))
    ∧ r.2.mem (c.tc.loc main_v9) = val_main_v8 (F := Ideal) (m (c.tc.loc main_arg0))
    ∧ r.2.mem (c.tc.loc main_v11) = val_main_v10 (F := Ideal) (m (c.tc.loc main_arg0))
    ∧ r.2.mem (c.tc.loc main_v13) = val_main_v12 (F := Ideal) (m (c.tc.loc main_arg0))
    ∧ r.2.mem (c.tc.loc main_v15) = val_main_v14 (F := Ideal) (m (c.tc.loc main_arg0))
    ∧ r.2.mem (c.tc.loc main_v17) = val_main_v16 (F := Ideal) (m (c.tc.loc main_arg0))
    ∧ r.2.mem (c.tc.loc main_v20) = val_main_v19 (F := Ideal) (m (c.tc.loc main_arg0))
    ∧ r.2.mem (c.tc.loc main_v22) = val_main_v21 (F := Ideal) (m (c.tc.loc main_arg0))
    ∧ r.2.mem (c.tc.loc main_v24) = val_main_v23 (F := Ideal) (m (c.tc.loc main_arg0))
    ∧ r.2.mem (c.tc.loc main_v26) = val_main_v25 (F := Ideal) (m (c.tc.loc main_arg0))
    ∧ r.2.mem (c.tc.loc main_arg0) = m (c.tc.loc main_arg0) := by
  refine (θ_run defs _ _).mono (fun r h c => ⟨?_, ?_, ?_, ?_, ?_, ?_, ?_, ?_, ?_, ?_, ?_, ((h c).1 0).trans (((dats m 0 c).arrAt_in 0 rfl _).trans ((A_eq m c 0).trans (V_main_arg0 m c)))⟩) (run_main m g)
  · refine ((h c).2 main_v5 (Pipeline.mem_restRefs_of main_v5 (by decide) (by decide))).trans ?_
    unfold Pipeline.afterTail₀; simp only [List.flatten_cons, List.flatten_nil, List.append_nil]
    exact tail4 _ _ (got m c)
  · refine ((h c).2 main_v7 (Pipeline.mem_restRefs_of main_v7 (by decide) (by decide))).trans ?_
    unfold Pipeline.afterTail₀; simp only [List.flatten_cons, List.flatten_nil, List.append_nil]
    exact tail6 _ _ (got m c)
  · refine ((h c).2 main_v9 (Pipeline.mem_restRefs_of main_v9 (by decide) (by decide))).trans ?_
    unfold Pipeline.afterTail₀; simp only [List.flatten_cons, List.flatten_nil, List.append_nil]
    exact tail8 _ _ (got m c)
  · refine ((h c).2 main_v11 (Pipeline.mem_restRefs_of main_v11 (by decide) (by decide))).trans ?_
    unfold Pipeline.afterTail₀; simp only [List.flatten_cons, List.flatten_nil, List.append_nil]
    exact tail10 _ _ (got m c)
  · refine ((h c).2 main_v13 (Pipeline.mem_restRefs_of main_v13 (by decide) (by decide))).trans ?_
    unfold Pipeline.afterTail₀; simp only [List.flatten_cons, List.flatten_nil, List.append_nil]
    exact tail12 _ _ (got m c)
  · refine ((h c).2 main_v15 (Pipeline.mem_restRefs_of main_v15 (by decide) (by decide))).trans ?_
    unfold Pipeline.afterTail₀; simp only [List.flatten_cons, List.flatten_nil, List.append_nil]
    exact tail14 _ _ (got m c)
  · refine ((h c).2 main_v17 (Pipeline.mem_restRefs_of main_v17 (by decide) (by decide))).trans ?_
    unfold Pipeline.afterTail₀; simp only [List.flatten_cons, List.flatten_nil, List.append_nil]
    exact tail16 _ _ (got m c)
  · refine ((h c).2 main_v20 (Pipeline.mem_restRefs_of main_v20 (by decide) (by decide))).trans ?_
    unfold Pipeline.afterTail₀; simp only [List.flatten_cons, List.flatten_nil, List.append_nil]
    exact tail19 _ _ (got m c)
  · refine ((h c).2 main_v22 (Pipeline.mem_restRefs_of main_v22 (by decide) (by decide))).trans ?_
    unfold Pipeline.afterTail₀; simp only [List.flatten_cons, List.flatten_nil, List.append_nil]
    exact tail21 _ _ (got m c)
  · refine ((h c).2 main_v24 (Pipeline.mem_restRefs_of main_v24 (by decide) (by decide))).trans ?_
    unfold Pipeline.afterTail₀; simp only [List.flatten_cons, List.flatten_nil, List.append_nil]
    exact tail23 _ _ (got m c)
  · refine ((h c).2 main_v26 (Pipeline.mem_restRefs_of main_v26 (by decide) (by decide))).trans ?_
    unfold Pipeline.afterTail₀; simp only [List.flatten_cons, List.flatten_nil, List.append_nil]
    exact tail25 _ _ (got m c)

theorem algebraic : Cert.algebraic_SmallSumIdeal_SmallSumRefIdeal := by
  intro m g m' g' _ ha
  refine ⟨_, _, _, _, _, _, _, _, _, _, _, run m g, ?_⟩
  refine (θ_run Cert.SmallSumRefIdeal.defs _ _).mono (fun r h c => ?_) (Cert.SmallSumRefIdeal.Value.run m' g')
  obtain e0 := ha c
  obtain ⟨k4, k6, k8, k10, k12, k14, k16, k19, k21, k23, k25, ka⟩ := h c
  refine ⟨k4.trans ((val_main_v4_eq _).trans ?_), k6.trans ((val_main_v6_eq _).trans ?_), k8.trans ((val_main_v8_eq _).trans ?_), k10.trans ((val_main_v10_eq _).trans ?_), k12.trans ((val_main_v12_eq _).trans ?_), k14.trans ((val_main_v14_eq _).trans ?_), k16.trans ((val_main_v16_eq _).trans ?_), k19.trans ((val_main_v19_eq _).trans ?_), k21.trans ((val_main_v21_eq _).trans ?_), k23.trans ((val_main_v23_eq _).trans ?_), k25.trans ((val_main_v25_eq _).trans ?_), ka⟩ <;> rw [e0]

end Cert.VSmallSum

end
-- ==== Proof.V.MergeBwd.lean ====
/- The backward pass of the merge of the mixer's branches: through the normalisation, the output product, the gates and the branches' products, block by block of the tokens. -/
module

public import proofs.«01_k».proof.Defs
public import proofs.«01_k».proof.Proof.Gen.MergeBwdIdeal
public import proofs.«01_k».proof.Proof.Gen.MergeBwdIdeal.Frame
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.V.Slab
public import proofs.«01_k».proof.Proof.V.Rms
public import proofs.«01_k».proof.Proof.V.Silu
public import Idealize.ShloMosaic.Lib.Claim
public import Idealize.ShloMosaic.Lib.Pointwise
public import Idealize.ShloMosaic.Lib.Pipeline.ValueKit

@[expose] public section

set_option maxRecDepth 16384

noncomputable section

namespace Cert.VMergeBwd

open Cert.MergeBwdIdeal Cert.MergeBwdIdeal.Gen Cert.MergeBwdRefIdeal.Read Idealize.ShloMosaic Idealize.ShloMosaic.TcCoe Idealize.ShloMosaic.Tactic Idealize.SL.Sem
open Idealize.ShloMosaic.Pipeline (Dat)

section Stages

variable (x0 : FVec Ideal S16384x1024 .f32) (x1 x3 x4 : FVec Ideal S16384x1024 .bf16) (x2 : FVec Ideal S1x1024 .f32) (x5 : FVec Ideal S16384x4096 .bf16) (x6 x7 x8 : FVec Ideal S1024x1024 .f32) (r : Fin 16384) (j : Fin 1024)

theorem ref41_at : (val_main_v41 (F := Ideal) x0 x1 x2 (ix2 r j) : EReal) = Rms.K (fun k => x1 (ix2 r k)) (fun k => (x0 (ix2 r k) : EReal) * (x2 (ix2 0 k) : EReal)) j := by
  rw [Rms.eq]
  unfold Rms.T Rms.rs Rms.ms
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7]
  simp only [Finset.univ_unique, Finset.sum_singleton]

theorem ref49_at : (val_main_v49 (F := Ideal) x5 (ix2 r j) : EReal) = Silu.sig (x5 (ix2 r ⟨2048 + j.val, by omega⟩)) := by
  unfold Silu.sig
  pointwise [val_main_v49, val_main_v48, val_main_v47, val_main_v46, val_main_v45, val_main_v44, val_main_v2, val_main_v1, val_main_v0, val_main_cst_8, val_main_cst_9]

theorem ref59_at : (val_main_v59 (F := Ideal) x5 (ix2 r j) : EReal) = Silu.sig (x5 (ix2 r ⟨3072 + j.val, by omega⟩)) := by
  unfold Silu.sig
  pointwise [val_main_v59, val_main_v58, val_main_v57, val_main_v56, val_main_v55, val_main_v54, val_main_v3, val_main_v1, val_main_v0, val_main_cst_11, val_main_cst_12]
  have e : (⟨2048 + (1024 + j.val), by omega⟩ : Fin 4096) = ⟨3072 + j.val, by omega⟩ := Fin.ext (by show 2048 + (1024 + j.val) = 3072 + j.val; omega)
  rw [e]

theorem ref66_at : (val_main_v66 (F := Ideal) x0 x1 x2 x8 (ix2 r j) : EReal) = ∑ k : Fin 1024, (val_main_v41 (F := Ideal) x0 x1 x2 (ix2 r k) : EReal) * x8 (ix2 j k) := by
  pointwise [val_main_v66]

theorem ref70_at : (val_main_v70 (F := Ideal) x0 x1 x2 x5 x8 (ix2 r j) : EReal) = (val_main_v66 (F := Ideal) x0 x1 x2 x8 (ix2 r j) : EReal) * Silu.sig (x5 (ix2 r ⟨2048 + j.val, by omega⟩)) := by
  rw [mul_comm, ← ref49_at]
  pointwise [val_main_v70]

theorem ref67_at : (val_main_v67 (F := Ideal) x0 x1 x2 x5 x8 (ix2 r j) : EReal) = (val_main_v66 (F := Ideal) x0 x1 x2 x8 (ix2 r j) : EReal) * Silu.sig (x5 (ix2 r ⟨3072 + j.val, by omega⟩)) := by
  rw [mul_comm, ← ref59_at]
  pointwise [val_main_v67]

theorem ref84_at : (val_main_v84 (F := Ideal) x3 x4 x5 (ix2 r j) : EReal) = Silu.sig (x5 (ix2 r ⟨2048 + j.val, by omega⟩)) * (x3 (ix2 r j) : EReal) + Silu.sig (x5 (ix2 r ⟨3072 + j.val, by omega⟩)) * (x4 (ix2 r j) : EReal) := by
  rw [← ref49_at, ← ref59_at]
  pointwise [val_main_v84, val_main_v64, val_main_v63, val_main_v53, val_main_v42, val_main_v43]

theorem ref87_at : (val_main_v87 (F := Ideal) x0 x1 x2 x5 x6 x8 (ix2 j r) : EReal) = ∑ k : Fin 1024, (x6 (ix2 j k) : EReal) * (val_main_v70 (F := Ideal) x0 x1 x2 x5 x8 (ix2 r k) : EReal) := by
  refine Eq.trans ?_ (Finset.sum_congr rfl fun k _ => mul_comm _ _)
  pointwise [val_main_v87, val_main_v80, val_main_v79]

theorem ref88_at : (val_main_v88 (F := Ideal) x0 x1 x2 x5 x7 x8 (ix2 r j) : EReal) = ∑ k : Fin 1024, (val_main_v67 (F := Ideal) x0 x1 x2 x5 x8 (ix2 r k) : EReal) * (x7 (ix2 j k) : EReal) := by
  pointwise [val_main_v88, val_main_v78]

theorem ref82a_at : (val_main_v82 (F := Ideal) x0 x1 x2 x3 x4 x5 x8 (ix2 r ⟨j.val, by omega⟩) : EReal)
    = (val_main_v70 (F := Ideal) x0 x1 x2 x5 x8 (ix2 r j) : EReal) * x3 (ix2 r j) * (Ideal.ofBits .f32 0x3F800000#32 - Silu.sig (x5 (ix2 r ⟨2048 + j.val, by omega⟩))) := by
  refine Eq.trans (b := (val_main_v72 (F := Ideal) x0 x1 x2 x3 x5 x8 (ix2 r j) : EReal)) ?_ ?_
  · generalize hd : val_main_v72 (F := Ideal) x0 x1 x2 x3 x5 x8 = d
    pointwise [val_main_v82, val_main_v81, hd]
  · rw [ref70_at, ← ref49_at]
    refine Eq.trans (b := (val_main_v66 (F := Ideal) x0 x1 x2 x8 (ix2 r j) : EReal) * (x3 (ix2 r j) : EReal) * ((val_main_v49 (F := Ideal) x5 (ix2 r j) : EReal) * (Ideal.ofBits .f32 0x3F800000#32 - (val_main_v49 (F := Ideal) x5 (ix2 r j) : EReal)))) ?_ (by ac_rfl)
    pointwise [val_main_v72, val_main_v71, val_main_v42, val_main_v52, val_main_v51, val_main_v50, val_main_cst_10]

theorem ref82b_at : (val_main_v82 (F := Ideal) x0 x1 x2 x3 x4 x5 x8 (ix2 r ⟨1024 + j.val, by omega⟩) : EReal)
    = (val_main_v67 (F := Ideal) x0 x1 x2 x5 x8 (ix2 r j) : EReal) * x4 (ix2 r j) * (Ideal.ofBits .f32 0x3F800000#32 - Silu.sig (x5 (ix2 r ⟨3072 + j.val, by omega⟩))) := by
  refine Eq.trans (b := (val_main_v69 (F := Ideal) x0 x1 x2 x4 x5 x8 (ix2 r j) : EReal)) ?_ ?_
  · generalize hd : val_main_v69 (F := Ideal) x0 x1 x2 x4 x5 x8 = d
    pointwise [val_main_v82, val_main_v81, hd]
  · rw [ref67_at, ← ref59_at]
    refine Eq.trans (b := (val_main_v66 (F := Ideal) x0 x1 x2 x8 (ix2 r j) : EReal) * (x4 (ix2 r j) : EReal) * ((val_main_v59 (F := Ideal) x5 (ix2 r j) : EReal) * (Ideal.ofBits .f32 0x3F800000#32 - (val_main_v59 (F := Ideal) x5 (ix2 r j) : EReal)))) ?_ (by ac_rfl)
    pointwise [val_main_v69, val_main_v68, val_main_v43, val_main_v62, val_main_v61, val_main_v60, val_main_cst_13]

theorem ref89_at : (val_main_v89 (F := Ideal) x0 x1 (ix2 0 j) : EReal) = ∑ r : Fin 16384, (x0 (ix2 r j) : EReal) * ((x1 (ix2 r j) : EReal) * Rms.rs (fun k => x1 (ix2 r k))) := by
  unfold Rms.rs Rms.ms
  pointwise [val_main_v89, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4]
  simp only [Finset.univ_unique, Finset.sum_singleton]
  exact Finset.sum_congr rfl fun r _ => mul_comm _ _

end Stages

section Blocks

variable (x0 : FVec Ideal S512x1024 .f32) (x1 x3 x4 x5 x6 dm : FVec Ideal S512x1024 .bf16) (x2 v : FVec Ideal S1x1024 .f32) (w : FVec Ideal S1024x1024 .bf16) (r : Fin 512) (j : Fin 1024)

theorem pay12_at : (k0_pay12 (F := Ideal) x1 x2 x0 (ix2 r j) : EReal) = Rms.K (fun k => x1 (ix2 r k)) (fun k => (x0 (ix2 r k) : EReal) * (x2 (ix2 0 k) : EReal)) j := by
  unfold Rms.K Rms.rs Rms.ms
  pointwise [k0_pay12, k0_pay10, k0_pay9, k0_pay8]

theorem pay11_at : (k0_pay11 (F := Ideal) x1 x0 v (ix2 0 j) : EReal) = (v (ix2 0 j) : EReal) + ∑ r : Fin 512, (x0 (ix2 r j) : EReal) * ((x1 (ix2 r j) : EReal) * Rms.rs (fun k => x1 (ix2 r k))) := by
  unfold Rms.rs Rms.ms
  pointwise [k0_pay11, k0_pay10, k0_pay9, k0_pay8]

theorem pay13_at : (k0_pay13 (F := Ideal) x1 w (ix2 r j) : EReal) = ∑ k : Fin 1024, (x1 (ix2 r k) : EReal) * w (ix2 j k) := by
  pointwise [k0_pay13]

theorem pay1_at : (k0_pay1 (F := Ideal) dm (k0_pay18 x5) (ix2 r j) : EReal) = (dm (ix2 r j) : EReal) * Silu.sig (x5 (ix2 r j)) := by
  rw [← Silu.sig_tanh']
  pointwise [k0_pay1, k0_pay18, k0_pay14]

theorem pay2_at : (k0_pay2 (F := Ideal) dm (k0_pay19 x6) (ix2 r j) : EReal) = (dm (ix2 r j) : EReal) * Silu.sig (x6 (ix2 r j)) := by
  rw [← Silu.sig_tanh']
  pointwise [k0_pay2, k0_pay19, k0_pay15]

theorem pay3_at : (k0_pay3 (F := Ideal) dm x3 (k0_pay16 x5) (k0_pay18 x5) (ix2 r j) : EReal) = (k0_pay1 (F := Ideal) dm (k0_pay18 x5) (ix2 r j) : EReal) * x3 (ix2 r j) * (Ideal.ofBits .f32 0x3F800000#32 - Silu.sig (x5 (ix2 r j))) := by
  rw [← Silu.sig_tanh']
  generalize hd : k0_pay1 (F := Ideal) dm (k0_pay18 x5) = d
  pointwise [k0_pay3, k0_pay16, k0_pay14, hd]

theorem pay4_at : (k0_pay4 (F := Ideal) dm x4 (k0_pay17 x6) (k0_pay19 x6) (ix2 r j) : EReal) = (k0_pay2 (F := Ideal) dm (k0_pay19 x6) (ix2 r j) : EReal) * x4 (ix2 r j) * (Ideal.ofBits .f32 0x3F800000#32 - Silu.sig (x6 (ix2 r j))) := by
  rw [← Silu.sig_tanh']
  generalize hd : k0_pay2 (F := Ideal) dm (k0_pay19 x6) = d
  pointwise [k0_pay4, k0_pay17, k0_pay15, hd]

theorem pay5_at : (k0_pay5 (F := Ideal) dm x3 w (ix2 j r) : EReal) = ∑ k : Fin 1024, (w (ix2 j k) : EReal) * (k0_pay1 (F := Ideal) dm x3 (ix2 r k) : EReal) := by
  generalize hd : k0_pay1 (F := Ideal) dm x3 = d
  pointwise [k0_pay5, hd]

theorem pay6_at : (k0_pay6 (F := Ideal) dm x3 w (ix2 r j) : EReal) = ∑ k : Fin 1024, (k0_pay2 (F := Ideal) dm x3 (ix2 r k) : EReal) * (w (ix2 j k) : EReal) := by
  generalize hd : k0_pay2 (F := Ideal) dm x3 = d
  pointwise [k0_pay6, hd]

theorem pay20_at : (k0_pay20 (F := Ideal) x3 x4 x5 x6 (ix2 r j) : EReal) = Silu.sig (x5 (ix2 r j)) * (x3 (ix2 r j) : EReal) + Silu.sig (x6 (ix2 r j)) * (x4 (ix2 r j) : EReal) := by
  rw [← Silu.sig_tanh', ← Silu.sig_tanh']
  pointwise [k0_pay20, k0_pay18, k0_pay19, k0_pay14, k0_pay15]

end Blocks

section Whole

variable (m : (ℓ : Loc nD τ sig) → Buf (Elt Ideal) ℓ) (c : Dev nD) (t : Fin cfg0.N)

theorem w6_eq : (V m c main_v0 : S1024x1024.Idx → EReal) = m (c.tc.loc main_arg6) := by
  unfold V Gen.V0; simp only [List.flatten_cons, List.flatten_nil, List.append_nil]; after_results_simp; rfl

theorem w7_eq : (V m c main_v1 : S1024x1024.Idx → EReal) = m (c.tc.loc main_arg7) := by
  unfold V Gen.V0; simp only [List.flatten_cons, List.flatten_nil, List.append_nil]; after_results_simp; rfl

theorem w8_eq : (V m c main_v2 : S1024x1024.Idx → EReal) = m (c.tc.loc main_arg8) := by
  unfold V Gen.V0; simp only [List.flatten_cons, List.flatten_nil, List.append_nil]; after_results_simp; rfl

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 2] ∧ win0_6.index t = ![t.val, 3] ∧ win0_7.index t = ![0, 0] ∧ win0_8.index t = ![0, 0] ∧ win0_9.index t = ![0, 0] ∧ win0_10.index t = ![t.val, 1] ∧ win0_11.index t = ![t.val, 0] ∧ win0_12.index t = ![t.val, 0] ∧ win0_13.index t = ![t.val, 0] ∧ win0_14.index t = ![t.val, 0] ∧ win0_15.index t = ![0, t.val] ∧ win0_16.index t = ![t.val, 0] ∧ win0_17.index t = ![0, 0] :=
  (by decide +kernel : ∀ t : Fin grid0.N, _)

theorem lt32 (t : Fin cfg0.N) : t.val < 32 := (by decide +kernel : cfg0.N = 32) ▸ t.isLt

/-- The token a row of a block is. -/
abbrev R (t : Fin cfg0.N) (r : Fin 512) : Fin 16384 := ⟨512 * t.val + r.val, by have := lt32 t; omega⟩

variable (r : Fin 512) (j : Fin 1024)

theorem x0_at : ((iblk m c 0 t : FVec Ideal S512x1024 .f32) (ix2 r j) : EReal) = m (c.tc.loc main_arg0) (ix2 (R t r) j) := by
  refine Eq.trans ?_ (congrFun (V_main_arg0 m c) _)
  blk_point [iblk, idx t]

theorem x1_at : ((iblk m c 1 t : FVec Ideal S512x1024 .bf16) (ix2 r j) : EReal) = m (c.tc.loc main_arg1) (ix2 (R t r) j) := by
  refine Eq.trans ?_ (congrFun (V_main_arg1 m c) _)
  blk_point [iblk, idx t]

theorem x2_at : ((iblk m c 2 t : FVec Ideal S1x1024 .f32) (ix2 0 j) : EReal) = m (c.tc.loc main_arg2) (ix2 0 j) := by
  refine Eq.trans ?_ (congrFun (V_main_arg2 m c) _)
  blk_point [iblk, idx t]

theorem x3_at : ((iblk m c 3 t : FVec Ideal S512x1024 .bf16) (ix2 r j) : EReal) = m (c.tc.loc main_arg3) (ix2 (R t r) j) := by
  refine Eq.trans ?_ (congrFun (V_main_arg3 m c) _)
  blk_point [iblk, idx t]

theorem x4_at : ((iblk m c 4 t : FVec Ideal S512x1024 .bf16) (ix2 r j) : EReal) = m (c.tc.loc main_arg4) (ix2 (R t r) j) := by
  refine Eq.trans ?_ (congrFun (V_main_arg4 m c) _)
  blk_point [iblk, idx t]

theorem x5_at : ((iblk m c 5 t : FVec Ideal S512x1024 .bf16) (ix2 r j) : EReal) = m (c.tc.loc main_arg5) (ix2 (R t r) ⟨2048 + j.val, by omega⟩) := by
  refine Eq.trans ?_ (congrFun (V_main_arg5 m c) _)
  blk_point [iblk, idx t]

theorem x6_at : ((iblk m c 6 t : FVec Ideal S512x1024 .bf16) (ix2 r j) : EReal) = m (c.tc.loc main_arg5) (ix2 (R t r) ⟨3072 + j.val, by omega⟩) := by
  refine Eq.trans ?_ (congrFun (V_main_arg5 m c) _)
  blk_point [iblk, idx t]

theorem x7_at (k : Fin 1024) : ((iblk m c 7 t : FVec Ideal S1024x1024 .bf16) (ix2 k j) : EReal) = m (c.tc.loc main_arg6) (ix2 k j) := by
  refine Eq.trans ?_ (congrFun (w6_eq m c) _)
  blk_point [iblk, idx t]

theorem x8_at (k : Fin 1024) : ((iblk m c 8 t : FVec Ideal S1024x1024 .bf16) (ix2 k j) : EReal) = m (c.tc.loc main_arg7) (ix2 k j) := by
  refine Eq.trans ?_ (congrFun (w7_eq m c) _)
  blk_point [iblk, idx t]

theorem x9_at (k : Fin 1024) : ((iblk m c 9 t : FVec Ideal S1024x1024 .bf16) (ix2 k j) : EReal) = m (c.tc.loc main_arg8) (ix2 k j) := by
  refine Eq.trans ?_ (congrFun (w8_eq m c) _)
  blk_point [iblk, idx t]

abbrev dout := k0_pay12 (F := Ideal) (iblk m c 1 t) (iblk m c 2 t) (iblk m c 0 t)

abbrev dmrg := k0_pay13 (F := Ideal) (dout m c t) (iblk m c 9 t)

/-- The reference's stage 41 at the program's own arguments; the others are alike. -/
abbrev q41 := val_main_v41 (F := Ideal) (m (c.tc.loc main_arg0)) (m (c.tc.loc main_arg1)) (m (c.tc.loc main_arg2))
abbrev q66 := val_main_v66 (F := Ideal) (m (c.tc.loc main_arg0)) (m (c.tc.loc main_arg1)) (m (c.tc.loc main_arg2)) (m (c.tc.loc main_arg8))
abbrev q67 := val_main_v67 (F := Ideal) (m (c.tc.loc main_arg0)) (m (c.tc.loc main_arg1)) (m (c.tc.loc main_arg2)) (m (c.tc.loc main_arg5)) (m (c.tc.loc main_arg8))
abbrev q70 := val_main_v70 (F := Ideal) (m (c.tc.loc main_arg0)) (m (c.tc.loc main_arg1)) (m (c.tc.loc main_arg2)) (m (c.tc.loc main_arg5)) (m (c.tc.loc main_arg8))
abbrev q82 := val_main_v82 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg8))
abbrev q83 := val_main_v83 (F := Ideal) (m (c.tc.loc main_arg0)) (m (c.tc.loc main_arg1)) (m (c.tc.loc main_arg2))
abbrev q84 := val_main_v84 (F := Ideal) (m (c.tc.loc main_arg3)) (m (c.tc.loc main_arg4)) (m (c.tc.loc main_arg5))
abbrev q85 := val_main_v85 (F := Ideal) (m (c.tc.loc main_arg0)) (m (c.tc.loc main_arg1)) (m (c.tc.loc main_arg2)) (m (c.tc.loc main_arg5)) (m (c.tc.loc main_arg8))
abbrev q86 := val_main_v86 (F := Ideal) (m (c.tc.loc main_arg0)) (m (c.tc.loc main_arg1)) (m (c.tc.loc main_arg2)) (m (c.tc.loc main_arg5)) (m (c.tc.loc main_arg8))
abbrev q87 := val_main_v87 (F := Ideal) (m (c.tc.loc main_arg0)) (m (c.tc.loc main_arg1)) (m (c.tc.loc main_arg2)) (m (c.tc.loc main_arg5)) (m (c.tc.loc main_arg6)) (m (c.tc.loc main_arg8))
abbrev q88 := val_main_v88 (F := Ideal) (m (c.tc.loc main_arg0)) (m (c.tc.loc main_arg1)) (m (c.tc.loc main_arg2)) (m (c.tc.loc main_arg5)) (m (c.tc.loc main_arg7)) (m (c.tc.loc main_arg8))
abbrev q89 := val_main_v89 (F := Ideal) (m (c.tc.loc main_arg0)) (m (c.tc.loc main_arg1))

theorem do_at : (dout m c t (ix2 r j) : EReal) = q41 m c (ix2 (R t r) j) := by
  refine (pay12_at _ _ _ r j).trans (Eq.trans ?_ (ref41_at _ _ _ (R t r) j).symm)
  exact congrArg₂ (fun x d => Rms.K x d j) (funext fun k => x1_at m c t r k) (funext fun k => congrArg₂ (· * ·) (x0_at m c t r k) (x2_at m c t k))

theorem dm_at : (dmrg m c t (ix2 r j) : EReal) = q66 m c (ix2 (R t r) j) := by
  refine (pay13_at _ _ r j).trans (Eq.trans ?_ (ref66_at _ _ _ _ (R t r) j).symm)
  exact Finset.sum_congr rfl fun k _ => congrArg₂ (· * ·) (do_at m c t r k) (x9_at m c t k j)

theorem pa_at : (k0_pay1 (F := Ideal) (dmrg m c t) (k0_pay18 (iblk m c 5 t)) (ix2 r j) : EReal) = q70 m c (ix2 (R t r) j) := by
  refine (pay1_at _ _ r j).trans (Eq.trans ?_ (ref70_at _ _ _ _ _ (R t r) j).symm)
  exact congrArg₂ (· * ·) (dm_at m c t r j) (congrArg Silu.sig (x5_at m c t r j))

theorem ps_at : (k0_pay2 (F := Ideal) (dmrg m c t) (k0_pay19 (iblk m c 6 t)) (ix2 r j) : EReal) = q67 m c (ix2 (R t r) j) := by
  refine (pay2_at _ _ r j).trans (Eq.trans ?_ (ref67_at _ _ _ _ _ (R t r) j).symm)
  exact congrArg₂ (· * ·) (dm_at m c t r j) (congrArg Silu.sig (x6_at m c t r j))

/-- What a point leaves in each block written once. -/
theorem outs : (outsAt0 m c t.val t.isLt).2.1 = dout m c t
    ∧ (outsAt0 m c t.val t.isLt).2.2.1 = k0_pay20 (F := Ideal) (iblk m c 3 t) (iblk m c 4 t) (iblk m c 5 t) (iblk m c 6 t)
    ∧ (outsAt0 m c t.val t.isLt).2.2.2.1 = k0_pay1 (F := Ideal) (dmrg m c t) (k0_pay18 (iblk m c 5 t))
    ∧ (outsAt0 m c t.val t.isLt).2.2.2.2.1 = k0_pay2 (F := Ideal) (dmrg m c t) (k0_pay19 (iblk m c 6 t))
    ∧ (outsAt0 m c t.val t.isLt).2.2.2.2.2.1 = k0_pay5 (F := Ideal) (dmrg m c t) (k0_pay18 (iblk m c 5 t)) (iblk m c 7 t)
    ∧ (outsAt0 m c t.val t.isLt).2.2.2.2.2.2.1 = k0_pay6 (F := Ideal) (dmrg m c t) (k0_pay19 (iblk m c 6 t)) (iblk m c 8 t) := by
  by_cases h : t.val % 32 = 0
  · rw [outsAt0_A m c t h]; dsimp only
    unfold out0_A_11 out0_A_12 out0_A_13 out0_A_14 out0_A_15 out0_A_16
    refine ⟨?_, ?_, ?_, ?_, ?_, ?_⟩ <;> frame_out
  · rw [outsAt0_B m c t h]; dsimp only
    unfold out0_B_11 out0_B_12 out0_B_13 out0_B_14 out0_B_15 out0_B_16
    refine ⟨?_, ?_, ?_, ?_, ?_, ?_⟩ <;> frame_out

/-- What a point leaves in the block of the two gates' derivatives. -/
theorem out10 : (outsAt0 m c t.val t.isLt).1 = View.canon [⟨Rect.unit ![0, 1024] ![512, 1024] inb_S512x2048_S512x1024_0_1024, k0_pay4 (dmrg m c t) (iblk m c 4 t) (k0_pay17 (iblk m c 6 t)) (k0_pay19 (iblk m c 6 t))⟩, ⟨Rect.unit ![0, 0] ![512, 1024] inb_S512x2048_S512x1024_0_0, k0_pay3 (dmrg m c t) (iblk m c 3 t) (k0_pay16 (iblk m c 5 t)) (k0_pay18 (iblk m c 5 t))⟩] := by
  by_cases h : t.val % 32 = 0
  · rw [outsAt0_A m c t h]; dsimp only
    unfold out0_A_10
    frame_out
  · rw [outsAt0_B m c t h]; dsimp only
    unfold out0_B_10
    frame_out

theorem hi_at (p q : FVec Ideal S512x1024 .bf16) : (View.canon (Val := Elt Ideal) (s := S512x2048) (e := .bf16) [⟨Rect.unit ![0, 1024] ![512, 1024] inb_S512x2048_S512x1024_0_1024, p⟩, ⟨Rect.unit ![0, 0] ![512, 1024] inb_S512x2048_S512x1024_0_0, q⟩] (ix2 r ⟨1024 + j.val, by omega⟩) : EReal) = p (ix2 r j) := by
  have e : (ix2 r ⟨1024 + j.val, by omega⟩ : S512x2048.Idx) = (Rect.unit (s := S512x2048) ![0, 1024] ![512, 1024] inb_S512x2048_S512x1024_0_1024).emb (ix2 r j) := by
    funext a; apply Fin.ext; fin_cases a
    · show r.val = 0 + 1 * r.val; omega
    · show 1024 + j.val = 1024 + 1 * j.val; omega
  rw [e]
  exact View.canon_cons_emb _ _ _ _

theorem lo_at (p q : FVec Ideal S512x1024 .bf16) : (View.canon (Val := Elt Ideal) (s := S512x2048) (e := .bf16) [⟨Rect.unit ![0, 1024] ![512, 1024] inb_S512x2048_S512x1024_0_1024, p⟩, ⟨Rect.unit ![0, 0] ![512, 1024] inb_S512x2048_S512x1024_0_0, q⟩] (ix2 r ⟨j.val, by omega⟩) : EReal) = q (ix2 r j) := by
  refine (View.canon_cons_of_not_mem _ _ fun h => ?_).trans ?_
  · have := (Rect.mem_set_unit (inb := inb_S512x2048_S512x1024_0_1024).mp h 1).1
    simp at this
    omega
  have e : (ix2 r ⟨j.val, by omega⟩ : S512x2048.Idx) = (Rect.unit (s := S512x2048) ![0, 0] ![512, 1024] inb_S512x2048_S512x1024_0_0).emb (ix2 r j) := by
    funext a; apply Fin.ext; fin_cases a
    · show r.val = 0 + 1 * r.val; omega
    · show j.val = 0 + 1 * j.val; omega
  rw [e]
  exact View.canon_cons_emb _ _ _ _

theorem out10a_at : ((outsAt0 m c t.val t.isLt).1 (ix2 r ⟨j.val, by omega⟩) : EReal) = q82 m c (ix2 (R t r) ⟨j.val, by omega⟩) := by
  rw [out10]
  refine Eq.trans ?_ (((pay3_at (iblk m c 3 t) (iblk m c 5 t) (dmrg m c t) r j).trans ?_).trans (ref82a_at _ _ _ _ _ _ _ (R t r) j).symm)
  · exact lo_at r j _ _
  · exact congrArg₂ (· * ·) (congrArg₂ (· * ·) (pa_at m c t r j) (x3_at m c t r j)) (congrArg (fun x => _ - Silu.sig x) (x5_at m c t r j))

theorem out10b_at : ((outsAt0 m c t.val t.isLt).1 (ix2 r ⟨1024 + j.val, by omega⟩) : EReal) = q82 m c (ix2 (R t r) ⟨1024 + j.val, by omega⟩) := by
  rw [out10]
  refine Eq.trans ?_ (((pay4_at (iblk m c 4 t) (iblk m c 6 t) (dmrg m c t) r j).trans ?_).trans (ref82b_at _ _ _ _ _ _ _ (R t r) j).symm)
  · exact hi_at r j _ _
  · exact congrArg₂ (· * ·) (congrArg₂ (· * ·) (ps_at m c t r j) (x4_at m c t r j)) (congrArg (fun x => _ - Silu.sig x) (x6_at m c t r j))

/-- What point `t` adds to the gradient of the scale. -/
def S (j : Fin 1024) (t : Fin cfg0.N) : EReal :=
  ∑ r : Fin 512, (show EReal from m (c.tc.loc main_arg0) (ix2 (R t r) j)) * ((show EReal from m (c.tc.loc main_arg1) (ix2 (R t r) j)) * Rms.rs (fun k => m (c.tc.loc main_arg1) (ix2 (R t r) k)))

theorem S_eq : ∑ r : Fin 512, (show EReal from (iblk m c 0 t : FVec Ideal S512x1024 .f32) (ix2 r j)) * ((show EReal from (iblk m c 1 t : FVec Ideal S512x1024 .bf16) (ix2 r j)) * Rms.rs (fun k => (iblk m c 1 t : FVec Ideal S512x1024 .bf16) (ix2 r k))) = S m c j t :=
  Finset.sum_congr rfl fun r _ => congrArg₂ (· * ·) (x0_at m c t r j) (congrArg₂ (· * ·) (x1_at m c t r j) (congrArg Rms.rs (funext fun k => x1_at m c t r k)))

theorem dg_at (ht : t.val % 32 = 31) : ((outsAt0 m c t.val t.isLt).2.2.2.2.2.2.2 (ix2 0 j) : EReal) = q89 m c (ix2 0 j) := by
  refine (Slab.run_sum (J := 32) (by decide) (F := fun n h => ((outsAt0 m c n h).2.2.2.2.2.2.2 (ix2 0 j) : EReal)) (T := S m c j) (fun t h => ?_) (fun t h => ?_) t ht).trans ?_
  · rw [outsAt0_A m c t h]; dsimp only
    unfold out0_A_17
    frame_out
    exact (pay11_at _ _ _ j).trans (congrArg₂ (· + ·) (by pointwise [k0_pay7]) (S_eq m c t j))
  · rw [outsAt0_B m c t h]; dsimp only
    unfold out0_B_17
    frame_out
    exact (pay11_at _ _ _ j).trans (congrArg (_ + ·) (S_eq m c t j))
  · refine Eq.trans ?_ (Eq.trans (Slab.sum_runs (J := 32) (K := 512) (fun r => (show EReal from m (c.tc.loc main_arg0) (ix2 r j)) * ((show EReal from m (c.tc.loc main_arg1) (ix2 r j)) * Rms.rs (fun k => m (c.tc.loc main_arg1) (ix2 r k))))) (ref89_at _ _ j).symm)
    have h0 : t.val / 32 = 0 := by have := lt32 t; omega
    refine Finset.sum_congr rfl fun s _ => Finset.sum_congr rfl fun k _ => ?_
    simp only [h0, Nat.mul_zero, Nat.zero_add]

theorem final11 : (dats m 0 c).arrAt 11 (cfgs 0).N = q83 m c := by
  refine (dats m 0 c).arrAt_eq_of_covers 11 _ (by decide +kernel) fun t hf y => ?_
  have hy : (win0_11.blk t).view.emb y = (ix2 (R t ((y : S512x1024.Idx) 0)) ((y : S512x1024.Idx) 1) : S16384x1024.Idx) := by
    funext a; apply Fin.ext; fin_cases a <;> blk_simp [idx t] <;> simp <;> omega
  have key : ∀ y : S512x1024.Idx, (outsAt0 m c t.val t.isLt).2.1 y = q83 m c (ix2 (R t (y 0)) (y 1)) := by
    intro y
    idx_vars y
    rw [(outs m c t).1]; exact do_at m c t y0 y1
  refine Eq.trans ?_ ((key y).trans (congrArg _ hy.symm))
  blk_simp
  rw [after0_11]

theorem final12 : (dats m 0 c).arrAt 12 (cfgs 0).N = q84 m c := by
  refine (dats m 0 c).arrAt_eq_of_covers 12 _ (by decide +kernel) fun t hf y => ?_
  have hy : (win0_12.blk t).view.emb y = (ix2 (R t ((y : S512x1024.Idx) 0)) ((y : S512x1024.Idx) 1) : S16384x1024.Idx) := by
    funext a; apply Fin.ext; fin_cases a <;> blk_simp [idx t] <;> simp <;> omega
  have key : ∀ y : S512x1024.Idx, (outsAt0 m c t.val t.isLt).2.2.1 y = q84 m c (ix2 (R t (y 0)) (y 1)) := by
    intro y
    idx_vars y
    rw [(outs m c t).2.1]
    refine (pay20_at _ _ _ _ y0 y1).trans (Eq.trans ?_ (ref84_at _ _ _ (R t y0) y1).symm)
    exact congrArg₂ (· + ·) (congrArg₂ (· * ·) (congrArg Silu.sig (x5_at m c t y0 y1)) (x3_at m c t y0 y1)) (congrArg₂ (· * ·) (congrArg Silu.sig (x6_at m c t y0 y1)) (x4_at m c t y0 y1))
  refine Eq.trans ?_ ((key y).trans (congrArg _ hy.symm))
  blk_simp
  rw [after0_12]

theorem final13 : (dats m 0 c).arrAt 13 (cfgs 0).N = q85 m c := by
  refine (dats m 0 c).arrAt_eq_of_covers 13 _ (by decide +kernel) fun t hf y => ?_
  have hy : (win0_13.blk t).view.emb y = (ix2 (R t ((y : S512x1024.Idx) 0)) ((y : S512x1024.Idx) 1) : S16384x1024.Idx) := by
    funext a; apply Fin.ext; fin_cases a <;> blk_simp [idx t] <;> simp <;> omega
  have key : ∀ y : S512x1024.Idx, (outsAt0 m c t.val t.isLt).2.2.2.1 y = q85 m c (ix2 (R t (y 0)) (y 1)) := by
    intro y
    idx_vars y
    rw [(outs m c t).2.2.1]; exact pa_at m c t y0 y1
  refine Eq.trans ?_ ((key y).trans (congrArg _ hy.symm))
  blk_simp
  rw [after0_13]

theorem final14 : (dats m 0 c).arrAt 14 (cfgs 0).N = q86 m c := by
  refine (dats m 0 c).arrAt_eq_of_covers 14 _ (by decide +kernel) fun t hf y => ?_
  have hy : (win0_14.blk t).view.emb y = (ix2 (R t ((y : S512x1024.Idx) 0)) ((y : S512x1024.Idx) 1) : S16384x1024.Idx) := by
    funext a; apply Fin.ext; fin_cases a <;> blk_simp [idx t] <;> simp <;> omega
  have key : ∀ y : S512x1024.Idx, (outsAt0 m c t.val t.isLt).2.2.2.2.1 y = q86 m c (ix2 (R t (y 0)) (y 1)) := by
    intro y
    idx_vars y
    rw [(outs m c t).2.2.2.1]; exact ps_at m c t y0 y1
  refine Eq.trans ?_ ((key y).trans (congrArg _ hy.symm))
  blk_simp
  rw [after0_14]

theorem final15 : (dats m 0 c).arrAt 15 (cfgs 0).N = q87 m c := by
  refine (dats m 0 c).arrAt_eq_of_covers 15 _ (by decide +kernel) fun t hf y => ?_
  have hy : (win0_15.blk t).view.emb y = (ix2 ((y : S1024x512.Idx) 0) (R t ((y : S1024x512.Idx) 1)) : S1024x16384.Idx) := by
    funext a; apply Fin.ext; fin_cases a <;> blk_simp [idx t] <;> simp <;> omega
  have key : ∀ y : S1024x512.Idx, (outsAt0 m c t.val t.isLt).2.2.2.2.2.1 y = q87 m c (ix2 (y 0) (R t (y 1))) := by
    intro y
    idx_vars y
    rw [(outs m c t).2.2.2.2.1]
    refine (pay5_at _ _ _ y1 y0).trans (Eq.trans ?_ (ref87_at _ _ _ _ _ _ (R t y1) y0).symm)
    exact Finset.sum_congr rfl fun k _ => congrArg₂ (· * ·) (x7_at m c t k y0) (pa_at m c t y1 k)
  refine Eq.trans ?_ ((key y).trans (congrArg _ hy.symm))
  blk_simp
  rw [after0_15]

theorem final16 : (dats m 0 c).arrAt 16 (cfgs 0).N = q88 m c := by
  refine (dats m 0 c).arrAt_eq_of_covers 16 _ (by decide +kernel) fun t hf y => ?_
  have hy : (win0_16.blk t).view.emb y = (ix2 (R t ((y : S512x1024.Idx) 0)) ((y : S512x1024.Idx) 1) : S16384x1024.Idx) := by
    funext a; apply Fin.ext; fin_cases a <;> blk_simp [idx t] <;> simp <;> omega
  have key : ∀ y : S512x1024.Idx, (outsAt0 m c t.val t.isLt).2.2.2.2.2.2.1 y = q88 m c (ix2 (R t (y 0)) (y 1)) := by
    intro y
    idx_vars y
    rw [(outs m c t).2.2.2.2.2]
    refine (pay6_at _ _ _ y0 y1).trans (Eq.trans ?_ (ref88_at _ _ _ _ _ _ (R t y0) y1).symm)
    exact Finset.sum_congr rfl fun k _ => congrArg₂ (· * ·) (ps_at m c t y0 k) (x8_at m c t k y1)
  refine Eq.trans ?_ ((key y).trans (congrArg _ hy.symm))
  blk_simp
  rw [after0_16]

theorem final17 : (dats m 0 c).arrAt 17 (cfgs 0).N = q89 m c := by
  refine (dats m 0 c).arrAt_eq_of_covers 17 _ (by decide +kernel) fun t hf y => ?_
  have hy : (win0_17.blk t).view.emb y = (ix2 0 ((y : S1x1024.Idx) 1) : S1x1024.Idx) := by
    have h0 : ((y : S1x1024.Idx) 0).val < 1 := ((y : S1x1024.Idx) 0).isLt
    funext a; apply Fin.ext; fin_cases a <;> blk_simp [idx t] <;> simp <;> omega
  have key : ∀ y : S1x1024.Idx, (outsAt0 m c t.val t.isLt).2.2.2.2.2.2.2 y = q89 m c (ix2 0 (y 1)) := by
    intro y
    idx_vars y
    obtain rfl : y0 = 0 := by omega
    exact dg_at m c t y1 ((flush0_17 t).mp hf)
  refine Eq.trans ?_ ((key y).trans (congrArg _ hy.symm))
  blk_simp
  rw [after0_17]

theorem apart : ∀ t t' : Fin cfg0.N, win0_10.index t = win0_10.index t' → t = t' :=
  (by decide +kernel : ∀ t t' : Fin grid0.N, win0_10.index t = win0_10.index t' → t = t')

theorem blk10_at (k : Fin 2048) : ((dats m 0 c).arrAt 10 (cfgs 0).N (ix2 (R t r) ⟨2048 + k.val, by omega⟩ : S16384x4096.Idx) : EReal) = (outsAt0 m c t.val t.isLt).1 (ix2 r k) := by
  have e := (dats m 0 c).read_blk_arrAt_eq_flushed 10 (fun a b _ _ hne => (cfg0.win 10).disjoint_blk fun h => hne (apart a b h)) cfg0.N t t.isLt (flush0_10 t)
  have e' := congrFun e (ix2 r k : S512x2048.Idx)
  refine Eq.trans ?_ (e'.trans ?_)
  · refine congrArg ((dats m 0 c).arrAt 10 (cfgs 0).N) ?_
    funext a; apply Fin.ext; fin_cases a <;> blk_simp [idx t] <;> simp <;> omega
  · exact congrFun (after0_10 m c t) _

theorem final10 : (extractStridedSlice S16384x2048 ![0, 2048] ((dats m 0 c).arrAt 10 (cfgs 0).N : FVec Ideal S16384x4096 .bf16) slices_S16384x4096_S16384x2048_0_2048 : FVec Ideal S16384x2048 .bf16) = q82 m c := by
  funext y
  idx_vars y
  have hN : cfg0.N = 32 := by decide +kernel
  have hr : y0 = R ⟨y0.val / 512, by omega⟩ ⟨y0.val % 512, by omega⟩ := Fin.ext (by show y0.val = 512 * (y0.val / 512) + y0.val % 512; omega)
  generalize (⟨y0.val / 512, by omega⟩ : Fin cfg0.N) = t at hr
  generalize (⟨y0.val % 512, by omega⟩ : Fin 512) = r at hr
  subst hr
  refine Eq.trans (b := ((dats m 0 c).arrAt 10 (cfgs 0).N (ix2 (R t r) ⟨2048 + y1.val, by omega⟩ : S16384x4096.Idx) : EReal)) (by pointwise) ?_
  refine (blk10_at m c t r y1).trans ?_
  by_cases h : y1.val < 1024
  · exact out10a_at m c t r ⟨y1.val, h⟩
  · have e : y1 = ⟨1024 + (⟨y1.val - 1024, by omega⟩ : Fin 1024).val, by omega⟩ := Fin.ext (by show y1.val = 1024 + (y1.val - 1024); omega)
    rw [e]
    exact out10b_at m c t r ⟨y1.val - 1024, by omega⟩

/-- The run of the kernel: the gates' derivatives sliced out, the other results written by the grid, the arguments kept. -/
theorem run (g : Dev nD → PrngReg) : θ_run (defs (F := Ideal)) (onTc (τ := τ) (main (F := Ideal))) ⟨m, fun _ => 0, g⟩ fun r => ∀ c : Dev nD,
    r.2.mem (c.tc.loc main_v4) = q82 m c
    ∧ r.2.mem (c.tc.loc main_v3_1) = q83 m c
    ∧ r.2.mem (c.tc.loc main_v3_2) = q84 m c
    ∧ r.2.mem (c.tc.loc main_v3_3) = q85 m c
    ∧ r.2.mem (c.tc.loc main_v3_4) = q86 m c
    ∧ r.2.mem (c.tc.loc main_v3_5) = q87 m c
    ∧ r.2.mem (c.tc.loc main_v3_6) = q88 m c
    ∧ r.2.mem (c.tc.loc main_v3_7) = q89 m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8) := by
  refine (θ_run defs _ _).mono (fun r h c => ⟨?_, ((h c).1 11).trans (final11 m c), ((h c).1 12).trans (final12 m c), ((h c).1 13).trans (final13 m c), ((h c).1 14).trans (final14 m c), ((h c).1 15).trans (final15 m c), ((h c).1 16).trans (final16 m c), ((h c).1 17).trans (final17 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 6).trans (((dats m 0 c).arrAt_in 6 rfl _).trans ((A_eq m c 6).trans (V_main_arg5 m c))),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩) (run_main m g)
  refine ((h c).2 main_v4 (Pipeline.mem_restRefs_of main_v4 (by decide) (by decide))).trans (Eq.trans ?_ (final10 m c))
  have e : Pipeline.withArrays (cfgs 0).spec c (V0 m c) (fun w => (dats m 0 c).arrAt w (cfgs 0).N) (Proc.devRef .tc main_v3_0) = (dats m 0 c).arrAt 10 (cfgs 0).N :=
    Pipeline.withArrays_arr_shared (cfgs 0).spec c (V0 m c) (fun w => (dats m 0 c).arrAt w (cfgs 0).N) (fun w w' hne he => ((dats m 0 c).arrAt_in w (sharedIn0 w w' hne he) _).trans (A_eq m c w)) 10
  unfold Pipeline.afterTail₀
  simp only [List.flatten_cons, List.flatten_nil, List.append_nil]
  after_results_simp
  exact congrArg (fun x : FVec Ideal S16384x4096 .bf16 => extractStridedSlice S16384x2048 ![0, 2048] x slices_S16384x4096_S16384x2048_0_2048) e

theorem algebraic : Cert.algebraic_MergeBwdIdeal_MergeBwdRefIdeal := by
  intro m g m' g' _ ha
  refine ⟨_, _, _, _, _, _, _, _, run m g, ?_⟩
  refine (θ_run Cert.MergeBwdRefIdeal.defs _ _).mono (fun r h c => ?_) (Cert.MergeBwdRefIdeal.Value.run m' g')
  obtain ⟨e0, e1, e2, e3, e4, e5, e6, e7, e8⟩ := ha c
  obtain ⟨k0, k1, k2, k3, k4, k5, k6, k7, ka⟩ := h c
  refine ⟨k0.trans ((val_main_v82_eq _ _).trans ?_), k1.trans ((val_main_v83_eq _ _).trans ?_), k2.trans ((val_main_v84_eq _ _ _).trans ?_), k3.trans ((val_main_v85_eq _ _).trans ?_), k4.trans ((val_main_v86_eq _ _).trans ?_), k5.trans ((val_main_v87_eq _ _).trans ?_), k6.trans ((val_main_v88_eq _ _).trans ?_), k7.trans ((val_main_v89_eq _ _).trans ?_), ka⟩ <;> simp only [e0, e1, e2, e3, e4, e5, e6, e7, e8]

end Whole

end Cert.VMergeBwd

end
-- ==== Proof.V.Adam.lean ====
/- One entry of the optimiser's step. -/
module

public import Idealize.ShloMosaic.Lib.Claim
public import Idealize.ShloMosaic.Lib.Pointwise

@[expose] public section

noncomputable section

namespace Cert.Adam

open Idealize.ShloMosaic

/-- The first moment after the step. -/
def mom (g m : EReal) : EReal := Ideal.ofBits .f32 0x3F666666#32 * m + Ideal.ofBits .f32 0x3DCCCCCD#32 * g

/-- The second moment after the step. -/
def sq (g v : EReal) : EReal := Ideal.ofBits .f32 0x3F7FBE77#32 * v + Ideal.ofBits .f32 0x3A83126F#32 * (g * g)

/-- The change of the weight. -/
def step (w g m v : EReal) : EReal :=
  Ideal.ofBits .f32 0xBA83126F#32 * (Ideal.div (Ideal.div (mom g m) (Ideal.ofBits .f32 0x3F26BD02#32))
    (Ideal.sqrt (Ideal.div (sq g v) (Ideal.ofBits .f32 0x3C231ACC#32)) + Ideal.ofBits .f32 0x322BCC77#32)
      + Ideal.ofBits .f32 0x3C23D70A#32 * w)

end Cert.Adam

end
-- ==== Proof.V.AdamVec.lean ====
/- One step of the optimiser, entry by entry. -/
module

public import proofs.«01_k».proof.Defs
public import proofs.«01_k».proof.Proof.Gen.AdamVecIdeal.Value
public import proofs.«01_k».proof.Proof.Gen.AdamVecIdeal
public import proofs.«01_k».proof.Proof.Gen.AdamVecRefIdeal
public import proofs.«01_k».proof.Proof.Gen.AdamVecRefIdeal.Run
public import proofs.«01_k».proof.Proof.Gen.AdamVecRefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamVec

open Cert.AdamVecIdeal Cert.AdamVecIdeal.Gen Cert.AdamVecRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 1 := (by decide +kernel : cfg0.N = 1) ▸ t.isLt

abbrev R (t : Fin cfg0.N) (r : Fin 4) : Fin 4 := ⟨4 * t.val + r.val, by have := ltN t; omega⟩

theorem x0_at (t : Fin cfg0.N) (r : Fin 4) (j : Fin 1024) : (iblk m c 0 t : FVec Ideal S4x1024 .f32) (ix2 r j) = m (c.tc.loc main_arg0) (ix2 (R t r) j) := by
  refine Eq.trans ?_ (congrFun (V_main_arg0 m c) _)
  blk_point [iblk, idx t]

theorem x1_at (t : Fin cfg0.N) (r : Fin 4) (j : Fin 1024) : (iblk m c 1 t : FVec Ideal S4x1024 .f32) (ix2 r j) = m (c.tc.loc main_arg1) (ix2 (R t r) j) := by
  refine Eq.trans ?_ (congrFun (V_main_arg1 m c) _)
  blk_point [iblk, idx t]

theorem x2_at (t : Fin cfg0.N) (r : Fin 4) (j : Fin 1024) : (iblk m c 2 t : FVec Ideal S4x1024 .f32) (ix2 r j) = m (c.tc.loc main_arg2) (ix2 (R t r) j) := by
  refine Eq.trans ?_ (congrFun (V_main_arg2 m c) _)
  blk_point [iblk, idx t]

theorem x3_at (t : Fin cfg0.N) (r : Fin 4) (j : Fin 1024) : (iblk m c 3 t : FVec Ideal S4x1024 .f32) (ix2 r j) = m (c.tc.loc main_arg3) (ix2 (R t r) j) := by
  refine Eq.trans ?_ (congrFun (V_main_arg3 m c) _)
  blk_point [iblk, idx t]

theorem out4_at (x0 x1 x2 x3 : FVec Ideal S4x1024 .f32) (r : Fin 4) (j : Fin 1024) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S4x1024) inb_S4x1024_S4x1024_0_0 _ [] (by decide)) _).trans ?_
  pointwise [k0_pay3, k0_pay2, k0_pay1]

theorem ref23_at (x0 x1 x2 x3 : FVec Ideal S4x1024 .f32) (r : Fin 4) (j : Fin 1024) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S4x1024 .f32) (r : Fin 4) (j : Fin 1024) : (out0_5 (F := Ideal) x0 x1 x2 x3 (ix2 r j) : EReal) = Adam.mom (x1 (ix2 r j)) (x2 (ix2 r j)) := by
  unfold out0_5 Adam.mom
  refine (congrFun (View.canon_cons_unit_lit (S := S4x1024) inb_S4x1024_S4x1024_0_0 _ [] (by decide)) _).trans ?_
  pointwise [k0_pay1]

theorem ref4_at (x1 x2 : FVec Ideal S4x1024 .f32) (r : Fin 4) (j : Fin 1024) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S4x1024 .f32) (r : Fin 4) (j : Fin 1024) : (out0_6 (F := Ideal) x0 x1 x2 x3 (ix2 r j) : EReal) = Adam.sq (x1 (ix2 r j)) (x3 (ix2 r j)) := by
  unfold out0_6 Adam.sq
  refine (congrFun (View.canon_cons_unit_lit (S := S4x1024) inb_S4x1024_S4x1024_0_0 _ [] (by decide)) _).trans ?_
  pointwise [k0_pay2]

theorem ref10_at (x1 x3 : FVec Ideal S4x1024 .f32) (r : Fin 4) (j : Fin 1024) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S4x1024.Idx) 0)) ((y : S4x1024.Idx) 1) : S4x1024.Idx) := by
    funext a; apply Fin.ext; fin_cases a <;> blk_simp [idx t] <;> simp <;> omega
  have key : ∀ y : S4x1024.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S4x1024 .f32) (ix2 y0 y1) : EReal) = _ from x0_at m c t y0 y1, show ((iblk m c 1 t : FVec Ideal S4x1024 .f32) (ix2 y0 y1) : EReal) = _ from x1_at m c t y0 y1, show ((iblk m c 2 t : FVec Ideal S4x1024 .f32) (ix2 y0 y1) : EReal) = _ from x2_at m c t y0 y1, show ((iblk m c 3 t : FVec Ideal S4x1024 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S4x1024.Idx) 0)) ((y : S4x1024.Idx) 1) : S4x1024.Idx) := by
    funext a; apply Fin.ext; fin_cases a <;> blk_simp [idx t] <;> simp <;> omega
  have key : ∀ y : S4x1024.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S4x1024 .f32) (ix2 y0 y1) : EReal) = _ from x1_at m c t y0 y1, show ((iblk m c 2 t : FVec Ideal S4x1024 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S4x1024.Idx) 0)) ((y : S4x1024.Idx) 1) : S4x1024.Idx) := by
    funext a; apply Fin.ext; fin_cases a <;> blk_simp [idx t] <;> simp <;> omega
  have key : ∀ y : S4x1024.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S4x1024 .f32) (ix2 y0 y1) : EReal) = _ from x1_at m c t y0 y1, show ((iblk m c 3 t : FVec Ideal S4x1024 .f32) (ix2 y0 y1) : EReal) = _ from x3_at m c t y0 y1]
  refine Eq.trans ?_ ((key y).trans (congrArg _ hy.symm))
  blk_simp
  rw [after0_6]

theorem algebraic : Cert.algebraic_AdamVecIdeal_AdamVecRefIdeal := by
  intro m g m' g' _ ha
  refine ⟨_, _, _, Cert.AdamVecIdeal.Value.run_blocks m g, ?_⟩
  refine (θ_run Cert.AdamVecRefIdeal.defs _ _).mono (fun r h c => ?_) (Cert.AdamVecRefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamVec

end
-- ==== Proof.V.AdamFfn1.lean ====
/- One step of the optimiser, entry by entry. -/
module

public import proofs.«01_k».proof.Defs
public import proofs.«01_k».proof.Proof.Gen.AdamFfn1Ideal.Value
public import proofs.«01_k».proof.Proof.Gen.AdamFfn1Ideal
public import proofs.«01_k».proof.Proof.Gen.AdamFfn1RefIdeal
public import proofs.«01_k».proof.Proof.Gen.AdamFfn1RefIdeal.Run
public import proofs.«01_k».proof.Proof.Gen.AdamFfn1RefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamFfn1

open Cert.AdamFfn1Ideal Cert.AdamFfn1Ideal.Gen Cert.AdamFfn1RefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 32 := (by decide +kernel : cfg0.N = 32) ▸ t.isLt

abbrev R (t : Fin cfg0.N) (r : Fin 128) : Fin 4096 := ⟨128 * t.val + r.val, by have := ltN t; omega⟩

theorem x0_at (t : Fin cfg0.N) (r : Fin 128) (j : Fin 1408) : (iblk m c 0 t : FVec Ideal S128x1408 .f32) (ix2 r j) = m (c.tc.loc main_arg0) (ix2 (R t r) j) := by
  refine Eq.trans ?_ (congrFun (V_main_arg0 m c) _)
  blk_point [iblk, idx t]

theorem x1_at (t : Fin cfg0.N) (r : Fin 128) (j : Fin 1408) : (iblk m c 1 t : FVec Ideal S128x1408 .f32) (ix2 r j) = m (c.tc.loc main_arg1) (ix2 (R t r) j) := by
  refine Eq.trans ?_ (congrFun (V_main_arg1 m c) _)
  blk_point [iblk, idx t]

theorem x2_at (t : Fin cfg0.N) (r : Fin 128) (j : Fin 1408) : (iblk m c 2 t : FVec Ideal S128x1408 .f32) (ix2 r j) = m (c.tc.loc main_arg2) (ix2 (R t r) j) := by
  refine Eq.trans ?_ (congrFun (V_main_arg2 m c) _)
  blk_point [iblk, idx t]

theorem x3_at (t : Fin cfg0.N) (r : Fin 128) (j : Fin 1408) : (iblk m c 3 t : FVec Ideal S128x1408 .f32) (ix2 r j) = m (c.tc.loc main_arg3) (ix2 (R t r) j) := by
  refine Eq.trans ?_ (congrFun (V_main_arg3 m c) _)
  blk_point [iblk, idx t]

theorem out4_at (x0 x1 x2 x3 : FVec Ideal S128x1408 .f32) (r : Fin 128) (j : Fin 1408) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S128x1408) inb_S128x1408_S128x1408_0_0 _ [] (by decide)) _).trans ?_
  pointwise [k0_pay3, k0_pay2, k0_pay1]

theorem ref23_at (x0 x1 x2 x3 : FVec Ideal S4096x1408 .f32) (r : Fin 4096) (j : Fin 1408) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S128x1408 .f32) (r : Fin 128) (j : Fin 1408) : (out0_5 (F := Ideal) x0 x1 x2 x3 (ix2 r j) : EReal) = Adam.mom (x1 (ix2 r j)) (x2 (ix2 r j)) := by
  unfold out0_5 Adam.mom
  refine (congrFun (View.canon_cons_unit_lit (S := S128x1408) inb_S128x1408_S128x1408_0_0 _ [] (by decide)) _).trans ?_
  pointwise [k0_pay1]

theorem ref4_at (x1 x2 : FVec Ideal S4096x1408 .f32) (r : Fin 4096) (j : Fin 1408) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S128x1408 .f32) (r : Fin 128) (j : Fin 1408) : (out0_6 (F := Ideal) x0 x1 x2 x3 (ix2 r j) : EReal) = Adam.sq (x1 (ix2 r j)) (x3 (ix2 r j)) := by
  unfold out0_6 Adam.sq
  refine (congrFun (View.canon_cons_unit_lit (S := S128x1408) inb_S128x1408_S128x1408_0_0 _ [] (by decide)) _).trans ?_
  pointwise [k0_pay2]

theorem ref10_at (x1 x3 : FVec Ideal S4096x1408 .f32) (r : Fin 4096) (j : Fin 1408) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S128x1408.Idx) 0)) ((y : S128x1408.Idx) 1) : S4096x1408.Idx) := by
    funext a; apply Fin.ext; fin_cases a <;> blk_simp [idx t] <;> simp <;> omega
  have key : ∀ y : S128x1408.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S128x1408 .f32) (ix2 y0 y1) : EReal) = _ from x0_at m c t y0 y1, show ((iblk m c 1 t : FVec Ideal S128x1408 .f32) (ix2 y0 y1) : EReal) = _ from x1_at m c t y0 y1, show ((iblk m c 2 t : FVec Ideal S128x1408 .f32) (ix2 y0 y1) : EReal) = _ from x2_at m c t y0 y1, show ((iblk m c 3 t : FVec Ideal S128x1408 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S128x1408.Idx) 0)) ((y : S128x1408.Idx) 1) : S4096x1408.Idx) := by
    funext a; apply Fin.ext; fin_cases a <;> blk_simp [idx t] <;> simp <;> omega
  have key : ∀ y : S128x1408.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S128x1408 .f32) (ix2 y0 y1) : EReal) = _ from x1_at m c t y0 y1, show ((iblk m c 2 t : FVec Ideal S128x1408 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S128x1408.Idx) 0)) ((y : S128x1408.Idx) 1) : S4096x1408.Idx) := by
    funext a; apply Fin.ext; fin_cases a <;> blk_simp [idx t] <;> simp <;> omega
  have key : ∀ y : S128x1408.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S128x1408 .f32) (ix2 y0 y1) : EReal) = _ from x1_at m c t y0 y1, show ((iblk m c 3 t : FVec Ideal S128x1408 .f32) (ix2 y0 y1) : EReal) = _ from x3_at m c t y0 y1]
  refine Eq.trans ?_ ((key y).trans (congrArg _ hy.symm))
  blk_simp
  rw [after0_6]

theorem algebraic : Cert.algebraic_AdamFfn1Ideal_AdamFfn1RefIdeal := by
  intro m g m' g' _ ha
  refine ⟨_, _, _, Cert.AdamFfn1Ideal.Value.run_blocks m g, ?_⟩
  refine (θ_run Cert.AdamFfn1RefIdeal.defs _ _).mono (fun r h c => ?_) (Cert.AdamFfn1RefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamFfn1

end
-- ==== Proof.V.AdamFfn2.lean ====
/- One step of the optimiser, entry by entry. -/
module

public import proofs.«01_k».proof.Defs
public import proofs.«01_k».proof.Proof.Gen.AdamFfn2Ideal.Value
public import proofs.«01_k».proof.Proof.Gen.AdamFfn2Ideal
public import proofs.«01_k».proof.Proof.Gen.AdamFfn2RefIdeal
public import proofs.«01_k».proof.Proof.Gen.AdamFfn2RefIdeal.Run
public import proofs.«01_k».proof.Proof.Gen.AdamFfn2RefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamFfn2

open Cert.AdamFfn2Ideal Cert.AdamFfn2Ideal.Gen Cert.AdamFfn2RefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 11 := (by decide +kernel : cfg0.N = 11) ▸ t.isLt

abbrev R (t : Fin cfg0.N) (r : Fin 256) : Fin 2816 := ⟨256 * t.val + r.val, by have := ltN t; omega⟩

theorem x0_at (t : Fin cfg0.N) (r : Fin 256) (j : Fin 1024) : (iblk m c 0 t : FVec Ideal S256x1024 .f32) (ix2 r j) = m (c.tc.loc main_arg0) (ix2 (R t r) j) := by
  refine Eq.trans ?_ (congrFun (V_main_arg0 m c) _)
  blk_point [iblk, idx t]

theorem x1_at (t : Fin cfg0.N) (r : Fin 256) (j : Fin 1024) : (iblk m c 1 t : FVec Ideal S256x1024 .f32) (ix2 r j) = m (c.tc.loc main_arg1) (ix2 (R t r) j) := by
  refine Eq.trans ?_ (congrFun (V_main_arg1 m c) _)
  blk_point [iblk, idx t]

theorem x2_at (t : Fin cfg0.N) (r : Fin 256) (j : Fin 1024) : (iblk m c 2 t : FVec Ideal S256x1024 .f32) (ix2 r j) = m (c.tc.loc main_arg2) (ix2 (R t r) j) := by
  refine Eq.trans ?_ (congrFun (V_main_arg2 m c) _)
  blk_point [iblk, idx t]

theorem x3_at (t : Fin cfg0.N) (r : Fin 256) (j : Fin 1024) : (iblk m c 3 t : FVec Ideal S256x1024 .f32) (ix2 r j) = m (c.tc.loc main_arg3) (ix2 (R t r) j) := by
  refine Eq.trans ?_ (congrFun (V_main_arg3 m c) _)
  blk_point [iblk, idx t]

theorem out4_at (x0 x1 x2 x3 : FVec Ideal S256x1024 .f32) (r : Fin 256) (j : Fin 1024) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S256x1024) inb_S256x1024_S256x1024_0_0 _ [] (by decide)) _).trans ?_
  pointwise [k0_pay3, k0_pay2, k0_pay1]

theorem ref23_at (x0 x1 x2 x3 : FVec Ideal S2816x1024 .f32) (r : Fin 2816) (j : Fin 1024) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S256x1024 .f32) (r : Fin 256) (j : Fin 1024) : (out0_5 (F := Ideal) x0 x1 x2 x3 (ix2 r j) : EReal) = Adam.mom (x1 (ix2 r j)) (x2 (ix2 r j)) := by
  unfold out0_5 Adam.mom
  refine (congrFun (View.canon_cons_unit_lit (S := S256x1024) inb_S256x1024_S256x1024_0_0 _ [] (by decide)) _).trans ?_
  pointwise [k0_pay1]

theorem ref4_at (x1 x2 : FVec Ideal S2816x1024 .f32) (r : Fin 2816) (j : Fin 1024) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S256x1024 .f32) (r : Fin 256) (j : Fin 1024) : (out0_6 (F := Ideal) x0 x1 x2 x3 (ix2 r j) : EReal) = Adam.sq (x1 (ix2 r j)) (x3 (ix2 r j)) := by
  unfold out0_6 Adam.sq
  refine (congrFun (View.canon_cons_unit_lit (S := S256x1024) inb_S256x1024_S256x1024_0_0 _ [] (by decide)) _).trans ?_
  pointwise [k0_pay2]

theorem ref10_at (x1 x3 : FVec Ideal S2816x1024 .f32) (r : Fin 2816) (j : Fin 1024) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S256x1024.Idx) 0)) ((y : S256x1024.Idx) 1) : S2816x1024.Idx) := by
    funext a; apply Fin.ext; fin_cases a <;> blk_simp [idx t] <;> simp <;> omega
  have key : ∀ y : S256x1024.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S256x1024 .f32) (ix2 y0 y1) : EReal) = _ from x0_at m c t y0 y1, show ((iblk m c 1 t : FVec Ideal S256x1024 .f32) (ix2 y0 y1) : EReal) = _ from x1_at m c t y0 y1, show ((iblk m c 2 t : FVec Ideal S256x1024 .f32) (ix2 y0 y1) : EReal) = _ from x2_at m c t y0 y1, show ((iblk m c 3 t : FVec Ideal S256x1024 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S256x1024.Idx) 0)) ((y : S256x1024.Idx) 1) : S2816x1024.Idx) := by
    funext a; apply Fin.ext; fin_cases a <;> blk_simp [idx t] <;> simp <;> omega
  have key : ∀ y : S256x1024.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S256x1024 .f32) (ix2 y0 y1) : EReal) = _ from x1_at m c t y0 y1, show ((iblk m c 2 t : FVec Ideal S256x1024 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S256x1024.Idx) 0)) ((y : S256x1024.Idx) 1) : S2816x1024.Idx) := by
    funext a; apply Fin.ext; fin_cases a <;> blk_simp [idx t] <;> simp <;> omega
  have key : ∀ y : S256x1024.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S256x1024 .f32) (ix2 y0 y1) : EReal) = _ from x1_at m c t y0 y1, show ((iblk m c 3 t : FVec Ideal S256x1024 .f32) (ix2 y0 y1) : EReal) = _ from x3_at m c t y0 y1]
  refine Eq.trans ?_ ((key y).trans (congrArg _ hy.symm))
  blk_simp
  rw [after0_6]

theorem algebraic : Cert.algebraic_AdamFfn2Ideal_AdamFfn2RefIdeal := by
  intro m g m' g' _ ha
  refine ⟨_, _, _, Cert.AdamFfn2Ideal.Value.run_blocks m g, ?_⟩
  refine (θ_run Cert.AdamFfn2RefIdeal.defs _ _).mono (fun r h c => ?_) (Cert.AdamFfn2RefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamFfn2

end
-- ==== Proof.V.AdamIn.lean ====
/- One step of the optimiser, entry by entry. -/
module

public import proofs.«01_k».proof.Defs
public import proofs.«01_k».proof.Proof.Gen.AdamInIdeal.Value
public import proofs.«01_k».proof.Proof.Gen.AdamInIdeal
public import proofs.«01_k».proof.Proof.Gen.AdamInRefIdeal
public import proofs.«01_k».proof.Proof.Gen.AdamInRefIdeal.Run
public import proofs.«01_k».proof.Proof.Gen.AdamInRefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamIn

open Cert.AdamInIdeal Cert.AdamInIdeal.Gen Cert.AdamInRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 32 := (by decide +kernel : cfg0.N = 32) ▸ t.isLt

abbrev R (t : Fin cfg0.N) (r : Fin 128) : Fin 4096 := ⟨128 * t.val + r.val, by have := ltN t; omega⟩

theorem x0_at (t : Fin cfg0.N) (r : Fin 128) (j : Fin 1344) : (iblk m c 0 t : FVec Ideal S128x1344 .f32) (ix2 r j) = m (c.tc.loc main_arg0) (ix2 (R t r) j) := by
  refine Eq.trans ?_ (congrFun (V_main_arg0 m c) _)
  blk_point [iblk, idx t]

theorem x1_at (t : Fin cfg0.N) (r : Fin 128) (j : Fin 1344) : (iblk m c 1 t : FVec Ideal S128x1344 .f32) (ix2 r j) = m (c.tc.loc main_arg1) (ix2 (R t r) j) := by
  refine Eq.trans ?_ (congrFun (V_main_arg1 m c) _)
  blk_point [iblk, idx t]

theorem x2_at (t : Fin cfg0.N) (r : Fin 128) (j : Fin 1344) : (iblk m c 2 t : FVec Ideal S128x1344 .f32) (ix2 r j) = m (c.tc.loc main_arg2) (ix2 (R t r) j) := by
  refine Eq.trans ?_ (congrFun (V_main_arg2 m c) _)
  blk_point [iblk, idx t]

theorem x3_at (t : Fin cfg0.N) (r : Fin 128) (j : Fin 1344) : (iblk m c 3 t : FVec Ideal S128x1344 .f32) (ix2 r j) = m (c.tc.loc main_arg3) (ix2 (R t r) j) := by
  refine Eq.trans ?_ (congrFun (V_main_arg3 m c) _)
  blk_point [iblk, idx t]

theorem out4_at (x0 x1 x2 x3 : FVec Ideal S128x1344 .f32) (r : Fin 128) (j : Fin 1344) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S128x1344) inb_S128x1344_S128x1344_0_0 _ [] (by decide)) _).trans ?_
  pointwise [k0_pay3, k0_pay2, k0_pay1]

theorem ref23_at (x0 x1 x2 x3 : FVec Ideal S4096x1344 .f32) (r : Fin 4096) (j : Fin 1344) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S128x1344 .f32) (r : Fin 128) (j : Fin 1344) : (out0_5 (F := Ideal) x0 x1 x2 x3 (ix2 r j) : EReal) = Adam.mom (x1 (ix2 r j)) (x2 (ix2 r j)) := by
  unfold out0_5 Adam.mom
  refine (congrFun (View.canon_cons_unit_lit (S := S128x1344) inb_S128x1344_S128x1344_0_0 _ [] (by decide)) _).trans ?_
  pointwise [k0_pay1]

theorem ref4_at (x1 x2 : FVec Ideal S4096x1344 .f32) (r : Fin 4096) (j : Fin 1344) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S128x1344 .f32) (r : Fin 128) (j : Fin 1344) : (out0_6 (F := Ideal) x0 x1 x2 x3 (ix2 r j) : EReal) = Adam.sq (x1 (ix2 r j)) (x3 (ix2 r j)) := by
  unfold out0_6 Adam.sq
  refine (congrFun (View.canon_cons_unit_lit (S := S128x1344) inb_S128x1344_S128x1344_0_0 _ [] (by decide)) _).trans ?_
  pointwise [k0_pay2]

theorem ref10_at (x1 x3 : FVec Ideal S4096x1344 .f32) (r : Fin 4096) (j : Fin 1344) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S128x1344.Idx) 0)) ((y : S128x1344.Idx) 1) : S4096x1344.Idx) := by
    funext a; apply Fin.ext; fin_cases a <;> blk_simp [idx t] <;> simp <;> omega
  have key : ∀ y : S128x1344.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S128x1344 .f32) (ix2 y0 y1) : EReal) = _ from x0_at m c t y0 y1, show ((iblk m c 1 t : FVec Ideal S128x1344 .f32) (ix2 y0 y1) : EReal) = _ from x1_at m c t y0 y1, show ((iblk m c 2 t : FVec Ideal S128x1344 .f32) (ix2 y0 y1) : EReal) = _ from x2_at m c t y0 y1, show ((iblk m c 3 t : FVec Ideal S128x1344 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S128x1344.Idx) 0)) ((y : S128x1344.Idx) 1) : S4096x1344.Idx) := by
    funext a; apply Fin.ext; fin_cases a <;> blk_simp [idx t] <;> simp <;> omega
  have key : ∀ y : S128x1344.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S128x1344 .f32) (ix2 y0 y1) : EReal) = _ from x1_at m c t y0 y1, show ((iblk m c 2 t : FVec Ideal S128x1344 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S128x1344.Idx) 0)) ((y : S128x1344.Idx) 1) : S4096x1344.Idx) := by
    funext a; apply Fin.ext; fin_cases a <;> blk_simp [idx t] <;> simp <;> omega
  have key : ∀ y : S128x1344.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S128x1344 .f32) (ix2 y0 y1) : EReal) = _ from x1_at m c t y0 y1, show ((iblk m c 3 t : FVec Ideal S128x1344 .f32) (ix2 y0 y1) : EReal) = _ from x3_at m c t y0 y1]
  refine Eq.trans ?_ ((key y).trans (congrArg _ hy.symm))
  blk_simp
  rw [after0_6]

theorem algebraic : Cert.algebraic_AdamInIdeal_AdamInRefIdeal := by
  intro m g m' g' _ ha
  refine ⟨_, _, _, Cert.AdamInIdeal.Value.run_blocks m g, ?_⟩
  refine (θ_run Cert.AdamInRefIdeal.defs _ _).mono (fun r h c => ?_) (Cert.AdamInRefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamIn

end
-- ==== Proof.V.AdamSink.lean ====
/- One step of the optimiser, entry by entry. -/
module

public import proofs.«01_k».proof.Defs
public import proofs.«01_k».proof.Proof.Gen.AdamSinkIdeal.Value
public import proofs.«01_k».proof.Proof.Gen.AdamSinkIdeal
public import proofs.«01_k».proof.Proof.Gen.AdamSinkRefIdeal
public import proofs.«01_k».proof.Proof.Gen.AdamSinkRefIdeal.Run
public import proofs.«01_k».proof.Proof.Gen.AdamSinkRefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamSink

open Cert.AdamSinkIdeal Cert.AdamSinkIdeal.Gen Cert.AdamSinkRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 1 := (by decide +kernel : cfg0.N = 1) ▸ t.isLt

abbrev R (t : Fin cfg0.N) (r : Fin 4) : Fin 4 := ⟨4 * t.val + r.val, by have := ltN t; omega⟩

theorem x0_at (t : Fin cfg0.N) (r : Fin 4) (j : Fin 16) : (iblk m c 0 t : FVec Ideal S4x16 .f32) (ix2 r j) = m (c.tc.loc main_arg0) (ix2 (R t r) j) := by
  refine Eq.trans ?_ (congrFun (V_main_arg0 m c) _)
  blk_point [iblk, idx t]

theorem x1_at (t : Fin cfg0.N) (r : Fin 4) (j : Fin 16) : (iblk m c 1 t : FVec Ideal S4x16 .f32) (ix2 r j) = m (c.tc.loc main_arg1) (ix2 (R t r) j) := by
  refine Eq.trans ?_ (congrFun (V_main_arg1 m c) _)
  blk_point [iblk, idx t]

theorem x2_at (t : Fin cfg0.N) (r : Fin 4) (j : Fin 16) : (iblk m c 2 t : FVec Ideal S4x16 .f32) (ix2 r j) = m (c.tc.loc main_arg2) (ix2 (R t r) j) := by
  refine Eq.trans ?_ (congrFun (V_main_arg2 m c) _)
  blk_point [iblk, idx t]

theorem x3_at (t : Fin cfg0.N) (r : Fin 4) (j : Fin 16) : (iblk m c 3 t : FVec Ideal S4x16 .f32) (ix2 r j) = m (c.tc.loc main_arg3) (ix2 (R t r) j) := by
  refine Eq.trans ?_ (congrFun (V_main_arg3 m c) _)
  blk_point [iblk, idx t]

theorem out4_at (x0 x1 x2 x3 : FVec Ideal S4x16 .f32) (r : Fin 4) (j : Fin 16) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S4x16) inb_S4x16_S4x16_0_0 _ [] (by decide)) _).trans ?_
  pointwise [k0_pay3, k0_pay2, k0_pay1]

theorem ref23_at (x0 x1 x2 x3 : FVec Ideal S4x16 .f32) (r : Fin 4) (j : Fin 16) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S4x16 .f32) (r : Fin 4) (j : Fin 16) : (out0_5 (F := Ideal) x0 x1 x2 x3 (ix2 r j) : EReal) = Adam.mom (x1 (ix2 r j)) (x2 (ix2 r j)) := by
  unfold out0_5 Adam.mom
  refine (congrFun (View.canon_cons_unit_lit (S := S4x16) inb_S4x16_S4x16_0_0 _ [] (by decide)) _).trans ?_
  pointwise [k0_pay1]

theorem ref4_at (x1 x2 : FVec Ideal S4x16 .f32) (r : Fin 4) (j : Fin 16) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S4x16 .f32) (r : Fin 4) (j : Fin 16) : (out0_6 (F := Ideal) x0 x1 x2 x3 (ix2 r j) : EReal) = Adam.sq (x1 (ix2 r j)) (x3 (ix2 r j)) := by
  unfold out0_6 Adam.sq
  refine (congrFun (View.canon_cons_unit_lit (S := S4x16) inb_S4x16_S4x16_0_0 _ [] (by decide)) _).trans ?_
  pointwise [k0_pay2]

theorem ref10_at (x1 x3 : FVec Ideal S4x16 .f32) (r : Fin 4) (j : Fin 16) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S4x16.Idx) 0)) ((y : S4x16.Idx) 1) : S4x16.Idx) := by
    funext a; apply Fin.ext; fin_cases a <;> blk_simp [idx t] <;> simp <;> omega
  have key : ∀ y : S4x16.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S4x16 .f32) (ix2 y0 y1) : EReal) = _ from x0_at m c t y0 y1, show ((iblk m c 1 t : FVec Ideal S4x16 .f32) (ix2 y0 y1) : EReal) = _ from x1_at m c t y0 y1, show ((iblk m c 2 t : FVec Ideal S4x16 .f32) (ix2 y0 y1) : EReal) = _ from x2_at m c t y0 y1, show ((iblk m c 3 t : FVec Ideal S4x16 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S4x16.Idx) 0)) ((y : S4x16.Idx) 1) : S4x16.Idx) := by
    funext a; apply Fin.ext; fin_cases a <;> blk_simp [idx t] <;> simp <;> omega
  have key : ∀ y : S4x16.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S4x16 .f32) (ix2 y0 y1) : EReal) = _ from x1_at m c t y0 y1, show ((iblk m c 2 t : FVec Ideal S4x16 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S4x16.Idx) 0)) ((y : S4x16.Idx) 1) : S4x16.Idx) := by
    funext a; apply Fin.ext; fin_cases a <;> blk_simp [idx t] <;> simp <;> omega
  have key : ∀ y : S4x16.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S4x16 .f32) (ix2 y0 y1) : EReal) = _ from x1_at m c t y0 y1, show ((iblk m c 3 t : FVec Ideal S4x16 .f32) (ix2 y0 y1) : EReal) = _ from x3_at m c t y0 y1]
  refine Eq.trans ?_ ((key y).trans (congrArg _ hy.symm))
  blk_simp
  rw [after0_6]

theorem algebraic : Cert.algebraic_AdamSinkIdeal_AdamSinkRefIdeal := by
  intro m g m' g' _ ha
  refine ⟨_, _, _, Cert.AdamSinkIdeal.Value.run_blocks m g, ?_⟩
  refine (θ_run Cert.AdamSinkRefIdeal.defs _ _).mono (fun r h c => ?_) (Cert.AdamSinkRefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamSink

end
-- ==== Proof.V.AdamSguW.lean ====
/- One step of the optimiser, entry by entry. -/
module

public import proofs.«01_k».proof.Defs
public import proofs.«01_k».proof.Proof.Gen.AdamSguWIdeal.Value
public import proofs.«01_k».proof.Proof.Gen.AdamSguWIdeal
public import proofs.«01_k».proof.Proof.Gen.AdamSguWRefIdeal
public import proofs.«01_k».proof.Proof.Gen.AdamSguWRefIdeal.Run
public import proofs.«01_k».proof.Proof.Gen.AdamSguWRefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamSguW

open Cert.AdamSguWIdeal Cert.AdamSguWIdeal.Gen Cert.AdamSguWRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 2 := (by decide +kernel : cfg0.N = 2) ▸ t.isLt

abbrev R (t : Fin cfg0.N) (r : Fin 2048) : Fin 4096 := ⟨2048 * t.val + r.val, by have := ltN t; omega⟩

theorem x0_at (t : Fin cfg0.N) (r : Fin 2048) (j : Fin 128) : (iblk m c 0 t : FVec Ideal S2048x128 .f32) (ix2 r j) = m (c.tc.loc main_arg0) (ix2 (R t r) j) := by
  refine Eq.trans ?_ (congrFun (V_main_arg0 m c) _)
  blk_point [iblk, idx t]

theorem x1_at (t : Fin cfg0.N) (r : Fin 2048) (j : Fin 128) : (iblk m c 1 t : FVec Ideal S2048x128 .f32) (ix2 r j) = m (c.tc.loc main_arg1) (ix2 (R t r) j) := by
  refine Eq.trans ?_ (congrFun (V_main_arg1 m c) _)
  blk_point [iblk, idx t]

theorem x2_at (t : Fin cfg0.N) (r : Fin 2048) (j : Fin 128) : (iblk m c 2 t : FVec Ideal S2048x128 .f32) (ix2 r j) = m (c.tc.loc main_arg2) (ix2 (R t r) j) := by
  refine Eq.trans ?_ (congrFun (V_main_arg2 m c) _)
  blk_point [iblk, idx t]

theorem x3_at (t : Fin cfg0.N) (r : Fin 2048) (j : Fin 128) : (iblk m c 3 t : FVec Ideal S2048x128 .f32) (ix2 r j) = m (c.tc.loc main_arg3) (ix2 (R t r) j) := by
  refine Eq.trans ?_ (congrFun (V_main_arg3 m c) _)
  blk_point [iblk, idx t]

theorem out4_at (x0 x1 x2 x3 : FVec Ideal S2048x128 .f32) (r : Fin 2048) (j : Fin 128) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S2048x128) inb_S2048x128_S2048x128_0_0 _ [] (by decide)) _).trans ?_
  pointwise [k0_pay3, k0_pay2, k0_pay1]

theorem ref23_at (x0 x1 x2 x3 : FVec Ideal S4096x128 .f32) (r : Fin 4096) (j : Fin 128) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S2048x128 .f32) (r : Fin 2048) (j : Fin 128) : (out0_5 (F := Ideal) x0 x1 x2 x3 (ix2 r j) : EReal) = Adam.mom (x1 (ix2 r j)) (x2 (ix2 r j)) := by
  unfold out0_5 Adam.mom
  refine (congrFun (View.canon_cons_unit_lit (S := S2048x128) inb_S2048x128_S2048x128_0_0 _ [] (by decide)) _).trans ?_
  pointwise [k0_pay1]

theorem ref4_at (x1 x2 : FVec Ideal S4096x128 .f32) (r : Fin 4096) (j : Fin 128) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S2048x128 .f32) (r : Fin 2048) (j : Fin 128) : (out0_6 (F := Ideal) x0 x1 x2 x3 (ix2 r j) : EReal) = Adam.sq (x1 (ix2 r j)) (x3 (ix2 r j)) := by
  unfold out0_6 Adam.sq
  refine (congrFun (View.canon_cons_unit_lit (S := S2048x128) inb_S2048x128_S2048x128_0_0 _ [] (by decide)) _).trans ?_
  pointwise [k0_pay2]

theorem ref10_at (x1 x3 : FVec Ideal S4096x128 .f32) (r : Fin 4096) (j : Fin 128) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S2048x128.Idx) 0)) ((y : S2048x128.Idx) 1) : S4096x128.Idx) := by
    funext a; apply Fin.ext; fin_cases a <;> blk_simp [idx t] <;> simp <;> omega
  have key : ∀ y : S2048x128.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S2048x128 .f32) (ix2 y0 y1) : EReal) = _ from x0_at m c t y0 y1, show ((iblk m c 1 t : FVec Ideal S2048x128 .f32) (ix2 y0 y1) : EReal) = _ from x1_at m c t y0 y1, show ((iblk m c 2 t : FVec Ideal S2048x128 .f32) (ix2 y0 y1) : EReal) = _ from x2_at m c t y0 y1, show ((iblk m c 3 t : FVec Ideal S2048x128 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S2048x128.Idx) 0)) ((y : S2048x128.Idx) 1) : S4096x128.Idx) := by
    funext a; apply Fin.ext; fin_cases a <;> blk_simp [idx t] <;> simp <;> omega
  have key : ∀ y : S2048x128.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S2048x128 .f32) (ix2 y0 y1) : EReal) = _ from x1_at m c t y0 y1, show ((iblk m c 2 t : FVec Ideal S2048x128 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S2048x128.Idx) 0)) ((y : S2048x128.Idx) 1) : S4096x128.Idx) := by
    funext a; apply Fin.ext; fin_cases a <;> blk_simp [idx t] <;> simp <;> omega
  have key : ∀ y : S2048x128.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S2048x128 .f32) (ix2 y0 y1) : EReal) = _ from x1_at m c t y0 y1, show ((iblk m c 3 t : FVec Ideal S2048x128 .f32) (ix2 y0 y1) : EReal) = _ from x3_at m c t y0 y1]
  refine Eq.trans ?_ ((key y).trans (congrArg _ hy.symm))
  blk_simp
  rw [after0_6]

theorem algebraic : Cert.algebraic_AdamSguWIdeal_AdamSguWRefIdeal := by
  intro m g m' g' _ ha
  refine ⟨_, _, _, Cert.AdamSguWIdeal.Value.run_blocks m g, ?_⟩
  refine (θ_run Cert.AdamSguWRefIdeal.defs _ _).mono (fun r h c => ?_) (Cert.AdamSguWRefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamSguW

end
-- ==== Proof.V.AdamSguB.lean ====
/- One step of the optimiser, entry by entry. -/
module

public import proofs.«01_k».proof.Defs
public import proofs.«01_k».proof.Proof.Gen.AdamSguBIdeal.Value
public import proofs.«01_k».proof.Proof.Gen.AdamSguBIdeal
public import proofs.«01_k».proof.Proof.Gen.AdamSguBRefIdeal
public import proofs.«01_k».proof.Proof.Gen.AdamSguBRefIdeal.Run
public import proofs.«01_k».proof.Proof.Gen.AdamSguBRefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamSguB

open Cert.AdamSguBIdeal Cert.AdamSguBIdeal.Gen Cert.AdamSguBRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 1 := (by decide +kernel : cfg0.N = 1) ▸ t.isLt

abbrev R (t : Fin cfg0.N) (r : Fin 32) : Fin 32 := ⟨32 * t.val + r.val, by have := ltN t; omega⟩

theorem x0_at (t : Fin cfg0.N) (r : Fin 32) (j : Fin 128) : (iblk m c 0 t : FVec Ideal S32x128 .f32) (ix2 r j) = m (c.tc.loc main_arg0) (ix2 (R t r) j) := by
  refine Eq.trans ?_ (congrFun (V_main_arg0 m c) _)
  blk_point [iblk, idx t]

theorem x1_at (t : Fin cfg0.N) (r : Fin 32) (j : Fin 128) : (iblk m c 1 t : FVec Ideal S32x128 .f32) (ix2 r j) = m (c.tc.loc main_arg1) (ix2 (R t r) j) := by
  refine Eq.trans ?_ (congrFun (V_main_arg1 m c) _)
  blk_point [iblk, idx t]

theorem x2_at (t : Fin cfg0.N) (r : Fin 32) (j : Fin 128) : (iblk m c 2 t : FVec Ideal S32x128 .f32) (ix2 r j) = m (c.tc.loc main_arg2) (ix2 (R t r) j) := by
  refine Eq.trans ?_ (congrFun (V_main_arg2 m c) _)
  blk_point [iblk, idx t]

theorem x3_at (t : Fin cfg0.N) (r : Fin 32) (j : Fin 128) : (iblk m c 3 t : FVec Ideal S32x128 .f32) (ix2 r j) = m (c.tc.loc main_arg3) (ix2 (R t r) j) := by
  refine Eq.trans ?_ (congrFun (V_main_arg3 m c) _)
  blk_point [iblk, idx t]

theorem out4_at (x0 x1 x2 x3 : FVec Ideal S32x128 .f32) (r : Fin 32) (j : Fin 128) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S32x128) inb_S32x128_S32x128_0_0 _ [] (by decide)) _).trans ?_
  pointwise [k0_pay3, k0_pay2, k0_pay1]

theorem ref23_at (x0 x1 x2 x3 : FVec Ideal S32x128 .f32) (r : Fin 32) (j : Fin 128) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S32x128 .f32) (r : Fin 32) (j : Fin 128) : (out0_5 (F := Ideal) x0 x1 x2 x3 (ix2 r j) : EReal) = Adam.mom (x1 (ix2 r j)) (x2 (ix2 r j)) := by
  unfold out0_5 Adam.mom
  refine (congrFun (View.canon_cons_unit_lit (S := S32x128) inb_S32x128_S32x128_0_0 _ [] (by decide)) _).trans ?_
  pointwise [k0_pay1]

theorem ref4_at (x1 x2 : FVec Ideal S32x128 .f32) (r : Fin 32) (j : Fin 128) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S32x128 .f32) (r : Fin 32) (j : Fin 128) : (out0_6 (F := Ideal) x0 x1 x2 x3 (ix2 r j) : EReal) = Adam.sq (x1 (ix2 r j)) (x3 (ix2 r j)) := by
  unfold out0_6 Adam.sq
  refine (congrFun (View.canon_cons_unit_lit (S := S32x128) inb_S32x128_S32x128_0_0 _ [] (by decide)) _).trans ?_
  pointwise [k0_pay2]

theorem ref10_at (x1 x3 : FVec Ideal S32x128 .f32) (r : Fin 32) (j : Fin 128) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S32x128.Idx) 0)) ((y : S32x128.Idx) 1) : S32x128.Idx) := by
    funext a; apply Fin.ext; fin_cases a <;> blk_simp [idx t] <;> simp <;> omega
  have key : ∀ y : S32x128.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S32x128 .f32) (ix2 y0 y1) : EReal) = _ from x0_at m c t y0 y1, show ((iblk m c 1 t : FVec Ideal S32x128 .f32) (ix2 y0 y1) : EReal) = _ from x1_at m c t y0 y1, show ((iblk m c 2 t : FVec Ideal S32x128 .f32) (ix2 y0 y1) : EReal) = _ from x2_at m c t y0 y1, show ((iblk m c 3 t : FVec Ideal S32x128 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S32x128.Idx) 0)) ((y : S32x128.Idx) 1) : S32x128.Idx) := by
    funext a; apply Fin.ext; fin_cases a <;> blk_simp [idx t] <;> simp <;> omega
  have key : ∀ y : S32x128.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S32x128 .f32) (ix2 y0 y1) : EReal) = _ from x1_at m c t y0 y1, show ((iblk m c 2 t : FVec Ideal S32x128 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S32x128.Idx) 0)) ((y : S32x128.Idx) 1) : S32x128.Idx) := by
    funext a; apply Fin.ext; fin_cases a <;> blk_simp [idx t] <;> simp <;> omega
  have key : ∀ y : S32x128.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S32x128 .f32) (ix2 y0 y1) : EReal) = _ from x1_at m c t y0 y1, show ((iblk m c 3 t : FVec Ideal S32x128 .f32) (ix2 y0 y1) : EReal) = _ from x3_at m c t y0 y1]
  refine Eq.trans ?_ ((key y).trans (congrArg _ hy.symm))
  blk_simp
  rw [after0_6]

theorem algebraic : Cert.algebraic_AdamSguBIdeal_AdamSguBRefIdeal := by
  intro m g m' g' _ ha
  refine ⟨_, _, _, Cert.AdamSguBIdeal.Value.run_blocks m g, ?_⟩
  refine (θ_run Cert.AdamSguBRefIdeal.defs _ _).mono (fun r h c => ?_) (Cert.AdamSguBRefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamSguB

end
-- ==== Proof.V.AdamSq.lean ====
/- One step of the optimiser, entry by entry. -/
module

public import proofs.«01_k».proof.Defs
public import proofs.«01_k».proof.Proof.Gen.AdamSqIdeal.Value
public import proofs.«01_k».proof.Proof.Gen.AdamSqIdeal
public import proofs.«01_k».proof.Proof.Gen.AdamSqRefIdeal
public import proofs.«01_k».proof.Proof.Gen.AdamSqRefIdeal.Run
public import proofs.«01_k».proof.Proof.Gen.AdamSqRefIdeal.Read
public import proofs.«01_k».proof.Proof.V.Adam
public import Idealize.ShloMosaic.Lib.Claim
public import Idealize.ShloMosaic.Lib.Pointwise
public import Idealize.ShloMosaic.Lib.Pipeline.ValueKit

@[expose] public section

set_option maxRecDepth 16384

noncomputable section

namespace Cert.VAdamSq

open Cert.AdamSqIdeal Cert.AdamSqIdeal.Gen Cert.AdamSqRefIdeal.Read Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem ltN (t : Fin cfg0.N) : t.val < 4 := (by decide +kernel : cfg0.N = 4) ▸ t.isLt

abbrev R (t : Fin cfg0.N) (r : Fin 256) : Fin 1024 := ⟨256 * t.val + r.val, by have := ltN t; omega⟩

theorem x0_at (t : Fin cfg0.N) (r : Fin 256) (j : Fin 1024) : (iblk m c 0 t : FVec Ideal S256x1024 .f32) (ix2 r j) = m (c.tc.loc main_arg0) (ix2 (R t r) j) := by
  refine Eq.trans ?_ (congrFun (V_main_arg0 m c) _)
  blk_point [iblk, idx t]

theorem x1_at (t : Fin cfg0.N) (r : Fin 256) (j : Fin 1024) : (iblk m c 1 t : FVec Ideal S256x1024 .f32) (ix2 r j) = m (c.tc.loc main_arg1) (ix2 (R t r) j) := by
  refine Eq.trans ?_ (congrFun (V_main_arg1 m c) _)
  blk_point [iblk, idx t]

theorem x2_at (t : Fin cfg0.N) (r : Fin 256) (j : Fin 1024) : (iblk m c 2 t : FVec Ideal S256x1024 .f32) (ix2 r j) = m (c.tc.loc main_arg2) (ix2 (R t r) j) := by
  refine Eq.trans ?_ (congrFun (V_main_arg2 m c) _)
  blk_point [iblk, idx t]

theorem x3_at (t : Fin cfg0.N) (r : Fin 256) (j : Fin 1024) : (iblk m c 3 t : FVec Ideal S256x1024 .f32) (ix2 r j) = m (c.tc.loc main_arg3) (ix2 (R t r) j) := by
  refine Eq.trans ?_ (congrFun (V_main_arg3 m c) _)
  blk_point [iblk, idx t]

theorem out4_at (x0 x1 x2 x3 : FVec Ideal S256x1024 .f32) (r : Fin 256) (j : Fin 1024) : (out0_4 (F := Ideal) x0 x1 x2 x3 (ix2 r j) : EReal) = Adam.step (x0 (ix2 r j)) (x1 (ix2 r j)) (x2 (ix2 r j)) (x3 (ix2 r j)) := by
  unfold out0_4 Adam.step Adam.mom Adam.sq
  refine (congrFun (View.canon_cons_unit_lit (S := S256x1024) inb_S256x1024_S256x1024_0_0 _ [] (by decide)) _).trans ?_
  pointwise [k0_pay3, k0_pay2, k0_pay1]

theorem ref23_at (x0 x1 x2 x3 : FVec Ideal S1024x1024 .f32) (r : Fin 1024) (j : Fin 1024) : (val_main_v23 (F := Ideal) x0 x1 x2 x3 (ix2 r j) : EReal) = Adam.step (x0 (ix2 r j)) (x1 (ix2 r j)) (x2 (ix2 r j)) (x3 (ix2 r j)) := by
  unfold Adam.step Adam.mom Adam.sq
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem out5_at (x0 x1 x2 x3 : FVec Ideal S256x1024 .f32) (r : Fin 256) (j : Fin 1024) : (out0_5 (F := Ideal) x0 x1 x2 x3 (ix2 r j) : EReal) = Adam.mom (x1 (ix2 r j)) (x2 (ix2 r j)) := by
  unfold out0_5 Adam.mom
  refine (congrFun (View.canon_cons_unit_lit (S := S256x1024) inb_S256x1024_S256x1024_0_0 _ [] (by decide)) _).trans ?_
  pointwise [k0_pay1]

theorem ref4_at (x1 x2 : FVec Ideal S1024x1024 .f32) (r : Fin 1024) (j : Fin 1024) : (val_main_v4 (F := Ideal) x1 x2 (ix2 r j) : EReal) = Adam.mom (x1 (ix2 r j)) (x2 (ix2 r j)) := by
  unfold Adam.mom
  pointwise [val_main_v4, val_main_v3, val_main_v2, val_main_v1, val_main_v0, val_main_cst, val_main_cst_0, val_main_cst_1, val_main_cst_2, val_main_cst_3, val_main_cst_4, val_main_cst_5, val_main_cst_6, val_main_cst_7]

theorem out6_at (x0 x1 x2 x3 : FVec Ideal S256x1024 .f32) (r : Fin 256) (j : Fin 1024) : (out0_6 (F := Ideal) x0 x1 x2 x3 (ix2 r j) : EReal) = Adam.sq (x1 (ix2 r j)) (x3 (ix2 r j)) := by
  unfold out0_6 Adam.sq
  refine (congrFun (View.canon_cons_unit_lit (S := S256x1024) inb_S256x1024_S256x1024_0_0 _ [] (by decide)) _).trans ?_
  pointwise [k0_pay2]

theorem ref10_at (x1 x3 : FVec Ideal S1024x1024 .f32) (r : Fin 1024) (j : Fin 1024) : (val_main_v10 (F := Ideal) x1 x3 (ix2 r j) : EReal) = Adam.sq (x1 (ix2 r j)) (x3 (ix2 r j)) := by
  unfold Adam.sq
  pointwise [val_main_v10, val_main_v9, val_main_v8, val_main_v7, val_main_v6, val_main_v5, val_main_cst, val_main_cst_0, val_main_cst_1, val_main_cst_2, val_main_cst_3, val_main_cst_4, val_main_cst_5, val_main_cst_6, val_main_cst_7]

theorem final0 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = (ix2 (R t ((y : S256x1024.Idx) 0)) ((y : S256x1024.Idx) 1) : S1024x1024.Idx) := by
    funext a; apply Fin.ext; fin_cases a <;> blk_simp [idx t] <;> simp <;> omega
  have key : ∀ y : S256x1024.Idx, out0_4 (iblk m c 0 t) (iblk m c 1 t) (iblk m c 2 t) (iblk m c 3 t) y = val_main_v23 (F := Ideal) (m (c.tc.loc main_arg0)) (m (c.tc.loc main_arg1)) (m (c.tc.loc main_arg2)) (m (c.tc.loc main_arg3)) (ix2 (R t (y 0)) (y 1)) := by
    intro y
    idx_vars y
    refine (out4_at _ _ _ _ y0 y1).trans (Eq.trans ?_ (ref23_at _ _ _ _ _ y1).symm)
    rw [show ((iblk m c 0 t : FVec Ideal S256x1024 .f32) (ix2 y0 y1) : EReal) = _ from x0_at m c t y0 y1, show ((iblk m c 1 t : FVec Ideal S256x1024 .f32) (ix2 y0 y1) : EReal) = _ from x1_at m c t y0 y1, show ((iblk m c 2 t : FVec Ideal S256x1024 .f32) (ix2 y0 y1) : EReal) = _ from x2_at m c t y0 y1, show ((iblk m c 3 t : FVec Ideal S256x1024 .f32) (ix2 y0 y1) : EReal) = _ from x3_at m c t y0 y1]
  refine Eq.trans ?_ ((key y).trans (congrArg _ hy.symm))
  blk_simp
  rw [after0_4]

theorem final1 : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  have hy : (win0_5.blk t).view.emb y = (ix2 (R t ((y : S256x1024.Idx) 0)) ((y : S256x1024.Idx) 1) : S1024x1024.Idx) := by
    funext a; apply Fin.ext; fin_cases a <;> blk_simp [idx t] <;> simp <;> omega
  have key : ∀ y : S256x1024.Idx, out0_5 (iblk m c 0 t) (iblk m c 1 t) (iblk m c 2 t) (iblk m c 3 t) y = val_main_v4 (F := Ideal) (m (c.tc.loc main_arg1)) (m (c.tc.loc main_arg2)) (ix2 (R t (y 0)) (y 1)) := by
    intro y
    idx_vars y
    refine (out5_at _ _ _ _ y0 y1).trans (Eq.trans ?_ (ref4_at _ _ _ y1).symm)
    rw [show ((iblk m c 1 t : FVec Ideal S256x1024 .f32) (ix2 y0 y1) : EReal) = _ from x1_at m c t y0 y1, show ((iblk m c 2 t : FVec Ideal S256x1024 .f32) (ix2 y0 y1) : EReal) = _ from x2_at m c t y0 y1]
  refine Eq.trans ?_ ((key y).trans (congrArg _ hy.symm))
  blk_simp
  rw [after0_5]

theorem final2 : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  have hy : (win0_6.blk t).view.emb y = (ix2 (R t ((y : S256x1024.Idx) 0)) ((y : S256x1024.Idx) 1) : S1024x1024.Idx) := by
    funext a; apply Fin.ext; fin_cases a <;> blk_simp [idx t] <;> simp <;> omega
  have key : ∀ y : S256x1024.Idx, out0_6 (iblk m c 0 t) (iblk m c 1 t) (iblk m c 2 t) (iblk m c 3 t) y = val_main_v10 (F := Ideal) (m (c.tc.loc main_arg1)) (m (c.tc.loc main_arg3)) (ix2 (R t (y 0)) (y 1)) := by
    intro y
    idx_vars y
    refine (out6_at _ _ _ _ y0 y1).trans (Eq.trans ?_ (ref10_at _ _ _ y1).symm)
    rw [show ((iblk m c 1 t : FVec Ideal S256x1024 .f32) (ix2 y0 y1) : EReal) = _ from x1_at m c t y0 y1, show ((iblk m c 3 t : FVec Ideal S256x1024 .f32) (ix2 y0 y1) : EReal) = _ from x3_at m c t y0 y1]
  refine Eq.trans ?_ ((key y).trans (congrArg _ hy.symm))
  blk_simp
  rw [after0_6]

theorem algebraic : Cert.algebraic_AdamSqIdeal_AdamSqRefIdeal := by
  intro m g m' g' _ ha
  refine ⟨_, _, _, Cert.AdamSqIdeal.Value.run_blocks m g, ?_⟩
  refine (θ_run Cert.AdamSqRefIdeal.defs _ _).mono (fun r h c => ?_) (Cert.AdamSqRefIdeal.Value.run m' g')
  obtain ⟨e0, e1, e2, e3⟩ := ha c
  obtain ⟨k0, k1, k2, ka⟩ := h c
  refine ⟨k0.trans ((val_main_v23_eq _ _ _ _).trans ?_), k1.trans ((val_main_v4_eq _ _).trans ?_), k2.trans ((val_main_v10_eq _ _).trans ?_), ka⟩
  · rw [e0, e1, e2, e3]
    exact (final0 m c).symm
  · rw [e1, e2]
    exact (final1 m c).symm
  · rw [e1, e3]
    exact (final2 m c).symm

end Cert.VAdamSq

end
-- ==== Proof.lean ====
/- Every claim of `Cert.Claim`, each from its module. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_hid
public import proofs.«01_k».proof.Proof.Frames
public import proofs.«01_k».proof.Proof.Sgu.Claim
public import proofs.«01_k».proof.Proof.V.RefFrames
public import proofs.«01_k».proof.Proof.Gen.Dw1
public import proofs.«01_k».proof.Proof.Gen.Dw1.Frame
public import proofs.«01_k».proof.Proof.Gen.Dw1Ideal
public import proofs.«01_k».proof.Proof.Gen.Dw1Ideal.Value
public import proofs.«01_k».proof.Proof.Gen.Dw1RefIdeal
public import proofs.«01_k».proof.Proof.Gen.Dw1RefIdeal.Run
public import proofs.«01_k».proof.Proof.Gen.Dw1RefIdeal.Read
public import proofs.«01_k».proof.Proof.V.Dw1
public import proofs.«01_k».proof.Proof.Gen.BwdIn
public import proofs.«01_k».proof.Proof.Gen.BwdIn.Frame
public import proofs.«01_k».proof.Proof.Gen.BwdInIdeal
public import proofs.«01_k».proof.Proof.Gen.BwdInIdeal.Value
public import proofs.«01_k».proof.Proof.Gen.BwdInRefIdeal
public import proofs.«01_k».proof.Proof.Gen.BwdInRefIdeal.Run
public import proofs.«01_k».proof.Proof.Gen.BwdInRefIdeal.Read
public import proofs.«01_k».proof.Proof.V.BwdIn
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.V.UpRun
public import proofs.«01_k».proof.Proof.V.UpIdealRun
public import proofs.«01_k».proof.Proof.V.Up
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.V.Down
public import proofs.«01_k».proof.Proof.Gen.Hid
public import proofs.«01_k».proof.Proof.Gen.Hid.Frame
public import proofs.«01_k».proof.Proof.Gen.HidIdeal
public import proofs.«01_k».proof.Proof.Gen.HidIdeal.Value
public import proofs.«01_k».proof.Proof.Gen.HidRefIdeal
public import proofs.«01_k».proof.Proof.Gen.HidRefIdeal.Run
public import proofs.«01_k».proof.Proof.Gen.HidRefIdeal.Read
public import proofs.«01_k».proof.Proof.V.Hid
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInRefIdeal
public import proofs.«01_k».proof.Proof.Gen.MixInRefIdeal.Run
public import proofs.«01_k».proof.Proof.Gen.MixInRefIdeal.Read
public import proofs.«01_k».proof.Proof.V.MixIn
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.V.MixBwd
public import proofs.«01_k».proof.Proof.Gen.MixDw
public import proofs.«01_k».proof.Proof.Gen.MixDw.Frame
public import proofs.«01_k».proof.Proof.Gen.MixDwIdeal
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.MixDwRefIdeal.Read
public import proofs.«01_k».proof.Proof.V.MixDw
public import proofs.«01_k».proof.Proof.Gen.QkvIn
public import proofs.«01_k».proof.Proof.Gen.QkvIn.Frame
public import proofs.«01_k».proof.Proof.Gen.QkvInIdeal
public import proofs.«01_k».proof.Proof.Gen.QkvInIdeal.Value
public import proofs.«01_k».proof.Proof.Gen.QkvInRefIdeal
public import proofs.«01_k».proof.Proof.Gen.QkvInRefIdeal.Run
public import proofs.«01_k».proof.Proof.Gen.QkvInRefIdeal.Read
public import proofs.«01_k».proof.Proof.V.QkvIn
public import proofs.«01_k».proof.Proof.Gen.QkvDw
public import proofs.«01_k».proof.Proof.Gen.QkvDw.Frame
public import proofs.«01_k».proof.Proof.Gen.QkvDwIdeal
public import proofs.«01_k».proof.Proof.Gen.QkvDwIdeal.Value
public import proofs.«01_k».proof.Proof.Gen.QkvDwRefIdeal
public import proofs.«01_k».proof.Proof.Gen.QkvDwRefIdeal.Run
public import proofs.«01_k».proof.Proof.Gen.QkvDwRefIdeal.Read
public import proofs.«01_k».proof.Proof.V.QkvDw
public import proofs.«01_k».proof.Proof.Gen.QkvDh
public import proofs.«01_k».proof.Proof.Gen.QkvDh.Frame
public import proofs.«01_k».proof.Proof.Gen.QkvDhIdeal
public import proofs.«01_k».proof.Proof.Gen.QkvDhIdeal.Value
public import proofs.«01_k».proof.Proof.Gen.QkvDhRefIdeal
public import proofs.«01_k».proof.Proof.Gen.QkvDhRefIdeal.Run
public import proofs.«01_k».proof.Proof.Gen.QkvDhRefIdeal.Read
public import proofs.«01_k».proof.Proof.V.QkvDh
public import proofs.«01_k».proof.Proof.Gen.DwOut
public import proofs.«01_k».proof.Proof.Gen.DwOut.Frame
public import proofs.«01_k».proof.Proof.Gen.DwOutIdeal
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.V.DwOut
public import proofs.«01_k».proof.Proof.Gen.DwAttn
public import proofs.«01_k».proof.Proof.Gen.DwAttn.Frame
public import proofs.«01_k».proof.Proof.Gen.DwAttnIdeal
public import proofs.«01_k».proof.Proof.Gen.DwAttnIdeal.Value
public import proofs.«01_k».proof.Proof.Gen.DwAttnRefIdeal
public import proofs.«01_k».proof.Proof.Gen.DwAttnRefIdeal.Run
public import proofs.«01_k».proof.Proof.Gen.DwAttnRefIdeal.Read
public import proofs.«01_k».proof.Proof.V.DwAttn
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.SmallSum
public import proofs.«01_k».proof.Proof.Gen.SmallSum.Frame
public import proofs.«01_k».proof.Proof.Gen.SmallSumIdeal
public import proofs.«01_k».proof.Proof.Gen.SmallSumIdeal.Frame
public import proofs.«01_k».proof.Proof.Gen.SmallSumRefIdeal
public import proofs.«01_k».proof.Proof.Gen.SmallSumRefIdeal.Run
public import proofs.«01_k».proof.Proof.Gen.SmallSumRefIdeal.Read
public import proofs.«01_k».proof.Proof.V.MergeFwd
public import proofs.«01_k».proof.Proof.V.SmallSum
public import proofs.«01_k».proof.Proof.V.MergeBwd
public import proofs.«01_k».proof.Proof.Gen.AdamVec
public import proofs.«01_k».proof.Proof.Gen.AdamVec.Frame
public import proofs.«01_k».proof.Proof.Gen.AdamVecIdeal
public import proofs.«01_k».proof.Proof.Gen.AdamVecIdeal.Value
public import proofs.«01_k».proof.Proof.Gen.AdamVecRefIdeal
public import proofs.«01_k».proof.Proof.Gen.AdamVecRefIdeal.Run
public import proofs.«01_k».proof.Proof.Gen.AdamVecRefIdeal.Read
public import proofs.«01_k».proof.Proof.V.AdamVec
public import proofs.«01_k».proof.Proof.Gen.AdamFfn1
public import proofs.«01_k».proof.Proof.Gen.AdamFfn1.Frame
public import proofs.«01_k».proof.Proof.Gen.AdamFfn1Ideal
public import proofs.«01_k».proof.Proof.Gen.AdamFfn1Ideal.Value
public import proofs.«01_k».proof.Proof.Gen.AdamFfn1RefIdeal
public import proofs.«01_k».proof.Proof.Gen.AdamFfn1RefIdeal.Run
public import proofs.«01_k».proof.Proof.Gen.AdamFfn1RefIdeal.Read
public import proofs.«01_k».proof.Proof.V.AdamFfn1
public import proofs.«01_k».proof.Proof.Gen.AdamFfn2
public import proofs.«01_k».proof.Proof.Gen.AdamFfn2.Frame
public import proofs.«01_k».proof.Proof.Gen.AdamFfn2Ideal
public import proofs.«01_k».proof.Proof.Gen.AdamFfn2Ideal.Value
public import proofs.«01_k».proof.Proof.Gen.AdamFfn2RefIdeal
public import proofs.«01_k».proof.Proof.Gen.AdamFfn2RefIdeal.Run
public import proofs.«01_k».proof.Proof.Gen.AdamFfn2RefIdeal.Read
public import proofs.«01_k».proof.Proof.V.AdamFfn2
public import proofs.«01_k».proof.Proof.Gen.AdamIn
public import proofs.«01_k».proof.Proof.Gen.AdamIn.Frame
public import proofs.«01_k».proof.Proof.Gen.AdamInIdeal
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.V.AdamIn
public import proofs.«01_k».proof.Proof.Gen.AdamSink
public import proofs.«01_k».proof.Proof.Gen.AdamSink.Frame
public import proofs.«01_k».proof.Proof.Gen.AdamSinkIdeal
public import proofs.«01_k».proof.Proof.Gen.AdamSinkIdeal.Value
public import proofs.«01_k».proof.Proof.Gen.AdamSinkRefIdeal
public import proofs.«01_k».proof.Proof.Gen.AdamSinkRefIdeal.Run
public import proofs.«01_k».proof.Proof.Gen.AdamSinkRefIdeal.Read
public import proofs.«01_k».proof.Proof.V.AdamSink
public import proofs.«01_k».proof.Proof.Gen.AdamSguW
public import proofs.«01_k».proof.Proof.Gen.AdamSguW.Frame
public import proofs.«01_k».proof.Proof.Gen.AdamSguWIdeal
public import proofs.«01_k».proof.Proof.Gen.AdamSguWIdeal.Value
public import proofs.«01_k».proof.Proof.Gen.AdamSguWRefIdeal
public import proofs.«01_k».proof.Proof.Gen.AdamSguWRefIdeal.Run
public import proofs.«01_k».proof.Proof.Gen.AdamSguWRefIdeal.Read
public import proofs.«01_k».proof.Proof.V.AdamSguW
public import proofs.«01_k».proof.Proof.Gen.AdamSguB
public import proofs.«01_k».proof.Proof.Gen.AdamSguB.Frame
public import proofs.«01_k».proof.Proof.Gen.AdamSguBIdeal
public import proofs.«01_k».proof.Proof.Gen.AdamSguBIdeal.Value
public import proofs.«01_k».proof.Proof.Gen.AdamSguBRefIdeal
public import proofs.«01_k».proof.Proof.Gen.AdamSguBRefIdeal.Run
public import proofs.«01_k».proof.Proof.Gen.AdamSguBRefIdeal.Read
public import proofs.«01_k».proof.Proof.V.AdamSguB
public import proofs.«01_k».proof.Proof.Gen.AdamSq
public import proofs.«01_k».proof.Proof.Gen.AdamSq.Frame
public import proofs.«01_k».proof.Proof.Gen.AdamSqIdeal
public import proofs.«01_k».proof.Proof.Gen.AdamSqIdeal.Value
public import proofs.«01_k».proof.Proof.Gen.AdamSqRefIdeal
public import proofs.«01_k».proof.Proof.Gen.AdamSqRefIdeal.Run
public import proofs.«01_k».proof.Proof.Gen.AdamSqRefIdeal.Read
public import proofs.«01_k».proof.Proof.V.AdamSq

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Dw1.Gen.facts,
    Cert.Dw1Ideal.Gen.facts,
    Cert.Dw1RefIdeal.Gen.facts,
    Cert.BwdIn.Gen.facts,
    Cert.BwdInIdeal.Gen.facts,
    Cert.BwdInRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Hid.Gen.facts,
    Cert.HidIdeal.Gen.facts,
    Cert.HidRefIdeal.Gen.facts,
    Cert.MixIn.Gen.facts,
    Cert.MixInIdeal.Gen.facts,
    Cert.MixInRefIdeal.Gen.facts,
    Cert.MixBwd.Gen.facts,
    Cert.MixBwdIdeal.Gen.facts,
    Cert.MixBwdRefIdeal.Gen.facts,
    Cert.MixDw.Gen.facts,
    Cert.MixDwIdeal.Gen.facts,
    Cert.MixDwRefIdeal.Gen.facts,
    Cert.QkvIn.Gen.facts,
    Cert.QkvInIdeal.Gen.facts,
    Cert.QkvInRefIdeal.Gen.facts,
    Cert.QkvDw.Gen.facts,
    Cert.QkvDwIdeal.Gen.facts,
    Cert.QkvDwRefIdeal.Gen.facts,
    Cert.QkvDh.Gen.facts,
    Cert.QkvDhIdeal.Gen.facts,
    Cert.QkvDhRefIdeal.Gen.facts,
    Cert.DwOut.Gen.facts,
    Cert.DwOutIdeal.Gen.facts,
    Cert.DwOutRefIdeal.Gen.facts,
    Cert.DwAttn.Gen.facts,
    Cert.DwAttnIdeal.Gen.facts,
    Cert.DwAttnRefIdeal.Gen.facts,
    Cert.MergeFwd.Gen.facts,
    Cert.MergeFwdIdeal.Gen.facts,
    Cert.MergeFwdRefIdeal.Gen.facts,
    Cert.MergeBwd.Gen.facts,
    Cert.MergeBwdIdeal.Gen.facts,
    Cert.MergeBwdRefIdeal.Gen.facts,
    Cert.SmallSum.Gen.facts,
    Cert.SmallSumIdeal.Gen.facts,
    Cert.SmallSumRefIdeal.Gen.facts,
    Cert.AdamVec.Gen.facts,
    Cert.AdamVecIdeal.Gen.facts,
    Cert.AdamVecRefIdeal.Gen.facts,
    Cert.AdamFfn1.Gen.facts,
    Cert.AdamFfn1Ideal.Gen.facts,
    Cert.AdamFfn1RefIdeal.Gen.facts,
    Cert.AdamFfn2.Gen.facts,
    Cert.AdamFfn2Ideal.Gen.facts,
    Cert.AdamFfn2RefIdeal.Gen.facts,
    Cert.AdamIn.Gen.facts,
    Cert.AdamInIdeal.Gen.facts,
    Cert.AdamInRefIdeal.Gen.facts,
    Cert.AdamSink.Gen.facts,
    Cert.AdamSinkIdeal.Gen.facts,
    Cert.AdamSinkRefIdeal.Gen.facts,
    Cert.AdamSguW.Gen.facts,
    Cert.AdamSguWIdeal.Gen.facts,
    Cert.AdamSguWRefIdeal.Gen.facts,
    Cert.AdamSguB.Gen.facts,
    Cert.AdamSguBIdeal.Gen.facts,
    Cert.AdamSguBRefIdeal.Gen.facts,
    Cert.AdamSq.Gen.facts,
    Cert.AdamSqIdeal.Gen.facts,
    Cert.AdamSqRefIdeal.Gen.facts,
    Cert.Pre_finite.Gen.facts,
    Cert.Pre_finite_hid.Gen.facts,
    frame_kernel,
    frame_kernelIdeal,
    fun m ρ _ => frame_kernelIdeal m ρ trivial,
    frame_referenceIdeal,
    fun m ρ _ => frame_referenceIdeal m ρ trivial,
    fun m ρ _ => Cert.Dw1.Gen.frame m ρ,
    fun m ρ _ => Cert.Dw1Ideal.Gen.frame m ρ,
    Cert.RefFrames.dw1,
    fun m ρ _ => Cert.BwdIn.Gen.frame m ρ,
    fun m ρ _ => Cert.BwdInIdeal.Gen.frame m ρ,
    Cert.RefFrames.bwdIn,
    fun m ρ _ => Cert.Up.Run.frame m ρ,
    fun m ρ _ => Cert.UpIdeal.Run.frame m ρ,
    Cert.RefFrames.up,
    fun m ρ _ => Cert.Down.Gen.frame m ρ,
    fun m ρ _ => Cert.DownIdeal.Gen.frame m ρ,
    Cert.RefFrames.down,
    fun m ρ _ => Cert.Hid.Gen.frame m ρ,
    fun m ρ _ => Cert.HidIdeal.Gen.frame m ρ,
    fun m ρ _ => Cert.HidIdeal.Gen.frame m ρ,
    Cert.RefFrames.hid,
    fun m ρ _ => Cert.RefFrames.hid m ρ trivial,
    fun m ρ _ => Cert.MixIn.Gen.frame m ρ,
    fun m ρ _ => Cert.MixInIdeal.Gen.frame m ρ,
    Cert.RefFrames.mixIn,
    fun m ρ _ => Cert.MixBwd.Gen.frame m ρ,
    fun m ρ _ => Cert.MixBwdIdeal.Gen.frame m ρ,
    Cert.RefFrames.mixBwd,
    fun m ρ _ => Cert.MixDw.Gen.frame m ρ,
    fun m ρ _ => Cert.MixDwIdeal.Gen.frame m ρ,
    Cert.RefFrames.mixDw,
    fun m ρ _ => Cert.QkvIn.Gen.frame m ρ,
    fun m ρ _ => Cert.QkvInIdeal.Gen.frame m ρ,
    Cert.RefFrames.qkvIn,
    fun m ρ _ => Cert.QkvDw.Gen.frame m ρ,
    fun m ρ _ => Cert.QkvDwIdeal.Gen.frame m ρ,
    Cert.RefFrames.qkvDw,
    fun m ρ _ => Cert.QkvDh.Gen.frame m ρ,
    fun m ρ _ => Cert.QkvDhIdeal.Gen.frame m ρ,
    Cert.RefFrames.qkvDh,
    fun m ρ _ => Cert.DwOut.Gen.frame m ρ,
    fun m ρ _ => Cert.DwOutIdeal.Gen.frame m ρ,
    Cert.RefFrames.dwOut,
    fun m ρ _ => Cert.DwAttn.Gen.frame m ρ,
    fun m ρ _ => Cert.DwAttnIdeal.Gen.frame m ρ,
    Cert.RefFrames.dwAttn,
    fun m ρ _ => Cert.MergeFwd.Gen.frame m ρ,
    fun m ρ _ => Cert.MergeFwdIdeal.Gen.frame m ρ,
    Cert.RefFrames.mergeFwd,
    fun m ρ _ => Cert.MergeBwd.Gen.frame m ρ,
    fun m ρ _ => Cert.MergeBwdIdeal.Gen.frame m ρ,
    Cert.RefFrames.mergeBwd,
    fun m ρ _ => Cert.SmallSum.Gen.frame m ρ,
    fun m ρ _ => Cert.SmallSumIdeal.Gen.frame m ρ,
    Cert.RefFrames.smallSum,
    fun m ρ _ => Cert.AdamVec.Gen.frame m ρ,
    fun m ρ _ => Cert.AdamVecIdeal.Gen.frame m ρ,
    Cert.RefFrames.adamVec,
    fun m ρ _ => Cert.AdamFfn1.Gen.frame m ρ,
    fun m ρ _ => Cert.AdamFfn1Ideal.Gen.frame m ρ,
    Cert.RefFrames.adamFfn1,
    fun m ρ _ => Cert.AdamFfn2.Gen.frame m ρ,
    fun m ρ _ => Cert.AdamFfn2Ideal.Gen.frame m ρ,
    Cert.RefFrames.adamFfn2,
    fun m ρ _ => Cert.AdamIn.Gen.frame m ρ,
    fun m ρ _ => Cert.AdamInIdeal.Gen.frame m ρ,
    Cert.RefFrames.adamIn,
    fun m ρ _ => Cert.AdamSink.Gen.frame m ρ,
    fun m ρ _ => Cert.AdamSinkIdeal.Gen.frame m ρ,
    Cert.RefFrames.adamSink,
    fun m ρ _ => Cert.AdamSguW.Gen.frame m ρ,
    fun m ρ _ => Cert.AdamSguWIdeal.Gen.frame m ρ,
    Cert.RefFrames.adamSguW,
    fun m ρ _ => Cert.AdamSguB.Gen.frame m ρ,
    fun m ρ _ => Cert.AdamSguBIdeal.Gen.frame m ρ,
    Cert.RefFrames.adamSguB,
    fun m ρ _ => Cert.AdamSq.Gen.frame m ρ,
    fun m ρ _ => Cert.AdamSqIdeal.Gen.frame m ρ,
    Cert.RefFrames.adamSq,
    preserves_kernel,
    Cert.Sgu.algebraic,
    trivial,
    Cert.VDw1.algebraic,
    trivial,
    Cert.VBwdIn.algebraic,
    trivial,
    Cert.VUp.algebraic,
    trivial,
    Cert.VDown.algebraic,
    trivial,
    Cert.VHid.algebraic,
    trivial,
    Cert.VMixIn.algebraic,
    trivial,
    Cert.VMixBwd.algebraic,
    trivial,
    Cert.VMixDw.algebraic,
    trivial,
    Cert.VQkvIn.algebraic,
    trivial,
    Cert.VQkvDw.algebraic,
    trivial,
    Cert.VQkvDh.algebraic,
    trivial,
    Cert.VDwOut.algebraic,
    trivial,
    Cert.VDwAttn.algebraic,
    trivial,
    Cert.VMergeFwd.algebraic,
    trivial,
    Cert.VMergeBwd.algebraic,
    trivial,
    Cert.VSmallSum.algebraic,
    trivial,
    Cert.VAdamVec.algebraic,
    trivial,
    Cert.VAdamFfn1.algebraic,
    trivial,
    Cert.VAdamFfn2.algebraic,
    trivial,
    Cert.VAdamIn.algebraic,
    trivial,
    Cert.VAdamSink.algebraic,
    trivial,
    Cert.VAdamSguW.algebraic,
    trivial,
    Cert.VAdamSguB.algebraic,
    trivial,
    Cert.VAdamSq.algebraic⟩

end Cert.Proof

end
